-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_WBranch (m : (ℓ : Loc Cert.WBranch.nD Cert.WBranch.τ Cert.WBranch.sig) → Buf (Elt Bits) ℓ) : Prop :=
  True

def Pre_WBranchIdeal (m : (ℓ : Loc Cert.WBranchIdeal.nD Cert.WBranchIdeal.τ Cert.WBranchIdeal.sig) → Buf (Elt Ideal) ℓ) : Prop :=
  True

def Pre_WBranchReferenceIdeal (m : (ℓ : Loc Cert.WBranchReferenceIdeal.nD Cert.WBranchReferenceIdeal.τ Cert.WBranchReferenceIdeal.sig) → Buf (Elt Ideal) ℓ) : Prop :=
  True

def Pre_WFfnOut (m : (ℓ : Loc Cert.WFfnOut.nD Cert.WFfnOut.τ Cert.WFfnOut.sig) → Buf (Elt Bits) ℓ) : Prop :=
  True

def Pre_WFfnOutIdeal (m : (ℓ : Loc Cert.WFfnOutIdeal.nD Cert.WFfnOutIdeal.τ Cert.WFfnOutIdeal.sig) → Buf (Elt Ideal) ℓ) : Prop :=
  True

def Pre_WFfnOutReferenceIdeal (m : (ℓ : Loc Cert.WFfnOutReferenceIdeal.nD Cert.WFfnOutReferenceIdeal.τ Cert.WFfnOutReferenceIdeal.sig) → Buf (Elt Ideal) ℓ) : Prop :=
  True

def Pre_WFfnIn (m : (ℓ : Loc Cert.WFfnIn.nD Cert.WFfnIn.τ Cert.WFfnIn.sig) → Buf (Elt Bits) ℓ) : Prop :=
  True

def Pre_WFfnInIdeal (m : (ℓ : Loc Cert.WFfnInIdeal.nD Cert.WFfnInIdeal.τ Cert.WFfnInIdeal.sig) → Buf (Elt Ideal) ℓ) : Prop :=
  True

def Pre_WFfnInReferenceIdeal (m : (ℓ : Loc Cert.WFfnInReferenceIdeal.nD Cert.WFfnInReferenceIdeal.τ Cert.WFfnInReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruReferenceIdeal (m : (ℓ : Loc Cert.AdamLruReferenceIdeal.nD Cert.AdamLruReferenceIdeal.τ Cert.AdamLruReferenceIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutReferenceIdeal (m : (ℓ : Loc Cert.AdamFfnOutReferenceIdeal.nD Cert.AdamFfnOutReferenceIdeal.τ Cert.AdamFfnOutReferenceIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInReferenceIdeal (m : (ℓ : Loc Cert.AdamFfnInReferenceIdeal.nD Cert.AdamFfnInReferenceIdeal.τ Cert.AdamFfnInReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1))
      ∧ r.2.sem = fun _ => 0)

def quiescent_WBranch [hWBranch : Cert.WBranch.Facts] : Prop :=
  ∀ (m : (ℓ : Loc Cert.WBranch.nD Cert.WBranch.τ Cert.WBranch.sig) → Buf (Elt Bits) ℓ) (g : Dev Cert.WBranch.nD → PrngReg), Pre_WBranch m →
    θ_run (Cert.WBranch.defs (F := Bits)) (onTc (τ := Cert.WBranch.τ) (Cert.WBranch.main (F := Bits))) ⟨m, fun _ => 0, g⟩ (fun r => (∀ c : Dev Cert.WBranch.nD,
      r.2.mem ((c.tc : Thread Cert.WBranch.nD Cert.WBranch.τ).loc Cert.WBranch.main_arg0) = m ((c.tc : Thread Cert.WBranch.nD Cert.WBranch.τ).loc Cert.WBranch.main_arg0)
      ∧ r.2.mem ((c.tc : Thread Cert.WBranch.nD Cert.WBranch.τ).loc Cert.WBranch.main_arg1) = m ((c.tc : Thread Cert.WBranch.nD Cert.WBranch.τ).loc Cert.WBranch.main_arg1))
      ∧ r.2.sem = fun _ => 0)

def quiescent_WBranchIdeal [hWBranchIdeal : Cert.WBranchIdeal.Facts] : Prop :=
  ∀ (m : (ℓ : Loc Cert.WBranchIdeal.nD Cert.WBranchIdeal.τ Cert.WBranchIdeal.sig) → Buf (Elt Ideal) ℓ) (g : Dev Cert.WBranchIdeal.nD → PrngReg), Pre_WBranchIdeal m →
    θ_run (Cert.WBranchIdeal.defs (F := Ideal)) (onTc (τ := Cert.WBranchIdeal.τ) (Cert.WBranchIdeal.main (F := Ideal))) ⟨m, fun _ => 0, g⟩ (fun r => (∀ c : Dev Cert.WBranchIdeal.nD,
      r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
      ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ r.2.sem = fun _ => 0)

def quiescent_WBranchReferenceIdeal [hWBranchReferenceIdeal : Cert.WBranchReferenceIdeal.Facts] : Prop :=
  ∀ (m : (ℓ : Loc Cert.WBranchReferenceIdeal.nD Cert.WBranchReferenceIdeal.τ Cert.WBranchReferenceIdeal.sig) → Buf (Elt Ideal) ℓ) (g : Dev Cert.WBranchReferenceIdeal.nD → PrngReg), Pre_WBranchReferenceIdeal m →
    θ_run (Cert.WBranchReferenceIdeal.defs (F := Ideal)) (onTc (τ := Cert.WBranchReferenceIdeal.τ) (Cert.WBranchReferenceIdeal.main (F := Ideal))) ⟨m, fun _ => 0, g⟩ (fun r => (∀ c : Dev Cert.WBranchReferenceIdeal.nD,
      r.2.mem ((c.tc : Thread Cert.WBranchReferenceIdeal.nD Cert.WBranchReferenceIdeal.τ).loc Cert.WBranchReferenceIdeal.main_arg0) = m ((c.tc : Thread Cert.WBranchReferenceIdeal.nD Cert.WBranchReferenceIdeal.τ).loc Cert.WBranchReferenceIdeal.main_arg0)
      ∧ r.2.mem ((c.tc : Thread Cert.WBranchReferenceIdeal.nD Cert.WBranchReferenceIdeal.τ).loc Cert.WBranchReferenceIdeal.main_arg1) = m ((c.tc : Thread Cert.WBranchReferenceIdeal.nD Cert.WBranchReferenceIdeal.τ).loc Cert.WBranchReferenceIdeal.main_arg1))
      ∧ r.2.sem = fun _ => 0)

def quiescent_WFfnOut [hWFfnOut : Cert.WFfnOut.Facts] : Prop :=
  ∀ (m : (ℓ : Loc Cert.WFfnOut.nD Cert.WFfnOut.τ Cert.WFfnOut.sig) → Buf (Elt Bits) ℓ) (g : Dev Cert.WFfnOut.nD → PrngReg), Pre_WFfnOut m →
    θ_run (Cert.WFfnOut.defs (F := Bits)) (onTc (τ := Cert.WFfnOut.τ) (Cert.WFfnOut.main (F := Bits))) ⟨m, fun _ => 0, g⟩ (fun r => (∀ c : Dev Cert.WFfnOut.nD,
      r.2.mem ((c.tc : Thread Cert.WFfnOut.nD Cert.WFfnOut.τ).loc Cert.WFfnOut.main_arg0) = m ((c.tc : Thread Cert.WFfnOut.nD Cert.WFfnOut.τ).loc Cert.WFfnOut.main_arg0)
      ∧ r.2.mem ((c.tc : Thread Cert.WFfnOut.nD Cert.WFfnOut.τ).loc Cert.WFfnOut.main_arg1) = m ((c.tc : Thread Cert.WFfnOut.nD Cert.WFfnOut.τ).loc Cert.WFfnOut.main_arg1))
      ∧ r.2.sem = fun _ => 0)

def quiescent_WFfnOutIdeal [hWFfnOutIdeal : Cert.WFfnOutIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg), Pre_WFfnOutIdeal m →
    θ_run (Cert.WFfnOutIdeal.defs (F := Ideal)) (onTc (τ := Cert.WFfnOutIdeal.τ) (Cert.WFfnOutIdeal.main (F := Ideal))) ⟨m, fun _ => 0, g⟩ (fun r => (∀ c : Dev Cert.WFfnOutIdeal.nD,
      r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
      ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ r.2.sem = fun _ => 0)

def quiescent_WFfnOutReferenceIdeal [hWFfnOutReferenceIdeal : Cert.WFfnOutReferenceIdeal.Facts] : Prop :=
  ∀ (m : (ℓ : Loc Cert.WFfnOutReferenceIdeal.nD Cert.WFfnOutReferenceIdeal.τ Cert.WFfnOutReferenceIdeal.sig) → Buf (Elt Ideal) ℓ) (g : Dev Cert.WFfnOutReferenceIdeal.nD → PrngReg), Pre_WFfnOutReferenceIdeal m →
    θ_run (Cert.WFfnOutReferenceIdeal.defs (F := Ideal)) (onTc (τ := Cert.WFfnOutReferenceIdeal.τ) (Cert.WFfnOutReferenceIdeal.main (F := Ideal))) ⟨m, fun _ => 0, g⟩ (fun r => (∀ c : Dev Cert.WFfnOutReferenceIdeal.nD,
      r.2.mem ((c.tc : Thread Cert.WFfnOutReferenceIdeal.nD Cert.WFfnOutReferenceIdeal.τ).loc Cert.WFfnOutReferenceIdeal.main_arg0) = m ((c.tc : Thread Cert.WFfnOutReferenceIdeal.nD Cert.WFfnOutReferenceIdeal.τ).loc Cert.WFfnOutReferenceIdeal.main_arg0)
      ∧ r.2.mem ((c.tc : Thread Cert.WFfnOutReferenceIdeal.nD Cert.WFfnOutReferenceIdeal.τ).loc Cert.WFfnOutReferenceIdeal.main_arg1) = m ((c.tc : Thread Cert.WFfnOutReferenceIdeal.nD Cert.WFfnOutReferenceIdeal.τ).loc Cert.WFfnOutReferenceIdeal.main_arg1))
      ∧ r.2.sem = fun _ => 0)

def quiescent_WFfnIn [hWFfnIn : Cert.WFfnIn.Facts] : Prop :=
  ∀ (m : (ℓ : Loc Cert.WFfnIn.nD Cert.WFfnIn.τ Cert.WFfnIn.sig) → Buf (Elt Bits) ℓ) (g : Dev Cert.WFfnIn.nD → PrngReg), Pre_WFfnIn m →
    θ_run (Cert.WFfnIn.defs (F := Bits)) (onTc (τ := Cert.WFfnIn.τ) (Cert.WFfnIn.main (F := Bits))) ⟨m, fun _ => 0, g⟩ (fun r => (∀ c : Dev Cert.WFfnIn.nD,
      r.2.mem ((c.tc : Thread Cert.WFfnIn.nD Cert.WFfnIn.τ).loc Cert.WFfnIn.main_arg0) = m ((c.tc : Thread Cert.WFfnIn.nD Cert.WFfnIn.τ).loc Cert.WFfnIn.main_arg0)
      ∧ r.2.mem ((c.tc : Thread Cert.WFfnIn.nD Cert.WFfnIn.τ).loc Cert.WFfnIn.main_arg1) = m ((c.tc : Thread Cert.WFfnIn.nD Cert.WFfnIn.τ).loc Cert.WFfnIn.main_arg1))
      ∧ r.2.sem = fun _ => 0)

def quiescent_WFfnInIdeal [hWFfnInIdeal : Cert.WFfnInIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg), Pre_WFfnInIdeal m →
    θ_run (Cert.WFfnInIdeal.defs (F := Ideal)) (onTc (τ := Cert.WFfnInIdeal.τ) (Cert.WFfnInIdeal.main (F := Ideal))) ⟨m, fun _ => 0, g⟩ (fun r => (∀ c : Dev Cert.WFfnInIdeal.nD,
      r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
      ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ r.2.sem = fun _ => 0)

def quiescent_WFfnInReferenceIdeal [hWFfnInReferenceIdeal : Cert.WFfnInReferenceIdeal.Facts] : Prop :=
  ∀ (m : (ℓ : Loc Cert.WFfnInReferenceIdeal.nD Cert.WFfnInReferenceIdeal.τ Cert.WFfnInReferenceIdeal.sig) → Buf (Elt Ideal) ℓ) (g : Dev Cert.WFfnInReferenceIdeal.nD → PrngReg), Pre_WFfnInReferenceIdeal m →
    θ_run (Cert.WFfnInReferenceIdeal.defs (F := Ideal)) (onTc (τ := Cert.WFfnInReferenceIdeal.τ) (Cert.WFfnInReferenceIdeal.main (F := Ideal))) ⟨m, fun _ => 0, g⟩ (fun r => (∀ c : Dev Cert.WFfnInReferenceIdeal.nD,
      r.2.mem ((c.tc : Thread Cert.WFfnInReferenceIdeal.nD Cert.WFfnInReferenceIdeal.τ).loc Cert.WFfnInReferenceIdeal.main_arg0) = m ((c.tc : Thread Cert.WFfnInReferenceIdeal.nD Cert.WFfnInReferenceIdeal.τ).loc Cert.WFfnInReferenceIdeal.main_arg0)
      ∧ r.2.mem ((c.tc : Thread Cert.WFfnInReferenceIdeal.nD Cert.WFfnInReferenceIdeal.τ).loc Cert.WFfnInReferenceIdeal.main_arg1) = m ((c.tc : Thread Cert.WFfnInReferenceIdeal.nD Cert.WFfnInReferenceIdeal.τ).loc Cert.WFfnInReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruReferenceIdeal [hAdamLruReferenceIdeal : Cert.AdamLruReferenceIdeal.Facts] : Prop :=
  ∀ (m : (ℓ : Loc Cert.AdamLruReferenceIdeal.nD Cert.AdamLruReferenceIdeal.τ Cert.AdamLruReferenceIdeal.sig) → Buf (Elt Ideal) ℓ) (g : Dev Cert.AdamLruReferenceIdeal.nD → PrngReg), Pre_AdamLruReferenceIdeal m →
    θ_run (Cert.AdamLruReferenceIdeal.defs (F := Ideal)) (onTc (τ := Cert.AdamLruReferenceIdeal.τ) (Cert.AdamLruReferenceIdeal.main (F := Ideal))) ⟨m, fun _ => 0, g⟩ (fun r => (∀ c : Dev Cert.AdamLruReferenceIdeal.nD,
      r.2.mem ((c.tc : Thread Cert.AdamLruReferenceIdeal.nD Cert.AdamLruReferenceIdeal.τ).loc Cert.AdamLruReferenceIdeal.main_arg0) = m ((c.tc : Thread Cert.AdamLruReferenceIdeal.nD Cert.AdamLruReferenceIdeal.τ).loc Cert.AdamLruReferenceIdeal.main_arg0)
      ∧ r.2.mem ((c.tc : Thread Cert.AdamLruReferenceIdeal.nD Cert.AdamLruReferenceIdeal.τ).loc Cert.AdamLruReferenceIdeal.main_arg1) = m ((c.tc : Thread Cert.AdamLruReferenceIdeal.nD Cert.AdamLruReferenceIdeal.τ).loc Cert.AdamLruReferenceIdeal.main_arg1)
      ∧ r.2.mem ((c.tc : Thread Cert.AdamLruReferenceIdeal.nD Cert.AdamLruReferenceIdeal.τ).loc Cert.AdamLruReferenceIdeal.main_arg2) = m ((c.tc : Thread Cert.AdamLruReferenceIdeal.nD Cert.AdamLruReferenceIdeal.τ).loc Cert.AdamLruReferenceIdeal.main_arg2)
      ∧ r.2.mem ((c.tc : Thread Cert.AdamLruReferenceIdeal.nD Cert.AdamLruReferenceIdeal.τ).loc Cert.AdamLruReferenceIdeal.main_arg3) = m ((c.tc : Thread Cert.AdamLruReferenceIdeal.nD Cert.AdamLruReferenceIdeal.τ).loc Cert.AdamLruReferenceIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutReferenceIdeal [hAdamFfnOutReferenceIdeal : Cert.AdamFfnOutReferenceIdeal.Facts] : Prop :=
  ∀ (m : (ℓ : Loc Cert.AdamFfnOutReferenceIdeal.nD Cert.AdamFfnOutReferenceIdeal.τ Cert.AdamFfnOutReferenceIdeal.sig) → Buf (Elt Ideal) ℓ) (g : Dev Cert.AdamFfnOutReferenceIdeal.nD → PrngReg), Pre_AdamFfnOutReferenceIdeal m →
    θ_run (Cert.AdamFfnOutReferenceIdeal.defs (F := Ideal)) (onTc (τ := Cert.AdamFfnOutReferenceIdeal.τ) (Cert.AdamFfnOutReferenceIdeal.main (F := Ideal))) ⟨m, fun _ => 0, g⟩ (fun r => (∀ c : Dev Cert.AdamFfnOutReferenceIdeal.nD,
      r.2.mem ((c.tc : Thread Cert.AdamFfnOutReferenceIdeal.nD Cert.AdamFfnOutReferenceIdeal.τ).loc Cert.AdamFfnOutReferenceIdeal.main_arg0) = m ((c.tc : Thread Cert.AdamFfnOutReferenceIdeal.nD Cert.AdamFfnOutReferenceIdeal.τ).loc Cert.AdamFfnOutReferenceIdeal.main_arg0)
      ∧ r.2.mem ((c.tc : Thread Cert.AdamFfnOutReferenceIdeal.nD Cert.AdamFfnOutReferenceIdeal.τ).loc Cert.AdamFfnOutReferenceIdeal.main_arg1) = m ((c.tc : Thread Cert.AdamFfnOutReferenceIdeal.nD Cert.AdamFfnOutReferenceIdeal.τ).loc Cert.AdamFfnOutReferenceIdeal.main_arg1)
      ∧ r.2.mem ((c.tc : Thread Cert.AdamFfnOutReferenceIdeal.nD Cert.AdamFfnOutReferenceIdeal.τ).loc Cert.AdamFfnOutReferenceIdeal.main_arg2) = m ((c.tc : Thread Cert.AdamFfnOutReferenceIdeal.nD Cert.AdamFfnOutReferenceIdeal.τ).loc Cert.AdamFfnOutReferenceIdeal.main_arg2)
      ∧ r.2.mem ((c.tc : Thread Cert.AdamFfnOutReferenceIdeal.nD Cert.AdamFfnOutReferenceIdeal.τ).loc Cert.AdamFfnOutReferenceIdeal.main_arg3) = m ((c.tc : Thread Cert.AdamFfnOutReferenceIdeal.nD Cert.AdamFfnOutReferenceIdeal.τ).loc Cert.AdamFfnOutReferenceIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInReferenceIdeal [hAdamFfnInReferenceIdeal : Cert.AdamFfnInReferenceIdeal.Facts] : Prop :=
  ∀ (m : (ℓ : Loc Cert.AdamFfnInReferenceIdeal.nD Cert.AdamFfnInReferenceIdeal.τ Cert.AdamFfnInReferenceIdeal.sig) → Buf (Elt Ideal) ℓ) (g : Dev Cert.AdamFfnInReferenceIdeal.nD → PrngReg), Pre_AdamFfnInReferenceIdeal m →
    θ_run (Cert.AdamFfnInReferenceIdeal.defs (F := Ideal)) (onTc (τ := Cert.AdamFfnInReferenceIdeal.τ) (Cert.AdamFfnInReferenceIdeal.main (F := Ideal))) ⟨m, fun _ => 0, g⟩ (fun r => (∀ c : Dev Cert.AdamFfnInReferenceIdeal.nD,
      r.2.mem ((c.tc : Thread Cert.AdamFfnInReferenceIdeal.nD Cert.AdamFfnInReferenceIdeal.τ).loc Cert.AdamFfnInReferenceIdeal.main_arg0) = m ((c.tc : Thread Cert.AdamFfnInReferenceIdeal.nD Cert.AdamFfnInReferenceIdeal.τ).loc Cert.AdamFfnInReferenceIdeal.main_arg0)
      ∧ r.2.mem ((c.tc : Thread Cert.AdamFfnInReferenceIdeal.nD Cert.AdamFfnInReferenceIdeal.τ).loc Cert.AdamFfnInReferenceIdeal.main_arg1) = m ((c.tc : Thread Cert.AdamFfnInReferenceIdeal.nD Cert.AdamFfnInReferenceIdeal.τ).loc Cert.AdamFfnInReferenceIdeal.main_arg1)
      ∧ r.2.mem ((c.tc : Thread Cert.AdamFfnInReferenceIdeal.nD Cert.AdamFfnInReferenceIdeal.τ).loc Cert.AdamFfnInReferenceIdeal.main_arg2) = m ((c.tc : Thread Cert.AdamFfnInReferenceIdeal.nD Cert.AdamFfnInReferenceIdeal.τ).loc Cert.AdamFfnInReferenceIdeal.main_arg2)
      ∧ r.2.mem ((c.tc : Thread Cert.AdamFfnInReferenceIdeal.nD Cert.AdamFfnInReferenceIdeal.τ).loc Cert.AdamFfnInReferenceIdeal.main_arg3) = m ((c.tc : Thread Cert.AdamFfnInReferenceIdeal.nD Cert.AdamFfnInReferenceIdeal.τ).loc Cert.AdamFfnInReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v6) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1))

def preserves_WBranch_WBranchIdeal : Prop :=
  True

def algebraic_WBranchIdeal_WBranchReferenceIdeal [hWBranchIdeal : Cert.WBranchIdeal.Facts] [hWBranchReferenceIdeal : Cert.WBranchReferenceIdeal.Facts] : Prop :=
  ∀ (m : (ℓ : Loc Cert.WBranchIdeal.nD Cert.WBranchIdeal.τ Cert.WBranchIdeal.sig) → Buf (Elt Ideal) ℓ) (g : Dev Cert.WBranchIdeal.nD → PrngReg)
    (m' : (ℓ : Loc Cert.WBranchReferenceIdeal.nD Cert.WBranchReferenceIdeal.τ Cert.WBranchReferenceIdeal.sig) → Buf (Elt Ideal) ℓ) (g' : Dev Cert.WBranchReferenceIdeal.nD → PrngReg), Pre_WBranchIdeal m →
    (∀ c : Dev Cert.WBranchIdeal.nD,
      m' ((c.tc : Thread Cert.WBranchReferenceIdeal.nD Cert.WBranchReferenceIdeal.τ).loc Cert.WBranchReferenceIdeal.main_arg0) = m ((c.tc : Thread Cert.WBranchIdeal.nD Cert.WBranchIdeal.τ).loc Cert.WBranchIdeal.main_arg0)
      ∧ m' ((c.tc : Thread Cert.WBranchReferenceIdeal.nD Cert.WBranchReferenceIdeal.τ).loc Cert.WBranchReferenceIdeal.main_arg1) = m ((c.tc : Thread Cert.WBranchIdeal.nD Cert.WBranchIdeal.τ).loc Cert.WBranchIdeal.main_arg1)) →
    ∃ (v0 : (c : Dev Cert.WBranchIdeal.nD) → Buf (Elt Ideal) ((c.tc : Thread Cert.WBranchIdeal.nD Cert.WBranchIdeal.τ).loc Cert.WBranchIdeal.main_v0)),
      θ_run (Cert.WBranchIdeal.defs (F := Ideal)) (onTc (τ := Cert.WBranchIdeal.τ) (Cert.WBranchIdeal.main (F := Ideal))) ⟨m, fun _ => 0, g⟩ (fun r => ∀ c : Dev Cert.WBranchIdeal.nD,
          r.2.mem ((c.tc : Thread Cert.WBranchIdeal.nD Cert.WBranchIdeal.τ).loc Cert.WBranchIdeal.main_v0) = v0 c
          ∧ r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
          ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ θ_run (Cert.WBranchReferenceIdeal.defs (F := Ideal)) (onTc (τ := Cert.WBranchReferenceIdeal.τ) (Cert.WBranchReferenceIdeal.main (F := Ideal))) ⟨m', fun _ => 0, g'⟩ (fun r => ∀ c : Dev Cert.WBranchReferenceIdeal.nD,
          r.2.mem ((c.tc : Thread Cert.WBranchReferenceIdeal.nD Cert.WBranchReferenceIdeal.τ).loc Cert.WBranchReferenceIdeal.main_v7) = v0 c
          ∧ r.2.mem ((c.tc : Thread Cert.WBranchReferenceIdeal.nD Cert.WBranchReferenceIdeal.τ).loc Cert.WBranchReferenceIdeal.main_arg0) = m' ((c.tc : Thread Cert.WBranchReferenceIdeal.nD Cert.WBranchReferenceIdeal.τ).loc Cert.WBranchReferenceIdeal.main_arg0)
          ∧ r.2.mem ((c.tc : Thread Cert.WBranchReferenceIdeal.nD Cert.WBranchReferenceIdeal.τ).loc Cert.WBranchReferenceIdeal.main_arg1) = m' ((c.tc : Thread Cert.WBranchReferenceIdeal.nD Cert.WBranchReferenceIdeal.τ).loc Cert.WBranchReferenceIdeal.main_arg1))

def preserves_WFfnOut_WFfnOutIdeal : Prop :=
  True

def algebraic_WFfnOutIdeal_WFfnOutReferenceIdeal [hWFfnOutIdeal : Cert.WFfnOutIdeal.Facts] [hWFfnOutReferenceIdeal : Cert.WFfnOutReferenceIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg)
    (m' : (ℓ : Loc Cert.WFfnOutReferenceIdeal.nD Cert.WFfnOutReferenceIdeal.τ Cert.WFfnOutReferenceIdeal.sig) → Buf (Elt Ideal) ℓ) (g' : Dev Cert.WFfnOutReferenceIdeal.nD → PrngReg), Pre_WFfnOutIdeal m →
    (∀ c : Dev Cert.WFfnOutIdeal.nD,
      m' ((c.tc : Thread Cert.WFfnOutReferenceIdeal.nD Cert.WFfnOutReferenceIdeal.τ).loc Cert.WFfnOutReferenceIdeal.main_arg0) = m ((c.tc : Thread Cert.WFfnOutIdeal.nD Cert.WFfnOutIdeal.τ).loc Cert.WFfnOutIdeal.main_arg0)
      ∧ m' ((c.tc : Thread Cert.WFfnOutReferenceIdeal.nD Cert.WFfnOutReferenceIdeal.τ).loc Cert.WFfnOutReferenceIdeal.main_arg1) = m ((c.tc : Thread Cert.WFfnOutIdeal.nD Cert.WFfnOutIdeal.τ).loc Cert.WFfnOutIdeal.main_arg1)) →
    ∃ (v0 : (c : Dev Cert.WFfnOutIdeal.nD) → Buf (Elt Ideal) ((c.tc : Thread Cert.WFfnOutIdeal.nD Cert.WFfnOutIdeal.τ).loc Cert.WFfnOutIdeal.main_v0)),
      θ_run (Cert.WFfnOutIdeal.defs (F := Ideal)) (onTc (τ := Cert.WFfnOutIdeal.τ) (Cert.WFfnOutIdeal.main (F := Ideal))) ⟨m, fun _ => 0, g⟩ (fun r => ∀ c : Dev Cert.WFfnOutIdeal.nD,
          r.2.mem ((c.tc : Thread Cert.WFfnOutIdeal.nD Cert.WFfnOutIdeal.τ).loc Cert.WFfnOutIdeal.main_v0) = v0 c
          ∧ r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
          ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ θ_run (Cert.WFfnOutReferenceIdeal.defs (F := Ideal)) (onTc (τ := Cert.WFfnOutReferenceIdeal.τ) (Cert.WFfnOutReferenceIdeal.main (F := Ideal))) ⟨m', fun _ => 0, g'⟩ (fun r => ∀ c : Dev Cert.WFfnOutReferenceIdeal.nD,
          r.2.mem ((c.tc : Thread Cert.WFfnOutReferenceIdeal.nD Cert.WFfnOutReferenceIdeal.τ).loc Cert.WFfnOutReferenceIdeal.main_v6) = v0 c
          ∧ r.2.mem ((c.tc : Thread Cert.WFfnOutReferenceIdeal.nD Cert.WFfnOutReferenceIdeal.τ).loc Cert.WFfnOutReferenceIdeal.main_arg0) = m' ((c.tc : Thread Cert.WFfnOutReferenceIdeal.nD Cert.WFfnOutReferenceIdeal.τ).loc Cert.WFfnOutReferenceIdeal.main_arg0)
          ∧ r.2.mem ((c.tc : Thread Cert.WFfnOutReferenceIdeal.nD Cert.WFfnOutReferenceIdeal.τ).loc Cert.WFfnOutReferenceIdeal.main_arg1) = m' ((c.tc : Thread Cert.WFfnOutReferenceIdeal.nD Cert.WFfnOutReferenceIdeal.τ).loc Cert.WFfnOutReferenceIdeal.main_arg1))

def preserves_WFfnIn_WFfnInIdeal : Prop :=
  True

def algebraic_WFfnInIdeal_WFfnInReferenceIdeal [hWFfnInIdeal : Cert.WFfnInIdeal.Facts] [hWFfnInReferenceIdeal : Cert.WFfnInReferenceIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg)
    (m' : (ℓ : Loc Cert.WFfnInReferenceIdeal.nD Cert.WFfnInReferenceIdeal.τ Cert.WFfnInReferenceIdeal.sig) → Buf (Elt Ideal) ℓ) (g' : Dev Cert.WFfnInReferenceIdeal.nD → PrngReg), Pre_WFfnInIdeal m →
    (∀ c : Dev Cert.WFfnInIdeal.nD,
      m' ((c.tc : Thread Cert.WFfnInReferenceIdeal.nD Cert.WFfnInReferenceIdeal.τ).loc Cert.WFfnInReferenceIdeal.main_arg0) = m ((c.tc : Thread Cert.WFfnInIdeal.nD Cert.WFfnInIdeal.τ).loc Cert.WFfnInIdeal.main_arg0)
      ∧ m' ((c.tc : Thread Cert.WFfnInReferenceIdeal.nD Cert.WFfnInReferenceIdeal.τ).loc Cert.WFfnInReferenceIdeal.main_arg1) = m ((c.tc : Thread Cert.WFfnInIdeal.nD Cert.WFfnInIdeal.τ).loc Cert.WFfnInIdeal.main_arg1)) →
    ∃ (v0 : (c : Dev Cert.WFfnInIdeal.nD) → Buf (Elt Ideal) ((c.tc : Thread Cert.WFfnInIdeal.nD Cert.WFfnInIdeal.τ).loc Cert.WFfnInIdeal.main_v0)),
      θ_run (Cert.WFfnInIdeal.defs (F := Ideal)) (onTc (τ := Cert.WFfnInIdeal.τ) (Cert.WFfnInIdeal.main (F := Ideal))) ⟨m, fun _ => 0, g⟩ (fun r => ∀ c : Dev Cert.WFfnInIdeal.nD,
          r.2.mem ((c.tc : Thread Cert.WFfnInIdeal.nD Cert.WFfnInIdeal.τ).loc Cert.WFfnInIdeal.main_v0) = v0 c
          ∧ r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
          ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ θ_run (Cert.WFfnInReferenceIdeal.defs (F := Ideal)) (onTc (τ := Cert.WFfnInReferenceIdeal.τ) (Cert.WFfnInReferenceIdeal.main (F := Ideal))) ⟨m', fun _ => 0, g'⟩ (fun r => ∀ c : Dev Cert.WFfnInReferenceIdeal.nD,
          r.2.mem ((c.tc : Thread Cert.WFfnInReferenceIdeal.nD Cert.WFfnInReferenceIdeal.τ).loc Cert.WFfnInReferenceIdeal.main_v13) = v0 c
          ∧ r.2.mem ((c.tc : Thread Cert.WFfnInReferenceIdeal.nD Cert.WFfnInReferenceIdeal.τ).loc Cert.WFfnInReferenceIdeal.main_arg0) = m' ((c.tc : Thread Cert.WFfnInReferenceIdeal.nD Cert.WFfnInReferenceIdeal.τ).loc Cert.WFfnInReferenceIdeal.main_arg0)
          ∧ r.2.mem ((c.tc : Thread Cert.WFfnInReferenceIdeal.nD Cert.WFfnInReferenceIdeal.τ).loc Cert.WFfnInReferenceIdeal.main_arg1) = m' ((c.tc : Thread Cert.WFfnInReferenceIdeal.nD Cert.WFfnInReferenceIdeal.τ).loc Cert.WFfnInReferenceIdeal.main_arg1))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v22_0)) (v1 : (c : Dev Cert.FfnIdeal.nD) → Buf (Elt Ideal) ((c.tc : Thread Cert.FfnIdeal.nD Cert.FfnIdeal.τ).loc Cert.FfnIdeal.main_v22_1)) (v2 : (c : Dev Cert.FfnIdeal.nD) → Buf (Elt Ideal) ((c.tc : Thread Cert.FfnIdeal.nD Cert.FfnIdeal.τ).loc Cert.FfnIdeal.main_v22_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22_0) = v0 c
          ∧ r.2.mem ((c.tc : Thread Cert.FfnIdeal.nD Cert.FfnIdeal.τ).loc Cert.FfnIdeal.main_v22_1) = v1 c
          ∧ r.2.mem ((c.tc : Thread Cert.FfnIdeal.nD Cert.FfnIdeal.τ).loc Cert.FfnIdeal.main_v22_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v58) = v0 c
          ∧ r.2.mem ((c.tc : Thread Cert.FfnReferenceIdeal.nD Cert.FfnReferenceIdeal.τ).loc Cert.FfnReferenceIdeal.main_v59) = v1 c
          ∧ r.2.mem ((c.tc : Thread Cert.FfnReferenceIdeal.nD Cert.FfnReferenceIdeal.τ).loc Cert.FfnReferenceIdeal.main_v60) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v9)) (v3 : (c : Dev Cert.MixIdeal.nD) → Buf (Elt Ideal) ((c.tc : Thread Cert.MixIdeal.nD Cert.MixIdeal.τ).loc Cert.MixIdeal.main_v8_3)) (v4 : (c : Dev Cert.MixIdeal.nD) → Buf (Elt Ideal) ((c.tc : Thread Cert.MixIdeal.nD Cert.MixIdeal.τ).loc Cert.MixIdeal.main_v8_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v9) = v2 c
          ∧ r.2.mem ((c.tc : Thread Cert.MixIdeal.nD Cert.MixIdeal.τ).loc Cert.MixIdeal.main_v8_3) = v3 c
          ∧ r.2.mem ((c.tc : Thread Cert.MixIdeal.nD Cert.MixIdeal.τ).loc Cert.MixIdeal.main_v8_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v43) = v0 c
          ∧ r.2.mem ((c.tc : Thread Cert.MixReferenceIdeal.nD Cert.MixReferenceIdeal.τ).loc Cert.MixReferenceIdeal.main_v44) = v1 c
          ∧ r.2.mem ((c.tc : Thread Cert.MixReferenceIdeal.nD Cert.MixReferenceIdeal.τ).loc Cert.MixReferenceIdeal.main_v45) = v2 c
          ∧ r.2.mem ((c.tc : Thread Cert.MixReferenceIdeal.nD Cert.MixReferenceIdeal.τ).loc Cert.MixReferenceIdeal.main_v46) = v3 c
          ∧ r.2.mem ((c.tc : Thread Cert.MixReferenceIdeal.nD Cert.MixReferenceIdeal.τ).loc Cert.MixReferenceIdeal.main_v47) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)
      ∧ m' ((c.tc : Thread Cert.FfnFwdReferenceIdeal.nD Cert.FfnFwdReferenceIdeal.τ).loc Cert.FfnFwdReferenceIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)) (v4 : (c : Dev Cert.FfnFwdIdeal.nD) → Buf (Elt Ideal) ((c.tc : Thread Cert.FfnFwdIdeal.nD Cert.FfnFwdIdeal.τ).loc Cert.FfnFwdIdeal.main_v0_4)) (v5 : (c : Dev Cert.FfnFwdIdeal.nD) → Buf (Elt Ideal) ((c.tc : Thread Cert.FfnFwdIdeal.nD Cert.FfnFwdIdeal.τ).loc Cert.FfnFwdIdeal.main_v0_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_v0_4) = v4 c
          ∧ r.2.mem ((c.tc : Thread Cert.FfnFwdIdeal.nD Cert.FfnFwdIdeal.τ).loc Cert.FfnFwdIdeal.main_v0_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v94) = v0 c
          ∧ r.2.mem ((c.tc : Thread Cert.FfnFwdReferenceIdeal.nD Cert.FfnFwdReferenceIdeal.τ).loc Cert.FfnFwdReferenceIdeal.main_v95) = v1 c
          ∧ r.2.mem ((c.tc : Thread Cert.FfnFwdReferenceIdeal.nD Cert.FfnFwdReferenceIdeal.τ).loc Cert.FfnFwdReferenceIdeal.main_v96) = v2 c
          ∧ r.2.mem ((c.tc : Thread Cert.FfnFwdReferenceIdeal.nD Cert.FfnFwdReferenceIdeal.τ).loc Cert.FfnFwdReferenceIdeal.main_v97) = v3 c
          ∧ r.2.mem ((c.tc : Thread Cert.FfnFwdReferenceIdeal.nD Cert.FfnFwdReferenceIdeal.τ).loc Cert.FfnFwdReferenceIdeal.main_v74) = v4 c
          ∧ r.2.mem ((c.tc : Thread Cert.FfnFwdReferenceIdeal.nD Cert.FfnFwdReferenceIdeal.τ).loc Cert.FfnFwdReferenceIdeal.main_v93) = v5 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v3) = v0 c
          ∧ r.2.mem ((c.tc : Thread Cert.AdamReferenceIdeal.nD Cert.AdamReferenceIdeal.τ).loc Cert.AdamReferenceIdeal.main_v27) = v1 c
          ∧ r.2.mem ((c.tc : Thread Cert.AdamReferenceIdeal.nD Cert.AdamReferenceIdeal.τ).loc Cert.AdamReferenceIdeal.main_v8) = v2 c
          ∧ r.2.mem ((c.tc : Thread Cert.AdamReferenceIdeal.nD Cert.AdamReferenceIdeal.τ).loc Cert.AdamReferenceIdeal.main_v14) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v3)) (v1 : (c : Dev Cert.AdamSmallIdeal.nD) → Buf (Elt Ideal) ((c.tc : Thread Cert.AdamSmallIdeal.nD Cert.AdamSmallIdeal.τ).loc Cert.AdamSmallIdeal.main_v5)) (v2 : (c : Dev Cert.AdamSmallIdeal.nD) → Buf (Elt Ideal) ((c.tc : Thread Cert.AdamSmallIdeal.nD Cert.AdamSmallIdeal.τ).loc Cert.AdamSmallIdeal.main_v7)) (v3 : (c : Dev Cert.AdamSmallIdeal.nD) → Buf (Elt Ideal) ((c.tc : Thread Cert.AdamSmallIdeal.nD Cert.AdamSmallIdeal.τ).loc Cert.AdamSmallIdeal.main_v9)) (v4 : (c : Dev Cert.AdamSmallIdeal.nD) → Buf (Elt Ideal) ((c.tc : Thread Cert.AdamSmallIdeal.nD Cert.AdamSmallIdeal.τ).loc Cert.AdamSmallIdeal.main_v11)) (v5 : (c : Dev Cert.AdamSmallIdeal.nD) → Buf (Elt Ideal) ((c.tc : Thread Cert.AdamSmallIdeal.nD Cert.AdamSmallIdeal.τ).loc Cert.AdamSmallIdeal.main_v13)) (v6 : (c : Dev Cert.AdamSmallIdeal.nD) → Buf (Elt Ideal) ((c.tc : Thread Cert.AdamSmallIdeal.nD Cert.AdamSmallIdeal.τ).loc Cert.AdamSmallIdeal.main_v15)) (v7 : (c : Dev Cert.AdamSmallIdeal.nD) → Buf (Elt Ideal) ((c.tc : Thread Cert.AdamSmallIdeal.nD Cert.AdamSmallIdeal.τ).loc Cert.AdamSmallIdeal.main_v16)) (v8 : (c : Dev Cert.AdamSmallIdeal.nD) → Buf (Elt Ideal) ((c.tc : Thread Cert.AdamSmallIdeal.nD Cert.AdamSmallIdeal.τ).loc Cert.AdamSmallIdeal.main_v18)) (v9 : (c : Dev Cert.AdamSmallIdeal.nD) → Buf (Elt Ideal) ((c.tc : Thread Cert.AdamSmallIdeal.nD Cert.AdamSmallIdeal.τ).loc Cert.AdamSmallIdeal.main_v20)) (v10 : (c : Dev Cert.AdamSmallIdeal.nD) → Buf (Elt Ideal) ((c.tc : Thread Cert.AdamSmallIdeal.nD Cert.AdamSmallIdeal.τ).loc Cert.AdamSmallIdeal.main_v22)) (v11 : (c : Dev Cert.AdamSmallIdeal.nD) → Buf (Elt Ideal) ((c.tc : Thread Cert.AdamSmallIdeal.nD Cert.AdamSmallIdeal.τ).loc Cert.AdamSmallIdeal.main_v24)) (v12 : (c : Dev Cert.AdamSmallIdeal.nD) → Buf (Elt Ideal) ((c.tc : Thread Cert.AdamSmallIdeal.nD Cert.AdamSmallIdeal.τ).loc Cert.AdamSmallIdeal.main_v26)) (v13 : (c : Dev Cert.AdamSmallIdeal.nD) → Buf (Elt Ideal) ((c.tc : Thread Cert.AdamSmallIdeal.nD Cert.AdamSmallIdeal.τ).loc Cert.AdamSmallIdeal.main_v28)) (v14 : (c : Dev Cert.AdamSmallIdeal.nD) → Buf (Elt Ideal) ((c.tc : Thread Cert.AdamSmallIdeal.nD Cert.AdamSmallIdeal.τ).loc Cert.AdamSmallIdeal.main_v30)) (v15 : (c : Dev Cert.AdamSmallIdeal.nD) → Buf (Elt Ideal) ((c.tc : Thread Cert.AdamSmallIdeal.nD Cert.AdamSmallIdeal.τ).loc Cert.AdamSmallIdeal.main_v32)) (v16 : (c : Dev Cert.AdamSmallIdeal.nD) → Buf (Elt Ideal) ((c.tc : Thread Cert.AdamSmallIdeal.nD Cert.AdamSmallIdeal.τ).loc Cert.AdamSmallIdeal.main_v33)) (v17 : (c : Dev Cert.AdamSmallIdeal.nD) → Buf (Elt Ideal) ((c.tc : Thread Cert.AdamSmallIdeal.nD Cert.AdamSmallIdeal.τ).loc Cert.AdamSmallIdeal.main_v35)) (v18 : (c : Dev Cert.AdamSmallIdeal.nD) → Buf (Elt Ideal) ((c.tc : Thread Cert.AdamSmallIdeal.nD Cert.AdamSmallIdeal.τ).loc Cert.AdamSmallIdeal.main_v37)) (v19 : (c : Dev Cert.AdamSmallIdeal.nD) → Buf (Elt Ideal) ((c.tc : Thread Cert.AdamSmallIdeal.nD Cert.AdamSmallIdeal.τ).loc Cert.AdamSmallIdeal.main_v39)) (v20 : (c : Dev Cert.AdamSmallIdeal.nD) → Buf (Elt Ideal) ((c.tc : Thread Cert.AdamSmallIdeal.nD Cert.AdamSmallIdeal.τ).loc Cert.AdamSmallIdeal.main_v41)) (v21 : (c : Dev Cert.AdamSmallIdeal.nD) → Buf (Elt Ideal) ((c.tc : Thread Cert.AdamSmallIdeal.nD Cert.AdamSmallIdeal.τ).loc Cert.AdamSmallIdeal.main_v43)) (v22 : (c : Dev Cert.AdamSmallIdeal.nD) → Buf (Elt Ideal) ((c.tc : Thread Cert.AdamSmallIdeal.nD Cert.AdamSmallIdeal.τ).loc Cert.AdamSmallIdeal.main_v45)) (v23 : (c : Dev Cert.AdamSmallIdeal.nD) → Buf (Elt Ideal) ((c.tc : Thread Cert.AdamSmallIdeal.nD Cert.AdamSmallIdeal.τ).loc Cert.AdamSmallIdeal.main_v47)) (v24 : (c : Dev Cert.AdamSmallIdeal.nD) → Buf (Elt Ideal) ((c.tc : Thread Cert.AdamSmallIdeal.nD Cert.AdamSmallIdeal.τ).loc Cert.AdamSmallIdeal.main_v49)) (v25 : (c : Dev Cert.AdamSmallIdeal.nD) → Buf (Elt Ideal) ((c.tc : Thread Cert.AdamSmallIdeal.nD Cert.AdamSmallIdeal.τ).loc Cert.AdamSmallIdeal.main_v50)) (v26 : (c : Dev Cert.AdamSmallIdeal.nD) → Buf (Elt Ideal) ((c.tc : Thread Cert.AdamSmallIdeal.nD Cert.AdamSmallIdeal.τ).loc Cert.AdamSmallIdeal.main_v52)) (v27 : (c : Dev Cert.AdamSmallIdeal.nD) → Buf (Elt Ideal) ((c.tc : Thread Cert.AdamSmallIdeal.nD Cert.AdamSmallIdeal.τ).loc Cert.AdamSmallIdeal.main_v54)) (v28 : (c : Dev Cert.AdamSmallIdeal.nD) → Buf (Elt Ideal) ((c.tc : Thread Cert.AdamSmallIdeal.nD Cert.AdamSmallIdeal.τ).loc Cert.AdamSmallIdeal.main_v56)) (v29 : (c : Dev Cert.AdamSmallIdeal.nD) → Buf (Elt Ideal) ((c.tc : Thread Cert.AdamSmallIdeal.nD Cert.AdamSmallIdeal.τ).loc Cert.AdamSmallIdeal.main_v58)) (v30 : (c : Dev Cert.AdamSmallIdeal.nD) → Buf (Elt Ideal) ((c.tc : Thread Cert.AdamSmallIdeal.nD Cert.AdamSmallIdeal.τ).loc Cert.AdamSmallIdeal.main_v60)) (v31 : (c : Dev Cert.AdamSmallIdeal.nD) → Buf (Elt Ideal) ((c.tc : Thread Cert.AdamSmallIdeal.nD Cert.AdamSmallIdeal.τ).loc Cert.AdamSmallIdeal.main_v62)) (v32 : (c : Dev Cert.AdamSmallIdeal.nD) → Buf (Elt Ideal) ((c.tc : Thread Cert.AdamSmallIdeal.nD Cert.AdamSmallIdeal.τ).loc Cert.AdamSmallIdeal.main_v64)) (v33 : (c : Dev Cert.AdamSmallIdeal.nD) → Buf (Elt Ideal) ((c.tc : Thread Cert.AdamSmallIdeal.nD Cert.AdamSmallIdeal.τ).loc Cert.AdamSmallIdeal.main_v66)) (v34 : (c : Dev Cert.AdamSmallIdeal.nD) → Buf (Elt Ideal) ((c.tc : Thread Cert.AdamSmallIdeal.nD Cert.AdamSmallIdeal.τ).loc Cert.AdamSmallIdeal.main_v67)) (v35 : (c : Dev Cert.AdamSmallIdeal.nD) → Buf (Elt Ideal) ((c.tc : Thread Cert.AdamSmallIdeal.nD Cert.AdamSmallIdeal.τ).loc Cert.AdamSmallIdeal.main_v69)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v3) = v0 c
          ∧ r.2.mem ((c.tc : Thread Cert.AdamSmallIdeal.nD Cert.AdamSmallIdeal.τ).loc Cert.AdamSmallIdeal.main_v5) = v1 c
          ∧ r.2.mem ((c.tc : Thread Cert.AdamSmallIdeal.nD Cert.AdamSmallIdeal.τ).loc Cert.AdamSmallIdeal.main_v7) = v2 c
          ∧ r.2.mem ((c.tc : Thread Cert.AdamSmallIdeal.nD Cert.AdamSmallIdeal.τ).loc Cert.AdamSmallIdeal.main_v9) = v3 c
          ∧ r.2.mem ((c.tc : Thread Cert.AdamSmallIdeal.nD Cert.AdamSmallIdeal.τ).loc Cert.AdamSmallIdeal.main_v11) = v4 c
          ∧ r.2.mem ((c.tc : Thread Cert.AdamSmallIdeal.nD Cert.AdamSmallIdeal.τ).loc Cert.AdamSmallIdeal.main_v13) = v5 c
          ∧ r.2.mem ((c.tc : Thread Cert.AdamSmallIdeal.nD Cert.AdamSmallIdeal.τ).loc Cert.AdamSmallIdeal.main_v15) = v6 c
          ∧ r.2.mem ((c.tc : Thread Cert.AdamSmallIdeal.nD Cert.AdamSmallIdeal.τ).loc Cert.AdamSmallIdeal.main_v16) = v7 c
          ∧ r.2.mem ((c.tc : Thread Cert.AdamSmallIdeal.nD Cert.AdamSmallIdeal.τ).loc Cert.AdamSmallIdeal.main_v18) = v8 c
          ∧ r.2.mem ((c.tc : Thread Cert.AdamSmallIdeal.nD Cert.AdamSmallIdeal.τ).loc Cert.AdamSmallIdeal.main_v20) = v9 c
          ∧ r.2.mem ((c.tc : Thread Cert.AdamSmallIdeal.nD Cert.AdamSmallIdeal.τ).loc Cert.AdamSmallIdeal.main_v22) = v10 c
          ∧ r.2.mem ((c.tc : Thread Cert.AdamSmallIdeal.nD Cert.AdamSmallIdeal.τ).loc Cert.AdamSmallIdeal.main_v24) = v11 c
          ∧ r.2.mem ((c.tc : Thread Cert.AdamSmallIdeal.nD Cert.AdamSmallIdeal.τ).loc Cert.AdamSmallIdeal.main_v26) = v12 c
          ∧ r.2.mem ((c.tc : Thread Cert.AdamSmallIdeal.nD Cert.AdamSmallIdeal.τ).loc Cert.AdamSmallIdeal.main_v28) = v13 c
          ∧ r.2.mem ((c.tc : Thread Cert.AdamSmallIdeal.nD Cert.AdamSmallIdeal.τ).loc Cert.AdamSmallIdeal.main_v30) = v14 c
          ∧ r.2.mem ((c.tc : Thread Cert.AdamSmallIdeal.nD Cert.AdamSmallIdeal.τ).loc Cert.AdamSmallIdeal.main_v32) = v15 c
          ∧ r.2.mem ((c.tc : Thread Cert.AdamSmallIdeal.nD Cert.AdamSmallIdeal.τ).loc Cert.AdamSmallIdeal.main_v33) = v16 c
          ∧ r.2.mem ((c.tc : Thread Cert.AdamSmallIdeal.nD Cert.AdamSmallIdeal.τ).loc Cert.AdamSmallIdeal.main_v35) = v17 c
          ∧ r.2.mem ((c.tc : Thread Cert.AdamSmallIdeal.nD Cert.AdamSmallIdeal.τ).loc Cert.AdamSmallIdeal.main_v37) = v18 c
          ∧ r.2.mem ((c.tc : Thread Cert.AdamSmallIdeal.nD Cert.AdamSmallIdeal.τ).loc Cert.AdamSmallIdeal.main_v39) = v19 c
          ∧ r.2.mem ((c.tc : Thread Cert.AdamSmallIdeal.nD Cert.AdamSmallIdeal.τ).loc Cert.AdamSmallIdeal.main_v41) = v20 c
          ∧ r.2.mem ((c.tc : Thread Cert.AdamSmallIdeal.nD Cert.AdamSmallIdeal.τ).loc Cert.AdamSmallIdeal.main_v43) = v21 c
          ∧ r.2.mem ((c.tc : Thread Cert.AdamSmallIdeal.nD Cert.AdamSmallIdeal.τ).loc Cert.AdamSmallIdeal.main_v45) = v22 c
          ∧ r.2.mem ((c.tc : Thread Cert.AdamSmallIdeal.nD Cert.AdamSmallIdeal.τ).loc Cert.AdamSmallIdeal.main_v47) = v23 c
          ∧ r.2.mem ((c.tc : Thread Cert.AdamSmallIdeal.nD Cert.AdamSmallIdeal.τ).loc Cert.AdamSmallIdeal.main_v49) = v24 c
          ∧ r.2.mem ((c.tc : Thread Cert.AdamSmallIdeal.nD Cert.AdamSmallIdeal.τ).loc Cert.AdamSmallIdeal.main_v50) = v25 c
          ∧ r.2.mem ((c.tc : Thread Cert.AdamSmallIdeal.nD Cert.AdamSmallIdeal.τ).loc Cert.AdamSmallIdeal.main_v52) = v26 c
          ∧ r.2.mem ((c.tc : Thread Cert.AdamSmallIdeal.nD Cert.AdamSmallIdeal.τ).loc Cert.AdamSmallIdeal.main_v54) = v27 c
          ∧ r.2.mem ((c.tc : Thread Cert.AdamSmallIdeal.nD Cert.AdamSmallIdeal.τ).loc Cert.AdamSmallIdeal.main_v56) = v28 c
          ∧ r.2.mem ((c.tc : Thread Cert.AdamSmallIdeal.nD Cert.AdamSmallIdeal.τ).loc Cert.AdamSmallIdeal.main_v58) = v29 c
          ∧ r.2.mem ((c.tc : Thread Cert.AdamSmallIdeal.nD Cert.AdamSmallIdeal.τ).loc Cert.AdamSmallIdeal.main_v60) = v30 c
          ∧ r.2.mem ((c.tc : Thread Cert.AdamSmallIdeal.nD Cert.AdamSmallIdeal.τ).loc Cert.AdamSmallIdeal.main_v62) = v31 c
          ∧ r.2.mem ((c.tc : Thread Cert.AdamSmallIdeal.nD Cert.AdamSmallIdeal.τ).loc Cert.AdamSmallIdeal.main_v64) = v32 c
          ∧ r.2.mem ((c.tc : Thread Cert.AdamSmallIdeal.nD Cert.AdamSmallIdeal.τ).loc Cert.AdamSmallIdeal.main_v66) = v33 c
          ∧ r.2.mem ((c.tc : Thread Cert.AdamSmallIdeal.nD Cert.AdamSmallIdeal.τ).loc Cert.AdamSmallIdeal.main_v67) = v34 c
          ∧ r.2.mem ((c.tc : Thread Cert.AdamSmallIdeal.nD Cert.AdamSmallIdeal.τ).loc Cert.AdamSmallIdeal.main_v69) = v35 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v29) = v0 c
          ∧ r.2.mem ((c.tc : Thread Cert.AdamSmallReferenceIdeal.nD Cert.AdamSmallReferenceIdeal.τ).loc Cert.AdamSmallReferenceIdeal.main_v31) = v1 c
          ∧ r.2.mem ((c.tc : Thread Cert.AdamSmallReferenceIdeal.nD Cert.AdamSmallReferenceIdeal.τ).loc Cert.AdamSmallReferenceIdeal.main_v33) = v2 c
          ∧ r.2.mem ((c.tc : Thread Cert.AdamSmallReferenceIdeal.nD Cert.AdamSmallReferenceIdeal.τ).loc Cert.AdamSmallReferenceIdeal.main_v35) = v3 c
          ∧ r.2.mem ((c.tc : Thread Cert.AdamSmallReferenceIdeal.nD Cert.AdamSmallReferenceIdeal.τ).loc Cert.AdamSmallReferenceIdeal.main_v37) = v4 c
          ∧ r.2.mem ((c.tc : Thread Cert.AdamSmallReferenceIdeal.nD Cert.AdamSmallReferenceIdeal.τ).loc Cert.AdamSmallReferenceIdeal.main_v39) = v5 c
          ∧ r.2.mem ((c.tc : Thread Cert.AdamSmallReferenceIdeal.nD Cert.AdamSmallReferenceIdeal.τ).loc Cert.AdamSmallReferenceIdeal.main_v41) = v6 c
          ∧ r.2.mem ((c.tc : Thread Cert.AdamSmallReferenceIdeal.nD Cert.AdamSmallReferenceIdeal.τ).loc Cert.AdamSmallReferenceIdeal.main_v42) = v7 c
          ∧ r.2.mem ((c.tc : Thread Cert.AdamSmallReferenceIdeal.nD Cert.AdamSmallReferenceIdeal.τ).loc Cert.AdamSmallReferenceIdeal.main_v44) = v8 c
          ∧ r.2.mem ((c.tc : Thread Cert.AdamSmallReferenceIdeal.nD Cert.AdamSmallReferenceIdeal.τ).loc Cert.AdamSmallReferenceIdeal.main_v46) = v9 c
          ∧ r.2.mem ((c.tc : Thread Cert.AdamSmallReferenceIdeal.nD Cert.AdamSmallReferenceIdeal.τ).loc Cert.AdamSmallReferenceIdeal.main_v48) = v10 c
          ∧ r.2.mem ((c.tc : Thread Cert.AdamSmallReferenceIdeal.nD Cert.AdamSmallReferenceIdeal.τ).loc Cert.AdamSmallReferenceIdeal.main_v50) = v11 c
          ∧ r.2.mem ((c.tc : Thread Cert.AdamSmallReferenceIdeal.nD Cert.AdamSmallReferenceIdeal.τ).loc Cert.AdamSmallReferenceIdeal.main_v52) = v12 c
          ∧ r.2.mem ((c.tc : Thread Cert.AdamSmallReferenceIdeal.nD Cert.AdamSmallReferenceIdeal.τ).loc Cert.AdamSmallReferenceIdeal.main_v54) = v13 c
          ∧ r.2.mem ((c.tc : Thread Cert.AdamSmallReferenceIdeal.nD Cert.AdamSmallReferenceIdeal.τ).loc Cert.AdamSmallReferenceIdeal.main_v56) = v14 c
          ∧ r.2.mem ((c.tc : Thread Cert.AdamSmallReferenceIdeal.nD Cert.AdamSmallReferenceIdeal.τ).loc Cert.AdamSmallReferenceIdeal.main_v58) = v15 c
          ∧ r.2.mem ((c.tc : Thread Cert.AdamSmallReferenceIdeal.nD Cert.AdamSmallReferenceIdeal.τ).loc Cert.AdamSmallReferenceIdeal.main_v59) = v16 c
          ∧ r.2.mem ((c.tc : Thread Cert.AdamSmallReferenceIdeal.nD Cert.AdamSmallReferenceIdeal.τ).loc Cert.AdamSmallReferenceIdeal.main_v61) = v17 c
          ∧ r.2.mem ((c.tc : Thread Cert.AdamSmallReferenceIdeal.nD Cert.AdamSmallReferenceIdeal.τ).loc Cert.AdamSmallReferenceIdeal.main_v63) = v18 c
          ∧ r.2.mem ((c.tc : Thread Cert.AdamSmallReferenceIdeal.nD Cert.AdamSmallReferenceIdeal.τ).loc Cert.AdamSmallReferenceIdeal.main_v65) = v19 c
          ∧ r.2.mem ((c.tc : Thread Cert.AdamSmallReferenceIdeal.nD Cert.AdamSmallReferenceIdeal.τ).loc Cert.AdamSmallReferenceIdeal.main_v67) = v20 c
          ∧ r.2.mem ((c.tc : Thread Cert.AdamSmallReferenceIdeal.nD Cert.AdamSmallReferenceIdeal.τ).loc Cert.AdamSmallReferenceIdeal.main_v69) = v21 c
          ∧ r.2.mem ((c.tc : Thread Cert.AdamSmallReferenceIdeal.nD Cert.AdamSmallReferenceIdeal.τ).loc Cert.AdamSmallReferenceIdeal.main_v71) = v22 c
          ∧ r.2.mem ((c.tc : Thread Cert.AdamSmallReferenceIdeal.nD Cert.AdamSmallReferenceIdeal.τ).loc Cert.AdamSmallReferenceIdeal.main_v73) = v23 c
          ∧ r.2.mem ((c.tc : Thread Cert.AdamSmallReferenceIdeal.nD Cert.AdamSmallReferenceIdeal.τ).loc Cert.AdamSmallReferenceIdeal.main_v75) = v24 c
          ∧ r.2.mem ((c.tc : Thread Cert.AdamSmallReferenceIdeal.nD Cert.AdamSmallReferenceIdeal.τ).loc Cert.AdamSmallReferenceIdeal.main_v76) = v25 c
          ∧ r.2.mem ((c.tc : Thread Cert.AdamSmallReferenceIdeal.nD Cert.AdamSmallReferenceIdeal.τ).loc Cert.AdamSmallReferenceIdeal.main_v78) = v26 c
          ∧ r.2.mem ((c.tc : Thread Cert.AdamSmallReferenceIdeal.nD Cert.AdamSmallReferenceIdeal.τ).loc Cert.AdamSmallReferenceIdeal.main_v80) = v27 c
          ∧ r.2.mem ((c.tc : Thread Cert.AdamSmallReferenceIdeal.nD Cert.AdamSmallReferenceIdeal.τ).loc Cert.AdamSmallReferenceIdeal.main_v82) = v28 c
          ∧ r.2.mem ((c.tc : Thread Cert.AdamSmallReferenceIdeal.nD Cert.AdamSmallReferenceIdeal.τ).loc Cert.AdamSmallReferenceIdeal.main_v84) = v29 c
          ∧ r.2.mem ((c.tc : Thread Cert.AdamSmallReferenceIdeal.nD Cert.AdamSmallReferenceIdeal.τ).loc Cert.AdamSmallReferenceIdeal.main_v86) = v30 c
          ∧ r.2.mem ((c.tc : Thread Cert.AdamSmallReferenceIdeal.nD Cert.AdamSmallReferenceIdeal.τ).loc Cert.AdamSmallReferenceIdeal.main_v88) = v31 c
          ∧ r.2.mem ((c.tc : Thread Cert.AdamSmallReferenceIdeal.nD Cert.AdamSmallReferenceIdeal.τ).loc Cert.AdamSmallReferenceIdeal.main_v90) = v32 c
          ∧ r.2.mem ((c.tc : Thread Cert.AdamSmallReferenceIdeal.nD Cert.AdamSmallReferenceIdeal.τ).loc Cert.AdamSmallReferenceIdeal.main_v92) = v33 c
          ∧ r.2.mem ((c.tc : Thread Cert.AdamSmallReferenceIdeal.nD Cert.AdamSmallReferenceIdeal.τ).loc Cert.AdamSmallReferenceIdeal.main_v93) = v34 c
          ∧ r.2.mem ((c.tc : Thread Cert.AdamSmallReferenceIdeal.nD Cert.AdamSmallReferenceIdeal.τ).loc Cert.AdamSmallReferenceIdeal.main_v95) = v35 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamLru_AdamLruIdeal : Prop :=
  True

def algebraic_AdamLruIdeal_AdamLruReferenceIdeal [hAdamLruIdeal : Cert.AdamLruIdeal.Facts] [hAdamLruReferenceIdeal : Cert.AdamLruReferenceIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruReferenceIdeal.nD Cert.AdamLruReferenceIdeal.τ Cert.AdamLruReferenceIdeal.sig) → Buf (Elt Ideal) ℓ) (g' : Dev Cert.AdamLruReferenceIdeal.nD → PrngReg), Pre_AdamLruIdeal m →
    (∀ c : Dev Cert.AdamLruIdeal.nD,
      m' ((c.tc : Thread Cert.AdamLruReferenceIdeal.nD Cert.AdamLruReferenceIdeal.τ).loc Cert.AdamLruReferenceIdeal.main_arg0) = m ((c.tc : Thread Cert.AdamLruIdeal.nD Cert.AdamLruIdeal.τ).loc Cert.AdamLruIdeal.main_arg0)
      ∧ m' ((c.tc : Thread Cert.AdamLruReferenceIdeal.nD Cert.AdamLruReferenceIdeal.τ).loc Cert.AdamLruReferenceIdeal.main_arg1) = m ((c.tc : Thread Cert.AdamLruIdeal.nD Cert.AdamLruIdeal.τ).loc Cert.AdamLruIdeal.main_arg1)
      ∧ m' ((c.tc : Thread Cert.AdamLruReferenceIdeal.nD Cert.AdamLruReferenceIdeal.τ).loc Cert.AdamLruReferenceIdeal.main_arg2) = m ((c.tc : Thread Cert.AdamLruIdeal.nD Cert.AdamLruIdeal.τ).loc Cert.AdamLruIdeal.main_arg2)
      ∧ m' ((c.tc : Thread Cert.AdamLruReferenceIdeal.nD Cert.AdamLruReferenceIdeal.τ).loc Cert.AdamLruReferenceIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v0_0)) (v1 : (c : Dev Cert.AdamLruIdeal.nD) → Buf (Elt Ideal) ((c.tc : Thread Cert.AdamLruIdeal.nD Cert.AdamLruIdeal.τ).loc Cert.AdamLruIdeal.main_v0_1)) (v2 : (c : Dev Cert.AdamLruIdeal.nD) → Buf (Elt Ideal) ((c.tc : Thread Cert.AdamLruIdeal.nD Cert.AdamLruIdeal.τ).loc Cert.AdamLruIdeal.main_v0_2)) (v3 : (c : Dev Cert.AdamLruIdeal.nD) → Buf (Elt Ideal) ((c.tc : Thread Cert.AdamLruIdeal.nD Cert.AdamLruIdeal.τ).loc Cert.AdamLruIdeal.main_v0_3)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v0_0) = v0 c
          ∧ r.2.mem ((c.tc : Thread Cert.AdamLruIdeal.nD Cert.AdamLruIdeal.τ).loc Cert.AdamLruIdeal.main_v0_1) = v1 c
          ∧ r.2.mem ((c.tc : Thread Cert.AdamLruIdeal.nD Cert.AdamLruIdeal.τ).loc Cert.AdamLruIdeal.main_v0_2) = v2 c
          ∧ r.2.mem ((c.tc : Thread Cert.AdamLruIdeal.nD Cert.AdamLruIdeal.τ).loc Cert.AdamLruIdeal.main_v0_3) = v3 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruReferenceIdeal.defs (F := Ideal)) (onTc (τ := Cert.AdamLruReferenceIdeal.τ) (Cert.AdamLruReferenceIdeal.main (F := Ideal))) ⟨m', fun _ => 0, g'⟩ (fun r => ∀ c : Dev Cert.AdamLruReferenceIdeal.nD,
          r.2.mem ((c.tc : Thread Cert.AdamLruReferenceIdeal.nD Cert.AdamLruReferenceIdeal.τ).loc Cert.AdamLruReferenceIdeal.main_v2) = v0 c
          ∧ r.2.mem ((c.tc : Thread Cert.AdamLruReferenceIdeal.nD Cert.AdamLruReferenceIdeal.τ).loc Cert.AdamLruReferenceIdeal.main_v26) = v1 c
          ∧ r.2.mem ((c.tc : Thread Cert.AdamLruReferenceIdeal.nD Cert.AdamLruReferenceIdeal.τ).loc Cert.AdamLruReferenceIdeal.main_v7) = v2 c
          ∧ r.2.mem ((c.tc : Thread Cert.AdamLruReferenceIdeal.nD Cert.AdamLruReferenceIdeal.τ).loc Cert.AdamLruReferenceIdeal.main_v13) = v3 c
          ∧ r.2.mem ((c.tc : Thread Cert.AdamLruReferenceIdeal.nD Cert.AdamLruReferenceIdeal.τ).loc Cert.AdamLruReferenceIdeal.main_arg0) = m' ((c.tc : Thread Cert.AdamLruReferenceIdeal.nD Cert.AdamLruReferenceIdeal.τ).loc Cert.AdamLruReferenceIdeal.main_arg0)
          ∧ r.2.mem ((c.tc : Thread Cert.AdamLruReferenceIdeal.nD Cert.AdamLruReferenceIdeal.τ).loc Cert.AdamLruReferenceIdeal.main_arg1) = m' ((c.tc : Thread Cert.AdamLruReferenceIdeal.nD Cert.AdamLruReferenceIdeal.τ).loc Cert.AdamLruReferenceIdeal.main_arg1)
          ∧ r.2.mem ((c.tc : Thread Cert.AdamLruReferenceIdeal.nD Cert.AdamLruReferenceIdeal.τ).loc Cert.AdamLruReferenceIdeal.main_arg2) = m' ((c.tc : Thread Cert.AdamLruReferenceIdeal.nD Cert.AdamLruReferenceIdeal.τ).loc Cert.AdamLruReferenceIdeal.main_arg2)
          ∧ r.2.mem ((c.tc : Thread Cert.AdamLruReferenceIdeal.nD Cert.AdamLruReferenceIdeal.τ).loc Cert.AdamLruReferenceIdeal.main_arg3) = m' ((c.tc : Thread Cert.AdamLruReferenceIdeal.nD Cert.AdamLruReferenceIdeal.τ).loc Cert.AdamLruReferenceIdeal.main_arg3))

def preserves_AdamFfnOut_AdamFfnOutIdeal : Prop :=
  True

def algebraic_AdamFfnOutIdeal_AdamFfnOutReferenceIdeal [hAdamFfnOutIdeal : Cert.AdamFfnOutIdeal.Facts] [hAdamFfnOutReferenceIdeal : Cert.AdamFfnOutReferenceIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutReferenceIdeal.nD Cert.AdamFfnOutReferenceIdeal.τ Cert.AdamFfnOutReferenceIdeal.sig) → Buf (Elt Ideal) ℓ) (g' : Dev Cert.AdamFfnOutReferenceIdeal.nD → PrngReg), Pre_AdamFfnOutIdeal m →
    (∀ c : Dev Cert.AdamFfnOutIdeal.nD,
      m' ((c.tc : Thread Cert.AdamFfnOutReferenceIdeal.nD Cert.AdamFfnOutReferenceIdeal.τ).loc Cert.AdamFfnOutReferenceIdeal.main_arg0) = m ((c.tc : Thread Cert.AdamFfnOutIdeal.nD Cert.AdamFfnOutIdeal.τ).loc Cert.AdamFfnOutIdeal.main_arg0)
      ∧ m' ((c.tc : Thread Cert.AdamFfnOutReferenceIdeal.nD Cert.AdamFfnOutReferenceIdeal.τ).loc Cert.AdamFfnOutReferenceIdeal.main_arg1) = m ((c.tc : Thread Cert.AdamFfnOutIdeal.nD Cert.AdamFfnOutIdeal.τ).loc Cert.AdamFfnOutIdeal.main_arg1)
      ∧ m' ((c.tc : Thread Cert.AdamFfnOutReferenceIdeal.nD Cert.AdamFfnOutReferenceIdeal.τ).loc Cert.AdamFfnOutReferenceIdeal.main_arg2) = m ((c.tc : Thread Cert.AdamFfnOutIdeal.nD Cert.AdamFfnOutIdeal.τ).loc Cert.AdamFfnOutIdeal.main_arg2)
      ∧ m' ((c.tc : Thread Cert.AdamFfnOutReferenceIdeal.nD Cert.AdamFfnOutReferenceIdeal.τ).loc Cert.AdamFfnOutReferenceIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutReferenceIdeal.defs (F := Ideal)) (onTc (τ := Cert.AdamFfnOutReferenceIdeal.τ) (Cert.AdamFfnOutReferenceIdeal.main (F := Ideal))) ⟨m', fun _ => 0, g'⟩ (fun r => ∀ c : Dev Cert.AdamFfnOutReferenceIdeal.nD,
          r.2.mem ((c.tc : Thread Cert.AdamFfnOutReferenceIdeal.nD Cert.AdamFfnOutReferenceIdeal.τ).loc Cert.AdamFfnOutReferenceIdeal.main_v3) = v0 c
          ∧ r.2.mem ((c.tc : Thread Cert.AdamFfnOutReferenceIdeal.nD Cert.AdamFfnOutReferenceIdeal.τ).loc Cert.AdamFfnOutReferenceIdeal.main_v27) = v1 c
          ∧ r.2.mem ((c.tc : Thread Cert.AdamFfnOutReferenceIdeal.nD Cert.AdamFfnOutReferenceIdeal.τ).loc Cert.AdamFfnOutReferenceIdeal.main_v8) = v2 c
          ∧ r.2.mem ((c.tc : Thread Cert.AdamFfnOutReferenceIdeal.nD Cert.AdamFfnOutReferenceIdeal.τ).loc Cert.AdamFfnOutReferenceIdeal.main_v14) = v3 c
          ∧ r.2.mem ((c.tc : Thread Cert.AdamFfnOutReferenceIdeal.nD Cert.AdamFfnOutReferenceIdeal.τ).loc Cert.AdamFfnOutReferenceIdeal.main_arg0) = m' ((c.tc : Thread Cert.AdamFfnOutReferenceIdeal.nD Cert.AdamFfnOutReferenceIdeal.τ).loc Cert.AdamFfnOutReferenceIdeal.main_arg0)
          ∧ r.2.mem ((c.tc : Thread Cert.AdamFfnOutReferenceIdeal.nD Cert.AdamFfnOutReferenceIdeal.τ).loc Cert.AdamFfnOutReferenceIdeal.main_arg1) = m' ((c.tc : Thread Cert.AdamFfnOutReferenceIdeal.nD Cert.AdamFfnOutReferenceIdeal.τ).loc Cert.AdamFfnOutReferenceIdeal.main_arg1)
          ∧ r.2.mem ((c.tc : Thread Cert.AdamFfnOutReferenceIdeal.nD Cert.AdamFfnOutReferenceIdeal.τ).loc Cert.AdamFfnOutReferenceIdeal.main_arg2) = m' ((c.tc : Thread Cert.AdamFfnOutReferenceIdeal.nD Cert.AdamFfnOutReferenceIdeal.τ).loc Cert.AdamFfnOutReferenceIdeal.main_arg2)
          ∧ r.2.mem ((c.tc : Thread Cert.AdamFfnOutReferenceIdeal.nD Cert.AdamFfnOutReferenceIdeal.τ).loc Cert.AdamFfnOutReferenceIdeal.main_arg3) = m' ((c.tc : Thread Cert.AdamFfnOutReferenceIdeal.nD Cert.AdamFfnOutReferenceIdeal.τ).loc Cert.AdamFfnOutReferenceIdeal.main_arg3))

def preserves_AdamFfnIn_AdamFfnInIdeal : Prop :=
  True

def algebraic_AdamFfnInIdeal_AdamFfnInReferenceIdeal [hAdamFfnInIdeal : Cert.AdamFfnInIdeal.Facts] [hAdamFfnInReferenceIdeal : Cert.AdamFfnInReferenceIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInReferenceIdeal.nD Cert.AdamFfnInReferenceIdeal.τ Cert.AdamFfnInReferenceIdeal.sig) → Buf (Elt Ideal) ℓ) (g' : Dev Cert.AdamFfnInReferenceIdeal.nD → PrngReg), Pre_AdamFfnInIdeal m →
    (∀ c : Dev Cert.AdamFfnInIdeal.nD,
      m' ((c.tc : Thread Cert.AdamFfnInReferenceIdeal.nD Cert.AdamFfnInReferenceIdeal.τ).loc Cert.AdamFfnInReferenceIdeal.main_arg0) = m ((c.tc : Thread Cert.AdamFfnInIdeal.nD Cert.AdamFfnInIdeal.τ).loc Cert.AdamFfnInIdeal.main_arg0)
      ∧ m' ((c.tc : Thread Cert.AdamFfnInReferenceIdeal.nD Cert.AdamFfnInReferenceIdeal.τ).loc Cert.AdamFfnInReferenceIdeal.main_arg1) = m ((c.tc : Thread Cert.AdamFfnInIdeal.nD Cert.AdamFfnInIdeal.τ).loc Cert.AdamFfnInIdeal.main_arg1)
      ∧ m' ((c.tc : Thread Cert.AdamFfnInReferenceIdeal.nD Cert.AdamFfnInReferenceIdeal.τ).loc Cert.AdamFfnInReferenceIdeal.main_arg2) = m ((c.tc : Thread Cert.AdamFfnInIdeal.nD Cert.AdamFfnInIdeal.τ).loc Cert.AdamFfnInIdeal.main_arg2)
      ∧ m' ((c.tc : Thread Cert.AdamFfnInReferenceIdeal.nD Cert.AdamFfnInReferenceIdeal.τ).loc Cert.AdamFfnInReferenceIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v1_0)) (v1 : (c : Dev Cert.AdamFfnInIdeal.nD) → Buf (Elt Ideal) ((c.tc : Thread Cert.AdamFfnInIdeal.nD Cert.AdamFfnInIdeal.τ).loc Cert.AdamFfnInIdeal.main_v1_1)) (v2 : (c : Dev Cert.AdamFfnInIdeal.nD) → Buf (Elt Ideal) ((c.tc : Thread Cert.AdamFfnInIdeal.nD Cert.AdamFfnInIdeal.τ).loc Cert.AdamFfnInIdeal.main_v1_2)) (v3 : (c : Dev Cert.AdamFfnInIdeal.nD) → Buf (Elt Ideal) ((c.tc : Thread Cert.AdamFfnInIdeal.nD Cert.AdamFfnInIdeal.τ).loc Cert.AdamFfnInIdeal.main_v1_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v1_0) = v0 c
          ∧ r.2.mem ((c.tc : Thread Cert.AdamFfnInIdeal.nD Cert.AdamFfnInIdeal.τ).loc Cert.AdamFfnInIdeal.main_v1_1) = v1 c
          ∧ r.2.mem ((c.tc : Thread Cert.AdamFfnInIdeal.nD Cert.AdamFfnInIdeal.τ).loc Cert.AdamFfnInIdeal.main_v1_2) = v2 c
          ∧ r.2.mem ((c.tc : Thread Cert.AdamFfnInIdeal.nD Cert.AdamFfnInIdeal.τ).loc Cert.AdamFfnInIdeal.main_v1_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInReferenceIdeal.defs (F := Ideal)) (onTc (τ := Cert.AdamFfnInReferenceIdeal.τ) (Cert.AdamFfnInReferenceIdeal.main (F := Ideal))) ⟨m', fun _ => 0, g'⟩ (fun r => ∀ c : Dev Cert.AdamFfnInReferenceIdeal.nD,
          r.2.mem ((c.tc : Thread Cert.AdamFfnInReferenceIdeal.nD Cert.AdamFfnInReferenceIdeal.τ).loc Cert.AdamFfnInReferenceIdeal.main_v4) = v0 c
          ∧ r.2.mem ((c.tc : Thread Cert.AdamFfnInReferenceIdeal.nD Cert.AdamFfnInReferenceIdeal.τ).loc Cert.AdamFfnInReferenceIdeal.main_v28) = v1 c
          ∧ r.2.mem ((c.tc : Thread Cert.AdamFfnInReferenceIdeal.nD Cert.AdamFfnInReferenceIdeal.τ).loc Cert.AdamFfnInReferenceIdeal.main_v9) = v2 c
          ∧ r.2.mem ((c.tc : Thread Cert.AdamFfnInReferenceIdeal.nD Cert.AdamFfnInReferenceIdeal.τ).loc Cert.AdamFfnInReferenceIdeal.main_v15) = v3 c
          ∧ r.2.mem ((c.tc : Thread Cert.AdamFfnInReferenceIdeal.nD Cert.AdamFfnInReferenceIdeal.τ).loc Cert.AdamFfnInReferenceIdeal.main_arg0) = m' ((c.tc : Thread Cert.AdamFfnInReferenceIdeal.nD Cert.AdamFfnInReferenceIdeal.τ).loc Cert.AdamFfnInReferenceIdeal.main_arg0)
          ∧ r.2.mem ((c.tc : Thread Cert.AdamFfnInReferenceIdeal.nD Cert.AdamFfnInReferenceIdeal.τ).loc Cert.AdamFfnInReferenceIdeal.main_arg1) = m' ((c.tc : Thread Cert.AdamFfnInReferenceIdeal.nD Cert.AdamFfnInReferenceIdeal.τ).loc Cert.AdamFfnInReferenceIdeal.main_arg1)
          ∧ r.2.mem ((c.tc : Thread Cert.AdamFfnInReferenceIdeal.nD Cert.AdamFfnInReferenceIdeal.τ).loc Cert.AdamFfnInReferenceIdeal.main_arg2) = m' ((c.tc : Thread Cert.AdamFfnInReferenceIdeal.nD Cert.AdamFfnInReferenceIdeal.τ).loc Cert.AdamFfnInReferenceIdeal.main_arg2)
          ∧ r.2.mem ((c.tc : Thread Cert.AdamFfnInReferenceIdeal.nD Cert.AdamFfnInReferenceIdeal.τ).loc Cert.AdamFfnInReferenceIdeal.main_arg3) = m' ((c.tc : Thread Cert.AdamFfnInReferenceIdeal.nD Cert.AdamFfnInReferenceIdeal.τ).loc Cert.AdamFfnInReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v7) = v0 c
          ∧ r.2.mem ((c.tc : Thread Cert.LossReferenceIdeal.nD Cert.LossReferenceIdeal.τ).loc Cert.LossReferenceIdeal.main_v8) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0))

def Claim : Prop :=
  ∃ (hKernel : Cert.Kernel.Facts) (hKernelIdeal : Cert.KernelIdeal.Facts) (hReferenceIdeal : Cert.ReferenceIdeal.Facts) (hWOut : Cert.WOut.Facts) (hWOutIdeal : Cert.WOutIdeal.Facts) (hWOutReferenceIdeal : Cert.WOutReferenceIdeal.Facts) (hWBranch : Cert.WBranch.Facts) (hWBranchIdeal : Cert.WBranchIdeal.Facts) (hWBranchReferenceIdeal : Cert.WBranchReferenceIdeal.Facts) (hWFfnOut : Cert.WFfnOut.Facts) (hWFfnOutIdeal : Cert.WFfnOutIdeal.Facts) (hWFfnOutReferenceIdeal : Cert.WFfnOutReferenceIdeal.Facts) (hWFfnIn : Cert.WFfnIn.Facts) (hWFfnInIdeal : Cert.WFfnInIdeal.Facts) (hWFfnInReferenceIdeal : Cert.WFfnInReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hFfnFwd : Cert.FfnFwd.Facts) (hFfnFwdIdeal : Cert.FfnFwdIdeal.Facts) (hFfnFwdReferenceIdeal : Cert.FfnFwdReferenceIdeal.Facts) (hAdam : Cert.Adam.Facts) (hAdamIdeal : Cert.AdamIdeal.Facts) (hAdamReferenceIdeal : Cert.AdamReferenceIdeal.Facts) (hAdamSmall : Cert.AdamSmall.Facts) (hAdamSmallIdeal : Cert.AdamSmallIdeal.Facts) (hAdamSmallReferenceIdeal : Cert.AdamSmallReferenceIdeal.Facts) (hAdamLru : Cert.AdamLru.Facts) (hAdamLruIdeal : Cert.AdamLruIdeal.Facts) (hAdamLruReferenceIdeal : Cert.AdamLruReferenceIdeal.Facts) (hAdamFfnOut : Cert.AdamFfnOut.Facts) (hAdamFfnOutIdeal : Cert.AdamFfnOutIdeal.Facts) (hAdamFfnOutReferenceIdeal : Cert.AdamFfnOutReferenceIdeal.Facts) (hAdamFfnIn : Cert.AdamFfnIn.Facts) (hAdamFfnInIdeal : Cert.AdamFfnInIdeal.Facts) (hAdamFfnInReferenceIdeal : Cert.AdamFfnInReferenceIdeal.Facts) (hAdamIn : Cert.AdamIn.Facts) (hAdamInIdeal : Cert.AdamInIdeal.Facts) (hAdamInReferenceIdeal : Cert.AdamInReferenceIdeal.Facts) (hLoss : Cert.Loss.Facts) (hLossIdeal : Cert.LossIdeal.Facts) (hLossReferenceIdeal : Cert.LossReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WOut (hWOut := hWOut)
    ∧ quiescent_WOutIdeal (hWOutIdeal := hWOutIdeal)
    ∧ quiescent_WOutReferenceIdeal (hWOutReferenceIdeal := hWOutReferenceIdeal)
    ∧ quiescent_WBranch (hWBranch := hWBranch)
    ∧ quiescent_WBranchIdeal (hWBranchIdeal := hWBranchIdeal)
    ∧ quiescent_WBranchReferenceIdeal (hWBranchReferenceIdeal := hWBranchReferenceIdeal)
    ∧ quiescent_WFfnOut (hWFfnOut := hWFfnOut)
    ∧ quiescent_WFfnOutIdeal (hWFfnOutIdeal := hWFfnOutIdeal)
    ∧ quiescent_WFfnOutReferenceIdeal (hWFfnOutReferenceIdeal := hWFfnOutReferenceIdeal)
    ∧ quiescent_WFfnIn (hWFfnIn := hWFfnIn)
    ∧ quiescent_WFfnInIdeal (hWFfnInIdeal := hWFfnInIdeal)
    ∧ quiescent_WFfnInReferenceIdeal (hWFfnInReferenceIdeal := hWFfnInReferenceIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Mix (hMix := hMix)
    ∧ quiescent_MixIdeal (hMixIdeal := hMixIdeal)
    ∧ quiescent_MixReferenceIdeal (hMixReferenceIdeal := hMixReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamLru (hAdamLru := hAdamLru)
    ∧ quiescent_AdamLruIdeal (hAdamLruIdeal := hAdamLruIdeal)
    ∧ quiescent_AdamLruReferenceIdeal (hAdamLruReferenceIdeal := hAdamLruReferenceIdeal)
    ∧ quiescent_AdamFfnOut (hAdamFfnOut := hAdamFfnOut)
    ∧ quiescent_AdamFfnOutIdeal (hAdamFfnOutIdeal := hAdamFfnOutIdeal)
    ∧ quiescent_AdamFfnOutReferenceIdeal (hAdamFfnOutReferenceIdeal := hAdamFfnOutReferenceIdeal)
    ∧ quiescent_AdamFfnIn (hAdamFfnIn := hAdamFfnIn)
    ∧ quiescent_AdamFfnInIdeal (hAdamFfnInIdeal := hAdamFfnInIdeal)
    ∧ quiescent_AdamFfnInReferenceIdeal (hAdamFfnInReferenceIdeal := hAdamFfnInReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WOut_WOutIdeal
    ∧ algebraic_WOutIdeal_WOutReferenceIdeal (hWOutIdeal := hWOutIdeal) (hWOutReferenceIdeal := hWOutReferenceIdeal)
    ∧ preserves_WBranch_WBranchIdeal
    ∧ algebraic_WBranchIdeal_WBranchReferenceIdeal (hWBranchIdeal := hWBranchIdeal) (hWBranchReferenceIdeal := hWBranchReferenceIdeal)
    ∧ preserves_WFfnOut_WFfnOutIdeal
    ∧ algebraic_WFfnOutIdeal_WFfnOutReferenceIdeal (hWFfnOutIdeal := hWFfnOutIdeal) (hWFfnOutReferenceIdeal := hWFfnOutReferenceIdeal)
    ∧ preserves_WFfnIn_WFfnInIdeal
    ∧ algebraic_WFfnInIdeal_WFfnInReferenceIdeal (hWFfnInIdeal := hWFfnInIdeal) (hWFfnInReferenceIdeal := hWFfnInReferenceIdeal)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Mix_MixIdeal
    ∧ algebraic_MixIdeal_MixReferenceIdeal (hMixIdeal := hMixIdeal) (hMixReferenceIdeal := hMixReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_Adam_AdamIdeal
    ∧ algebraic_AdamIdeal_AdamReferenceIdeal (hAdamIdeal := hAdamIdeal) (hAdamReferenceIdeal := hAdamReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamLru_AdamLruIdeal
    ∧ algebraic_AdamLruIdeal_AdamLruReferenceIdeal (hAdamLruIdeal := hAdamLruIdeal) (hAdamLruReferenceIdeal := hAdamLruReferenceIdeal)
    ∧ preserves_AdamFfnOut_AdamFfnOutIdeal
    ∧ algebraic_AdamFfnOutIdeal_AdamFfnOutReferenceIdeal (hAdamFfnOutIdeal := hAdamFfnOutIdeal) (hAdamFfnOutReferenceIdeal := hAdamFfnOutReferenceIdeal)
    ∧ preserves_AdamFfnIn_AdamFfnInIdeal
    ∧ algebraic_AdamFfnInIdeal_AdamFfnInReferenceIdeal (hAdamFfnInIdeal := hAdamFfnInIdeal) (hAdamFfnInReferenceIdeal := hAdamFfnInReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_Loss_LossIdeal
    ∧ algebraic_LossIdeal_LossReferenceIdeal (hLossIdeal := hLossIdeal) (hLossReferenceIdeal := hLossReferenceIdeal)
-- ==== Pre_finite.lean ====
abbrev S8320x8192 : Shape := ⟨2, ![8320, 8192]⟩
abbrev S8320x1024 : Shape := ⟨2, ![8320, 1024]⟩
abbrev S_ : Shape := ⟨0, ![]⟩

class Facts : Prop where
  bitsLt_bf16_f32 : FTy.bits .bf16 < FTy.bits .f32
  bcast_S_S8320x8192 : S_.BroadcastsInDim S8320x8192 (![] : Fin 0 → Fin S8320x8192.rank)
  reducesTo_S8320x8192_S_d0_1 : S8320x8192.ReducesTo [0, 1] S_
  h_S_ : 0 < S_.numel
  bcast_S_S8320x1024 : S_.BroadcastsInDim S8320x1024 (![] : Fin 0 → Fin S8320x1024.rank)
  reducesTo_S8320x1024_S_d0_1 : S8320x1024.ReducesTo [0, 1] S_

variable [Facts]

def fn {F : FTy → Type} [FloatOps F] (main_arg0 : FVec F S8320x8192 .bf16) (main_arg1 : FVec F S8320x1024 .bf16) (main_arg2 : FVec F S8320x8192 .bf16) : IVec S_ 1 :=
  let main_v0 : FVec F S8320x8192 .f32 := (extf .f32 · bitsLt_bf16_f32) main_arg0
  let main_v1 : FVec F S8320x8192 .f32 := Host.absf main_v0
  let main_cst : FVec F S_ .f32 := constant S_ .f32 0x7F800000#32
  let main_v2 : FVec F S8320x8192 .f32 := broadcastInDim S8320x8192 ![] bcast_S_S8320x8192 main_cst
  let main_v3 : IVec S8320x8192 1 := cmpf .olt main_v1 main_v2
  let main_c : IVec S_ 1 := constantI S_ 1 1#1
  let main_v4 : IVec S_ 1 := (fun x v => Host.reduce IntOp.andi x v reducesTo_S8320x8192_S_d0_1 h_S_) main_v3 main_c
  let main_v5 : FVec F S8320x1024 .f32 := (extf .f32 · bitsLt_bf16_f32) main_arg1
  let main_v6 : FVec F S8320x1024 .f32 := Host.absf main_v5
  let main_cst_0 : FVec F S_ .f32 := constant S_ .f32 0x7F800000#32
  let main_v7 : FVec F S8320x1024 .f32 := broadcastInDim S8320x1024 ![] bcast_S_S8320x1024 main_cst_0
  let main_v8 : IVec S8320x1024 1 := cmpf .olt main_v6 main_v7
  let main_c_1 : IVec S_ 1 := constantI S_ 1 1#1
  let main_v9 : IVec S_ 1 := (fun x v => Host.reduce IntOp.andi x v reducesTo_S8320x1024_S_d0_1 h_S_) main_v8 main_c_1
  let main_v10 : IVec S_ 1 := andi main_v4 main_v9
  main_v10
-- ==== Pre_finite_ffn.lean ====
abbrev S8320x1024 : Shape := ⟨2, ![8320, 1024]⟩
abbrev S1x1024 : Shape := ⟨2, ![1, 1024]⟩
abbrev S8x1024x768 : Shape := ⟨3, ![8, 1024, 768]⟩
abbrev S4x768x1024 : Shape := ⟨3, ![4, 768, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S8x1024x768 : S_.BroadcastsInDim S8x1024x768 (![] : Fin 0 → Fin S8x1024x768.rank)
  reducesTo_S8x1024x768_S_d0_1_2 : S8x1024x768.ReducesTo [0, 1, 2] S_
  bcast_S_S4x768x1024 : S_.BroadcastsInDim S4x768x1024 (![] : Fin 0 → Fin S4x768x1024.rank)
  reducesTo_S4x768x1024_S_d0_1_2 : S4x768x1024.ReducesTo [0, 1, 2] S_

variable [Facts]

def fn_part1 {F : FTy → Type} [FloatOps F] (main_arg4 : FVec F S4x768x1024 .bf16) (main_v3 : IVec S_ 1) (main_v7 : IVec S_ 1) (main_v11 : IVec S_ 1) (main_v15 : IVec S8x1024x768 1) (main_c_5 : IVec S_ 1) : IVec S_ 1 :=
  let main_v16 : IVec S_ 1 := (fun x v => Host.reduce IntOp.andi x v reducesTo_S8x1024x768_S_d0_1_2 h_S_) main_v15 main_c_5
  let main_v17 : FVec F S4x768x1024 .f32 := (extf .f32 · bitsLt_bf16_f32) main_arg4
  let main_v18 : FVec F S4x768x1024 .f32 := Host.absf main_v17
  let main_cst_6 : FVec F S_ .f32 := constant S_ .f32 0x7F800000#32
  let main_v19 : FVec F S4x768x1024 .f32 := broadcastInDim S4x768x1024 ![] bcast_S_S4x768x1024 main_cst_6
  let main_v20 : IVec S4x768x1024 1 := cmpf .olt main_v18 main_v19
  let main_c_7 : IVec S_ 1 := constantI S_ 1 1#1
  let main_v21 : IVec S_ 1 := (fun x v => Host.reduce IntOp.andi x v reducesTo_S4x768x1024_S_d0_1_2 h_S_) main_v20 main_c_7
  let main_v22 : IVec S_ 1 := andi main_v3 main_v7
  let main_v23 : IVec S_ 1 := andi main_v22 main_v11
  let main_v24 : IVec S_ 1 := andi main_v23 main_v16
  let main_v25 : IVec S_ 1 := andi main_v24 main_v21
  main_v25

def fn {F : FTy → Type} [FloatOps F] (main_arg0 : FVec F S8320x1024 .f32) (main_arg1 : FVec F S8320x1024 .f32) (main_arg2 : FVec F S1x1024 .f32) (main_arg3 : FVec F S8x1024x768 .bf16) (main_arg4 : FVec F S4x768x1024 .bf16) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S8x1024x768 .f32 := (extf .f32 · bitsLt_bf16_f32) main_arg3
  let main_v13 : FVec F S8x1024x768 .f32 := Host.absf main_v12
  let main_cst_4 : FVec F S_ .f32 := constant S_ .f32 0x7F800000#32
  let main_v14 : FVec F S8x1024x768 .f32 := broadcastInDim S8x1024x768 ![] bcast_S_S8x1024x768 main_cst_4
  let main_v15 : IVec S8x1024x768 1 := cmpf .olt main_v13 main_v14
  let main_c_5 : IVec S_ 1 := constantI S_ 1 1#1
  fn_part1 (F := F) main_arg4 main_v3 main_v7 main_v11 main_v15 main_c_5
-- ==== Kernel.lean ====
abbrev S8320x8192 : Shape := ⟨2, ![8320, 8192]⟩
abbrev S8320x1024 : Shape := ⟨2, ![8320, 1024]⟩
abbrev S8320 : Shape := ⟨1, ![8320]⟩
abbrev S_ : Shape := ⟨0, ![]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S8x128 : Shape := ⟨2, ![8, 128]⟩
abbrev S8x128x1 : Shape := ⟨3, ![8, 128, 1]⟩
abbrev S1x8x128x128 : Shape := ⟨4, ![1, 8, 128, 128]⟩
abbrev S4x8x128x128 : Shape := ⟨4, ![4, 8, 128, 128]⟩
abbrev S8320x4096 : Shape := ⟨2, ![8320, 4096]⟩
abbrev S8320x8x128 : Shape := ⟨3, ![8320, 8, 128]⟩
abbrev S8320x1x64 : Shape := ⟨3, ![8320, 1, 64]⟩
abbrev S8320x8x64 : Shape := ⟨3, ![8320, 8, 64]⟩
abbrev S1x8320 : Shape := ⟨2, ![1, 8320]⟩
abbrev S8320x8320 : Shape := ⟨2, ![8320, 8320]⟩
abbrev S1x8320x8320 : Shape := ⟨3, ![1, 8320, 8320]⟩
abbrev S8x8320x8320 : Shape := ⟨3, ![8, 8320, 8320]⟩
abbrev S8x128x8320 : Shape := ⟨3, ![8, 128, 8320]⟩
abbrev S65 : Shape := ⟨1, ![65]⟩
abbrev S65x1 : Shape := ⟨2, ![65, 1]⟩
abbrev S65x8320 : Shape := ⟨2, ![65, 8320]⟩
abbrev S1x65x8320 : Shape := ⟨3, ![1, 65, 8320]⟩
abbrev S8x65x8320 : Shape := ⟨3, ![8, 65, 8320]⟩
abbrev S1x8320x8x128 : Shape := ⟨4, ![1, 8320, 8, 128]⟩
abbrev S65x8320x8 : Shape := ⟨3, ![65, 8320, 8]⟩
abbrev S65x8320x8x1 : Shape := ⟨4, ![65, 8320, 8, 1]⟩
abbrev S65x8320x8x128 : Shape := ⟨4, ![65, 8320, 8, 128]⟩
abbrev S8x128x65x128 : Shape := ⟨4, ![8, 128, 65, 128]⟩
abbrev S65x8x128x128 : Shape := ⟨4, ![65, 8, 128, 128]⟩
abbrev S640x1024 : Shape := ⟨2, ![640, 1024]⟩
abbrev S5x8x128x128 : Shape := ⟨4, ![5, 8, 128, 128]⟩
abbrev S640x128 : Shape := ⟨2, ![640, 128]⟩
abbrev S640x4096 : Shape := ⟨2, ![640, 4096]⟩
abbrev S1x1x128x128 : Shape := ⟨4, ![1, 1, 128, 128]⟩

abbrev nBuf : Space → Nat
  | .hbm => 290
  | .vmem => 22
  | .smem => 0
  | _ => 0

abbrev hbmTy0_0 (i : Nat) : BufTy := match i % 128 with
  | 0 => ⟨S8320x8192, .bf16⟩
  | 1 => ⟨S8320x1024, .bf16⟩
  | 2 => ⟨S8320x8192, .bf16⟩
  | 3 => ⟨S8320, .i32⟩
  | 4 => ⟨S_, .i32⟩
  | 5 => ⟨S8320, .i32⟩
  | 6 => ⟨S8320, .i32⟩
  | 7 => ⟨S_, .i32⟩
  | 8 => ⟨S8320, .i32⟩
  | 9 => ⟨S8320, .i32⟩
  | 10 => ⟨S8320, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S8320x1, .f32⟩
  | 26 => ⟨S1x64, .f32⟩
  | 27 => ⟨S8320x64, .f32⟩
  | 28 => ⟨S8320x64, .f32⟩
  | 29 => ⟨S8320x64, .f32⟩
  | 30 => ⟨S8320x64, .f32⟩
  | 31 => ⟨S8320x64, .f32⟩
  | 32 => ⟨S8320x128, .f32⟩
  | 33 => ⟨S8320x64, .f32⟩
  | 34 => ⟨S8320x128, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8, .f32⟩
  | 46 => ⟨S128, .f32⟩
  | 47 => ⟨S128x1, .f32⟩
  | 48 => ⟨S1x128, .f32⟩
  | 49 => ⟨S128x128, .f32⟩
  | 50 => ⟨S128x128, .f32⟩
  | 51 => ⟨S128x128, .f32⟩
  | 52 => ⟨S1x128x128, .f32⟩
  | 53 => ⟨S_, .f32⟩
  | 54 => ⟨S1x128x128, .f32⟩
  | 55 => ⟨S1x128x128, .i1⟩
  | 56 => ⟨S_, .f32⟩
  | 57 => ⟨S128x128, .f32⟩
  | 58 => ⟨S128x128, .f32⟩
  | 59 => ⟨S1x128x128, .f32⟩
  | 60 => ⟨S8x1x1, .f32⟩
  | 61 => ⟨S8x128x128, .f32⟩
  | 62 => ⟨S8x128x128, .f32⟩
  | 63 => ⟨S8x128x128, .f32⟩
  | 64 => ⟨S8x128x128, .f32⟩
  | 65 => ⟨S_, .f32⟩
  | 66 => ⟨S_, .f32⟩
  | 67 => ⟨S8x128x128, .i1⟩
  | 68 => ⟨S8x128x128, .f32⟩
  | 69 => ⟨S8x128x128, .f32⟩
  | 70 => ⟨S_, .f32⟩
  | 71 => ⟨S128, .f32⟩
  | 72 => ⟨S128, .f32⟩
  | 73 => ⟨S128x1, .f32⟩
  | 74 => ⟨S1x8, .f32⟩
  | 75 => ⟨S128x8, .f32⟩
  | 76 => ⟨S128x8, .f32⟩
  | 77 => ⟨S128x8, .f32⟩
  | 78 => ⟨S128x8, .f32⟩
  | 79 => ⟨S_, .f32⟩
  | 80 => ⟨S128, .f32⟩
  | 81 => ⟨S128, .f32⟩
  | 82 => ⟨S128x1, .f32⟩
  | 83 => ⟨S1x8, .f32⟩
  | 84 => ⟨S128x8, .f32⟩
  | 85 => ⟨S128x8, .f32⟩
  | 86 => ⟨S128x8, .f32⟩
  | 87 => ⟨S128x8, .f32⟩
  | 88 => ⟨S_, .f32⟩
  | 89 => ⟨S8, .f32⟩
  | 90 => ⟨S8, .f32⟩
  | 91 => ⟨S8, .f32⟩
  | 92 => ⟨S8x128, .f32⟩
  | 93 => ⟨S8x128x1, .f32⟩
  | 94 => ⟨S8x128x128, .f32⟩
  | 95 => ⟨S8x128, .f32⟩
  | 96 => ⟨S8x128x1, .f32⟩
  | 97 => ⟨S8x128x128, .f32⟩
  | 98 => ⟨S8x1x1, .f32⟩
  | 99 => ⟨S8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S4x8x128x128, .f32⟩
  | 105 => ⟨S8320x4096, .bf16⟩
  | 106 => ⟨S8320x4096, .f32⟩
  | 107 => ⟨S8320x1024, .f32⟩
  | 108 => ⟨S8320x1024, .f32⟩
  | 109 => ⟨S8320x1024, .f32⟩
  | 110 => ⟨S8320x1024, .f32⟩
  | 111 => ⟨S8320, .i32⟩
  | 112 => ⟨S_, .i32⟩
  | 113 => ⟨S8320, .i32⟩
  | 114 => ⟨S8320, .i32⟩
  | 115 => ⟨S_, .i32⟩
  | 116 => ⟨S8320, .i32⟩
  | 117 => ⟨S8320, .i32⟩
  | 118 => ⟨S8320x8x128, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S_, .f32⟩
  | _ => ⟨S8320x8192, .bf16⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S8320, .f32⟩
  | 6 => ⟨S8320x1, .f32⟩
  | 7 => ⟨S1x64, .f32⟩
  | 8 => ⟨S8320x64, .f32⟩
  | 9 => ⟨S8320x64, .f32⟩
  | 10 => ⟨S8320x64, .f32⟩
  | 11 => ⟨S8320x64, .f32⟩
  | 12 => ⟨S8320x1x64, .f32⟩
  | 13 => ⟨S8320x64, .f32⟩
  | 14 => ⟨S8320x1x64, .f32⟩
  | 15 => ⟨S8320x8x64, .f32⟩
  | 16 => ⟨S8320x8x64, .f32⟩
  | 17 => ⟨S8320x8x64, .f32⟩
  | 18 => ⟨S8320x8x64, .f32⟩
  | 19 => ⟨S8320x8x64, .f32⟩
  | 20 => ⟨S8320x8x64, .f32⟩
  | 21 => ⟨S8320x8x64, .f32⟩
  | 22 => ⟨S8320x8x64, .f32⟩
  | 23 => ⟨S8320x8x64, .f32⟩
  | 24 => ⟨S8320x8x64, .f32⟩
  | 25 => ⟨S8320x8x64, .f32⟩
  | 26 => ⟨S8320x8x64, .f32⟩
  | 27 => ⟨S8320x8x128, .f32⟩
  | 28 => ⟨S8320x8x128, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S8320, .f32⟩
  | 44 => ⟨S8320x1, .f32⟩
  | 45 => ⟨S1x64, .f32⟩
  | 46 => ⟨S8320x64, .f32⟩
  | 47 => ⟨S8320x64, .f32⟩
  | 48 => ⟨S8320x64, .f32⟩
  | 49 => ⟨S8320x64, .f32⟩
  | 50 => ⟨S8320x1x64, .f32⟩
  | 51 => ⟨S8320x64, .f32⟩
  | 52 => ⟨S8320x1x64, .f32⟩
  | 53 => ⟨S8320x8x64, .f32⟩
  | 54 => ⟨S8320x8x64, .f32⟩
  | 55 => ⟨S8320x8x64, .f32⟩
  | 56 => ⟨S8320x8x64, .f32⟩
  | 57 => ⟨S8320x8x64, .f32⟩
  | 58 => ⟨S8320x8x64, .f32⟩
  | 59 => ⟨S8320x8x64, .f32⟩
  | 60 => ⟨S8320x8x64, .f32⟩
  | 61 => ⟨S8320x8x64, .f32⟩
  | 62 => ⟨S8320x8x64, .f32⟩
  | 63 => ⟨S8320x8x64, .f32⟩
  | 64 => ⟨S8320x8x64, .f32⟩
  | 65 => ⟨S8320x8x128, .f32⟩
  | 66 => ⟨S_, .f32⟩
  | 67 => ⟨S8320x8x128, .f32⟩
  | 68 => ⟨S8320x8x128, .f32⟩
  | 69 => ⟨S8320x8x128, .f32⟩
  | 70 => ⟨S8320, .f32⟩
  | 71 => ⟨S8320x1, .f32⟩
  | 72 => ⟨S1x8320, .f32⟩
  | 73 => ⟨S8320x8320, .f32⟩
  | 74 => ⟨S8320x8320, .f32⟩
  | 75 => ⟨S8320x8320, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S1x8320x8320, .f32⟩
  | 88 => ⟨S_, .f32⟩
  | 89 => ⟨S1x8320x8320, .f32⟩
  | 90 => ⟨S1x8320x8320, .i1⟩
  | 91 => ⟨S_, .f32⟩
  | 92 => ⟨S8320x8320, .f32⟩
  | 93 => ⟨S8320x8320, .f32⟩
  | 94 => ⟨S1x8320x8320, .f32⟩
  | 95 => ⟨S8x1x1, .f32⟩
  | 96 => ⟨S8x8320x8320, .f32⟩
  | 97 => ⟨S8x8320x8320, .f32⟩
  | 98 => ⟨S8x8320x8320, .f32⟩
  | 99 => ⟨S8x8320x8320, .f32⟩
  | 100 => ⟨S_, .f32⟩
  | 101 => ⟨S_, .f32⟩
  | 102 => ⟨S8x8320x8320, .i1⟩
  | 103 => ⟨S8x8320x8320, .f32⟩
  | 104 => ⟨S8x8320x8320, .f32⟩
  | 105 => ⟨S8x8320x8320, .f32⟩
  | 106 => ⟨S8x8320x8320, .f32⟩
  | 107 => ⟨S8x128x8320, .f32⟩
  | 108 => ⟨S8320x8x128, .f32⟩
  | 109 => ⟨S8320x1024, .f32⟩
  | 110 => ⟨S8320x1024, .bf16⟩
  | 111 => ⟨S8320, .f32⟩
  | 112 => ⟨S65, .f32⟩
  | 113 => ⟨S65x1, .f32⟩
  | 114 => ⟨S_, .f32⟩
  | 115 => ⟨S65x1, .f32⟩
  | 116 => ⟨S65x1, .f32⟩
  | 117 => ⟨S_, .f32⟩
  | 118 => ⟨S65x1, .f32⟩
  | 119 => ⟨S65x1, .f32⟩
  | 120 => ⟨S1x8320, .f32⟩
  | 121 => ⟨S65x8320, .f32⟩
  | 122 => ⟨S65x8320, .f32⟩
  | 123 => ⟨S65x8320, .f32⟩
  | 124 => ⟨S8, .f32⟩
  | 125 => ⟨S_, .f32⟩
  | 126 => ⟨S8, .f32⟩
  | 127 => ⟨S8, .f32⟩
  | _ => ⟨S8320x8192, .bf16⟩

abbrev hbmTy0_2 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S8, .f32⟩
  | 7 => ⟨S1x65x8320, .f32⟩
  | 8 => ⟨S_, .f32⟩
  | 9 => ⟨S1x65x8320, .f32⟩
  | 10 => ⟨S1x65x8320, .i1⟩
  | 11 => ⟨S_, .f32⟩
  | 12 => ⟨S65x8320, .f32⟩
  | 13 => ⟨S65x8320, .f32⟩
  | 14 => ⟨S1x65x8320, .f32⟩
  | 15 => ⟨S8x1x1, .f32⟩
  | 16 => ⟨S8x65x8320, .f32⟩
  | 17 => ⟨S8x65x8320, .f32⟩
  | 18 => ⟨S8x65x8320, .f32⟩
  | 19 => ⟨S8x65x8320, .f32⟩
  | 20 => ⟨S_, .f32⟩
  | 21 => ⟨S_, .f32⟩
  | 22 => ⟨S8x65x8320, .i1⟩
  | 23 => ⟨S8x65x8320, .f32⟩
  | 24 => ⟨S8x65x8320, .f32⟩
  | 25 => ⟨S1x8320x8x128, .f32⟩
  | 26 => ⟨S65x8320x8, .f32⟩
  | 27 => ⟨S65x8320x8x1, .f32⟩
  | 28 => ⟨S65x8320x8x128, .f32⟩
  | 29 => ⟨S65x8320x8x128, .f32⟩
  | 30 => ⟨S65x8320x8x128, .f32⟩
  | 31 => ⟨S8x128x65x128, .f32⟩
  | 32 => ⟨S65x8x128x128, .f32⟩
  | 33 => ⟨S8320x8192, .bf16⟩
  | _ => ⟨S8320x8192, .bf16⟩

abbrev hbmTy (i : Nat) : BufTy := match i / 128 with
  | 0 => hbmTy0_0 i
  | 1 => hbmTy0_1 i
  | 2 => hbmTy0_2 i
  | _ => ⟨S8320x8192, .bf16⟩

abbrev bufTy : (tb : Table) → Fin (tcTables nBuf tb) → BufTy
  | .hbm, ⟨i, _⟩ => hbmTy i
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S5x8x128x128, .f32⟩
  | .local _ .vmem, ⟨13, _⟩ => ⟨S5x8x128x128, .f32⟩
  | .local _ .vmem, ⟨14, _⟩ => ⟨S640x128, .f32⟩
  | .local _ .vmem, ⟨15, _⟩ => ⟨S640x128, .f32⟩
  | .local _ .vmem, ⟨16, _⟩ => ⟨S640x128, .f32⟩
  | .local _ .vmem, ⟨17, _⟩ => ⟨S640x128, .f32⟩
  | .local _ .vmem, ⟨18, _⟩ => ⟨S4x8x128x128, .f32⟩
  | .local _ .vmem, ⟨19, _⟩ => ⟨S640x4096, .bf16⟩
  | .local _ .vmem, ⟨20, _⟩ => ⟨S640x4096, .bf16⟩
  | .local _ .vmem, ⟨21, _⟩ => ⟨S8x128x128, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_13 : Ref sig .tc := ⟨.hbm, 112, rfl⟩
abbrev main_v91 : Ref sig .tc := ⟨.hbm, 113, rfl⟩
abbrev main_v92 : Ref sig .tc := ⟨.hbm, 114, rfl⟩
abbrev main_c_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_15 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_17 : Ref sig .tc := ⟨.hbm, 127, rfl⟩
abbrev main_v102 : Ref sig .tc := ⟨.hbm, 128, rfl⟩
abbrev main_v103 : Ref sig .tc := ⟨.hbm, 129, rfl⟩
abbrev main_cst_18 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_19 : Ref sig .tc := ⟨.hbm, 158, rfl⟩
abbrev main_v131 : Ref sig .tc := ⟨.hbm, 159, rfl⟩
abbrev main_v132 : Ref sig .tc := ⟨.hbm, 160, rfl⟩
abbrev main_cst_20 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_21 : Ref sig .tc := ⟨.hbm, 165, rfl⟩
abbrev main_v136 : Ref sig .tc := ⟨.hbm, 166, rfl⟩
abbrev main_v137 : Ref sig .tc := ⟨.hbm, 167, rfl⟩
abbrev main_cst_22 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_23 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_cst_24 : Ref sig .tc := ⟨.hbm, 205, rfl⟩
abbrev main_v173 : Ref sig .tc := ⟨.hbm, 206, rfl⟩
abbrev main_v174 : Ref sig .tc := ⟨.hbm, 207, rfl⟩
abbrev main_cst_25 : Ref sig .tc := ⟨.hbm, 208, rfl⟩
abbrev main_v175 : Ref sig .tc := ⟨.hbm, 209, rfl⟩
abbrev main_v176 : Ref sig .tc := ⟨.hbm, 210, rfl⟩
abbrev main_cst_26 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_cst_27 : Ref sig .tc := ⟨.hbm, 216, rfl⟩
abbrev main_v181 : Ref sig .tc := ⟨.hbm, 217, rfl⟩
abbrev main_v182 : Ref sig .tc := ⟨.hbm, 218, rfl⟩
abbrev main_cst_28 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_cst_29 : Ref sig .tc := ⟨.hbm, 228, rfl⟩
abbrev main_call1_v0 : Ref sig .tc := ⟨.hbm, 229, rfl⟩
abbrev main_call1_v1 : Ref sig .tc := ⟨.hbm, 230, rfl⟩
abbrev main_call1_v2 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_cst_30 : Ref sig .tc := ⟨.hbm, 242, rfl⟩
abbrev main_v201 : Ref sig .tc := ⟨.hbm, 243, rfl⟩
abbrev main_v202 : Ref sig .tc := ⟨.hbm, 244, rfl⟩
abbrev main_cst_31 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_cst_32 : Ref sig .tc := ⟨.hbm, 253, rfl⟩
abbrev main_v210 : Ref sig .tc := ⟨.hbm, 254, rfl⟩
abbrev main_v211 : Ref sig .tc := ⟨.hbm, 255, rfl⟩
abbrev main_cst_33 : Ref sig .tc := ⟨.hbm, 256, rfl⟩
abbrev main_v212 : Ref sig .tc := ⟨.hbm, 257, rfl⟩
abbrev main_v213 : Ref sig .tc := ⟨.hbm, 258, rfl⟩
abbrev main_cst_34 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_cst_35 : Ref sig .tc := ⟨.hbm, 264, rfl⟩
abbrev main_v218 : Ref sig .tc := ⟨.hbm, 265, rfl⟩
abbrev main_v219 : Ref sig .tc := ⟨.hbm, 266, rfl⟩
abbrev main_cst_36 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_cst_37 : Ref sig .tc := ⟨.hbm, 276, rfl⟩
abbrev main_call2_v0 : Ref sig .tc := ⟨.hbm, 277, rfl⟩
abbrev main_call2_v1 : Ref sig .tc := ⟨.hbm, 278, rfl⟩
abbrev main_call2_v2 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c12_i32 : BitVec 32 := 12#32
  let v0 : BitVec 32 := Scalar.subi c12_i32 arg0
  let c3_i32 : BitVec 32 := 3#32
  let c0_i32 : BitVec 32 := 0#32
  ![v0.toNat, c3_i32.toNat]

def cc0_transform_6 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S640x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8320x8192 : Shape := ⟨2, ![8320, 8192]⟩
abbrev S8320x1024 : Shape := ⟨2, ![8320, 1024]⟩
abbrev S8320x4096 : Shape := ⟨2, ![8320, 4096]⟩
abbrev S8320 : Shape := ⟨1, ![8320]⟩
abbrev S_ : Shape := ⟨0, ![]⟩
abbrev S8320x8x128 : Shape := ⟨3, ![8320, 8, 128]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x1x64 : Shape := ⟨3, ![8320, 1, 64]⟩
abbrev S8320x8x64 : Shape := ⟨3, ![8320, 8, 64]⟩
abbrev S1x8320 : Shape := ⟨2, ![1, 8320]⟩
abbrev S8320x8320 : Shape := ⟨2, ![8320, 8320]⟩
abbrev S8 : Shape := ⟨1, ![8]⟩
abbrev S1x8320x8320 : Shape := ⟨3, ![1, 8320, 8320]⟩
abbrev S8x1x1 : Shape := ⟨3, ![8, 1, 1]⟩
abbrev S8x8320x8320 : Shape := ⟨3, ![8, 8320, 8320]⟩
abbrev S8x128x8320 : Shape := ⟨3, ![8, 128, 8320]⟩
abbrev S8320x8 : Shape := ⟨2, ![8320, 8]⟩
abbrev S8320x8x1 : Shape := ⟨3, ![8320, 8, 1]⟩
abbrev S8x8320x128 : Shape := ⟨3, ![8, 8320, 128]⟩

abbrev nBuf : Space → Nat
  | .hbm => 249
  | .vmem => 0
  | .smem => 0
  | _ => 0

abbrev hbmTy0_0 (i : Nat) : BufTy := match i % 128 with
  | 0 => ⟨S8320x8192, .bf16⟩
  | 1 => ⟨S8320x1024, .bf16⟩
  | 2 => ⟨S8320x8192, .bf16⟩
  | 3 => ⟨S8320x4096, .bf16⟩
  | 4 => ⟨S8320x4096, .f32⟩
  | 5 => ⟨S8320x1024, .f32⟩
  | 6 => ⟨S8320x1024, .f32⟩
  | 7 => ⟨S8320x1024, .f32⟩
  | 8 => ⟨S8320x1024, .f32⟩
  | 9 => ⟨S8320, .i32⟩
  | 10 => ⟨S_, .i32⟩
  | 11 => ⟨S8320, .i32⟩
  | 12 => ⟨S8320, .i32⟩
  | 13 => ⟨S_, .i32⟩
  | 14 => ⟨S8320, .i32⟩
  | 15 => ⟨S8320, .i32⟩
  | 16 => ⟨S8320x8x128, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S8320, .f32⟩
  | 32 => ⟨S8320x1, .f32⟩
  | 33 => ⟨S1x64, .f32⟩
  | 34 => ⟨S8320x64, .f32⟩
  | 35 => ⟨S8320x64, .f32⟩
  | 36 => ⟨S8320x64, .f32⟩
  | 37 => ⟨S8320x64, .f32⟩
  | 38 => ⟨S8320x1x64, .f32⟩
  | 39 => ⟨S8320x64, .f32⟩
  | 40 => ⟨S8320x1x64, .f32⟩
  | 41 => ⟨S8320x8x64, .f32⟩
  | 42 => ⟨S8320x8x64, .f32⟩
  | 43 => ⟨S8320x8x64, .f32⟩
  | 44 => ⟨S8320x8x64, .f32⟩
  | 45 => ⟨S8320x8x64, .f32⟩
  | 46 => ⟨S8320x8x64, .f32⟩
  | 47 => ⟨S8320x8x64, .f32⟩
  | 48 => ⟨S8320x8x64, .f32⟩
  | 49 => ⟨S8320x8x64, .f32⟩
  | 50 => ⟨S8320x8x64, .f32⟩
  | 51 => ⟨S8320x8x64, .f32⟩
  | 52 => ⟨S8320x8x64, .f32⟩
  | 53 => ⟨S8320x8x128, .f32⟩
  | 54 => ⟨S8320x8x128, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S8320, .f32⟩
  | 70 => ⟨S8320x1, .f32⟩
  | 71 => ⟨S1x64, .f32⟩
  | 72 => ⟨S8320x64, .f32⟩
  | 73 => ⟨S8320x64, .f32⟩
  | 74 => ⟨S8320x64, .f32⟩
  | 75 => ⟨S8320x64, .f32⟩
  | 76 => ⟨S8320x1x64, .f32⟩
  | 77 => ⟨S8320x64, .f32⟩
  | 78 => ⟨S8320x1x64, .f32⟩
  | 79 => ⟨S8320x8x64, .f32⟩
  | 80 => ⟨S8320x8x64, .f32⟩
  | 81 => ⟨S8320x8x64, .f32⟩
  | 82 => ⟨S8320x8x64, .f32⟩
  | 83 => ⟨S8320x8x64, .f32⟩
  | 84 => ⟨S8320x8x64, .f32⟩
  | 85 => ⟨S8320x8x64, .f32⟩
  | 86 => ⟨S8320x8x64, .f32⟩
  | 87 => ⟨S8320x8x64, .f32⟩
  | 88 => ⟨S8320x8x64, .f32⟩
  | 89 => ⟨S8320x8x64, .f32⟩
  | 90 => ⟨S8320x8x64, .f32⟩
  | 91 => ⟨S8320x8x128, .f32⟩
  | 92 => ⟨S_, .f32⟩
  | 93 => ⟨S8320x8x128, .f32⟩
  | 94 => ⟨S8320x8x128, .f32⟩
  | 95 => ⟨S8320x8x128, .f32⟩
  | 96 => ⟨S8320, .f32⟩
  | 97 => ⟨S8320x1, .f32⟩
  | 98 => ⟨S1x8320, .f32⟩
  | 99 => ⟨S8320x8320, .f32⟩
  | 100 => ⟨S8320x8320, .f32⟩
  | 101 => ⟨S8320x8320, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S8, .f32⟩
  | 113 => ⟨S1x8320x8320, .f32⟩
  | 114 => ⟨S_, .f32⟩
  | 115 => ⟨S1x8320x8320, .f32⟩
  | 116 => ⟨S1x8320x8320, .i1⟩
  | 117 => ⟨S_, .f32⟩
  | 118 => ⟨S8320x8320, .f32⟩
  | 119 => ⟨S8320x8320, .f32⟩
  | 120 => ⟨S1x8320x8320, .f32⟩
  | 121 => ⟨S8x1x1, .f32⟩
  | 122 => ⟨S8x8320x8320, .f32⟩
  | 123 => ⟨S8x8320x8320, .f32⟩
  | 124 => ⟨S8x8320x8320, .f32⟩
  | 125 => ⟨S8x8320x8320, .f32⟩
  | 126 => ⟨S_, .f32⟩
  | 127 => ⟨S_, .f32⟩
  | _ => ⟨S8320x8192, .bf16⟩

abbrev hbmTy0_1 (i : Nat) : BufTy := match i % 128 with
  | 0 => ⟨S8x8320x8320, .i1⟩
  | 1 => ⟨S8x8320x8320, .f32⟩
  | 2 => ⟨S8x8320x8320, .f32⟩
  | 3 => ⟨S8x8320x8320, .f32⟩
  | 4 => ⟨S8x8320x8320, .f32⟩
  | 5 => ⟨S8x128x8320, .f32⟩
  | 6 => ⟨S8320x8x128, .f32⟩
  | 7 => ⟨S8320x8x128, .f32⟩
  | 8 => ⟨S_, .f32⟩
  | 9 => ⟨S8320x8, .f32⟩
  | 10 => ⟨S8320x8x1, .f32⟩
  | 11 => ⟨S_, .f32⟩
  | 12 => ⟨S8320x8x1, .f32⟩
  | 13 => ⟨S8320x8x1, .f32⟩
  | 14 => ⟨S_, .f32⟩
  | 15 => ⟨S8320x8x1, .f32⟩
  | 16 => ⟨S8320x8x1, .f32⟩
  | 17 => ⟨S8320x8x1, .f32⟩
  | 18 => ⟨S8320x8x1, .f32⟩
  | 19 => ⟨S_, .f32⟩
  | 20 => ⟨S8320x8x1, .f32⟩
  | 21 => ⟨S8320x8x1, .f32⟩
  | 22 => ⟨S8320x8x128, .f32⟩
  | 23 => ⟨S8320x8x128, .f32⟩
  | 24 => ⟨S8320x1024, .f32⟩
  | 25 => ⟨S8320x1024, .f32⟩
  | 26 => ⟨S_, .f32⟩
  | 27 => ⟨S8320x1024, .f32⟩
  | 28 => ⟨S8320x1024, .f32⟩
  | 29 => ⟨S_, .f32⟩
  | 30 => ⟨S8320x1024, .f32⟩
  | 31 => ⟨S8320x1024, .f32⟩
  | 32 => ⟨S_, .f32⟩
  | 33 => ⟨S8320x1024, .f32⟩
  | 34 => ⟨S8320x1024, .f32⟩
  | 35 => ⟨S8320x1024, .f32⟩
  | 36 => ⟨S8320x1024, .f32⟩
  | 37 => ⟨S8320x1024, .f32⟩
  | 38 => ⟨S8320x1024, .f32⟩
  | 39 => ⟨S8320x1024, .f32⟩
  | 40 => ⟨S8320x1024, .f32⟩
  | 41 => ⟨S8320x1024, .f32⟩
  | 42 => ⟨S8320x8x128, .f32⟩
  | 43 => ⟨S8320x1024, .f32⟩
  | 44 => ⟨S8320x1024, .f32⟩
  | 45 => ⟨S8320x1024, .f32⟩
  | 46 => ⟨S8320x1024, .f32⟩
  | 47 => ⟨S8320x8x128, .f32⟩
  | 48 => ⟨S_, .f32⟩
  | 49 => ⟨S8320x8, .f32⟩
  | 50 => ⟨S8320x8x1, .f32⟩
  | 51 => ⟨S8320x8x128, .f32⟩
  | 52 => ⟨S8320x8x128, .f32⟩
  | 53 => ⟨S8320x8x1, .f32⟩
  | 54 => ⟨S_, .f32⟩
  | 55 => ⟨S8320x8x1, .f32⟩
  | 56 => ⟨S8320x8x1, .f32⟩
  | 57 => ⟨S_, .f32⟩
  | 58 => ⟨S8320x8, .f32⟩
  | 59 => ⟨S8320x8x128, .f32⟩
  | 60 => ⟨S8320x8x128, .f32⟩
  | 61 => ⟨S8320x8x128, .f32⟩
  | 62 => ⟨S8320x8x128, .f32⟩
  | 63 => ⟨S8320x8x128, .f32⟩
  | 64 => ⟨S8x128x8320, .f32⟩
  | 65 => ⟨S8x8320x8320, .f32⟩
  | 66 => ⟨S8x128x8320, .f32⟩
  | 67 => ⟨S8320x8x128, .f32⟩
  | 68 => ⟨S8x8320x8320, .f32⟩
  | 69 => ⟨S8x8320x128, .f32⟩
  | 70 => ⟨S8320x8x128, .f32⟩
  | 71 => ⟨S8x8320x128, .f32⟩
  | 72 => ⟨S8320x8x128, .f32⟩
  | 73 => ⟨S8320x1024, .f32⟩
  | 74 => ⟨S_, .f32⟩
  | 75 => ⟨S8320x8x128, .f32⟩
  | 76 => ⟨S8320x8x128, .f32⟩
  | 77 => ⟨S8320x8x64, .f32⟩
  | 78 => ⟨S8320x8x64, .f32⟩
  | 79 => ⟨S8320x8x64, .f32⟩
  | 80 => ⟨S8320x8x64, .f32⟩
  | 81 => ⟨S8320x8x64, .f32⟩
  | 82 => ⟨S8320x8x64, .f32⟩
  | 83 => ⟨S8320x8x64, .f32⟩
  | 84 => ⟨S8320x8x64, .f32⟩
  | 85 => ⟨S8320x8x64, .f32⟩
  | 86 => ⟨S8320x8x64, .f32⟩
  | 87 => ⟨S8320x8x64, .f32⟩
  | 88 => ⟨S8320x8x64, .f32⟩
  | 89 => ⟨S8320x8x64, .f32⟩
  | 90 => ⟨S_, .f32⟩
  | 91 => ⟨S8320x8x128, .f32⟩
  | 92 => ⟨S_, .f32⟩
  | 93 => ⟨S8320x8x128, .f32⟩
  | 94 => ⟨S8320x8x128, .f32⟩
  | 95 => ⟨S8320x1024, .f32⟩
  | 96 => ⟨S8320x8x64, .f32⟩
  | 97 => ⟨S8320x8x64, .f32⟩
  | 98 => ⟨S8320x8x64, .f32⟩
  | 99 => ⟨S8320x8x64, .f32⟩
  | 100 => ⟨S8320x8x64, .f32⟩
  | 101 => ⟨S8320x8x64, .f32⟩
  | 102 => ⟨S8320x8x64, .f32⟩
  | 103 => ⟨S8320x8x64, .f32⟩
  | 104 => ⟨S8320x8x64, .f32⟩
  | 105 => ⟨S8320x8x64, .f32⟩
  | 106 => ⟨S8320x8x64, .f32⟩
  | 107 => ⟨S8320x8x64, .f32⟩
  | 108 => ⟨S8320x8x64, .f32⟩
  | 109 => ⟨S_, .f32⟩
  | 110 => ⟨S8320x8x128, .f32⟩
  | 111 => ⟨S_, .f32⟩
  | 112 => ⟨S8320x8x128, .f32⟩
  | 113 => ⟨S8320x8x128, .f32⟩
  | 114 => ⟨S8320x1024, .f32⟩
  | 115 => ⟨S8320x1024, .bf16⟩
  | 116 => ⟨S8320x1024, .bf16⟩
  | 117 => ⟨S8320x1024, .bf16⟩
  | 118 => ⟨S8320x1024, .bf16⟩
  | 119 => ⟨S8320x4096, .bf16⟩
  | 120 => ⟨S8320x8192, .bf16⟩
  | _ => ⟨S8320x8192, .bf16⟩

abbrev hbmTy (i : Nat) : BufTy := match i / 128 with
  | 0 => hbmTy0_0 i
  | 1 => hbmTy0_1 i
  | _ => ⟨S8320x8192, .bf16⟩

abbrev bufTy : (tb : Table) → Fin (tcTables nBuf tb) → BufTy
  | .hbm, ⟨i, _⟩ => hbmTy i
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_8 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_9 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_cst_11 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_12 : Ref sig .tc := ⟨.hbm, 114, rfl⟩
abbrev main_v97 : Ref sig .tc := ⟨.hbm, 115, rfl⟩
abbrev main_v98 : Ref sig .tc := ⟨.hbm, 116, rfl⟩
abbrev main_cst_13 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_14 : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_15 : Ref sig .tc := ⟨.hbm, 136, rfl⟩
abbrev main_v113 : Ref sig .tc := ⟨.hbm, 137, rfl⟩
abbrev main_v114 : Ref sig .tc := ⟨.hbm, 138, rfl⟩
abbrev main_cst_16 : Ref sig .tc := ⟨.hbm, 139, rfl⟩
abbrev main_v115 : Ref sig .tc := ⟨.hbm, 140, rfl⟩
abbrev main_v116 : Ref sig .tc := ⟨.hbm, 141, rfl⟩
abbrev main_cst_17 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_v125_2 : Ref sig .tc := ⟨.hbm, 159, rfl⟩
abbrev main_call1_cst_1 : Ref sig .tc := ⟨.hbm, 160, rfl⟩
abbrev main_call1_v6 : Ref sig .tc := ⟨.hbm, 161, rfl⟩
abbrev main_call1_v7 : Ref sig .tc := ⟨.hbm, 162, rfl⟩
abbrev main_v125_1 : Ref sig .tc := ⟨.hbm, 163, rfl⟩
abbrev main_v125_0 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_call2_v0 : Ref sig .tc := ⟨.hbm, 171, rfl⟩
abbrev main_call2_v1 : Ref sig .tc := ⟨.hbm, 172, rfl⟩
abbrev main_call2_v2 : Ref sig .tc := ⟨.hbm, 173, rfl⟩
abbrev main_v132 : Ref sig .tc := ⟨.hbm, 174, rfl⟩
abbrev main_v133 : Ref sig .tc := ⟨.hbm, 175, rfl⟩
abbrev main_cst_19 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_20 : Ref sig .tc := ⟨.hbm, 182, rfl⟩
abbrev main_v139 : Ref sig .tc := ⟨.hbm, 183, rfl⟩
abbrev main_v140 : Ref sig .tc := ⟨.hbm, 184, rfl⟩
abbrev main_cst_21 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_22 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_23 : Ref sig .tc := ⟨.hbm, 218, rfl⟩
abbrev main_v172 : Ref sig .tc := ⟨.hbm, 219, rfl⟩
abbrev main_cst_24 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_25 : Ref sig .tc := ⟨.hbm, 237, rfl⟩
abbrev main_v189 : Ref sig .tc := ⟨.hbm, 238, rfl⟩
abbrev main_cst_26 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩

abbrev nD : Nat := 1
abbrev τ : Topo := Topo.v7x

variable {F : FTy → Type} [FloatOps F]
-- ==== WOut.lean ====
abbrev S8320x1024 : Shape := ⟨2, ![8320, 1024]⟩
abbrev S1x1x1024x1024 : Shape := ⟨4, ![1, 1, 1024, 1024]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1x1x1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1x1x1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutReferenceIdeal.lean ====
abbrev S8320x1024 : Shape := ⟨2, ![8320, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S8320x1024, .f32⟩
  | .hbm, ⟨3, _⟩ => ⟨S_, .f32⟩
  | .hbm, ⟨4, _⟩ => ⟨S1024x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1x1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WBranch.lean ====
abbrev S8320x1024 : Shape := ⟨2, ![8320, 1024]⟩
abbrev S1x1x1024x1024 : Shape := ⟨4, ![1, 1, 1024, 1024]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1x1x1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1x1x1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchReferenceIdeal.lean ====
abbrev S8320x1024 : Shape := ⟨2, ![8320, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .f32⟩
  | .hbm, ⟨3, _⟩ => ⟨S8320x1024, .f32⟩
  | .hbm, ⟨4, _⟩ => ⟨S_, .f32⟩
  | .hbm, ⟨5, _⟩ => ⟨S1024x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1x1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WFfnOut.lean ====
abbrev S8320x3072 : Shape := ⟨2, ![8320, 3072]⟩
abbrev S8320x1024 : Shape := ⟨2, ![8320, 1024]⟩
abbrev S4x1x768x1024 : Shape := ⟨4, ![4, 1, 768, 1024]⟩
abbrev S1664x768 : Shape := ⟨2, ![1664, 768]⟩
abbrev S1664x1024 : Shape := ⟨2, ![1664, 1024]⟩
abbrev S1x1x768x1024 : Shape := ⟨4, ![1, 1, 768, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .f32⟩
  | .hbm, ⟨2, _⟩ => ⟨S4x1x768x1024, .bf16⟩
  | .local _ .vmem, ⟨0, _⟩ => ⟨S1664x768, .bf16⟩
  | .local _ .vmem, ⟨1, _⟩ => ⟨S1664x768, .bf16⟩
  | .local _ .vmem, ⟨2, _⟩ => ⟨S1664x1024, .f32⟩
  | .local _ .vmem, ⟨3, _⟩ => ⟨S1664x1024, .f32⟩
  | .local _ .vmem, ⟨4, _⟩ => ⟨S1x1x768x1024, .bf16⟩
  | .local _ .vmem, ⟨5, _⟩ => ⟨S1x1x768x1024, .bf16⟩
  | .local _ .vmem, ⟨6, _⟩ => ⟨S768x1024, .f32⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1664x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFfnOutReferenceIdeal.lean ====
abbrev S8320x3072 : Shape := ⟨2, ![8320, 3072]⟩
abbrev S8320x1024 : Shape := ⟨2, ![8320, 1024]⟩
abbrev S_ : Shape := ⟨0, ![]⟩
abbrev S3072x1024 : Shape := ⟨2, ![3072, 1024]⟩
abbrev S1024x3072 : Shape := ⟨2, ![1024, 3072]⟩
abbrev S4x1x768x1024 : Shape := ⟨4, ![4, 1, 768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .f32⟩
  | .hbm, ⟨2, _⟩ => ⟨S8320x3072, .f32⟩
  | .hbm, ⟨3, _⟩ => ⟨S_, .f32⟩
  | .hbm, ⟨4, _⟩ => ⟨S3072x1024, .f32⟩
  | .hbm, ⟨5, _⟩ => ⟨S8320x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | .hbm, ⟨9, _⟩ => ⟨S4x1x768x1024, .bf16⟩
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WFfnIn.lean ====
abbrev S8320x1024 : Shape := ⟨2, ![8320, 1024]⟩
abbrev S2x8320x3072 : Shape := ⟨3, ![2, 8320, 3072]⟩
abbrev S1x8x1024x768 : Shape := ⟨4, ![1, 8, 1024, 768]⟩
abbrev S1664x1024 : Shape := ⟨2, ![1664, 1024]⟩
abbrev S1x1664x768 : Shape := ⟨3, ![1, 1664, 768]⟩
abbrev S1x1x1024x768 : Shape := ⟨4, ![1, 1, 1024, 768]⟩
abbrev S1024x768 : Shape := ⟨2, ![1024, 768]⟩
abbrev S1664x768 : Shape := ⟨2, ![1664, 768]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S2x8320x3072, .bf16⟩
  | .hbm, ⟨2, _⟩ => ⟨S1x8x1024x768, .bf16⟩
  | .local _ .vmem, ⟨0, _⟩ => ⟨S1664x1024, .bf16⟩
  | .local _ .vmem, ⟨1, _⟩ => ⟨S1664x1024, .bf16⟩
  | .local _ .vmem, ⟨2, _⟩ => ⟨S1x1664x768, .bf16⟩
  | .local _ .vmem, ⟨3, _⟩ => ⟨S1x1664x768, .bf16⟩
  | .local _ .vmem, ⟨4, _⟩ => ⟨S1x1x1024x768, .bf16⟩
  | .local _ .vmem, ⟨5, _⟩ => ⟨S1x1x1024x768, .bf16⟩
  | .local _ .vmem, ⟨6, _⟩ => ⟨S1024x768, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFfnInReferenceIdeal.lean ====
abbrev S8320x1024 : Shape := ⟨2, ![8320, 1024]⟩
abbrev S2x8320x3072 : Shape := ⟨3, ![2, 8320, 3072]⟩
abbrev S1x8320x3072 : Shape := ⟨3, ![1, 8320, 3072]⟩
abbrev S8320x3072 : Shape := ⟨2, ![8320, 3072]⟩
abbrev S8320x6144 : Shape := ⟨2, ![8320, 6144]⟩
abbrev S_ : Shape := ⟨0, ![]⟩
abbrev S1024x6144 : Shape := ⟨2, ![1024, 6144]⟩
abbrev S6144x1024 : Shape := ⟨2, ![6144, 1024]⟩
abbrev S1x1024x8x768 : Shape := ⟨4, ![1, 1024, 8, 768]⟩
abbrev S1x8x1024x768 : Shape := ⟨4, ![1, 8, 1024, 768]⟩

abbrev nBuf : Space → Nat
  | .hbm => 17
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2x8320x3072, .bf16⟩
  | .hbm, ⟨2, _⟩ => ⟨S1x8320x3072, .bf16⟩
  | .hbm, ⟨3, _⟩ => ⟨S8320x3072, .bf16⟩
  | .hbm, ⟨4, _⟩ => ⟨S1x8320x3072, .bf16⟩
  | .hbm, ⟨5, _⟩ => ⟨S8320x3072, .bf16⟩
  | .hbm, ⟨6, _⟩ => ⟨S8320x6144, .bf16⟩
  | .hbm, ⟨7, _⟩ => ⟨S8320x1024, .f32⟩
  | .hbm, ⟨8, _⟩ => ⟨S8320x6144, .f32⟩
  | .hbm, ⟨9, _⟩ => ⟨S_, .f32⟩
  | .hbm, ⟨10, _⟩ => ⟨S1024x6144, .f32⟩
  | .hbm, ⟨11, _⟩ => ⟨S8320x6144, .f32⟩
  | .hbm, ⟨12, _⟩ => ⟨S6144x1024, .f32⟩
  | .hbm, ⟨13, _⟩ => ⟨S1024x6144, .f32⟩
  | .hbm, ⟨14, _⟩ => ⟨S1024x6144, .bf16⟩
  | .hbm, ⟨15, _⟩ => ⟨S1x1024x8x768, .bf16⟩
  | .hbm, ⟨16, _⟩ => ⟨S1x8x1024x768, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Ffn.lean ====
abbrev S8320x1024 : Shape := ⟨2, ![8320, 1024]⟩
abbrev S1x1024 : Shape := ⟨2, ![1, 1024]⟩
abbrev S8x1024x768 : Shape := ⟨3, ![8, 1024, 768]⟩
abbrev S4x768x1024 : Shape := ⟨3, ![4, 768, 1024]⟩
abbrev S1024x8x768 : Shape := ⟨3, ![1024, 8, 768]⟩
abbrev S1024x6144 : Shape := ⟨2, ![1024, 6144]⟩
abbrev S3072x1024 : Shape := ⟨2, ![3072, 1024]⟩
abbrev S_ : Shape := ⟨0, ![]⟩
abbrev S8320 : Shape := ⟨1, ![8320]⟩
abbrev S8320x1 : Shape := ⟨2, ![8320, 1]⟩
abbrev S8320x6144 : Shape := ⟨2, ![8320, 6144]⟩
abbrev S8320x3072 : Shape := ⟨2, ![8320, 3072]⟩
abbrev S2x8320x3072 : Shape := ⟨3, ![2, 8320, 3072]⟩
abbrev S8x1024 : Shape := ⟨2, ![8, 1024]⟩
abbrev S320x1024 : Shape := ⟨2, ![320, 1024]⟩
abbrev S320x3072 : Shape := ⟨2, ![320, 3072]⟩
abbrev S2x320x3072 : Shape := ⟨3, ![2, 320, 3072]⟩
abbrev S1x768x1024 : Shape := ⟨3, ![1, 768, 1024]⟩
abbrev S768x1024 : Shape := ⟨2, ![768, 1024]⟩
abbrev S320x768 : Shape := ⟨2, ![320, 768]⟩
abbrev S1x320x768 : Shape := ⟨3, ![1, 320, 768]⟩
abbrev S1x1024x768 : Shape := ⟨3, ![1, 1024, 768]⟩
abbrev S1024x768 : Shape := ⟨2, ![1024, 768]⟩
abbrev S320 : Shape := ⟨1, ![320]⟩
abbrev S320x1 : Shape := ⟨2, ![320, 1]⟩
abbrev S1024 : Shape := ⟨1, ![1024]⟩

abbrev nBuf : Space → Nat
  | .hbm => 33
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8x1024x768, .bf16⟩
  | .hbm, ⟨4, _⟩ => ⟨S4x768x1024, .bf16⟩
  | .hbm, ⟨5, _⟩ => ⟨S8x1024x768, .f32⟩
  | .hbm, ⟨6, _⟩ => ⟨S1024x8x768, .f32⟩
  | .hbm, ⟨7, _⟩ => ⟨S1024x6144, .f32⟩
  | .hbm, ⟨8, _⟩ => ⟨S4x768x1024, .f32⟩
  | .hbm, ⟨9, _⟩ => ⟨S3072x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x6144, .f32⟩
  | .hbm, ⟨26, _⟩ => ⟨S8320x3072, .f32⟩
  | .hbm, ⟨27, _⟩ => ⟨S8320x3072, .f32⟩
  | .hbm, ⟨28, _⟩ => ⟨S8320x3072, .bf16⟩
  | .hbm, ⟨29, _⟩ => ⟨S8320x3072, .bf16⟩
  | .hbm, ⟨30, _⟩ => ⟨S2x8320x3072, .bf16⟩
  | .hbm, ⟨31, _⟩ => ⟨S8320x1024, .f32⟩
  | .hbm, ⟨32, _⟩ => ⟨S8x1024, .f32⟩
  | .local _ .vmem, ⟨0, _⟩ => ⟨S320x1024, .f32⟩
  | .local _ .vmem, ⟨1, _⟩ => ⟨S320x1024, .f32⟩
  | .local _ .vmem, ⟨2, _⟩ => ⟨S320x3072, .bf16⟩
  | .local _ .vmem, ⟨3, _⟩ => ⟨S320x3072, .bf16⟩
  | .local _ .vmem, ⟨4, _⟩ => ⟨S320x3072, .bf16⟩
  | .local _ .vmem, ⟨5, _⟩ => ⟨S320x3072, .bf16⟩
  | .local _ .vmem, ⟨6, _⟩ => ⟨S320x1024, .f32⟩
  | .local _ .vmem, ⟨7, _⟩ => ⟨S320x1024, .f32⟩
  | .local _ .vmem, ⟨8, _⟩ => ⟨S1x1024, .f32⟩
  | .local _ .vmem, ⟨9, _⟩ => ⟨S8x1024x768, .bf16⟩
  | .local _ .vmem, ⟨10, _⟩ => ⟨S4x768x1024, .bf16⟩
  | .local _ .vmem, ⟨11, _⟩ => ⟨S2x320x3072, .bf16⟩
  | .local _ .vmem, ⟨12, _⟩ => ⟨S2x320x3072, .bf16⟩
  | .local _ .vmem, ⟨13, _⟩ => ⟨S320x1024, .f32⟩
  | .local _ .vmem, ⟨14, _⟩ => ⟨S320x1024, .f32⟩
  | .local _ .vmem, ⟨15, _⟩ => ⟨S8x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x320x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnReferenceIdeal.lean ====
abbrev S8320x1024 : Shape := ⟨2, ![8320, 1024]⟩
abbrev S1x1024 : Shape := ⟨2, ![1, 1024]⟩
abbrev S8x1024x768 : Shape := ⟨3, ![8, 1024, 768]⟩
abbrev S4x768x1024 : Shape := ⟨3, ![4, 768, 1024]⟩
abbrev S1024x8x768 : Shape := ⟨3, ![1024, 8, 768]⟩
abbrev S1024x6144 : Shape := ⟨2, ![1024, 6144]⟩
abbrev S3072x1024 : Shape := ⟨2, ![3072, 1024]⟩
abbrev S_ : Shape := ⟨0, ![]⟩
abbrev S8320 : Shape := ⟨1, ![8320]⟩
abbrev S8320x1 : Shape := ⟨2, ![8320, 1]⟩
abbrev S8320x6144 : Shape := ⟨2, ![8320, 6144]⟩
abbrev S8320x3072 : Shape := ⟨2, ![8320, 3072]⟩
abbrev S1024 : Shape := ⟨1, ![1024]⟩
abbrev S1x8320x3072 : Shape := ⟨3, ![1, 8320, 3072]⟩
abbrev S2x8320x3072 : Shape := ⟨3, ![2, 8320, 3072]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8x1024x768, .bf16⟩
  | .hbm, ⟨4, _⟩ => ⟨S4x768x1024, .bf16⟩
  | .hbm, ⟨5, _⟩ => ⟨S8x1024x768, .f32⟩
  | .hbm, ⟨6, _⟩ => ⟨S1024x8x768, .f32⟩
  | .hbm, ⟨7, _⟩ => ⟨S1024x6144, .f32⟩
  | .hbm, ⟨8, _⟩ => ⟨S4x768x1024, .f32⟩
  | .hbm, ⟨9, _⟩ => ⟨S3072x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x6144, .f32⟩
  | .hbm, ⟨30, _⟩ => ⟨S8320x3072, .f32⟩
  | .hbm, ⟨31, _⟩ => ⟨S8320x3072, .f32⟩
  | .hbm, ⟨32, _⟩ => ⟨S8320x3072, .f32⟩
  | .hbm, ⟨33, _⟩ => ⟨S8320x3072, .f32⟩
  | .hbm, ⟨34, _⟩ => ⟨S_, .f32⟩
  | .hbm, ⟨35, _⟩ => ⟨S8320x3072, .f32⟩
  | .hbm, ⟨36, _⟩ => ⟨S8320x3072, .f32⟩
  | .hbm, ⟨37, _⟩ => ⟨S_, .f32⟩
  | .hbm, ⟨38, _⟩ => ⟨S8320x3072, .f32⟩
  | .hbm, ⟨39, _⟩ => ⟨S8320x3072, .f32⟩
  | .hbm, ⟨40, _⟩ => ⟨S_, .f32⟩
  | .hbm, ⟨41, _⟩ => ⟨S8320x3072, .f32⟩
  | .hbm, ⟨42, _⟩ => ⟨S8320x3072, .f32⟩
  | .hbm, ⟨43, _⟩ => ⟨S8320x3072, .f32⟩
  | .hbm, ⟨44, _⟩ => ⟨S8320x3072, .f32⟩
  | .hbm, ⟨45, _⟩ => ⟨S8320x3072, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x3072, .f32⟩
  | .hbm, ⟨50, _⟩ => ⟨S8320x3072, .f32⟩
  | .hbm, ⟨51, _⟩ => ⟨S8320x3072, .f32⟩
  | .hbm, ⟨52, _⟩ => ⟨S8320x3072, .f32⟩
  | .hbm, ⟨53, _⟩ => ⟨S8320x3072, .f32⟩
  | .hbm, ⟨54, _⟩ => ⟨S8320x3072, .f32⟩
  | .hbm, ⟨55, _⟩ => ⟨S8320x3072, .f32⟩
  | .hbm, ⟨56, _⟩ => ⟨S_, .f32⟩
  | .hbm, ⟨57, _⟩ => ⟨S8320x6144, .f32⟩
  | .hbm, ⟨58, _⟩ => ⟨S_, .f32⟩
  | .hbm, ⟨59, _⟩ => ⟨S8320x6144, .f32⟩
  | .hbm, ⟨60, _⟩ => ⟨S8320x6144, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S_, .f32⟩
  | .hbm, ⟨70, _⟩ => ⟨S8320, .f32⟩
  | .hbm, ⟨71, _⟩ => ⟨S8320x1, .f32⟩
  | .hbm, ⟨72, _⟩ => ⟨S8320x1024, .f32⟩
  | .hbm, ⟨73, _⟩ => ⟨S8320x1024, .f32⟩
  | .hbm, ⟨74, _⟩ => ⟨S8320x1, .f32⟩
  | .hbm, ⟨75, _⟩ => ⟨S_, .f32⟩
  | .hbm, ⟨76, _⟩ => ⟨S8320x1, .f32⟩
  | .hbm, ⟨77, _⟩ => ⟨S8320x1, .f32⟩
  | .hbm, ⟨78, _⟩ => ⟨S_, .f32⟩
  | .hbm, ⟨79, _⟩ => ⟨S8320, .f32⟩
  | .hbm, ⟨80, _⟩ => ⟨S8320x1024, .f32⟩
  | .hbm, ⟨81, _⟩ => ⟨S8320x1024, .f32⟩
  | .hbm, ⟨82, _⟩ => ⟨S8320x1024, .f32⟩
  | .hbm, ⟨83, _⟩ => ⟨S8320x1024, .f32⟩
  | .hbm, ⟨84, _⟩ => ⟨S8320x1024, .f32⟩
  | .hbm, ⟨85, _⟩ => ⟨S1x8320x3072, .f32⟩
  | .hbm, ⟨86, _⟩ => ⟨S1x8320x3072, .f32⟩
  | .hbm, ⟨87, _⟩ => ⟨S2x8320x3072, .f32⟩
  | .hbm, ⟨88, _⟩ => ⟨S2x8320x3072, .bf16⟩
  | .hbm, ⟨89, _⟩ => ⟨S8320x1024, .f32⟩
  | .hbm, ⟨90, _⟩ => ⟨S_, .i32⟩
  | .hbm, ⟨91, _⟩ => ⟨S_, .f32⟩
  | .hbm, ⟨92, _⟩ => ⟨S8x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v23_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v23_1 : Ref sig .tc := ⟨.hbm, 43, rfl⟩
abbrev main_v23_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c : Ref sig .tc := ⟨.hbm, 90, rfl⟩
abbrev main_call2_v0 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Mix.lean ====
abbrev S8320x1024 : Shape := ⟨2, ![8320, 1024]⟩
abbrev S8320x8192 : Shape := ⟨2, ![8320, 8192]⟩
abbrev S1024x1024 : Shape := ⟨2, ![1024, 1024]⟩
abbrev S640x1024 : Shape := ⟨2, ![640, 1024]⟩
abbrev S640x2048 : Shape := ⟨2, ![640, 2048]⟩
abbrev S8320x2048 : Shape := ⟨2, ![8320, 2048]⟩

abbrev nBuf : Space → Nat
  | .hbm => 21
  | .vmem => 23
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S8320x1024, .bf16⟩
  | .hbm, ⟨3, _⟩ => ⟨S8320x8192, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8320x1024, .f32⟩
  | .hbm, ⟨8, _⟩ => ⟨S1024x1024, .f32⟩
  | .hbm, ⟨9, _⟩ => ⟨S8320x1024, .f32⟩
  | .hbm, ⟨10, _⟩ => ⟨S8320x1024, .f32⟩
  | .hbm, ⟨11, _⟩ => ⟨S1024x1024, .f32⟩
  | .hbm, ⟨12, _⟩ => ⟨S8320x1024, .f32⟩
  | .hbm, ⟨13, _⟩ => ⟨S8320x1024, .bf16⟩
  | .hbm, ⟨14, _⟩ => ⟨S8320x1024, .bf16⟩
  | .hbm, ⟨15, _⟩ => ⟨S8320x1024, .bf16⟩
  | .hbm, ⟨16, _⟩ => ⟨S8320x1024, .bf16⟩
  | .hbm, ⟨17, _⟩ => ⟨S8320x8192, .bf16⟩
  | .hbm, ⟨18, _⟩ => ⟨S8320x1024, .bf16⟩
  | .hbm, ⟨19, _⟩ => ⟨S8320x1024, .bf16⟩
  | .hbm, ⟨20, _⟩ => ⟨S8320x2048, .bf16⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S640x1024, .bf16⟩
  | .local _ .vmem, ⟨14, _⟩ => ⟨S640x1024, .bf16⟩
  | .local _ .vmem, ⟨15, _⟩ => ⟨S640x1024, .bf16⟩
  | .local _ .vmem, ⟨16, _⟩ => ⟨S640x1024, .bf16⟩
  | .local _ .vmem, ⟨17, _⟩ => ⟨S640x2048, .bf16⟩
  | .local _ .vmem, ⟨18, _⟩ => ⟨S640x2048, .bf16⟩
  | .local _ .vmem, ⟨19, _⟩ => ⟨S640x1024, .bf16⟩
  | .local _ .vmem, ⟨20, _⟩ => ⟨S640x1024, .bf16⟩
  | .local _ .vmem, ⟨21, _⟩ => ⟨S640x1024, .bf16⟩
  | .local _ .vmem, ⟨22, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S8320x1024 : Shape := ⟨2, ![8320, 1024]⟩
abbrev S8320x8192 : Shape := ⟨2, ![8320, 8192]⟩
abbrev S1024x1024 : Shape := ⟨2, ![1024, 1024]⟩
abbrev S8320x2048 : Shape := ⟨2, ![8320, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S8320x1024, .bf16⟩
  | .hbm, ⟨3, _⟩ => ⟨S8320x8192, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8320x1024, .f32⟩
  | .hbm, ⟨8, _⟩ => ⟨S8320x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S8320x2048, .bf16⟩
  | .hbm, ⟨13, _⟩ => ⟨S8320x2048, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320x1024, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S8320x1024, .f32⟩
  | .hbm, ⟨38, _⟩ => ⟨S8320x1024, .f32⟩
  | .hbm, ⟨39, _⟩ => ⟨S_, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x2048, .f32⟩
  | .hbm, ⟨54, _⟩ => ⟨S8320x1024, .f32⟩
  | .hbm, ⟨55, _⟩ => ⟨S8320x1024, .f32⟩
  | .hbm, ⟨56, _⟩ => ⟨S8320x1024, .bf16⟩
  | .hbm, ⟨57, _⟩ => ⟨S8320x1024, .bf16⟩
  | .hbm, ⟨58, _⟩ => ⟨S8320x2048, .bf16⟩
  | .hbm, ⟨59, _⟩ => ⟨S8320x1024, .bf16⟩
  | .hbm, ⟨60, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== FfnFwd.lean ====
abbrev S8320x1024 : Shape := ⟨2, ![8320, 1024]⟩
abbrev S1x1024 : Shape := ⟨2, ![1, 1024]⟩
abbrev S8x1024x768 : Shape := ⟨3, ![8, 1024, 768]⟩
abbrev S4x768x1024 : Shape := ⟨3, ![4, 768, 1024]⟩
abbrev S8192x1024 : Shape := ⟨2, ![8192, 1024]⟩
abbrev S8320x3072 : Shape := ⟨2, ![8320, 3072]⟩
abbrev S8x1024 : Shape := ⟨2, ![8, 1024]⟩
abbrev S320x1024 : Shape := ⟨2, ![320, 1024]⟩
abbrev S64x1024 : Shape := ⟨2, ![64, 1024]⟩
abbrev S320x3072 : Shape := ⟨2, ![320, 3072]⟩
abbrev S320 : Shape := ⟨1, ![320]⟩
abbrev S320x1 : Shape := ⟨2, ![320, 1]⟩
abbrev S1x1024x768 : Shape := ⟨3, ![1, 1024, 768]⟩
abbrev S1024x768 : Shape := ⟨2, ![1024, 768]⟩
abbrev S320x768 : Shape := ⟨2, ![320, 768]⟩
abbrev S1x768x1024 : Shape := ⟨3, ![1, 768, 1024]⟩
abbrev S768x1024 : Shape := ⟨2, ![768, 1024]⟩
abbrev S1024 : Shape := ⟨1, ![1024]⟩

abbrev nBuf : Space → Nat
  | .hbm => 12
  | .vmem => 27
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8x1024x768, .bf16⟩
  | .hbm, ⟨3, _⟩ => ⟨S4x768x1024, .bf16⟩
  | .hbm, ⟨4, _⟩ => ⟨S1x1024, .f32⟩
  | .hbm, ⟨5, _⟩ => ⟨S8192x1024, .f32⟩
  | .hbm, ⟨6, _⟩ => ⟨S8320x1024, .bf16⟩
  | .hbm, ⟨7, _⟩ => ⟨S8320x3072, .bf16⟩
  | .hbm, ⟨8, _⟩ => ⟨S8320x3072, .bf16⟩
  | .hbm, ⟨9, _⟩ => ⟨S8320x3072, .bf16⟩
  | .hbm, ⟨10, _⟩ => ⟨S8320x1024, .f32⟩
  | .hbm, ⟨11, _⟩ => ⟨S8x1024, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S8x1024x768, .bf16⟩
  | .local _ .vmem, ⟨4, _⟩ => ⟨S4x768x1024, .bf16⟩
  | .local _ .vmem, ⟨5, _⟩ => ⟨S1x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S320x1024, .bf16⟩
  | .local _ .vmem, ⟨17, _⟩ => ⟨S320x1024, .bf16⟩
  | .local _ .vmem, ⟨18, _⟩ => ⟨S320x3072, .bf16⟩
  | .local _ .vmem, ⟨19, _⟩ => ⟨S320x3072, .bf16⟩
  | .local _ .vmem, ⟨20, _⟩ => ⟨S320x3072, .bf16⟩
  | .local _ .vmem, ⟨21, _⟩ => ⟨S320x3072, .bf16⟩
  | .local _ .vmem, ⟨22, _⟩ => ⟨S320x3072, .bf16⟩
  | .local _ .vmem, ⟨23, _⟩ => ⟨S320x3072, .bf16⟩
  | .local _ .vmem, ⟨24, _⟩ => ⟨S320x1024, .f32⟩
  | .local _ .vmem, ⟨25, _⟩ => ⟨S320x1024, .f32⟩
  | .local _ .vmem, ⟨26, _⟩ => ⟨S8x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c5_i32 : BitVec 32 := 5#32
  let v0 : BitVec 32 := Scalar.muli arg0 c5_i32
  let c0_i32 : BitVec 32 := 0#32
  let v1 : BitVec 32 := Scalar.addi v0 c0_i32
  let c2_i32 : BitVec 32 := 2#32
  let v2 : BitVec 32 := Scalar.subi v1 c2_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.addi v0 c1_i32
  let c2_i32 : BitVec 32 := 2#32
  let v2 : BitVec 32 := Scalar.subi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c5_i32 : BitVec 32 := 5#32
  let v0 : BitVec 32 := Scalar.muli arg0 c5_i32
  let c2_i32 : BitVec 32 := 2#32
  let v1 : BitVec 32 := Scalar.addi v0 c2_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let c5_i32 : BitVec 32 := 5#32
  let v0 : BitVec 32 := Scalar.muli arg0 c5_i32
  let c3_i32 : BitVec 32 := 3#32
  let v1 : BitVec 32 := Scalar.addi v0 c3_i32
  let c2_i32 : BitVec 32 := 2#32
  let v2 : BitVec 32 := Scalar.subi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c5_i32 : BitVec 32 := 5#32
  let v0 : BitVec 32 := Scalar.muli arg0 c5_i32
  let c4_i32 : BitVec 32 := 4#32
  let v1 : BitVec 32 := Scalar.addi v0 c4_i32
  let c2_i32 : BitVec 32 := 2#32
  let v2 : BitVec 32 := Scalar.subi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnFwdReferenceIdeal.lean ====
abbrev S8320x1024 : Shape := ⟨2, ![8320, 1024]⟩
abbrev S1x1024 : Shape := ⟨2, ![1, 1024]⟩
abbrev S8x1024x768 : Shape := ⟨3, ![8, 1024, 768]⟩
abbrev S4x768x1024 : Shape := ⟨3, ![4, 768, 1024]⟩
abbrev S8192x1024 : Shape := ⟨2, ![8192, 1024]⟩
abbrev S1024x8x768 : Shape := ⟨3, ![1024, 8, 768]⟩
abbrev S1024x6144 : Shape := ⟨2, ![1024, 6144]⟩
abbrev S3072x1024 : Shape := ⟨2, ![3072, 1024]⟩
abbrev S_ : Shape := ⟨0, ![]⟩
abbrev S8320 : Shape := ⟨1, ![8320]⟩
abbrev S8320x1 : Shape := ⟨2, ![8320, 1]⟩
abbrev S8320x6144 : Shape := ⟨2, ![8320, 6144]⟩
abbrev S8320x3072 : Shape := ⟨2, ![8320, 3072]⟩
abbrev S8192 : Shape := ⟨1, ![8192]⟩
abbrev S1024 : Shape := ⟨1, ![1024]⟩
abbrev S7x1024 : Shape := ⟨2, ![7, 1024]⟩
abbrev S8x1024 : Shape := ⟨2, ![8, 1024]⟩

abbrev nBuf : Space → Nat
  | .hbm => 138
  | .vmem => 0
  | .smem => 0
  | _ => 0

abbrev hbmTy0_0 (i : Nat) : BufTy := match i % 128 with
  | 0 => ⟨S8320x1024, .f32⟩
  | 1 => ⟨S1x1024, .f32⟩
  | 2 => ⟨S8x1024x768, .bf16⟩
  | 3 => ⟨S4x768x1024, .bf16⟩
  | 4 => ⟨S1x1024, .f32⟩
  | 5 => ⟨S8192x1024, .f32⟩
  | 6 => ⟨S8x1024x768, .f32⟩
  | 7 => ⟨S1024x8x768, .f32⟩
  | 8 => ⟨S1024x6144, .f32⟩
  | 9 => ⟨S4x768x1024, .f32⟩
  | 10 => ⟨S3072x1024, .f32⟩
  | 11 => ⟨S8320x1024, .f32⟩
  | 12 => ⟨S_, .f32⟩
  | 13 => ⟨S8320, .f32⟩
  | 14 => ⟨S8320x1, .f32⟩
  | 15 => ⟨S_, .f32⟩
  | 16 => ⟨S8320x1, .f32⟩
  | 17 => ⟨S8320x1, .f32⟩
  | 18 => ⟨S_, .f32⟩
  | 19 => ⟨S8320x1, .f32⟩
  | 20 => ⟨S8320x1, .f32⟩
  | 21 => ⟨S8320x1, .f32⟩
  | 22 => ⟨S8320x1024, .f32⟩
  | 23 => ⟨S8320x1024, .f32⟩
  | 24 => ⟨S8320x1024, .f32⟩
  | 25 => ⟨S8320x1024, .f32⟩
  | 26 => ⟨S8320x6144, .f32⟩
  | 27 => ⟨S8320x3072, .f32⟩
  | 28 => ⟨S8320x3072, .f32⟩
  | 29 => ⟨S8320x3072, .f32⟩
  | 30 => ⟨S8320x3072, .f32⟩
  | 31 => ⟨S_, .f32⟩
  | 32 => ⟨S8320x3072, .f32⟩
  | 33 => ⟨S8320x3072, .f32⟩
  | 34 => ⟨S_, .f32⟩
  | 35 => ⟨S8320x3072, .f32⟩
  | 36 => ⟨S8320x3072, .f32⟩
  | 37 => ⟨S8320x3072, .f32⟩
  | 38 => ⟨S8320x3072, .f32⟩
  | 39 => ⟨S8320x1024, .f32⟩
  | 40 => ⟨S8320x1024, .f32⟩
  | 41 => ⟨S8320x1024, .f32⟩
  | 42 => ⟨S_, .f32⟩
  | 43 => ⟨S8320, .f32⟩
  | 44 => ⟨S8320x1, .f32⟩
  | 45 => ⟨S_, .f32⟩
  | 46 => ⟨S8320x1, .f32⟩
  | 47 => ⟨S8320x1, .f32⟩
  | 48 => ⟨S_, .f32⟩
  | 49 => ⟨S8320x1, .f32⟩
  | 50 => ⟨S8320x1, .f32⟩
  | 51 => ⟨S8320x1, .f32⟩
  | 52 => ⟨S8320x1, .f32⟩
  | 53 => ⟨S_, .f32⟩
  | 54 => ⟨S8320x1, .f32⟩
  | 55 => ⟨S8320x1, .f32⟩
  | 56 => ⟨S8320x1024, .f32⟩
  | 57 => ⟨S8320x1024, .f32⟩
  | 58 => ⟨S8320x1024, .f32⟩
  | 59 => ⟨S8320x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S_, .f32⟩
  | 85 => ⟨S8320x1024, .f32⟩
  | 86 => ⟨S8320x1024, .f32⟩
  | 87 => ⟨S_, .f32⟩
  | 88 => ⟨S1024, .f32⟩
  | 89 => ⟨S1x1024, .f32⟩
  | 90 => ⟨S8320x1024, .f32⟩
  | 91 => ⟨S8320x1024, .f32⟩
  | 92 => ⟨S8320x1024, .f32⟩
  | 93 => ⟨S_, .f32⟩
  | 94 => ⟨S8320, .f32⟩
  | 95 => ⟨S8320x1, .f32⟩
  | 96 => ⟨S8320x1024, .f32⟩
  | 97 => ⟨S8320x1024, .f32⟩
  | 98 => ⟨S8320x1, .f32⟩
  | 99 => ⟨S_, .f32⟩
  | 100 => ⟨S8320x1, .f32⟩
  | 101 => ⟨S8320x1, .f32⟩
  | 102 => ⟨S_, .f32⟩
  | 103 => ⟨S8320, .f32⟩
  | 104 => ⟨S8320x1024, .f32⟩
  | 105 => ⟨S8320x1024, .f32⟩
  | 106 => ⟨S8320x1024, .f32⟩
  | 107 => ⟨S8320x1024, .f32⟩
  | 108 => ⟨S8320x1024, .f32⟩
  | 109 => ⟨S8320x1024, .f32⟩
  | 110 => ⟨S_, .f32⟩
  | 111 => ⟨S8320, .f32⟩
  | 112 => ⟨S8320x1, .f32⟩
  | 113 => ⟨S_, .f32⟩
  | 114 => ⟨S8320x1, .f32⟩
  | 115 => ⟨S8320x1, .f32⟩
  | 116 => ⟨S_, .f32⟩
  | 117 => ⟨S8320x1, .f32⟩
  | 118 => ⟨S8320x1, .f32⟩
  | 119 => ⟨S8320x1, .f32⟩
  | 120 => ⟨S8320x1024, .f32⟩
  | 121 => ⟨S8320x1024, .f32⟩
  | 122 => ⟨S8320x1024, .f32⟩
  | 123 => ⟨S8320x1024, .f32⟩
  | 124 => ⟨S8192x1024, .f32⟩
  | 125 => ⟨S8192x1024, .f32⟩
  | 126 => ⟨S8192x1024, .f32⟩
  | 127 => ⟨S_, .f32⟩
  | _ => ⟨S8320x1024, .f32⟩

abbrev hbmTy0_1 (i : Nat) : BufTy := match i % 128 with
  | 0 => ⟨S1024, .f32⟩
  | 1 => ⟨S1x1024, .f32⟩
  | 2 => ⟨S_, .i32⟩
  | 3 => ⟨S_, .f32⟩
  | 4 => ⟨S7x1024, .f32⟩
  | 5 => ⟨S8x1024, .f32⟩
  | 6 => ⟨S8320x1024, .bf16⟩
  | 7 => ⟨S8320x3072, .bf16⟩
  | 8 => ⟨S8320x3072, .bf16⟩
  | 9 => ⟨S8320x3072, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_cst_11 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_17 : Ref sig .tc := ⟨.hbm, 99, rfl⟩
abbrev main_v67 : Ref sig .tc := ⟨.hbm, 100, rfl⟩
abbrev main_v68 : Ref sig .tc := ⟨.hbm, 101, rfl⟩
abbrev main_cst_18 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_v91 : Ref sig .tc := ⟨.hbm, 129, rfl⟩
abbrev main_c : Ref sig .tc := ⟨.hbm, 130, rfl⟩
abbrev main_call1_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]
-- ==== Adam.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamSmall.lean ====
abbrev S80x128 : Shape := ⟨2, ![80, 128]⟩
abbrev S1x80x128 : Shape := ⟨3, ![1, 80, 128]⟩
abbrev S1x16x128 : Shape := ⟨3, ![1, 16, 128]⟩
abbrev S16x128 : Shape := ⟨2, ![16, 128]⟩
abbrev S8x128 : Shape := ⟨2, ![8, 128]⟩
abbrev S1x1024 : Shape := ⟨2, ![1, 1024]⟩
abbrev S1024 : Shape := ⟨1, ![1024]⟩
abbrev S4x128 : Shape := ⟨2, ![4, 128]⟩
abbrev S1x4x128 : Shape := ⟨3, ![1, 4, 128]⟩

abbrev nBuf : Space → Nat
  | .hbm => 77
  | .vmem => 16
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S1x80x128, .f32⟩
  | .hbm, ⟨5, _⟩ => ⟨S80x128, .f32⟩
  | .hbm, ⟨6, _⟩ => ⟨S80x128, .f32⟩
  | .hbm, ⟨7, _⟩ => ⟨S80x128, .f32⟩
  | .hbm, ⟨8, _⟩ => ⟨S80x128, .f32⟩
  | .hbm, ⟨9, _⟩ => ⟨S8x128, .f32⟩
  | .hbm, ⟨10, _⟩ => ⟨S1x1024, .f32⟩
  | .hbm, ⟨11, _⟩ => ⟨S8x128, .f32⟩
  | .hbm, ⟨12, _⟩ => ⟨S1x1024, .f32⟩
  | .hbm, ⟨13, _⟩ => ⟨S8x128, .f32⟩
  | .hbm, ⟨14, _⟩ => ⟨S1x1024, .f32⟩
  | .hbm, ⟨15, _⟩ => ⟨S8x128, .f32⟩
  | .hbm, ⟨16, _⟩ => ⟨S1x1024, .f32⟩
  | .hbm, ⟨17, _⟩ => ⟨S8x128, .f32⟩
  | .hbm, ⟨18, _⟩ => ⟨S1x1024, .f32⟩
  | .hbm, ⟨19, _⟩ => ⟨S8x128, .f32⟩
  | .hbm, ⟨20, _⟩ => ⟨S1x1024, .f32⟩
  | .hbm, ⟨21, _⟩ => ⟨S8x128, .f32⟩
  | .hbm, ⟨22, _⟩ => ⟨S1024, .f32⟩
  | .hbm, ⟨23, _⟩ => ⟨S16x128, .f32⟩
  | .hbm, ⟨24, _⟩ => ⟨S4x128, .f32⟩
  | .hbm, ⟨25, _⟩ => ⟨S1x4x128, .f32⟩
  | .hbm, ⟨26, _⟩ => ⟨S8x128, .f32⟩
  | .hbm, ⟨27, _⟩ => ⟨S1x1024, .f32⟩
  | .hbm, ⟨28, _⟩ => ⟨S8x128, .f32⟩
  | .hbm, ⟨29, _⟩ => ⟨S1x1024, .f32⟩
  | .hbm, ⟨30, _⟩ => ⟨S8x128, .f32⟩
  | .hbm, ⟨31, _⟩ => ⟨S1x1024, .f32⟩
  | .hbm, ⟨32, _⟩ => ⟨S8x128, .f32⟩
  | .hbm, ⟨33, _⟩ => ⟨S1x1024, .f32⟩
  | .hbm, ⟨34, _⟩ => ⟨S8x128, .f32⟩
  | .hbm, ⟨35, _⟩ => ⟨S1x1024, .f32⟩
  | .hbm, ⟨36, _⟩ => ⟨S8x128, .f32⟩
  | .hbm, ⟨37, _⟩ => ⟨S1x1024, .f32⟩
  | .hbm, ⟨38, _⟩ => ⟨S8x128, .f32⟩
  | .hbm, ⟨39, _⟩ => ⟨S1024, .f32⟩
  | .hbm, ⟨40, _⟩ => ⟨S16x128, .f32⟩
  | .hbm, ⟨41, _⟩ => ⟨S4x128, .f32⟩
  | .hbm, ⟨42, _⟩ => ⟨S1x4x128, .f32⟩
  | .hbm, ⟨43, _⟩ => ⟨S8x128, .f32⟩
  | .hbm, ⟨44, _⟩ => ⟨S1x1024, .f32⟩
  | .hbm, ⟨45, _⟩ => ⟨S8x128, .f32⟩
  | .hbm, ⟨46, _⟩ => ⟨S1x1024, .f32⟩
  | .hbm, ⟨47, _⟩ => ⟨S8x128, .f32⟩
  | .hbm, ⟨48, _⟩ => ⟨S1x1024, .f32⟩
  | .hbm, ⟨49, _⟩ => ⟨S8x128, .f32⟩
  | .hbm, ⟨50, _⟩ => ⟨S1x1024, .f32⟩
  | .hbm, ⟨51, _⟩ => ⟨S8x128, .f32⟩
  | .hbm, ⟨52, _⟩ => ⟨S1x1024, .f32⟩
  | .hbm, ⟨53, _⟩ => ⟨S8x128, .f32⟩
  | .hbm, ⟨54, _⟩ => ⟨S1x1024, .f32⟩
  | .hbm, ⟨55, _⟩ => ⟨S8x128, .f32⟩
  | .hbm, ⟨56, _⟩ => ⟨S1024, .f32⟩
  | .hbm, ⟨57, _⟩ => ⟨S16x128, .f32⟩
  | .hbm, ⟨58, _⟩ => ⟨S4x128, .f32⟩
  | .hbm, ⟨59, _⟩ => ⟨S1x4x128, .f32⟩
  | .hbm, ⟨60, _⟩ => ⟨S8x128, .f32⟩
  | .hbm, ⟨61, _⟩ => ⟨S1x1024, .f32⟩
  | .hbm, ⟨62, _⟩ => ⟨S8x128, .f32⟩
  | .hbm, ⟨63, _⟩ => ⟨S1x1024, .f32⟩
  | .hbm, ⟨64, _⟩ => ⟨S8x128, .f32⟩
  | .hbm, ⟨65, _⟩ => ⟨S1x1024, .f32⟩
  | .hbm, ⟨66, _⟩ => ⟨S8x128, .f32⟩
  | .hbm, ⟨67, _⟩ => ⟨S1x1024, .f32⟩
  | .hbm, ⟨68, _⟩ => ⟨S8x128, .f32⟩
  | .hbm, ⟨69, _⟩ => ⟨S1x1024, .f32⟩
  | .hbm, ⟨70, _⟩ => ⟨S8x128, .f32⟩
  | .hbm, ⟨71, _⟩ => ⟨S1x1024, .f32⟩
  | .hbm, ⟨72, _⟩ => ⟨S8x128, .f32⟩
  | .hbm, ⟨73, _⟩ => ⟨S1024, .f32⟩
  | .hbm, ⟨74, _⟩ => ⟨S16x128, .f32⟩
  | .hbm, ⟨75, _⟩ => ⟨S4x128, .f32⟩
  | .hbm, ⟨76, _⟩ => ⟨S1x4x128, .f32⟩
  | .local _ .vmem, ⟨0, _⟩ => ⟨S1x16x128, .f32⟩
  | .local _ .vmem, ⟨1, _⟩ => ⟨S1x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S80x128 : Shape := ⟨2, ![80, 128]⟩
abbrev S1x80x128 : Shape := ⟨3, ![1, 80, 128]⟩
abbrev S_ : Shape := ⟨0, ![]⟩
abbrev S8x128 : Shape := ⟨2, ![8, 128]⟩
abbrev S1x1024 : Shape := ⟨2, ![1, 1024]⟩
abbrev S1024 : Shape := ⟨1, ![1024]⟩
abbrev S16x128 : Shape := ⟨2, ![16, 128]⟩
abbrev S4x128 : Shape := ⟨2, ![4, 128]⟩
abbrev S1x4x128 : Shape := ⟨3, ![1, 4, 128]⟩

abbrev nBuf : Space → Nat
  | .hbm => 111
  | .vmem => 0
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S1x80x128, .f32⟩
  | .hbm, ⟨5, _⟩ => ⟨S_, .f32⟩
  | .hbm, ⟨6, _⟩ => ⟨S80x128, .f32⟩
  | .hbm, ⟨7, _⟩ => ⟨S_, .f32⟩
  | .hbm, ⟨8, _⟩ => ⟨S80x128, .f32⟩
  | .hbm, ⟨9, _⟩ => ⟨S80x128, .f32⟩
  | .hbm, ⟨10, _⟩ => ⟨S_, .f32⟩
  | .hbm, ⟨11, _⟩ => ⟨S80x128, .f32⟩
  | .hbm, ⟨12, _⟩ => ⟨S80x128, .f32⟩
  | .hbm, ⟨13, _⟩ => ⟨S_, .f32⟩
  | .hbm, ⟨14, _⟩ => ⟨S80x128, .f32⟩
  | .hbm, ⟨15, _⟩ => ⟨S80x128, .f32⟩
  | .hbm, ⟨16, _⟩ => ⟨S80x128, .f32⟩
  | .hbm, ⟨17, _⟩ => ⟨S_, .f32⟩
  | .hbm, ⟨18, _⟩ => ⟨S80x128, .f32⟩
  | .hbm, ⟨19, _⟩ => ⟨S80x128, .f32⟩
  | .hbm, ⟨20, _⟩ => ⟨S80x128, .f32⟩
  | .hbm, ⟨21, _⟩ => ⟨S_, .f32⟩
  | .hbm, ⟨22, _⟩ => ⟨S80x128, .f32⟩
  | .hbm, ⟨23, _⟩ => ⟨S80x128, .f32⟩
  | .hbm, ⟨24, _⟩ => ⟨S80x128, .f32⟩
  | .hbm, ⟨25, _⟩ => ⟨S_, .f32⟩
  | .hbm, ⟨26, _⟩ => ⟨S80x128, .f32⟩
  | .hbm, ⟨27, _⟩ => ⟨S80x128, .f32⟩
  | .hbm, ⟨28, _⟩ => ⟨S_, .f32⟩
  | .hbm, ⟨29, _⟩ => ⟨S80x128, .f32⟩
  | .hbm, ⟨30, _⟩ => ⟨S80x128, .f32⟩
  | .hbm, ⟨31, _⟩ => ⟨S80x128, .f32⟩
  | .hbm, ⟨32, _⟩ => ⟨S_, .f32⟩
  | .hbm, ⟨33, _⟩ => ⟨S80x128, .f32⟩
  | .hbm, ⟨34, _⟩ => ⟨S80x128, .f32⟩
  | .hbm, ⟨35, _⟩ => ⟨S80x128, .f32⟩
  | .hbm, ⟨36, _⟩ => ⟨S_, .f32⟩
  | .hbm, ⟨37, _⟩ => ⟨S80x128, .f32⟩
  | .hbm, ⟨38, _⟩ => ⟨S80x128, .f32⟩
  | .hbm, ⟨39, _⟩ => ⟨S80x128, .f32⟩
  | .hbm, ⟨40, _⟩ => ⟨S_, .f32⟩
  | .hbm, ⟨41, _⟩ => ⟨S80x128, .f32⟩
  | .hbm, ⟨42, _⟩ => ⟨S80x128, .f32⟩
  | .hbm, ⟨43, _⟩ => ⟨S8x128, .f32⟩
  | .hbm, ⟨44, _⟩ => ⟨S1x1024, .f32⟩
  | .hbm, ⟨45, _⟩ => ⟨S8x128, .f32⟩
  | .hbm, ⟨46, _⟩ => ⟨S1x1024, .f32⟩
  | .hbm, ⟨47, _⟩ => ⟨S8x128, .f32⟩
  | .hbm, ⟨48, _⟩ => ⟨S1x1024, .f32⟩
  | .hbm, ⟨49, _⟩ => ⟨S8x128, .f32⟩
  | .hbm, ⟨50, _⟩ => ⟨S1x1024, .f32⟩
  | .hbm, ⟨51, _⟩ => ⟨S8x128, .f32⟩
  | .hbm, ⟨52, _⟩ => ⟨S1x1024, .f32⟩
  | .hbm, ⟨53, _⟩ => ⟨S8x128, .f32⟩
  | .hbm, ⟨54, _⟩ => ⟨S1x1024, .f32⟩
  | .hbm, ⟨55, _⟩ => ⟨S8x128, .f32⟩
  | .hbm, ⟨56, _⟩ => ⟨S1024, .f32⟩
  | .hbm, ⟨57, _⟩ => ⟨S16x128, .f32⟩
  | .hbm, ⟨58, _⟩ => ⟨S4x128, .f32⟩
  | .hbm, ⟨59, _⟩ => ⟨S1x4x128, .f32⟩
  | .hbm, ⟨60, _⟩ => ⟨S8x128, .f32⟩
  | .hbm, ⟨61, _⟩ => ⟨S1x1024, .f32⟩
  | .hbm, ⟨62, _⟩ => ⟨S8x128, .f32⟩
  | .hbm, ⟨63, _⟩ => ⟨S1x1024, .f32⟩
  | .hbm, ⟨64, _⟩ => ⟨S8x128, .f32⟩
  | .hbm, ⟨65, _⟩ => ⟨S1x1024, .f32⟩
  | .hbm, ⟨66, _⟩ => ⟨S8x128, .f32⟩
  | .hbm, ⟨67, _⟩ => ⟨S1x1024, .f32⟩
  | .hbm, ⟨68, _⟩ => ⟨S8x128, .f32⟩
  | .hbm, ⟨69, _⟩ => ⟨S1x1024, .f32⟩
  | .hbm, ⟨70, _⟩ => ⟨S8x128, .f32⟩
  | .hbm, ⟨71, _⟩ => ⟨S1x1024, .f32⟩
  | .hbm, ⟨72, _⟩ => ⟨S8x128, .f32⟩
  | .hbm, ⟨73, _⟩ => ⟨S1024, .f32⟩
  | .hbm, ⟨74, _⟩ => ⟨S16x128, .f32⟩
  | .hbm, ⟨75, _⟩ => ⟨S4x128, .f32⟩
  | .hbm, ⟨76, _⟩ => ⟨S1x4x128, .f32⟩
  | .hbm, ⟨77, _⟩ => ⟨S8x128, .f32⟩
  | .hbm, ⟨78, _⟩ => ⟨S1x1024, .f32⟩
  | .hbm, ⟨79, _⟩ => ⟨S8x128, .f32⟩
  | .hbm, ⟨80, _⟩ => ⟨S1x1024, .f32⟩
  | .hbm, ⟨81, _⟩ => ⟨S8x128, .f32⟩
  | .hbm, ⟨82, _⟩ => ⟨S1x1024, .f32⟩
  | .hbm, ⟨83, _⟩ => ⟨S8x128, .f32⟩
  | .hbm, ⟨84, _⟩ => ⟨S1x1024, .f32⟩
  | .hbm, ⟨85, _⟩ => ⟨S8x128, .f32⟩
  | .hbm, ⟨86, _⟩ => ⟨S1x1024, .f32⟩
  | .hbm, ⟨87, _⟩ => ⟨S8x128, .f32⟩
  | .hbm, ⟨88, _⟩ => ⟨S1x1024, .f32⟩
  | .hbm, ⟨89, _⟩ => ⟨S8x128, .f32⟩
  | .hbm, ⟨90, _⟩ => ⟨S1024, .f32⟩
  | .hbm, ⟨91, _⟩ => ⟨S16x128, .f32⟩
  | .hbm, ⟨92, _⟩ => ⟨S4x128, .f32⟩
  | .hbm, ⟨93, _⟩ => ⟨S1x4x128, .f32⟩
  | .hbm, ⟨94, _⟩ => ⟨S8x128, .f32⟩
  | .hbm, ⟨95, _⟩ => ⟨S1x1024, .f32⟩
  | .hbm, ⟨96, _⟩ => ⟨S8x128, .f32⟩
  | .hbm, ⟨97, _⟩ => ⟨S1x1024, .f32⟩
  | .hbm, ⟨98, _⟩ => ⟨S8x128, .f32⟩
  | .hbm, ⟨99, _⟩ => ⟨S1x1024, .f32⟩
  | .hbm, ⟨100, _⟩ => ⟨S8x128, .f32⟩
  | .hbm, ⟨101, _⟩ => ⟨S1x1024, .f32⟩
  | .hbm, ⟨102, _⟩ => ⟨S8x128, .f32⟩
  | .hbm, ⟨103, _⟩ => ⟨S1x1024, .f32⟩
  | .hbm, ⟨104, _⟩ => ⟨S8x128, .f32⟩
  | .hbm, ⟨105, _⟩ => ⟨S1x1024, .f32⟩
  | .hbm, ⟨106, _⟩ => ⟨S8x128, .f32⟩
  | .hbm, ⟨107, _⟩ => ⟨S1024, .f32⟩
  | .hbm, ⟨108, _⟩ => ⟨S16x128, .f32⟩
  | .hbm, ⟨109, _⟩ => ⟨S4x128, .f32⟩
  | .hbm, ⟨110, _⟩ => ⟨S1x4x128, .f32⟩
  | _, _ => ⟨S80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩

abbrev nD : Nat := 1
abbrev τ : Topo := Topo.v7x

variable {F : FTy → Type} [FloatOps F]
-- ==== AdamLru.lean ====
abbrev S8x128x256 : Shape := ⟨3, ![8, 128, 256]⟩
abbrev S128x256 : Shape := ⟨2, ![128, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x64x256, .f32⟩
  | .local _ .vmem, ⟨1, _⟩ => ⟨S8x64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLruIdeal.lean ====
abbrev S8x128x256 : Shape := ⟨3, ![8, 128, 256]⟩
abbrev S128x256 : Shape := ⟨2, ![128, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x64x256, .f32⟩
  | .local _ .vmem, ⟨1, _⟩ => ⟨S8x64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLruReferenceIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S_, .f32⟩
  | .hbm, ⟨10, _⟩ => ⟨S128x256, .f32⟩
  | .hbm, ⟨11, _⟩ => ⟨S128x256, .f32⟩
  | .hbm, ⟨12, _⟩ => ⟨S_, .f32⟩
  | .hbm, ⟨13, _⟩ => ⟨S128x256, .f32⟩
  | .hbm, ⟨14, _⟩ => ⟨S128x256, .f32⟩
  | .hbm, ⟨15, _⟩ => ⟨S128x256, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamFfnOut.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutReferenceIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamFfnIn.lean ====
abbrev S8x1024x768 : Shape := ⟨3, ![8, 1024, 768]⟩
abbrev S1024x704 : Shape := ⟨2, ![1024, 704]⟩
abbrev S8x1024x704 : Shape := ⟨3, ![8, 1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInReferenceIdeal.lean ====
abbrev S8x1024x768 : Shape := ⟨3, ![8, 1024, 768]⟩
abbrev S1024x704 : Shape := ⟨2, ![1024, 704]⟩
abbrev S8x1024x704 : Shape := ⟨3, ![8, 1024, 704]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .bf16⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | .hbm, ⟨40, _⟩ => ⟨S1024x704, .f32⟩
  | .hbm, ⟨41, _⟩ => ⟨S_, .f32⟩
  | .hbm, ⟨42, _⟩ => ⟨S1024x704, .f32⟩
  | .hbm, ⟨43, _⟩ => ⟨S1024x704, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamIn.lean ====
abbrev S6x1024x1024 : Shape := ⟨3, ![6, 1024, 1024]⟩
abbrev S1024x1024 : Shape := ⟨2, ![1024, 1024]⟩
abbrev S2x1024x1024 : Shape := ⟨3, ![2, 1024, 1024]⟩
abbrev S6x256x1024 : Shape := ⟨3, ![6, 256, 1024]⟩
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S6x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2x1024x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S6x256x1024, .bf16⟩
  | .local _ .vmem, ⟨1, _⟩ => ⟨S6x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S6x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S6x1024x1024 : Shape := ⟨3, ![6, 1024, 1024]⟩
abbrev S1024x1024 : Shape := ⟨2, ![1024, 1024]⟩
abbrev S2x1024x1024 : Shape := ⟨3, ![2, 1024, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S6x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2x1024x1024, .bf16⟩
  | .hbm, ⟨5, _⟩ => ⟨S6x1024x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S2x1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S6x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Loss.lean ====
abbrev S8x48x1024 : Shape := ⟨3, ![8, 48, 1024]⟩
abbrev S48x1024 : Shape := ⟨2, ![48, 1024]⟩
abbrev S1x48x1024 : Shape := ⟨3, ![1, 48, 1024]⟩
abbrev S1x1024 : Shape := ⟨2, ![1, 1024]⟩
abbrev S1024 : Shape := ⟨1, ![1024]⟩
abbrev S_ : Shape := ⟨0, ![]⟩

abbrev nBuf : Space → Nat
  | .hbm => 8
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossReferenceIdeal.lean ====
abbrev S8x48x1024 : Shape := ⟨3, ![8, 48, 1024]⟩
abbrev S8x1x1024 : Shape := ⟨3, ![8, 1, 1024]⟩
abbrev S8x1024 : Shape := ⟨2, ![8, 1024]⟩
abbrev S_ : Shape := ⟨0, ![]⟩
abbrev S8 : Shape := ⟨1, ![8]⟩
abbrev S48x1024 : Shape := ⟨2, ![48, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S8x1x1024, .f32⟩
  | .hbm, ⟨2, _⟩ => ⟨S8x1024, .f32⟩
  | .hbm, ⟨3, _⟩ => ⟨S_, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Step.lean ====
/- What one grid step of the kernel stores, written once for all heads and chunks.
   `Loads` holds the blocks a step loads, by chunk within the step and head. `gateGrad`, `outGrad`, `queryRot`, `keyRot`,
   `valueGrad`, `queryGrad`, `keyGrad` and `stateNext` are the kernel's operations on one chunk of one head. `pieces` lists the
   step's stores into the result block and `carried` the stores into the state gradient kept between steps. -/
module

public import proofs.«01_k».proof.Proof.Gen.KernelIdeal.Value

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type}

section Ops

variable [FloatOps F]

/-- A block of one number. -/
def num (b : BitVec 32) : FVec F S128x128 .f32 := broadcast S128x128 (Scalar.ofBits .f32 b)

/-- The sigmoid of the gate, through the hyperbolic tangent. -/
def gate (g : FVec F S128x128 .f32) : FVec F S128x128 .f32 :=
  addf (mulf (num 0x3F000000#32) (tanh (mulf (num 0x3F000000#32) g))) (num 0x3F000000#32)

/-- The mean of each row, kept as a column. -/
def rowMean (x : FVec F S128x128 .f32) : FVec F S128x1 .f32 :=
  divf (shapeCast S128x1 (multiReduction .add [1] S128 x 0x00000000#32 reduces_S128x128_S128 (.inl rfl) rfl) shapeCasts_S128_S128x1)
    (broadcast S128x1 (Scalar.ofBits .f32 0x43000000#32))

/-- The factor that normalises each row. -/
def normFactor (o : FVec F S128x128 .f32) : FVec F S128x1 .f32 :=
  rsqrt (addf (rowMean (mulf o o)) (broadcast S128x1 (Scalar.ofBits .f32 0x358637BD#32)))

/-- The normalised rows. -/
def normed (o : FVec F S128x128 .f32) : FVec F S128x128 .f32 :=
  mulf o (broadcastTo S128x128 (normFactor o) broadcasts_S128x1_S128x128)

/-- The saved outputs, in wide floats. -/
def wideOut (o : FVec F S128x128 .bf16) : FVec F S128x128 .f32 :=
  extf .f32 (shapeCast S128x128 o shapeCasts_S128x128_S128x128) bitsLt_bf16_f32

/-- The gradient of the gate. -/
def gateGrad (o g z : FVec F S128x128 .bf16) : FVec F S128x128 .bf16 :=
  truncf .bf16 (mulf (mulf (extf .f32 z bitsLt_bf16_f32) (normed (wideOut o)))
    (mulf (gate (extf .f32 g bitsLt_bf16_f32))
      (addf (num 0x3F800000#32) (mulf (extf .f32 g bitsLt_bf16_f32) (subf (num 0x3F800000#32) (gate (extf .f32 g bitsLt_bf16_f32)))))))
    bitsLt_bf16_f32

/-- The gradient of the normalised output. -/
def normedGrad (g z : FVec F S128x128 .bf16) : FVec F S128x128 .f32 :=
  mulf (extf .f32 z bitsLt_bf16_f32) (mulf (extf .f32 g bitsLt_bf16_f32) (gate (extf .f32 g bitsLt_bf16_f32)))

/-- The gradient of the retention's output. -/
def outGrad (o g z : FVec F S128x128 .bf16) : FVec F S128x128 .bf16 :=
  truncf .bf16 (mulf (broadcastTo S128x128 (normFactor (wideOut o)) broadcasts_S128x1_S128x128)
    (subf (normedGrad g z) (mulf (normed (wideOut o))
      (broadcastTo S128x128 (rowMean (mulf (normedGrad g z) (normed (wideOut o)))) broadcasts_S128x1_S128x128))))
    bitsLt_bf16_f32

/-- A block of the rotary tables. -/
def table (x : FVec F S128x128 .f32) : FVec F S128x128 .f32 := shapeCast S128x128 x shapeCasts_S128x128_S128x128

/-- The rotation of a block of queries or keys. -/
def rot (x : FVec F S128x128 .bf16) (cs sn : FVec F S128x128 .f32) : FVec F S128x128 .f32 :=
  addf (mulf (extf .f32 x bitsLt_bf16_f32) (table cs))
    (mulf (dynamicRotate 1 64#32 none (extf .f32 x bitsLt_bf16_f32) rotates_S128x128_d1) (table sn))

/-- The rotated and scaled keys. -/
def keyRot (k : FVec F S128x128 .bf16) (cs sn : FVec F S128x128 .f32) : FVec F S128x128 .f32 :=
  mulf (rot k cs sn) (num 0x3DB504F3#32)

/-- The rotation backwards. -/
def rotBack (x cs sn : FVec F S128x128 .f32) : FVec F S128x128 .f32 :=
  subf (mulf x (table cs)) (mulf (dynamicRotate 1 64#32 none x rotates_S128x128_d1) (table sn))

/-- The zero block a product starts from. -/
def zeros : FVec F S128x128 .f32 := constant S128x128 .f32 0x00000000#32

/-- The matrix of a decay or of a state. -/
def mat (x : FVec F S1x1x128x128 .f32) : FVec F S128x128 .f32 := shapeCast S128x128 x shapeCasts_S1x1x128x128_S128x128

abbrev narrow (x : FVec F S128x128 .f32) : FVec F S128x128 .bf16 := truncf .bf16 x bitsLt_bf16_f32

/-- `a b` -/
abbrev mm (a b : FVec F S128x128 .bf16) : FVec F S128x128 .f32 := matmul dot_S128x128_S128x128_S128x128_1_0_0_1_n_n none a b zeros
/-- `a bᵀ` -/
abbrev mmT (a b : FVec F S128x128 .bf16) : FVec F S128x128 .f32 := matmul dot_S128x128_S128x128_S128x128_1_1_0_0_n_n none a b zeros
/-- `aᵀ b` -/
abbrev mTm (a b : FVec F S128x128 .bf16) : FVec F S128x128 .f32 := matmul dot_S128x128_S128x128_S128x128_0_0_1_1_n_n none a b zeros

/-- The gradient of the values. -/
def valueGrad (intra kd dst : FVec F S128x128 .f32) (q k : FVec F S128x128 .f32) (y : FVec F S128x128 .bf16) : FVec F S128x128 .f32 :=
  addf (mTm (narrow (mulf (mmT (narrow q) (narrow k)) intra)) y) (mm (narrow (mulf k kd)) (narrow dst))

/-- The gradient of the rotated queries. -/
def queryGrad (intra qd st : FVec F S128x128 .f32) (k : FVec F S128x128 .f32) (v y : FVec F S128x128 .bf16) : FVec F S128x128 .f32 :=
  addf (mm (narrow (mulf (mmT y v) intra)) (narrow k)) (mulf (mmT y (narrow st)) qd)

/-- The gradient of the rotated keys. -/
def keyGrad (intra kd dst : FVec F S128x128 .f32) (q : FVec F S128x128 .f32) (v y : FVec F S128x128 .bf16) : FVec F S128x128 .f32 :=
  addf (mTm (narrow (mulf (mmT y v) intra)) (narrow q)) (mulf (mmT v (narrow dst)) kd)

/-- The gradient of the state, one chunk further back. -/
def stateNext (qd cd dst : FVec F S128x128 .f32) (q : FVec F S128x128 .f32) (y : FVec F S128x128 .bf16) : FVec F S128x128 .f32 :=
  addf (mulf dst cd) (mTm (narrow (mulf q qd)) y)

end Ops

/-- The blocks a grid step loads: by chunk within the step and head, by chunk for the tables, by head for the decays
    (inside the chunk, of the queries, of the keys, of the chunk) and for the state gradient the step starts from. -/
structure Loads (F : FTy → Type) where
  z : Fin 5 → Fin 8 → FVec F S128x128 .bf16
  o : Fin 5 → Fin 8 → FVec F S128x128 .bf16
  q : Fin 5 → Fin 8 → FVec F S128x128 .bf16
  k : Fin 5 → Fin 8 → FVec F S128x128 .bf16
  v : Fin 5 → Fin 8 → FVec F S128x128 .bf16
  g : Fin 5 → Fin 8 → FVec F S128x128 .bf16
  st : Fin 5 → Fin 8 → FVec F S1x1x128x128 .f32
  cs : Fin 5 → FVec F S128x128 .f32
  sn : Fin 5 → FVec F S128x128 .f32
  dec : Fin 4 → Fin 8 → FVec F S1x1x128x128 .f32

section Chain

variable [FloatOps F] (X : Loads F)

/-- The rotated queries of chunk `c` of head `h`. -/
def qr (c : Fin 5) (h : Fin 8) : FVec F S128x128 .f32 := rot (X.q c h) (X.cs c) (X.sn c)
/-- The rotated keys. -/
def kr (c : Fin 5) (h : Fin 8) : FVec F S128x128 .f32 := keyRot (X.k c h) (X.cs c) (X.sn c)
/-- The gradient of the output. -/
def yg (c : Fin 5) (h : Fin 8) : FVec F S128x128 .bf16 := outGrad (X.o c h) (X.g c h) (X.z c h)

/-- The state gradient one chunk further back than `dst`, across chunk `c`. -/
def back (h : Fin 8) (dst : FVec F S128x128 .f32) (c : Fin 5) : FVec F S128x128 .f32 :=
  stateNext (mat (X.dec 1 h)) (mat (X.dec 3 h)) dst (qr X c h) (yg X c h)

/-- The stored gradients of chunk `c` of head `h`, where the state gradient is `dst`. -/
def stG (c : Fin 5) (h : Fin 8) : FVec F S128x128 .bf16 := gateGrad (X.o c h) (X.g c h) (X.z c h)
def stV (dst : FVec F S128x128 .f32) (c : Fin 5) (h : Fin 8) : FVec F S128x128 .bf16 :=
  narrow (valueGrad (mat (X.dec 0 h)) (mat (X.dec 2 h)) dst (qr X c h) (kr X c h) (yg X c h))
def stQ (c : Fin 5) (h : Fin 8) : FVec F S128x128 .bf16 :=
  narrow (rotBack (queryGrad (mat (X.dec 0 h)) (mat (X.dec 1 h)) (mat (X.st c h)) (kr X c h) (X.v c h) (yg X c h)) (X.cs c) (X.sn c))
def stK (dst : FVec F S128x128 .f32) (c : Fin 5) (h : Fin 8) : FVec F S128x128 .bf16 :=
  narrow (mulf (rotBack (keyGrad (mat (X.dec 0 h)) (mat (X.dec 2 h)) dst (qr X c h) (X.v c h) (yg X c h)) (X.cs c) (X.sn c)) (num 0x3DB504F3#32))

end Chain

theorem inbOut (c : Fin 5) (h : Fin 8) (p : Fin 4) :
    ∀ a, (![128 * c.val, 1024 * p.val + 128 * h.val] : Fin 2 → ℕ) a + (![128, 128] : Fin 2 → ℕ) a ≤ S640x4096.size a := by
  intro a; match a with
  | ⟨0, _⟩ => show 128 * c.val + 128 ≤ 640; omega
  | ⟨1, _⟩ => show 1024 * p.val + 128 * h.val + 128 ≤ 4096; omega

/-- The place in the result block of gradient `p` (queries, keys, values, gate) of chunk `c` of head `h`. -/
def outRect (c : Fin 5) (h : Fin 8) (p : Fin 4) : Rect S640x4096 :=
  Rect.unit (s := S640x4096) ![128 * c.val, 1024 * p.val + 128 * h.val] ![128, 128] (inbOut c h p)

theorem inbState (h : Fin 8) : ∀ a, (![h.val, 0, 0] : Fin 3 → ℕ) a + (![1, 128, 128] : Fin 3 → ℕ) a ≤ S8x128x128.size a := by
  intro a; match a with
  | ⟨0, _⟩ => show h.val + 1 ≤ 8; omega
  | ⟨1, _⟩ => show 0 + 128 ≤ 128; omega
  | ⟨2, _⟩ => show 0 + 128 ≤ 128; omega

/-- The place of head `h` in the state gradient. -/
def stateRect (h : Fin 8) : Rect S8x128x128 := Rect.unit (s := S8x128x128) ![h.val, 0, 0] ![1, 128, 128] (inbState h)

section Pieces

variable [FloatOps F] (X : Loads F)

/-- The stores of one chunk of one head, the last first. -/
def chunkPieces (h : Fin 8) (dst : FVec F S128x128 .f32) (c : Fin 5) : List (View.Piece (Elt F) S640x4096 .bf16) :=
  [⟨outRect c h 1, stK X dst c h⟩, ⟨outRect c h 0, stQ X c h⟩, ⟨outRect c h 2, stV X dst c h⟩, ⟨outRect c h 3, stG X c h⟩]

/-- The stores of the chunks `cs`, taken in order, of head `h`, the last first, put before `L`. -/
def headPieces (h : Fin 8) (L : List (View.Piece (Elt F) S640x4096 .bf16)) :
    List (Fin 5) → FVec F S128x128 .f32 → List (View.Piece (Elt F) S640x4096 .bf16)
  | [], _ => L
  | c :: cs, dst => headPieces h (chunkPieces X h dst c ++ L) cs (back X h dst c)

/-- All stores of a step into the result block, the last first; head `h` starts from the state gradient `D hs h`, where
    `hs` are the heads before it. -/
def pieces (D : List (Fin 8) → Fin 8 → FVec F S128x128 .f32) : List (Fin 8) → List (View.Piece (Elt F) S640x4096 .bf16)
  | [] => []
  | h :: hs => headPieces X h (pieces D hs) [4, 3, 2, 1, 0] (D hs h)

/-- What a step leaves in the state gradient of head `h`. -/
def stateAfter (h : Fin 8) (dst : FVec F S128x128 .f32) : FVec F S128x128 .f32 :=
  back X h (back X h (back X h (back X h (back X h dst 4) 3) 2) 1) 0

/-- The store of head `h` into the state gradient. -/
def statePiece (h : Fin 8) (dst : FVec F S128x128 .f32) : View.Piece (Elt F) S8x128x128 .f32 :=
  ⟨stateRect h, shapeCast S1x128x128 (stateAfter X h dst) shapeCasts_S128x128_S1x128x128⟩

/-- All stores of a step into the state gradient, the last first, where the heads start from `D`. -/
def carried (D : Fin 8 → FVec F S128x128 .f32) : List (Fin 8) → List (View.Piece (Elt F) S8x128x128 .f32)
  | [] => []
  | h :: hs => statePiece X h (D h) :: carried D hs

/-- The state gradient of head `h` read back from the stores `L`. -/
def readBack {κ : Kind} {sp : Space} (v : View sig κ sp S8x128x128 .f32) (L : List (View.Piece (Elt F) S8x128x128 .f32)) (h : Fin 8) :
    FVec F S128x128 .f32 :=
  shapeCast S128x128 (v.readCov L (stateRect h).toLoadRect : FVec F S1x128x128 .f32) shapeCasts_S1x128x128_S128x128

/-- All stores of the first step into the state gradient, the last first: the whole of it is set to zero, and then each head
    starts from what it reads back. -/
def carriedFirst {κ : Kind} {sp : Space} (v : View sig κ sp S8x128x128 .f32) : List (Fin 8) → List (View.Piece (Elt F) S8x128x128 .f32)
  | [] => [⟨Rect.unit (s := S8x128x128) ![0, 0, 0] S8x128x128.size inb_S8x128x128_S8x128x128_0_0_0,
      shapeCast S8x128x128 (broadcast S8x128x128 (Scalar.ofBits (F := F) .f32 0x00000000#32)) shapeCasts_S8x128x128_S8x128x128⟩]
  | h :: hs => statePiece X h (readBack v (carriedFirst v hs) h) :: carriedFirst v hs

end Pieces

end Cert.KernelIdeal.Step
-- ==== Proof.Decay.lean ====
/- The decay of the retention over the real numbers, and how a sum over all tokens splits at a chunk of 128 tokens.
   For a head with logarithm of decay `l`, token `t` sees token `s ≤ t` with weight `exp ((t - s) l)`. Seen from chunk `n`
   this weight is the sum of a part inside the chunk and a product of two factors, one of the token inside the chunk and one
   of the token outside. So each sum over all tokens is a sum over the chunk and a state multiplied by a factor. -/
module

public import Mathlib.Analysis.SpecialFunctions.Exp
public import Mathlib.Algebra.BigOperators.Fin

@[expose] public section

noncomputable section

namespace Retention

open Finset

/-- Token `m` of chunk `n`. -/
def tok (n : Fin 65) (m : Fin 128) : Fin 8320 := ⟨128 * n.val + m.val, by omega⟩

/-- The place of a token within its chunk. -/
def place (t : Fin 8320) : Fin 128 := ⟨t.val % 128, Nat.mod_lt _ (by decide)⟩

/-- The weight with which token `t` sees token `s`. -/
def decay (l : ℝ) (t s : Fin 8320) : ℝ := if s.val ≤ t.val then Real.exp (((t.val : ℝ) - s.val) * l) else 0

/-- The same weight between two places of one chunk. -/
def intra (l : ℝ) (c m : Fin 128) : ℝ := if m.val ≤ c.val then Real.exp (((c.val : ℝ) - m.val) * l) else 0

/-- The weight of token `s` in the state before chunk `n`. -/
def before (l : ℝ) (n : ℕ) (s : Fin 8320) : ℝ :=
  if s.val < 128 * n then Real.exp ((128 * (n : ℝ) - 1 - s.val) * l) else 0

/-- The weight of token `t` in the gradient of the state before chunk `n`: the tokens from chunk `n` on. -/
def after (l : ℝ) (n : ℕ) (t : Fin 8320) : ℝ :=
  if 128 * n ≤ t.val then Real.exp (((t.val : ℝ) - 128 * (n : ℝ) + 1) * l) else 0

/-- The factor of place `c` on the state before the chunk. -/
def qdec (l : ℝ) (c : Fin 128) : ℝ := Real.exp (((c.val : ℝ) + 1) * l)

/-- The factor of place `m` on the state after the chunk. -/
def kdec (l : ℝ) (m : Fin 128) : ℝ := Real.exp ((127 - (m.val : ℝ)) * l)

/-- The factor of the state over one whole chunk. -/
def cdec (l : ℝ) : ℝ := Real.exp (128 * l)

theorem tok_div (n : Fin 65) (m : Fin 128) : (tok n m).val / 128 = n.val := by
  show (128 * n.val + m.val) / 128 = n.val
  omega

theorem place_tok (n : Fin 65) (m : Fin 128) : place (tok n m) = m := by
  apply Fin.ext
  show (128 * n.val + m.val) % 128 = m.val
  omega

theorem tok_place (n : Fin 65) (t : Fin 8320) (h : t.val / 128 = n.val) : tok n (place t) = t := by
  apply Fin.ext
  show 128 * n.val + t.val % 128 = t.val
  omega

/-- A sum over all tokens of a function that vanishes outside chunk `n` is the sum over the chunk. -/
theorem sum_chunk (n : Fin 65) (f : Fin 8320 → ℝ) :
    ∑ t, (if t.val / 128 = n.val then f t else 0) = ∑ m, f (tok n m) := by
  rw [← Finset.sum_filter]
  refine Finset.sum_bij' (fun t _ => place t) (fun m _ => tok n m) ?_ ?_ ?_ ?_ ?_
  · intro t _; exact Finset.mem_univ _
  · intro m _; simp only [Finset.mem_filter, Finset.mem_univ, true_and]; exact tok_div n m
  · intro t h; exact tok_place n t (Finset.mem_filter.mp h).2
  · intro m _; exact place_tok n m
  · intro t h; rw [tok_place n t (Finset.mem_filter.mp h).2]

private theorem cast_div (t : Fin 8320) (n : Fin 65) (h : t.val / 128 = n.val) :
    (t.val : ℝ) = 128 * (n.val : ℝ) + ((place t).val : ℝ) := by
  have h2 : t.val = 128 * n.val + (place t).val := by show t.val = 128 * n.val + t.val % 128; omega
  exact_mod_cast h2

/-- The weights with which place `c` of chunk `n` sees the tokens. -/
theorem decay_row (l : ℝ) (n : Fin 65) (c : Fin 128) (s : Fin 8320) :
    decay l (tok n c) s = (if s.val / 128 = n.val then intra l c (place s) else 0) + before l n.val s * qdec l c := by
  have hv : (tok n c).val = 128 * n.val + c.val := rfl
  have hr : ((tok n c).val : ℝ) = 128 * (n.val : ℝ) + c.val := by rw [hv]; push_cast; ring
  unfold decay intra before qdec
  by_cases h1 : s.val / 128 = n.val
  · have hp : s.val = 128 * n.val + (place s).val := by show s.val = 128 * n.val + s.val % 128; omega
    rw [if_pos h1, if_neg (by omega : ¬ s.val < 128 * n.val), zero_mul, add_zero]
    by_cases h2 : (place s).val ≤ c.val
    · rw [if_pos h2, if_pos (by omega), hr, cast_div s n h1]
      congr 1; ring
    · rw [if_neg h2, if_neg (by omega)]
  · rw [if_neg h1, zero_add]
    by_cases h2 : s.val < 128 * n.val
    · rw [if_pos h2, if_pos (by omega), hr, ← Real.exp_add]
      congr 1; ring
    · rw [if_neg h2, zero_mul, if_neg (by omega)]

/-- The weights with which the tokens see place `m` of chunk `n`. -/
theorem decay_col (l : ℝ) (n : Fin 65) (m : Fin 128) (t : Fin 8320) :
    decay l t (tok n m) = (if t.val / 128 = n.val then intra l (place t) m else 0) + after l (n.val + 1) t * kdec l m := by
  have hv : (tok n m).val = 128 * n.val + m.val := rfl
  have hr : ((tok n m).val : ℝ) = 128 * (n.val : ℝ) + m.val := by rw [hv]; push_cast; ring
  unfold decay intra after kdec
  by_cases h1 : t.val / 128 = n.val
  · have hp : t.val = 128 * n.val + (place t).val := by show t.val = 128 * n.val + t.val % 128; omega
    rw [if_pos h1, if_neg (by omega : ¬ 128 * (n.val + 1) ≤ t.val), zero_mul, add_zero]
    by_cases h2 : m.val ≤ (place t).val
    · rw [if_pos h2, if_pos (by omega), hr, cast_div t n h1]
      congr 1; ring
    · rw [if_neg h2, if_neg (by omega)]
  · rw [if_neg h1, zero_add]
    by_cases h2 : 128 * (n.val + 1) ≤ t.val
    · rw [if_pos h2, if_pos (by omega), hr, ← Real.exp_add]
      congr 1; push_cast; ring
    · rw [if_neg h2, zero_mul, if_neg (by omega)]

/-- One chunk further back, the weights in the gradient of the state. -/
theorem after_step (l : ℝ) (n : Fin 65) (t : Fin 8320) :
    after l n.val t = after l (n.val + 1) t * cdec l + (if t.val / 128 = n.val then qdec l (place t) else 0) := by
  unfold after cdec qdec
  by_cases h1 : t.val / 128 = n.val
  · rw [if_pos h1, if_pos (by omega), if_neg (by omega : ¬ 128 * (n.val + 1) ≤ t.val), zero_mul, zero_add, cast_div t n h1]
    congr 1; ring
  · rw [if_neg h1, add_zero]
    by_cases h2 : 128 * (n.val + 1) ≤ t.val
    · rw [if_pos h2, if_pos (by omega), ← Real.exp_add]
      congr 1; push_cast; ring
    · rw [if_neg h2, if_neg (by omega), zero_mul]

/-- No token lies beyond the last chunk. -/
theorem after_last (l : ℝ) (t : Fin 8320) : after l 65 t = 0 := by
  unfold after
  rw [if_neg (by have := t.isLt; omega)]

theorem sum_decay_row (l : ℝ) (n : Fin 65) (c : Fin 128) (f : Fin 8320 → ℝ) :
    ∑ s, f s * decay l (tok n c) s = ∑ m, f (tok n m) * intra l c m + (∑ s, f s * before l n.val s) * qdec l c := by
  have h : ∀ s, f s * decay l (tok n c) s =
      (if s.val / 128 = n.val then f s * intra l c (place s) else 0) + f s * before l n.val s * qdec l c := by
    intro s
    rw [decay_row, mul_add, mul_ite, mul_zero]; ring
  simp only [h, Finset.sum_add_distrib, sum_chunk n (fun s => f s * intra l c (place s)), place_tok, Finset.sum_mul]

theorem sum_decay_col (l : ℝ) (n : Fin 65) (m : Fin 128) (f : Fin 8320 → ℝ) :
    ∑ t, f t * decay l t (tok n m) =
      ∑ c, f (tok n c) * intra l c m + (∑ t, f t * after l (n.val + 1) t) * kdec l m := by
  have h : ∀ t, f t * decay l t (tok n m) =
      (if t.val / 128 = n.val then f t * intra l (place t) m else 0) + f t * after l (n.val + 1) t * kdec l m := by
    intro t
    rw [decay_col, mul_add, mul_ite, mul_zero]; ring
  simp only [h, Finset.sum_add_distrib, sum_chunk n (fun t => f t * intra l (place t) m), place_tok, Finset.sum_mul]

theorem sum_after_step (l : ℝ) (n : Fin 65) (f : Fin 8320 → ℝ) :
    ∑ t, f t * after l n.val t = (∑ t, f t * after l (n.val + 1) t) * cdec l + ∑ c, f (tok n c) * qdec l c := by
  have h : ∀ t, f t * after l n.val t =
      f t * after l (n.val + 1) t * cdec l + (if t.val / 128 = n.val then f t * qdec l (place t) else 0) := by
    intro t
    rw [after_step, mul_add, mul_ite, mul_zero]; ring
  simp only [h, Finset.sum_add_distrib, sum_chunk n (fun t => f t * qdec l (place t)), place_tok, Finset.sum_mul]

/-! ## One head: tokens by 128 features -/

section Head

variable (l : ℝ) (q k v y : Fin 8320 → Fin 128 → ℝ)

/-- The state before chunk `n`. -/
def state (n : ℕ) (d e : Fin 128) : ℝ := ∑ s, (k s d * before l n s) * v s e

/-- The gradient of the state before chunk `n`. -/
def dstate (n : ℕ) (d e : Fin 128) : ℝ := ∑ t, (q t d * y t e) * after l n t

theorem dstate_last (d e : Fin 128) : dstate l q y 65 d e = 0 := by
  unfold dstate
  simp only [after_last, mul_zero, Finset.sum_const_zero]

theorem dstate_step (n : Fin 65) (d e : Fin 128) :
    dstate l q y n.val d e = dstate l q y (n.val + 1) d e * cdec l + ∑ c, (q (tok n c) d * qdec l c) * y (tok n c) e := by
  unfold dstate
  rw [sum_after_step l n (fun t => q t d * y t e)]
  congr 1
  exact Finset.sum_congr rfl fun c _ => by ring

/-- The gradient of the queries. -/
theorem grad_q (n : Fin 65) (c d : Fin 128) :
    ∑ s, ((∑ e, y (tok n c) e * v s e) * decay l (tok n c) s) * k s d =
      (∑ m, ((∑ e, y (tok n c) e * v (tok n m) e) * intra l c m) * k (tok n m) d) +
        (∑ e, y (tok n c) e * state l k v n.val d e) * qdec l c := by
  have h := sum_decay_row l n c (fun s => (∑ e, y (tok n c) e * v s e) * k s d)
  have e1 : ∀ s, ((∑ e, y (tok n c) e * v s e) * decay l (tok n c) s) * k s d
      = ((∑ e, y (tok n c) e * v s e) * k s d) * decay l (tok n c) s := fun s => by ring
  simp only [e1]
  rw [h]
  refine congrArg₂ (· + ·) ?_ ?_
  · exact Finset.sum_congr rfl fun m _ => by ring
  · refine congrArg (fun z => z * qdec l c) ?_
    unfold state
    simp only [Finset.sum_mul, Finset.mul_sum]
    rw [Finset.sum_comm]
    exact Finset.sum_congr rfl fun e _ => Finset.sum_congr rfl fun s _ => by ring

/-- The gradient of the keys. -/
theorem grad_k (n : Fin 65) (m d : Fin 128) :
    ∑ t, ((∑ e, y t e * v (tok n m) e) * decay l t (tok n m)) * q t d =
      (∑ c, ((∑ e, y (tok n c) e * v (tok n m) e) * intra l c m) * q (tok n c) d) +
        (∑ e, v (tok n m) e * dstate l q y (n.val + 1) d e) * kdec l m := by
  have h := sum_decay_col l n m (fun t => (∑ e, y t e * v (tok n m) e) * q t d)
  have e1 : ∀ t, ((∑ e, y t e * v (tok n m) e) * decay l t (tok n m)) * q t d
      = ((∑ e, y t e * v (tok n m) e) * q t d) * decay l t (tok n m) := fun t => by ring
  simp only [e1]
  rw [h]
  refine congrArg₂ (· + ·) ?_ ?_
  · exact Finset.sum_congr rfl fun c _ => by ring
  · refine congrArg (fun z => z * kdec l m) ?_
    unfold dstate
    simp only [Finset.sum_mul, Finset.mul_sum]
    rw [Finset.sum_comm]
    exact Finset.sum_congr rfl fun e _ => Finset.sum_congr rfl fun s _ => by ring

/-- The gradient of the values. -/
theorem grad_v (n : Fin 65) (m e : Fin 128) :
    ∑ t, y t e * ((∑ d, q t d * k (tok n m) d) * decay l t (tok n m)) =
      (∑ c, ((∑ d, q (tok n c) d * k (tok n m) d) * intra l c m) * y (tok n c) e) +
        ∑ d, (k (tok n m) d * kdec l m) * dstate l q y (n.val + 1) d e := by
  have h := sum_decay_col l n m (fun t => (∑ d, q t d * k (tok n m) d) * y t e)
  have e1 : ∀ t, y t e * ((∑ d, q t d * k (tok n m) d) * decay l t (tok n m))
      = ((∑ d, q t d * k (tok n m) d) * y t e) * decay l t (tok n m) := fun t => by ring
  simp only [e1]
  rw [h]
  refine congrArg₂ (· + ·) ?_ ?_
  · exact Finset.sum_congr rfl fun c _ => by ring
  · unfold dstate
    simp only [Finset.sum_mul, Finset.mul_sum]
    rw [Finset.sum_comm]
    exact Finset.sum_congr rfl fun e _ => Finset.sum_congr rfl fun s _ => by ring

end Head

end Retention
-- ==== Proof.Rows.lean ====
/- The mathematics of one row of a head in real numbers: the sigmoid, the normalisation of a row and its gradient, the
   rotation of a row and the rotation backwards; and the numbers the programs write as bits. -/
module

public import proofs.«01_k».proof.Proof.Decay
public import Idealize.ShloMosaic.PureOps.Ideal.Laws

@[expose] public section

noncomputable section

namespace Retention

open Idealize.ShloMosaic

/-- The sigmoid. -/
def sgm (x : ℝ) : ℝ := (1 + Real.exp (-x))⁻¹

theorem sgm_tanh (x : ℝ) : 1 / 2 * Real.tanh (1 / 2 * x) + 1 / 2 = sgm x := by
  unfold sgm
  rw [Real.tanh_eq_sinh_div_cosh, Real.sinh_eq, Real.cosh_eq]
  have h1 : Real.exp (1 / 2 * x) ≠ 0 := (Real.exp_pos _).ne'
  have h2 : Real.exp (-x) = (Real.exp (1 / 2 * x) * Real.exp (1 / 2 * x))⁻¹ := by
    rw [← Real.exp_add, ← Real.exp_neg]; congr 1; ring
  have h3 : Real.exp (-(1 / 2 * x)) = (Real.exp (1 / 2 * x))⁻¹ := Real.exp_neg _
  rw [h2, h3]
  have hp : 0 < Real.exp (1 / 2 * x) := Real.exp_pos _
  generalize Real.exp (1 / 2 * x) = u at *
  have e1 : u + u⁻¹ ≠ 0 := by positivity
  have e2 : 1 + (u * u)⁻¹ ≠ 0 := by positivity
  field_simp
  ring

/-- The number added to the mean of the squares. -/
def eps : ℝ := 8796093 * (2 : ℝ) ^ (-43 : ℤ)

/-- The factor on the keys. -/
def scale : ℝ := 11863283 * (2 : ℝ) ^ (-27 : ℤ)

theorem eps_pos : 0 < eps := by unfold eps; positivity

/-- A positive normal number from its exponent and fraction. -/
theorem bits_pos (b : BitVec 32) (E T : ℕ) (r : ℝ) (h1 : (b.extractLsb' 31 1 == 1#1) = false) (h2 : (b.extractLsb' 23 8).toNat = E)
    (h3 : (b.extractLsb' 0 23).toNat = T) (hE : E ≠ 255) (hE0 : E ≠ 0)
    (hr : ((2 ^ 23 + T : ℕ) : ℝ) * (2 : ℝ) ^ ((E : ℤ) - 127 - 23) = r) : Ideal.ofBits .f32 b = (r : EReal) := by
  subst h2 h3 hr
  simp only [Ideal.ofBits, Ideal.ieee]
  rw [if_neg (by norm_num at hE ⊢; exact hE), if_neg (by norm_num at hE0 ⊢; exact hE0)]
  refine congrArg (fun x : ℝ => (x : EReal)) ?_
  rw [show ((b.extractLsb' (8 + 23) 1 == 1#1)) = false from h1]
  norm_num

/-- A negative normal number from its exponent and fraction. -/
theorem bits_neg (b : BitVec 32) (E T : ℕ) (r : ℝ) (h1 : (b.extractLsb' 31 1 == 1#1) = true) (h2 : (b.extractLsb' 23 8).toNat = E)
    (h3 : (b.extractLsb' 0 23).toNat = T) (hE : E ≠ 255) (hE0 : E ≠ 0)
    (hr : -(((2 ^ 23 + T : ℕ) : ℝ) * (2 : ℝ) ^ ((E : ℤ) - 127 - 23)) = r) : Ideal.ofBits .f32 b = (r : EReal) := by
  subst h2 h3 hr
  simp only [Ideal.ofBits, Ideal.ieee]
  rw [if_neg (by norm_num at hE ⊢; exact hE), if_neg (by norm_num at hE0 ⊢; exact hE0)]
  refine congrArg (fun x : ℝ => (x : EReal)) ?_
  rw [show ((b.extractLsb' (8 + 23) 1 == 1#1)) = true from h1]
  norm_num
  ring

theorem bits_half : Ideal.ofBits .f32 0x3F000000#32 = ((1 / 2 : ℝ) : EReal) :=
  bits_pos _ 126 0 _ (by decide) (by decide) (by decide) (by decide) (by decide) (by norm_num)
theorem bits_one : Ideal.ofBits .f32 0x3F800000#32 = ((1 : ℝ) : EReal) :=
  bits_pos _ 127 0 _ (by decide) (by decide) (by decide) (by decide) (by decide) (by norm_num)
theorem bits_two : Ideal.ofBits .f32 0x40000000#32 = ((2 : ℝ) : EReal) :=
  bits_pos _ 128 0 _ (by decide) (by decide) (by decide) (by decide) (by decide) (by norm_num)
theorem bits_128 : Ideal.ofBits .f32 0x43000000#32 = ((128 : ℝ) : EReal) :=
  bits_pos _ 134 0 _ (by decide) (by decide) (by decide) (by decide) (by decide) (by norm_num)
theorem bits_eps : Ideal.ofBits .f32 0x358637BD#32 = (eps : EReal) :=
  bits_pos _ 107 407485 _ (by decide) (by decide) (by decide) (by decide) (by decide) (by unfold eps; norm_num)
theorem bits_scale : Ideal.ofBits .f32 0x3DB504F3#32 = (scale : EReal) :=
  bits_pos _ 123 3474675 _ (by decide) (by decide) (by decide) (by decide) (by decide) (by unfold scale; norm_num)
theorem bits_127 : Ideal.ofBits .f32 0x42FE0000#32 = ((127 : ℝ) : EReal) :=
  bits_pos _ 133 8257536 _ (by decide) (by decide) (by decide) (by decide) (by decide) (by norm_num)
theorem bits_base : Ideal.ofBits .f32 0x461C4000#32 = ((10000 : ℝ) : EReal) :=
  bits_pos _ 140 1851392 _ (by decide) (by decide) (by decide) (by decide) (by decide) (by norm_num)
theorem bits_neg_five : Ideal.ofBits .f32 0xC0A00000#32 = ((-5 : ℝ) : EReal) :=
  bits_neg _ 129 2097152 _ (by decide) (by decide) (by decide) (by decide) (by decide) (by norm_num)
theorem bits_neg_half : Ideal.ofBits .f32 0xBF000000#32 = ((-(1 / 2) : ℝ) : EReal) :=
  bits_neg _ 126 0 _ (by decide) (by decide) (by decide) (by decide) (by decide) (by norm_num)
theorem bits_zero : Ideal.ofBits .f32 0x00000000#32 = ((0 : ℝ) : EReal) := by
  rw [Ideal.ofBits_zero_f32]; rfl

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Row

variable (o g z x cs sn : Fin 128 → ℝ)

/-- The mean of a row. -/
def mean : ℝ := (∑ j, o j) * (1 / 128)

/-- The number under the root. -/
def under : ℝ := mean (fun j => o j * o j) + eps

theorem under_pos : 0 < under o := by
  unfold under mean
  have h : 0 ≤ ∑ j : Fin 128, o j * o j := Finset.sum_nonneg fun j _ => mul_self_nonneg _
  have := eps_pos
  linarith

/-- The factor that normalises a row. -/
def nf : ℝ := (Real.sqrt (under o))⁻¹

theorem nf_pos : 0 < nf o := inv_pos.mpr (Real.sqrt_pos.mpr (under_pos o))

/-- The normalised row. -/
def nrm (j : Fin 128) : ℝ := o j * nf o

/-- The gradient of the gate. -/
def gateG (j : Fin 128) : ℝ := z j * nrm o j * (sgm (g j) * (1 + g j * (1 - sgm (g j))))

/-- The gradient of the normalised row. -/
def nrmG (j : Fin 128) : ℝ := z j * (g j * sgm (g j))

/-- The gradient of the row before its normalisation. -/
def outG (j : Fin 128) : ℝ := nf o * (nrmG g z j - nrm o j * mean (fun j => nrmG g z j * nrm o j))

/-- The other half of a row. -/
def swap (j : Fin 128) : Fin 128 := ⟨(j.val + 64) % 128, Nat.mod_lt _ (by decide)⟩

/-- The row rotated. -/
def rotR (j : Fin 128) : ℝ := x j * cs j + x (swap j) * sn j

/-- The row rotated backwards, where `sn` is the signed table. -/
def rotB (j : Fin 128) : ℝ := x j * cs j - x (swap j) * sn j

end Row

end Retention
-- ==== Proof.RealStep.lean ====
/- The kernel's operations on one chunk of one head, over extended reals that are real numbers: each is the real
   expression of `Rows`. -/
module

public import proofs.«01_k».proof.Proof.Step
public import proofs.«01_k».proof.Proof.Rows
public import Idealize.ShloMosaic.Lib.MatmulPlain
public import Idealize.ShloMosaic.Lib.ValueIdx
public import Idealize.ShloMosaic.Lib.Pointwise
public import Idealize.ShloMosaic.Lib.Pipeline.Value

@[expose] public section

set_option maxRecDepth 16384

noncomputable section

namespace Cert.KernelIdeal.Step

open Cert.KernelIdeal Cert.KernelIdeal.Gen Idealize.ShloMosaic Idealize.ShloMosaic.TcCoe Idealize.ShloMosaic.ValueIdx
open Retention

/-- A block is the real matrix `f`. -/
def Is {φ : FTy} (x : FVec Ideal S128x128 φ) (f : Fin 128 → Fin 128 → ℝ) : Prop := ∀ i j, x (ValueIdx.ix2 i j) = ((f i j : ℝ) : EReal)

/-- A column is the real vector `f`. -/
def IsCol {φ : FTy} (x : FVec Ideal S128x1 φ) (f : Fin 128 → ℝ) : Prop := ∀ i, x (ValueIdx.ix2 i 0) = ((f i : ℝ) : EReal)

section Ops

variable {φ : FTy} {a b : FVec Ideal S128x128 φ} {f g : Fin 128 → Fin 128 → ℝ}

theorem Is.mul (ha : Is a f) (hb : Is b g) : Is (mulf a b) (fun i j => f i j * g i j) := fun i j => by
  rw [mulf_apply, ha, hb, EReal.coe_mul]
theorem Is.add (ha : Is a f) (hb : Is b g) : Is (addf a b) (fun i j => f i j + g i j) := fun i j => by
  rw [addf_apply, ha, hb, EReal.coe_add]
theorem Is.sub (ha : Is a f) (hb : Is b g) : Is (subf a b) (fun i j => f i j - g i j) := fun i j => by
  rw [subf_apply, ha, hb, EReal.coe_sub]
theorem Is.congr (ha : Is a f) (h : ∀ i j, f i j = g i j) : Is a g := fun i j => by rw [ha, h]
theorem Is.trunc {ψ : FTy} (ha : Is a f) (h : ψ.bits < φ.bits) : Is (truncf ψ a h) f := ha
theorem Is.ext {ψ : FTy} (ha : Is a f) (h : φ.bits < ψ.bits) : Is (extf ψ a h) f := ha
theorem Is.tanh (ha : Is a f) : Is (tanh a) (fun i j => Real.tanh (f i j)) := fun i j => by
  show Ideal.tanh (a (ValueIdx.ix2 i j)) = _
  rw [ha, Ideal.tanh_coe]

theorem Is.self (ha : Is a f) : Is (shapeCast S128x128 a shapeCasts_S128x128_S128x128) f := by
  rw [shapeCast_self]; exact ha

theorem is_num {w : BitVec 32} {r : ℝ} (h : Ideal.ofBits .f32 w = (r : EReal)) : Is (num (F := Ideal) w) (fun _ _ => r) := fun _ _ => h

end Ops

/-! ### Products -/

section Products

variable {a b : FVec Ideal S128x128 .bf16} {f g : Fin 128 → Fin 128 → ℝ}

theorem Is.mm (ha : Is a f) (hb : Is b g) : Is (mm a b) (fun i j => ∑ k, f i k * g k j) := fun i j => by
  refine (Ideal.matmul_plain_apply (M := 128) (K := 128) (N := 128) none a b zeros i j).trans ?_
  rw [show (zeros (F := Ideal)) (ValueIdx.ix2 i j) = 0 from Ideal.ofBits_zero_f32, zero_add, coe_sum]
  exact Finset.sum_congr rfl fun k _ => by rw [ha, hb, EReal.coe_mul]

theorem Is.mmT (ha : Is a f) (hb : Is b g) : Is (mmT a b) (fun i j => ∑ k, f i k * g j k) := fun i j => by
  refine (Ideal.matmul_transposedRhs_apply (M := 128) (K := 128) (N := 128) none a b zeros i j).trans ?_
  rw [show (zeros (F := Ideal)) (ValueIdx.ix2 i j) = 0 from Ideal.ofBits_zero_f32, zero_add, coe_sum]
  exact Finset.sum_congr rfl fun k _ => by rw [ha, hb, EReal.coe_mul]

theorem Is.mTm (ha : Is a f) (hb : Is b g) : Is (mTm a b) (fun i j => ∑ k, f k i * g k j) := fun i j => by
  refine (Ideal.matmul_apply₁_of dot_S128x128_S128x128_S128x128_0_0_1_1_n_n (a := 0) rfl (K := 128) rfl a b (zeros (F := Ideal)) (ValueIdx.ix2 i j)
    (fun k => ValueIdx.ix2 k i) (fun k => ValueIdx.ix2 k j) ?_ ?_).trans ?_
  · intro k; funext d; match d with
    | ⟨0, _⟩ => rfl
    | ⟨1, _⟩ => rfl
  · intro k; funext d; match d with
    | ⟨0, _⟩ => rfl
    | ⟨1, _⟩ => rfl
  rw [show (zeros (F := Ideal)) (ValueIdx.ix2 i j) = 0 from Ideal.ofBits_zero_f32, zero_add, coe_sum]
  exact Finset.sum_congr rfl fun k _ => by rw [ha, hb, EReal.coe_mul]

end Products

/-! ### Rows -/

section Rows

variable {a o g z : FVec Ideal S128x128 .f32} {f fo fg fz : Fin 128 → Fin 128 → ℝ}

theorem Is.gate (hg : Is g fg) : Is (gate g) (fun i j => sgm (fg i j)) :=
  (((is_num bits_half).mul ((is_num bits_half).mul hg).tanh).add (is_num bits_half)).congr fun i j => sgm_tanh (fg i j)

theorem Is.rowMean (ha : Is a f) : IsCol (rowMean a) (fun i => mean (f i)) := fun i => by
  unfold Step.rowMean
  rw [divf_apply, show (broadcast S128x1 (Scalar.ofBits (F := Ideal) .f32 0x43000000#32)) (ValueIdx.ix2 i 0) = ((128 : ℝ) : EReal) from bits_128,
    Ideal.div_coe (by norm_num)]
  rw [shapeCast_apply _ _ (ValueIdx.ix2 i 0) (ValueIdx.ix1 i) (by
    rw [Shape.rowMajor_val_one, Shape.rowMajor_val_two]; simp)]
  rw [show multiReduction .add [1] S128 a 0x00000000#32 reduces_S128x128_S128 (.inl rfl) rfl (ValueIdx.ix1 i)
      = ∑ k : Fin 128, a (reduces_S128x128_S128.lift (ValueIdx.ix1 i) k)
    from Ideal.multiReduction_add_single (s := S128x128) (t := S128) (a := 1) a 0x00000000#32 reduces_S128x128_S128 (.inl rfl) rfl (ValueIdx.ix1 i)]
  unfold mean
  rw [EReal.coe_mul, coe_sum]
  refine congrArg (· * _) (Finset.sum_congr rfl fun k _ => ?_)
  rw [← ha]
  refine congrArg a (funext fun d => ?_)
  match d with
  | ⟨0, _⟩ => rfl
  | ⟨1, _⟩ => rfl

theorem IsCol.wide {x : FVec Ideal S128x1 .f32} {c : Fin 128 → ℝ} (h : IsCol x c) :
    Is (broadcastTo S128x128 x broadcasts_S128x1_S128x128) (fun i _ => c i) := fun i j => by
  rw [← h i]
  refine broadcastTo_apply x broadcasts_S128x1_S128x128 (ValueIdx.ix2 i j) (ValueIdx.ix2 i 0) fun d => ?_
  match d with
  | ⟨0, _⟩ => rfl
  | ⟨1, _⟩ => rfl

theorem Is.normFactor (ho : Is o fo) : IsCol (normFactor o) (fun i => nf (fo i)) := fun i => by
  show Ideal.rsqrt (Step.rowMean (mulf o o) (ValueIdx.ix2 i 0) + Ideal.ofBits .f32 0x358637BD#32) = _
  rw [(ho.mul ho).rowMean, bits_eps, ← EReal.coe_add, Ideal.rsqrt_coe]
  have h := under_pos (fo i)
  unfold under at h
  rw [if_neg (not_lt.mpr h.le), if_neg h.ne']
  rfl

theorem Is.normed (ho : Is o fo) : Is (normed o) (fun i => nrm (fo i)) := ho.mul ho.normFactor.wide

end Rows

section Grads

variable {o g z : FVec Ideal S128x128 .bf16} {fo fg fz : Fin 128 → Fin 128 → ℝ}

theorem Is.wideOut (ho : Is o fo) : Is (wideOut o) fo := ho.self.ext _

theorem Is.gateGrad (ho : Is o fo) (hg : Is g fg) (hz : Is z fz) : Is (gateGrad o g z) (fun i => gateG (fo i) (fg i) (fz i)) :=
  (((hz.ext _).mul ho.wideOut.normed).mul ((hg.ext _).gate.mul ((is_num bits_one).add
    ((hg.ext _).mul ((is_num bits_one).sub (hg.ext _).gate))))).trunc _

theorem Is.normedGrad (hg : Is g fg) (hz : Is z fz) : Is (normedGrad g z) (fun i => nrmG (fg i) (fz i)) :=
  (hz.ext _).mul ((hg.ext _).mul (hg.ext _).gate)

theorem Is.outGrad (ho : Is o fo) (hg : Is g fg) (hz : Is z fz) : Is (outGrad o g z) (fun i => outG (fo i) (fg i) (fz i)) :=
  (ho.wideOut.normFactor.wide.mul ((hg.normedGrad hz).sub
    (ho.wideOut.normed.mul ((hg.normedGrad hz).mul ho.wideOut.normed).rowMean.wide))).trunc _

end Grads

section Rotation

variable {x cs sn : FVec Ideal S128x128 .f32} {fx fc fs : Fin 128 → Fin 128 → ℝ}

theorem Is.swapped (hx : Is x fx) : Is (dynamicRotate 1 64#32 none x rotates_S128x128_d1) (fun i j => fx i (swap j)) := fun i j => by
  rw [← hx i (swap j)]
  unfold dynamicRotate
  refine congrArg x (funext fun d => ?_)
  match d with
  | ⟨0, _⟩ => rfl
  | ⟨1, _⟩ => rfl

theorem Is.rotBack (hx : Is x fx) (hc : Is cs fc) (hs : Is sn fs) : Is (rotBack x cs sn) (fun i => rotB (fx i) (fc i) (fs i)) :=
  (hx.mul hc.self).sub (hx.swapped.mul hs.self)

theorem Is.rot {x : FVec Ideal S128x128 .bf16} (hx : Is x fx) (hc : Is cs fc) (hs : Is sn fs) :
    Is (rot x cs sn) (fun i => rotR (fx i) (fc i) (fs i)) :=
  ((hx.ext _).mul hc.self).add ((hx.ext (ψ := .f32) bitsLt_bf16_f32).swapped.mul hs.self)

theorem Is.keyRot {x : FVec Ideal S128x128 .bf16} (hx : Is x fx) (hc : Is cs fc) (hs : Is sn fs) :
    Is (keyRot x cs sn) (fun i j => rotR (fx i) (fc i) (fs i) j * scale) := (hx.rot hc hs).mul (is_num bits_scale)

end Rotation

/-! ### The gradients of a chunk -/

section Chunk

variable {intra kd qd cd st dst q k : FVec Ideal S128x128 .f32} {v y : FVec Ideal S128x128 .bf16}
variable {fi fkd fqd fcd fst fd fq fk fv fy : Fin 128 → Fin 128 → ℝ}

theorem Is.valueGrad (hi : Is intra fi) (hkd : Is kd fkd) (hd : Is dst fd) (hq : Is q fq) (hk : Is k fk) (hy : Is y fy) :
    Is (valueGrad intra kd dst q k y) (fun m e => (∑ c, (∑ d, fq c d * fk m d) * fi c m * fy c e) + ∑ d, fk m d * fkd m d * fd d e) :=
  (((((hq.trunc _).mmT (hk.trunc _)).mul hi).trunc _).mTm hy).add (((hk.mul hkd).trunc _).mm (hd.trunc _))

theorem Is.queryGrad (hi : Is intra fi) (hqd : Is qd fqd) (hs : Is st fst) (hk : Is k fk) (hv : Is v fv) (hy : Is y fy) :
    Is (queryGrad intra qd st k v y) (fun c d => (∑ m, (∑ e, fy c e * fv m e) * fi c m * fk m d) + (∑ e, fy c e * fst d e) * fqd c d) :=
  ((((hy.mmT hv).mul hi).trunc _).mm (hk.trunc _)).add ((hy.mmT (hs.trunc _)).mul hqd)

theorem Is.keyGrad (hi : Is intra fi) (hkd : Is kd fkd) (hd : Is dst fd) (hq : Is q fq) (hv : Is v fv) (hy : Is y fy) :
    Is (keyGrad intra kd dst q v y) (fun m d => (∑ c, (∑ e, fy c e * fv m e) * fi c m * fq c d) + (∑ e, fv m e * fd d e) * fkd m d) :=
  ((((hy.mmT hv).mul hi).trunc _).mTm (hq.trunc _)).add ((hv.mmT (hd.trunc _)).mul hkd)

theorem Is.stateNext (hqd : Is qd fqd) (hcd : Is cd fcd) (hd : Is dst fd) (hq : Is q fq) (hy : Is y fy) :
    Is (stateNext qd cd dst q y) (fun d e => fd d e * fcd d e + ∑ c, fq c d * fqd c d * fy c e) :=
  (hd.mul hcd).add (((hq.mul hqd).trunc _).mTm hy)

end Chunk

end Cert.KernelIdeal.Step
-- ==== Proof.StepValue.lean ====
/- What a grid step's stores leave, index by index: in the result block, the gradients of the step's chunks and heads, and in the
   state gradient, what each head's five chunks leave. -/
module

public import proofs.«01_k».proof.Proof.Step

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type} [FloatOps F] (X : Loads F)

/-- The state gradient that enters chunk `c` of head `h`, when `d` entered the step: the later chunks were taken before. -/
def entering (h : Fin 8) (d : FVec F S128x128 .f32) : Fin 5 → FVec F S128x128 .f32
  | 4 => d
  | 3 => back X h d 4
  | 2 => back X h (back X h d 4) 3
  | 1 => back X h (back X h (back X h d 4) 3) 2
  | 0 => back X h (back X h (back X h (back X h d 4) 3) 2) 1

/-- Gradient `p` (queries, keys, values, gate) of chunk `c` of head `h`, the heads having started from `E`. -/
def grad (E : Fin 8 → FVec F S128x128 .f32) (p : Fin 4) (c : Fin 5) (h : Fin 8) : FVec F S128x128 .bf16 :=
  match p with
  | 0 => stQ X c h
  | 1 => stK X (entering X h (E h) c) c h
  | 2 => stV X (entering X h (E h) c) c h
  | 3 => stG X c h

/-- The place in the result block of index `x` of gradient `p` of chunk `c` of head `h`. -/
def outIdx (c : Fin 5) (h : Fin 8) (p : Fin 4) (x : S128x128.Idx) : S640x4096.Idx := (outRect c h p).emb x

theorem outIdx_0 (c : Fin 5) (h : Fin 8) (p : Fin 4) (x : S128x128.Idx) : (outIdx c h p x 0).val = 128 * c.val + (x 0).val := by
  show 128 * c.val + 1 * (x 0).val = _; omega
theorem outIdx_1 (c : Fin 5) (h : Fin 8) (p : Fin 4) (x : S128x128.Idx) :
    (outIdx c h p x 1).val = 1024 * p.val + 128 * h.val + (x 1).val := by
  show 1024 * p.val + 128 * h.val + 1 * (x 1).val = _; omega

/-- Every index of the result block is such a place. -/
theorem exists_outIdx (y : S640x4096.Idx) : ∃ c h p x, outIdx c h p x = y := by
  have h0 : (y 0).val < 640 := (y 0).isLt
  have h1 : (y 1).val < 4096 := (y 1).isLt
  refine ⟨⟨(y 0).val / 128, by omega⟩, ⟨(y 1).val % 1024 / 128, by omega⟩, ⟨(y 1).val / 1024, by omega⟩,
    (fun a => match a with
      | ⟨0, _⟩ => ⟨(y 0).val % 128, Nat.mod_lt _ (by decide)⟩
      | ⟨1, _⟩ => ⟨(y 1).val % 128, Nat.mod_lt _ (by decide)⟩), ?_⟩
  funext a
  match a with
  | ⟨0, _⟩ => exact Fin.ext ((outIdx_0 _ _ _ _).trans (by show 128 * ((y 0).val / 128) + (y 0).val % 128 = (y 0).val; omega))
  | ⟨1, _⟩ => exact Fin.ext ((outIdx_1 _ _ _ _).trans (by
      show 1024 * ((y 1).val / 1024) + 128 * ((y 1).val % 1024 / 128) + (y 1).val % 128 = (y 1).val; omega))

/-- It is such a place in one way only. -/
theorem outIdx_inj {c c' : Fin 5} {h h' : Fin 8} {p p' : Fin 4} {x x' : S128x128.Idx} (e : outIdx c h p x = outIdx c' h' p' x') :
    c = c' ∧ h = h' ∧ p = p' ∧ x = x' := by
  have e0 := congrArg (fun y : S640x4096.Idx => (y 0).val) e
  have e1 := congrArg (fun y : S640x4096.Idx => (y 1).val) e
  simp only [outIdx_0, outIdx_1] at e0 e1
  have a0 : (x 0).val < 128 := (x 0).isLt
  have a1 : (x 1).val < 128 := (x 1).isLt
  have b0 : (x' 0).val < 128 := (x' 0).isLt
  have b1 : (x' 1).val < 128 := (x' 1).isLt
  refine ⟨Fin.ext (by omega), Fin.ext (by omega), Fin.ext (by omega), ?_⟩
  funext a
  match a with
  | ⟨0, _⟩ => exact Fin.ext (by show (x 0).val = (x' 0).val; omega)
  | ⟨1, _⟩ => exact Fin.ext (by show (x 1).val = (x' 1).val; omega)

/-- The result block a step leaves. -/
def block (E : Fin 8 → FVec F S128x128 .f32) (y : S640x4096.Idx) : Elt F .bf16 :=
  grad X E (Classical.choose (Classical.choose_spec (Classical.choose_spec (exists_outIdx y))))
    (Classical.choose (exists_outIdx y)) (Classical.choose (Classical.choose_spec (exists_outIdx y)))
    (Classical.choose (Classical.choose_spec (Classical.choose_spec (Classical.choose_spec (exists_outIdx y)))))

theorem grad_congr (E : Fin 8 → FVec F S128x128 .f32) {p p' : Fin 4} {c c' : Fin 5} {h h' : Fin 8} {x x' : S128x128.Idx}
    (e1 : p = p') (e2 : c = c') (e3 : h = h') (e4 : x = x') : grad X E p c h x = grad X E p' c' h' x' := by
  subst e1 e2 e3 e4; rfl

theorem block_outIdx (E : Fin 8 → FVec F S128x128 .f32) (c : Fin 5) (h : Fin 8) (p : Fin 4) (x : S128x128.Idx) :
    block X E (outIdx c h p x) = grad X E p c h x := by
  have e := Classical.choose_spec (Classical.choose_spec (Classical.choose_spec (Classical.choose_spec (exists_outIdx (outIdx c h p x)))))
  obtain ⟨e1, e2, e3, e4⟩ := outIdx_inj e
  exact grad_congr X E e3 e1 e2 e4

/-- The stores of a chunk are pieces of the result block. -/
theorem chunkPieces_block (E : Fin 8 → FVec F S128x128 .f32) (h : Fin 8) (c : Fin 5) (L : List (View.Piece (Elt F) S640x4096 .bf16))
    (hL : ∀ q ∈ L, ∀ x : q.1.shape.Idx, q.2 x = block X E (q.1.emb x)) :
    ∀ q ∈ chunkPieces X h (entering X h (E h) c) c ++ L, ∀ x : q.1.shape.Idx, q.2 x = block X E (q.1.emb x) := by
  intro q hq
  rcases List.mem_append.mp hq with hq | hq
  · simp only [chunkPieces, List.mem_cons, List.not_mem_nil, or_false] at hq
    rcases hq with rfl | rfl | rfl | rfl
    · exact fun x => (block_outIdx X E c h 1 x).symm
    · exact fun x => (block_outIdx X E c h 0 x).symm
    · exact fun x => (block_outIdx X E c h 2 x).symm
    · exact fun x => (block_outIdx X E c h 3 x).symm
  · exact hL q hq

theorem headPieces_eq (h : Fin 8) (d : FVec F S128x128 .f32) (L : List (View.Piece (Elt F) S640x4096 .bf16)) :
    headPieces X h L [4, 3, 2, 1, 0] d = chunkPieces X h (entering X h d 0) 0 ++ (chunkPieces X h (entering X h d 1) 1 ++
      (chunkPieces X h (entering X h d 2) 2 ++ (chunkPieces X h (entering X h d 3) 3 ++ (chunkPieces X h (entering X h d 4) 4 ++ L)))) := rfl

/-- Each store of a head is a piece of the result block. -/
theorem headPieces_block (E : Fin 8 → FVec F S128x128 .f32) (h : Fin 8) (L : List (View.Piece (Elt F) S640x4096 .bf16))
    (hL : ∀ q ∈ L, ∀ x : q.1.shape.Idx, q.2 x = block X E (q.1.emb x)) :
    ∀ q ∈ headPieces X h L [4, 3, 2, 1, 0] (E h), ∀ x : q.1.shape.Idx, q.2 x = block X E (q.1.emb x) := by
  rw [headPieces_eq]
  exact chunkPieces_block X E h 0 _ (chunkPieces_block X E h 1 _ (chunkPieces_block X E h 2 _ (chunkPieces_block X E h 3 _
    (chunkPieces_block X E h 4 _ hL))))

theorem pieces_block (E : Fin 8 → FVec F S128x128 .f32) : ∀ (hs : List (Fin 8)), ∀ q ∈ pieces X (fun _ => E) hs,
    ∀ x : q.1.shape.Idx, q.2 x = block X E (q.1.emb x)
  | [], q, hq => absurd hq List.not_mem_nil
  | h :: hs, q, hq => headPieces_block X E h _ (pieces_block E hs) q hq

/-- The stores of a chunk cover the chunk's places. -/
theorem chunkPieces_cover (h : Fin 8) (d : FVec F S128x128 .f32) (c : Fin 5) (p : Fin 4) :
    ∃ q ∈ chunkPieces X h d c, q.1 = outRect c h p := by
  match p with
  | 0 => exact ⟨_, List.mem_cons_of_mem _ List.mem_cons_self, rfl⟩
  | 1 => exact ⟨_, List.mem_cons_self, rfl⟩
  | 2 => exact ⟨_, List.mem_cons_of_mem _ (List.mem_cons_of_mem _ List.mem_cons_self), rfl⟩
  | 3 => exact ⟨_, List.mem_cons_of_mem _ (List.mem_cons_of_mem _ (List.mem_cons_of_mem _ List.mem_cons_self)), rfl⟩

theorem headPieces_cover (h : Fin 8) (d : FVec F S128x128 .f32) (L : List (View.Piece (Elt F) S640x4096 .bf16)) (c : Fin 5) (p : Fin 4) :
    ∃ q ∈ headPieces X h L [4, 3, 2, 1, 0] d, q.1 = outRect c h p := by
  obtain ⟨q, hq, hr⟩ := chunkPieces_cover X h (entering X h d c) c p
  refine ⟨q, ?_, hr⟩
  rw [headPieces_eq]
  simp only [List.mem_append]
  match c with
  | 0 => exact .inl hq
  | 1 => exact .inr (.inl hq)
  | 2 => exact .inr (.inr (.inl hq))
  | 3 => exact .inr (.inr (.inr (.inl hq)))
  | 4 => exact .inr (.inr (.inr (.inr (.inl hq))))

theorem headPieces_sub (h : Fin 8) (d : FVec F S128x128 .f32) (L : List (View.Piece (Elt F) S640x4096 .bf16)) (q : View.Piece (Elt F) S640x4096 .bf16)
    (hq : q ∈ L) : q ∈ headPieces X h L [4, 3, 2, 1, 0] d := by
  rw [headPieces_eq]
  simp only [List.mem_append, hq, or_true]

theorem pieces_cover (E : Fin 8 → FVec F S128x128 .f32) (c : Fin 5) (h : Fin 8) (p : Fin 4) : ∀ hs : List (Fin 8), h ∈ hs →
    ∃ q ∈ pieces X (fun _ => E) hs, q.1 = outRect c h p
  | [], hm => absurd hm List.not_mem_nil
  | h' :: hs, hm => by
    by_cases e : h = h'
    · subst e; exact headPieces_cover X h _ _ c p
    · obtain ⟨q, hq, hr⟩ := pieces_cover E c h p hs ((List.mem_cons.mp hm).resolve_left e)
      exact ⟨q, headPieces_sub X h' _ _ q hq, hr⟩

/-- What the stores of all heads leave in the result block. -/
theorem canon_pieces (E : Fin 8 → FVec F S128x128 .f32) (c : Fin 5) (h : Fin 8) (p : Fin 4) (x : S128x128.Idx) :
    View.canon (pieces X (fun _ => E) [7, 6, 5, 4, 3, 2, 1, 0]) (outIdx c h p x) = grad X E p c h x := by
  rw [← block_outIdx]
  refine View.canon_apply_of_pieces (block X E) _ (pieces_block X E _) _ ?_
  obtain ⟨q, hq, hr⟩ := pieces_cover X E c h p [7, 6, 5, 4, 3, 2, 1, 0] (by fin_cases h <;> simp)
  exact ⟨q, hq, by rw [hr]; exact (outRect c h p).idx_mem x⟩

/-! ## The state gradient -/

/-- The place in the state gradient of index `x` of head `h`. -/
def stateIdx (h : Fin 8) (x : S1x128x128.Idx) : S8x128x128.Idx := (stateRect h).emb x

theorem stateIdx_0 (h : Fin 8) (x : S1x128x128.Idx) : (stateIdx h x 0).val = h.val := by
  show h.val + 1 * (x 0).val = _
  have h0 : (x 0).val < 1 := (x 0).isLt
  omega

theorem stateRect_disjoint {h h' : Fin 8} (e : h' ≠ h) (x : S1x128x128.Idx) : (stateRect h).emb x ∉ (stateRect h').set := by
  intro hm
  obtain ⟨x', hx⟩ := (stateRect h').exists_idx_of_mem hm
  have e0 := congrArg (fun y : S8x128x128.Idx => (y 0).val) hx
  exact e (Fin.ext ((stateIdx_0 h' x').symm.trans (e0.trans (stateIdx_0 h x))))

/-- What the stores of the heads `hs` leave of head `h`. -/
theorem canon_carried (E : Fin 8 → FVec F S128x128 .f32) (h : Fin 8) (x : S1x128x128.Idx) : ∀ hs : List (Fin 8), h ∈ hs →
    View.canon (carried X E hs) (stateIdx h x) = (statePiece X h (E h)).2 x
  | [], hm => absurd hm List.not_mem_nil
  | h' :: hs, hm => by
    by_cases e : h' = h
    · subst e; exact View.canon_cons_emb (stateRect h') _ (carried X E hs) x
    · have hm' := (List.mem_cons.mp hm).resolve_left (Ne.symm e)
      exact (View.canon_cons_of_not_mem (statePiece X h' (E h')) (carried X E hs) (stateRect_disjoint e x)).trans (canon_carried E h x hs hm')

/-- The zero block a head of the first step starts from. -/
def zeroStart (F : FTy → Type) [FloatOps F] : FVec F S128x128 .f32 :=
  shapeCast S128x128 (fun _ => Scalar.ofBits .f32 0x00000000#32 : FVec F S1x128x128 .f32) shapeCasts_S1x128x128_S128x128

/-- A head of the first step reads back zeros, whatever other heads stored before. -/
theorem canon_carriedFirst_zero {κ : Kind} {sp : Space} (v : View sig κ sp S8x128x128 .f32) (h : Fin 8) (x : S1x128x128.Idx) :
    ∀ hs : List (Fin 8), h ∉ hs → View.canon (carriedFirst X v hs) (stateIdx h x) = Scalar.ofBits .f32 0x00000000#32
  | [], _ => by
    have hz : ∃ z, (Rect.unit (s := S8x128x128) ![0, 0, 0] S8x128x128.size inb_S8x128x128_S8x128x128_0_0_0).emb z = stateIdx h x := by
      refine ⟨stateIdx h x, ?_⟩
      funext a
      match a with
      | ⟨0, _⟩ => exact Fin.ext (by show 0 + 1 * _ = _; omega)
      | ⟨1, _⟩ => exact Fin.ext (by show 0 + 1 * _ = _; omega)
      | ⟨2, _⟩ => exact Fin.ext (by show 0 + 1 * _ = _; omega)
    obtain ⟨z, hz⟩ := hz
    rw [← hz]
    exact View.canon_cons_emb _ _ _ z
  | h' :: hs, hm => by
    have e : h' ≠ h := fun e => hm (by simp [e])
    exact (View.canon_cons_of_not_mem _ _ (stateRect_disjoint e x)).trans
      (canon_carriedFirst_zero v h x hs fun hh => hm (List.mem_cons_of_mem _ hh))

theorem readBack_carriedFirst {κ : Kind} {sp : Space} (v : View sig κ sp S8x128x128 .f32) (h : Fin 8) (hs : List (Fin 8)) (hm : h ∉ hs) :
    readBack v (carriedFirst X v hs) h = zeroStart F := by
  unfold readBack zeroStart
  rw [View.readCov_eq_canon']
  refine congrArg (fun w => shapeCast S128x128 w shapeCasts_S1x128x128_S128x128) ?_
  funext x
  exact canon_carriedFirst_zero X v h x hs hm

/-- So the first step's stores into the result block are a later step's, started from zero. -/
theorem pieces_first {κ : Kind} {sp : Space} (v : View sig κ sp S8x128x128 .f32) : ∀ hs : List (Fin 8), hs.Nodup →
    pieces X (fun hs h => readBack v (carriedFirst X v hs) h) hs = pieces X (fun _ _ => zeroStart F) hs
  | [], _ => rfl
  | h :: hs, hn => by
    have hn' := List.nodup_cons.mp hn
    show headPieces X h _ _ (readBack v (carriedFirst X v hs) h) = headPieces X h _ _ _
    rw [pieces_first v hs hn'.2, readBack_carriedFirst X v h hs hn'.1]

/-- And so are its stores into the state gradient. -/
theorem canon_carriedFirst {κ : Kind} {sp : Space} (v : View sig κ sp S8x128x128 .f32) (h : Fin 8) (x : S1x128x128.Idx) :
    ∀ hs : List (Fin 8), hs.Nodup → h ∈ hs →
      View.canon (carriedFirst X v hs) (stateIdx h x) = (statePiece X h (zeroStart F)).2 x
  | [], _, hm => absurd hm List.not_mem_nil
  | h' :: hs, hn, hm => by
    have hn' := List.nodup_cons.mp hn
    by_cases e : h' = h
    · subst e
      refine (View.canon_cons_emb (stateRect h') _ _ x).trans ?_
      rw [readBack_carriedFirst X v h' hs hn'.1]
      rfl
    · have hm' := (List.mem_cons.mp hm).resolve_left (Ne.symm e)
      exact (View.canon_cons_of_not_mem _ _ (stateRect_disjoint e x)).trans (canon_carriedFirst v h x hs hn'.2 hm')

end Cert.KernelIdeal.Step
-- ==== Proof.Meaning.lean ====
/- The meaning of a grid step: over blocks that hold chunks of one set of real matrices, the state gradient is the sum over
   the later tokens, and the stored gradients are the sums over all tokens. -/
module

public import proofs.«01_k».proof.Proof.RealStep
public import proofs.«01_k».proof.Proof.StepValue
public import proofs.«01_k».proof.Proof.Decay

@[expose] public section

set_option maxRecDepth 16384

noncomputable section

namespace Cert.KernelIdeal.Step

open Cert.KernelIdeal Cert.KernelIdeal.Gen Idealize.ShloMosaic Idealize.ShloMosaic.TcCoe
open Retention

/-- The real matrices of one step of the mixer: by head, token and place the saved output `o`, the queries, keys, values and
    gates before rotation, and the gradient `z` of the gated output; the rotary tables; by head the logarithm of its decay. -/
structure Data where
  o : Fin 8 → Fin 8320 → Fin 128 → ℝ
  q : Fin 8 → Fin 8320 → Fin 128 → ℝ
  k : Fin 8 → Fin 8320 → Fin 128 → ℝ
  v : Fin 8 → Fin 8320 → Fin 128 → ℝ
  g : Fin 8 → Fin 8320 → Fin 128 → ℝ
  z : Fin 8 → Fin 8320 → Fin 128 → ℝ
  cs : Fin 8320 → Fin 128 → ℝ
  sn : Fin 8320 → Fin 128 → ℝ
  l : Fin 8 → ℝ

namespace Data

variable (D : Data) (h : Fin 8)

/-- The rotated queries. -/
def Q (t : Fin 8320) : Fin 128 → ℝ := rotR (D.q h t) (D.cs t) (D.sn t)
/-- The rotated and scaled keys. -/
def K (t : Fin 8320) (d : Fin 128) : ℝ := rotR (D.k h t) (D.cs t) (D.sn t) d * scale
/-- The gradient of the retention's output. -/
def Y (t : Fin 8320) : Fin 128 → ℝ := outG (D.o h t) (D.g h t) (D.z h t)

/-- The gradient of the queries. -/
def gradQ (t : Fin 8320) : Fin 128 → ℝ :=
  rotB (fun d => ∑ s, ((∑ e, D.Y h t e * D.v h s e) * decay (D.l h) t s) * D.K h s d) (D.cs t) (D.sn t)
/-- The gradient of the keys. -/
def gradK (s : Fin 8320) (d : Fin 128) : ℝ :=
  rotB (fun d => ∑ t, ((∑ e, D.Y h t e * D.v h s e) * decay (D.l h) t s) * D.Q h t d) (D.cs s) (D.sn s) d * scale
/-- The gradient of the values. -/
def gradV (s : Fin 8320) (e : Fin 128) : ℝ := ∑ t, D.Y h t e * ((∑ d, D.Q h t d * D.K h s d) * decay (D.l h) t s)
/-- The gradient of the gate. -/
def gradGate (t : Fin 8320) : Fin 128 → ℝ := gateG (D.o h t) (D.g h t) (D.z h t)

/-- The four gradients (queries, keys, values, gate). -/
def result (p : Fin 4) : Fin 8320 → Fin 128 → ℝ :=
  match p with
  | 0 => D.gradQ h
  | 1 => D.gradK h
  | 2 => D.gradV h
  | 3 => D.gradGate h

/-- The gradient of the state before chunk `n`. -/
def S (n : ℕ) : Fin 128 → Fin 128 → ℝ := dstate (D.l h) (D.Q h) (D.Y h) n

end Data

/-- The blocks `X` hold the chunks from `5 b` on of the matrices `D`. -/
structure Reads (X : Loads Ideal) (D : Data) (b : ℕ) (ch : Fin 5 → Fin 65) : Prop where
  place : ∀ c, (ch c).val = 5 * b + c.val
  z : ∀ c h, Is (X.z c h) (fun i => D.z h (tok (ch c) i))
  o : ∀ c h, Is (X.o c h) (fun i => D.o h (tok (ch c) i))
  q : ∀ c h, Is (X.q c h) (fun i => D.q h (tok (ch c) i))
  k : ∀ c h, Is (X.k c h) (fun i => D.k h (tok (ch c) i))
  v : ∀ c h, Is (X.v c h) (fun i => D.v h (tok (ch c) i))
  g : ∀ c h, Is (X.g c h) (fun i => D.g h (tok (ch c) i))
  st : ∀ c h, Is (mat (X.st c h)) (state (D.l h) (D.K h) (D.v h) (ch c).val)
  cs : ∀ c, Is (X.cs c) (fun i => D.cs (tok (ch c) i))
  sn : ∀ c, Is (X.sn c) (fun i => D.sn (tok (ch c) i))
  intra : ∀ h, Is (mat (X.dec 0 h)) (intra (D.l h))
  qdec : ∀ h, Is (mat (X.dec 1 h)) (fun i _ => qdec (D.l h) i)
  kdec : ∀ h, Is (mat (X.dec 2 h)) (fun i _ => kdec (D.l h) i)
  cdec : ∀ h, Is (mat (X.dec 3 h)) (fun _ _ => cdec (D.l h))

/-- The matrix of a block with two unit axes. -/
theorem mat_is {x : FVec Ideal S1x1x128x128 .f32} {f : Fin 128 → Fin 128 → ℝ}
    (h : ∀ i j, x (ValueIdx.ix4 0 0 i j) = ((f i j : ℝ) : EReal)) : Is (mat x) f := fun i j => by
  rw [← h i j]
  unfold mat
  exact shapeCast_apply _ _ (ValueIdx.ix2 i j) (ValueIdx.ix4 0 0 i j) (by
    rw [Shape.rowMajor_val_four, Shape.rowMajor_val_two]; simp)

theorem zeroStart_is : Is (zeroStart Ideal) (fun _ _ => 0) := fun _ _ => bits_zero

section Read

variable {X : Loads Ideal} {D : Data} {b : ℕ} {ch : Fin 5 → Fin 65} (R : Reads X D b ch) (h : Fin 8)

include R

theorem qr_is (c : Fin 5) : Is (qr X c h) (fun i => D.Q h (tok (ch c) i)) := (R.q c h).rot (R.cs c) (R.sn c)
theorem kr_is (c : Fin 5) : Is (kr X c h) (fun i => D.K h (tok (ch c) i)) := (R.k c h).keyRot (R.cs c) (R.sn c)
theorem yg_is (c : Fin 5) : Is (yg X c h) (fun i => D.Y h (tok (ch c) i)) := (R.o c h).outGrad (R.g c h) (R.z c h)

/-- One chunk back, the state gradient is the sum over the tokens from that chunk on. -/
theorem back_is {d : FVec Ideal S128x128 .f32} (c : Fin 5) {n : ℕ} (hn : n = 5 * b + c.val + 1) (hd : Is d (D.S h n)) :
    Is (back X h d c) (D.S h (5 * b + c.val)) :=
  (Is.stateNext (R.qdec h) (R.cdec h) hd (qr_is R h c) (yg_is R h c)).congr fun i j => by
    have e := dstate_step (D.l h) (D.Q h) (D.Y h) (ch c) i j
    rw [R.place c] at e
    rw [hn]
    exact e.symm

theorem entering_is {d : FVec Ideal S128x128 .f32} (hd : Is d (D.S h (5 * b + 5))) (c : Fin 5) :
    Is (entering X h d c) (D.S h (5 * b + c.val + 1)) := by
  have h4 := back_is R h 4 (n := 5 * b + 5) rfl hd
  have h3 := back_is R h 3 (n := 5 * b + 4) rfl h4
  have h2 := back_is R h 2 (n := 5 * b + 3) rfl h3
  have h1 := back_is R h 1 (n := 5 * b + 2) rfl h2
  match c with
  | 4 => exact hd
  | 3 => exact h4
  | 2 => exact h3
  | 1 => exact h2
  | 0 => exact h1

/-- A step takes the state gradient after its chunks to the one before them. -/
theorem stateAfter_is {d : FVec Ideal S128x128 .f32} (hd : Is d (D.S h (5 * b + 5))) : Is (stateAfter X h d) (D.S h (5 * b)) :=
  back_is R h 0 (n := 5 * b + 1) rfl (back_is R h 1 (n := 5 * b + 2) rfl (back_is R h 2 (n := 5 * b + 3) rfl
    (back_is R h 3 (n := 5 * b + 4) rfl (back_is R h 4 (n := 5 * b + 5) rfl hd))))

theorem stQ_is (c : Fin 5) : Is (stQ X c h) (fun i => D.gradQ h (tok (ch c) i)) :=
  (((Is.queryGrad (R.intra h) (R.qdec h) (R.st c h) (kr_is R h c) (R.v c h) (yg_is R h c)).congr fun i j =>
    (grad_q (D.l h) (D.K h) (D.v h) (D.Y h) (ch c) i j).symm).rotBack (R.cs c) (R.sn c)).trunc _

theorem stK_is {d : FVec Ideal S128x128 .f32} (c : Fin 5) (hd : Is d (D.S h (5 * b + c.val + 1))) :
    Is (stK X d c h) (fun i => D.gradK h (tok (ch c) i)) :=
  ((((Is.keyGrad (R.intra h) (R.kdec h) hd (qr_is R h c) (R.v c h) (yg_is R h c)).congr fun i j => by
    have e := grad_k (D.l h) (D.Q h) (D.v h) (D.Y h) (ch c) i j
    rw [R.place c] at e
    exact e.symm).rotBack (R.cs c) (R.sn c)).mul (is_num bits_scale)).trunc _

theorem stV_is {d : FVec Ideal S128x128 .f32} (c : Fin 5) (hd : Is d (D.S h (5 * b + c.val + 1))) :
    Is (stV X d c h) (fun i => D.gradV h (tok (ch c) i)) :=
  ((Is.valueGrad (R.intra h) (R.kdec h) hd (qr_is R h c) (kr_is R h c) (yg_is R h c)).congr fun i j => by
    have e := grad_v (D.l h) (D.Q h) (D.K h) (D.Y h) (ch c) i j
    rw [R.place c] at e
    exact e.symm).trunc _

theorem stG_is (c : Fin 5) : Is (stG X c h) (fun i => D.gradGate h (tok (ch c) i)) := (R.o c h).gateGrad (R.g c h) (R.z c h)

/-- What a step stores. -/
theorem grad_is {E : Fin 8 → FVec Ideal S128x128 .f32} (hE : Is (E h) (D.S h (5 * b + 5))) (p : Fin 4) (c : Fin 5) :
    Is (grad X E p c h) (fun i => D.result h p (tok (ch c) i)) :=
  match p with
  | 0 => stQ_is R h c
  | 1 => stK_is R h c (entering_is R h hE c)
  | 2 => stV_is R h c (entering_is R h hE c)
  | 3 => stG_is R h c

end Read

end Cert.KernelIdeal.Step
-- ==== Proof.Stores.lean ====
/- The stores the run found in each of its two cases are the ones of `Step`, at the blocks the step loads. -/
module

public import proofs.«01_k».proof.Proof.Step

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type}

theorem inbRow (c : Fin 5) (h : Fin 8) :
    ∀ a, (![128 * c.val, 128 * h.val] : Fin 2 → ℕ) a + (![128, 128] : Fin 2 → ℕ) a ≤ S640x1024.size a := by
  intro a; match a with
  | ⟨0, _⟩ => show 128 * c.val + 128 ≤ 640; omega
  | ⟨1, _⟩ => show 128 * h.val + 128 ≤ 1024; omega

theorem inbTab (c : Fin 5) : ∀ a, (![128 * c.val, 0] : Fin 2 → ℕ) a + (![128, 128] : Fin 2 → ℕ) a ≤ S640x128.size a := by
  intro a; match a with
  | ⟨0, _⟩ => show 128 * c.val + 128 ≤ 640; omega
  | ⟨1, _⟩ => show 0 + 128 ≤ 128; omega

theorem inbSt (c : Fin 5) (h : Fin 8) :
    ∀ a, (![c.val, h.val, 0, 0] : Fin 4 → ℕ) a + (![1, 1, 128, 128] : Fin 4 → ℕ) a ≤ S5x8x128x128.size a := by
  intro a; match a with
  | ⟨0, _⟩ => show c.val + 1 ≤ 5; omega
  | ⟨1, _⟩ => show h.val + 1 ≤ 8; omega
  | ⟨2, _⟩ => show 0 + 128 ≤ 128; omega
  | ⟨3, _⟩ => show 0 + 128 ≤ 128; omega

theorem inbDec (p : Fin 4) (h : Fin 8) :
    ∀ a, (![p.val, h.val, 0, 0] : Fin 4 → ℕ) a + (![1, 1, 128, 128] : Fin 4 → ℕ) a ≤ S4x8x128x128.size a := by
  intro a; match a with
  | ⟨0, _⟩ => show p.val + 1 ≤ 4; omega
  | ⟨1, _⟩ => show h.val + 1 ≤ 8; omega
  | ⟨2, _⟩ => show 0 + 128 ≤ 128; omega
  | ⟨3, _⟩ => show 0 + 128 ≤ 128; omega

/-- The place of chunk `c` of head `h` in a block of rows. -/
def rowRect (c : Fin 5) (h : Fin 8) : Rect S640x1024 := Rect.unit (s := S640x1024) ![128 * c.val, 128 * h.val] ![128, 128] (inbRow c h)
/-- The place of chunk `c` in a block of a rotary table. -/
def tabRect (c : Fin 5) : Rect S640x128 := Rect.unit (s := S640x128) ![128 * c.val, 0] ![128, 128] (inbTab c)
/-- The place of the state before chunk `c` of head `h`. -/
def stRect (c : Fin 5) (h : Fin 8) : Rect S5x8x128x128 := Rect.unit (s := S5x8x128x128) ![c.val, h.val, 0, 0] ![1, 1, 128, 128] (inbSt c h)
/-- The place of decay `p` of head `h`. -/
def decRect (p : Fin 4) (h : Fin 8) : Rect S4x8x128x128 := Rect.unit (s := S4x8x128x128) ![p.val, h.val, 0, 0] ![1, 1, 128, 128] (inbDec p h)

section Case

variable (c : Dev nD) (i : grid0.Coords) (arg1 : Memref sig .tc .vmem S640x1024 .bf16) (harg1 : arg1.IsWhole)
  (arg2 : Memref sig .tc .vmem S640x1024 .bf16) (harg2 : arg2.IsWhole) (arg3 : Memref sig .tc .vmem S640x1024 .bf16)
  (harg3 : arg3.IsWhole) (arg4 : Memref sig .tc .vmem S640x1024 .bf16) (harg4 : arg4.IsWhole)
  (arg5 : Memref sig .tc .vmem S640x1024 .bf16) (harg5 : arg5.IsWhole) (arg6 : Memref sig .tc .vmem S640x1024 .bf16)
  (harg6 : arg6.IsWhole) (arg7 : Memref sig .tc .vmem S5x8x128x128 .f32) (harg7 : arg7.IsWhole)
  (arg8 : Memref sig .tc .vmem S640x128 .f32) (harg8 : arg8.IsWhole) (arg9 : Memref sig .tc .vmem S640x128 .f32)
  (harg9 : arg9.IsWhole) (arg10 : Memref sig .tc .vmem S4x8x128x128 .f32) (harg10 : arg10.IsWhole)
  (arg12 : Memref sig .tc .vmem S640x4096 .bf16) (harg12 : arg12.IsWhole) (arg13 : Memref sig .tc .vmem S8x128x128 .f32)
  (harg13 : arg13.IsWhole) (x0 : Vec F S640x1024 .bf16) (x1 : Vec F S640x1024 .bf16) (x2 : Vec F S640x1024 .bf16)
  (x3 : Vec F S640x1024 .bf16) (x4 : Vec F S640x1024 .bf16) (x5 : Vec F S640x1024 .bf16) (x6 : Vec F S5x8x128x128 .f32)
  (x7 : Vec F S640x128 .f32) (x8 : Vec F S640x128 .f32) (x9 : Vec F S4x8x128x128 .f32) (xs0 : Vec F S8x128x128 .f32)

/-- The blocks a step loads from its windows. -/
def loads : Loads F where
  z c h := View.readAt (Elt F) arg1.view (rowRect c h).toLoadRect (harg1.unread x0)
  o c h := View.readAt (Elt F) arg2.view (rowRect c h).toLoadRect (harg2.unread x1)
  q c h := View.readAt (Elt F) arg3.view (rowRect c h).toLoadRect (harg3.unread x2)
  k c h := View.readAt (Elt F) arg4.view (rowRect c h).toLoadRect (harg4.unread x3)
  v c h := View.readAt (Elt F) arg5.view (rowRect c h).toLoadRect (harg5.unread x4)
  g c h := View.readAt (Elt F) arg6.view (rowRect c h).toLoadRect (harg6.unread x5)
  st c h := View.readAt (Elt F) arg7.view (stRect c h).toLoadRect (harg7.unread x6)
  cs c := View.readAt (Elt F) arg8.view (tabRect c).toLoadRect (harg8.unread x7)
  sn c := View.readAt (Elt F) arg9.view (tabRect c).toLoadRect (harg9.unread x8)
  dec p h := View.readAt (Elt F) arg10.view (decRect p h).toLoadRect (harg10.unread x9)

/-- The state gradient a later step starts from. -/
def start (_ : List (Fin 8)) (h : Fin 8) : FVec F S128x128 .f32 :=
  shapeCast S128x128 (View.readAt (Elt F) arg13.view (stateRect h).toLoadRect (harg13.unread xs0) : FVec F S1x128x128 .f32) shapeCasts_S1x128x128_S128x128

variable [FloatOps F]

local notation "X" => loads arg1 harg1 arg2 harg2 arg3 harg3 arg4 harg4 arg5 harg5 arg6 harg6 arg7 harg7 arg8 harg8 arg9 harg9 arg10 harg10 x0 x1 x2 x3 x4 x5 x6 x7 x8 x9

set_option maxHeartbeats 4000000 in
/-- A later step's stores into the state gradient. -/
theorem carried_B (hc0 : ¬cond0_0 i) :
    (kernelRun0_B c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0).2.1 =
      carried (X) (start arg13 harg13 xs0 []) [7, 6, 5, 4, 3, 2, 1, 0] := by
  dsimp only [carried, headPieces, chunkPieces, statePiece, stateAfter, readBack, start, List.cons_append, List.nil_append, stK, stQ, stV, stG, qr, kr, yg, back, loads]
  exact rfl

set_option maxHeartbeats 4000000 in
/-- A later step's stores into the result block. -/
theorem pieces_B (hc0 : ¬cond0_0 i) :
    (kernelRun0_B c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0).1 =
      pieces (X) (start arg13 harg13 xs0) [7, 6, 5, 4, 3, 2, 1, 0] := by
  dsimp only [pieces, headPieces, chunkPieces, statePiece, stateAfter, readBack, start, List.cons_append, List.nil_append, stK, stQ, stV, stG, qr, kr, yg, back, loads]
  exact rfl

set_option maxHeartbeats 4000000 in
/-- The first step's stores into the state gradient. -/
theorem carried_A (hc0 : cond0_0 i) :
    (kernelRun0_A c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9).2.1 =
      carriedFirst (X) arg13.view [7, 6, 5, 4, 3, 2, 1, 0] := by
  dsimp only [carriedFirst, headPieces, chunkPieces, statePiece, stateAfter, readBack, start, List.cons_append, List.nil_append, stK, stQ, stV, stG, qr, kr, yg, back, loads]
  exact rfl

set_option maxHeartbeats 4000000 in
/-- The first step's stores into the result block. -/
theorem pieces_A (hc0 : cond0_0 i) :
    (kernelRun0_A c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9).1 =
      pieces (X) (fun hs h => readBack arg13.view (carriedFirst (X) arg13.view hs) h) [7, 6, 5, 4, 3, 2, 1, 0] := by
  dsimp only [pieces, carriedFirst, headPieces, chunkPieces, statePiece, stateAfter, readBack, start, List.cons_append, List.nil_append, stK, stQ, stV, stG, qr, kr, yg, back, loads]
  exact rfl

end Case

end Cert.KernelIdeal.Step
-- ==== Proof.Grid.lean ====
/- The grid: what each step leaves over what the step before left, and what the steps load of the arrays. -/
module

public import proofs.«01_k».proof.Proof.Stores
public import proofs.«01_k».proof.Proof.StepValue
public import proofs.«01_k».proof.Proof.Decay
public import proofs.«01_k».proof.Proof.Gen.KernelIdeal.Value
public import Idealize.ShloMosaic.Lib.ValueIdx
public import Idealize.ShloMosaic.Lib.Pipeline.ValueKit.Geometry

@[expose] public section

set_option maxRecDepth 16384

noncomputable section

namespace Cert.KernelIdeal.Step

open Cert.KernelIdeal Cert.KernelIdeal.Gen Idealize.ShloMosaic Idealize.ShloMosaic.TcCoe Idealize.SL.Sem
open Idealize.ShloMosaic.ValueIdx
open Retention (tok)

variable {F : FTy → Type}

/-- The blocks a step loads, as parts of its windows' blocks. -/
def blockLoads (x0 x1 x2 x3 x4 x5 : Vec F S640x1024 .bf16) (x6 : Vec F S5x8x128x128 .f32) (x7 x8 : Vec F S640x128 .f32)
    (x9 : Vec F S4x8x128x128 .f32) : Loads F where
  z c h := fun x => x0 ((rowRect c h).idx x)
  o c h := fun x => x1 ((rowRect c h).idx x)
  q c h := fun x => x2 ((rowRect c h).idx x)
  k c h := fun x => x3 ((rowRect c h).idx x)
  v c h := fun x => x4 ((rowRect c h).idx x)
  g c h := fun x => x5 ((rowRect c h).idx x)
  st c h := fun x => x6 ((stRect c h).idx x)
  cs c := fun x => x7 ((tabRect c).idx x)
  sn c := fun x => x8 ((tabRect c).idx x)
  dec p h := fun x => x9 ((decRect p h).idx x)

/-- Head `h` of a state gradient. -/
def headOf (xs : Vec F S8x128x128 .f32) (h : Fin 8) : FVec F S128x128 .f32 :=
  shapeCast S128x128 (fun x => xs (stateIdx h x) : FVec F S1x128x128 .f32) shapeCasts_S1x128x128_S128x128

theorem mem_heads (h : Fin 8) : h ∈ ([7, 6, 5, 4, 3, 2, 1, 0] : List (Fin 8)) := by revert h; decide

theorem statePiece_apply [FloatOps F] (X : Loads F) (h : Fin 8) (d : FVec F S128x128 .f32) (x : S1x128x128.Idx) :
    (statePiece X h d).2 x = shapeCast S1x128x128 (stateAfter X h d) shapeCasts_S128x128_S1x128x128 x := rfl

theorem head_next [FloatOps F] (X : Loads F) (E : Fin 8 → FVec F S128x128 .f32) (h : Fin 8) :
    headOf (View.canon (carried X E [7, 6, 5, 4, 3, 2, 1, 0])) h = stateAfter X h (E h) := by
  have e : (fun x => View.canon (carried X E [7, 6, 5, 4, 3, 2, 1, 0]) (stateIdx h x) : FVec F S1x128x128 .f32) =
      shapeCast S1x128x128 (stateAfter X h (E h)) shapeCasts_S128x128_S1x128x128 :=
    funext fun x => (canon_carried X E h x _ (mem_heads h)).trans (statePiece_apply X h (E h) x)
  unfold headOf
  rw [e]
  exact shapeCast_shapeCast _ _ _

theorem head_first [FloatOps F] {κ : Kind} {sp : Space} (X : Loads F) (v : View sig κ sp S8x128x128 .f32) (h : Fin 8) :
    headOf (View.canon (carriedFirst X v [7, 6, 5, 4, 3, 2, 1, 0])) h = stateAfter X h (zeroStart F) := by
  have e : (fun x => View.canon (carriedFirst X v [7, 6, 5, 4, 3, 2, 1, 0]) (stateIdx h x) : FVec F S1x128x128 .f32) =
      shapeCast S1x128x128 (stateAfter X h (zeroStart F)) shapeCasts_S128x128_S1x128x128 :=
    funext fun x => (canon_carriedFirst X v h x _ (by decide) (mem_heads h)).trans (statePiece_apply X h (zeroStart F) x)
  unfold headOf
  rw [e]
  exact shapeCast_shapeCast _ _ _

section Case

variable [FloatOps F]

variable (c : Dev nD) (i : grid0.Coords) (arg1 : Memref sig .tc .vmem S640x1024 .bf16) (harg1 : arg1.IsWhole)
  (arg2 : Memref sig .tc .vmem S640x1024 .bf16) (harg2 : arg2.IsWhole) (arg3 : Memref sig .tc .vmem S640x1024 .bf16)
  (harg3 : arg3.IsWhole) (arg4 : Memref sig .tc .vmem S640x1024 .bf16) (harg4 : arg4.IsWhole)
  (arg5 : Memref sig .tc .vmem S640x1024 .bf16) (harg5 : arg5.IsWhole) (arg6 : Memref sig .tc .vmem S640x1024 .bf16)
  (harg6 : arg6.IsWhole) (arg7 : Memref sig .tc .vmem S5x8x128x128 .f32) (harg7 : arg7.IsWhole)
  (arg8 : Memref sig .tc .vmem S640x128 .f32) (harg8 : arg8.IsWhole) (arg9 : Memref sig .tc .vmem S640x128 .f32)
  (harg9 : arg9.IsWhole) (arg10 : Memref sig .tc .vmem S4x8x128x128 .f32) (harg10 : arg10.IsWhole)
  (arg12 : Memref sig .tc .vmem S640x4096 .bf16) (harg12 : arg12.IsWhole) (arg13 : Memref sig .tc .vmem S8x128x128 .f32)
  (harg13 : arg13.IsWhole) (x0 : Vec F S640x1024 .bf16) (x1 : Vec F S640x1024 .bf16) (x2 : Vec F S640x1024 .bf16)
  (x3 : Vec F S640x1024 .bf16) (x4 : Vec F S640x1024 .bf16) (x5 : Vec F S640x1024 .bf16) (x6 : Vec F S5x8x128x128 .f32)
  (x7 : Vec F S640x128 .f32) (x8 : Vec F S640x128 .f32) (x9 : Vec F S4x8x128x128 .f32) (xs0 : Vec F S8x128x128 .f32)

theorem loads_eq : loads arg1 harg1 arg2 harg2 arg3 harg3 arg4 harg4 arg5 harg5 arg6 harg6 arg7 harg7 arg8 harg8 arg9 harg9 arg10 harg10
    x0 x1 x2 x3 x4 x5 x6 x7 x8 x9 = blockLoads x0 x1 x2 x3 x4 x5 x6 x7 x8 x9 := by
  unfold loads
  simp only [View.readAt_eq_ld, Memref.IsWhole.read_unread]
  rfl

theorem start_eq (hs : List (Fin 8)) (h : Fin 8) : start arg13 harg13 xs0 hs h = headOf xs0 h := by
  unfold start
  rw [View.readAt_eq_ld, Memref.IsWhole.read_unread]
  rfl

theorem out_A (hc0 : cond0_0 i) (cc : Fin 5) (h : Fin 8) (p : Fin 4) (x : S128x128.Idx) :
    out0_A_10 c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 (outIdx cc h p x) =
      grad (blockLoads x0 x1 x2 x3 x4 x5 x6 x7 x8 x9) (fun _ => zeroStart F) p cc h x := by
  unfold out0_A_10
  rw [View.read_writes_junk_eq_canon, pieces_A, loads_eq, pieces_first _ _ _ (by decide)]
  exact canon_pieces _ _ cc h p x

theorem out_B (hc0 : ¬cond0_0 i) (cc : Fin 5) (h : Fin 8) (p : Fin 4) (x : S128x128.Idx) :
    out0_B_10 c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0 (outIdx cc h p x) =
      grad (blockLoads x0 x1 x2 x3 x4 x5 x6 x7 x8 x9) (headOf xs0) p cc h x := by
  unfold out0_B_10
  rw [View.read_writes_junk_eq_canon, pieces_B, loads_eq,
    show start arg13 harg13 xs0 = fun _ => headOf xs0 from funext fun hs => funext fun h => start_eq arg13 harg13 xs0 hs h]
  exact canon_pieces _ _ cc h p x

theorem sout_A (hc0 : cond0_0 i) (h : Fin 8) :
    headOf (sout0_A_0 c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9) h =
      stateAfter (blockLoads x0 x1 x2 x3 x4 x5 x6 x7 x8 x9) h (zeroStart F) := by
  unfold sout0_A_0
  rw [View.read_writes_junk_eq_canon, carried_A, loads_eq]
  exact head_first _ _ h

theorem sout_B (hc0 : ¬cond0_0 i) (h : Fin 8) :
    headOf (sout0_B_0 c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0) h =
      stateAfter (blockLoads x0 x1 x2 x3 x4 x5 x6 x7 x8 x9) h (headOf xs0 h) := by
  unfold sout0_B_0
  rw [View.read_writes_junk_eq_canon, carried_B, loads_eq,
    show start arg13 harg13 xs0 [] = headOf xs0 from funext fun h => start_eq arg13 harg13 xs0 [] h]
  exact head_next _ _ h

end Case

variable [FloatOps F] (m : (ℓ : Loc nD τ sig) → Buf (Elt F) ℓ) (c : Dev nD)

/-- What step `t` loads. -/
def stepLoads (t : Fin cfg0.N) : Loads F :=
  blockLoads (iblk m c 0 t) (iblk m c 1 t) (iblk m c 2 t) (iblk m c 3 t) (iblk m c 4 t) (iblk m c 5 t) (iblk m c 6 t) (iblk m c 7 t)
    (iblk m c 8 t) (iblk m c 9 t)

/-- The state gradient of head `h` that enters step `n`: nothing at the first, and what the step before left after it. -/
def enters (h : Fin 8) : (n : ℕ) → n < cfg0.N → FVec F S128x128 .f32
  | 0, _ => zeroStart F
  | n + 1, hn => stateAfter (stepLoads m c ⟨n, by omega⟩) h (enters h n (by omega))

theorem scratch_eq (h : Fin 8) : ∀ (n : ℕ) (hn : n < cfg0.N),
    headOf (outsAt0 m c n hn).2 h = stateAfter (stepLoads m c ⟨n, hn⟩) h (enters m c h n hn)
  | 0, hn => by
    rw [outsAt0_A m c ⟨0, hn⟩ rfl]
    dsimp only
    rw [sout_A]
    rfl
  | n + 1, hn => by
    have hN : n + 1 < 13 := lt_of_lt_of_eq hn N_0
    rw [outsAt0_B m c ⟨n + 1, hn⟩ (by show ¬(n + 1) % 13 = 0; omega)]
    dsimp only
    rw [sout_B, enters, ← scratch_eq h n (by omega)]
    rfl

/-- What step `n` leaves in the result block. -/
theorem block_eq (cc : Fin 5) (h : Fin 8) (p : Fin 4) (x : S128x128.Idx) : ∀ (n : ℕ) (hn : n < cfg0.N),
    (outsAt0 m c n hn).1 (outIdx cc h p x) = grad (stepLoads m c ⟨n, hn⟩) (fun h => enters m c h n hn) p cc h x
  | 0, hn => by
    rw [outsAt0_A m c ⟨0, hn⟩ rfl]
    dsimp only
    rw [out_A]
    rfl
  | n + 1, hn => by
    have hN : n + 1 < 13 := lt_of_lt_of_eq hn N_0
    rw [outsAt0_B m c ⟨n + 1, hn⟩ (by show ¬(n + 1) % 13 = 0; omega)]
    dsimp only
    rw [out_B]
    have e : (fun h => enters m c h (n + 1) hn) = headOf (outsAt0 m c n (by omega)).2 := by
      funext h; rw [enters, ← scratch_eq]
    rw [e]
    rfl

/-! ## Where the steps' blocks lie in the arrays -/

/-- Chunk `cc` of step `t`. The steps take the chunks backwards. -/
def chunk (t : Fin cfg0.N) (cc : Fin 5) : Fin 65 :=
  ⟨5 * (12 - t.val) + cc.val, by have := cc.isLt; omega⟩

/-- Column `j` of head `h`. -/
def lane (h : Fin 8) (j : Fin 128) : Fin 1024 := ⟨128 * h.val + j.val, by have := h.isLt; have := j.isLt; omega⟩

/-- Column `j` of head `h` of part `p` of the projection. -/
def wide (p : Fin 4) (h : Fin 8) (j : Fin 128) : Fin 8192 :=
  ⟨1024 * p.val + 128 * h.val + j.val, by have := p.isLt; have := h.isLt; have := j.isLt; omega⟩

theorem index_facts : ∀ t : Fin cfg0.N,
    (win0_0.index t (0 : Fin 2) = 12 - t.val ∧ win0_0.index t (1 : Fin 2) = 0) ∧
    (win0_1.index t (0 : Fin 2) = 12 - t.val ∧ win0_1.index t (1 : Fin 2) = 0) ∧
    (win0_2.index t (0 : Fin 2) = 12 - t.val ∧ win0_2.index t (1 : Fin 2) = 0) ∧
    (win0_3.index t (0 : Fin 2) = 12 - t.val ∧ win0_3.index t (1 : Fin 2) = 1) ∧
    (win0_4.index t (0 : Fin 2) = 12 - t.val ∧ win0_4.index t (1 : Fin 2) = 2) ∧
    (win0_5.index t (0 : Fin 2) = 12 - t.val ∧ win0_5.index t (1 : Fin 2) = 3) ∧
    (win0_6.index t (0 : Fin 4) = 12 - t.val ∧ win0_6.index t (1 : Fin 4) = 0 ∧ win0_6.index t (2 : Fin 4) = 0 ∧ win0_6.index t (3 : Fin 4) = 0) ∧
    (win0_7.index t (0 : Fin 2) = 12 - t.val ∧ win0_7.index t (1 : Fin 2) = 0) ∧
    (win0_8.index t (0 : Fin 2) = 12 - t.val ∧ win0_8.index t (1 : Fin 2) = 0) ∧
    (win0_9.index t (0 : Fin 4) = 0 ∧ win0_9.index t (1 : Fin 4) = 0 ∧ win0_9.index t (2 : Fin 4) = 0 ∧ win0_9.index t (3 : Fin 4) = 0) ∧
    (win0_10.index t (0 : Fin 2) = 12 - t.val ∧ win0_10.index t (1 : Fin 2) = 0) :=
  (by decide +kernel : ∀ t : Fin grid0.N, _)

variable (t : Fin cfg0.N) (cc : Fin 5) (h : Fin 8) (i j : Fin 128)

theorem z_apply : (stepLoads m c t).z cc h (ix2 i j) = V m c main_arg1 (ix2 (tok (chunk t cc) i) (lane h j)) := by
  obtain ⟨e0, e1⟩ : win0_0.index t (0 : Fin 2) = 12 - t.val ∧ win0_0.index t (1 : Fin 2) = 0 := by
    have := index_facts t; tauto
  refine congrArg (V m c main_arg1) (funext fun a => Fin.ext ?_)
  match a with
  | ⟨0, _⟩ =>
    show win0_0.index t (0 : Fin 2) * 640 + 1 * (128 * cc.val + 1 * i.val) = 128 * (5 * (12 - t.val) + cc.val) + i.val
    omega
  | ⟨1, _⟩ =>
    show win0_0.index t (1 : Fin 2) * 1024 + 1 * (128 * h.val + 1 * j.val) = 128 * h.val + j.val
    omega

theorem o_apply : (stepLoads m c t).o cc h (ix2 i j) = V m c main_v197 (ix2 (tok (chunk t cc) i) (lane h j)) := by
  obtain ⟨e0, e1⟩ : win0_1.index t (0 : Fin 2) = 12 - t.val ∧ win0_1.index t (1 : Fin 2) = 0 := by
    have := index_facts t; tauto
  refine congrArg (V m c main_v197) (funext fun a => Fin.ext ?_)
  match a with
  | ⟨0, _⟩ =>
    show win0_1.index t (0 : Fin 2) * 640 + 1 * (128 * cc.val + 1 * i.val) = 128 * (5 * (12 - t.val) + cc.val) + i.val
    omega
  | ⟨1, _⟩ =>
    show win0_1.index t (1 : Fin 2) * 1024 + 1 * (128 * h.val + 1 * j.val) = 128 * h.val + j.val
    omega

theorem q_apply : (stepLoads m c t).q cc h (ix2 i j) = V m c main_arg0 (ix2 (tok (chunk t cc) i) (wide 0 h j)) := by
  obtain ⟨e0, e1⟩ : win0_2.index t (0 : Fin 2) = 12 - t.val ∧ win0_2.index t (1 : Fin 2) = 0 := by
    have := index_facts t; tauto
  refine congrArg (V m c main_arg0) (funext fun a => Fin.ext ?_)
  match a with
  | ⟨0, _⟩ =>
    show win0_2.index t (0 : Fin 2) * 640 + 1 * (128 * cc.val + 1 * i.val) = 128 * (5 * (12 - t.val) + cc.val) + i.val
    omega
  | ⟨1, _⟩ =>
    show win0_2.index t (1 : Fin 2) * 1024 + 1 * (128 * h.val + 1 * j.val) = 1024 * 0 + 128 * h.val + j.val
    omega

theorem k_apply : (stepLoads m c t).k cc h (ix2 i j) = V m c main_arg0 (ix2 (tok (chunk t cc) i) (wide 1 h j)) := by
  obtain ⟨e0, e1⟩ : win0_3.index t (0 : Fin 2) = 12 - t.val ∧ win0_3.index t (1 : Fin 2) = 1 := by
    have := index_facts t; tauto
  refine congrArg (V m c main_arg0) (funext fun a => Fin.ext ?_)
  match a with
  | ⟨0, _⟩ =>
    show win0_3.index t (0 : Fin 2) * 640 + 1 * (128 * cc.val + 1 * i.val) = 128 * (5 * (12 - t.val) + cc.val) + i.val
    omega
  | ⟨1, _⟩ =>
    show win0_3.index t (1 : Fin 2) * 1024 + 1 * (128 * h.val + 1 * j.val) = 1024 * 1 + 128 * h.val + j.val
    omega

theorem v_apply : (stepLoads m c t).v cc h (ix2 i j) = V m c main_arg0 (ix2 (tok (chunk t cc) i) (wide 2 h j)) := by
  obtain ⟨e0, e1⟩ : win0_4.index t (0 : Fin 2) = 12 - t.val ∧ win0_4.index t (1 : Fin 2) = 2 := by
    have := index_facts t; tauto
  refine congrArg (V m c main_arg0) (funext fun a => Fin.ext ?_)
  match a with
  | ⟨0, _⟩ =>
    show win0_4.index t (0 : Fin 2) * 640 + 1 * (128 * cc.val + 1 * i.val) = 128 * (5 * (12 - t.val) + cc.val) + i.val
    omega
  | ⟨1, _⟩ =>
    show win0_4.index t (1 : Fin 2) * 1024 + 1 * (128 * h.val + 1 * j.val) = 1024 * 2 + 128 * h.val + j.val
    omega

theorem g_apply : (stepLoads m c t).g cc h (ix2 i j) = V m c main_arg0 (ix2 (tok (chunk t cc) i) (wide 3 h j)) := by
  obtain ⟨e0, e1⟩ : win0_5.index t (0 : Fin 2) = 12 - t.val ∧ win0_5.index t (1 : Fin 2) = 3 := by
    have := index_facts t; tauto
  refine congrArg (V m c main_arg0) (funext fun a => Fin.ext ?_)
  match a with
  | ⟨0, _⟩ =>
    show win0_5.index t (0 : Fin 2) * 640 + 1 * (128 * cc.val + 1 * i.val) = 128 * (5 * (12 - t.val) + cc.val) + i.val
    omega
  | ⟨1, _⟩ =>
    show win0_5.index t (1 : Fin 2) * 1024 + 1 * (128 * h.val + 1 * j.val) = 1024 * 3 + 128 * h.val + j.val
    omega

/-- The index of the state before chunk `n`. -/
theorem st_apply : (stepLoads m c t).st cc h (ix4 0 0 i j) = V m c main_v236 (ix4 (chunk t cc) h i j) := by
  obtain ⟨e0, e1, e2, e3⟩ : win0_6.index t (0 : Fin 4) = 12 - t.val ∧ win0_6.index t (1 : Fin 4) = 0 ∧ win0_6.index t (2 : Fin 4) = 0 ∧
      win0_6.index t (3 : Fin 4) = 0 := by
    have := index_facts t; tauto
  refine congrArg (V m c main_v236) (funext fun a => Fin.ext ?_)
  match a with
  | ⟨0, _⟩ => show win0_6.index t (0 : Fin 4) * 5 + 1 * (cc.val + 1 * 0) = 5 * (12 - t.val) + cc.val; omega
  | ⟨1, _⟩ => show win0_6.index t (1 : Fin 4) * 8 + 1 * (h.val + 1 * 0) = h.val; omega
  | ⟨2, _⟩ => show win0_6.index t (2 : Fin 4) * 128 + 1 * (0 + 1 * i.val) = i.val; omega
  | ⟨3, _⟩ => show win0_6.index t (3 : Fin 4) * 128 + 1 * (0 + 1 * j.val) = j.val; omega

theorem cs_apply : (stepLoads m c t).cs cc (ix2 i j) = V m c main_v23 (ix2 (tok (chunk t cc) i) j) := by
  obtain ⟨e0, e1⟩ : win0_7.index t (0 : Fin 2) = 12 - t.val ∧ win0_7.index t (1 : Fin 2) = 0 := by
    have := index_facts t; tauto
  refine congrArg (V m c main_v23) (funext fun a => Fin.ext ?_)
  match a with
  | ⟨0, _⟩ =>
    show win0_7.index t (0 : Fin 2) * 640 + 1 * (128 * cc.val + 1 * i.val) = 128 * (5 * (12 - t.val) + cc.val) + i.val
    omega
  | ⟨1, _⟩ => show win0_7.index t (1 : Fin 2) * 128 + 1 * (0 + 1 * j.val) = j.val; omega

theorem sn_apply : (stepLoads m c t).sn cc (ix2 i j) = V m c main_v25 (ix2 (tok (chunk t cc) i) j) := by
  obtain ⟨e0, e1⟩ : win0_8.index t (0 : Fin 2) = 12 - t.val ∧ win0_8.index t (1 : Fin 2) = 0 := by
    have := index_facts t; tauto
  refine congrArg (V m c main_v25) (funext fun a => Fin.ext ?_)
  match a with
  | ⟨0, _⟩ =>
    show win0_8.index t (0 : Fin 2) * 640 + 1 * (128 * cc.val + 1 * i.val) = 128 * (5 * (12 - t.val) + cc.val) + i.val
    omega
  | ⟨1, _⟩ => show win0_8.index t (1 : Fin 2) * 128 + 1 * (0 + 1 * j.val) = j.val; omega

theorem dec_apply (p : Fin 4) : (stepLoads m c t).dec p h (ix4 0 0 i j) = V m c main_v83 (ix4 p h i j) := by
  obtain ⟨e0, e1, e2, e3⟩ : win0_9.index t (0 : Fin 4) = 0 ∧ win0_9.index t (1 : Fin 4) = 0 ∧ win0_9.index t (2 : Fin 4) = 0 ∧
      win0_9.index t (3 : Fin 4) = 0 := by
    have := index_facts t; tauto
  refine congrArg (V m c main_v83) (funext fun a => Fin.ext ?_)
  match a with
  | ⟨0, _⟩ => show win0_9.index t (0 : Fin 4) * 4 + 1 * (p.val + 1 * 0) = p.val; omega
  | ⟨1, _⟩ => show win0_9.index t (1 : Fin 4) * 8 + 1 * (h.val + 1 * 0) = h.val; omega
  | ⟨2, _⟩ => show win0_9.index t (2 : Fin 4) * 128 + 1 * (0 + 1 * i.val) = i.val; omega
  | ⟨3, _⟩ => show win0_9.index t (3 : Fin 4) * 128 + 1 * (0 + 1 * j.val) = j.val; omega

/-! ## The array after the run -/

/-- The place of a step's result in the array. -/
theorem emb_out (p : Fin 4) :
    ((cfg0.win 10).blk t).view.emb (outIdx cc h p (ix2 i j)) = ix2 (tok (chunk t cc) i) (wide p h j) := by
  obtain ⟨e0, e1⟩ : win0_10.index t (0 : Fin 2) = 12 - t.val ∧ win0_10.index t (1 : Fin 2) = 0 := by
    have := index_facts t; tauto
  refine funext fun a => Fin.ext ?_
  match a with
  | ⟨0, _⟩ =>
    show win0_10.index t (0 : Fin 2) * 640 + 1 * (128 * cc.val + 1 * i.val) = 128 * (5 * (12 - t.val) + cc.val) + i.val
    omega
  | ⟨1, _⟩ =>
    show win0_10.index t (1 : Fin 2) * 4096 + 1 * (1024 * p.val + 128 * h.val + 1 * j.val) = 1024 * p.val + 128 * h.val + j.val
    omega

/-- The array after the run, where a step wrote. -/
theorem final_apply (p : Fin 4) :
    (dats m 0 c).arrAt 10 cfg0.N (ix2 (tok (chunk t cc) i) (wide p h j)) =
      grad (stepLoads m c t) (fun h => enters m c h t.val t.isLt) p cc h (ix2 i j) := by
  rw [← emb_out t cc h i j p]
  have b := congrFun (Value.blocks10 m c t (flush0_10 t)) (outIdx cc h p (ix2 i j))
  rw [Value.flushed10] at b
  exact b.trans (block_eq m c cc h p (ix2 i j) t.val t.isLt)

theorem not_mem_out (a : Fin 8320) (b : Fin 8192) (hb : 4096 ≤ b.val) :
    win0_10.arr.view.emb (ix2 a b : S8320x8192.Idx) ∉ (win0_10.blk t).view.set := by
  rw [Pipeline.Window.emb_mem_blk_iff win0_10 t (ix2 a b)]
  intro hm
  have e1 : win0_10.index t (1 : Fin 2) = 0 := by have := index_facts t; tauto
  have h1 : b.val < win0_10.index t (1 : Fin 2) * 4096 + win0_10.xsize (grid0.coords t) (1 : Fin 2) := (hm (1 : Fin 2)).2
  have h2 : win0_10.xsize (grid0.coords t) (1 : Fin 2) = 4096 := rfl
  omega

/-- The columns after the fourth part are the ones passed in. -/
theorem final_rest (a : Fin 8320) (b : Fin 8192) (hb : 4096 ≤ b.val) :
    (dats m 0 c).arrAt 10 cfg0.N (ix2 a b) = V m c main_v237 (ix2 a b) :=
  Value.entry10 m c _ fun t _ => not_mem_out t a b hb

end Cert.KernelIdeal.Step
-- ==== Proof.Inputs.lean ====
/- The real matrices of the problem from its two real inputs: the projection `A` and the gradient `B` of the gated output. -/
module

public import proofs.«01_k».proof.Proof.Meaning
public import proofs.«01_k».proof.Proof.Grid
public import Mathlib.Analysis.SpecialFunctions.Trigonometric.Basic
public import Mathlib.Analysis.SpecialFunctions.Pow.Real

@[expose] public section

noncomputable section

namespace Cert.KernelIdeal.Step

open Idealize.ShloMosaic Retention

/-- The rotary position of token `t`. -/
def pos (t : Fin 8320) : ℝ := ((IntOp.maxsi (IntOp.subi (BitVec.ofNat 32 t.val) 112#32) 0#32).toInt : ℝ)

/-- The rotary frequency of place `j`. -/
def freq (j : Fin 64) : ℝ := Real.rpow 10000 (-(0 + 2 * (j.val : ℝ)) * (1 / 128))

/-- The rotary angle. -/
def ang (t : Fin 8320) (j : Fin 64) : ℝ := pos t * freq j

/-- The place of a column among the angles. -/
def half (j : Fin 128) : Fin 64 := ⟨j.val % 64, Nat.mod_lt _ (by decide)⟩

def cosT (t : Fin 8320) (j : Fin 128) : ℝ := Real.cos (ang t (half j))

/-- The sines, negated in the first half of the columns. -/
def sinT (t : Fin 8320) (j : Fin 128) : ℝ := if j.val < 64 then -Real.sin (ang t (half j)) else Real.sin (ang t (half j))

/-- The logarithm of the decay of head `h`. -/
def logG (h : Fin 8) : ℝ := Real.log (1 - Real.rpow 2 (-5 - (h.val : ℝ)))

theorem decay_pos (h : Fin 8) : 0 < 1 - Real.rpow 2 (-5 - (h.val : ℝ)) := by
  have : Real.rpow 2 (-5 - (h.val : ℝ)) < 1 := Real.rpow_lt_one_of_one_lt_of_neg (by norm_num) (by
    have : (0 : ℝ) ≤ (h.val : ℝ) := Nat.cast_nonneg _
    linarith)
  linarith

section

variable (A : Fin 8320 → Fin 8192 → ℝ) (B : Fin 8320 → Fin 1024 → ℝ)

/-- The matrices but for the output of the retention. -/
def inputs : Data where
  o := fun _ _ _ => 0
  q := fun h t j => A t (wide 0 h j)
  k := fun h t j => A t (wide 1 h j)
  v := fun h t j => A t (wide 2 h j)
  g := fun h t j => A t (wide 3 h j)
  z := fun h t j => B t (lane h j)
  cs := cosT
  sn := sinT
  l := logG

/-- The output of the retention: token `t` sees the tokens before it with a weight that decays. -/
def output (h : Fin 8) (t : Fin 8320) (e : Fin 128) : ℝ :=
  ∑ s, (inputs A B).v h s e * ((∑ d, (inputs A B).Q h t d * (inputs A B).K h s d) * decay (logG h) t s)

/-- The matrices. -/
def problem : Data := { inputs A B with o := output A B }

end

end Cert.KernelIdeal.Step
-- ==== Proof.RefTables.lean ====
/- The reference's tables: rotary angles, the decay of each head, and the weight with which a token sees another. -/
module

public import proofs.«01_k».proof.Proof.Inputs
public import proofs.«01_k».proof.Proof.Gen.ReferenceIdeal.Read

@[expose] public section

set_option maxRecDepth 16384

noncomputable section

namespace Cert.ReferenceIdeal.Real

open Cert.ReferenceIdeal Cert.ReferenceIdeal.Gen Cert.ReferenceIdeal.Read Idealize.ShloMosaic Idealize.ShloMosaic.TcCoe
open Idealize.ShloMosaic.ValueIdx
open Cert.KernelIdeal.Step Retention

theorem coe_max (a b : ℝ) : max (a : EReal) (b : EReal) = ((max a b : ℝ) : EReal) := (EReal.coe_strictMono.monotone.map_max).symm

theorem toInt_ofNat {n : ℕ} (h : n < 2 ^ 31) : (BitVec.ofNat 32 n).toInt = (n : ℤ) := by
  rw [BitVec.toInt_ofNat', Int.bmod_eq_of_le] <;> omega

/-! ### Tables -/

theorem v22_is (i : S8320.Idx) : val_main_v22 (F := Ideal) i = ((pos (i 0) : ℝ) : EReal) := by
  rw [val_main_v22_apply, val_main_v10_apply, val_main_v8_apply, val_main_v9_apply, val_main_v6_apply, val_main_v7_apply]
  rfl

theorem v21_is (i : S64.Idx) : val_main_v21 (F := Ideal) i = ((freq (i 0) : ℝ) : EReal) := by
  rw [val_main_v21_apply, val_main_v19_apply, val_main_v20_apply, val_main_v18_apply, val_main_v17_apply, val_main_v16_apply,
    val_main_v14_apply, val_main_v15_apply, val_main_v13_apply]
  show Ideal.pow (Ideal.ofBits .f32 0x461C4000#32) (Ideal.div (-(Ideal.ofBits .f32 0x00000000#32 +
    Ideal.ofBits .f32 0x40000000#32 * ((((BitVec.ofNat 32 (i 0).val).toInt : ℝ)) : EReal))) (Ideal.ofBits .f32 0x43000000#32)) = _
  have hi : (i 0).val < 64 := (i 0).isLt
  rw [bits_base, bits_zero, bits_two, bits_128, Ideal.div_coe (by norm_num), toInt_ofNat (by omega), ← EReal.coe_mul, ← EReal.coe_add,
    ← EReal.coe_neg, ← EReal.coe_mul, Ideal.pow_coe_coe]
  unfold freq
  push_cast
  rfl

theorem v27_is (i : S8320x64.Idx) : val_main_v27 (F := Ideal) i = ((ang (i 0) (i 1) : ℝ) : EReal) := by
  rw [val_main_v27_apply, val_main_v25_apply, val_main_v26_apply, val_main_v23_apply, val_main_v24_apply, v22_is, v21_is]
  exact (EReal.coe_mul _ _).symm

theorem v28_is (i : S8320x64.Idx) : val_main_v28 (F := Ideal) i = ((Real.cos (ang (i 0) (i 1)) : ℝ) : EReal) := by
  rw [val_main_v28_apply, v27_is]; rfl

theorem v30_is (i : S8320x64.Idx) : val_main_v30 (F := Ideal) i = ((Real.sin (ang (i 0) (i 1)) : ℝ) : EReal) := by
  rw [val_main_v30_apply, v27_is]; rfl

theorem v29_is (i : S8320x1x64.Idx) : val_main_v29 (F := Ideal) i = ((Real.cos (ang (i 0) (i 2)) : ℝ) : EReal) :=
  (val_main_v29_apply i).trans (v28_is _)

theorem v31_is (i : S8320x1x64.Idx) : val_main_v31 (F := Ideal) i = ((Real.sin (ang (i 0) (i 2)) : ℝ) : EReal) :=
  (val_main_v31_apply i).trans (v30_is _)

theorem v63_is (i : S8320x1x64.Idx) : val_main_v63 (F := Ideal) i = ((Real.cos (ang (i 0) (i 2)) : ℝ) : EReal) := v29_is i

theorem v65_is (i : S8320x1x64.Idx) : val_main_v65 (F := Ideal) i = ((Real.sin (ang (i 0) (i 2)) : ℝ) : EReal) := v31_is i

theorem v95_is (i : S8.Idx) : val_main_v95 (F := Ideal) i = ((logG (i 0) : ℝ) : EReal) := by
  rw [val_main_v95_apply, val_main_v94_apply, val_main_v93_apply, val_main_v92_apply, val_main_v91_apply, val_main_v90_apply,
    val_main_v89_apply]
  show Ideal.log (Ideal.ofBits .f32 0x3F800000#32 - Ideal.pow (Ideal.ofBits .f32 0x40000000#32)
    (Ideal.ofBits .f32 0xC0A00000#32 - ((((BitVec.ofNat 32 (i 0).val).toInt : ℝ)) : EReal))) = _
  have hi : (i 0).val < 8 := (i 0).isLt
  rw [bits_one, bits_two, bits_neg_five, toInt_ofNat (by omega), ← EReal.coe_sub, Ideal.pow_coe_coe, ← EReal.coe_sub, Ideal.log_coe]
  have h := decay_pos (i 0)
  rw [if_neg (by push_cast; exact not_le.mpr h)]
  rfl

theorem v87_is (i : S8320x8320.Idx) : val_main_v87 (F := Ideal) i = ((((i 0).val : ℝ) - ((i 1).val : ℝ) : ℝ) : EReal) := by
  rw [val_main_v87_apply, val_main_v85_apply, val_main_v86_apply, val_main_v83_apply, val_main_v84_apply]
  show ((((BitVec.ofNat 32 (i 0).val).toInt : ℝ)) : EReal) - ((((BitVec.ofNat 32 (i 1).val).toInt : ℝ)) : EReal) = _
  have h0 : (i 0).val < 8320 := (i 0).isLt
  have h1 : (i 1).val < 8320 := (i 1).isLt
  rw [toInt_ofNat (by omega), toInt_ofNat (by omega), ← EReal.coe_sub]
  push_cast
  rfl

/-- `exp (n l)` where `n` is not negative, and zero elsewhere. -/
theorem select_power (n l : ℝ) :
    Scalar.select (Ideal.cmp .oge (n : EReal) (Ideal.ofBits .f32 0x00000000#32))
      (Ideal.exp (max (n : EReal) (Ideal.ofBits .f32 0x00000000#32) * (l : EReal))) (Ideal.ofBits .f32 0x00000000#32)
      = (((if 0 ≤ n then Real.exp (n * l) else 0 : ℝ)) : EReal) := by
  rw [bits_zero, coe_max, ← EReal.coe_mul, Ideal.exp_coe]
  unfold Ideal.cmp Scalar.select
  by_cases h : 0 ≤ n
  · simp [h]
  · simp [h]

theorem v107_is (i : S8x8320x8320.Idx) : val_main_v107 (F := Ideal) i = ((decay (logG (i 0)) (i 1) (i 2) : ℝ) : EReal) := by
  rw [val_main_v107_apply, val_main_call0_v1_apply, val_main_call0_v2_apply, val_main_v106_apply, val_main_v105_apply,
    val_main_v103_apply, val_main_v104_apply, val_main_v101_apply, val_main_v102_apply, val_main_v100_apply, val_main_v99_apply,
    val_main_v98_apply, val_main_v97_apply, val_main_v96_apply, v95_is, v87_is]
  refine (select_power _ _).trans (congrArg (fun x : ℝ => (x : EReal)) ?_)
  unfold decay
  show (if (0 : ℝ) ≤ ((i 1).val : ℝ) - ((i 2).val : ℝ) then _ else _) = _
  by_cases h : (i 2).val ≤ (i 1).val
  · rw [if_pos h, if_pos (sub_nonneg.mpr (Nat.cast_le.mpr h))]
    rfl
  · rw [if_neg h, if_neg (fun h' => h (Nat.cast_le.mp (sub_nonneg.mp h')))]

end Cert.ReferenceIdeal.Real
-- ==== Proof.RefForward.lean ====
/- The reference's forward lines over real inputs. -/
module

public import proofs.«01_k».proof.Proof.RefTables

@[expose] public section

set_option maxRecDepth 16384

noncomputable section

namespace Cert.ReferenceIdeal.Real

open Cert.ReferenceIdeal Cert.ReferenceIdeal.Gen Cert.ReferenceIdeal.Read Idealize.ShloMosaic Idealize.ShloMosaic.TcCoe
open Cert.KernelIdeal.Step Retention

/-! ### Columns and halves -/

/-- The head of a column. -/
def hd (c : Fin 1024) : Fin 8 := ⟨c.val / 128, by omega⟩
/-- The place of a column in its head. -/
def pl (c : Fin 1024) : Fin 128 := ⟨c.val % 128, by omega⟩

theorem hd_lane (h : Fin 8) (j : Fin 128) : hd (lane h j) = h := Fin.ext (by
  show (128 * h.val + j.val) / 128 = h.val
  omega)
theorem pl_lane (h : Fin 8) (j : Fin 128) : pl (lane h j) = j := Fin.ext (by
  show (128 * h.val + j.val) % 128 = j.val
  omega)

/-- Column `j` of the first half, and of the second. -/
def lo (j : Fin 64) : Fin 128 := ⟨j.val, by omega⟩
def hi (j : Fin 64) : Fin 128 := ⟨64 + j.val, by omega⟩

section Halves

variable (x : Fin 128 → ℝ) (t : Fin 8320) (j : Fin 64)

theorem cos_lo : cosT t (lo j) = Real.cos (ang t j) := by
  unfold cosT
  rw [show half (lo j) = j from Fin.ext (by show j.val % 64 = j.val; omega)]
theorem cos_hi : cosT t (hi j) = Real.cos (ang t j) := by
  unfold cosT
  rw [show half (hi j) = j from Fin.ext (by show (64 + j.val) % 64 = j.val; omega)]
theorem sin_lo : sinT t (lo j) = -Real.sin (ang t j) := by
  unfold sinT
  rw [if_pos (show (lo j).val < 64 from j.isLt), show half (lo j) = j from Fin.ext (by show j.val % 64 = j.val; omega)]
theorem sin_hi : sinT t (hi j) = Real.sin (ang t j) := by
  unfold sinT
  rw [if_neg (show ¬(hi j).val < 64 from by show ¬(64 + j.val < 64); omega),
    show half (hi j) = j from Fin.ext (by show (64 + j.val) % 64 = j.val; omega)]
theorem swap_lo : swap (lo j) = hi j := Fin.ext (by show (j.val + 64) % 128 = 64 + j.val; omega)
theorem swap_hi : swap (hi j) = lo j := Fin.ext (by show (64 + j.val + 64) % 128 = j.val; omega)

theorem rotR_lo : rotR x (cosT t) (sinT t) (lo j) = x (lo j) * Real.cos (ang t j) - x (hi j) * Real.sin (ang t j) := by
  unfold rotR; rw [cos_lo, sin_lo, swap_lo]; ring
theorem rotR_hi : rotR x (cosT t) (sinT t) (hi j) = x (hi j) * Real.cos (ang t j) + x (lo j) * Real.sin (ang t j) := by
  unfold rotR; rw [cos_hi, sin_hi, swap_hi]
theorem rotB_lo : rotB x (cosT t) (sinT t) (lo j) = x (hi j) * Real.sin (ang t j) + x (lo j) * Real.cos (ang t j) := by
  unfold rotB; rw [cos_lo, sin_lo, swap_lo]; ring
theorem rotB_hi : rotB x (cosT t) (sinT t) (hi j) = x (hi j) * Real.cos (ang t j) + -x (lo j) * Real.sin (ang t j) := by
  unfold rotB; rw [cos_hi, sin_hi, swap_hi]; ring

end Halves

/-- Two halves side by side. -/
theorem join_is {a b : FVec Ideal S8320x8x64 .f32} {f : Fin 8320 → Fin 8 → Fin 128 → ℝ}
    (ha : ∀ i, a i = ((f (i 0) (i 1) (lo (i 2)) : ℝ) : EReal)) (hb : ∀ i, b i = ((f (i 0) (i 1) (hi (i 2)) : ℝ) : EReal))
    (i : S8320x8x128.Idx) :
    concatenate S8320x8x128 2 [⟨S8320x8x64, a⟩, ⟨S8320x8x64, b⟩] concatenates_S8320x8x64_S8320x8x64_S8320x8x128_d2 i
      = ((f (i 0) (i 1) (i 2) : ℝ) : EReal) := by
  have h2 : (i 2).val < 128 := (i 2).isLt
  by_cases h : (i 2).val < 64
  · refine (concatenate_pair_apply_left 2 a b _ i rfl (ValueIdx.ix3 (i 0) (i 1) (⟨(i 2).val, h⟩ : Fin 64)) (fun a => match a with
      | ⟨0, _⟩ => rfl
      | ⟨1, _⟩ => rfl
      | ⟨2, _⟩ => rfl)).trans ((ha _).trans ?_)
    rfl
  · refine (concatenate_pair_apply_right 2 a b _ i rfl rfl (ValueIdx.ix3 (i 0) (i 1) (⟨(i 2).val - 64, by omega⟩ : Fin 64)) (fun a ha => match a with
      | ⟨0, _⟩ => rfl
      | ⟨1, _⟩ => rfl
      | ⟨2, _⟩ => absurd rfl ha) (by show (i 2).val - 64 + 64 = (i 2).val; omega)).trans ((hb _).trans ?_)
    exact congrArg (fun x => ((f (i 0) (i 1) x : ℝ) : EReal)) (Fin.ext (by show 64 + ((i 2).val - 64) = (i 2).val; omega))

/-- The place in the flat row of an entry of a head. -/
theorem heads_idx (i : S8320x8x128.Idx) : idx_main_v11 i = (ValueIdx.ix2 (i 0) (lane (i 1) (i 2)) : S8320x1024.Idx) := by
  have h0 : (i 0).val < 8320 := (i 0).isLt
  have h1 : (i 1).val < 8 := (i 1).isLt
  have h2 : (i 2).val < 128 := (i 2).isLt
  funext a
  apply Fin.ext
  match a with
  | ⟨0, _⟩ => show (((i 0).val * 8 + (i 1).val) * 128 + (i 2).val) / 1024 = (i 0).val; omega
  | ⟨1, _⟩ => show (((i 0).val * 8 + (i 1).val) * 128 + (i 2).val) % 1024 = 128 * (i 1).val + (i 2).val; omega

/-- The entry of a head at a place in the flat row. -/
theorem flat_idx (i : S8320x1024.Idx) : idx_main_v126 i = (ValueIdx.ix3 (i 0) (hd (i 1)) (pl (i 1)) : S8320x8x128.Idx) := by
  have h0 : (i 0).val < 8320 := (i 0).isLt
  have h1 : (i 1).val < 1024 := (i 1).isLt
  funext a
  apply Fin.ext
  match a with
  | ⟨0, _⟩ => show ((i 0).val * 1024 + (i 1).val) / 1024 = (i 0).val; omega
  | ⟨1, _⟩ => show ((i 0).val * 1024 + (i 1).val) / 128 % 8 = (i 1).val / 128; omega
  | ⟨2, _⟩ => show ((i 0).val * 1024 + (i 1).val) % 128 = (i 1).val % 128; omega

theorem sum_is {n : ℕ} {f : Fin n → EReal} {g : Fin n → ℝ} (h : ∀ k, f k = ((g k : ℝ) : EReal)) : ∑ k, f k = ((∑ k, g k : ℝ) : EReal) := by
  rw [coe_sum]; exact Finset.sum_congr rfl fun k _ => h k

theorem dot_is {n : ℕ} {f g : Fin n → EReal} {a b : Fin n → ℝ} (hf : ∀ k, f k = ((a k : ℝ) : EReal)) (hg : ∀ k, g k = ((b k : ℝ) : EReal)) :
    ∑ k, f k * g k = ((∑ k, a k * b k : ℝ) : EReal) :=
  sum_is fun k => by rw [hf k, hg k, ← EReal.coe_mul]

/-! ### The forward lines -/

section Forward

variable {A : Fin 8320 → Fin 8192 → ℝ} {B : Fin 8320 → Fin 1024 → ℝ} {x0 : FVec Ideal S8320x8192 .bf16} {x1 : FVec Ideal S8320x1024 .bf16}
  (h0 : ∀ i, x0 i = ((A (i 0) (i 1) : ℝ) : EReal)) (h1 : ∀ i, x1 i = ((B (i 0) (i 1) : ℝ) : EReal))

include h0

theorem v1_is (i : S8320x4096.Idx) : val_main_v1 (F := Ideal) x0 i = ((A (i 0) ⟨(i 1).val, lt_trans (i 1).isLt (by decide)⟩ : ℝ) : EReal) :=
  (val_main_v0_apply (F := Ideal) x0 i).trans (h0 _)

omit h0 in
theorem wide_hd (p : Fin 4) (c : Fin 1024) (b : Fin 8192) (h : b.val = 1024 * p.val + c.val) : b = wide p (hd c) (pl c) := Fin.ext (by
  show b.val = 1024 * p.val + 128 * (c.val / 128) + c.val % 128
  omega)

theorem v2_is (i : S8320x1024.Idx) : val_main_v2 (F := Ideal) x0 i = ((A (i 0) (wide 0 (hd (i 1)) (pl (i 1))) : ℝ) : EReal) :=
  (val_main_v2_apply (F := Ideal) x0 i).trans ((v1_is h0 _).trans (congrArg (fun b => ((A (i 0) b : ℝ) : EReal)) (wide_hd 0 (i 1) _ (by
    show (i 1).val = 1024 * 0 + (i 1).val; omega))))

theorem v3_is (i : S8320x1024.Idx) : val_main_v3 (F := Ideal) x0 i = ((A (i 0) (wide 1 (hd (i 1)) (pl (i 1))) : ℝ) : EReal) :=
  (val_main_v3_apply (F := Ideal) x0 i).trans ((v1_is h0 _).trans (congrArg (fun b => ((A (i 0) b : ℝ) : EReal)) (wide_hd 1 (i 1) _ (by
    show 1024 + (i 1).val = 1024 * 1 + (i 1).val; omega))))

theorem v4_is (i : S8320x1024.Idx) : val_main_v4 (F := Ideal) x0 i = ((A (i 0) (wide 2 (hd (i 1)) (pl (i 1))) : ℝ) : EReal) :=
  (val_main_v4_apply (F := Ideal) x0 i).trans ((v1_is h0 _).trans (congrArg (fun b => ((A (i 0) b : ℝ) : EReal)) (wide_hd 2 (i 1) _ (by
    show 2048 + (i 1).val = 1024 * 2 + (i 1).val; omega))))

theorem v5_is (i : S8320x1024.Idx) : val_main_v5 (F := Ideal) x0 i = (((inputs A B).g (hd (i 1)) (i 0) (pl (i 1)) : ℝ) : EReal) :=
  (val_main_v5_apply (F := Ideal) x0 i).trans ((v1_is h0 _).trans (congrArg (fun b => ((A (i 0) b : ℝ) : EReal)) (wide_hd 3 (i 1) _ (by
    show 3072 + (i 1).val = 1024 * 3 + (i 1).val; omega))))

omit h0 in
/-- A flat array by head. -/
theorem heads_is {x : FVec Ideal S8320x1024 .f32} {f : Fin 8 → Fin 8320 → Fin 128 → ℝ}
    (h : ∀ i, x i = ((f (hd (i 1)) (i 0) (pl (i 1)) : ℝ) : EReal)) (i : S8320x8x128.Idx) :
    x (idx_main_v11 i) = ((f (i 1) (i 0) (i 2) : ℝ) : EReal) := by
  rw [heads_idx, h]
  exact congrArg₂ (fun a b => ((f a (i 0) b : ℝ) : EReal)) (hd_lane (i 1) (i 2)) (pl_lane (i 1) (i 2))

omit h0 in
/-- An array by head flat. -/
theorem flat_is {x : FVec Ideal S8320x8x128 .f32} {f : Fin 8 → Fin 8320 → Fin 128 → ℝ}
    (h : ∀ i, x i = ((f (i 1) (i 0) (i 2) : ℝ) : EReal)) (i : S8320x1024.Idx) :
    x (idx_main_v126 i) = ((f (hd (i 1)) (i 0) (pl (i 1)) : ℝ) : EReal) := by
  rw [flat_idx, h]

theorem v11_is (i : S8320x8x128.Idx) : val_main_v11 (F := Ideal) x0 i = (((inputs A B).q (i 1) (i 0) (i 2) : ℝ) : EReal) :=
  (val_main_v11_apply (F := Ideal) x0 i).trans (heads_is (f := (inputs A B).q) (v2_is h0) i)

theorem v45_is (i : S8320x8x128.Idx) : val_main_v45 (F := Ideal) x0 i = (((inputs A B).k (i 1) (i 0) (i 2) : ℝ) : EReal) :=
  (val_main_v45_apply (F := Ideal) x0 i).trans (heads_is (f := (inputs A B).k) (v3_is h0) i)

theorem v81_is (i : S8320x8x128.Idx) : val_main_v81 (F := Ideal) x0 i = (((inputs A B).v (i 1) (i 0) (i 2) : ℝ) : EReal) :=
  (val_main_v81_apply (F := Ideal) x0 i).trans (heads_is (f := (inputs A B).v) (v4_is h0) i)

theorem v44_is (i : S8320x8x128.Idx) : val_main_v44 (F := Ideal) x0 i = (((inputs A B).Q (i 1) (i 0) (i 2) : ℝ) : EReal) := by
  refine join_is (f := fun t h j => (inputs A B).Q h t j) (fun i => ?_) (fun i => ?_) i
  · rw [val_main_v38_apply, val_main_v35_apply, val_main_v37_apply, val_main_v32_apply, val_main_v33_apply, val_main_v34_apply,
      val_main_v36_apply, v11_is h0 (B := B), v11_is h0 (B := B), v29_is, v31_is]
    exact (congrArg (fun x : ℝ => (x : EReal)) (rotR_lo ((inputs A B).q (i 1) (i 0)) (i 0) (i 2))).trans (by push_cast; rfl) |>.symm
  · rw [val_main_v43_apply, val_main_v40_apply, val_main_v42_apply, val_main_v32_apply, val_main_v33_apply, val_main_v39_apply,
      val_main_v41_apply, v11_is h0 (B := B), v11_is h0 (B := B), v29_is, v31_is]
    exact (congrArg (fun x : ℝ => (x : EReal)) (rotR_hi ((inputs A B).q (i 1) (i 0)) (i 0) (i 2))).trans (by push_cast; rfl) |>.symm

theorem v78_is (i : S8320x8x128.Idx) : val_main_v78 (F := Ideal) x0 i
    = ((rotR ((inputs A B).k (i 1) (i 0)) (cosT (i 0)) (sinT (i 0)) (i 2) : ℝ) : EReal) := by
  refine join_is (f := fun t h j => rotR ((inputs A B).k h t) (cosT t) (sinT t) j) (fun i => ?_) (fun i => ?_) i
  · rw [val_main_v72_apply, val_main_v69_apply, val_main_v71_apply, val_main_v66_apply, val_main_v67_apply, val_main_v68_apply,
      val_main_v70_apply, v45_is h0 (B := B), v45_is h0 (B := B), v63_is, v65_is]
    exact (congrArg (fun x : ℝ => (x : EReal)) (rotR_lo ((inputs A B).k (i 1) (i 0)) (i 0) (i 2))).trans (by push_cast; rfl) |>.symm
  · rw [val_main_v77_apply, val_main_v74_apply, val_main_v76_apply, val_main_v66_apply, val_main_v67_apply, val_main_v73_apply,
      val_main_v75_apply, v45_is h0 (B := B), v45_is h0 (B := B), v63_is, v65_is]
    exact (congrArg (fun x : ℝ => (x : EReal)) (rotR_hi ((inputs A B).k (i 1) (i 0)) (i 0) (i 2))).trans (by push_cast; rfl) |>.symm

theorem v80_is (i : S8320x8x128.Idx) : val_main_v80 (F := Ideal) x0 i = (((inputs A B).K (i 1) (i 0) (i 2) : ℝ) : EReal) := by
  rw [val_main_v80_apply, val_main_v79_apply, v78_is h0 (B := B)]
  show _ * Ideal.ofBits .f32 0x3DB504F3#32 = _
  rw [bits_scale]
  exact (EReal.coe_mul _ _).symm

theorem v109_is (i : S8x8320x8320.Idx) : val_main_v109 (F := Ideal) x0 i
    = (((∑ d, (inputs A B).Q (i 0) (i 1) d * (inputs A B).K (i 0) (i 2) d) * decay (logG (i 0)) (i 1) (i 2) : ℝ) : EReal) := by
  rw [val_main_v109_apply, val_main_v108_apply, v107_is, dot_is (fun k => v44_is h0 (B := B) _) (fun k => v80_is h0 (B := B) _)]
  exact (EReal.coe_mul _ _).symm

theorem v111_is (i : S8320x8x128.Idx) : val_main_v111 (F := Ideal) x0 i = ((output A B (i 1) (i 0) (i 2) : ℝ) : EReal) := by
  rw [val_main_v111_apply, val_main_v110_apply, dot_is (fun k => v81_is h0 (B := B) _) (fun k => v109_is h0 (B := B) _)]
  rfl

end Forward

end Cert.ReferenceIdeal.Real
-- ==== Proof.HostTables.lean ====
/- The tables and states that the host lines before the kernel compute: the factors of the decay inside a chunk, and the state
   before each chunk. -/
module

public import proofs.«01_k».proof.Proof.RefForward
public import proofs.«01_k».proof.Proof.Gen.KernelIdeal.Value

@[expose] public section

set_option maxRecDepth 16384

noncomputable section

namespace Cert.KernelIdeal.Step

open Cert.KernelIdeal Cert.KernelIdeal.Gen Idealize.ShloMosaic Idealize.ShloMosaic.TcCoe
open Cert.ReferenceIdeal.Read Retention

section Lines

variable {F : FTy → Type} [FloatOps F]

/-- The places in a chunk. -/
def idx : FVec F S128 .f32 := sitofp .f32 (iotaInDim S128 32 0)

/-- The distance of two places. -/
def dist : FVec F S128x128 .f32 :=
  subf (broadcastInDim S128x128 ![0, 1] bcast_S128x1_S128x128_0_1 (broadcastInDim S128x1 ![0] bcast_S128_S128x1_0 idx))
    (broadcastInDim S128x128 ![0, 1] bcast_S1x128_S128x128_0_1 (broadcastInDim S1x128 ![1] bcast_S128_S1x128_1 idx))

/-- The weights inside a chunk. -/
def intraT : FVec F S8x128x128 .f32 :=
  select (broadcastInDim S8x128x128 ![0, 1, 2] bcast_S1x128x128_S8x128x128_0_1_2
      (cmpf .oge (broadcastInDim S1x128x128 ![1, 2] bcast_S128x128_S1x128x128_1_2 dist)
        (broadcastInDim S1x128x128 ![] bcast_S_S1x128x128 (constant (F := F) S_ .f32 0x00000000#32))))
    (Host.exp (mulf (broadcastInDim S8x128x128 ![0, 1, 2] bcast_S1x128x128_S8x128x128_0_1_2
        (broadcastInDim S1x128x128 ![1, 2] bcast_S128x128_S1x128x128_1_2
          (maximumf dist (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 val_main_v95))))
    (broadcastInDim S8x128x128 ![] bcast_S_S8x128x128 (constant S_ .f32 0x00000000#32))

/-- A factor of each place, by head: the exponential of `n` times the logarithm of the decay. -/
def factorT (n : FVec F S128 .f32) : FVec F S8x128x128 .f32 :=
  broadcastInDim S8x128x128 ![0, 1, 2] bcast_S8x128x1_S8x128x128_0_1_2 (broadcastInDim S8x128x1 ![0, 1] bcast_S8x128_S8x128x1_0_1
    (transpose S8x128 [1, 0] (Host.exp (mulf
      (broadcastInDim S128x8 ![0, 1] bcast_S128x1_S128x8_0_1 (broadcastInDim S128x1 ![0] bcast_S128_S128x1_0 n))
      (broadcastInDim S128x8 ![0, 1] bcast_S1x8_S128x8_0_1 (broadcastInDim S1x8 ![1] bcast_S8_S1x8_1 val_main_v95))))
      transposes_S128x8_S8x128_1_0))

/-- The factor over one chunk. -/
def chunkT : FVec F S8x128x128 .f32 :=
  broadcastInDim S8x128x128 ![0, 1, 2] bcast_S8x1x1_S8x128x128_0_1_2 (broadcastInDim S8x1x1 ![0] bcast_S8_S8x1x1_0
    (Host.exp (mulf (broadcastInDim S8 ![] bcast_S_S8 (constant S_ .f32 0x43000000#32)) val_main_v95)))

/-- One of the four tables. -/
def slab (x : FVec F S8x128x128 .f32) : FVec F S1x8x128x128 .f32 :=
  broadcastInDim S1x8x128x128 ![1, 2, 3] bcast_S8x128x128_S1x8x128x128_1_2_3 x

def ahead : FVec F S128 .f32 := addf idx (broadcastInDim S128 ![] bcast_S_S128 (constant S_ .f32 0x3F800000#32))
def behind : FVec F S128 .f32 := subf (broadcastInDim S128 ![] bcast_S_S128 (constant S_ .f32 0x42FE0000#32)) idx

/-- The four tables. -/
def tables : FVec F S4x8x128x128 .f32 :=
  concatenate S4x8x128x128 0 [⟨S1x8x128x128, slab intraT⟩, ⟨S1x8x128x128, slab (factorT ahead)⟩,
    ⟨S1x8x128x128, slab (factorT behind)⟩, ⟨S1x8x128x128, slab chunkT⟩]
    concatenates_S1x8x128x128_S1x8x128x128_S1x8x128x128_S1x8x128x128_S4x8x128x128_d0

/-- The distance from a token to the last token before a chunk. -/
def reach : FVec F S65x8320 .f32 :=
  subf (broadcastInDim S65x8320 ![0, 1] bcast_S65x1_S65x8320_0_1
      (subf (mulf (broadcastInDim S65x1 ![] bcast_S_S65x1 (constant S_ .f32 0x43000000#32))
          (broadcastInDim S65x1 ![0] bcast_S65_S65x1_0 (sitofp .f32 (iotaInDim S65 32 0))))
        (broadcastInDim S65x1 ![] bcast_S_S65x1 (constant S_ .f32 0x3F800000#32))))
    (broadcastInDim S65x8320 ![0, 1] bcast_S1x8320_S65x8320_0_1
      (broadcastInDim S1x8320 ![1] bcast_S8320_S1x8320_1 (sitofp .f32 (iotaInDim S8320 32 0))))

/-- The weights of the tokens in the states. -/
def reachW : FVec F S8x65x8320 .f32 :=
  select (broadcastInDim S8x65x8320 ![0, 1, 2] bcast_S1x65x8320_S8x65x8320_0_1_2
      (cmpf .oge (broadcastInDim S1x65x8320 ![1, 2] bcast_S65x8320_S1x65x8320_1_2 reach)
        (broadcastInDim S1x65x8320 ![] bcast_S_S1x65x8320 (constant (F := F) S_ .f32 0x00000000#32))))
    (Host.exp (mulf (broadcastInDim S8x65x8320 ![0, 1, 2] bcast_S1x65x8320_S8x65x8320_0_1_2
        (broadcastInDim S1x65x8320 ![1, 2] bcast_S65x8320_S1x65x8320_1_2
          (maximumf reach (broadcastInDim S65x8320 ![] bcast_S_S65x8320 (constant S_ .f32 0x00000000#32)))))
      (broadcastInDim S8x65x8320 ![0, 1, 2] bcast_S8x1x1_S8x65x8320_0_1_2 (broadcastInDim S8x1x1 ![0] bcast_S8_S8x1x1_0 val_main_v95))))
    (broadcastInDim S8x65x8320 ![] bcast_S_S8x65x8320 (constant S_ .f32 0x00000000#32))

/-- The keys, each multiplied by its weight in each state. -/
def weighted (x0 : FVec F S8320x8192 .bf16) : FVec F S65x8320x8x128 .f32 :=
  mulf (broadcastInDim S65x8320x8x128 ![0, 1, 2, 3] bcast_S1x8320x8x128_S65x8320x8x128_0_1_2_3
      (broadcastInDim S1x8320x8x128 ![1, 2, 3] bcast_S8320x8x128_S1x8320x8x128_1_2_3 (val_main_v80 x0)))
    (broadcastInDim S65x8320x8x128 ![0, 1, 2, 3] bcast_S65x8320x8x1_S65x8320x8x128_0_1_2_3
      (broadcastInDim S65x8320x8x1 ![0, 1, 2] bcast_S65x8320x8_S65x8320x8x1_0_1_2
        (transpose S65x8320x8 [1, 2, 0] reachW transposes_S8x65x8320_S65x8320x8_1_2_0)))

def stateSums (x0 : FVec F S8320x8192 .bf16) : FVec F S8x128x65x128 .f32 :=
  Host.dotGeneral dot_S8320x8x128_S65x8320x8x128_S8x128x65x128_0_1_2_03_1_2 none (val_main_v81 x0) (weighted x0)

/-- The states. -/
def states (x0 : FVec F S8320x8192 .bf16) : FVec F S65x8x128x128 .f32 :=
  transpose S65x8x128x128 [2, 0, 3, 1] (stateSums x0) transposes_S8x128x65x128_S65x8x128x128_2_0_3_1

end Lines

/-! ### Their values -/

open Cert.ReferenceIdeal.Real

theorem idx_is (i : S128.Idx) : (idx : FVec Ideal S128 .f32) i = (((i 0).val : ℝ) : EReal) := by
  have h : (i 0).val < 128 := (i 0).isLt
  show ((((BitVec.ofNat 32 (i 0).val).toInt : ℝ)) : EReal) = _
  rw [toInt_ofNat (by omega)]
  push_cast
  rfl

theorem dist_is (i j : Fin 128) : (dist : FVec Ideal S128x128 .f32) (ValueIdx.ix2 i j) = (((i.val : ℝ) - (j.val : ℝ) : ℝ) : EReal) := by
  unfold dist
  show broadcastInDim _ _ _ _ _ - broadcastInDim _ _ _ _ _ = _
  rw [broadcastInDim_apply _ _ _ (ValueIdx.ix2 i j) (ValueIdx.ix2 i 0) (fun a => match a with | ⟨0, _⟩ => rfl | ⟨1, _⟩ => rfl),
    broadcastInDim_apply _ _ _ (ValueIdx.ix2 i 0) (ValueIdx.ix1 i) (fun a => match a with | ⟨0, _⟩ => rfl),
    broadcastInDim_apply _ _ _ (ValueIdx.ix2 i j) (ValueIdx.ix2 0 j) (fun a => match a with | ⟨0, _⟩ => rfl | ⟨1, _⟩ => rfl),
    broadcastInDim_apply _ _ _ (ValueIdx.ix2 0 j) (ValueIdx.ix1 j) (fun a => match a with | ⟨0, _⟩ => rfl), idx_is, idx_is]
  exact (EReal.coe_sub _ _).symm

theorem scalar_is {s : Shape} {h : S_.BroadcastsInDim s ![]} (b : BitVec 32) (i : s.Idx) :
    broadcastInDim s ![] h (constant (F := Ideal) S_ .f32 b) i = Ideal.ofBits .f32 b :=
  broadcastInDim_apply _ _ _ i (fun a => a.elim0) (fun a => a.elim0)

theorem log_is (h : S8.BroadcastsInDim S8x1x1 ![0]) (i : S8x1x1.Idx) :
    broadcastInDim S8x1x1 ![0] h (val_main_v95 (F := Ideal)) i = ((logG (i 0) : ℝ) : EReal) :=
  (broadcastInDim_apply _ _ _ i (ValueIdx.ix1 (i 0)) (fun a => match a with | ⟨0, _⟩ => rfl)).trans (v95_is _)

theorem intraT_is (h : Fin 8) (i j : Fin 128) : (intraT : FVec Ideal S8x128x128 .f32) (ValueIdx.ix3 h i j) = ((intra (logG h) i j : ℝ) : EReal) := by
  unfold intraT
  show Scalar.select (broadcastInDim _ _ _ _ _) (Ideal.exp (broadcastInDim _ _ _ _ _ * broadcastInDim _ _ _ _ _)) (broadcastInDim _ _ _ _ _) = _
  rw [broadcastInDim_apply _ _ _ (ValueIdx.ix3 h i j) (ValueIdx.ix3 0 i j) (fun a => match a with | ⟨0, _⟩ => rfl | ⟨1, _⟩ => rfl | ⟨2, _⟩ => rfl),
    broadcastInDim_apply _ _ _ (ValueIdx.ix3 h i j) (ValueIdx.ix3 0 i j) (fun a => match a with | ⟨0, _⟩ => rfl | ⟨1, _⟩ => rfl | ⟨2, _⟩ => rfl),
    broadcastInDim_apply _ _ _ (ValueIdx.ix3 0 i j) (ValueIdx.ix2 i j) (fun a => match a with | ⟨0, _⟩ => rfl | ⟨1, _⟩ => rfl),
    broadcastInDim_apply _ _ _ (ValueIdx.ix3 h i j) (ValueIdx.ix3 h 0 0) (fun a => match a with | ⟨0, _⟩ => rfl | ⟨1, _⟩ => rfl | ⟨2, _⟩ => rfl),
    log_is, scalar_is]
  show Scalar.select (Ideal.cmp .oge (broadcastInDim _ _ _ _ _) (broadcastInDim _ _ _ _ _)) (Ideal.exp (max (dist (F := Ideal) _) (broadcastInDim _ _ _ _ _) * _)) _ = _
  rw [broadcastInDim_apply _ _ _ (ValueIdx.ix3 0 i j) (ValueIdx.ix2 i j) (fun a => match a with | ⟨0, _⟩ => rfl | ⟨1, _⟩ => rfl),
    scalar_is, scalar_is, dist_is]
  refine (select_power _ _).trans (congrArg (fun x : ℝ => (x : EReal)) ?_)
  unfold intra
  show (if (0 : ℝ) ≤ (i.val : ℝ) - (j.val : ℝ) then _ else _) = _
  by_cases h : j.val ≤ i.val
  · rw [if_pos h, if_pos (sub_nonneg.mpr (Nat.cast_le.mpr h))]
  · rw [if_neg h, if_neg (fun h' => h (Nat.cast_le.mp (sub_nonneg.mp h')))]

theorem factorT_is {n : FVec Ideal S128 .f32} {f : Fin 128 → ℝ} (hn : ∀ i, n i = ((f (i 0) : ℝ) : EReal)) (h : Fin 8) (i j : Fin 128) :
    factorT n (ValueIdx.ix3 h i j) = ((Real.exp (f i * logG h) : ℝ) : EReal) := by
  unfold factorT
  rw [broadcastInDim_apply _ _ _ (ValueIdx.ix3 h i j) (ValueIdx.ix3 h i 0) (fun a => match a with | ⟨0, _⟩ => rfl | ⟨1, _⟩ => rfl | ⟨2, _⟩ => rfl),
    broadcastInDim_apply _ _ _ (ValueIdx.ix3 h i 0) (ValueIdx.ix2 h i) (fun a => match a with | ⟨0, _⟩ => rfl | ⟨1, _⟩ => rfl),
    transpose_apply _ _ _ (ValueIdx.ix2 h i) (ValueIdx.ix2 i h) (fun b => match b with | ⟨0, _⟩ => rfl | ⟨1, _⟩ => rfl)]
  show Ideal.exp (broadcastInDim _ _ _ _ _ * broadcastInDim _ _ _ _ _) = _
  rw [broadcastInDim_apply _ _ _ (ValueIdx.ix2 i h) (ValueIdx.ix2 i 0) (fun a => match a with | ⟨0, _⟩ => rfl | ⟨1, _⟩ => rfl),
    broadcastInDim_apply _ _ _ (ValueIdx.ix2 i 0) (ValueIdx.ix1 i) (fun a => match a with | ⟨0, _⟩ => rfl),
    broadcastInDim_apply _ _ _ (ValueIdx.ix2 i h) (ValueIdx.ix2 0 h) (fun a => match a with | ⟨0, _⟩ => rfl | ⟨1, _⟩ => rfl),
    broadcastInDim_apply _ _ _ (ValueIdx.ix2 0 h) (ValueIdx.ix1 h) (fun a => match a with | ⟨0, _⟩ => rfl), hn, v95_is, ← EReal.coe_mul, Ideal.exp_coe]

theorem chunkT_is (h : Fin 8) (i j : Fin 128) : (chunkT : FVec Ideal S8x128x128 .f32) (ValueIdx.ix3 h i j) = ((cdec (logG h) : ℝ) : EReal) := by
  unfold chunkT
  rw [broadcastInDim_apply _ _ _ (ValueIdx.ix3 h i j) (ValueIdx.ix3 h 0 0) (fun a => match a with | ⟨0, _⟩ => rfl | ⟨1, _⟩ => rfl | ⟨2, _⟩ => rfl),
    broadcastInDim_apply _ _ _ (ValueIdx.ix3 h 0 0) (ValueIdx.ix1 h) (fun a => match a with | ⟨0, _⟩ => rfl)]
  show Ideal.exp (broadcastInDim _ _ _ _ _ * _) = _
  rw [scalar_is, v95_is, bits_128, ← EReal.coe_mul, Ideal.exp_coe]
  rfl

theorem ahead_is (i : S128.Idx) : (ahead : FVec Ideal S128 .f32) i = ((((i 0).val : ℝ) + 1 : ℝ) : EReal) := by
  show idx i + broadcastInDim _ _ _ _ _ = _
  rw [scalar_is, idx_is, bits_one, ← EReal.coe_add]

theorem behind_is (i : S128.Idx) : (behind : FVec Ideal S128 .f32) i = ((127 - ((i 0).val : ℝ) : ℝ) : EReal) := by
  show broadcastInDim _ _ _ _ _ - idx i = _
  rw [scalar_is, idx_is, bits_127, ← EReal.coe_sub]

theorem slab_apply (x : FVec Ideal S8x128x128 .f32) (h : Fin 8) (i j : Fin 128) : slab x (ValueIdx.ix4 0 h i j) = x (ValueIdx.ix3 h i j) :=
  broadcastInDim_apply _ _ _ (ValueIdx.ix4 0 h i j) (ValueIdx.ix3 h i j) (fun a => match a with | ⟨0, _⟩ => rfl | ⟨1, _⟩ => rfl | ⟨2, _⟩ => rfl)

/-- A table among the four. -/
theorem tables_apply (h : Fin 8) (i j : Fin 128) :
    (tables : FVec Ideal S4x8x128x128 .f32) (ValueIdx.ix4 0 h i j) = intraT (ValueIdx.ix3 h i j) ∧
    (tables : FVec Ideal S4x8x128x128 .f32) (ValueIdx.ix4 1 h i j) = factorT ahead (ValueIdx.ix3 h i j) ∧
    (tables : FVec Ideal S4x8x128x128 .f32) (ValueIdx.ix4 2 h i j) = factorT behind (ValueIdx.ix3 h i j) ∧
    (tables : FVec Ideal S4x8x128x128 .f32) (ValueIdx.ix4 3 h i j) = chunkT (ValueIdx.ix3 h i j) := by
  have hl : ∀ p : Fin 4, ∀ b : Fin 4, b ≠ 0 → ((ValueIdx.ix4 (0 : Fin 1) h i j : S1x8x128x128.Idx) b).val = ((ValueIdx.ix4 p h i j : S4x8x128x128.Idx) b).val :=
    fun p b hb => match b with
      | ⟨0, _⟩ => absurd rfl hb
      | ⟨1, _⟩ => rfl
      | ⟨2, _⟩ => rfl
      | ⟨3, _⟩ => rfl
  unfold tables
  refine ⟨?_, ?_, ?_, ?_⟩
  · exact (concatenate_apply_piece (t := S4x8x128x128) 0 _ _ (ValueIdx.ix4 0 h i j) 0 (by show 0 < 4; decide) S1x8x128x128 (slab intraT) rfl rfl 0 rfl
      (ValueIdx.ix4 0 h i j) (hl 0) rfl).trans (slab_apply _ h i j)
  · exact (concatenate_apply_piece (t := S4x8x128x128) 0 _ _ (ValueIdx.ix4 1 h i j) 1 (by show 1 < 4; decide) S1x8x128x128 (slab (factorT ahead)) rfl rfl 1 rfl
      (ValueIdx.ix4 0 h i j) (hl 1) rfl).trans (slab_apply _ h i j)
  · exact (concatenate_apply_piece (t := S4x8x128x128) 0 _ _ (ValueIdx.ix4 2 h i j) 2 (by show 2 < 4; decide) S1x8x128x128 (slab (factorT behind)) rfl rfl 2 rfl
      (ValueIdx.ix4 0 h i j) (hl 2) rfl).trans (slab_apply _ h i j)
  · exact (concatenate_apply_piece (t := S4x8x128x128) 0 _ _ (ValueIdx.ix4 3 h i j) 3 (by show 3 < 4; decide) S1x8x128x128 (slab chunkT) rfl rfl 3 rfl
      (ValueIdx.ix4 0 h i j) (hl 3) rfl).trans (slab_apply _ h i j)

theorem reach_is (i : Fin 65) (j : Fin 8320) :
    (reach : FVec Ideal S65x8320 .f32) (ValueIdx.ix2 i j) = ((128 * (i.val : ℝ) - 1 - (j.val : ℝ) : ℝ) : EReal) := by
  unfold reach
  show broadcastInDim _ _ _ _ _ - broadcastInDim _ _ _ _ _ = _
  rw [broadcastInDim_apply _ _ _ (ValueIdx.ix2 i j) (ValueIdx.ix2 i 0) (fun a => match a with | ⟨0, _⟩ => rfl | ⟨1, _⟩ => rfl),
    broadcastInDim_apply _ _ _ (ValueIdx.ix2 i j) (ValueIdx.ix2 0 j) (fun a => match a with | ⟨0, _⟩ => rfl | ⟨1, _⟩ => rfl),
    broadcastInDim_apply _ _ _ (ValueIdx.ix2 0 j) (ValueIdx.ix1 j) (fun a => match a with | ⟨0, _⟩ => rfl)]
  show (broadcastInDim _ _ _ _ _ * broadcastInDim _ _ _ _ _ - broadcastInDim _ _ _ _ _) - ((((BitVec.ofNat 32 j.val).toInt : ℝ)) : EReal) = _
  rw [scalar_is, scalar_is, broadcastInDim_apply _ _ _ (ValueIdx.ix2 i 0) (ValueIdx.ix1 i) (fun a => match a with | ⟨0, _⟩ => rfl)]
  show (Ideal.ofBits .f32 0x43000000#32 * ((((BitVec.ofNat 32 i.val).toInt : ℝ)) : EReal) - Ideal.ofBits .f32 0x3F800000#32) - _ = _
  have h0 : i.val < 65 := i.isLt
  have h1 : j.val < 8320 := j.isLt
  rw [bits_128, bits_one, toInt_ofNat (by omega), toInt_ofNat (by omega), ← EReal.coe_mul, ← EReal.coe_sub, ← EReal.coe_sub]
  push_cast
  rfl

theorem reachW_is (h : Fin 8) (n : Fin 65) (s : Fin 8320) :
    (reachW : FVec Ideal S8x65x8320 .f32) (ValueIdx.ix3 h n s) = ((before (logG h) n.val s : ℝ) : EReal) := by
  unfold reachW
  show Scalar.select (broadcastInDim _ _ _ _ _) (Ideal.exp (broadcastInDim _ _ _ _ _ * broadcastInDim _ _ _ _ _)) (broadcastInDim _ _ _ _ _) = _
  rw [broadcastInDim_apply _ _ _ (ValueIdx.ix3 h n s) (ValueIdx.ix3 0 n s) (fun a => match a with | ⟨0, _⟩ => rfl | ⟨1, _⟩ => rfl | ⟨2, _⟩ => rfl),
    broadcastInDim_apply _ _ _ (ValueIdx.ix3 h n s) (ValueIdx.ix3 0 n s) (fun a => match a with | ⟨0, _⟩ => rfl | ⟨1, _⟩ => rfl | ⟨2, _⟩ => rfl),
    broadcastInDim_apply _ _ _ (ValueIdx.ix3 0 n s) (ValueIdx.ix2 n s) (fun a => match a with | ⟨0, _⟩ => rfl | ⟨1, _⟩ => rfl),
    broadcastInDim_apply _ _ _ (ValueIdx.ix3 h n s) (ValueIdx.ix3 h 0 0) (fun a => match a with | ⟨0, _⟩ => rfl | ⟨1, _⟩ => rfl | ⟨2, _⟩ => rfl),
    log_is, scalar_is]
  show Scalar.select (Ideal.cmp .oge (broadcastInDim _ _ _ _ _) (broadcastInDim _ _ _ _ _)) (Ideal.exp (max (reach (F := Ideal) _) (broadcastInDim _ _ _ _ _) * _)) _ = _
  rw [broadcastInDim_apply _ _ _ (ValueIdx.ix3 0 n s) (ValueIdx.ix2 n s) (fun a => match a with | ⟨0, _⟩ => rfl | ⟨1, _⟩ => rfl),
    scalar_is, scalar_is, reach_is]
  refine (select_power _ _).trans (congrArg (fun x : ℝ => (x : EReal)) ?_)
  unfold before
  show (if (0 : ℝ) ≤ 128 * (n.val : ℝ) - 1 - (s.val : ℝ) then _ else _) = _
  have e : (0 : ℝ) ≤ 128 * (n.val : ℝ) - 1 - (s.val : ℝ) ↔ s.val < 128 * n.val := by
    have e' : s.val < 128 * n.val ↔ ((s.val + 1 : ℕ) : ℝ) ≤ ((128 * n.val : ℕ) : ℝ) := by rw [Nat.cast_le]; exact Iff.rfl
    rw [e']
    push_cast
    constructor <;> intro h <;> linarith
  by_cases hs : s.val < 128 * n.val
  · rw [if_pos hs, if_pos (e.mpr hs)]
  · rw [if_neg hs, if_neg (fun h' => hs (e.mp h'))]

section States

variable {A : Fin 8320 → Fin 8192 → ℝ} {B : Fin 8320 → Fin 1024 → ℝ} {x0 : FVec Ideal S8320x8192 .bf16}
  (h0 : ∀ i, x0 i = ((A (i 0) (i 1) : ℝ) : EReal))

include h0

theorem weighted_is (n : Fin 65) (s : Fin 8320) (h : Fin 8) (d : Fin 128) :
    weighted x0 (ValueIdx.ix4 n s h d) = (((inputs A B).K h s d * before (logG h) n.val s : ℝ) : EReal) := by
  unfold weighted
  show broadcastInDim _ _ _ _ _ * broadcastInDim _ _ _ _ _ = _
  rw [broadcastInDim_apply _ _ _ (ValueIdx.ix4 n s h d) (ValueIdx.ix4 0 s h d) (fun a => match a with | ⟨0, _⟩ => rfl | ⟨1, _⟩ => rfl | ⟨2, _⟩ => rfl | ⟨3, _⟩ => rfl),
    broadcastInDim_apply _ _ _ (ValueIdx.ix4 0 s h d) (ValueIdx.ix3 s h d) (fun a => match a with | ⟨0, _⟩ => rfl | ⟨1, _⟩ => rfl | ⟨2, _⟩ => rfl),
    broadcastInDim_apply _ _ _ (ValueIdx.ix4 n s h d) (ValueIdx.ix4 n s h 0) (fun a => match a with | ⟨0, _⟩ => rfl | ⟨1, _⟩ => rfl | ⟨2, _⟩ => rfl | ⟨3, _⟩ => rfl),
    broadcastInDim_apply _ _ _ (ValueIdx.ix4 n s h 0) (ValueIdx.ix3 n s h) (fun a => match a with | ⟨0, _⟩ => rfl | ⟨1, _⟩ => rfl | ⟨2, _⟩ => rfl),
    transpose_apply _ _ _ (ValueIdx.ix3 n s h) (ValueIdx.ix3 h n s) (fun b => match b with | ⟨0, _⟩ => rfl | ⟨1, _⟩ => rfl | ⟨2, _⟩ => rfl),
    reachW_is, v80_is h0 (B := B)]
  exact (EReal.coe_mul _ _).symm

/-- The state before chunk `n`: a sum over the tokens before it. -/
theorem states_is (n : Fin 65) (h : Fin 8) (i j : Fin 128) :
    states x0 (ValueIdx.ix4 n h i j) = ((state (logG h) ((inputs A B).K h) ((inputs A B).v h) n.val i j : ℝ) : EReal) := by
  unfold states
  rw [transpose_apply _ _ _ (ValueIdx.ix4 n h i j) (ValueIdx.ix4 h j n i) (fun b => match b with | ⟨0, _⟩ => rfl | ⟨1, _⟩ => rfl | ⟨2, _⟩ => rfl | ⟨3, _⟩ => rfl)]
  unfold stateSums
  simp only [Host.dotGeneral]
  rw [Ideal.dotGeneral_apply, ← Equiv.sum_comp (ValueIdx.contrEquiv1 dot_S8320x8x128_S65x8320x8x128_S8x128x65x128_0_1_2_03_1_2 8320 rfl rfl).symm]
  refine (dot_is (a := fun s => (inputs A B).v h s j) (b := fun s => (inputs A B).K h s i * before (logG h) n.val s) (fun k => ?_) (fun k => ?_)).trans
    (congrArg (fun x : ℝ => (x : EReal)) (Finset.sum_congr rfl fun s _ => mul_comm _ _))
  · have hk := ValueIdx.contrEquiv1_symm_val dot_S8320x8x128_S65x8320x8x128_S8x128x65x128_0_1_2_03_1_2 8320 rfl rfl k
    have e : dot_S8320x8x128_S65x8320x8x128_S8x128x65x128_0_1_2_03_1_2.lhsIdx (ValueIdx.ix4 h j n i)
        ((ValueIdx.contrEquiv1 dot_S8320x8x128_S65x8320x8x128_S8x128x65x128_0_1_2_03_1_2 8320 rfl rfl).symm k) = ValueIdx.ix3 k h j := funext fun a => Fin.ext (by
      match a with
      | ⟨0, _⟩ => exact (dot_S8320x8x128_S65x8320x8x128_S8x128x65x128_0_1_2_03_1_2.lhsIdx_val_of_single rfl _ _).trans hk
      | ⟨1, _⟩ => rfl
      | ⟨2, _⟩ => rfl)
    rw [e]
    exact v81_is h0 (B := B) _
  · have hk := ValueIdx.contrEquiv1_symm_val dot_S8320x8x128_S65x8320x8x128_S8x128x65x128_0_1_2_03_1_2 8320 rfl rfl k
    have e : dot_S8320x8x128_S65x8320x8x128_S8x128x65x128_0_1_2_03_1_2.rhsIdx (ValueIdx.ix4 h j n i)
        ((ValueIdx.contrEquiv1 dot_S8320x8x128_S65x8320x8x128_S8x128x65x128_0_1_2_03_1_2 8320 rfl rfl).symm k) = ValueIdx.ix4 n k h i := funext fun a => Fin.ext (by
      match a with
      | ⟨0, _⟩ => rfl
      | ⟨1, _⟩ => exact (dot_S8320x8x128_S65x8320x8x128_S8x128x65x128_0_1_2_03_1_2.rhsIdx_val_of_single rfl _ _).trans hk
      | ⟨2, _⟩ => rfl
      | ⟨3, _⟩ => rfl)
    rw [e]
    exact weighted_is h0 n k h i

end States

end Cert.KernelIdeal.Step
-- ==== Proof.Entry.lean ====
/- What the kernel's operands hold when its grid starts: the host lines before it are the reference's own forward lines. -/
module

public import proofs.«01_k».proof.Proof.HostTables
public import Idealize.ShloMosaic.Lib.Claim

@[expose] public section

set_option maxRecDepth 16384

noncomputable section

namespace Cert.KernelIdeal.Step

open Cert.KernelIdeal Cert.KernelIdeal.Gen Idealize.ShloMosaic Idealize.ShloMosaic.TcCoe Idealize.SL.Sem
open Cert.ReferenceIdeal.Read

variable {F : FTy → Type} [FloatOps F] (m : (ℓ : Loc nD τ sig) → Buf (Elt F) ℓ) (c : Dev nD)

theorem entry_dproj : V m c main_v237 = m (c, main_arg2) := by
  entry_read
  rfl

theorem entry_cos : V m c main_v23
    = (concatenate S8320x128 1 [⟨S8320x64, val_main_v28 (F := F)⟩, ⟨S8320x64, val_main_v28 (F := F)⟩] concatenates_S8320x64_S8320x64_S8320x128_d1 : FVec F S8320x128 .f32) := by
  unfold V
  simp only [hostOps0, hostOps0_1, hostOps0_2, hostOps0_3, hostOps0_4, hostOps0_5, hostOps0_6, List.flatten_cons, List.flatten_nil, List.append_nil,
    List.cons_append, List.nil_append]
  after_results
  rfl

theorem entry_sin : V m c main_v25
    = (concatenate S8320x128 1 [⟨S8320x64, Host.negf (val_main_v30 (F := F))⟩, ⟨S8320x64, val_main_v30 (F := F)⟩] concatenates_S8320x64_S8320x64_S8320x128_d1 : FVec F S8320x128 .f32) := by
  unfold V
  simp only [hostOps0, hostOps0_1, hostOps0_2, hostOps0_3, hostOps0_4, hostOps0_5, hostOps0_6, List.flatten_cons, List.flatten_nil, List.append_nil,
    List.cons_append, List.nil_append]
  after_results
  rfl

theorem entry_o : V m c main_v197
    = (truncf .bf16 (shapeCast S8320x1024 (val_main_v111 (F := F) (m (c, main_arg0))) shapeCasts_S8320x8x128_S8320x1024) bitsLt_bf16_f32 : FVec F S8320x1024 .bf16) := by
  unfold V
  simp only [hostOps0, hostOps0_1, hostOps0_2, hostOps0_3, hostOps0_4, hostOps0_5, hostOps0_6, List.flatten_cons, List.flatten_nil, List.append_nil,
    List.cons_append, List.nil_append]
  after_results
  rfl

theorem entry_dec : V m c main_v83 = (tables : FVec F S4x8x128x128 .f32) := by
  unfold V
  simp only [hostOps0, hostOps0_1, hostOps0_2, hostOps0_3, hostOps0_4, hostOps0_5, hostOps0_6, List.flatten_cons, List.flatten_nil, List.append_nil,
    List.cons_append, List.nil_append]
  after_results
  rfl

theorem entry_st : V m c main_v236 = (states (F := F) (m (c, main_arg0)) : FVec F S65x8x128x128 .f32) := by
  unfold V
  simp only [hostOps0, hostOps0_1, hostOps0_2, hostOps0_3, hostOps0_4, hostOps0_5, hostOps0_6, List.flatten_cons, List.flatten_nil, List.append_nil,
    List.cons_append, List.nil_append]
  after_results
  rfl

end Cert.KernelIdeal.Step
-- ==== Proof.RefBackward.lean ====
/- The reference's backward lines over real inputs: the four gradients. -/
module

public import proofs.«01_k».proof.Proof.RefForward
public import Idealize.ShloMosaic.Lib.KernelVsHost

@[expose] public section

set_option maxRecDepth 16384

noncomputable section

namespace Cert.ReferenceIdeal.Real

open Cert.ReferenceIdeal Cert.ReferenceIdeal.Gen Cert.ReferenceIdeal.Read Idealize.ShloMosaic Idealize.ShloMosaic.TcCoe
open Cert.KernelIdeal.Step Retention

/-- The gradient through the normalisation, as the chain rule writes it: through the factor, and twice through the square. -/
theorem outG_chain (o g z : Fin 128 → ℝ) (j : Fin 128) :
    nrmG g z j * nf o + o j * ((∑ k, o k * nrmG g z k) * (-(1 / 2) * (nf o * (1 / under o))) * (1 / 128))
      + ((∑ k, o k * nrmG g z k) * (-(1 / 2) * (nf o * (1 / under o))) * (1 / 128)) * o j = outG o g z j := by
  have hu := under_pos o
  have hs : nf o * nf o = 1 / under o := by
    unfold nf
    rw [← mul_inv, Real.mul_self_sqrt hu.le, one_div]
  have hm : mean (fun j => nrmG g z j * nrm o j) = nf o * (∑ k, o k * nrmG g z k) * (1 / 128) := by
    unfold mean nrm
    rw [Finset.mul_sum]
    refine congrArg (· * (1 / 128 : ℝ)) (Finset.sum_congr rfl fun k _ => by ring)
  unfold outG
  rw [hm, ← hs]
  unfold nrm
  ring

/-- A half placed in the low columns and a half placed in the high columns, added. -/
theorem pads_is {a b : FVec Ideal S8320x8x64 .f32} {f : Fin 8320 → Fin 8 → Fin 128 → ℝ} {u w : FVec Ideal S_ .f32}
    (hu : ∀ i, u i = ((0 : ℝ) : EReal)) (hw : ∀ i, w i = ((0 : ℝ) : EReal))
    (ha : ∀ i, a i = ((f (i 0) (i 1) (hi (i 2)) : ℝ) : EReal)) (hb : ∀ i, b i = ((f (i 0) (i 1) (lo (i 2)) : ℝ) : EReal))
    (i : S8320x8x128.Idx) :
    pad S8320x8x128 ![0, 0, 64] ![0, 0, 0] ![0, 0, 0] a u pads_S8320x8x64_S8320x8x128_000_000_6400 h_S_ i
      + pad S8320x8x128 ![0, 0, 0] ![0, 0, 64] ![0, 0, 0] b w pads_S8320x8x64_S8320x8x128_000_000_0640 h_S_ i
      = ((f (i 0) (i 1) (i 2) : ℝ) : EReal) := by
  have h2 : (i 2).val < 128 := (i 2).isLt
  by_cases h : (i 2).val < 64
  · rw [pad_apply_of_not_inside _ _ _ a u _ _ i 2 (by
        intro hc
        have : 64 ≤ (i 2).val := hc.1
        omega),
      pad_apply_of_inside _ _ _ b w _ _ i (ValueIdx.ix3 (i 0) (i 1) (⟨(i 2).val, h⟩ : Fin 64)) (fun a => match a with
        | ⟨0, _⟩ => by show (i 0).val = 0 + (i 0).val * (0 + 1); omega
        | ⟨1, _⟩ => by show (i 1).val = 0 + (i 1).val * (0 + 1); omega
        | ⟨2, _⟩ => by show (i 2).val = 0 + (i 2).val * (0 + 1); omega), hu, hb]
    exact (EReal.coe_add _ _).symm.trans (congrArg (fun x : ℝ => (x : EReal)) (zero_add _))
  · rw [pad_apply_of_not_inside _ _ _ b w _ _ i 2 (by
        intro hc
        have : ((i 2).val - 0) / (0 + 1) < 64 := hc.2.2
        omega),
      pad_apply_of_inside _ _ _ a u _ _ i (ValueIdx.ix3 (i 0) (i 1) (⟨(i 2).val - 64, by omega⟩ : Fin 64)) (fun a => match a with
        | ⟨0, _⟩ => by show (i 0).val = 0 + (i 0).val * (0 + 1); omega
        | ⟨1, _⟩ => by show (i 1).val = 0 + (i 1).val * (0 + 1); omega
        | ⟨2, _⟩ => by show (i 2).val = 64 + ((i 2).val - 64) * (0 + 1); omega), hw, ha]
    refine (EReal.coe_add _ _).symm.trans (congrArg (fun x : ℝ => (x : EReal)) ((add_zero _).trans ?_))
    exact congrArg (f (i 0) (i 1)) (Fin.ext (by show 64 + ((i 2).val - 64) = (i 2).val; omega))

section Backward

variable {A : Fin 8320 → Fin 8192 → ℝ} {B : Fin 8320 → Fin 1024 → ℝ} {x0 : FVec Ideal S8320x8192 .bf16} {x1 : FVec Ideal S8320x1024 .bf16}
  (h0 : ∀ i, x0 i = ((A (i 0) (i 1) : ℝ) : EReal)) (h1 : ∀ i, x1 i = ((B (i 0) (i 1) : ℝ) : EReal))

include h0

/-! ### The gate and the normalisation -/

theorem v125_2_is (i : S8320x1024.Idx) : val_main_v125_2 (F := Ideal) x0 i = ((sgm ((inputs A B).g (hd (i 1)) (i 0) (pl (i 1))) : ℝ) : EReal) := by
  rw [val_main_v125_2_apply, val_main_call1_v4_apply, val_main_call1_v3_apply, val_main_call1_v2_apply, val_main_call1_v1_apply,
    val_main_call1_v0_apply, v5_is h0 (B := B)]
  generalize (inputs A B).g (hd (i 1)) (i 0) (pl (i 1)) = g
  show Ideal.div (Ideal.ofBits .f32 0x3F800000#32) (Ideal.ofBits .f32 0x3F800000#32 + Ideal.exp (-(g : EReal))) = _
  have hp : 0 < Real.exp (-g) := Real.exp_pos _
  rw [bits_one, ← EReal.coe_neg, Ideal.exp_coe, ← EReal.coe_add, Ideal.div_coe (by positivity), ← EReal.coe_mul]
  unfold sgm
  rw [one_mul, one_div]

theorem v125_1_is (i : S8320x1024.Idx) : val_main_v125_1 (F := Ideal) x0 i
    = ((sgm ((inputs A B).g (hd (i 1)) (i 0) (pl (i 1))) * (1 - sgm ((inputs A B).g (hd (i 1)) (i 0) (pl (i 1)))) : ℝ) : EReal) := by
  rw [val_main_v125_1_apply, val_main_call1_v7_apply, val_main_call1_v6_apply, v125_2_is h0 (B := B)]
  show _ * (Ideal.ofBits .f32 0x3F800000#32 - _) = _
  rw [bits_one, ← EReal.coe_sub, ← EReal.coe_mul]

theorem v125_0_is (i : S8320x1024.Idx) : val_main_v125_0 (F := Ideal) x0 i
    = (((inputs A B).g (hd (i 1)) (i 0) (pl (i 1)) * sgm ((inputs A B).g (hd (i 1)) (i 0) (pl (i 1))) : ℝ) : EReal) := by
  rw [val_main_v125_0_apply, v125_2_is h0 (B := B), v5_is h0 (B := B)]
  exact (EReal.coe_mul _ _).symm

theorem v118_is (i : S8320x8x1.Idx) : val_main_v118 (F := Ideal) x0 i = ((under (output A B (i 1) (i 0)) : ℝ) : EReal) := by
  rw [val_main_v118_apply, val_main_v116_apply, val_main_v117_apply, val_main_v114_apply, val_main_v115_apply, val_main_v113_apply]
  rw [sum_is (g := fun k => output A B (i 1) (i 0) k * output A B (i 1) (i 0) k) (fun k => by
    rw [val_main_v112_apply, v111_is h0 (B := B)]; exact (EReal.coe_mul _ _).symm)]
  show Ideal.div (Ideal.ofBits .f32 0x00000000#32 + _) (Ideal.ofBits .f32 0x43000000#32) + Ideal.ofBits .f32 0x358637BD#32 = _
  rw [bits_zero, bits_128, bits_eps, Ideal.div_coe (by norm_num), ← EReal.coe_add, ← EReal.coe_mul, ← EReal.coe_add, zero_add]
  rfl

theorem v119_is (i : S8320x8x1.Idx) : val_main_v119 (F := Ideal) x0 i = ((nf (output A B (i 1) (i 0)) : ℝ) : EReal) := by
  rw [val_main_v119_apply, v118_is h0 (B := B)]
  have h := under_pos (output A B (i 1) (i 0))
  refine (show _ = Ideal.rsqrt ((under (output A B (i 1) (i 0)) : ℝ) : EReal) from rfl).trans ?_
  rw [Ideal.rsqrt_coe, if_neg (not_lt.mpr h.le), if_neg h.ne']
  rfl

theorem v122_is (i : S8320x8x1.Idx) : val_main_v122 (F := Ideal) x0 i
    = ((-(1 / 2) * (nf (output A B (i 1) (i 0)) * (1 / under (output A B (i 1) (i 0)))) : ℝ) : EReal) := by
  rw [val_main_v122_apply, val_main_v120_apply, val_main_v121_apply, v118_is h0 (B := B), v119_is h0 (B := B)]
  show Ideal.ofBits .f32 0xBF000000#32 * Ideal.div _ _ = _
  rw [bits_neg_half, Ideal.div_coe (under_pos _).ne', ← EReal.coe_mul, ← EReal.coe_mul]

theorem v124_is (i : S8320x8x128.Idx) : val_main_v124 (F := Ideal) x0 i = ((nrm (output A B (i 1) (i 0)) (i 2) : ℝ) : EReal) := by
  rw [val_main_v124_apply, val_main_v123_apply, v111_is h0 (B := B), v119_is h0 (B := B)]
  exact (EReal.coe_mul _ _).symm

theorem v126_is (i : S8320x1024.Idx) : val_main_v126 (F := Ideal) x0 i = ((nrm (output A B (hd (i 1)) (i 0)) (pl (i 1)) : ℝ) : EReal) :=
  (val_main_v126_apply (F := Ideal) x0 i).trans (flat_is (f := fun h t j => nrm (output A B h t) j) (v124_is h0) i)

omit h0 in
include h1 in
theorem v128_is (i : S8320x1024.Idx) : val_main_v128 (F := Ideal) x1 i = (((inputs A B).z (hd (i 1)) (i 0) (pl (i 1)) : ℝ) : EReal) :=
  (h1 i).trans (congrArg (fun b => ((B (i 0) b : ℝ) : EReal)) (Fin.ext (by
    show (i 1).val = 128 * ((i 1).val / 128) + (i 1).val % 128
    omega)))

include h1

theorem v130_is (i : S8320x1024.Idx) : val_main_v130 (F := Ideal) x0 x1 i
    = (((inputs A B).z (hd (i 1)) (i 0) (pl (i 1)) * nrm (output A B (hd (i 1)) (i 0)) (pl (i 1)) : ℝ) : EReal) := by
  rw [val_main_v130_apply, v128_is h1 (A := A), v126_is h0 (B := B)]
  exact (EReal.coe_mul _ _).symm

theorem v132_is (i : S8320x1024.Idx) : val_main_v132 (F := Ideal) x0 x1 i
    = (((problem A B).gradGate (hd (i 1)) (i 0) (pl (i 1)) : ℝ) : EReal) := by
  rw [val_main_v132_apply, val_main_call2_v1_apply, val_main_call2_v2_apply, val_main_call2_v0_apply, v130_is h0 h1, v125_2_is h0 (B := B),
    v125_1_is h0 (B := B), v5_is h0 (B := B)]
  show _ * _ + _ * _ * _ = _
  rw [← EReal.coe_mul, ← EReal.coe_mul, ← EReal.coe_mul, ← EReal.coe_add]
  refine congrArg (fun x : ℝ => (x : EReal)) ?_
  show _ = gateG (output A B (hd (i 1)) (i 0)) ((inputs A B).g (hd (i 1)) (i 0)) ((inputs A B).z (hd (i 1)) (i 0)) (pl (i 1))
  unfold gateG
  ring

theorem v131_is (i : S8320x8x128.Idx) : val_main_v131 (F := Ideal) x0 x1 i
    = ((nrmG ((inputs A B).g (i 1) (i 0)) ((inputs A B).z (i 1) (i 0)) (i 2) : ℝ) : EReal) :=
  (val_main_v131_apply (F := Ideal) x0 x1 i).trans (heads_is (f := fun h t j => nrmG ((inputs A B).g h t) ((inputs A B).z h t) j)
    (fun i => by
      rw [val_main_v129_apply, v125_0_is h0 (B := B), v128_is h1 (A := A)]
      exact (EReal.coe_mul _ _).symm.trans (congrArg (fun x : ℝ => (x : EReal)) (mul_comm _ _))) i)

theorem v135_is (i : S8320x8x1.Idx) : val_main_v135 (F := Ideal) x0 x1 i
    = ((∑ k, output A B (i 1) (i 0) k * nrmG ((inputs A B).g (i 1) (i 0)) ((inputs A B).z (i 1) (i 0)) k : ℝ) : EReal) := by
  have e : idx_main_v135 i = (ValueIdx.ix2 (i 0) (i 1) : S8320x8.Idx) := by
    have h0 : (i 0).val < 8320 := (i 0).isLt
    have h1 : (i 1).val < 8 := (i 1).isLt
    have h2 : (i 2).val < 1 := (i 2).isLt
    funext a
    apply Fin.ext
    match a with
    | ⟨0, _⟩ => show (((i 0).val * 8 + (i 1).val) * 1 + (i 2).val) / 8 = (i 0).val; omega
    | ⟨1, _⟩ => show (((i 0).val * 8 + (i 1).val) * 1 + (i 2).val) % 8 = (i 1).val; omega
  rw [val_main_v135_apply, e, val_main_v134_apply]
  rw [sum_is (g := fun k => output A B (i 1) (i 0) k * nrmG ((inputs A B).g (i 1) (i 0)) ((inputs A B).z (i 1) (i 0)) k) (fun k => by
    rw [val_main_v133_apply, v111_is h0 (B := B), v131_is h0 h1]; exact (EReal.coe_mul _ _).symm)]
  show Ideal.ofBits .f32 0x00000000#32 + _ = _
  rw [bits_zero, ← EReal.coe_add, zero_add]

theorem v142_is (i : S8320x8x128.Idx) : val_main_v142 (F := Ideal) x0 x1 i
    = (((∑ k, output A B (i 1) (i 0) k * nrmG ((inputs A B).g (i 1) (i 0)) ((inputs A B).z (i 1) (i 0)) k)
        * (-(1 / 2) * (nf (output A B (i 1) (i 0)) * (1 / under (output A B (i 1) (i 0))))) * (1 / 128) : ℝ) : EReal) := by
  rw [val_main_v142_apply, val_main_v141_apply]
  rw [sum_is (g := fun _ => (∑ k, output A B (i 1) (i 0) k * nrmG ((inputs A B).g (i 1) (i 0)) ((inputs A B).z (i 1) (i 0)) k)
        * (-(1 / 2) * (nf (output A B (i 1) (i 0)) * (1 / under (output A B (i 1) (i 0))))) * (1 / 128)) (fun k => by
    rw [val_main_v140_apply, val_main_v138_apply, val_main_v139_apply, v135_is h0 h1, v122_is h0 (B := B)]
    show Ideal.div (_ * _) (Ideal.ofBits .f32 0x43000000#32) = _
    rw [bits_128, Ideal.div_coe (by norm_num), ← EReal.coe_mul, ← EReal.coe_mul]
    rfl)]
  show Ideal.ofBits .f32 0x00000000#32 + _ = _
  rw [bits_zero, ← EReal.coe_add, zero_add, Fin.sum_univ_one]

theorem v146_is (i : S8320x8x128.Idx) : val_main_v146 (F := Ideal) x0 x1 i = (((problem A B).Y (i 1) (i 0) (i 2) : ℝ) : EReal) := by
  rw [val_main_v146_apply, val_main_v144_apply, val_main_v145_apply, val_main_v137_apply, val_main_v143_apply, val_main_v136_apply,
    v142_is h0 h1, v131_is h0 h1, v111_is h0 (B := B), v119_is h0 (B := B)]
  show _ * _ + _ * _ + _ * _ = _
  rw [← EReal.coe_mul, ← EReal.coe_mul, ← EReal.coe_mul, ← EReal.coe_add, ← EReal.coe_add]
  exact congrArg (fun x : ℝ => (x : EReal)) (outG_chain _ _ _ _)

/-! ### The retention -/

theorem v147_is (i : S8x128x8320.Idx) : val_main_v147 (F := Ideal) x0 x1 i = (((problem A B).Y (i 0) (i 2) (i 1) : ℝ) : EReal) :=
  (val_main_v147_apply (F := Ideal) x0 x1 i).trans (v146_is h0 h1 _)

theorem v151_is (i : S8x8320x8320.Idx) : val_main_v151 (F := Ideal) x0 x1 i
    = (((∑ e, (problem A B).Y (i 0) (i 1) e * (problem A B).v (i 0) (i 2) e) * decay (logG (i 0)) (i 1) (i 2) : ℝ) : EReal) := by
  rw [val_main_v151_apply, val_main_v148_apply, v107_is, dot_is (fun k => v147_is h0 h1 _) (fun k => v81_is h0 (B := B) _)]
  exact (EReal.coe_mul _ _).symm

theorem v150_is (i : S8320x8x128.Idx) : val_main_v150 (F := Ideal) x0 x1 i = (((problem A B).gradV (i 1) (i 0) (i 2) : ℝ) : EReal) := by
  rw [val_main_v150_apply, val_main_v149_apply, dot_is (fun k => v147_is h0 h1 _) (fun k => v109_is h0 (B := B) _)]
  rfl

theorem v153_is (i : S8320x8x128.Idx) : val_main_v153 (F := Ideal) x0 x1 i
    = ((∑ t, ((∑ e, (problem A B).Y (i 1) t e * (problem A B).v (i 1) (i 0) e) * decay (logG (i 1)) t (i 0)) * (problem A B).Q (i 1) t (i 2) : ℝ) : EReal) := by
  rw [val_main_v153_apply, val_main_v152_apply, dot_is (fun k => v151_is h0 h1 _) (fun k => v44_is h0 (B := B) _)]
  rfl

theorem v155_is (i : S8320x8x128.Idx) : val_main_v155 (F := Ideal) x0 x1 i
    = ((∑ s, ((∑ e, (problem A B).Y (i 1) (i 0) e * (problem A B).v (i 1) s e) * decay (logG (i 1)) (i 0) s) * (problem A B).K (i 1) s (i 2) : ℝ) : EReal) := by
  rw [val_main_v155_apply, val_main_v154_apply, dot_is (fun k => v151_is h0 h1 _) (fun k => v80_is h0 (B := B) _)]
  rfl

theorem v158_is (i : S8320x8x128.Idx) : val_main_v158 (F := Ideal) x0 x1 i
    = (((∑ t, ((∑ e, (problem A B).Y (i 1) t e * (problem A B).v (i 1) (i 0) e) * decay (logG (i 1)) t (i 0)) * (problem A B).Q (i 1) t (i 2)) * scale : ℝ) : EReal) := by
  rw [val_main_v158_apply, val_main_v157_apply, v153_is h0 h1]
  show _ * Ideal.ofBits .f32 0x3DB504F3#32 = _
  rw [bits_scale]
  exact (EReal.coe_mul _ _).symm

omit h0 h1 in
/-- The rotation backwards of a scaled row is the scaled row rotated backwards. -/
theorem rotB_scale (x cs sn : Fin 128 → ℝ) (j : Fin 128) : rotB (fun d => x d * scale) cs sn j = rotB x cs sn j * scale := by
  unfold rotB; ring

theorem v174_is (i : S8320x8x128.Idx) : val_main_v174 (F := Ideal) x0 x1 i = (((problem A B).gradK (i 1) (i 0) (i 2) : ℝ) : EReal) := by
  refine (pads_is (f := fun s h d => rotB (fun d => (∑ t, ((∑ e, (problem A B).Y h t e * (problem A B).v h s e) * decay (logG h) t s) * (problem A B).Q h t d) * scale)
    (cosT s) (sinT s) d) (fun _ => bits_zero) (fun _ => bits_zero) (fun i => ?_) (fun i => ?_) i).trans
    (congrArg (fun x : ℝ => (x : EReal)) (rotB_scale _ _ _ _))
  · rw [val_main_v168_apply, val_main_v164_apply, val_main_v167_apply, val_main_v165_apply, val_main_v159_apply, val_main_v160_apply,
      val_main_v163_apply, val_main_v166_apply, v158_is h0 h1, v158_is h0 h1, v63_is, v65_is]
    refine Eq.trans ?_ (congrArg (fun x : ℝ => (x : EReal)) (rotB_hi _ (i 0) (i 2)).symm)
    push_cast
    rfl
  · rw [val_main_v171_apply, val_main_v162_apply, val_main_v170_apply, val_main_v159_apply, val_main_v160_apply,
      val_main_v161_apply, val_main_v169_apply, v158_is h0 h1, v158_is h0 h1, v63_is, v65_is]
    refine Eq.trans ?_ (congrArg (fun x : ℝ => (x : EReal)) (rotB_lo _ (i 0) (i 2)).symm)
    push_cast
    rfl

theorem v191_is (i : S8320x8x128.Idx) : val_main_v191 (F := Ideal) x0 x1 i = (((problem A B).gradQ (i 1) (i 0) (i 2) : ℝ) : EReal) := by
  refine pads_is (f := fun t h d => (problem A B).gradQ h t d) (fun _ => bits_zero) (fun _ => bits_zero) (fun i => ?_) (fun i => ?_) i
  · rw [val_main_v185_apply, val_main_v181_apply, val_main_v184_apply, val_main_v182_apply, val_main_v176_apply, val_main_v177_apply,
      val_main_v180_apply, val_main_v183_apply, v155_is h0 h1, v155_is h0 h1, v29_is, v31_is]
    refine Eq.trans ?_ (congrArg (fun x : ℝ => (x : EReal)) (rotB_hi _ (i 0) (i 2)).symm)
    push_cast
    rfl
  · rw [val_main_v188_apply, val_main_v179_apply, val_main_v187_apply, val_main_v176_apply, val_main_v177_apply,
      val_main_v178_apply, val_main_v186_apply, v155_is h0 h1, v155_is h0 h1, v29_is, v31_is]
    refine Eq.trans ?_ (congrArg (fun x : ℝ => (x : EReal)) (rotB_lo _ (i 0) (i 2)).symm)
    push_cast
    rfl

/-! ### The flat results -/

theorem v193_is (i : S8320x1024.Idx) : val_main_v193 (F := Ideal) x0 x1 i = (((problem A B).result (hd (i 1)) 0 (i 0) (pl (i 1)) : ℝ) : EReal) :=
  (val_main_v192_apply (F := Ideal) x0 x1 i).trans (flat_is (f := (problem A B).gradQ) (v191_is h0 h1) i)
theorem v194_is (i : S8320x1024.Idx) : val_main_v194 (F := Ideal) x0 x1 i = (((problem A B).result (hd (i 1)) 1 (i 0) (pl (i 1)) : ℝ) : EReal) :=
  (val_main_v175_apply (F := Ideal) x0 x1 i).trans (flat_is (f := (problem A B).gradK) (v174_is h0 h1) i)
theorem v195_is (i : S8320x1024.Idx) : val_main_v195 (F := Ideal) x0 x1 i = (((problem A B).result (hd (i 1)) 2 (i 0) (pl (i 1)) : ℝ) : EReal) :=
  (val_main_v156_apply (F := Ideal) x0 x1 i).trans (flat_is (f := (problem A B).gradV) (v150_is h0 h1) i)
theorem v196_is (i : S8320x1024.Idx) : val_main_v196 (F := Ideal) x0 x1 i = (((problem A B).result (hd (i 1)) 3 (i 0) (pl (i 1)) : ℝ) : EReal) :=
  v132_is h0 h1 i

/-- The reference's result in the columns of the four gradients. -/
theorem result_is (x2 : FVec Ideal S8320x8192 .bf16) (t : Fin 8320) (p : Fin 4) (h : Fin 8) (j : Fin 128) :
    val_main_v198 (F := Ideal) x0 x1 x2 (ValueIdx.ix2 t (wide p h j)) = (((problem A B).result h p t j : ℝ) : EReal) := by
  have key : ∀ x : FVec Ideal S8320x1024 .bf16, (∀ i, x i = (((problem A B).result (hd (i 1)) p (i 0) (pl (i 1)) : ℝ) : EReal)) →
      x (ValueIdx.ix2 t (lane h j)) = (((problem A B).result h p t j : ℝ) : EReal) := fun x hx => by
    rw [hx]
    exact congrArg₂ (fun a b => (((problem A B).result a p t b : ℝ) : EReal)) (hd_lane h j) (pl_lane h j)
  have hl : ∀ b : Fin 2, b ≠ 1 → ((ValueIdx.ix2 t (lane h j) : S8320x1024.Idx) b).val = ((ValueIdx.ix2 t (wide p h j) : S8320x8192.Idx) b).val :=
    fun b hb => match b with
      | ⟨0, _⟩ => rfl
      | ⟨1, _⟩ => absurd rfl hb
  unfold val_main_v198
  match p with
  | 0 => exact (concatenate_apply_piece (t := S8320x8192) 1 _ _ (ValueIdx.ix2 t (wide 0 h j)) 0 (by show 0 < 5; decide) S8320x1024 (val_main_v193 (F := Ideal) x0 x1) rfl rfl 0 rfl
      (ValueIdx.ix2 t (lane h j)) hl (by show 0 + (128 * h.val + j.val) = 1024 * 0 + 128 * h.val + j.val; omega)).trans (key _ (v193_is h0 h1))
  | 1 => exact (concatenate_apply_piece (t := S8320x8192) 1 _ _ (ValueIdx.ix2 t (wide 1 h j)) 1 (by show 1 < 5; decide) S8320x1024 (val_main_v194 (F := Ideal) x0 x1) rfl rfl 1024 rfl
      (ValueIdx.ix2 t (lane h j)) hl (by show 1024 + (128 * h.val + j.val) = 1024 * 1 + 128 * h.val + j.val; omega)).trans (key _ (v194_is h0 h1))
  | 2 => exact (concatenate_apply_piece (t := S8320x8192) 1 _ _ (ValueIdx.ix2 t (wide 2 h j)) 2 (by show 2 < 5; decide) S8320x1024 (val_main_v195 (F := Ideal) x0 x1) rfl rfl 2048 rfl
      (ValueIdx.ix2 t (lane h j)) hl (by show 2048 + (128 * h.val + j.val) = 1024 * 2 + 128 * h.val + j.val; omega)).trans (key _ (v195_is h0 h1))
  | 3 => exact (concatenate_apply_piece (t := S8320x8192) 1 _ _ (ValueIdx.ix2 t (wide 3 h j)) 3 (by show 3 < 5; decide) S8320x1024 (val_main_v196 (F := Ideal) x0 x1) rfl rfl 3072 rfl
      (ValueIdx.ix2 t (lane h j)) hl (by show 3072 + (128 * h.val + j.val) = 1024 * 3 + 128 * h.val + j.val; omega)).trans (key _ (v196_is h0 h1))

end Backward

/-- The reference's result in the other columns. -/
theorem rest_is (x0 x2 : FVec Ideal S8320x8192 .bf16) (x1 : FVec Ideal S8320x1024 .bf16) (t : Fin 8320) (b : Fin 8192) (hb : 4096 ≤ b.val) :
    val_main_v198 (F := Ideal) x0 x1 x2 (ValueIdx.ix2 t b) = x2 (ValueIdx.ix2 t b) := by
  unfold val_main_v198
  refine (concatenate_apply_piece (t := S8320x8192) 1 _ _ (ValueIdx.ix2 t b) 4 (by show 4 < 5; decide) S8320x4096 (val_main_v197 (F := Ideal) x2) rfl rfl 4096 rfl
    (ValueIdx.ix2 t (⟨b.val - 4096, by omega⟩ : Fin 4096)) (fun c hc => match c with
      | ⟨0, _⟩ => rfl
      | ⟨1, _⟩ => absurd rfl hc) (by show 4096 + (b.val - 4096) = b.val; omega)).trans ?_
  refine (val_main_v197_apply (F := Ideal) x2 _).trans (congrArg x2 (funext fun a => Fin.ext ?_))
  match a with
  | ⟨0, _⟩ => rfl
  | ⟨1, _⟩ => show 4096 + (b.val - 4096) = b.val; omega

end Cert.ReferenceIdeal.Real
-- ==== Proof.Final.lean ====
/- The kernel's result is the reference's: the blocks of each grid step hold the chunks of the problem's matrices, so the
   stored gradients are the problem's, index by index; and the precondition makes every entry a real number. -/
module

public import proofs.«01_k».proof.Defs
public import proofs.«01_k».proof.Proof.Entry
public import proofs.«01_k».proof.Proof.RefBackward
public import Idealize.ShloMosaic.Lib.ReduceAll

@[expose] public section

set_option maxRecDepth 16384

noncomputable section

namespace Cert.Pre_finite

open Idealize.ShloMosaic

/-- The side conditions of the precondition's operations. -/
theorem facts : Facts where
  bitsLt_bf16_f32 := by decide
  bcast_S_S8320x8192 := by decide
  reducesTo_S8320x8192_S_d0_1 := by decide
  h_S_ := by decide
  bcast_S_S8320x1024 := by decide
  reducesTo_S8320x1024_S_d0_1 := by decide

instance : Subsingleton S_.Idx := ⟨fun a b => funext fun i => i.elim0⟩

theorem top_bits : Ideal.ofBits .f32 0x7F800000#32 = ⊤ := by
  simp only [Ideal.ofBits, Ideal.ieee]
  rw [if_pos (by decide), if_pos (by decide), if_neg (by decide)]

/-- An element whose absolute value is less than infinity is a real number. -/
theorem real_of_lt {x : EReal} (h : Ideal.cmp .olt (max x (-x)) (Ideal.ofBits .f32 0x7F800000#32) = 1#1) : x = ((x.toReal : ℝ) : EReal) := by
  rw [top_bits] at h
  have h' : max x (-x) < ⊤ := by
    by_contra hc
    simp [Ideal.cmp, hc] at h
  refine (EReal.coe_toReal ?_ ?_).symm
  · rintro rfl
    simp at h'
  · rintro rfl
    simp at h'

attribute [local instance] facts in
/-- Under the precondition every entry of the two inputs is a real number. -/
theorem real_of_finite {a0 : FVec Ideal S8320x8192 .bf16} {a1 : FVec Ideal S8320x1024 .bf16} {a2 : FVec Ideal S8320x8192 .bf16}
    (h : fn a0 a1 a2 = fun _ => 1#1) :
    (∀ i, a0 i = (((a0 i).toReal : ℝ) : EReal)) ∧ (∀ i, a1 i = (((a1 i).toReal : ℝ) : EReal)) := by
  have andi_one (a b : BitVec 1) : IntOp.andi a b = 1#1 ↔ a = 1#1 ∧ b = 1#1 := by revert a b; decide
  have e := congrFun h (fun a => a.elim0)
  unfold fn at e
  obtain ⟨e0, e1⟩ := (andi_one _ _).mp e
  exact ⟨fun i => real_of_lt (Host.reduce_andi_all _ _ _ _ _ e0 i), fun i => real_of_lt (Host.reduce_andi_all _ _ _ _ _ e1 i)⟩

end Cert.Pre_finite

namespace Cert.KernelIdeal.Step

open Cert.KernelIdeal Cert.KernelIdeal.Gen Idealize.ShloMosaic Idealize.ShloMosaic.TcCoe Idealize.SL.Sem
open Cert.ReferenceIdeal.Read Cert.ReferenceIdeal.Real Retention

/-! ### The tables of the rotation -/

theorem low_or_high (j : Fin 128) : (∃ i, j = lo i) ∨ ∃ i, j = hi i := by
  by_cases h : j.val < 64
  · exact Or.inl ⟨⟨j.val, h⟩, rfl⟩
  · exact Or.inr ⟨⟨j.val - 64, by omega⟩, Fin.ext (by show j.val = 64 + (j.val - 64); omega)⟩

/-- Two halves side by side. -/
theorem halves_is {a b : FVec Ideal S8320x64 .f32} {f : Fin 8320 → Fin 128 → ℝ}
    (ha : ∀ t i, a (ValueIdx.ix2 t i) = ((f t (lo i) : ℝ) : EReal)) (hb : ∀ t i, b (ValueIdx.ix2 t i) = ((f t (hi i) : ℝ) : EReal))
    (t : Fin 8320) (j : Fin 128) :
    concatenate S8320x128 1 [⟨S8320x64, a⟩, ⟨S8320x64, b⟩] concatenates_S8320x64_S8320x64_S8320x128_d1 (ValueIdx.ix2 t j) = ((f t j : ℝ) : EReal) := by
  obtain ⟨i, rfl⟩ | ⟨i, rfl⟩ := low_or_high j
  · exact (concatenate_apply_piece (t := S8320x128) 1 _ _ (ValueIdx.ix2 t (lo i)) 0 (by show 0 < 2; decide) S8320x64 a rfl rfl 0 rfl
      (ValueIdx.ix2 t i) (fun c hc => match c with
        | ⟨0, _⟩ => rfl
        | ⟨1, _⟩ => absurd rfl hc) (by show 0 + i.val = i.val; omega)).trans (ha t i)
  · exact (concatenate_apply_piece (t := S8320x128) 1 _ _ (ValueIdx.ix2 t (hi i)) 1 (by show 1 < 2; decide) S8320x64 b rfl rfl 64 rfl
      (ValueIdx.ix2 t i) (fun c hc => match c with
        | ⟨0, _⟩ => rfl
        | ⟨1, _⟩ => absurd rfl hc) rfl).trans (hb t i)

/-- Every token is one of a chunk of a step. -/
theorem token_cases (t : Fin 8320) : ∃ (s : Fin cfg0.N) (cc : Fin 5) (i : Fin 128), t = tok (chunk s cc) i := by
  have ht := t.isLt
  have hN : cfg0.N = 13 := N_0
  refine ⟨⟨12 - t.val / 640, by omega⟩, ⟨t.val / 128 % 5, by omega⟩, ⟨t.val % 128, by omega⟩, Fin.ext ?_⟩
  show t.val = 128 * (5 * (12 - (12 - t.val / 640)) + t.val / 128 % 5) + t.val % 128
  omega

/-- Every column of the first four thousand and ninety-six is one of a head of a gradient. -/
theorem column_cases (b : Fin 8192) (hb : b.val < 4096) : ∃ (p : Fin 4) (h : Fin 8) (j : Fin 128), b = wide p h j := by
  refine ⟨⟨b.val / 1024, by omega⟩, ⟨b.val / 128 % 8, by omega⟩, ⟨b.val % 128, by omega⟩, Fin.ext ?_⟩
  show b.val = 1024 * (b.val / 1024) + 128 * (b.val / 128 % 8) + b.val % 128
  omega

section Run

variable (m : (ℓ : Loc nD τ sig) → Buf (Elt Ideal) ℓ) (c : Dev nD)
  {A : Fin 8320 → Fin 8192 → ℝ} {B : Fin 8320 → Fin 1024 → ℝ}
  (h0 : ∀ i : S8320x8192.Idx, (m (c, main_arg0) : FVec Ideal S8320x8192 .bf16) i = ((A (i 0) (i 1) : ℝ) : EReal))
  (h1 : ∀ i : S8320x1024.Idx, (m (c, main_arg1) : FVec Ideal S8320x1024 .bf16) i = ((B (i 0) (i 1) : ℝ) : EReal))

theorem cos_is (t : Fin 8320) (j : Fin 128) : V m c main_v23 (ValueIdx.ix2 t j) = ((cosT t j : ℝ) : EReal) := by
  rw [entry_cos]
  exact halves_is (fun t i => (v28_is _).trans (congrArg (fun x : ℝ => (x : EReal)) (cos_lo t i).symm))
    (fun t i => (v28_is _).trans (congrArg (fun x : ℝ => (x : EReal)) (cos_hi t i).symm)) t j

theorem sin_is (t : Fin 8320) (j : Fin 128) : V m c main_v25 (ValueIdx.ix2 t j) = ((sinT t j : ℝ) : EReal) := by
  rw [entry_sin]
  refine halves_is (fun t i => ?_) (fun t i => (v30_is _).trans (congrArg (fun x : ℝ => (x : EReal)) (sin_hi t i).symm)) t j
  refine (show _ = -val_main_v30 (F := Ideal) (ValueIdx.ix2 t i) from rfl).trans ?_
  rw [v30_is, sin_lo, EReal.coe_neg]

include h0

theorem saved_is (t : Fin 8320) (h : Fin 8) (j : Fin 128) : V m c main_v197 (ValueIdx.ix2 t (lane h j)) = ((output A B h t j : ℝ) : EReal) := by
  rw [entry_o]
  refine (shapeCast_apply (val_main_v111 (F := Ideal) (m (c, main_arg0))) shapeCasts_S8320x8x128_S8320x1024 (ValueIdx.ix2 t (lane h j)) (ValueIdx.ix3 t h j) (by
    rw [Shape.rowMajor_val_three, Shape.rowMajor_val_two]
    show (t.val * 8 + h.val) * 128 + j.val = t.val * 1024 + (128 * h.val + j.val)
    omega)).trans ?_
  exact v111_is h0 (B := B) _

theorem proj_is (t : Fin 8320) (b : Fin 8192) : V m c main_arg0 (ValueIdx.ix2 t b) = ((A t b : ℝ) : EReal) := by
  rw [V_main_arg0]
  exact h0 _

include h1

theorem dzr_is (t : Fin 8320) (b : Fin 1024) : V m c main_arg1 (ValueIdx.ix2 t b) = ((B t b : ℝ) : EReal) := by
  rw [V_main_arg1]
  exact h1 _

/-- The blocks of step `t` hold its five chunks of the problem's matrices. -/
theorem step_reads (t : Fin cfg0.N) : Reads (stepLoads m c t) (problem A B) (12 - t.val) (chunk t) where
  place := fun _ => rfl
  z := fun cc h i j => (z_apply m c t cc h i j).trans (dzr_is m c h0 h1 _ _)
  o := fun cc h i j => (o_apply m c t cc h i j).trans (saved_is m c h0 _ h j)
  q := fun cc h i j => (q_apply m c t cc h i j).trans (proj_is m c h0 _ _)
  k := fun cc h i j => (k_apply m c t cc h i j).trans (proj_is m c h0 _ _)
  v := fun cc h i j => (v_apply m c t cc h i j).trans (proj_is m c h0 _ _)
  g := fun cc h i j => (g_apply m c t cc h i j).trans (proj_is m c h0 _ _)
  st := fun cc h => mat_is fun i j => (st_apply m c t cc h i j).trans (by
    rw [entry_st]
    exact states_is h0 (B := B) (chunk t cc) h i j)
  cs := fun cc i j => (cs_apply m c t cc i j).trans (cos_is m c _ j)
  sn := fun cc i j => (sn_apply m c t cc i j).trans (sin_is m c _ j)
  intra := fun h => mat_is fun i j => (dec_apply m c t h i j 0).trans (by
    rw [entry_dec]
    exact (tables_apply h i j).1.trans (intraT_is h i j))
  qdec := fun h => mat_is fun i j => (dec_apply m c t h i j 1).trans (by
    rw [entry_dec]
    exact (tables_apply h i j).2.1.trans (factorT_is (f := fun i => (i.val : ℝ) + 1) ahead_is h i j))
  kdec := fun h => mat_is fun i j => (dec_apply m c t h i j 2).trans (by
    rw [entry_dec]
    exact (tables_apply h i j).2.2.1.trans (factorT_is (f := fun i => 127 - (i.val : ℝ)) behind_is h i j))
  cdec := fun h => mat_is fun i j => (dec_apply m c t h i j 3).trans (by
    rw [entry_dec]
    exact (tables_apply h i j).2.2.2.trans (chunkT_is h i j))

/-- The state gradient that enters step `n` is the one before the chunks of the steps before it. -/
theorem enters_is (h : Fin 8) : ∀ (n : ℕ) (hn : n < cfg0.N), Is (enters m c h n hn) ((problem A B).S h (5 * (12 - n) + 5))
  | 0, _ => zeroStart_is.congr fun i j => (dstate_last _ _ _ i j).symm
  | n + 1, hn => by
    have hN : cfg0.N = 13 := N_0
    have e : 5 * (12 - (n + 1)) + 5 = 5 * (12 - n) := by omega
    rw [e]
    exact stateAfter_is (step_reads m c h0 h1 ⟨n, by omega⟩) h (enters_is h n (by omega))

/-- What the kernel leaves in the columns of the four gradients. -/
theorem result_eq (t : Fin cfg0.N) (cc : Fin 5) (h : Fin 8) (i j : Fin 128) (p : Fin 4) :
    (dats m 0 c).arrAt 10 cfg0.N (ValueIdx.ix2 (tok (chunk t cc) i) (wide p h j))
      = (((problem A B).result h p (tok (chunk t cc) i) j : ℝ) : EReal) :=
  (final_apply m c t cc h i j p).trans
    (grad_is (step_reads m c h0 h1 t) h (E := fun h => enters m c h t.val t.isLt) (enters_is m c h0 h1 h t.val t.isLt) p cc i j)

/-- The kernel leaves what the reference computes. -/
theorem final_eq : ((dats m 0 c).arrAt 10 cfg0.N : FVec Ideal S8320x8192 .bf16)
    = val_main_v198 (F := Ideal) (m (c, main_arg0)) (m (c, main_arg1)) (m (c, main_arg2)) := by
  funext x
  obtain ⟨t, b, rfl⟩ : ∃ (t : Fin 8320) (b : Fin 8192), x = ValueIdx.ix2 t b := ⟨x 0, x 1, funext fun a => match a with
    | ⟨0, _⟩ => rfl
    | ⟨1, _⟩ => rfl⟩
  by_cases hb : b.val < 4096
  · obtain ⟨s, cc, i, rfl⟩ := token_cases t
    obtain ⟨p, h, j, rfl⟩ := column_cases b hb
    exact (result_eq m c h0 h1 s cc h i j p).trans (result_is h0 h1 _ _ p h j).symm
  · refine (final_rest m c t b (by omega)).trans (Eq.trans ?_ (rest_is _ _ _ t b (by omega)).symm)
    rw [entry_dproj]

end Run

end Cert.KernelIdeal.Step
-- ==== Proof.BlockSum.lean ====
/- Sums taken in blocks: five blocks of 1664 rows added one after the other are the sum over 8320 rows. -/
module

public import Mathlib.Algebra.BigOperators.Fin
public import Mathlib.Algebra.BigOperators.Intervals

@[expose] public section

namespace BlockSum

open Finset

variable {M : Type} [AddCommMonoid M]

/-- A sum over `n` blocks of `b` terms is the sum over all the terms. -/
theorem sum_blocks (b : ℕ) (f : ℕ → M) : ∀ n : ℕ, ∑ i ∈ range n, ∑ x : Fin b, f (b * i + x.val) = ∑ k ∈ range (b * n), f k
  | 0 => by simp
  | n + 1 => by
    rw [sum_range_succ, sum_blocks b f n, Fin.sum_univ_eq_sum_range (fun x => f (b * n + x)) b, Nat.mul_succ, sum_range_add]

/-- An accumulator that is set at the first of five points and added to at the four others holds the blocks up to its point. -/
theorem running {N : ℕ} (S : (n : ℕ) → n < N → M) (f : ℕ → ℕ → M)
    (h0 : ∀ n (hn : n < N), n % 5 = 0 → S n hn = ∑ x : Fin 1664, f (n / 5) (1664 * (n % 5) + x.val))
    (h1 : ∀ n (hn : n < N), ¬n % 5 = 0 → S n hn = S (n - 1) (by omega) + ∑ x : Fin 1664, f (n / 5) (1664 * (n % 5) + x.val)) (q : ℕ) :
    ∀ r (_ : r < 5) (h : 5 * q + r < N), S (5 * q + r) h = ∑ i ∈ range (r + 1), ∑ x : Fin 1664, f q (1664 * i + x.val)
  | 0, _, h => by
    rw [h0 _ h (by omega), sum_range_one, show (5 * q + 0) / 5 = q by omega, show (5 * q + 0) % 5 = 0 by omega]
  | r + 1, hr, h => by
    have e := h1 (5 * q + (r + 1)) h (by omega)
    rw [show (5 * q + (r + 1)) / 5 = q by omega, show (5 * q + (r + 1)) % 5 = r + 1 by omega] at e
    rw [e, sum_range_succ]
    congr 1
    exact running S f h0 h1 q r (by omega) (by omega)

/-- At the last of the five points it holds the whole sum. -/
theorem total {N : ℕ} (S : (n : ℕ) → n < N → M) (f : ℕ → ℕ → M)
    (h0 : ∀ n (hn : n < N), n % 5 = 0 → S n hn = ∑ x : Fin 1664, f (n / 5) (1664 * (n % 5) + x.val))
    (h1 : ∀ n (hn : n < N), ¬n % 5 = 0 → S n hn = S (n - 1) (by omega) + ∑ x : Fin 1664, f (n / 5) (1664 * (n % 5) + x.val)) (q : ℕ)
    (h : 5 * q + 4 < N) : S (5 * q + 4) h = ∑ k : Fin 8320, f q k.val := by
  rw [running S f h0 h1 q 4 (by omega) h, sum_blocks, Fin.sum_univ_eq_sum_range (fun k => f q k) 8320]

end BlockSum
-- ==== Proof.OutGrad.lean ====
/- The weight gradient of the mixer's output matrix: the blocked product against the product. -/
module

public import proofs.«01_k».proof.Defs
public import proofs.«01_k».proof.Proof.BlockSum
public import proofs.«01_k».proof.Proof.Gen.WOutIdeal.Value
public import proofs.«01_k».proof.Proof.Gen.WOutReferenceIdeal.Read
public import Idealize.ShloMosaic.Adequacy
public import Idealize.ShloMosaic.Init
public import Idealize.ShloMosaic.Lib.ValueIdx
public import Idealize.ShloMosaic.Lib.Pointwise
public import Idealize.ShloMosaic.Lib.Tactic
public import Idealize.ShloMosaic.Lib.Pipeline.Value
public import Idealize.ShloMosaic.PureOps.Ideal.Laws

@[expose] public section

set_option maxRecDepth 16384

noncomputable section

namespace Cert.WOutIdeal.Product

open Cert.WOutIdeal Cert.WOutIdeal.Gen Idealize.ShloMosaic.TcCoe Idealize.SL.Sem
open Idealize.ShloMosaic hiding ix2 ix4
open Idealize.ShloMosaic.ValueIdx (ix2 ix4)
open Cert.WOutReferenceIdeal.Read

theorem zero2 : (![0, 0] : Fin 2 → ℕ) = fun _ => 0 := funext fun a => match a with
  | ⟨0, _⟩ => rfl
  | ⟨1, _⟩ => rfl
theorem zero4 : (![0, 0, 0, 0] : Fin 4 → ℕ) = fun _ => 0 := funext fun a => match a with
  | ⟨0, _⟩ => rfl
  | ⟨1, _⟩ => rfl
  | ⟨2, _⟩ => rfl
  | ⟨3, _⟩ => rfl

section Cases

variable (c : Dev nD) (i : grid0.Coords) (arg3 : Memref sig .tc .vmem S1664x1024 .bf16) (harg3 : arg3.IsWhole)
  (arg4 : Memref sig .tc .vmem S1664x1024 .f32) (harg4 : arg4.IsWhole) (arg5 : Memref sig .tc .vmem S1x1x1024x1024 .bf16)
  (harg5 : arg5.IsWhole) (arg6 : Memref sig .tc .vmem S1024x1024 .f32) (harg6 : arg6.IsWhole) (x0 : Vec Ideal S1664x1024 .bf16)
  (x1 : Vec Ideal S1664x1024 .f32) (xs : Vec Ideal S1024x1024 .f32)

theorem first (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero zero2, View.readCov_unit_zero _ zero2]
  simp only [View.readAt_eq_ld, harg3.read_unread, harg4.read_unread, View.ld_unit_zero (S := S1664x1024) zero2]

theorem middle (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero zero2]
  simp only [View.readAt_eq_ld, harg3.read_unread, harg4.read_unread, harg6.read_unread, View.ld_unit_zero (S := S1664x1024) zero2, View.ld_unit_zero (S := S1024x1024) zero2]

theorem last (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero zero2]
  simp only [View.readAt_eq_ld, harg3.read_unread, harg4.read_unread, harg6.read_unread, View.ld_unit_zero (S := S1664x1024) zero2, View.ld_unit_zero (S := S1024x1024) zero2]

theorem written (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero zero4, View.readCov_unit_zero _ zero2]
  simp only [View.readAt_eq_ld, harg3.read_unread, harg4.read_unread, harg6.read_unread, View.ld_unit_zero (S := S1664x1024) zero2, View.ld_unit_zero (S := S1024x1024) zero2]

end Cases

/-- What a point adds to the accumulator: the product over its rows. -/
theorem added (xs : Vec Ideal S1024x1024 .f32) (a : Vec Ideal S1664x1024 .bf16) (b : Vec Ideal S1664x1024 .f32) (r : Fin 1024) (s : Fin 1024) :
    k0_pay2 xs a b (ix2 r s) = xs (ix2 r s) + ∑ k : Fin 1664, a (ix2 k r) * b (ix2 k s) := by
  unfold k0_pay2
  rw [shapeCast_self]
  refine congrArg (fun y : EReal => xs (ix2 r s) + y) ?_
  refine (Ideal.matmul_apply₁_of dot_S1664x1024_S1664x1024_S1024x1024_0_0_1_1_n_n (a := 0) rfl (K := 1664) rfl a _ _ (ix2 r s)
    (fun k => ix2 k r) (fun k => ix2 k s) ?_ ?_).trans ?_
  · intro k; funext d; match d with
    | ⟨0, _⟩ => rfl
    | ⟨1, _⟩ => rfl
  · intro k; funext d; match d with
    | ⟨0, _⟩ => rfl
    | ⟨1, _⟩ => rfl
  rw [show constant (F := Ideal) S1024x1024 .f32 0x00000000#32 (ix2 r s) = 0 from Ideal.ofBits_zero_f32, zero_add]
  rfl

theorem from_zero (r : Fin 1024) (s : Fin 1024) : (k0_pay1 (F := Ideal)) (ix2 r s) = 0 := by
  unfold k0_pay1
  rw [shapeCast_self]
  exact Ideal.ofBits_zero_f32

theorem stored (x : Vec Ideal S1024x1024 .f32) (r : Fin 1024) (s : Fin 1024) : k0_pay3 x (ix4 (0 : Fin 1) (0 : Fin 1) r s) = x (ix2 r s) := by
  unfold k0_pay3
  refine (shapeCast_apply _ _ _ (ix2 r s) ?_).trans rfl
  rw [Shape.rowMajor_val_four, Shape.rowMajor_val_two]
  show r.val * 1024 + s.val = ((0 * 1 + 0) * 1024 + r.val) * 1024 + s.val
  omega

variable (m : (ℓ : Loc nD τ sig) → Buf (Elt Ideal) ℓ) (c : Dev nD)

theorem places : ∀ t : Fin cfg0.N, (win0_0.index t (0 : Fin 2) = t.val % 5 ∧ win0_0.index t (1 : Fin 2) = t.val / 5) ∧
    (win0_1.index t (0 : Fin 2) = t.val % 5 ∧ win0_1.index t (1 : Fin 2) = 0) :=
  (by decide +kernel : ∀ t : Fin grid0.N, _)

/-- The two matrices. -/
abbrev left : FVec Ideal S8320x1024 .bf16 := m (c, main_arg0)
abbrev right : FVec Ideal S8320x1024 .f32 := m (c, main_arg1)

/-- The blocks of a point. -/
abbrev leftBlock (t : Fin cfg0.N) : FVec Ideal S1664x1024 .bf16 := iblk m c 0 t
abbrev rightBlock (t : Fin cfg0.N) : FVec Ideal S1664x1024 .f32 := iblk m c 1 t

/-- The term of row `k`, in the product's entry at row `r` of group `q` and column `s`. -/
def term (r : Fin 1024) (s : Fin 1024) (q k : ℕ) : EReal :=
  if h : k < 8320 ∧ 1024 * q + r.val < 1024 then
    left m c (ix2 (⟨k, h.1⟩ : Fin 8320) (⟨1024 * q + r.val, h.2⟩ : Fin 1024)) * right m c (ix2 (⟨k, h.1⟩ : Fin 8320) s)
  else 0

theorem block_sum (t : Fin cfg0.N) (r : Fin 1024) (s : Fin 1024) :
    (∑ k : Fin 1664, leftBlock m c t (ix2 k r) * rightBlock m c t (ix2 k s))
      = ∑ k : Fin 1664, term m c r s (t.val / 5) (1664 * (t.val % 5) + k.val) := by
  have hN : t.val < 5 := lt_of_lt_of_eq t.isLt N_0
  obtain ⟨⟨e0, e1⟩, e2, e3⟩ := places t
  refine Finset.sum_congr rfl fun k _ => ?_
  have hk := k.isLt
  have hr := r.isLt
  have hrow : 1664 * (t.val % 5) + k.val < 8320 := by omega
  unfold term
  rw [dif_pos (⟨hrow, by omega⟩ : 1664 * (t.val % 5) + k.val < 8320 ∧ 1024 * (t.val / 5) + r.val < 1024)]
  have ha : leftBlock m c t (ix2 k r) = left m c (ix2 (⟨_, hrow⟩ : Fin 8320) (⟨1024 * (t.val / 5) + r.val, by omega⟩ : Fin 1024)) := by
    refine congrArg (left m c) (funext fun a => Fin.ext ?_)
    match a with
    | ⟨0, _⟩ => show win0_0.index t (0 : Fin 2) * 1664 + 1 * k.val = 1664 * (t.val % 5) + k.val; omega
    | ⟨1, _⟩ => show win0_0.index t (1 : Fin 2) * 1024 + 1 * r.val = 1024 * (t.val / 5) + r.val; omega
  have hb : rightBlock m c t (ix2 k s) = right m c (ix2 (⟨_, hrow⟩ : Fin 8320) s) := by
    refine congrArg (right m c) (funext fun a => Fin.ext ?_)
    match a with
    | ⟨0, _⟩ => show win0_1.index t (0 : Fin 2) * 1664 + 1 * k.val = 1664 * (t.val % 5) + k.val; omega
    | ⟨1, _⟩ => show win0_1.index t (1 : Fin 2) * 1024 + 1 * s.val = s.val; omega
  rw [ha, hb]

/-- The accumulator at the last point of group `q`: the whole product. -/
theorem accumulated (r : Fin 1024) (s : Fin 1024) (q : ℕ) (h : 5 * q + 4 < cfg0.N) :
    (outsAt0 m c (5 * q + 4) h).2 (ix2 r s) = ∑ k : Fin 8320, term m c r s q k.val := by
  refine BlockSum.total (fun n hn => (outsAt0 m c n hn).2 (ix2 r s)) (term m c r s) (fun n hn h0 => ?_) (fun n hn h0 => ?_) q h
  · show (outsAt0 m c n hn).2 (ix2 r s) = _
    rw [outsAt0_A m c ⟨n, hn⟩ h0 (by show ¬n % 5 = 4; omega)]
    dsimp only
    rw [first, added, from_zero, zero_add]
    exact block_sum m c ⟨n, hn⟩ r s
  · show (outsAt0 m c n hn).2 (ix2 r s) = (outsAt0 m c (n - 1) _).2 (ix2 r s) + _
    by_cases h1 : n % 5 = 4
    · rw [outsAt0_C m c ⟨n, hn⟩ h0 h1]
      dsimp only
      rw [last, added]
      exact congrArg (fun y : EReal => (outsAt0 m c (n - 1) _).2 (ix2 r s) + y) (block_sum m c ⟨n, hn⟩ r s)
    · rw [outsAt0_B m c ⟨n, hn⟩ h0 h1]
      dsimp only
      rw [middle, added]
      exact congrArg (fun y : EReal => (outsAt0 m c (n - 1) _).2 (ix2 r s) + y) (block_sum m c ⟨n, hn⟩ r s)

/-- What the last point of a group writes back is its accumulator. -/
theorem out_last (n : ℕ) (hn : n < cfg0.N) (h1 : n % 5 = 4) (r : Fin 1024) (s : Fin 1024) :
    (outsAt0 m c n hn).1 (ix4 (0 : Fin 1) (0 : Fin 1) r s) = (outsAt0 m c n hn).2 (ix2 r s) := by
  rw [outsAt0_C m c ⟨n, hn⟩ (by show ¬n % 5 = 0; omega) h1]
  dsimp only
  rw [written, last, stored]

/-- The kernel's result: the product of the two matrices, the first one transposed. -/
theorem result (p : Fin 1) (r : Fin 1024) (s : Fin 1024) :
    @Eq EReal (Value.G2 m c (ix4 p (0 : Fin 1) r s))
      (∑ k : Fin 8320, left m c (ix2 k (⟨1024 * p.val + r.val, by omega⟩ : Fin 1024)) * right m c (ix2 k s)) := by
  have hp := p.isLt
  have hr := r.isLt
  have hN : cfg0.N = 5 := N_0
  have hs := s.isLt
  have hpt : Value.pt2Of (ix4 p (0 : Fin 1) r s) = 5 * p.val + 4 := by
    show 5 * (1 * (p.val / 1 - 0) + 1 * (0 / 1 - 0) + 1 * (r.val / 1024 - 0) + 1 * (s.val / 1024 - 0)) + 4 = _
    omega
  have hloc : Value.loc2Of (ix4 p (0 : Fin 1) r s) = ix4 (0 : Fin 1) (0 : Fin 1) r s := by
    funext a; apply Fin.ext
    match a with
    | ⟨0, _⟩ => show p.val % 1 = 0; omega
    | ⟨1, _⟩ => show 0 % 1 = 0; omega
    | ⟨2, _⟩ => show r.val % 1024 = r.val; omega
    | ⟨3, _⟩ => show s.val % 1024 = s.val; omega
  unfold Value.G2
  rw [dif_pos (by rw [hpt]; omega), hloc, Value.fold0_congr m c _ _ (5 * p.val + 4) (by omega) hpt,
    ← Value.outsAt0_sweep m c (5 * p.val + 4) (by omega), out_last m c _ _ (by omega), accumulated]
  refine Finset.sum_congr rfl fun k _ => ?_
  unfold term
  rw [dif_pos ⟨k.isLt, by omega⟩]

/-- The reference's entry is the same sum. -/
theorem reference (a : FVec Ideal S8320x1024 .bf16) (b : FVec Ideal S8320x1024 .f32) (p : Fin 1) (r : Fin 1024) (s : Fin 1024) :
    val_main_v6 (F := Ideal) a b (ix4 p (0 : Fin 1) r s)
      = ∑ k : Fin 8320, a (ix2 k (⟨1024 * p.val + r.val, by omega⟩ : Fin 1024)) * b (ix2 k s) := by
  have hp := p.isLt
  have hr := r.isLt
  have hs := s.isLt
  rw [val_main_v6_apply, val_main_v5_apply,
    val_main_v4_apply]
  refine (val_main_v3_apply a b _).trans (Finset.sum_congr rfl fun k _ => ?_)
  rw [mul_comm]
  refine congrArg₂ (fun x y : EReal => x * y) (congrArg a (funext fun d => Fin.ext ?_)) (congrArg b (funext fun d => Fin.ext ?_))
  · match d with
    | ⟨0, _⟩ => rfl
    | ⟨1, _⟩ =>
      show (((p.val * 1 + 0) * 1024 + r.val) * 1024 + s.val) / 1024 = 1024 * p.val + r.val
      omega
  · match d with
    | ⟨0, _⟩ => rfl
    | ⟨1, _⟩ =>
      show (((p.val * 1 + 0) * 1024 + r.val) * 1024 + s.val) % 1024 = s.val
      omega

/-- The reference runs, and ends with the array that its lines compute. -/
theorem run_reference (m : (ℓ : Loc WOutReferenceIdeal.nD WOutReferenceIdeal.τ WOutReferenceIdeal.sig) → Buf (Elt Ideal) ℓ)
    (g : Dev WOutReferenceIdeal.nD → PrngReg) :
    θ_run (WOutReferenceIdeal.defs (F := Ideal)) (onTc (τ := WOutReferenceIdeal.τ) (WOutReferenceIdeal.main (F := Ideal)))
      ⟨m, fun _ => 0, g⟩ fun r => ∀ c : Dev WOutReferenceIdeal.nD,
        r.2.mem ((c.tc : Thread WOutReferenceIdeal.nD WOutReferenceIdeal.τ).loc WOutReferenceIdeal.main_v6)
          = val_main_v6 (F := Ideal) (m (c, WOutReferenceIdeal.main_arg0)) (m (c, WOutReferenceIdeal.main_arg1))
        ∧ r.2.mem ((c.tc : Thread WOutReferenceIdeal.nD WOutReferenceIdeal.τ).loc WOutReferenceIdeal.main_arg0)
          = m ((c.tc : Thread WOutReferenceIdeal.nD WOutReferenceIdeal.τ).loc WOutReferenceIdeal.main_arg0)
        ∧ r.2.mem ((c.tc : Thread WOutReferenceIdeal.nD WOutReferenceIdeal.τ).loc WOutReferenceIdeal.main_arg1)
          = m ((c.tc : Thread WOutReferenceIdeal.nD WOutReferenceIdeal.τ).loc WOutReferenceIdeal.main_arg1) :=
  (θ_run WOutReferenceIdeal.defs _ _).mono
    (fun _ h c => ⟨(h c).1.trans (val_main_v6_eq _ _), (h c).2⟩)
    (WOutReferenceIdeal.Value.run (F := Ideal) m g)

/-- The reference leaves its arguments and counters alone. -/
theorem quiescent_reference : quiescent_WOutReferenceIdeal (hWOutReferenceIdeal := WOutReferenceIdeal.Gen.facts) := fun m g _ =>
  (θ_run WOutReferenceIdeal.defs _ _).mono (fun r h => ⟨fun c => (h c).2, sem_eq_zero_of_no_sems (by decide) r.2⟩) (run_reference m g)

/-- The kernel's result is the reference's. -/
theorem algebraic : algebraic_WOutIdeal_WOutReferenceIdeal (hWOutIdeal := Gen.facts)
    (hWOutReferenceIdeal := WOutReferenceIdeal.Gen.facts) := by
  intro m g m' g' _ hagree
  refine ⟨fun c => Value.G2 m c, Value.run m g, ?_⟩
  refine (θ_run WOutReferenceIdeal.defs _ _).mono (fun r h c => ⟨(h c).1.trans ?_, (h c).2⟩) (run_reference m' g')
  obtain ⟨a0, a1⟩ := hagree c
  refine (congr (congrArg (val_main_v6 (F := Ideal)) a0) a1).trans (funext fun i => ?_)
  obtain ⟨p, r, s, rfl⟩ : ∃ (p : Fin 1) (r : Fin 1024) (s : Fin 1024), i = ix4 p (0 : Fin 1) r s := ⟨i 0, i 2, i 3, funext fun d => match d with
    | ⟨0, _⟩ => rfl
    | ⟨1, _⟩ => Subsingleton.elim (α := Fin 1) _ _
    | ⟨2, _⟩ => rfl
    | ⟨3, _⟩ => rfl⟩
  exact (reference (left m c) (right m c) p r s).trans (result m c p r s).symm

end Cert.WOutIdeal.Product

end
-- ==== Proof.BranchGrad.lean ====
/- The weight gradient of the matrix of a branch of the mixer: the blocked product against the product. -/
module

public import proofs.«01_k».proof.Defs
public import proofs.«01_k».proof.Proof.BlockSum
public import proofs.«01_k».proof.Proof.Gen.WBranchIdeal.Value
public import proofs.«01_k».proof.Proof.Gen.WBranchReferenceIdeal.Read
public import Idealize.ShloMosaic.Adequacy
public import Idealize.ShloMosaic.Init
public import Idealize.ShloMosaic.Lib.ValueIdx
public import Idealize.ShloMosaic.Lib.Pointwise
public import Idealize.ShloMosaic.Lib.Tactic
public import Idealize.ShloMosaic.Lib.Pipeline.Value
public import Idealize.ShloMosaic.PureOps.Ideal.Laws

@[expose] public section

set_option maxRecDepth 16384

noncomputable section

namespace Cert.WBranchIdeal.Product

open Cert.WBranchIdeal Cert.WBranchIdeal.Gen Idealize.ShloMosaic.TcCoe Idealize.SL.Sem
open Idealize.ShloMosaic hiding ix2 ix4
open Idealize.ShloMosaic.ValueIdx (ix2 ix4)
open Cert.WBranchReferenceIdeal.Read

theorem zero2 : (![0, 0] : Fin 2 → ℕ) = fun _ => 0 := funext fun a => match a with
  | ⟨0, _⟩ => rfl
  | ⟨1, _⟩ => rfl
theorem zero4 : (![0, 0, 0, 0] : Fin 4 → ℕ) = fun _ => 0 := funext fun a => match a with
  | ⟨0, _⟩ => rfl
  | ⟨1, _⟩ => rfl
  | ⟨2, _⟩ => rfl
  | ⟨3, _⟩ => rfl

section Cases

variable (c : Dev nD) (i : grid0.Coords) (arg3 : Memref sig .tc .vmem S1664x1024 .bf16) (harg3 : arg3.IsWhole)
  (arg4 : Memref sig .tc .vmem S1664x1024 .bf16) (harg4 : arg4.IsWhole) (arg5 : Memref sig .tc .vmem S1x1x1024x1024 .bf16)
  (harg5 : arg5.IsWhole) (arg6 : Memref sig .tc .vmem S1024x1024 .f32) (harg6 : arg6.IsWhole) (x0 : Vec Ideal S1664x1024 .bf16)
  (x1 : Vec Ideal S1664x1024 .bf16) (xs : Vec Ideal S1024x1024 .f32)

theorem first (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero zero2, View.readCov_unit_zero _ zero2]
  simp only [View.readAt_eq_ld, harg3.read_unread, harg4.read_unread, View.ld_unit_zero (S := S1664x1024) zero2]

theorem middle (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero zero2]
  simp only [View.readAt_eq_ld, harg3.read_unread, harg4.read_unread, harg6.read_unread, View.ld_unit_zero (S := S1664x1024) zero2, View.ld_unit_zero (S := S1024x1024) zero2]

theorem last (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero zero2]
  simp only [View.readAt_eq_ld, harg3.read_unread, harg4.read_unread, harg6.read_unread, View.ld_unit_zero (S := S1664x1024) zero2, View.ld_unit_zero (S := S1024x1024) zero2]

theorem written (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero zero4, View.readCov_unit_zero _ zero2]
  simp only [View.readAt_eq_ld, harg3.read_unread, harg4.read_unread, harg6.read_unread, View.ld_unit_zero (S := S1664x1024) zero2, View.ld_unit_zero (S := S1024x1024) zero2]

end Cases

/-- What a point adds to the accumulator: the product over its rows. -/
theorem added (xs : Vec Ideal S1024x1024 .f32) (a : Vec Ideal S1664x1024 .bf16) (b : Vec Ideal S1664x1024 .bf16) (r : Fin 1024) (s : Fin 1024) :
    k0_pay2 xs a b (ix2 r s) = xs (ix2 r s) + ∑ k : Fin 1664, a (ix2 k r) * b (ix2 k s) := by
  unfold k0_pay2
  rw [shapeCast_self]
  refine congrArg (fun y : EReal => xs (ix2 r s) + y) ?_
  refine (Ideal.matmul_apply₁_of dot_S1664x1024_S1664x1024_S1024x1024_0_0_1_1_n_n (a := 0) rfl (K := 1664) rfl a _ _ (ix2 r s)
    (fun k => ix2 k r) (fun k => ix2 k s) ?_ ?_).trans ?_
  · intro k; funext d; match d with
    | ⟨0, _⟩ => rfl
    | ⟨1, _⟩ => rfl
  · intro k; funext d; match d with
    | ⟨0, _⟩ => rfl
    | ⟨1, _⟩ => rfl
  rw [show constant (F := Ideal) S1024x1024 .f32 0x00000000#32 (ix2 r s) = 0 from Ideal.ofBits_zero_f32, zero_add]

theorem from_zero (r : Fin 1024) (s : Fin 1024) : (k0_pay1 (F := Ideal)) (ix2 r s) = 0 := by
  unfold k0_pay1
  rw [shapeCast_self]
  exact Ideal.ofBits_zero_f32

theorem stored (x : Vec Ideal S1024x1024 .f32) (r : Fin 1024) (s : Fin 1024) : k0_pay3 x (ix4 (0 : Fin 1) (0 : Fin 1) r s) = x (ix2 r s) := by
  unfold k0_pay3
  refine (shapeCast_apply _ _ _ (ix2 r s) ?_).trans rfl
  rw [Shape.rowMajor_val_four, Shape.rowMajor_val_two]
  show r.val * 1024 + s.val = ((0 * 1 + 0) * 1024 + r.val) * 1024 + s.val
  omega

variable (m : (ℓ : Loc nD τ sig) → Buf (Elt Ideal) ℓ) (c : Dev nD)

theorem places : ∀ t : Fin cfg0.N, (win0_0.index t (0 : Fin 2) = t.val % 5 ∧ win0_0.index t (1 : Fin 2) = t.val / 5) ∧
    (win0_1.index t (0 : Fin 2) = t.val % 5 ∧ win0_1.index t (1 : Fin 2) = 0) :=
  (by decide +kernel : ∀ t : Fin grid0.N, _)

/-- The two matrices. -/
abbrev left : FVec Ideal S8320x1024 .bf16 := m (c, main_arg0)
abbrev right : FVec Ideal S8320x1024 .bf16 := m (c, main_arg1)

/-- The blocks of a point. -/
abbrev leftBlock (t : Fin cfg0.N) : FVec Ideal S1664x1024 .bf16 := iblk m c 0 t
abbrev rightBlock (t : Fin cfg0.N) : FVec Ideal S1664x1024 .bf16 := iblk m c 1 t

/-- The term of row `k`, in the product's entry at row `r` of group `q` and column `s`. -/
def term (r : Fin 1024) (s : Fin 1024) (q k : ℕ) : EReal :=
  if h : k < 8320 ∧ 1024 * q + r.val < 1024 then
    left m c (ix2 (⟨k, h.1⟩ : Fin 8320) (⟨1024 * q + r.val, h.2⟩ : Fin 1024)) * right m c (ix2 (⟨k, h.1⟩ : Fin 8320) s)
  else 0

theorem block_sum (t : Fin cfg0.N) (r : Fin 1024) (s : Fin 1024) :
    (∑ k : Fin 1664, leftBlock m c t (ix2 k r) * rightBlock m c t (ix2 k s))
      = ∑ k : Fin 1664, term m c r s (t.val / 5) (1664 * (t.val % 5) + k.val) := by
  have hN : t.val < 5 := lt_of_lt_of_eq t.isLt N_0
  obtain ⟨⟨e0, e1⟩, e2, e3⟩ := places t
  refine Finset.sum_congr rfl fun k _ => ?_
  have hk := k.isLt
  have hr := r.isLt
  have hrow : 1664 * (t.val % 5) + k.val < 8320 := by omega
  unfold term
  rw [dif_pos (⟨hrow, by omega⟩ : 1664 * (t.val % 5) + k.val < 8320 ∧ 1024 * (t.val / 5) + r.val < 1024)]
  have ha : leftBlock m c t (ix2 k r) = left m c (ix2 (⟨_, hrow⟩ : Fin 8320) (⟨1024 * (t.val / 5) + r.val, by omega⟩ : Fin 1024)) := by
    refine congrArg (left m c) (funext fun a => Fin.ext ?_)
    match a with
    | ⟨0, _⟩ => show win0_0.index t (0 : Fin 2) * 1664 + 1 * k.val = 1664 * (t.val % 5) + k.val; omega
    | ⟨1, _⟩ => show win0_0.index t (1 : Fin 2) * 1024 + 1 * r.val = 1024 * (t.val / 5) + r.val; omega
  have hb : rightBlock m c t (ix2 k s) = right m c (ix2 (⟨_, hrow⟩ : Fin 8320) s) := by
    refine congrArg (right m c) (funext fun a => Fin.ext ?_)
    match a with
    | ⟨0, _⟩ => show win0_1.index t (0 : Fin 2) * 1664 + 1 * k.val = 1664 * (t.val % 5) + k.val; omega
    | ⟨1, _⟩ => show win0_1.index t (1 : Fin 2) * 1024 + 1 * s.val = s.val; omega
  rw [ha, hb]

/-- The accumulator at the last point of group `q`: the whole product. -/
theorem accumulated (r : Fin 1024) (s : Fin 1024) (q : ℕ) (h : 5 * q + 4 < cfg0.N) :
    (outsAt0 m c (5 * q + 4) h).2 (ix2 r s) = ∑ k : Fin 8320, term m c r s q k.val := by
  refine BlockSum.total (fun n hn => (outsAt0 m c n hn).2 (ix2 r s)) (term m c r s) (fun n hn h0 => ?_) (fun n hn h0 => ?_) q h
  · show (outsAt0 m c n hn).2 (ix2 r s) = _
    rw [outsAt0_A m c ⟨n, hn⟩ h0 (by show ¬n % 5 = 4; omega)]
    dsimp only
    rw [first, added, from_zero, zero_add]
    exact block_sum m c ⟨n, hn⟩ r s
  · show (outsAt0 m c n hn).2 (ix2 r s) = (outsAt0 m c (n - 1) _).2 (ix2 r s) + _
    by_cases h1 : n % 5 = 4
    · rw [outsAt0_C m c ⟨n, hn⟩ h0 h1]
      dsimp only
      rw [last, added]
      exact congrArg (fun y : EReal => (outsAt0 m c (n - 1) _).2 (ix2 r s) + y) (block_sum m c ⟨n, hn⟩ r s)
    · rw [outsAt0_B m c ⟨n, hn⟩ h0 h1]
      dsimp only
      rw [middle, added]
      exact congrArg (fun y : EReal => (outsAt0 m c (n - 1) _).2 (ix2 r s) + y) (block_sum m c ⟨n, hn⟩ r s)

/-- What the last point of a group writes back is its accumulator. -/
theorem out_last (n : ℕ) (hn : n < cfg0.N) (h1 : n % 5 = 4) (r : Fin 1024) (s : Fin 1024) :
    (outsAt0 m c n hn).1 (ix4 (0 : Fin 1) (0 : Fin 1) r s) = (outsAt0 m c n hn).2 (ix2 r s) := by
  rw [outsAt0_C m c ⟨n, hn⟩ (by show ¬n % 5 = 0; omega) h1]
  dsimp only
  rw [written, last, stored]

/-- The kernel's result: the product of the two matrices, the first one transposed. -/
theorem result (p : Fin 1) (r : Fin 1024) (s : Fin 1024) :
    @Eq EReal (Value.G2 m c (ix4 p (0 : Fin 1) r s))
      (∑ k : Fin 8320, left m c (ix2 k (⟨1024 * p.val + r.val, by omega⟩ : Fin 1024)) * right m c (ix2 k s)) := by
  have hp := p.isLt
  have hr := r.isLt
  have hN : cfg0.N = 5 := N_0
  have hs := s.isLt
  have hpt : Value.pt2Of (ix4 p (0 : Fin 1) r s) = 5 * p.val + 4 := by
    show 5 * (1 * (p.val / 1 - 0) + 1 * (0 / 1 - 0) + 1 * (r.val / 1024 - 0) + 1 * (s.val / 1024 - 0)) + 4 = _
    omega
  have hloc : Value.loc2Of (ix4 p (0 : Fin 1) r s) = ix4 (0 : Fin 1) (0 : Fin 1) r s := by
    funext a; apply Fin.ext
    match a with
    | ⟨0, _⟩ => show p.val % 1 = 0; omega
    | ⟨1, _⟩ => show 0 % 1 = 0; omega
    | ⟨2, _⟩ => show r.val % 1024 = r.val; omega
    | ⟨3, _⟩ => show s.val % 1024 = s.val; omega
  unfold Value.G2
  rw [dif_pos (by rw [hpt]; omega), hloc, Value.fold0_congr m c _ _ (5 * p.val + 4) (by omega) hpt,
    ← Value.outsAt0_sweep m c (5 * p.val + 4) (by omega), out_last m c _ _ (by omega), accumulated]
  refine Finset.sum_congr rfl fun k _ => ?_
  unfold term
  rw [dif_pos ⟨k.isLt, by omega⟩]

/-- The reference's entry is the same sum. -/
theorem reference (a : FVec Ideal S8320x1024 .bf16) (b : FVec Ideal S8320x1024 .bf16) (p : Fin 1) (r : Fin 1024) (s : Fin 1024) :
    val_main_v7 (F := Ideal) a b (ix4 p (0 : Fin 1) r s)
      = ∑ k : Fin 8320, a (ix2 k (⟨1024 * p.val + r.val, by omega⟩ : Fin 1024)) * b (ix2 k s) := by
  have hp := p.isLt
  have hr := r.isLt
  have hs := s.isLt
  rw [val_main_v7_apply, val_main_v6_apply,
    val_main_v5_apply]
  refine (val_main_v4_apply a b _).trans (Finset.sum_congr rfl fun k _ => ?_)
  rw [mul_comm]
  refine congrArg₂ (fun x y : EReal => x * y) (congrArg a (funext fun d => Fin.ext ?_)) (congrArg b (funext fun d => Fin.ext ?_))
  · match d with
    | ⟨0, _⟩ => rfl
    | ⟨1, _⟩ =>
      show (((p.val * 1 + 0) * 1024 + r.val) * 1024 + s.val) / 1024 = 1024 * p.val + r.val
      omega
  · match d with
    | ⟨0, _⟩ => rfl
    | ⟨1, _⟩ =>
      show (((p.val * 1 + 0) * 1024 + r.val) * 1024 + s.val) % 1024 = s.val
      omega

/-- The reference runs, and ends with the array that its lines compute. -/
theorem run_reference (m : (ℓ : Loc WBranchReferenceIdeal.nD WBranchReferenceIdeal.τ WBranchReferenceIdeal.sig) → Buf (Elt Ideal) ℓ)
    (g : Dev WBranchReferenceIdeal.nD → PrngReg) :
    θ_run (WBranchReferenceIdeal.defs (F := Ideal)) (onTc (τ := WBranchReferenceIdeal.τ) (WBranchReferenceIdeal.main (F := Ideal)))
      ⟨m, fun _ => 0, g⟩ fun r => ∀ c : Dev WBranchReferenceIdeal.nD,
        r.2.mem ((c.tc : Thread WBranchReferenceIdeal.nD WBranchReferenceIdeal.τ).loc WBranchReferenceIdeal.main_v7)
          = val_main_v7 (F := Ideal) (m (c, WBranchReferenceIdeal.main_arg0)) (m (c, WBranchReferenceIdeal.main_arg1))
        ∧ r.2.mem ((c.tc : Thread WBranchReferenceIdeal.nD WBranchReferenceIdeal.τ).loc WBranchReferenceIdeal.main_arg0)
          = m ((c.tc : Thread WBranchReferenceIdeal.nD WBranchReferenceIdeal.τ).loc WBranchReferenceIdeal.main_arg0)
        ∧ r.2.mem ((c.tc : Thread WBranchReferenceIdeal.nD WBranchReferenceIdeal.τ).loc WBranchReferenceIdeal.main_arg1)
          = m ((c.tc : Thread WBranchReferenceIdeal.nD WBranchReferenceIdeal.τ).loc WBranchReferenceIdeal.main_arg1) :=
  (θ_run WBranchReferenceIdeal.defs _ _).mono
    (fun _ h c => ⟨(h c).1.trans (val_main_v7_eq _ _), (h c).2⟩)
    (WBranchReferenceIdeal.Value.run (F := Ideal) m g)

/-- The reference leaves its arguments and counters alone. -/
theorem quiescent_reference : quiescent_WBranchReferenceIdeal (hWBranchReferenceIdeal := WBranchReferenceIdeal.Gen.facts) := fun m g _ =>
  (θ_run WBranchReferenceIdeal.defs _ _).mono (fun r h => ⟨fun c => (h c).2, sem_eq_zero_of_no_sems (by decide) r.2⟩) (run_reference m g)

/-- The kernel's result is the reference's. -/
theorem algebraic : algebraic_WBranchIdeal_WBranchReferenceIdeal (hWBranchIdeal := Gen.facts)
    (hWBranchReferenceIdeal := WBranchReferenceIdeal.Gen.facts) := by
  intro m g m' g' _ hagree
  refine ⟨fun c => Value.G2 m c, Value.run m g, ?_⟩
  refine (θ_run WBranchReferenceIdeal.defs _ _).mono (fun r h c => ⟨(h c).1.trans ?_, (h c).2⟩) (run_reference m' g')
  obtain ⟨a0, a1⟩ := hagree c
  refine (congr (congrArg (val_main_v7 (F := Ideal)) a0) a1).trans (funext fun i => ?_)
  obtain ⟨p, r, s, rfl⟩ : ∃ (p : Fin 1) (r : Fin 1024) (s : Fin 1024), i = ix4 p (0 : Fin 1) r s := ⟨i 0, i 2, i 3, funext fun d => match d with
    | ⟨0, _⟩ => rfl
    | ⟨1, _⟩ => Subsingleton.elim (α := Fin 1) _ _
    | ⟨2, _⟩ => rfl
    | ⟨3, _⟩ => rfl⟩
  exact (reference (left m c) (right m c) p r s).trans (result m c p r s).symm

end Cert.WBranchIdeal.Product

end
-- ==== Proof.FfnOutGrad.lean ====
/- The weight gradient of the feed-forward block's second matrix: the blocked product against the product. -/
module

public import proofs.«01_k».proof.Defs
public import proofs.«01_k».proof.Proof.BlockSum
public import proofs.«01_k».proof.Proof.Gen.WFfnOutIdeal.Value
public import proofs.«01_k».proof.Proof.Gen.WFfnOutReferenceIdeal.Read
public import Idealize.ShloMosaic.Adequacy
public import Idealize.ShloMosaic.Init
public import Idealize.ShloMosaic.Lib.ValueIdx
public import Idealize.ShloMosaic.Lib.Pointwise
public import Idealize.ShloMosaic.Lib.Tactic
public import Idealize.ShloMosaic.Lib.Pipeline.Value
public import Idealize.ShloMosaic.PureOps.Ideal.Laws

@[expose] public section

set_option maxRecDepth 16384

noncomputable section

namespace Cert.WFfnOutIdeal.Product

open Cert.WFfnOutIdeal Cert.WFfnOutIdeal.Gen Idealize.ShloMosaic.TcCoe Idealize.SL.Sem
open Idealize.ShloMosaic hiding ix2 ix4
open Idealize.ShloMosaic.ValueIdx (ix2 ix4)
open Cert.WFfnOutReferenceIdeal.Read

theorem zero2 : (![0, 0] : Fin 2 → ℕ) = fun _ => 0 := funext fun a => match a with
  | ⟨0, _⟩ => rfl
  | ⟨1, _⟩ => rfl
theorem zero4 : (![0, 0, 0, 0] : Fin 4 → ℕ) = fun _ => 0 := funext fun a => match a with
  | ⟨0, _⟩ => rfl
  | ⟨1, _⟩ => rfl
  | ⟨2, _⟩ => rfl
  | ⟨3, _⟩ => rfl

section Cases

variable (c : Dev nD) (i : grid0.Coords) (arg3 : Memref sig .tc .vmem S1664x768 .bf16) (harg3 : arg3.IsWhole)
  (arg4 : Memref sig .tc .vmem S1664x1024 .f32) (harg4 : arg4.IsWhole) (arg5 : Memref sig .tc .vmem S1x1x768x1024 .bf16)
  (harg5 : arg5.IsWhole) (arg6 : Memref sig .tc .vmem S768x1024 .f32) (harg6 : arg6.IsWhole) (x0 : Vec Ideal S1664x768 .bf16)
  (x1 : Vec Ideal S1664x1024 .f32) (xs : Vec Ideal S768x1024 .f32)

theorem first (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero zero2, View.readCov_unit_zero _ zero2]
  simp only [View.readAt_eq_ld, harg3.read_unread, harg4.read_unread, View.ld_unit_zero (S := S1664x768) zero2,
    View.ld_unit_zero (S := S1664x1024) zero2]

theorem middle (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero zero2]
  simp only [View.readAt_eq_ld, harg3.read_unread, harg4.read_unread, harg6.read_unread, View.ld_unit_zero (S := S1664x768) zero2,
    View.ld_unit_zero (S := S1664x1024) zero2, View.ld_unit_zero (S := S768x1024) zero2]

theorem last (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero zero2]
  simp only [View.readAt_eq_ld, harg3.read_unread, harg4.read_unread, harg6.read_unread, View.ld_unit_zero (S := S1664x768) zero2,
    View.ld_unit_zero (S := S1664x1024) zero2, View.ld_unit_zero (S := S768x1024) zero2]

theorem written (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero zero4, View.readCov_unit_zero _ zero2]
  simp only [View.readAt_eq_ld, harg3.read_unread, harg4.read_unread, harg6.read_unread, View.ld_unit_zero (S := S1664x768) zero2,
    View.ld_unit_zero (S := S1664x1024) zero2, View.ld_unit_zero (S := S768x1024) zero2]

end Cases

/-- What a point adds to the accumulator: the product over its rows. -/
theorem added (xs : Vec Ideal S768x1024 .f32) (a : Vec Ideal S1664x768 .bf16) (b : Vec Ideal S1664x1024 .f32) (r : Fin 768) (s : Fin 1024) :
    k0_pay2 xs a b (ix2 r s) = xs (ix2 r s) + ∑ k : Fin 1664, a (ix2 k r) * b (ix2 k s) := by
  unfold k0_pay2
  rw [shapeCast_self]
  refine congrArg (fun y : EReal => xs (ix2 r s) + y) ?_
  refine (Ideal.matmul_apply₁_of dot_S1664x768_S1664x1024_S768x1024_0_0_1_1_n_n (a := 0) rfl (K := 1664) rfl a _ _ (ix2 r s)
    (fun k => ix2 k r) (fun k => ix2 k s) ?_ ?_).trans ?_
  · intro k; funext d; match d with
    | ⟨0, _⟩ => rfl
    | ⟨1, _⟩ => rfl
  · intro k; funext d; match d with
    | ⟨0, _⟩ => rfl
    | ⟨1, _⟩ => rfl
  rw [show constant (F := Ideal) S768x1024 .f32 0x00000000#32 (ix2 r s) = 0 from Ideal.ofBits_zero_f32, zero_add]
  rfl

theorem from_zero (r : Fin 768) (s : Fin 1024) : (k0_pay1 (F := Ideal)) (ix2 r s) = 0 := by
  unfold k0_pay1
  rw [shapeCast_self]
  exact Ideal.ofBits_zero_f32

theorem stored (x : Vec Ideal S768x1024 .f32) (r : Fin 768) (s : Fin 1024) : k0_pay3 x (ix4 (0 : Fin 1) (0 : Fin 1) r s) = x (ix2 r s) := by
  unfold k0_pay3
  refine (shapeCast_apply _ _ _ (ix2 r s) ?_).trans rfl
  rw [Shape.rowMajor_val_four, Shape.rowMajor_val_two]
  show r.val * 1024 + s.val = ((0 * 1 + 0) * 768 + r.val) * 1024 + s.val
  omega

variable (m : (ℓ : Loc nD τ sig) → Buf (Elt Ideal) ℓ) (c : Dev nD)

theorem places : ∀ t : Fin cfg0.N, (win0_0.index t (0 : Fin 2) = t.val % 5 ∧ win0_0.index t (1 : Fin 2) = t.val / 5) ∧
    (win0_1.index t (0 : Fin 2) = t.val % 5 ∧ win0_1.index t (1 : Fin 2) = 0) :=
  (by decide +kernel : ∀ t : Fin grid0.N, _)

/-- The two matrices. -/
abbrev left : FVec Ideal S8320x3072 .bf16 := m (c, main_arg0)
abbrev right : FVec Ideal S8320x1024 .f32 := m (c, main_arg1)

/-- The blocks of a point. -/
abbrev leftBlock (t : Fin cfg0.N) : FVec Ideal S1664x768 .bf16 := iblk m c 0 t
abbrev rightBlock (t : Fin cfg0.N) : FVec Ideal S1664x1024 .f32 := iblk m c 1 t

/-- The term of row `k`, in the product's entry at row `r` of group `q` and column `s`. -/
def term (r : Fin 768) (s : Fin 1024) (q k : ℕ) : EReal :=
  if h : k < 8320 ∧ 768 * q + r.val < 3072 then
    left m c (ix2 (⟨k, h.1⟩ : Fin 8320) (⟨768 * q + r.val, h.2⟩ : Fin 3072)) * right m c (ix2 (⟨k, h.1⟩ : Fin 8320) s)
  else 0

theorem block_sum (t : Fin cfg0.N) (r : Fin 768) (s : Fin 1024) :
    (∑ k : Fin 1664, leftBlock m c t (ix2 k r) * rightBlock m c t (ix2 k s))
      = ∑ k : Fin 1664, term m c r s (t.val / 5) (1664 * (t.val % 5) + k.val) := by
  have hN : t.val < 20 := lt_of_lt_of_eq t.isLt N_0
  obtain ⟨⟨e0, e1⟩, e2, e3⟩ := places t
  refine Finset.sum_congr rfl fun k _ => ?_
  have hk := k.isLt
  have hr := r.isLt
  have hrow : 1664 * (t.val % 5) + k.val < 8320 := by omega
  unfold term
  rw [dif_pos (⟨hrow, by omega⟩ : 1664 * (t.val % 5) + k.val < 8320 ∧ 768 * (t.val / 5) + r.val < 3072)]
  have ha : leftBlock m c t (ix2 k r) = left m c (ix2 (⟨_, hrow⟩ : Fin 8320) (⟨768 * (t.val / 5) + r.val, by omega⟩ : Fin 3072)) := by
    refine congrArg (left m c) (funext fun a => Fin.ext ?_)
    match a with
    | ⟨0, _⟩ => show win0_0.index t (0 : Fin 2) * 1664 + 1 * k.val = 1664 * (t.val % 5) + k.val; omega
    | ⟨1, _⟩ => show win0_0.index t (1 : Fin 2) * 768 + 1 * r.val = 768 * (t.val / 5) + r.val; omega
  have hb : rightBlock m c t (ix2 k s) = right m c (ix2 (⟨_, hrow⟩ : Fin 8320) s) := by
    refine congrArg (right m c) (funext fun a => Fin.ext ?_)
    match a with
    | ⟨0, _⟩ => show win0_1.index t (0 : Fin 2) * 1664 + 1 * k.val = 1664 * (t.val % 5) + k.val; omega
    | ⟨1, _⟩ => show win0_1.index t (1 : Fin 2) * 1024 + 1 * s.val = s.val; omega
  rw [ha, hb]

/-- The accumulator at the last point of group `q`: the whole product. -/
theorem accumulated (r : Fin 768) (s : Fin 1024) (q : ℕ) (h : 5 * q + 4 < cfg0.N) :
    (outsAt0 m c (5 * q + 4) h).2 (ix2 r s) = ∑ k : Fin 8320, term m c r s q k.val := by
  refine BlockSum.total (fun n hn => (outsAt0 m c n hn).2 (ix2 r s)) (term m c r s) (fun n hn h0 => ?_) (fun n hn h0 => ?_) q h
  · show (outsAt0 m c n hn).2 (ix2 r s) = _
    rw [outsAt0_A m c ⟨n, hn⟩ h0 (by show ¬n % 5 = 4; omega)]
    dsimp only
    rw [first, added, from_zero, zero_add]
    exact block_sum m c ⟨n, hn⟩ r s
  · show (outsAt0 m c n hn).2 (ix2 r s) = (outsAt0 m c (n - 1) _).2 (ix2 r s) + _
    by_cases h1 : n % 5 = 4
    · rw [outsAt0_C m c ⟨n, hn⟩ h0 h1]
      dsimp only
      rw [last, added]
      exact congrArg (fun y : EReal => (outsAt0 m c (n - 1) _).2 (ix2 r s) + y) (block_sum m c ⟨n, hn⟩ r s)
    · rw [outsAt0_B m c ⟨n, hn⟩ h0 h1]
      dsimp only
      rw [middle, added]
      exact congrArg (fun y : EReal => (outsAt0 m c (n - 1) _).2 (ix2 r s) + y) (block_sum m c ⟨n, hn⟩ r s)

/-- What the last point of a group writes back is its accumulator. -/
theorem out_last (n : ℕ) (hn : n < cfg0.N) (h1 : n % 5 = 4) (r : Fin 768) (s : Fin 1024) :
    (outsAt0 m c n hn).1 (ix4 (0 : Fin 1) (0 : Fin 1) r s) = (outsAt0 m c n hn).2 (ix2 r s) := by
  rw [outsAt0_C m c ⟨n, hn⟩ (by show ¬n % 5 = 0; omega) h1]
  dsimp only
  rw [written, last, stored]

/-- The kernel's result: the product of the two matrices, the first one transposed. -/
theorem result (p : Fin 4) (r : Fin 768) (s : Fin 1024) :
    @Eq EReal (Value.G2 m c (ix4 p (0 : Fin 1) r s))
      (∑ k : Fin 8320, left m c (ix2 k (⟨768 * p.val + r.val, by omega⟩ : Fin 3072)) * right m c (ix2 k s)) := by
  have hp := p.isLt
  have hr := r.isLt
  have hN : cfg0.N = 20 := N_0
  have hs := s.isLt
  have hpt : Value.pt2Of (ix4 p (0 : Fin 1) r s) = 5 * p.val + 4 := by
    show 5 * (1 * (p.val / 1 - 0) + 1 * (0 / 1 - 0) + 1 * (r.val / 768 - 0) + 1 * (s.val / 1024 - 0)) + 4 = _
    omega
  have hloc : Value.loc2Of (ix4 p (0 : Fin 1) r s) = ix4 (0 : Fin 1) (0 : Fin 1) r s := by
    funext a; apply Fin.ext
    match a with
    | ⟨0, _⟩ => show p.val % 1 = 0; omega
    | ⟨1, _⟩ => show 0 % 1 = 0; omega
    | ⟨2, _⟩ => show r.val % 768 = r.val; omega
    | ⟨3, _⟩ => show s.val % 1024 = s.val; omega
  unfold Value.G2
  rw [dif_pos (by rw [hpt]; omega), hloc, Value.fold0_congr m c _ _ (5 * p.val + 4) (by omega) hpt,
    ← Value.outsAt0_sweep m c (5 * p.val + 4) (by omega), out_last m c _ _ (by omega), accumulated]
  refine Finset.sum_congr rfl fun k _ => ?_
  unfold term
  rw [dif_pos ⟨k.isLt, by omega⟩]

/-- The reference's entry is the same sum. -/
theorem reference (a : FVec Ideal S8320x3072 .bf16) (b : FVec Ideal S8320x1024 .f32) (p : Fin 4) (r : Fin 768) (s : Fin 1024) :
    val_main_v6 (F := Ideal) a b (ix4 p (0 : Fin 1) r s)
      = ∑ k : Fin 8320, a (ix2 k (⟨768 * p.val + r.val, by omega⟩ : Fin 3072)) * b (ix2 k s) := by
  have hp := p.isLt
  have hr := r.isLt
  have hs := s.isLt
  rw [val_main_v6_apply, val_main_v5_apply,
    val_main_v4_apply]
  refine (val_main_v3_apply a b _).trans (Finset.sum_congr rfl fun k _ => ?_)
  rw [mul_comm]
  refine congrArg₂ (fun x y : EReal => x * y) (congrArg a (funext fun d => Fin.ext ?_)) (congrArg b (funext fun d => Fin.ext ?_))
  · match d with
    | ⟨0, _⟩ => rfl
    | ⟨1, _⟩ =>
      show (((p.val * 1 + 0) * 768 + r.val) * 1024 + s.val) / 1024 = 768 * p.val + r.val
      omega
  · match d with
    | ⟨0, _⟩ => rfl
    | ⟨1, _⟩ =>
      show (((p.val * 1 + 0) * 768 + r.val) * 1024 + s.val) % 1024 = s.val
      omega

/-- The reference runs, and ends with the array that its lines compute. -/
theorem run_reference (m : (ℓ : Loc WFfnOutReferenceIdeal.nD WFfnOutReferenceIdeal.τ WFfnOutReferenceIdeal.sig) → Buf (Elt Ideal) ℓ)
    (g : Dev WFfnOutReferenceIdeal.nD → PrngReg) :
    θ_run (WFfnOutReferenceIdeal.defs (F := Ideal)) (onTc (τ := WFfnOutReferenceIdeal.τ) (WFfnOutReferenceIdeal.main (F := Ideal)))
      ⟨m, fun _ => 0, g⟩ fun r => ∀ c : Dev WFfnOutReferenceIdeal.nD,
        r.2.mem ((c.tc : Thread WFfnOutReferenceIdeal.nD WFfnOutReferenceIdeal.τ).loc WFfnOutReferenceIdeal.main_v6)
          = val_main_v6 (F := Ideal) (m (c, WFfnOutReferenceIdeal.main_arg0)) (m (c, WFfnOutReferenceIdeal.main_arg1))
        ∧ r.2.mem ((c.tc : Thread WFfnOutReferenceIdeal.nD WFfnOutReferenceIdeal.τ).loc WFfnOutReferenceIdeal.main_arg0)
          = m ((c.tc : Thread WFfnOutReferenceIdeal.nD WFfnOutReferenceIdeal.τ).loc WFfnOutReferenceIdeal.main_arg0)
        ∧ r.2.mem ((c.tc : Thread WFfnOutReferenceIdeal.nD WFfnOutReferenceIdeal.τ).loc WFfnOutReferenceIdeal.main_arg1)
          = m ((c.tc : Thread WFfnOutReferenceIdeal.nD WFfnOutReferenceIdeal.τ).loc WFfnOutReferenceIdeal.main_arg1) :=
  (θ_run WFfnOutReferenceIdeal.defs _ _).mono
    (fun _ h c => ⟨(h c).1.trans (val_main_v6_eq _ _), (h c).2⟩)
    (WFfnOutReferenceIdeal.Value.run (F := Ideal) m g)

/-- The reference leaves its arguments and counters alone. -/
theorem quiescent_reference : quiescent_WFfnOutReferenceIdeal (hWFfnOutReferenceIdeal := WFfnOutReferenceIdeal.Gen.facts) := fun m g _ =>
  (θ_run WFfnOutReferenceIdeal.defs _ _).mono (fun r h => ⟨fun c => (h c).2, sem_eq_zero_of_no_sems (by decide) r.2⟩) (run_reference m g)

/-- The kernel's result is the reference's. -/
theorem algebraic : algebraic_WFfnOutIdeal_WFfnOutReferenceIdeal (hWFfnOutIdeal := Gen.facts)
    (hWFfnOutReferenceIdeal := WFfnOutReferenceIdeal.Gen.facts) := by
  intro m g m' g' _ hagree
  refine ⟨fun c => Value.G2 m c, Value.run m g, ?_⟩
  refine (θ_run WFfnOutReferenceIdeal.defs _ _).mono (fun r h c => ⟨(h c).1.trans ?_, (h c).2⟩) (run_reference m' g')
  obtain ⟨a0, a1⟩ := hagree c
  refine (congr (congrArg (val_main_v6 (F := Ideal)) a0) a1).trans (funext fun i => ?_)
  obtain ⟨p, r, s, rfl⟩ : ∃ (p : Fin 4) (r : Fin 768) (s : Fin 1024), i = ix4 p (0 : Fin 1) r s := ⟨i 0, i 2, i 3, funext fun d => match d with
    | ⟨0, _⟩ => rfl
    | ⟨1, _⟩ => Subsingleton.elim (α := Fin 1) _ _
    | ⟨2, _⟩ => rfl
    | ⟨3, _⟩ => rfl⟩
  exact (reference (left m c) (right m c) p r s).trans (result m c p r s).symm

end Cert.WFfnOutIdeal.Product

end
-- ==== Proof.FfnInGrad.lean ====
/- The weight gradient of the feed-forward block's first matrix (gate and up together): the blocked product against the product. -/
module

public import proofs.«01_k».proof.Defs
public import proofs.«01_k».proof.Proof.BlockSum
public import proofs.«01_k».proof.Proof.Gen.WFfnInIdeal.Value
public import proofs.«01_k».proof.Proof.Gen.WFfnInReferenceIdeal.Read
public import Idealize.ShloMosaic.Adequacy
public import Idealize.ShloMosaic.Init
public import Idealize.ShloMosaic.Lib.ValueIdx
public import Idealize.ShloMosaic.Lib.Pointwise
public import Idealize.ShloMosaic.Lib.Tactic
public import Idealize.ShloMosaic.Lib.Pipeline.Value
public import Idealize.ShloMosaic.PureOps.Ideal.Laws

@[expose] public section

set_option maxRecDepth 16384

noncomputable section

namespace Cert.WFfnInIdeal.Product

open Cert.WFfnInIdeal Cert.WFfnInIdeal.Gen Idealize.ShloMosaic.TcCoe Idealize.SL.Sem
open Idealize.ShloMosaic hiding ix2 ix3 ix4
open Idealize.ShloMosaic.ValueIdx (ix2 ix3 ix4)
open Cert.WFfnInReferenceIdeal.Read

theorem zero2 : (![0, 0] : Fin 2 → ℕ) = fun _ => 0 := funext fun a => match a with
  | ⟨0, _⟩ => rfl
  | ⟨1, _⟩ => rfl
theorem zero3 : (![0, 0, 0] : Fin 3 → ℕ) = fun _ => 0 := funext fun a => match a with
  | ⟨0, _⟩ => rfl
  | ⟨1, _⟩ => rfl
  | ⟨2, _⟩ => rfl
theorem zero4 : (![0, 0, 0, 0] : Fin 4 → ℕ) = fun _ => 0 := funext fun a => match a with
  | ⟨0, _⟩ => rfl
  | ⟨1, _⟩ => rfl
  | ⟨2, _⟩ => rfl
  | ⟨3, _⟩ => rfl

section Cases

variable (c : Dev nD) (i : grid0.Coords) (arg3 : Memref sig .tc .vmem S1664x1024 .bf16) (harg3 : arg3.IsWhole)
  (arg4 : Memref sig .tc .vmem S1x1664x768 .bf16) (harg4 : arg4.IsWhole) (arg5 : Memref sig .tc .vmem S1x1x1024x768 .bf16)
  (harg5 : arg5.IsWhole) (arg6 : Memref sig .tc .vmem S1024x768 .f32) (harg6 : arg6.IsWhole) (x0 : Vec Ideal S1664x1024 .bf16)
  (x1 : Vec Ideal S1x1664x768 .bf16) (xs : Vec Ideal S1024x768 .f32)

theorem first (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero zero2, View.readCov_unit_zero _ zero2]
  simp only [View.readAt_eq_ld, harg3.read_unread, harg4.read_unread, View.ld_unit_zero (S := S1664x1024) zero2,
    View.ld_unit_zero (S := S1x1664x768) zero3]

theorem middle (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero zero2]
  simp only [View.readAt_eq_ld, harg3.read_unread, harg4.read_unread, harg6.read_unread, View.ld_unit_zero (S := S1664x1024) zero2,
    View.ld_unit_zero (S := S1x1664x768) zero3, View.ld_unit_zero (S := S1024x768) zero2]

theorem last (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero zero2]
  simp only [View.readAt_eq_ld, harg3.read_unread, harg4.read_unread, harg6.read_unread, View.ld_unit_zero (S := S1664x1024) zero2,
    View.ld_unit_zero (S := S1x1664x768) zero3, View.ld_unit_zero (S := S1024x768) zero2]

theorem written (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero zero4, View.readCov_unit_zero _ zero2]
  simp only [View.readAt_eq_ld, harg3.read_unread, harg4.read_unread, harg6.read_unread, View.ld_unit_zero (S := S1664x1024) zero2,
    View.ld_unit_zero (S := S1x1664x768) zero3, View.ld_unit_zero (S := S1024x768) zero2]

end Cases

/-- What a point adds to the accumulator: the product over its rows. -/
theorem added (xs : Vec Ideal S1024x768 .f32) (a : Vec Ideal S1664x1024 .bf16) (b : Vec Ideal S1x1664x768 .bf16) (r : Fin 1024) (s : Fin 768) :
    k0_pay2 xs a b (ix2 r s)
      = xs (ix2 r s) + ∑ k : Fin 1664, a (ix2 k r) * b (ix3 (0 : Fin 1) k s) := by
  unfold k0_pay2
  rw [shapeCast_self]
  refine congrArg (fun y : EReal => xs (ix2 r s) + y) ?_
  refine (Ideal.matmul_apply₁_of dot_S1664x1024_S1664x768_S1024x768_0_0_1_1_n_n (a := 0) rfl (K := 1664) rfl a _ _ (ix2 r s)
    (fun k => ix2 k r) (fun k => ix2 k s) ?_ ?_).trans ?_
  · intro k; funext d; match d with
    | ⟨0, _⟩ => rfl
    | ⟨1, _⟩ => rfl
  · intro k; funext d; match d with
    | ⟨0, _⟩ => rfl
    | ⟨1, _⟩ => rfl
  rw [show constant (F := Ideal) S1024x768 .f32 0x00000000#32 (ix2 r s) = 0 from Ideal.ofBits_zero_f32, zero_add]
  refine Finset.sum_congr rfl fun k _ => congrArg (fun y : EReal => a (ix2 k r) * y) ?_
  refine shapeCast_apply _ _ _ (ix3 (0 : Fin 1) k s) ?_
  rw [Shape.rowMajor_val_three, Shape.rowMajor_val_two]
  show (0 * 1664 + k.val) * 768 + s.val = k.val * 768 + s.val
  omega

theorem from_zero (r : Fin 1024) (s : Fin 768) : (k0_pay1 (F := Ideal)) (ix2 r s) = 0 := by
  unfold k0_pay1
  rw [shapeCast_self]
  exact Ideal.ofBits_zero_f32

theorem stored (x : Vec Ideal S1024x768 .f32) (r : Fin 1024) (s : Fin 768) : k0_pay3 x (ix4 (0 : Fin 1) (0 : Fin 1) r s) = x (ix2 r s) := by
  unfold k0_pay3
  refine (shapeCast_apply _ _ _ (ix2 r s) ?_).trans rfl
  rw [Shape.rowMajor_val_four, Shape.rowMajor_val_two]
  show r.val * 768 + s.val = ((0 * 1 + 0) * 1024 + r.val) * 768 + s.val
  omega

variable (m : (ℓ : Loc nD τ sig) → Buf (Elt Ideal) ℓ) (c : Dev nD)

theorem places : ∀ t : Fin cfg0.N, (win0_0.index t (0 : Fin 2) = t.val % 5 ∧ win0_0.index t (1 : Fin 2) = 0) ∧
    (win0_1.index t (0 : Fin 3) = t.val / 5 / 4 ∧ win0_1.index t (1 : Fin 3) = t.val % 5 ∧ win0_1.index t (2 : Fin 3) = t.val / 5 % 4) :=
  (by decide +kernel : ∀ t : Fin grid0.N, _)

/-- The two matrices; the second one has its halves one after the other. -/
abbrev left : FVec Ideal S8320x1024 .bf16 := m (c, main_arg0)
abbrev right : FVec Ideal S2x8320x3072 .bf16 := m (c, main_arg1)

/-- The blocks of a point. -/
abbrev leftBlock (t : Fin cfg0.N) : FVec Ideal S1664x1024 .bf16 := iblk m c 0 t
abbrev rightBlock (t : Fin cfg0.N) : FVec Ideal S1x1664x768 .bf16 := iblk m c 1 t

/-- The entry of the second matrix in row `k` and column `s` of group `q`, of eight groups. -/
abbrev entry (b : FVec Ideal S2x8320x3072 .bf16) (k : Fin 8320) (q : Fin 8) (s : Fin 768) : EReal :=
  b (ix3 (⟨q.val / 4, by omega⟩ : Fin 2) k (⟨768 * (q.val % 4) + s.val, by omega⟩ : Fin 3072))

/-- The term of row `k`, in the product's entry at row `r` and at column `s` of group `q`. -/
def term (r : Fin 1024) (s : Fin 768) (q k : ℕ) : EReal :=
  if h : k < 8320 ∧ q < 8 then left m c (ix2 (⟨k, h.1⟩ : Fin 8320) r) * entry (right m c) ⟨k, h.1⟩ ⟨q, h.2⟩ s else 0

theorem block_sum (t : Fin cfg0.N) (r : Fin 1024) (s : Fin 768) :
    (∑ k : Fin 1664, leftBlock m c t (ix2 k r) * rightBlock m c t (ix3 (0 : Fin 1) k s))
      = ∑ k : Fin 1664, term m c r s (t.val / 5) (1664 * (t.val % 5) + k.val) := by
  have hN : t.val < 40 := lt_of_lt_of_eq t.isLt N_0
  obtain ⟨⟨e0, e1⟩, e2, e3, e4⟩ := places t
  refine Finset.sum_congr rfl fun k _ => ?_
  have hk := k.isLt
  have hs := s.isLt
  have hrow : 1664 * (t.val % 5) + k.val < 8320 := by omega
  have hq : t.val / 5 < 8 := by omega
  unfold term
  rw [dif_pos (⟨hrow, hq⟩ : 1664 * (t.val % 5) + k.val < 8320 ∧ t.val / 5 < 8)]
  have ha : leftBlock m c t (ix2 k r) = left m c (ix2 (⟨_, hrow⟩ : Fin 8320) r) := by
    refine congrArg (left m c) (funext fun a => Fin.ext ?_)
    match a with
    | ⟨0, _⟩ => show win0_0.index t (0 : Fin 2) * 1664 + 1 * k.val = 1664 * (t.val % 5) + k.val; omega
    | ⟨1, _⟩ => show win0_0.index t (1 : Fin 2) * 1024 + 1 * r.val = r.val; omega
  have hb : rightBlock m c t (ix3 (0 : Fin 1) k s) = entry (right m c) ⟨_, hrow⟩ ⟨_, hq⟩ s := by
    refine congrArg (right m c) (funext fun a => Fin.ext ?_)
    match a with
    | ⟨0, _⟩ => show win0_1.index t (0 : Fin 3) * 1 + 1 * 0 = t.val / 5 / 4; omega
    | ⟨1, _⟩ => show win0_1.index t (1 : Fin 3) * 1664 + 1 * k.val = 1664 * (t.val % 5) + k.val; omega
    | ⟨2, _⟩ => show win0_1.index t (2 : Fin 3) * 768 + 1 * s.val = 768 * (t.val / 5 % 4) + s.val; omega
  rw [ha, hb]

/-- The accumulator at the last point of group `q`: the whole product. -/
theorem accumulated (r : Fin 1024) (s : Fin 768) (q : ℕ) (h : 5 * q + 4 < cfg0.N) :
    (outsAt0 m c (5 * q + 4) h).2 (ix2 r s) = ∑ k : Fin 8320, term m c r s q k.val := by
  refine BlockSum.total (fun n hn => (outsAt0 m c n hn).2 (ix2 r s)) (term m c r s) (fun n hn h0 => ?_) (fun n hn h0 => ?_) q h
  · show (outsAt0 m c n hn).2 (ix2 r s) = _
    rw [outsAt0_A m c ⟨n, hn⟩ h0 (by show ¬n % 5 = 4; omega)]
    dsimp only
    rw [first, added, from_zero, zero_add]
    exact block_sum m c ⟨n, hn⟩ r s
  · show (outsAt0 m c n hn).2 (ix2 r s) = (outsAt0 m c (n - 1) _).2 (ix2 r s) + _
    by_cases h1 : n % 5 = 4
    · rw [outsAt0_C m c ⟨n, hn⟩ h0 h1]
      dsimp only
      rw [last, added]
      exact congrArg (fun y : EReal => (outsAt0 m c (n - 1) _).2 (ix2 r s) + y) (block_sum m c ⟨n, hn⟩ r s)
    · rw [outsAt0_B m c ⟨n, hn⟩ h0 h1]
      dsimp only
      rw [middle, added]
      exact congrArg (fun y : EReal => (outsAt0 m c (n - 1) _).2 (ix2 r s) + y) (block_sum m c ⟨n, hn⟩ r s)

/-- What the last point of a group writes back is its accumulator. -/
theorem out_last (n : ℕ) (hn : n < cfg0.N) (h1 : n % 5 = 4) (r : Fin 1024) (s : Fin 768) :
    (outsAt0 m c n hn).1 (ix4 (0 : Fin 1) (0 : Fin 1) r s) = (outsAt0 m c n hn).2 (ix2 r s) := by
  rw [outsAt0_C m c ⟨n, hn⟩ (by show ¬n % 5 = 0; omega) h1]
  dsimp only
  rw [written, last, stored]

/-- The kernel's result: the product of the two matrices, the first one transposed, in eight groups of columns. -/
theorem result (q : Fin 8) (r : Fin 1024) (s : Fin 768) :
    @Eq EReal (Value.G2 m c (ix4 (0 : Fin 1) q r s))
      (∑ k : Fin 8320, left m c (ix2 k r) * entry (right m c) k q s) := by
  have hq := q.isLt
  have hr := r.isLt
  have hN : cfg0.N = 40 := N_0
  have hs := s.isLt
  have hpt : Value.pt2Of (ix4 (0 : Fin 1) q r s) = 5 * q.val + 4 := by
    show 5 * (8 * (0 / 1 - 0) + 1 * (q.val / 1 - 0) + 1 * (r.val / 1024 - 0) + 1 * (s.val / 768 - 0)) + 4 = _
    omega
  have hloc : Value.loc2Of (ix4 (0 : Fin 1) q r s) = ix4 (0 : Fin 1) (0 : Fin 1) r s := by
    funext a; apply Fin.ext
    match a with
    | ⟨0, _⟩ => show 0 % 1 = 0; omega
    | ⟨1, _⟩ => show q.val % 1 = 0; omega
    | ⟨2, _⟩ => show r.val % 1024 = r.val; omega
    | ⟨3, _⟩ => show s.val % 768 = s.val; omega
  unfold Value.G2
  rw [dif_pos (by rw [hpt]; omega), hloc, Value.fold0_congr m c _ _ (5 * q.val + 4) (by omega) hpt,
    ← Value.outsAt0_sweep m c (5 * q.val + 4) (by omega), out_last m c _ _ (by omega), accumulated]
  refine Finset.sum_congr rfl fun k _ => ?_
  unfold term
  rw [dif_pos ⟨k.isLt, hq⟩]

/-- The halves side by side, read in group `q`. -/
theorem side_by_side (b : FVec Ideal S2x8320x3072 .bf16) (k : Fin 8320) (q : Fin 8) (s : Fin 768) :
    val_main_v4 (F := Ideal) b (ix2 k (⟨768 * q.val + s.val, by omega⟩ : Fin 6144))
      = entry b k q s := by
  have hq := q.isLt
  have hk := k.isLt
  have hs := s.isLt
  unfold val_main_v4
  by_cases h : q.val < 4
  · refine (concatenate_pair_apply_left (t := WFfnInReferenceIdeal.S8320x6144) (s₁ := WFfnInReferenceIdeal.S8320x3072) (s₂ := WFfnInReferenceIdeal.S8320x3072) 1
      (val_main_v1 (F := Ideal) b) (val_main_v3 (F := Ideal) b) _ _ rfl
      (ix2 k (⟨768 * q.val + s.val, by omega⟩ : Fin 3072)) ?_).trans ?_
    · intro d
      match d with
      | ⟨0, _⟩ => rfl
      | ⟨1, _⟩ => rfl
    rw [val_main_v1_apply, val_main_v0_apply]
    refine congrArg b (funext fun d => Fin.ext ?_)
    match d with
    | ⟨0, _⟩ => show 0 = q.val / 4; omega
    | ⟨1, _⟩ => show (k.val * 3072 + (768 * q.val + s.val)) / 3072 % 8320 = k.val; omega
    | ⟨2, _⟩ => show (k.val * 3072 + (768 * q.val + s.val)) % 3072 = 768 * (q.val % 4) + s.val; omega
  · refine (concatenate_pair_apply_right (t := WFfnInReferenceIdeal.S8320x6144) (s₁ := WFfnInReferenceIdeal.S8320x3072) (s₂ := WFfnInReferenceIdeal.S8320x3072) 1
      (val_main_v1 (F := Ideal) b) (val_main_v3 (F := Ideal) b) _ _ rfl rfl
      (ix2 k (⟨768 * q.val + s.val - 3072, by omega⟩ : Fin 3072)) ?_ ?_).trans ?_
    · intro d hd
      match d with
      | ⟨0, _⟩ => rfl
      | ⟨1, _⟩ => exact absurd rfl hd
    · show 768 * q.val + s.val - 3072 + 3072 = 768 * q.val + s.val
      omega
    rw [val_main_v3_apply, val_main_v2_apply]
    refine congrArg b (funext fun d => Fin.ext ?_)
    match d with
    | ⟨0, _⟩ => show 1 + 0 = q.val / 4; omega
    | ⟨1, _⟩ => show (k.val * 3072 + (768 * q.val + s.val - 3072)) / 3072 % 8320 = k.val; omega
    | ⟨2, _⟩ => show (k.val * 3072 + (768 * q.val + s.val - 3072)) % 3072 = 768 * (q.val % 4) + s.val; omega

/-- The reference's entry is the same sum. -/
theorem reference (a : FVec Ideal S8320x1024 .bf16) (b : FVec Ideal S2x8320x3072 .bf16) (q : Fin 8) (r : Fin 1024) (s : Fin 768) :
    val_main_v13 (F := Ideal) a b (ix4 (0 : Fin 1) q r s)
      = ∑ k : Fin 8320, a (ix2 k r) * entry b k q s := by
  have hq := q.isLt
  have hr := r.isLt
  have hs := s.isLt
  rw [val_main_v13_apply, val_main_v12_apply,
    val_main_v11_apply, val_main_v10_apply]
  refine (val_main_v9_apply a b _).trans (Finset.sum_congr rfl fun k _ => ?_)
  rw [mul_comm, ← side_by_side b k q s]
  refine congrArg₂ (fun x y : EReal => x * y) (congrArg a (funext fun d => Fin.ext ?_))
    (congrArg (val_main_v4 (F := Ideal) b) (funext fun d => Fin.ext ?_))
  · match d with
    | ⟨0, _⟩ => rfl
    | ⟨1, _⟩ =>
      show (((0 * 1024 + r.val) * 8 + q.val) * 768 + s.val) / 6144 = r.val
      omega
  · match d with
    | ⟨0, _⟩ => rfl
    | ⟨1, _⟩ =>
      show (((0 * 1024 + r.val) * 8 + q.val) * 768 + s.val) % 6144 = 768 * q.val + s.val
      omega

/-- The reference runs, and ends with the array that its lines compute. -/
theorem run_reference (m : (ℓ : Loc WFfnInReferenceIdeal.nD WFfnInReferenceIdeal.τ WFfnInReferenceIdeal.sig) → Buf (Elt Ideal) ℓ)
    (g : Dev WFfnInReferenceIdeal.nD → PrngReg) :
    θ_run (WFfnInReferenceIdeal.defs (F := Ideal)) (onTc (τ := WFfnInReferenceIdeal.τ) (WFfnInReferenceIdeal.main (F := Ideal)))
      ⟨m, fun _ => 0, g⟩ fun r => ∀ c : Dev WFfnInReferenceIdeal.nD,
        r.2.mem ((c.tc : Thread WFfnInReferenceIdeal.nD WFfnInReferenceIdeal.τ).loc WFfnInReferenceIdeal.main_v13)
          = val_main_v13 (F := Ideal) (m (c, WFfnInReferenceIdeal.main_arg0)) (m (c, WFfnInReferenceIdeal.main_arg1))
        ∧ r.2.mem ((c.tc : Thread WFfnInReferenceIdeal.nD WFfnInReferenceIdeal.τ).loc WFfnInReferenceIdeal.main_arg0)
          = m ((c.tc : Thread WFfnInReferenceIdeal.nD WFfnInReferenceIdeal.τ).loc WFfnInReferenceIdeal.main_arg0)
        ∧ r.2.mem ((c.tc : Thread WFfnInReferenceIdeal.nD WFfnInReferenceIdeal.τ).loc WFfnInReferenceIdeal.main_arg1)
          = m ((c.tc : Thread WFfnInReferenceIdeal.nD WFfnInReferenceIdeal.τ).loc WFfnInReferenceIdeal.main_arg1) :=
  (θ_run WFfnInReferenceIdeal.defs _ _).mono
    (fun _ h c => ⟨(h c).1.trans (val_main_v13_eq _ _), (h c).2⟩)
    (WFfnInReferenceIdeal.Value.run (F := Ideal) m g)

/-- The reference leaves its arguments and counters alone. -/
theorem quiescent_reference : quiescent_WFfnInReferenceIdeal (hWFfnInReferenceIdeal := WFfnInReferenceIdeal.Gen.facts) := fun m g _ =>
  (θ_run WFfnInReferenceIdeal.defs _ _).mono (fun r h => ⟨fun c => (h c).2, sem_eq_zero_of_no_sems (by decide) r.2⟩) (run_reference m g)

/-- The kernel's result is the reference's. -/
theorem algebraic : algebraic_WFfnInIdeal_WFfnInReferenceIdeal (hWFfnInIdeal := Gen.facts)
    (hWFfnInReferenceIdeal := WFfnInReferenceIdeal.Gen.facts) := by
  intro m g m' g' _ hagree
  refine ⟨fun c => Value.G2 m c, Value.run m g, ?_⟩
  refine (θ_run WFfnInReferenceIdeal.defs _ _).mono (fun r h c => ⟨(h c).1.trans ?_, (h c).2⟩) (run_reference m' g')
  obtain ⟨a0, a1⟩ := hagree c
  refine (congr (congrArg (val_main_v13 (F := Ideal)) a0) a1).trans (funext fun i => ?_)
  obtain ⟨p, r, s, rfl⟩ : ∃ (p : Fin 8) (r : Fin 1024) (s : Fin 768), i = ix4 (0 : Fin 1) p r s := ⟨i 1, i 2, i 3, funext fun d => match d with
    | ⟨0, _⟩ => Subsingleton.elim (α := Fin 1) _ _
    | ⟨1, _⟩ => rfl
    | ⟨2, _⟩ => rfl
    | ⟨3, _⟩ => rfl⟩
  exact (reference (left m c) (right m c) p r s).trans (result m c p r s).symm

end Cert.WFfnInIdeal.Product

end
-- ==== Proof.FfnReal.lean ====
/- The backward pass of the feed-forward block in real numbers, and the two ways of writing it that the programs use: the
   gradient through the norm by the chain rule, and sums over the hidden columns taken group by group. -/
module

public import proofs.«01_k».proof.Proof.Rows
public import Mathlib.Algebra.BigOperators.Fin

@[expose] public section

set_option maxRecDepth 16384

noncomputable section

namespace Ffn

open Idealize.ShloMosaic Retention

theorem bits_1024 : Ideal.ofBits .f32 0x44800000#32 = ((1024 : ℝ) : EReal) :=
  bits_pos _ 137 0 _ (by decide) (by decide) (by decide) (by decide) (by decide) (by norm_num)

/-! ### A row -/

section Row

variable (x d : Fin 1024 → ℝ)

/-- The number under the root. -/
def under : ℝ := (∑ j, x j * x j) * (1 / 1024) + eps

theorem under_pos : 0 < under x := by
  unfold under
  have h : 0 ≤ ∑ j : Fin 1024, x j * x j := Finset.sum_nonneg fun j _ => mul_self_nonneg _
  have := eps_pos
  linarith

/-- The factor that normalises a row. -/
def nf : ℝ := (Real.sqrt (under x))⁻¹

/-- The gradient through the norm. -/
def through (j : Fin 1024) : ℝ := nf x * (d j - x j * nf x * ((∑ k, d k * (x k * nf x)) * (1 / 1024)))

/-- The same by the chain rule: through the factor, and twice through the square. -/
theorem through_chain (j : Fin 1024) :
    d j * nf x + x j * ((∑ k, x k * d k) * (-(1 / 2) * (nf x * (1 / under x))) * (1 / 1024))
      + ((∑ k, x k * d k) * (-(1 / 2) * (nf x * (1 / under x))) * (1 / 1024)) * x j = through x d j := by
  have hu := under_pos x
  have hs : nf x * nf x = 1 / under x := by
    unfold nf
    rw [← mul_inv, Real.mul_self_sqrt hu.le, one_div]
  have hm : ∑ k, d k * (x k * nf x) = nf x * ∑ k, x k * d k := by
    rw [Finset.mul_sum]
    exact Finset.sum_congr rfl fun k _ => by ring
  unfold through
  rw [hm, ← hs]
  ring

end Row

/-! ### The groups of hidden columns -/

/-- Column `r` of matrix `e` of the first weights. -/
def wide (e : Fin 8) (r : Fin 768) : Fin 6144 := ⟨768 * e.val + r.val, by omega⟩

/-- A sum over all columns is the sum over the matrices. -/
theorem sum_wide (f : Fin 6144 → ℝ) : ∑ c, f c = ∑ e : Fin 8, ∑ r : Fin 768, f (wide e r) := by
  rw [← Fintype.sum_prod_type']
  refine ((finProdFinEquiv (m := 8) (n := 768)).sum_comp f).symm.trans (Finset.sum_congr rfl fun p _ => congrArg f (Fin.ext ?_))
  show p.2.val + 768 * p.1.val = 768 * p.1.val + p.2.val
  omega

/-- The up half's matrix of a group, and the gate half's. -/
def up (d : Fin 4) : Fin 8 := ⟨d.val + 4, by omega⟩
def gate (d : Fin 4) : Fin 8 := ⟨d.val, by omega⟩

/-- The arguments: the gradient of the block's output, the block's input, the norm's weights and the two weight matrices by
    group. -/
structure Data where
  H : Fin 8320 → Fin 1024 → ℝ
  X : Fin 8320 → Fin 1024 → ℝ
  w : Fin 1024 → ℝ
  Wi : Fin 8 → Fin 1024 → Fin 768 → ℝ
  Wo : Fin 4 → Fin 768 → Fin 1024 → ℝ

namespace Data

variable (D : Data)

/-- The normalised input. -/
def nh (t : Fin 8320) (j : Fin 1024) : ℝ := D.X t j * nf (D.X t)
/-- The hidden columns of matrix `e`. -/
def hid (e : Fin 8) (t : Fin 8320) (r : Fin 768) : ℝ := ∑ j, D.nh t j * D.w j * D.Wi e j r
/-- The gradient of the activations. -/
def act (d : Fin 4) (t : Fin 8320) (r : Fin 768) : ℝ := ∑ j, D.H t j * D.Wo d r j
/-- The gradient of the gate columns. -/
def dG (d : Fin 4) (t : Fin 8320) (r : Fin 768) : ℝ :=
  D.act d t r * D.hid (up d) t r * (sgm (D.hid (gate d) t r) * (1 + D.hid (gate d) t r * (1 - sgm (D.hid (gate d) t r))))
/-- The gradient of the up columns. -/
def dU (d : Fin 4) (t : Fin 8320) (r : Fin 768) : ℝ := D.act d t r * (D.hid (gate d) t r * sgm (D.hid (gate d) t r))
/-- What a group adds to the gradient of the normalised and weighted input. -/
def part (d : Fin 4) (t : Fin 8320) (j : Fin 1024) : ℝ := (∑ r, D.dG d t r * D.Wi (gate d) j r) + ∑ r, D.dU d t r * D.Wi (up d) j r
/-- The gradient of the normalised and weighted input. -/
def dN (t : Fin 8320) (j : Fin 1024) : ℝ := D.part 0 t j + D.part 1 t j + D.part 2 t j + D.part 3 t j
/-- The gradient of the norm's weights. -/
def dW (j : Fin 1024) : ℝ := ∑ t, D.dN t j * D.nh t j
/-- The gradient of the block's input. -/
def dX (t : Fin 8320) (j : Fin 1024) : ℝ := D.H t j + through (D.X t) (fun j => D.dN t j * D.w j) j

/-- The gradient of hidden column `c`: the gate's columns are the first half. -/
def dHid (t : Fin 8320) (e : Fin 8) (r : Fin 768) : ℝ :=
  if h : e.val < 4 then D.dG ⟨e.val, h⟩ t r else D.dU ⟨e.val - 4, by omega⟩ t r

/-- The gradient of the weighted input as one sum over the hidden columns. -/
theorem dN_eq (t : Fin 8320) (j : Fin 1024) : ∑ e : Fin 8, ∑ r : Fin 768, D.dHid t e r * D.Wi e j r = D.dN t j := by
  rw [Fin.sum_univ_eight]
  show (((((((∑ r, D.dG 0 t r * D.Wi (gate 0) j r) + (∑ r, D.dG 1 t r * D.Wi (gate 1) j r)) + (∑ r, D.dG 2 t r * D.Wi (gate 2) j r))
    + (∑ r, D.dG 3 t r * D.Wi (gate 3) j r)) + (∑ r, D.dU 0 t r * D.Wi (up 0) j r)) + (∑ r, D.dU 1 t r * D.Wi (up 1) j r))
    + (∑ r, D.dU 2 t r * D.Wi (up 2) j r)) + (∑ r, D.dU 3 t r * D.Wi (up 3) j r) = _
  unfold dN part
  ring

end Data

end Ffn
-- ==== Proof.FfnStep.lean ====
/- The backward pass of the feed-forward block: what one grid step stores, and what its stores leave.
   `Loads` holds the blocks a step loads, by group of hidden columns. `dg`, `du` are the gradients of a group's gate and up
   columns, `back` the gradient of the normalised input, `input` the input's gradient; the norm's weight gradient is added to
   row 0 of an accumulator that the first step clears. -/
module

public import proofs.«01_k».proof.Proof.FfnReal
public import proofs.«01_k».proof.Proof.Gen.FfnIdeal.Value
public import Idealize.ShloMosaic.Lib.ValueIdx

@[expose] public section

set_option maxRecDepth 16384

noncomputable section

namespace Cert.FfnIdeal.Product

open Cert.FfnIdeal Cert.FfnIdeal.Gen Idealize.ShloMosaic Idealize.ShloMosaic.TcCoe Idealize.SL.Sem

variable {F : FTy → Type}

theorem zero2 : (![0, 0] : Fin 2 → ℕ) = fun _ => 0 := funext fun a => match a with
  | ⟨0, _⟩ => rfl
  | ⟨1, _⟩ => rfl

theorem inbCol (d : Fin 4) : ∀ a, (![0, 768 * d.val] : Fin 2 → ℕ) a + (![320, 768] : Fin 2 → ℕ) a ≤ S320x3072.size a := by
  intro a; match a with
  | ⟨0, _⟩ => show 0 + 320 ≤ 320; omega
  | ⟨1, _⟩ => show 768 * d.val + 768 ≤ 3072; omega

theorem inbOut (p : Fin 2) (d : Fin 4) :
    ∀ a, (![p.val, 0, 768 * d.val] : Fin 3 → ℕ) a + (![1, 320, 768] : Fin 3 → ℕ) a ≤ S2x320x3072.size a := by
  intro a; match a with
  | ⟨0, _⟩ => show p.val + 1 ≤ 2; omega
  | ⟨1, _⟩ => show 0 + 320 ≤ 320; omega
  | ⟨2, _⟩ => show 768 * d.val + 768 ≤ 3072; omega

theorem inbWi (e : Fin 8) : ∀ a, (![e.val, 0, 0] : Fin 3 → ℕ) a + (![1, 1024, 768] : Fin 3 → ℕ) a ≤ S8x1024x768.size a := by
  intro a; match a with
  | ⟨0, _⟩ => show e.val + 1 ≤ 8; omega
  | ⟨1, _⟩ => show 0 + 1024 ≤ 1024; omega
  | ⟨2, _⟩ => show 0 + 768 ≤ 768; omega

theorem inbWo (d : Fin 4) : ∀ a, (![d.val, 0, 0] : Fin 3 → ℕ) a + (![1, 768, 1024] : Fin 3 → ℕ) a ≤ S4x768x1024.size a := by
  intro a; match a with
  | ⟨0, _⟩ => show d.val + 1 ≤ 4; omega
  | ⟨1, _⟩ => show 0 + 768 ≤ 768; omega
  | ⟨2, _⟩ => show 0 + 1024 ≤ 1024; omega

theorem inbAcc : ∀ a, (![0, 0] : Fin 2 → ℕ) a + (![1, 1024] : Fin 2 → ℕ) a ≤ S8x1024.size a := by
  intro a; match a with
  | ⟨0, _⟩ => show 0 + 1 ≤ 8; omega
  | ⟨1, _⟩ => show 0 + 1024 ≤ 1024; omega

/-- The hidden columns of group `d`. -/
def colRect (d : Fin 4) : Rect S320x3072 := Rect.unit (s := S320x3072) ![0, 768 * d.val] ![320, 768] (inbCol d)
/-- The columns of group `d` in the gate's part (`p = 0`) or the up part of the result block. -/
def outRect (p : Fin 2) (d : Fin 4) : Rect S2x320x3072 := Rect.unit (s := S2x320x3072) ![p.val, 0, 768 * d.val] ![1, 320, 768] (inbOut p d)
/-- Matrix `e` of the first weights. -/
def wiRect (e : Fin 8) : Rect S8x1024x768 := Rect.unit (s := S8x1024x768) ![e.val, 0, 0] ![1, 1024, 768] (inbWi e)
/-- Matrix `d` of the second weights. -/
def woRect (d : Fin 4) : Rect S4x768x1024 := Rect.unit (s := S4x768x1024) ![d.val, 0, 0] ![1, 768, 1024] (inbWo d)
/-- Row 0 of the accumulator. -/
def accRect : Rect S8x1024 := Rect.unit (s := S8x1024) ![0, 0] ![1, 1024] inbAcc

/-- Hidden column `r` of group `d`. -/
def col (d : Fin 4) (r : Fin 768) : Fin 3072 := ⟨768 * d.val + r.val, by omega⟩

/-- The blocks a grid step loads. -/
structure Loads (F : FTy → Type) where
  h : FVec F S320x1024 .f32
  g : Fin 4 → FVec F S320x768 .bf16
  u : Fin 4 → FVec F S320x768 .bf16
  x : FVec F S320x1024 .f32
  w : FVec F S1x1024 .f32
  wi : Fin 8 → FVec F S1x1024x768 .bf16
  wo : Fin 4 → FVec F S1x768x1024 .bf16

section Ops

variable [FloatOps F] (L : Loads F)

/-- The gradient of a group's gate columns. -/
def dg (d : Fin 4) : FVec F S320x768 .bf16 := k0_pay10 L.h (L.wo d) (L.g d) (L.u d)
/-- The gradient of a group's up columns. -/
def du (d : Fin 4) : FVec F S320x768 .bf16 := k0_pay11 L.h (L.wo d) (L.g d)
def grad (p : Fin 2) (d : Fin 4) : FVec F S320x768 .bf16 := match p with
  | 0 => dg L d
  | 1 => du L d
/-- What a group adds to the gradient of the normalised input. -/
def part (d : Fin 4) : FVec F S320x1024 .f32 := k0_pay14 (dg L d) (du L d) (L.wi (Ffn.gate d)) (L.wi (Ffn.up d))
/-- The gradient of the normalised input. -/
def back : FVec F S320x1024 .f32 := addf (addf (addf (part L 0) (part L 1)) (part L 2)) (part L 3)
/-- The gradient of the block's input. -/
def input : FVec F S320x1024 .f32 := k0_pay4 L.h (back L) L.x L.w

def piece (p : Fin 2) (d : Fin 4) : View.Piece (Elt F) S2x320x3072 .bf16 := ⟨outRect p d, k0_pay13 (grad L p d)⟩
/-- The stores into the block of gate and up gradients, the latest first. -/
def pieces : List (View.Piece (Elt F) S2x320x3072 .bf16) :=
  [piece L 1 3, piece L 0 3, piece L 1 2, piece L 0 2, piece L 1 1, piece L 0 1, piece L 1 0, piece L 0 0]

/-- A later step's store into the accumulator, whose row 0 held `a`. -/
def later (a : FVec F S1x1024 .f32) : List (View.Piece (Elt F) S8x1024 .f32) := [⟨accRect, k0_pay3 (back L) L.x a⟩]
/-- The store that clears the accumulator. -/
def cleared : List (View.Piece (Elt F) S8x1024 .f32) := [⟨Rect.unit (s := S8x1024) ![0, 0] S8x1024.size inb_S8x1024_S8x1024_0_0, k0_pay5⟩]
/-- The first step's stores into the accumulator. -/
def first {κ : Kind} {sp : Space} (v : View sig κ sp S8x1024 .f32) : List (View.Piece (Elt F) S8x1024 .f32) :=
  ⟨accRect, k0_pay3 (back L) L.x (v.readCov (cleared (F := F)) accRect.toLoadRect)⟩ :: cleared

/-! ### What the stores leave -/

theorem emb_out (p : Fin 2) (d : Fin 4) (s : Fin 320) (r : Fin 768) :
    (outRect p d).emb (ValueIdx.ix3 (0 : Fin 1) s r : S1x320x768.Idx) = (ValueIdx.ix3 p s (col d r) : S2x320x3072.Idx) := by
  funext a
  match a with
  | ⟨0, _⟩ => exact Fin.ext (by show p.val + 1 * 0 = p.val; omega)
  | ⟨1, _⟩ => exact Fin.ext (by show 0 + 1 * s.val = s.val; omega)
  | ⟨2, _⟩ => exact Fin.ext (by show 768 * d.val + 1 * r.val = 768 * d.val + r.val; omega)

/-- The block the stores write. -/
def block (y : S2x320x3072.Idx) : F .bf16 :=
  grad L (y 0) ⟨(y 2).val / 768, by have h : (y 2).val < 3072 := (y 2).isLt; omega⟩
    (ValueIdx.ix2 (y 1) (⟨(y 2).val % 768, Nat.mod_lt _ (by decide)⟩ : Fin 768))

theorem block_at (p : Fin 2) (d : Fin 4) (s : Fin 320) (r : Fin 768) :
    block L (ValueIdx.ix3 p s (col d r)) = grad L p d (ValueIdx.ix2 s r) := by
  have e1 : (768 * d.val + r.val) / 768 = d.val := by omega
  have e2 : (768 * d.val + r.val) % 768 = r.val := by omega
  show grad L p ⟨(768 * d.val + r.val) / 768, _⟩ (ValueIdx.ix2 s (⟨(768 * d.val + r.val) % 768, _⟩ : Fin 768)) = _
  rw [show (⟨(768 * d.val + r.val) / 768, by omega⟩ : Fin 4) = d from Fin.ext e1,
    show (⟨(768 * d.val + r.val) % 768, by omega⟩ : Fin 768) = r from Fin.ext e2]

theorem stored (x : FVec F S320x768 .bf16) (s : Fin 320) (r : Fin 768) : k0_pay13 x (ValueIdx.ix3 (0 : Fin 1) s r) = x (ValueIdx.ix2 s r) := by
  unfold k0_pay13
  refine shapeCast_apply _ _ _ (ValueIdx.ix2 s r) ?_
  rw [Shape.rowMajor_val_three, Shape.rowMajor_val_two]
  show s.val * 768 + r.val = (0 * 320 + s.val) * 768 + r.val
  omega

theorem piece_block (p : Fin 2) (d : Fin 4) (x : S1x320x768.Idx) : k0_pay13 (grad L p d) x = block L ((outRect p d).emb x) := by
  obtain ⟨s, r, rfl⟩ : ∃ (s : Fin 320) (r : Fin 768), x = ValueIdx.ix3 (0 : Fin 1) s r := by
    refine ⟨x 1, x 2, ?_⟩
    funext a
    match a with
    | ⟨0, _⟩ => exact Fin.ext (by have h : (x 0).val < 1 := (x 0).isLt; show (x 0).val = 0; omega)
    | ⟨1, _⟩ => rfl
    | ⟨2, _⟩ => rfl
  rw [stored, emb_out, block_at]

theorem pieces_block : ∀ q ∈ pieces L, ∀ x, q.2 x = block L (q.1.emb x) := by
  intro q hq
  simp only [pieces, List.mem_cons, List.not_mem_nil, or_false] at hq
  rcases hq with rfl | rfl | rfl | rfl | rfl | rfl | rfl | rfl
  · exact piece_block L 1 3
  · exact piece_block L 0 3
  · exact piece_block L 1 2
  · exact piece_block L 0 2
  · exact piece_block L 1 1
  · exact piece_block L 0 1
  · exact piece_block L 1 0
  · exact piece_block L 0 0

theorem pieces_mem (p : Fin 2) (d : Fin 4) : piece L p d ∈ pieces L := by
  fin_cases p <;> fin_cases d <;> simp [pieces]

/-- What the stores leave of the gate and up gradients. -/
theorem canon_pieces (p : Fin 2) (d : Fin 4) (s : Fin 320) (r : Fin 768) :
    View.canon (pieces L) (ValueIdx.ix3 p s (col d r)) = grad L p d (ValueIdx.ix2 s r) := by
  rw [← block_at]
  refine View.canon_apply_of_pieces (block L) _ (pieces_block L) _ ⟨_, pieces_mem L p d, ?_⟩
  rw [← emb_out]
  exact (outRect p d).idx_mem _

theorem emb_acc (j : Fin 1024) : accRect.emb (ValueIdx.ix2 (0 : Fin 1) j : S1x1024.Idx) = (ValueIdx.ix2 (0 : Fin 8) j : S8x1024.Idx) := by
  funext a
  match a with
  | ⟨0, _⟩ => rfl
  | ⟨1, _⟩ => exact Fin.ext (by show 0 + 1 * j.val = j.val; omega)

theorem not_mem_acc (e : Fin 8) (he : e ≠ 0) (j : Fin 1024) : (ValueIdx.ix2 e j : S8x1024.Idx) ∉ accRect.set := by
  intro hm
  obtain ⟨x, hx⟩ := accRect.exists_idx_of_mem hm
  have h1 : (x 0).val < 1 := (x 0).isLt
  have e0 : 0 + 1 * (x 0).val = e.val := congrArg (fun y : S8x1024.Idx => (y 0).val) hx
  exact he (Fin.ext (by show e.val = 0; omega))

/-- Zeros, as row 0 of the cleared accumulator. -/
def zeroRow (F : FTy → Type) [FloatOps F] : FVec F S1x1024 .f32 := fun _ => Scalar.ofBits .f32 0x00000000#32

theorem cleared_row {κ : Kind} {sp : Space} (v : View sig κ sp S8x1024 .f32) :
    v.readCov (cleared (F := F)) accRect.toLoadRect = zeroRow F := by
  rw [View.readCov_eq_canon']
  funext x
  unfold cleared
  rw [View.canon_unit_zero zero2]
  rfl

/-- Row 0 of the accumulator after the first step. -/
theorem first_row {κ : Kind} {sp : Space} (v : View sig κ sp S8x1024 .f32) (j : Fin 1024) :
    View.canon (first L v) (ValueIdx.ix2 (0 : Fin 8) j) = k0_pay3 (back L) L.x (zeroRow F) (ValueIdx.ix2 (0 : Fin 1) j) := by
  rw [← emb_acc]
  refine (View.canon_cons_emb accRect _ _ _).trans ?_
  rw [cleared_row]

/-- The other rows of the accumulator after the first step. -/
theorem first_rest {κ : Kind} {sp : Space} (v : View sig κ sp S8x1024 .f32) (e : Fin 8) (he : e ≠ 0) (j : Fin 1024) :
    View.canon (first L v) (ValueIdx.ix2 e j) = Scalar.ofBits .f32 0x00000000#32 := by
  refine (View.canon_cons_of_not_mem _ _ (not_mem_acc e he j)).trans ?_
  unfold cleared
  rw [View.canon_unit_zero zero2]
  rfl

end Ops

/-- The blocks a step loads, as parts of its windows' blocks. -/
def blockLoads (x0 : Vec F S320x1024 .f32) (x1 x2 : Vec F S320x3072 .bf16) (x3 : Vec F S320x1024 .f32) (x4 : Vec F S1x1024 .f32)
    (x5 : Vec F S8x1024x768 .bf16) (x6 : Vec F S4x768x1024 .bf16) : Loads F where
  h := x0
  g d := fun x => x1 ((colRect d).idx x)
  u d := fun x => x2 ((colRect d).idx x)
  x := x3
  w := x4
  wi e := fun x => x5 ((wiRect e).idx x)
  wo d := fun x => x6 ((woRect d).idx x)

section Case

variable (c : Dev nD) (i : grid0.Coords) (arg1 : Memref sig .tc .vmem S320x1024 .f32) (harg1 : arg1.IsWhole)
  (arg2 : Memref sig .tc .vmem S320x3072 .bf16) (harg2 : arg2.IsWhole) (arg3 : Memref sig .tc .vmem S320x3072 .bf16) (harg3 : arg3.IsWhole)
  (arg4 : Memref sig .tc .vmem S320x1024 .f32) (harg4 : arg4.IsWhole) (arg5 : Memref sig .tc .vmem S1x1024 .f32) (harg5 : arg5.IsWhole)
  (arg6 : Memref sig .tc .vmem S8x1024x768 .bf16) (harg6 : arg6.IsWhole) (arg7 : Memref sig .tc .vmem S4x768x1024 .bf16) (harg7 : arg7.IsWhole)
  (arg8 : Memref sig .tc .vmem S2x320x3072 .bf16) (harg8 : arg8.IsWhole) (arg9 : Memref sig .tc .vmem S320x1024 .f32) (harg9 : arg9.IsWhole)
  (arg10 : Memref sig .tc .vmem S8x1024 .f32) (harg10 : arg10.IsWhole)
  (x0 : Vec F S320x1024 .f32) (x1 x2 : Vec F S320x3072 .bf16) (x3 : Vec F S320x1024 .f32) (x4 : Vec F S1x1024 .f32)
  (x5 : Vec F S8x1024x768 .bf16) (x6 : Vec F S4x768x1024 .bf16) (xo9 : Vec F S8x1024 .f32)

/-- The blocks a step loads from its windows. -/
def loads : Loads F where
  h := View.readAt (Elt F) arg1.view (Rect.unit (s := S320x1024) ![0, 0] S320x1024.size inb_S320x1024_S320x1024_0_0).toLoadRect (harg1.unread x0)
  g d := View.readAt (Elt F) arg2.view (colRect d).toLoadRect (harg2.unread x1)
  u d := View.readAt (Elt F) arg3.view (colRect d).toLoadRect (harg3.unread x2)
  x := View.readAt (Elt F) arg4.view (Rect.unit (s := S320x1024) ![0, 0] S320x1024.size inb_S320x1024_S320x1024_0_0).toLoadRect (harg4.unread x3)
  w := View.readAt (Elt F) arg5.view (Rect.unit (s := S1x1024) ![0, 0] S1x1024.size inb_S1x1024_S1x1024_0_0).toLoadRect (harg5.unread x4)
  wi e := View.readAt (Elt F) arg6.view (wiRect e).toLoadRect (harg6.unread x5)
  wo d := View.readAt (Elt F) arg7.view (woRect d).toLoadRect (harg7.unread x6)

theorem loads_eq : loads arg1 harg1 arg2 harg2 arg3 harg3 arg4 harg4 arg5 harg5 arg6 harg6 arg7 harg7 x0 x1 x2 x3 x4 x5 x6 = blockLoads x0 x1 x2 x3 x4 x5 x6 := by
  unfold loads
  simp only [View.readAt_eq_ld, Memref.IsWhole.read_unread, View.ld_unit_zero (S := S320x1024) zero2, View.ld_unit_zero (S := S1x1024) zero2]
  rfl

variable [FloatOps F]

local notation "X" => loads arg1 harg1 arg2 harg2 arg3 harg3 arg4 harg4 arg5 harg5 arg6 harg6 arg7 harg7 x0 x1 x2 x3 x4 x5 x6

set_option maxHeartbeats 4000000 in
/-- A first step's stores into the block of gate and up gradients. -/
theorem pieces_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6).1 = pieces (X) := by
  dsimp only [pieces, piece, grad, dg, du, part, back, first, later, loads]
  exact rfl

set_option maxHeartbeats 4000000 in
/-- A first step's store into the block of input gradients. -/
theorem input_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6).2.1 = [⟨Rect.unit (s := S320x1024) ![0, 0] S320x1024.size inb_S320x1024_S320x1024_0_0, input (X)⟩] := by
  dsimp only [input, grad, dg, du, part, back, loads]
  exact rfl

set_option maxHeartbeats 4000000 in
/-- A first step's stores into the gradient of the norm's weights. -/
theorem weights_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6).2.2.1 = first (X) arg10.view := by
  dsimp only [pieces, piece, grad, dg, du, part, back, first, later, loads]
  exact rfl

set_option maxHeartbeats 4000000 in
/-- A later step's stores into the block of gate and up gradients. -/
theorem pieces_B (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 x6 xo9).1 = pieces (X) := by
  dsimp only [pieces, piece, grad, dg, du, part, back, first, later, loads]
  exact rfl

set_option maxHeartbeats 4000000 in
/-- A later step's store into the block of input gradients. -/
theorem input_B (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 x6 xo9).2.1 = [⟨Rect.unit (s := S320x1024) ![0, 0] S320x1024.size inb_S320x1024_S320x1024_0_0, input (X)⟩] := by
  dsimp only [input, grad, dg, du, part, back, loads]
  exact rfl

set_option maxHeartbeats 4000000 in
/-- A later step's stores into the gradient of the norm's weights. -/
theorem weights_B (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 x6 xo9).2.2.1 = later (X) (View.readAt (Elt F) arg10.view accRect.toLoadRect (harg10.unread xo9)) := by
  dsimp only [pieces, piece, grad, dg, du, part, back, first, later, loads]
  exact rfl

theorem out7_A (hc0 : cond0_0 i) (p : Fin 2) (d : Fin 4) (s : Fin 320) (r : Fin 768) :
    out0_A_7 c i arg1 harg1 arg2 harg2 arg3 harg3 arg4 harg4 arg5 harg5 arg6 harg6 arg7 harg7 arg8 harg8 arg9 harg9 arg10 harg10 hc0 x0 x1 x2 x3 x4 x5 x6 (ValueIdx.ix3 p s (col d r)) =
      grad (blockLoads x0 x1 x2 x3 x4 x5 x6) p d (ValueIdx.ix2 s r) := by
  unfold out0_A_7
  rw [View.read_writes_junk_eq_canon, pieces_A, loads_eq]
  exact canon_pieces _ p d s r

theorem out8_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6 = input (blockLoads x0 x1 x2 x3 x4 x5 x6) := by
  unfold out0_A_8
  rw [View.read_writes_junk_eq_canon, input_A, loads_eq, View.canon_unit_zero zero2]

theorem out7_B (hc0 : ¬cond0_0 i) (p : Fin 2) (d : Fin 4) (s : Fin 320) (r : Fin 768) :
    out0_B_7 c i arg1 harg1 arg2 harg2 arg3 harg3 arg4 harg4 arg5 harg5 arg6 harg6 arg7 harg7 arg8 harg8 arg9 harg9 arg10 harg10 hc0 x0 x1 x2 x3 x4 x5 x6 xo9 (ValueIdx.ix3 p s (col d r)) =
      grad (blockLoads x0 x1 x2 x3 x4 x5 x6) p d (ValueIdx.ix2 s r) := by
  unfold out0_B_7
  rw [View.read_writes_junk_eq_canon, pieces_B, loads_eq]
  exact canon_pieces _ p d s r

theorem out8_B (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 x6 xo9 = input (blockLoads x0 x1 x2 x3 x4 x5 x6) := by
  unfold out0_B_8
  rw [View.read_writes_junk_eq_canon, input_B, loads_eq, View.canon_unit_zero zero2]

theorem row_A (hc0 : cond0_0 i) (j : Fin 1024) :
    out0_A_9 c i arg1 harg1 arg2 harg2 arg3 harg3 arg4 harg4 arg5 harg5 arg6 harg6 arg7 harg7 arg8 harg8 arg9 harg9 arg10 harg10 hc0 x0 x1 x2 x3 x4 x5 x6 (ValueIdx.ix2 (0 : Fin 8) j) =
      k0_pay3 (back (blockLoads x0 x1 x2 x3 x4 x5 x6)) x3 (zeroRow F) (ValueIdx.ix2 (0 : Fin 1) j) := by
  unfold out0_A_9
  rw [View.read_writes_junk_eq_canon, weights_A, loads_eq]
  exact first_row _ _ j

theorem rest_A (hc0 : cond0_0 i) (e : Fin 8) (he : e ≠ 0) (j : Fin 1024) :
    out0_A_9 c i arg1 harg1 arg2 harg2 arg3 harg3 arg4 harg4 arg5 harg5 arg6 harg6 arg7 harg7 arg8 harg8 arg9 harg9 arg10 harg10 hc0 x0 x1 x2 x3 x4 x5 x6 (ValueIdx.ix2 e j) = Scalar.ofBits .f32 0x00000000#32 := by
  unfold out0_A_9
  rw [View.read_writes_junk_eq_canon, weights_A, loads_eq]
  exact first_rest _ _ e he j

theorem row_B (hc0 : ¬cond0_0 i) (j : Fin 1024) :
    out0_B_9 c i arg1 harg1 arg2 harg2 arg3 harg3 arg4 harg4 arg5 harg5 arg6 harg6 arg7 harg7 arg8 harg8 arg9 harg9 arg10 harg10 hc0 x0 x1 x2 x3 x4 x5 x6 xo9 (ValueIdx.ix2 (0 : Fin 8) j) =
      k0_pay3 (back (blockLoads x0 x1 x2 x3 x4 x5 x6)) x3 (fun x => xo9 (accRect.idx x)) (ValueIdx.ix2 (0 : Fin 1) j) := by
  unfold out0_B_9
  rw [weights_B, loads_eq, View.readAt_eq_ld, Memref.IsWhole.read_unread, ← emb_acc]
  exact View.read_writes_cons_emb _ _ accRect _ _ _

theorem rest_B (hc0 : ¬cond0_0 i) (e : Fin 8) (he : e ≠ 0) (j : Fin 1024) :
    out0_B_9 c i arg1 harg1 arg2 harg2 arg3 harg3 arg4 harg4 arg5 harg5 arg6 harg6 arg7 harg7 arg8 harg8 arg9 harg9 arg10 harg10 hc0 x0 x1 x2 x3 x4 x5 x6 xo9 (ValueIdx.ix2 e j) = xo9 (ValueIdx.ix2 e j) := by
  unfold out0_B_9
  rw [weights_B]
  refine (View.read_writes_cons_miss _ _ _ _ _ (not_mem_acc e he j)).trans ?_
  exact congrFun (Memref.IsWhole.read_unread harg10 xo9) _

end Case

end Cert.FfnIdeal.Product
-- ==== Proof.FfnMeaning.lean ====
/- The operations of a grid step of the feed-forward block's backward pass, over blocks that hold real numbers. -/
module

public import proofs.«01_k».proof.Proof.FfnStep
public import proofs.«01_k».proof.Proof.FfnReal
public import Idealize.ShloMosaic.Lib.MatmulPlain
public import Idealize.ShloMosaic.Lib.Pointwise
public import Idealize.ShloMosaic.Lib.Pipeline.Value

@[expose] public section

set_option maxRecDepth 16384

noncomputable section

namespace Cert.FfnIdeal.Product

open Cert.FfnIdeal Cert.FfnIdeal.Gen Idealize.ShloMosaic Idealize.ShloMosaic.TcCoe
open Retention (sgm sgm_tanh bits_half bits_one bits_eps coe_sum)
open Ffn (Data bits_1024)

/-- A block is the real matrix `f`. -/
def Is {n k : ℕ} {φ : FTy} (x : FVec Ideal ⟨2, ![n, k]⟩ φ) (f : Fin n → Fin k → ℝ) : Prop :=
  ∀ i j, x (ValueIdx.ix2 i j) = ((f i j : ℝ) : EReal)

section Ops

variable {n k : ℕ} {φ : FTy} {a b : FVec Ideal ⟨2, ![n, k]⟩ φ} {f g : Fin n → Fin k → ℝ}

theorem Is.mul (ha : Is a f) (hb : Is b g) : Is (mulf a b) (fun i j => f i j * g i j) := fun i j => by
  show (a (ValueIdx.ix2 i j) : EReal) * b (ValueIdx.ix2 i j) = _
  rw [ha, hb, ← EReal.coe_mul]
theorem Is.add (ha : Is a f) (hb : Is b g) : Is (addf a b) (fun i j => f i j + g i j) := fun i j => by
  show (a (ValueIdx.ix2 i j) : EReal) + b (ValueIdx.ix2 i j) = _
  rw [ha, hb, ← EReal.coe_add]
theorem Is.sub (ha : Is a f) (hb : Is b g) : Is (subf a b) (fun i j => f i j - g i j) := fun i j => by
  show (a (ValueIdx.ix2 i j) : EReal) - b (ValueIdx.ix2 i j) = _
  rw [ha, hb, ← EReal.coe_sub]
theorem Is.congr (ha : Is a f) (h : ∀ i j, f i j = g i j) : Is a g := fun i j => by rw [ha, h]
theorem Is.trunc {ψ : FTy} (ha : Is a f) (h : ψ.bits < φ.bits) : Is (truncf ψ a h) f := ha
theorem Is.ext {ψ : FTy} (ha : Is a f) (h : φ.bits < ψ.bits) : Is (extf ψ a h) f := ha
theorem Is.tanh (ha : Is a f) : Is (tanh a) (fun i j => Real.tanh (f i j)) := fun i j => by
  show Ideal.tanh (a (ValueIdx.ix2 i j)) = _
  rw [ha, Ideal.tanh_coe]
theorem Is.self (ha : Is a f) (h : Shape.ShapeCasts (⟨2, ![n, k]⟩ : Shape) ⟨2, ![n, k]⟩) : Is (shapeCast ⟨2, ![n, k]⟩ a h) f := by
  rw [shapeCast_self]; exact ha
theorem is_num {n k : ℕ} {w : BitVec 32} {r : ℝ} (h : Ideal.ofBits .f32 w = (r : EReal)) :
    Is (broadcast ⟨2, ![n, k]⟩ (Scalar.ofBits (F := Ideal) .f32 w)) (fun _ _ => r) := fun _ _ => h

/-- A matrix kept under a unit axis. -/
theorem Is.drop {x : FVec Ideal ⟨3, ![1, n, k]⟩ φ} (hx : ∀ i j, x (ValueIdx.ix3 (0 : Fin 1) i j) = ((f i j : ℝ) : EReal))
    (h : Shape.ShapeCasts (⟨3, ![1, n, k]⟩ : Shape) ⟨2, ![n, k]⟩) : Is (shapeCast ⟨2, ![n, k]⟩ x h) f := fun i j => by
  rw [← hx i j]
  exact shapeCast_apply _ _ (ValueIdx.ix2 i j) (ValueIdx.ix3 0 i j) (by
    rw [Shape.rowMajor_val_three, Shape.rowMajor_val_two]
    show (0 * n + i.val) * k + j.val = i.val * k + j.val
    rw [zero_mul, zero_add])

end Ops

/-! ### Products with a transposed matrix -/

theorem Is.mmT {n k p : ℕ} {a : FVec Ideal ⟨2, ![n, k]⟩ .bf16} {b : FVec Ideal ⟨2, ![p, k]⟩ .bf16} {f : Fin n → Fin k → ℝ} {g : Fin p → Fin k → ℝ}
    (ha : Is a f) (hb : Is b g) :
    Is (matmul (DotDims.transposedRhs n k p) none a b (constant ⟨2, ![n, p]⟩ .f32 0x00000000#32)) (fun i j => ∑ r, f i r * g j r) := fun i j => by
  refine (Ideal.matmul_transposedRhs_apply (M := n) (K := k) (N := p) none a b _ i j).trans ?_
  rw [show constant (F := Ideal) ⟨2, ![n, p]⟩ .f32 0x00000000#32 (ValueIdx.ix2 i j) = 0 from Ideal.ofBits_zero_f32, zero_add, coe_sum]
  exact Finset.sum_congr rfl fun k _ => by rw [ha, hb, EReal.coe_mul]

/-! ### The gradients of the hidden columns -/

section Hidden

variable {h : FVec Ideal S320x1024 .f32} {wo : FVec Ideal S1x768x1024 .bf16} {g u : FVec Ideal S320x768 .bf16}
  {H : Fin 320 → Fin 1024 → ℝ} {W : Fin 768 → Fin 1024 → ℝ} {G U : Fin 320 → Fin 768 → ℝ}

theorem act_is (hh : Is h H) (hw : ∀ i j, wo (ValueIdx.ix3 (0 : Fin 1) i j) = ((W i j : ℝ) : EReal)) :
    Is (k0_pay7 h wo) (fun i r => ∑ j, H i j * W r j) := by
  unfold k0_pay7 k0_pay6
  exact Is.mmT (hh.trunc _) (Is.drop hw _)

theorem wide_is (hg : Is g G) : Is (k0_pay8 g) G := by
  unfold k0_pay8
  exact (hg.self _).ext _

theorem sgm_is (hg : Is g G) : Is (k0_pay9 g) (fun i r => sgm (G i r)) := by
  unfold k0_pay9
  exact (((is_num bits_half).mul ((is_num bits_half).mul (wide_is hg)).tanh).add (is_num bits_half)).congr fun i j => sgm_tanh (G i j)

theorem gate_is (hh : Is h H) (hw : ∀ i j, wo (ValueIdx.ix3 (0 : Fin 1) i j) = ((W i j : ℝ) : EReal)) (hg : Is g G) (hu : Is u U) :
    Is (k0_pay10 h wo g u) (fun i r => (∑ j, H i j * W r j) * U i r * (sgm (G i r) * (1 + G i r * (1 - sgm (G i r))))) := by
  unfold k0_pay10
  exact ((((act_is hh hw).mul ((hu.self _).ext _)).mul
    ((sgm_is hg).mul ((is_num bits_one).add ((wide_is hg).mul ((is_num bits_one).sub (sgm_is hg))))))).trunc _

theorem up_is (hh : Is h H) (hw : ∀ i j, wo (ValueIdx.ix3 (0 : Fin 1) i j) = ((W i j : ℝ) : EReal)) (hg : Is g G) :
    Is (k0_pay11 h wo g) (fun i r => (∑ j, H i j * W r j) * (G i r * sgm (G i r))) := by
  unfold k0_pay11
  exact ((act_is hh hw).mul ((wide_is hg).mul (sgm_is hg))).trunc _

end Hidden

theorem part_is {a b : FVec Ideal S320x768 .bf16} {v w : FVec Ideal S1x1024x768 .bf16} {A B : Fin 320 → Fin 768 → ℝ}
    {V W : Fin 1024 → Fin 768 → ℝ} (ha : Is a A) (hb : Is b B) (hv : ∀ i j, v (ValueIdx.ix3 (0 : Fin 1) i j) = ((V i j : ℝ) : EReal))
    (hw : ∀ i j, w (ValueIdx.ix3 (0 : Fin 1) i j) = ((W i j : ℝ) : EReal)) :
    Is (k0_pay14 a b v w) (fun i j => (∑ r, A i r * V j r) + ∑ r, B i r * W j r) := by
  unfold k0_pay14
  exact (Is.mmT ha (Is.drop hv _)).add (Is.mmT hb (Is.drop hw _))

/-! ### The norm -/

section Norm

variable {a x h : FVec Ideal S320x1024 .f32} {w : FVec Ideal S1x1024 .f32} {A X H : Fin 320 → Fin 1024 → ℝ} {W : Fin 1024 → ℝ}

/-- The sum of each row, kept as a column. -/
theorem rowSum_is (ha : Is a A) :
    Is (shapeCast S320x1 (multiReduction .add [1] S320 a 0x00000000#32 reduces_S320x1024_S320 (.inl rfl) rfl) shapeCasts_S320_S320x1)
      (fun i _ => ∑ j, A i j) := fun i j => by
  rw [shapeCast_apply _ _ (ValueIdx.ix2 i j) (ValueIdx.ix1 i) (by
    rw [Shape.rowMajor_val_one, Shape.rowMajor_val_two]
    have hj := j.isLt
    show i.val = i.val * 1 + j.val
    omega)]
  rw [show multiReduction .add [1] S320 a 0x00000000#32 reduces_S320x1024_S320 (.inl rfl) rfl (ValueIdx.ix1 i)
      = ∑ k : Fin 1024, a (reduces_S320x1024_S320.lift (ValueIdx.ix1 i) k)
    from Ideal.multiReduction_add_single (s := S320x1024) (t := S320) (a := 1) a 0x00000000#32 reduces_S320x1024_S320 (.inl rfl) rfl (ValueIdx.ix1 i)]
  rw [coe_sum]
  refine Finset.sum_congr rfl fun k _ => ?_
  rw [← ha]
  refine congrArg a (funext fun d => ?_)
  match d with
  | ⟨0, _⟩ => rfl
  | ⟨1, _⟩ => rfl

/-- The sum of each column, kept as a row. -/
theorem colSum_is (ha : Is a A) :
    Is (shapeCast S1x1024 (multiReduction .add [0] S1024 a 0x00000000#32 reduces_S320x1024_S1024 (.inl rfl) rfl) shapeCasts_S1024_S1x1024)
      (fun _ j => ∑ i, A i j) := fun i j => by
  rw [shapeCast_apply _ _ (ValueIdx.ix2 i j) (ValueIdx.ix1 j) (by
    rw [Shape.rowMajor_val_one, Shape.rowMajor_val_two]
    have hi := i.isLt
    show j.val = i.val * 1024 + j.val
    omega)]
  rw [show multiReduction .add [0] S1024 a 0x00000000#32 reduces_S320x1024_S1024 (.inl rfl) rfl (ValueIdx.ix1 j)
      = ∑ k : Fin 320, a (reduces_S320x1024_S1024.lift (ValueIdx.ix1 j) k)
    from Ideal.multiReduction_add_single (s := S320x1024) (t := S1024) (a := 0) a 0x00000000#32 reduces_S320x1024_S1024 (.inl rfl) rfl (ValueIdx.ix1 j)]
  rw [coe_sum]
  refine Finset.sum_congr rfl fun k _ => ?_
  rw [← ha]
  refine congrArg a (funext fun d => ?_)
  match d with
  | ⟨0, _⟩ => rfl
  | ⟨1, _⟩ => rfl

/-- A column over 1024. -/
theorem mean_is {c : FVec Ideal S320x1 .f32} {f : Fin 320 → Fin 1 → ℝ} (hc : Is c f) :
    Is (divf c (broadcast S320x1 (Scalar.ofBits (F := Ideal) .f32 0x44800000#32))) (fun i j => f i j * (1 / 1024)) := fun i j => by
  show Ideal.div (c (ValueIdx.ix2 i j)) (Ideal.ofBits .f32 0x44800000#32) = _
  rw [bits_1024, Ideal.div_coe (by norm_num), hc, ← EReal.coe_mul]

theorem spread_is {c : FVec Ideal S320x1 .f32} {f : Fin 320 → Fin 1 → ℝ} (hc : Is c f) :
    Is (broadcastTo S320x1024 c broadcasts_S320x1_S320x1024) (fun i _ => f i 0) := fun i j => by
  rw [← hc i 0]
  refine broadcastTo_apply c broadcasts_S320x1_S320x1024 (ValueIdx.ix2 i j) (ValueIdx.ix2 i 0) fun d => ?_
  match d with
  | ⟨0, _⟩ => rfl
  | ⟨1, _⟩ => rfl

theorem rows_is {f : Fin 1 → Fin 1024 → ℝ} (hw : Is w f) : Is (broadcastTo S320x1024 w broadcasts_S1x1024_S320x1024) (fun _ j => f 0 j) := fun i j => by
  rw [← hw 0 j]
  refine broadcastTo_apply w broadcasts_S1x1024_S320x1024 (ValueIdx.ix2 i j) (ValueIdx.ix2 0 j) fun d => ?_
  match d with
  | ⟨0, _⟩ => rfl
  | ⟨1, _⟩ => rfl

theorem factor_is (hx : Is x X) : Is (k0_pay1 x) (fun i _ => Ffn.nf (X i)) := fun i j => by
  have e := ((mean_is (rowSum_is (hx.mul hx))).add (is_num bits_eps)) i j
  have hp := Ffn.under_pos (X i)
  unfold k0_pay1
  refine (congrArg Ideal.rsqrt e).trans ?_
  show Ideal.rsqrt ((Ffn.under (X i) : ℝ) : EReal) = _
  rw [Ideal.rsqrt_coe, if_neg (not_lt.mpr hp.le), if_neg hp.ne']
  rfl

theorem normed_is (hx : Is x X) : Is (k0_pay2 x) (fun i j => X i j * Ffn.nf (X i)) := by
  unfold k0_pay2
  exact hx.mul (spread_is (factor_is hx))

/-- What a step adds to the gradient of the norm's weights. -/
theorem weight_is (ha : Is a A) (hx : Is x X) {r : FVec Ideal S1x1024 .f32} (i : Fin 1) (j : Fin 1024) :
    k0_pay3 a x r (ValueIdx.ix2 i j) = r (ValueIdx.ix2 i j) + ((∑ s, A s j * (X s j * Ffn.nf (X s)) : ℝ) : EReal) := by
  unfold k0_pay3
  rw [shapeCast_self]
  exact congrArg (fun y : EReal => r (ValueIdx.ix2 i j) + y) (colSum_is (ha.mul (normed_is hx)) i j)

theorem input_is (hh : Is h H) (ha : Is a A) (hx : Is x X) (hw : Is w (fun _ => W)) :
    Is (k0_pay4 h a x w) (fun i j => H i j + Ffn.through (X i) (fun j => A i j * W j) j) := by
  unfold k0_pay4
  exact hh.add ((spread_is (factor_is hx)).mul ((ha.mul (rows_is hw)).sub
    ((normed_is hx).mul (spread_is (mean_is (rowSum_is ((ha.mul (rows_is hw)).mul (normed_is hx))))))))

end Norm

/-! ### A step -/

/-- The blocks `L` hold the rows `tok` of the arguments `D`, and of its hidden columns. -/
structure Reads (L : Loads Ideal) (D : Data) (tok : Fin 320 → Fin 8320) : Prop where
  h : Is L.h (fun i => D.H (tok i))
  g : ∀ d, Is (L.g d) (fun i => D.hid (Ffn.gate d) (tok i))
  u : ∀ d, Is (L.u d) (fun i => D.hid (Ffn.up d) (tok i))
  x : Is L.x (fun i => D.X (tok i))
  w : Is L.w (fun _ => D.w)
  wi : ∀ e j r, L.wi e (ValueIdx.ix3 (0 : Fin 1) j r) = ((D.Wi e j r : ℝ) : EReal)
  wo : ∀ d r j, L.wo d (ValueIdx.ix3 (0 : Fin 1) r j) = ((D.Wo d r j : ℝ) : EReal)

section Read

variable {L : Loads Ideal} {D : Data} {tok : Fin 320 → Fin 8320} (R : Reads L D tok)

include R

theorem dg_is (d : Fin 4) : Is (dg L d) (fun i => D.dG d (tok i)) := gate_is R.h (R.wo d) (R.g d) (R.u d)
theorem du_is (d : Fin 4) : Is (du L d) (fun i => D.dU d (tok i)) := up_is R.h (R.wo d) (R.g d)
theorem back_is : Is (back L) (fun i => D.dN (tok i)) :=
  have p d : Is (part L d) (fun i => D.part d (tok i)) := part_is (dg_is R d) (du_is R d) (R.wi _) (R.wi _)
  (((p 0).add (p 1)).add (p 2)).add (p 3)
theorem result_is : Is (input L) (fun i => D.dX (tok i)) := input_is R.h (back_is R) R.x R.w

end Read

end Cert.FfnIdeal.Product
-- ==== Proof.FfnReference.lean ====
/- The reference's lines of the feed-forward block over real arguments: each is the real expression of `FfnReal`. -/
module

public import proofs.«01_k».proof.Proof.FfnReal
public import proofs.«01_k».proof.Proof.Gen.FfnReferenceIdeal.Read
public import Idealize.ShloMosaic.Lib.ValueIdx
public import Idealize.ShloMosaic.Lib.Pointwise
public import Idealize.ShloMosaic.Lib.KernelVsHost

@[expose] public section

set_option maxRecDepth 16384

noncomputable section

namespace Cert.FfnReferenceIdeal.Real

open Cert.FfnReferenceIdeal Cert.FfnReferenceIdeal.Gen Cert.FfnReferenceIdeal.Read Idealize.ShloMosaic Idealize.ShloMosaic.TcCoe
open Retention (sgm bits_one bits_eps bits_neg_half bits_zero coe_sum)
open Ffn (Data bits_1024)

theorem sum_is {n : ℕ} {f : Fin n → EReal} {g : Fin n → ℝ} (h : ∀ k, f k = ((g k : ℝ) : EReal)) : ∑ k, f k = ((∑ k, g k : ℝ) : EReal) := by
  rw [coe_sum]; exact Finset.sum_congr rfl fun k _ => h k

theorem dot_is {n : ℕ} {f g : Fin n → EReal} {a b : Fin n → ℝ} (hf : ∀ k, f k = ((a k : ℝ) : EReal)) (hg : ∀ k, g k = ((b k : ℝ) : EReal)) :
    ∑ k, f k * g k = ((∑ k, a k * b k : ℝ) : EReal) :=
  sum_is fun k => by rw [hf k, hg k, ← EReal.coe_mul]

/-! ### Columns -/

/-- The group of a hidden column, and its place there. -/
def grp (c : Fin 3072) : Fin 4 := ⟨c.val / 768, by omega⟩
def pl (c : Fin 3072) : Fin 768 := ⟨c.val % 768, by omega⟩
/-- The matrix of a column of both halves, and its place there. -/
def mat (c : Fin 6144) : Fin 8 := ⟨c.val / 768, by omega⟩
def wpl (c : Fin 6144) : Fin 768 := ⟨c.val % 768, by omega⟩

theorem mat_wide (e : Fin 8) (r : Fin 768) : mat (Ffn.wide e r) = e := Fin.ext (by
  show (768 * e.val + r.val) / 768 = e.val
  omega)
theorem wpl_wide (e : Fin 8) (r : Fin 768) : wpl (Ffn.wide e r) = r := Fin.ext (by
  show (768 * e.val + r.val) % 768 = r.val
  omega)

/-- Half of the columns placed after zeros, and half before zeros, added. -/
theorem halves_is {a b : FVec Ideal S8320x3072 .f32} {f : Fin 8320 → Fin 6144 → ℝ} {u w : FVec Ideal S_ .f32}
    (hu : ∀ i, u i = ((0 : ℝ) : EReal)) (hw : ∀ i, w i = ((0 : ℝ) : EReal))
    (ha : ∀ (t : Fin 8320) (c : Fin 3072), a (ValueIdx.ix2 t c) = ((f t ⟨3072 + c.val, by omega⟩ : ℝ) : EReal))
    (hb : ∀ (t : Fin 8320) (c : Fin 3072), b (ValueIdx.ix2 t c) = ((f t ⟨c.val, by omega⟩ : ℝ) : EReal)) (t : Fin 8320) (c : Fin 6144) :
    @Eq EReal (pad S8320x6144 ![0, 3072] ![0, 0] ![0, 0] a u pads_S8320x3072_S8320x6144_000_307200 h_S_ (ValueIdx.ix2 t c)
      + pad S8320x6144 ![0, 0] ![0, 3072] ![0, 0] b w pads_S8320x3072_S8320x6144_000_030720 h_S_ (ValueIdx.ix2 t c))
      ((f t c : ℝ) : EReal) := by
  have hc := c.isLt
  by_cases h : c.val < 3072
  · rw [pad_apply_of_not_inside _ _ _ a u _ _ (ValueIdx.ix2 t c) 1 (by
        intro hi
        have : 3072 ≤ c.val := hi.1
        omega),
      pad_apply_of_inside _ _ _ b w _ _ (ValueIdx.ix2 t c) (ValueIdx.ix2 t (⟨c.val, h⟩ : Fin 3072)) (fun d => match d with
        | ⟨0, _⟩ => by show t.val = 0 + t.val * (0 + 1); omega
        | ⟨1, _⟩ => by show c.val = 0 + c.val * (0 + 1); omega), hu, hb]
    exact (EReal.coe_add _ _).symm.trans (congrArg (fun x : ℝ => (x : EReal)) (zero_add _))
  · rw [pad_apply_of_not_inside _ _ _ b w _ _ (ValueIdx.ix2 t c) 1 (by
        intro hi
        have : (c.val - 0) / (0 + 1) < 3072 := hi.2.2
        omega),
      pad_apply_of_inside _ _ _ a u _ _ (ValueIdx.ix2 t c) (ValueIdx.ix2 t (⟨c.val - 3072, by omega⟩ : Fin 3072)) (fun d => match d with
        | ⟨0, _⟩ => by show t.val = 0 + t.val * (0 + 1); omega
        | ⟨1, _⟩ => by show c.val = 3072 + (c.val - 3072) * (0 + 1); omega), hw, ha]
    refine (EReal.coe_add _ _).symm.trans (congrArg (fun x : ℝ => (x : EReal)) ((add_zero _).trans ?_))
    exact congrArg (f t) (Fin.ext (by show 3072 + (c.val - 3072) = c.val; omega))

section Lines

variable {D : Data} {x0 x1 : FVec Ideal S8320x1024 .f32} {x2 : FVec Ideal S1x1024 .f32} {x3 : FVec Ideal S8x1024x768 .bf16}
  {x4 : FVec Ideal S4x768x1024 .bf16}
  (h0 : ∀ i, x0 i = ((D.H (i 0) (i 1) : ℝ) : EReal)) (h1 : ∀ i, x1 i = ((D.X (i 0) (i 1) : ℝ) : EReal))
  (h2 : ∀ i, x2 i = ((D.w (i 1) : ℝ) : EReal)) (h3 : ∀ i, x3 i = ((D.Wi (i 0) (i 1) (i 2) : ℝ) : EReal))
  (h4 : ∀ i, x4 i = ((D.Wo (i 0) (i 1) (i 2) : ℝ) : EReal))

/-! ### The weights -/

include h3 in
theorem v2_is (i : S1024x6144.Idx) : val_main_v2 (F := Ideal) x3 i = ((D.Wi (mat (i 1)) (i 0) (wpl (i 1)) : ℝ) : EReal) := by
  rw [val_main_v2_apply, val_main_v1_apply]
  have e0 : (i 0).val < 1024 := (i 0).isLt
  have e1 : (i 1).val < 6144 := (i 1).isLt
  refine (h3 _).trans (congrArg (fun x : ℝ => (x : EReal)) (congr (congr (congrArg D.Wi (Fin.ext ?_)) (Fin.ext ?_)) (Fin.ext ?_)))
  · show ((i 0).val * 6144 + (i 1).val) / 768 % 8 = (i 1).val / 768
    omega
  · show ((i 0).val * 6144 + (i 1).val) / 6144 = (i 0).val
    omega
  · show ((i 0).val * 6144 + (i 1).val) % 768 = (i 1).val % 768
    omega

include h4 in
theorem v4_is (i : S3072x1024.Idx) : val_main_v4 (F := Ideal) x4 i = ((D.Wo (grp (i 0)) (pl (i 0)) (i 1) : ℝ) : EReal) := by
  rw [val_main_v4_apply]
  have e0 : (i 0).val < 3072 := (i 0).isLt
  have e1 : (i 1).val < 1024 := (i 1).isLt
  refine (h4 _).trans (congrArg (fun x : ℝ => (x : EReal)) (congr (congr (congrArg D.Wo (Fin.ext ?_)) (Fin.ext ?_)) (Fin.ext ?_)))
  · show ((i 0).val * 1024 + (i 1).val) / 786432 = (i 0).val / 768
    omega
  · show ((i 0).val * 1024 + (i 1).val) / 1024 % 768 = (i 0).val % 768
    omega
  · show ((i 0).val * 1024 + (i 1).val) % 1024 = (i 1).val
    omega

/-! ### The norm -/

section Norm

include h1

theorem v11_is (i : S8320x1.Idx) : val_main_v11 (F := Ideal) x1 i = ((Ffn.under (D.X (i 0)) : ℝ) : EReal) := by
  rw [val_main_v11_apply, val_main_v9_apply, val_main_v10_apply, val_main_v7_apply, val_main_v8_apply, val_main_v6_apply]
  rw [sum_is (g := fun k => D.X (i 0) k * D.X (i 0) k) (fun k => by
    rw [val_main_v5_apply, h1]; exact (EReal.coe_mul _ _).symm)]
  show Ideal.div (Ideal.ofBits .f32 0x00000000#32 + _) (Ideal.ofBits .f32 0x44800000#32) + Ideal.ofBits .f32 0x358637BD#32 = _
  rw [bits_zero, bits_1024, bits_eps, Ideal.div_coe (by norm_num), ← EReal.coe_add, ← EReal.coe_mul, ← EReal.coe_add, zero_add]
  rfl

theorem v12_is (i : S8320x1.Idx) : val_main_v12 (F := Ideal) x1 i = ((Ffn.nf (D.X (i 0)) : ℝ) : EReal) := by
  rw [val_main_v12_apply, v11_is h1]
  have h := Ffn.under_pos (D.X (i 0))
  refine (show _ = Ideal.rsqrt ((Ffn.under (D.X (i 0)) : ℝ) : EReal) from rfl).trans ?_
  rw [Ideal.rsqrt_coe, if_neg (not_lt.mpr h.le), if_neg h.ne']
  rfl

theorem v15_is (i : S8320x1.Idx) : val_main_v15 (F := Ideal) x1 i
    = ((-(1 / 2) * (Ffn.nf (D.X (i 0)) * (1 / Ffn.under (D.X (i 0)))) : ℝ) : EReal) := by
  rw [val_main_v15_apply, val_main_v13_apply, val_main_v14_apply, v11_is h1, v12_is h1]
  show Ideal.ofBits .f32 0xBF000000#32 * Ideal.div _ _ = _
  rw [bits_neg_half, Ideal.div_coe (Ffn.under_pos _).ne', ← EReal.coe_mul, ← EReal.coe_mul]

theorem v17_is (i : S8320x1024.Idx) : val_main_v17 (F := Ideal) x1 i = ((D.nh (i 0) (i 1) : ℝ) : EReal) := by
  rw [val_main_v17_apply, val_main_v16_apply, h1, v12_is h1]
  exact (EReal.coe_mul _ _).symm

end Norm

/-! ### The hidden columns -/

section Hidden

include h1 h2 h3

theorem v20_is (i : S8320x6144.Idx) : val_main_v20 (F := Ideal) x1 x2 x3 i = ((D.hid (mat (i 1)) (i 0) (wpl (i 1)) : ℝ) : EReal) := by
  rw [val_main_v20_apply]
  exact dot_is (a := fun j => D.nh (i 0) j * D.w j) (b := fun j => D.Wi (mat (i 1)) j (wpl (i 1))) (fun k => by
    rw [val_main_v19_apply, val_main_v18_apply, v17_is h1, h2]
    exact (EReal.coe_mul _ _).symm) (fun k => v2_is h3 _)

theorem v21_is (i : S8320x3072.Idx) : val_main_v21 (F := Ideal) x1 x2 x3 i = ((D.hid (Ffn.gate (grp (i 1))) (i 0) (pl (i 1)) : ℝ) : EReal) := by
  rw [val_main_v21_apply, v20_is h1 h2 h3]
  rfl

theorem v22_is (i : S8320x3072.Idx) : val_main_v22 (F := Ideal) x1 x2 x3 i = ((D.hid (Ffn.up (grp (i 1))) (i 0) (pl (i 1)) : ℝ) : EReal) := by
  rw [val_main_v22_apply, v20_is h1 h2 h3]
  have e1 : (i 1).val < 3072 := (i 1).isLt
  refine congrArg (fun x : ℝ => (x : EReal)) (congr (congr (congrArg D.hid (Fin.ext ?_)) rfl) (Fin.ext ?_))
  · show (3072 + (i 1).val) / 768 = (i 1).val / 768 + 4
    omega
  · show (3072 + (i 1).val) % 768 = (i 1).val % 768
    omega

theorem v23_2_is (i : S8320x3072.Idx) : val_main_v23_2 (F := Ideal) x1 x2 x3 i
    = ((sgm (D.hid (Ffn.gate (grp (i 1))) (i 0) (pl (i 1))) : ℝ) : EReal) := by
  rw [val_main_v23_2_apply, val_main_call0_v4_apply, val_main_call0_v3_apply, val_main_call0_v2_apply, val_main_call0_v1_apply,
    val_main_call0_v0_apply, v21_is h1 h2 h3]
  generalize D.hid (Ffn.gate (grp (i 1))) (i 0) (pl (i 1)) = g
  show Ideal.div (Ideal.ofBits .f32 0x3F800000#32) (Ideal.ofBits .f32 0x3F800000#32 + Ideal.exp (-(g : EReal))) = _
  have hp : 0 < Real.exp (-g) := Real.exp_pos _
  rw [bits_one, ← EReal.coe_neg, Ideal.exp_coe, ← EReal.coe_add, Ideal.div_coe (by positivity), ← EReal.coe_mul]
  unfold sgm
  rw [one_mul, one_div]

theorem v23_1_is (i : S8320x3072.Idx) : val_main_v23_1 (F := Ideal) x1 x2 x3 i
    = ((sgm (D.hid (Ffn.gate (grp (i 1))) (i 0) (pl (i 1))) * (1 - sgm (D.hid (Ffn.gate (grp (i 1))) (i 0) (pl (i 1)))) : ℝ) : EReal) := by
  rw [val_main_v23_1_apply, val_main_call0_v7_apply, val_main_call0_v6_apply, v23_2_is h1 h2 h3]
  show _ * (Ideal.ofBits .f32 0x3F800000#32 - _) = _
  rw [bits_one, ← EReal.coe_sub, ← EReal.coe_mul]

theorem v23_0_is (i : S8320x3072.Idx) : val_main_v23_0 (F := Ideal) x1 x2 x3 i
    = ((D.hid (Ffn.gate (grp (i 1))) (i 0) (pl (i 1)) * sgm (D.hid (Ffn.gate (grp (i 1))) (i 0) (pl (i 1))) : ℝ) : EReal) := by
  rw [val_main_v23_0_apply, v23_2_is h1 h2 h3, v21_is h1 h2 h3]
  exact (EReal.coe_mul _ _).symm

end Hidden

/-! ### Backwards -/

include h0 h4 in
theorem v28_is (i : S8320x3072.Idx) : val_main_v28 (F := Ideal) x0 x4 i = ((D.act (grp (i 1)) (i 0) (pl (i 1)) : ℝ) : EReal) := by
  rw [val_main_v28_apply]
  have e0 : (i 0).val < 8320 := (i 0).isLt
  refine dot_is (a := fun j => D.H (i 0) j) (b := fun j => D.Wo (grp (i 1)) (pl (i 1)) j) (fun k => ?_) (fun k => v4_is h4 _)
  have ek := k.isLt
  rw [val_main_v27_apply]
  refine (h0 _).trans (congrArg (fun x : ℝ => (x : EReal)) (congr (congrArg D.H (Fin.ext ?_)) (Fin.ext ?_)))
  · show ((i 0).val * 1024 + k.val) / 1024 = (i 0).val
    omega
  · show ((i 0).val * 1024 + k.val) % 1024 = k.val
    omega

include h0 h1 h2 h3 h4

theorem v29_is (i : S8320x3072.Idx) : val_main_v29 (F := Ideal) x0 x1 x2 x3 x4 i = ((D.dU (grp (i 1)) (i 0) (pl (i 1)) : ℝ) : EReal) := by
  rw [val_main_v29_apply, v23_0_is h1 h2 h3, v28_is h0 h4]
  exact (EReal.coe_mul _ _).symm.trans (congrArg (fun x : ℝ => (x : EReal)) (mul_comm _ _))

theorem v31_is (i : S8320x3072.Idx) : val_main_v31 (F := Ideal) x0 x1 x2 x3 x4 i = ((D.dG (grp (i 1)) (i 0) (pl (i 1)) : ℝ) : EReal) := by
  rw [val_main_v31_apply, val_main_call1_v1_apply, val_main_call1_v2_apply, val_main_call1_v0_apply, val_main_v30_apply, v28_is h0 h4,
    v22_is h1 h2 h3, v21_is h1 h2 h3, v23_2_is h1 h2 h3, v23_1_is h1 h2 h3]
  show _ * _ * _ + _ * (_ * _) * _ = _
  rw [← EReal.coe_mul, ← EReal.coe_mul, ← EReal.coe_mul, ← EReal.coe_mul, ← EReal.coe_add]
  refine congrArg (fun x : ℝ => (x : EReal)) ?_
  unfold Data.dG
  ring

theorem v34_is (i : S8320x6144.Idx) : val_main_v34 (F := Ideal) x0 x1 x2 x3 x4 i = ((D.dHid (i 0) (mat (i 1)) (wpl (i 1)) : ℝ) : EReal) := by
  obtain ⟨t, c, rfl⟩ : ∃ (t : Fin 8320) (c : Fin 6144), i = ValueIdx.ix2 t c := ⟨i 0, i 1, funext fun d => match d with
    | ⟨0, _⟩ => rfl
    | ⟨1, _⟩ => rfl⟩
  rw [val_main_v34_apply]
  refine halves_is (f := fun t c => D.dHid t (mat c) (wpl c)) (fun _ => bits_zero) (fun _ => bits_zero) (fun t c => ?_) (fun t c => ?_) t c
  · refine (v29_is h0 h1 h2 h3 h4 _).trans (congrArg (fun x : ℝ => (x : EReal)) ?_)
    have hc := c.isLt
    unfold Data.dHid
    rw [dif_neg (by show ¬(3072 + c.val) / 768 < 4; omega)]
    refine congr (congr (congrArg D.dU (Fin.ext ?_)) rfl) (Fin.ext ?_)
    · show c.val / 768 = (3072 + c.val) / 768 - 4
      omega
    · show c.val % 768 = (3072 + c.val) % 768
      omega
  · refine (v31_is h0 h1 h2 h3 h4 _).trans (congrArg (fun x : ℝ => (x : EReal)) ?_)
    have hc := c.isLt
    unfold Data.dHid
    rw [dif_pos (by show c.val / 768 < 4; omega)]
    rfl

theorem v35_is (i : S8320x1024.Idx) : val_main_v35 (F := Ideal) x0 x1 x2 x3 x4 i = ((D.dN (i 0) (i 1) : ℝ) : EReal) := by
  rw [val_main_v35_apply]
  refine (dot_is (a := fun c => D.dHid (i 0) (mat c) (wpl c)) (b := fun c => D.Wi (mat c) (i 1) (wpl c))
    (fun k => v34_is h0 h1 h2 h3 h4 _) (fun k => v2_is h3 _)).trans (congrArg (fun x : ℝ => (x : EReal)) ?_)
  refine (Ffn.sum_wide _).trans (Eq.trans ?_ (D.dN_eq (i 0) (i 1)))
  exact Finset.sum_congr rfl fun e _ => Finset.sum_congr rfl fun r _ => by rw [mat_wide, wpl_wide]

/-- The gradient of the norm's weights. -/
theorem v38_is (i : S1x1024.Idx) : val_main_v38 (F := Ideal) x0 x1 x2 x3 x4 i = ((D.dW (i 1) : ℝ) : EReal) := by
  have e0 : (i 0).val < 1 := (i 0).isLt
  have e1 : (i 1).val < 1024 := (i 1).isLt
  have e : (⟨(i 0).val * 1024 + (i 1).val, by omega⟩ : Fin 1024) = i 1 := Fin.ext (by show (i 0).val * 1024 + (i 1).val = (i 1).val; omega)
  rw [val_main_v38_apply, val_main_v37_apply]
  rw [sum_is (g := fun t => D.dN t ⟨(i 0).val * 1024 + (i 1).val, by omega⟩ * D.nh t ⟨(i 0).val * 1024 + (i 1).val, by omega⟩) (fun k => by
    rw [val_main_v36_apply, v17_is h1, v35_is h0 h1 h2 h3 h4]
    exact (EReal.coe_mul _ _).symm.trans (congrArg (fun x : ℝ => (x : EReal)) (mul_comm _ _)))]
  show Ideal.ofBits .f32 0x00000000#32 + _ = _
  rw [bits_zero, ← EReal.coe_add, zero_add, e]
  rfl

theorem v40_is (i : S8320x1024.Idx) : val_main_v40 (F := Ideal) x0 x1 x2 x3 x4 i = ((D.dN (i 0) (i 1) * D.w (i 1) : ℝ) : EReal) := by
  rw [val_main_v40_apply, v35_is h0 h1 h2 h3 h4, val_main_v39_apply, h2]
  exact (EReal.coe_mul _ _).symm

theorem v50_is (i : S8320x1024.Idx) : val_main_v50 (F := Ideal) x0 x1 x2 x3 x4 i
    = (((∑ k, D.X (i 0) k * (D.dN (i 0) k * D.w k)) * (-(1 / 2) * (Ffn.nf (D.X (i 0)) * (1 / Ffn.under (D.X (i 0))))) * (1 / 1024) : ℝ) : EReal) := by
  rw [val_main_v50_apply, val_main_v49_apply]
  rw [sum_is (g := fun _ => (∑ k, D.X (i 0) k * (D.dN (i 0) k * D.w k))
      * (-(1 / 2) * (Ffn.nf (D.X (i 0)) * (1 / Ffn.under (D.X (i 0))))) * (1 / 1024)) (fun k => by
    have ek : k.val < 1 := k.isLt
    have e0 : (i 0).val < 8320 := (i 0).isLt
    have e : (⟨(i 0).val * 1 + k.val, by omega⟩ : Fin 8320) = i 0 := Fin.ext (by show (i 0).val * 1 + k.val = (i 0).val; omega)
    rw [val_main_v48_apply, val_main_v46_apply, val_main_v47_apply, val_main_v43_apply, val_main_v42_apply, v15_is h1]
    rw [sum_is (g := fun k => D.X (i 0) k * (D.dN (i 0) k * D.w k)) (fun j => by
      rw [val_main_v41_apply, v40_is h0 h1 h2 h3 h4, h1]
      refine (EReal.coe_mul _ _).symm.trans (congrArg (fun t => ((D.X t j * (D.dN t j * D.w j) : ℝ) : EReal)) e))]
    show Ideal.div ((Ideal.ofBits .f32 0x00000000#32 + _) * _) (Ideal.ofBits .f32 0x44800000#32) = _
    rw [bits_zero, bits_1024, Ideal.div_coe (by norm_num), ← EReal.coe_add, ← EReal.coe_mul, ← EReal.coe_mul, zero_add]
    rfl)]
  show Ideal.ofBits .f32 0x00000000#32 + _ = _
  rw [bits_zero, ← EReal.coe_add, zero_add, Fin.sum_univ_one]

/-- The gradient of the block's input. -/
theorem v59_is (i : S8320x1024.Idx) : val_main_v59 (F := Ideal) x0 x1 x2 x3 x4 i = ((D.dX (i 0) (i 1) : ℝ) : EReal) := by
  rw [val_main_v59_apply, val_main_v54_apply, val_main_v52_apply, val_main_v53_apply, val_main_v45_apply, val_main_v51_apply, val_main_v44_apply,
    v50_is h0 h1 h2 h3 h4, v40_is h0 h1 h2 h3 h4, v12_is h1, h1, h0]
  show _ + (_ * _ + _ * _ + _ * _) = _
  rw [← EReal.coe_mul, ← EReal.coe_mul, ← EReal.coe_mul, ← EReal.coe_add, ← EReal.coe_add, ← EReal.coe_add]
  exact congrArg (fun x : ℝ => ((D.H (i 0) (i 1) + x : ℝ) : EReal)) (Ffn.through_chain (D.X (i 0)) (fun j => D.dN (i 0) j * D.w j) (i 1))

/-- The gradients of the gate columns. -/
theorem v58_gate (t : Fin 8320) (c : Fin 3072) : val_main_v58 (F := Ideal) x0 x1 x2 x3 x4 (ValueIdx.ix3 (0 : Fin 2) t c) = ((D.dG (grp c) t (pl c) : ℝ) : EReal) := by
  rw [val_main_v58_apply]
  unfold val_main_v57
  refine (show _ = _ from concatenate_pair_apply_left (t := S2x8320x3072) (s₁ := S1x8320x3072) (s₂ := S1x8320x3072) 0 _ _ _ (ValueIdx.ix3 (0 : Fin 2) t c) rfl
    (ValueIdx.ix3 (0 : Fin 1) t c) (fun d => match d with
    | ⟨0, _⟩ => rfl
    | ⟨1, _⟩ => rfl
    | ⟨2, _⟩ => rfl)).trans ?_
  rw [val_main_v55_apply]
  exact v31_is h0 h1 h2 h3 h4 _

/-- The gradients of the up columns. -/
theorem v58_up (t : Fin 8320) (c : Fin 3072) : val_main_v58 (F := Ideal) x0 x1 x2 x3 x4 (ValueIdx.ix3 (1 : Fin 2) t c) = ((D.dU (grp c) t (pl c) : ℝ) : EReal) := by
  rw [val_main_v58_apply]
  unfold val_main_v57
  refine (show _ = _ from concatenate_pair_apply_right (t := S2x8320x3072) (s₁ := S1x8320x3072) (s₂ := S1x8320x3072) 0 _ _ _ (ValueIdx.ix3 (1 : Fin 2) t c) rfl rfl
    (ValueIdx.ix3 (0 : Fin 1) t c) (fun d hd => match d with
    | ⟨0, _⟩ => absurd rfl hd
    | ⟨1, _⟩ => rfl
    | ⟨2, _⟩ => rfl) rfl).trans ?_
  rw [val_main_v56_apply]
  exact v29_is h0 h1 h2 h3 h4 _

/-- The gradient of the norm's weights, in the first of eight rows. -/
theorem v60_first (j : Fin 1024) : val_main_v60 (F := Ideal) x0 x1 x2 x3 x4 (ValueIdx.ix2 (0 : Fin 8) j) = ((D.dW j : ℝ) : EReal) := by
  unfold val_main_v60
  rw [pad_apply_of_inside _ _ _ _ _ _ _ (ValueIdx.ix2 (0 : Fin 8) j) (ValueIdx.ix2 (0 : Fin 1) j) (fun d => match d with
    | ⟨0, _⟩ => rfl
    | ⟨1, _⟩ => by show j.val = 0 + j.val * (0 + 1); omega)]
  exact v38_is h0 h1 h2 h3 h4 _

omit h0 h1 h2 h3 h4 in
/-- The other rows are zero. -/
theorem v60_rest (e : Fin 8) (he : e ≠ 0) (j : Fin 1024) : @Eq EReal (val_main_v60 (F := Ideal) x0 x1 x2 x3 x4 (ValueIdx.ix2 e j)) 0 := by
  unfold val_main_v60
  rw [pad_apply_of_not_inside _ _ _ _ _ _ _ (ValueIdx.ix2 e j) 0 (by
    intro hi
    have : (e.val - 0) / (0 + 1) < 1 := hi.2.2
    exact he (Fin.ext (by show e.val = 0; omega)))]
  show (((0#32 : BitVec 32).toInt : ℝ) : EReal) = 0
  simp

end Lines

end Cert.FfnReferenceIdeal.Real
-- ==== Proof.FfnGrid.lean ====
/- The grid of the feed-forward block's backward pass: what the steps load of the arrays, and the three arrays after the run. -/
module

public import proofs.«01_k».proof.Proof.FfnMeaning
public import proofs.«01_k».proof.Proof.FfnReference
public import proofs.«01_k».proof.Proof.BlockSum
public import Idealize.ShloMosaic.Lib.Claim
public import Idealize.ShloMosaic.Lib.Pipeline.ValueKit.Geometry

@[expose] public section

set_option maxRecDepth 16384

noncomputable section

namespace Cert.FfnIdeal.Product

open Cert.FfnIdeal Cert.FfnIdeal.Gen Idealize.ShloMosaic Idealize.ShloMosaic.TcCoe Idealize.SL.Sem
open Cert.FfnReferenceIdeal.Read Cert.FfnReferenceIdeal.Real
open Ffn (Data)

/-! ### The places of the steps' blocks -/

theorem places : ∀ t : Fin cfg0.N, (win0_0.index t (0 : Fin 2) = t.val ∧ win0_0.index t (1 : Fin 2) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = 0 ∧ win0_4.index t (1 : Fin 2) = 0) :=
  (by decide +kernel : ∀ t : Fin grid0.N, _)

theorem places_weights : ∀ t : Fin cfg0.N,
    (win0_5.index t (0 : Fin 3) = 0 ∧ win0_5.index t (1 : Fin 3) = 0 ∧ win0_5.index t (2 : Fin 3) = 0) ∧
    (win0_6.index t (0 : Fin 3) = 0 ∧ win0_6.index t (1 : Fin 3) = 0 ∧ win0_6.index t (2 : Fin 3) = 0) :=
  (by decide +kernel : ∀ t : Fin grid0.N, _)

theorem places_out : ∀ t : Fin cfg0.N,
    (win0_7.index t (0 : Fin 3) = 0 ∧ win0_7.index t (1 : Fin 3) = t.val ∧ win0_7.index t (2 : Fin 3) = 0) ∧
    (win0_8.index t (0 : Fin 2) = t.val ∧ win0_8.index t (1 : Fin 2) = 0) ∧ (win0_9.index t (0 : Fin 2) = 0 ∧ win0_9.index t (1 : Fin 2) = 0) :=
  (by decide +kernel : ∀ t : Fin grid0.N, _)

/-- Row `i` of step `t`. -/
def tok (t : Fin cfg0.N) (i : Fin 320) : Fin 8320 := ⟨320 * t.val + i.val, by have := t.isLt; have hN : cfg0.N = 26 := N_0; omega⟩

theorem tok_cases (t : Fin 8320) : ∃ (s : Fin cfg0.N) (i : Fin 320), t = tok s i := by
  have ht := t.isLt
  have hN : cfg0.N = 26 := N_0
  refine ⟨⟨t.val / 320, by omega⟩, ⟨t.val % 320, by omega⟩, Fin.ext ?_⟩
  show t.val = 320 * (t.val / 320) + t.val % 320
  omega

theorem col_cases (c : Fin 3072) : ∃ (d : Fin 4) (r : Fin 768), c = col d r := by
  refine ⟨⟨c.val / 768, by omega⟩, ⟨c.val % 768, by omega⟩, Fin.ext ?_⟩
  show c.val = 768 * (c.val / 768) + c.val % 768
  omega

theorem grp_col (d : Fin 4) (r : Fin 768) : grp (col d r) = d := Fin.ext (by show (768 * d.val + r.val) / 768 = d.val; omega)
theorem pl_col (d : Fin 4) (r : Fin 768) : pl (col d r) = r := Fin.ext (by show (768 * d.val + r.val) % 768 = r.val; omega)

section Arrays

variable {F : FTy → Type} [FloatOps F] (m : (ℓ : Loc nD τ sig) → Buf (Elt F) ℓ) (c : Dev nD)

/-! ### The operands when the grid starts -/

theorem entry_g : V m c main_v20
    = (truncf .bf16 (val_main_v21 (F := F) (m (c, main_arg1)) (m (c, main_arg2)) (m (c, main_arg3))) bitsLt_bf16_f32 : FVec F S8320x3072 .bf16) := by
  unfold V
  simp only [hostOps0, List.flatten_cons, List.flatten_nil, List.append_nil, List.cons_append, List.nil_append]
  after_results
  rfl

theorem entry_u : V m c main_v21
    = (truncf .bf16 (val_main_v22 (F := F) (m (c, main_arg1)) (m (c, main_arg2)) (m (c, main_arg3))) bitsLt_bf16_f32 : FVec F S8320x3072 .bf16) := by
  unfold V
  simp only [hostOps0, List.flatten_cons, List.flatten_nil, List.append_nil, List.cons_append, List.nil_append]
  after_results
  rfl

/-- The blocks of step `t`. -/
def stepLoads (t : Fin cfg0.N) : Loads F :=
  blockLoads (iblk m c 0 t) (iblk m c 1 t) (iblk m c 2 t) (iblk m c 3 t) (iblk m c 4 t) (iblk m c 5 t) (iblk m c 6 t)

section Loaded

variable (t : Fin cfg0.N) (i : Fin 320)

theorem h_apply (j : Fin 1024) : (stepLoads m c t).h (ValueIdx.ix2 i j) = V m c main_arg0 (ValueIdx.ix2 (tok t i) j) := by
  obtain ⟨e0, e1⟩ := (places t).1
  refine congrArg (V m c main_arg0) (funext fun a => Fin.ext ?_)
  match a with
  | ⟨0, _⟩ => show win0_0.index t (0 : Fin 2) * 320 + 1 * i.val = 320 * t.val + i.val; omega
  | ⟨1, _⟩ => show win0_0.index t (1 : Fin 2) * 1024 + 1 * j.val = j.val; omega

theorem g_apply (d : Fin 4) (r : Fin 768) : (stepLoads m c t).g d (ValueIdx.ix2 i r) = V m c main_v20 (ValueIdx.ix2 (tok t i) (col d r)) := by
  obtain ⟨e0, e1⟩ := (places t).2.1
  refine congrArg (V m c main_v20) (funext fun a => Fin.ext ?_)
  match a with
  | ⟨0, _⟩ => show win0_1.index t (0 : Fin 2) * 320 + 1 * (0 + 1 * i.val) = 320 * t.val + i.val; omega
  | ⟨1, _⟩ => show win0_1.index t (1 : Fin 2) * 3072 + 1 * (768 * d.val + 1 * r.val) = 768 * d.val + r.val; omega

theorem u_apply (d : Fin 4) (r : Fin 768) : (stepLoads m c t).u d (ValueIdx.ix2 i r) = V m c main_v21 (ValueIdx.ix2 (tok t i) (col d r)) := by
  obtain ⟨e0, e1⟩ := (places t).2.2.1
  refine congrArg (V m c main_v21) (funext fun a => Fin.ext ?_)
  match a with
  | ⟨0, _⟩ => show win0_2.index t (0 : Fin 2) * 320 + 1 * (0 + 1 * i.val) = 320 * t.val + i.val; omega
  | ⟨1, _⟩ => show win0_2.index t (1 : Fin 2) * 3072 + 1 * (768 * d.val + 1 * r.val) = 768 * d.val + r.val; omega

theorem x_apply (j : Fin 1024) : (stepLoads m c t).x (ValueIdx.ix2 i j) = V m c main_arg1 (ValueIdx.ix2 (tok t i) j) := by
  obtain ⟨e0, e1⟩ := (places t).2.2.2.1
  refine congrArg (V m c main_arg1) (funext fun a => Fin.ext ?_)
  match a with
  | ⟨0, _⟩ => show win0_3.index t (0 : Fin 2) * 320 + 1 * i.val = 320 * t.val + i.val; omega
  | ⟨1, _⟩ => show win0_3.index t (1 : Fin 2) * 1024 + 1 * j.val = j.val; omega

theorem w_apply (e : Fin 1) (j : Fin 1024) : (stepLoads m c t).w (ValueIdx.ix2 e j) = V m c main_arg2 (ValueIdx.ix2 e j) := by
  obtain ⟨e0, e1⟩ := (places t).2.2.2.2
  refine congrArg (V m c main_arg2) (funext fun a => Fin.ext ?_)
  match a with
  | ⟨0, _⟩ => show win0_4.index t (0 : Fin 2) * 1 + 1 * e.val = e.val; omega
  | ⟨1, _⟩ => show win0_4.index t (1 : Fin 2) * 1024 + 1 * j.val = j.val; omega

theorem wi_apply (e : Fin 8) (j : Fin 1024) (r : Fin 768) :
    (stepLoads m c t).wi e (ValueIdx.ix3 (0 : Fin 1) j r) = V m c main_arg3 (ValueIdx.ix3 e j r) := by
  obtain ⟨e0, e1, e2⟩ := (places_weights t).1
  refine congrArg (V m c main_arg3) (funext fun a => Fin.ext ?_)
  match a with
  | ⟨0, _⟩ => show win0_5.index t (0 : Fin 3) * 8 + 1 * (e.val + 1 * 0) = e.val; omega
  | ⟨1, _⟩ => show win0_5.index t (1 : Fin 3) * 1024 + 1 * (0 + 1 * j.val) = j.val; omega
  | ⟨2, _⟩ => show win0_5.index t (2 : Fin 3) * 768 + 1 * (0 + 1 * r.val) = r.val; omega

theorem wo_apply (d : Fin 4) (r : Fin 768) (j : Fin 1024) :
    (stepLoads m c t).wo d (ValueIdx.ix3 (0 : Fin 1) r j) = V m c main_arg4 (ValueIdx.ix3 d r j) := by
  obtain ⟨e0, e1, e2⟩ := (places_weights t).2
  refine congrArg (V m c main_arg4) (funext fun a => Fin.ext ?_)
  match a with
  | ⟨0, _⟩ => show win0_6.index t (0 : Fin 3) * 4 + 1 * (d.val + 1 * 0) = d.val; omega
  | ⟨1, _⟩ => show win0_6.index t (1 : Fin 3) * 768 + 1 * (0 + 1 * r.val) = r.val; omega
  | ⟨2, _⟩ => show win0_6.index t (2 : Fin 3) * 1024 + 1 * (0 + 1 * j.val) = j.val; omega

end Loaded

/-! ### What a step leaves -/

section Left

variable (t : Fin cfg0.N)

theorem grad_left (p : Fin 2) (d : Fin 4) (s : Fin 320) (r : Fin 768) :
    (outsAt0 m c t.val t.isLt).1 (ValueIdx.ix3 p s (col d r)) = grad (stepLoads m c t) p d (ValueIdx.ix2 s r) := by
  by_cases h0 : t.val % 26 = 0
  · rw [outsAt0_A m c t h0]
    dsimp only
    rw [out7_A]
    rfl
  · rw [outsAt0_B m c t h0]
    dsimp only
    rw [out7_B]
    rfl

theorem input_left : (outsAt0 m c t.val t.isLt).2.1 = input (stepLoads m c t) := by
  by_cases h0 : t.val % 26 = 0
  · rw [outsAt0_A m c t h0]
    dsimp only
    rw [out8_A]
    rfl
  · rw [outsAt0_B m c t h0]
    dsimp only
    rw [out8_B]
    rfl

theorem row_first (h0 : t.val % 26 = 0) (j : Fin 1024) : (outsAt0 m c t.val t.isLt).2.2 (ValueIdx.ix2 (0 : Fin 8) j)
    = k0_pay3 (back (stepLoads m c t)) (stepLoads m c t).x (zeroRow F) (ValueIdx.ix2 (0 : Fin 1) j) := by
  rw [outsAt0_A m c t h0]
  dsimp only
  rw [row_A]
  rfl

theorem row_later (h0 : ¬t.val % 26 = 0) (j : Fin 1024) : (outsAt0 m c t.val t.isLt).2.2 (ValueIdx.ix2 (0 : Fin 8) j)
    = k0_pay3 (back (stepLoads m c t)) (stepLoads m c t).x
        (fun x => (outsAt0 m c (t.val - 1) (Nat.lt_of_le_of_lt (Nat.sub_le _ _) t.isLt)).2.2 (accRect.idx x)) (ValueIdx.ix2 (0 : Fin 1) j) := by
  rw [outsAt0_B m c t h0]
  dsimp only
  rw [row_B]
  rfl

/-- The rows of the accumulator after the first one stay as they were cleared. -/
theorem rest_left (e : Fin 8) (he : e ≠ 0) (j : Fin 1024) :
    ∀ (n : ℕ) (hn : n < cfg0.N), (outsAt0 m c n hn).2.2 (ValueIdx.ix2 e j) = Scalar.ofBits .f32 0x00000000#32
  | 0, hn => by
    refine (congrArg (fun x => x.2.2 (ValueIdx.ix2 e j)) (outsAt0_A m c ⟨0, hn⟩ (Nat.zero_mod _))).trans ?_
    dsimp only
    rw [rest_A _ _ _ _ _ _ _ _ _ _ _ _ _ _ _ _ _ _ _ _ _ _ _ _ _ _ _ _ _ _ e he j]
  | n + 1, hn => by
    have hN : cfg0.N = 26 := N_0
    refine (congrArg (fun x => x.2.2 (ValueIdx.ix2 e j)) (outsAt0_B m c ⟨n + 1, hn⟩ (by show ¬(n + 1) % 26 = 0; omega))).trans ?_
    dsimp only
    rw [rest_B _ _ _ _ _ _ _ _ _ _ _ _ _ _ _ _ _ _ _ _ _ _ _ _ _ _ _ _ _ _ _ e he j]
    exact rest_left e he j n (by omega)

end Left

/-! ### The arrays after the run -/

section Final

variable (t : Fin cfg0.N)

theorem emb_grad (p : Fin 2) (s : Fin 320) (b : Fin 3072) :
    ((cfg0.win 7).blk t).view.emb (ValueIdx.ix3 p s b) = ValueIdx.ix3 p (tok t s) b := by
  obtain ⟨e0, e1, e2⟩ := (places_out t).1
  refine funext fun a => Fin.ext ?_
  match a with
  | ⟨0, _⟩ => show win0_7.index t (0 : Fin 3) * 2 + 1 * p.val = p.val; omega
  | ⟨1, _⟩ => show win0_7.index t (1 : Fin 3) * 320 + 1 * s.val = 320 * t.val + s.val; omega
  | ⟨2, _⟩ => show win0_7.index t (2 : Fin 3) * 3072 + 1 * b.val = b.val; omega

theorem final_grad (p : Fin 2) (d : Fin 4) (s : Fin 320) (r : Fin 768) :
    (dats m 0 c).arrAt 7 cfg0.N (ValueIdx.ix3 p (tok t s) (col d r)) = grad (stepLoads m c t) p d (ValueIdx.ix2 s r) := by
  rw [← emb_grad t p s (col d r)]
  have b := congrFun (Value.blocks7 m c t (flush0_7 t)) (ValueIdx.ix3 p s (col d r))
  rw [Value.flushed7] at b
  exact b.trans (grad_left m c t p d s r)

theorem emb_input (s : Fin 320) (j : Fin 1024) : ((cfg0.win 8).blk t).view.emb (ValueIdx.ix2 s j) = ValueIdx.ix2 (tok t s) j := by
  obtain ⟨e0, e1⟩ := (places_out t).2.1
  refine funext fun a => Fin.ext ?_
  match a with
  | ⟨0, _⟩ => show win0_8.index t (0 : Fin 2) * 320 + 1 * s.val = 320 * t.val + s.val; omega
  | ⟨1, _⟩ => show win0_8.index t (1 : Fin 2) * 1024 + 1 * j.val = j.val; omega

theorem final_input (s : Fin 320) (j : Fin 1024) :
    (dats m 0 c).arrAt 8 cfg0.N (ValueIdx.ix2 (tok t s) j) = input (stepLoads m c t) (ValueIdx.ix2 s j) := by
  rw [← emb_input t s j]
  have b := congrFun (Value.blocks8 m c t (flush0_8 t)) (ValueIdx.ix2 s j)
  rw [Value.flushed8] at b
  exact b.trans (congrFun (input_left m c t) _)

theorem emb_rows (e : Fin 8) (j : Fin 1024) : ((cfg0.win 9).blk t).view.emb (ValueIdx.ix2 e j) = ValueIdx.ix2 e j := by
  obtain ⟨e0, e1⟩ := (places_out t).2.2
  refine funext fun a => Fin.ext ?_
  match a with
  | ⟨0, _⟩ => show win0_9.index t (0 : Fin 2) * 8 + 1 * e.val = e.val; omega
  | ⟨1, _⟩ => show win0_9.index t (1 : Fin 2) * 1024 + 1 * j.val = j.val; omega

/-- The accumulator is written back after the last step. -/
theorem final_rows (ht : t.val = 25) (e : Fin 8) (j : Fin 1024) :
    (dats m 0 c).arrAt 9 cfg0.N (ValueIdx.ix2 e j) = (outsAt0 m c t.val t.isLt).2.2 (ValueIdx.ix2 e j) := by
  have hN : cfg0.N = 26 := N_0
  have b := congrFun ((dats m 0 c).read_blk_arrAt_eq_flushed 9 (fun t t' hf hf' hne => absurd (Fin.ext (by
    have h1 := (flush0_9 t).mp hf
    have h2 := (flush0_9 t').mp hf'
    have h3 := t.isLt
    have h4 := t'.isLt
    omega)) hne) cfg0.N t t.isLt ((flush0_9 t).mpr (by omega))) (ValueIdx.ix2 e j)
  rw [Value.flushed9] at b
  exact (congrArg ((dats m 0 c).arrAt 9 cfg0.N) (emb_rows t e j).symm).trans b

end Final

end Arrays

/-! ### Over real arguments -/

section Real

variable (m : (ℓ : Loc nD τ sig) → Buf (Elt Ideal) ℓ) (c : Dev nD) {D : Data}
  (h0 : ∀ i, (m (c, main_arg0) : FVec Ideal S8320x1024 .f32) i = ((D.H (i 0) (i 1) : ℝ) : EReal))
  (h1 : ∀ i, (m (c, main_arg1) : FVec Ideal S8320x1024 .f32) i = ((D.X (i 0) (i 1) : ℝ) : EReal))
  (h2 : ∀ i, (m (c, main_arg2) : FVec Ideal S1x1024 .f32) i = ((D.w (i 1) : ℝ) : EReal))
  (h3 : ∀ i, (m (c, main_arg3) : FVec Ideal S8x1024x768 .bf16) i = ((D.Wi (i 0) (i 1) (i 2) : ℝ) : EReal))
  (h4 : ∀ i, (m (c, main_arg4) : FVec Ideal S4x768x1024 .bf16) i = ((D.Wo (i 0) (i 1) (i 2) : ℝ) : EReal))

include h0 h1 h2 h3 h4

theorem step_reads (t : Fin cfg0.N) : Reads (stepLoads m c t) D (tok t) where
  h i j := (h_apply m c t i j).trans (by rw [V_main_arg0]; exact h0 _)
  g d i r := (g_apply m c t i d r).trans (by
    rw [entry_g]
    refine (v21_is h1 h2 h3 (ValueIdx.ix2 (tok t i) (col d r))).trans ?_
    show ((D.hid (Ffn.gate (grp (col d r))) (tok t i) (pl (col d r)) : ℝ) : EReal) = _
    rw [grp_col, pl_col])
  u d i r := (u_apply m c t i d r).trans (by
    rw [entry_u]
    refine (v22_is h1 h2 h3 (ValueIdx.ix2 (tok t i) (col d r))).trans ?_
    show ((D.hid (Ffn.up (grp (col d r))) (tok t i) (pl (col d r)) : ℝ) : EReal) = _
    rw [grp_col, pl_col])
  x i j := (x_apply m c t i j).trans (by rw [V_main_arg1]; exact h1 _)
  w e j := (w_apply m c t e j).trans (by rw [V_main_arg2]; exact h2 _)
  wi e j r := (wi_apply m c t e j r).trans (by rw [V_main_arg3]; exact h3 _)
  wo d r j := (wo_apply m c t d r j).trans (by rw [V_main_arg4]; exact h4 _)

omit h0 h1 h2 h3 h4 in
/-- What row `k` adds to the gradient of the norm's weights. -/
def term (D : Data) (j : Fin 1024) (k : ℕ) : ℝ := if h : k < 8320 then D.dN ⟨k, h⟩ j * D.nh ⟨k, h⟩ j else 0

omit h0 h1 h2 h3 h4 in
theorem term_tok (t : Fin cfg0.N) (s : Fin 320) (j : Fin 1024) : term D j (320 * t.val + s.val) = D.dN (tok t s) j * D.nh (tok t s) j :=
  dif_pos (tok t s).isLt

/-- The accumulator's row holds the sum over the rows of the steps so far. -/
theorem row_is (j : Fin 1024) : ∀ (n : ℕ) (hn : n < cfg0.N),
    (outsAt0 m c n hn).2.2 (ValueIdx.ix2 (0 : Fin 8) j) = ((∑ k ∈ Finset.range (n + 1), ∑ s : Fin 320, term D j (320 * k + s.val) : ℝ) : EReal)
  | 0, hn => by
    have R := step_reads m c h0 h1 h2 h3 h4 ⟨0, hn⟩
    refine (row_first m c ⟨0, hn⟩ (Nat.zero_mod _) j).trans ((weight_is (back_is R) R.x (0 : Fin 1) j).trans ?_)
    show Ideal.ofBits .f32 0x00000000#32 + _ = _
    rw [Retention.bits_zero, ← EReal.coe_add, zero_add, Finset.sum_range_one]
    exact congrArg (fun x : ℝ => (x : EReal)) (Finset.sum_congr rfl fun s _ => (term_tok ⟨0, hn⟩ s j).symm)
  | n + 1, hn => by
    have hN : cfg0.N = 26 := N_0
    have R := step_reads m c h0 h1 h2 h3 h4 ⟨n + 1, hn⟩
    refine (row_later m c ⟨n + 1, hn⟩ (by show ¬(n + 1) % 26 = 0; omega) j).trans ((weight_is (back_is R) R.x (0 : Fin 1) j).trans ?_)
    rw [Finset.sum_range_succ, EReal.coe_add, ← row_is j n (by omega)]
    refine congrArg₂ (fun x y : EReal => x + y) ?_ (congrArg (fun x : ℝ => (x : EReal)) (Finset.sum_congr rfl fun s _ => (term_tok ⟨n + 1, hn⟩ s j).symm))
    exact congrArg (outsAt0 m c n (by omega)).2.2 (emb_acc j)

/-- The gate and up gradients. -/
theorem grads_eq : ((dats m 0 c).arrAt 7 cfg0.N : FVec Ideal S2x8320x3072 .bf16)
    = val_main_v58 (F := Ideal) (m (c, main_arg0)) (m (c, main_arg1)) (m (c, main_arg2)) (m (c, main_arg3)) (m (c, main_arg4)) := by
  funext i
  obtain ⟨p, t, b, rfl⟩ : ∃ (p : Fin 2) (t : Fin 8320) (b : Fin 3072), i = ValueIdx.ix3 p t b := ⟨i 0, i 1, i 2, funext fun a => match a with
    | ⟨0, _⟩ => rfl
    | ⟨1, _⟩ => rfl
    | ⟨2, _⟩ => rfl⟩
  obtain ⟨t, s, rfl⟩ := tok_cases t
  obtain ⟨d, r, rfl⟩ := col_cases b
  have R := step_reads m c h0 h1 h2 h3 h4 t
  refine (final_grad m c t p d s r).trans ?_
  obtain rfl | rfl : p = 0 ∨ p = 1 := by revert p; decide
  · refine (dg_is R d s r).trans (Eq.trans ?_ (v58_gate h0 h1 h2 h3 h4 (tok t s) (col d r)).symm)
    rw [grp_col, pl_col]
  · refine (du_is R d s r).trans (Eq.trans ?_ (v58_up h0 h1 h2 h3 h4 (tok t s) (col d r)).symm)
    rw [grp_col, pl_col]

/-- The gradient of the block's input. -/
theorem input_eq : ((dats m 0 c).arrAt 8 cfg0.N : FVec Ideal S8320x1024 .f32)
    = val_main_v59 (F := Ideal) (m (c, main_arg0)) (m (c, main_arg1)) (m (c, main_arg2)) (m (c, main_arg3)) (m (c, main_arg4)) := by
  funext i
  obtain ⟨t, j, rfl⟩ : ∃ (t : Fin 8320) (j : Fin 1024), i = ValueIdx.ix2 t j := ⟨i 0, i 1, funext fun a => match a with
    | ⟨0, _⟩ => rfl
    | ⟨1, _⟩ => rfl⟩
  obtain ⟨t, s, rfl⟩ := tok_cases t
  exact (final_input m c t s j).trans ((result_is (step_reads m c h0 h1 h2 h3 h4 t) s j).trans (v59_is h0 h1 h2 h3 h4 (ValueIdx.ix2 (tok t s) j)).symm)

/-- The gradient of the norm's weights. -/
theorem weights_eq : ((dats m 0 c).arrAt 9 cfg0.N : FVec Ideal S8x1024 .f32)
    = val_main_v60 (F := Ideal) (m (c, main_arg0)) (m (c, main_arg1)) (m (c, main_arg2)) (m (c, main_arg3)) (m (c, main_arg4)) := by
  funext i
  obtain ⟨e, j, rfl⟩ : ∃ (e : Fin 8) (j : Fin 1024), i = ValueIdx.ix2 e j := ⟨i 0, i 1, funext fun a => match a with
    | ⟨0, _⟩ => rfl
    | ⟨1, _⟩ => rfl⟩
  obtain ⟨t, ht⟩ : ∃ t : Fin cfg0.N, t.val = 25 := ⟨⟨25, by rw [show cfg0.N = 26 from N_0]; decide⟩, rfl⟩
  refine (final_rows m c t ht e j).trans ?_
  by_cases he : e = 0
  · subst he
    refine (row_is m c h0 h1 h2 h3 h4 j t.val t.isLt).trans (Eq.trans (congrArg (fun x : ℝ => (x : EReal)) ?_) (v60_first h0 h1 h2 h3 h4 j).symm)
    rw [ht, BlockSum.sum_blocks 320 (term D j) 26, ← Fin.sum_univ_eq_sum_range (term D j) 8320]
    exact Finset.sum_congr rfl fun t _ => dif_pos t.isLt
  · exact (rest_left m c e he j t.val t.isLt).trans (Retention.bits_zero.trans (v60_rest e he j).symm)

end Real

end Cert.FfnIdeal.Product
-- ==== Proof.FfnBackward.lean ====
/- The backward pass of the feed-forward block: the precondition makes every argument real, and the kernel's three results
   are the reference's. -/
module

public import proofs.«01_k».proof.Defs
public import proofs.«01_k».proof.Proof.FfnGrid
public import proofs.«01_k».proof.Proof.Final
public import Idealize.ShloMosaic.Adequacy
public import Idealize.ShloMosaic.Init
public import Idealize.ShloMosaic.Lib.ReduceAll

@[expose] public section

set_option maxRecDepth 16384

noncomputable section

namespace Cert.Pre_finite_ffn

open Idealize.ShloMosaic

/-- The side conditions of the precondition's operations. -/
theorem facts : Facts where
  bcast_S_S8320x1024 := by decide
  reducesTo_S8320x1024_S_d0_1 := by decide
  h_S_ := by decide
  bcast_S_S1x1024 := by decide
  reducesTo_S1x1024_S_d0_1 := by decide
  bitsLt_bf16_f32 := by decide
  bcast_S_S8x1024x768 := by decide
  reducesTo_S8x1024x768_S_d0_1_2 := by decide
  bcast_S_S4x768x1024 := by decide
  reducesTo_S4x768x1024_S_d0_1_2 := by decide

instance : Subsingleton S_.Idx := ⟨fun a b => funext fun i => i.elim0⟩

attribute [local instance] facts in
/-- Under the precondition every entry of the arguments is a real number. -/
theorem real_of_finite {a0 a1 : FVec Ideal S8320x1024 .f32} {a2 : FVec Ideal S1x1024 .f32} {a3 : FVec Ideal S8x1024x768 .bf16}
    {a4 : FVec Ideal S4x768x1024 .bf16} (h : fn a0 a1 a2 a3 a4 = fun _ => 1#1) :
    (∀ i, a0 i = (((a0 i).toReal : ℝ) : EReal)) ∧ (∀ i, a1 i = (((a1 i).toReal : ℝ) : EReal)) ∧ (∀ i, a2 i = (((a2 i).toReal : ℝ) : EReal)) ∧
      (∀ i, a3 i = (((a3 i).toReal : ℝ) : EReal)) ∧ (∀ i, a4 i = (((a4 i).toReal : ℝ) : EReal)) := by
  have andi_one (a b : BitVec 1) : IntOp.andi a b = 1#1 ↔ a = 1#1 ∧ b = 1#1 := by revert a b; decide
  have e := congrFun h (fun a => a.elim0)
  unfold fn fn_part1 at e
  obtain ⟨e, e4⟩ := (andi_one _ _).mp e
  obtain ⟨e, e3⟩ := (andi_one _ _).mp e
  obtain ⟨e, e2⟩ := (andi_one _ _).mp e
  obtain ⟨e0, e1⟩ := (andi_one _ _).mp e
  exact ⟨fun i => Pre_finite.real_of_lt (Host.reduce_andi_all _ _ _ _ _ e0 i), fun i => Pre_finite.real_of_lt (Host.reduce_andi_all _ _ _ _ _ e1 i),
    fun i => Pre_finite.real_of_lt (Host.reduce_andi_all _ _ _ _ _ e2 i), fun i => Pre_finite.real_of_lt (Host.reduce_andi_all _ _ _ _ _ e3 i),
    fun i => Pre_finite.real_of_lt (Host.reduce_andi_all _ _ _ _ _ e4 i)⟩

end Cert.Pre_finite_ffn

namespace Cert.FfnIdeal.Product

open Idealize.ShloMosaic Idealize.ShloMosaic.TcCoe Idealize.SL.Sem
open Cert.FfnReferenceIdeal.Read

/-- The problem that real arguments state. -/
def problem (a0 a1 : FVec Ideal S8320x1024 .f32) (a2 : FVec Ideal S1x1024 .f32)
    (a3 : FVec Ideal S8x1024x768 .bf16) (a4 : FVec Ideal S4x768x1024 .bf16) : Ffn.Data where
  H t j := EReal.toReal (a0 (ValueIdx.ix2 t j))
  X t j := EReal.toReal (a1 (ValueIdx.ix2 t j))
  w j := EReal.toReal (a2 (ValueIdx.ix2 (0 : Fin 1) j))
  Wi e j r := EReal.toReal (a3 (ValueIdx.ix3 e j r))
  Wo d r j := EReal.toReal (a4 (ValueIdx.ix3 d r j))

/-- The reference runs, and ends with the arrays that its lines compute. -/
theorem run_reference (m : (ℓ : Loc FfnReferenceIdeal.nD FfnReferenceIdeal.τ FfnReferenceIdeal.sig) → Buf (Elt Ideal) ℓ)
    (g : Dev FfnReferenceIdeal.nD → PrngReg) :
    θ_run (FfnReferenceIdeal.defs (F := Ideal)) (onTc (τ := FfnReferenceIdeal.τ) (FfnReferenceIdeal.main (F := Ideal)))
      ⟨m, fun _ => 0, g⟩ fun r => ∀ c : Dev FfnReferenceIdeal.nD,
        r.2.mem ((c.tc : Thread FfnReferenceIdeal.nD FfnReferenceIdeal.τ).loc FfnReferenceIdeal.main_v58)
          = val_main_v58 (F := Ideal) (m (c, FfnReferenceIdeal.main_arg0)) (m (c, FfnReferenceIdeal.main_arg1))
              (m (c, FfnReferenceIdeal.main_arg2)) (m (c, FfnReferenceIdeal.main_arg3)) (m (c, FfnReferenceIdeal.main_arg4))
        ∧ r.2.mem ((c.tc : Thread FfnReferenceIdeal.nD FfnReferenceIdeal.τ).loc FfnReferenceIdeal.main_v59)
          = val_main_v59 (F := Ideal) (m (c, FfnReferenceIdeal.main_arg0)) (m (c, FfnReferenceIdeal.main_arg1))
              (m (c, FfnReferenceIdeal.main_arg2)) (m (c, FfnReferenceIdeal.main_arg3)) (m (c, FfnReferenceIdeal.main_arg4))
        ∧ r.2.mem ((c.tc : Thread FfnReferenceIdeal.nD FfnReferenceIdeal.τ).loc FfnReferenceIdeal.main_v60)
          = val_main_v60 (F := Ideal) (m (c, FfnReferenceIdeal.main_arg0)) (m (c, FfnReferenceIdeal.main_arg1))
              (m (c, FfnReferenceIdeal.main_arg2)) (m (c, FfnReferenceIdeal.main_arg3)) (m (c, FfnReferenceIdeal.main_arg4))
        ∧ r.2.mem ((c.tc : Thread FfnReferenceIdeal.nD FfnReferenceIdeal.τ).loc FfnReferenceIdeal.main_arg0)
          = m ((c.tc : Thread FfnReferenceIdeal.nD FfnReferenceIdeal.τ).loc FfnReferenceIdeal.main_arg0)
        ∧ r.2.mem ((c.tc : Thread FfnReferenceIdeal.nD FfnReferenceIdeal.τ).loc FfnReferenceIdeal.main_arg1)
          = m ((c.tc : Thread FfnReferenceIdeal.nD FfnReferenceIdeal.τ).loc FfnReferenceIdeal.main_arg1)
        ∧ r.2.mem ((c.tc : Thread FfnReferenceIdeal.nD FfnReferenceIdeal.τ).loc FfnReferenceIdeal.main_arg2)
          = m ((c.tc : Thread FfnReferenceIdeal.nD FfnReferenceIdeal.τ).loc FfnReferenceIdeal.main_arg2)
        ∧ r.2.mem ((c.tc : Thread FfnReferenceIdeal.nD FfnReferenceIdeal.τ).loc FfnReferenceIdeal.main_arg3)
          = m ((c.tc : Thread FfnReferenceIdeal.nD FfnReferenceIdeal.τ).loc FfnReferenceIdeal.main_arg3)
        ∧ r.2.mem ((c.tc : Thread FfnReferenceIdeal.nD FfnReferenceIdeal.τ).loc FfnReferenceIdeal.main_arg4)
          = m ((c.tc : Thread FfnReferenceIdeal.nD FfnReferenceIdeal.τ).loc FfnReferenceIdeal.main_arg4) :=
  (θ_run FfnReferenceIdeal.defs _ _).mono
    (fun _ h c => ⟨(h c).1.trans (val_main_v58_eq _ _), (h c).2.1.trans (val_main_v59_eq _ _), (h c).2.2.1.trans (val_main_v60_eq _ _), (h c).2.2.2⟩)
    (FfnReferenceIdeal.Value.run (F := Ideal) m g)

/-- The reference leaves its arguments and counters alone. -/
theorem quiescent_reference : quiescent_FfnReferenceIdeal (hFfnReferenceIdeal := FfnReferenceIdeal.Gen.facts) := fun m g _ =>
  (θ_run FfnReferenceIdeal.defs _ _).mono (fun r h => ⟨fun c => (h c).2.2.2, sem_eq_zero_of_no_sems (by decide) r.2⟩) (run_reference m g)

/-- The kernel's results are the reference's. -/
theorem algebraic : algebraic_FfnIdeal_FfnReferenceIdeal_pre_finite_ffn (hFfnIdeal := Gen.facts)
    (hFfnReferenceIdeal := FfnReferenceIdeal.Gen.facts) (hPre_finite_ffn := Pre_finite_ffn.facts) := by
  intro m g m' g' hpre hagree
  refine ⟨fun c => (Gen.dats m 0 c).arrAt 7 cfg0.N, fun c => (Gen.dats m 0 c).arrAt 8 cfg0.N,
    fun c => (Gen.dats m 0 c).arrAt 9 cfg0.N, Value.run_blocks m g, ?_⟩
  refine (θ_run FfnReferenceIdeal.defs _ _).mono (fun r h c => ?_) (run_reference m' g')
  obtain ⟨r0, r1, r2, r3, r4⟩ := Pre_finite_ffn.real_of_finite (hpre c)
  obtain ⟨a0, a1, a2, a3, a4⟩ := hagree c
  have h0 : ∀ i, (m (c, main_arg0) : FVec Ideal S8320x1024 .f32) i = (((problem (m (c, main_arg0))
      (m (c, main_arg1)) (m (c, main_arg2)) (m (c, main_arg3)) (m (c, main_arg4))).H (i 0) (i 1) : ℝ) : EReal) :=
    fun i => by
      obtain ⟨t, j, rfl⟩ : ∃ (t : Fin 8320) (j : Fin 1024), i = ValueIdx.ix2 t j := ⟨i 0, i 1, funext fun a => match a with
        | ⟨0, _⟩ => rfl
        | ⟨1, _⟩ => rfl⟩
      exact r0 _
  have h1 : ∀ i, (m (c, main_arg1) : FVec Ideal S8320x1024 .f32) i = (((problem (m (c, main_arg0))
      (m (c, main_arg1)) (m (c, main_arg2)) (m (c, main_arg3)) (m (c, main_arg4))).X (i 0) (i 1) : ℝ) : EReal) :=
    fun i => by
      obtain ⟨t, j, rfl⟩ : ∃ (t : Fin 8320) (j : Fin 1024), i = ValueIdx.ix2 t j := ⟨i 0, i 1, funext fun a => match a with
        | ⟨0, _⟩ => rfl
        | ⟨1, _⟩ => rfl⟩
      exact r1 _
  have h2 : ∀ i, (m (c, main_arg2) : FVec Ideal S1x1024 .f32) i = (((problem (m (c, main_arg0))
      (m (c, main_arg1)) (m (c, main_arg2)) (m (c, main_arg3)) (m (c, main_arg4))).w (i 1) : ℝ) : EReal) :=
    fun i => by
      obtain ⟨j, rfl⟩ : ∃ j : Fin 1024, i = ValueIdx.ix2 (0 : Fin 1) j := ⟨i 1, funext fun a => match a with
        | ⟨0, _⟩ => Subsingleton.elim (α := Fin 1) _ _
        | ⟨1, _⟩ => rfl⟩
      exact r2 _
  have h3 : ∀ i, (m (c, main_arg3) : FVec Ideal S8x1024x768 .bf16) i = (((problem (m (c, main_arg0))
      (m (c, main_arg1)) (m (c, main_arg2)) (m (c, main_arg3)) (m (c, main_arg4))).Wi (i 0) (i 1) (i 2) : ℝ) : EReal) :=
    fun i => by
      obtain ⟨e, j, r, rfl⟩ : ∃ (e : Fin 8) (j : Fin 1024) (r : Fin 768), i = ValueIdx.ix3 e j r := ⟨i 0, i 1, i 2, funext fun a => match a with
        | ⟨0, _⟩ => rfl
        | ⟨1, _⟩ => rfl
        | ⟨2, _⟩ => rfl⟩
      exact r3 _
  have h4 : ∀ i, (m (c, main_arg4) : FVec Ideal S4x768x1024 .bf16) i = (((problem (m (c, main_arg0))
      (m (c, main_arg1)) (m (c, main_arg2)) (m (c, main_arg3)) (m (c, main_arg4))).Wo (i 0) (i 1) (i 2) : ℝ) : EReal) :=
    fun i => by
      obtain ⟨d, r, j, rfl⟩ : ∃ (d : Fin 4) (r : Fin 768) (j : Fin 1024), i = ValueIdx.ix3 d r j := ⟨i 0, i 1, i 2, funext fun a => match a with
        | ⟨0, _⟩ => rfl
        | ⟨1, _⟩ => rfl
        | ⟨2, _⟩ => rfl⟩
      exact r4 _
  refine ⟨(h c).1.trans ?_, (h c).2.1.trans ?_, (h c).2.2.1.trans ?_, (h c).2.2.2⟩
  · exact (congr (congr (congr (congr (congrArg (val_main_v58 (F := Ideal)) a0) a1) a2) a3) a4).trans (grads_eq m c h0 h1 h2 h3 h4).symm
  · exact (congr (congr (congr (congr (congrArg (val_main_v59 (F := Ideal)) a0) a1) a2) a3) a4).trans (input_eq m c h0 h1 h2 h3 h4).symm
  · exact (congr (congr (congr (congr (congrArg (val_main_v60 (F := Ideal)) a0) a1) a2) a3) a4).trans (weights_eq m c h0 h1 h2 h3 h4).symm

end Cert.FfnIdeal.Product

end
-- ==== Proof.Sigmoid.lean ====
/- The two forms of the sigmoid that the programs use agree at every extended real. -/
module

public import proofs.«01_k».proof.Proof.Rows

@[expose] public section

noncomputable section

namespace Retention

open Idealize.ShloMosaic

/-- The sigmoid by the hyperbolic tangent and the sigmoid by the exponential, at every extended real. -/
theorem sigmoid_forms (x : EReal) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x)) := by
  rw [bits_half, bits_one]
  induction x with
  | bot =>
    rw [EReal.coe_mul_bot_of_pos (by norm_num), EReal.neg_bot]
    show ((1 / 2 : ℝ) : EReal) * (-1) + _ = Ideal.div _ (_ + ⊤)
    rw [EReal.coe_add_top]
    unfold Ideal.div
    rw [if_neg EReal.top_ne_zero, EReal.inv_top, mul_zero, ← EReal.coe_one, ← EReal.coe_neg, ← EReal.coe_mul, ← EReal.coe_add]
    norm_num
  | top =>
    rw [EReal.coe_mul_top_of_pos (by norm_num), EReal.neg_top]
    show ((1 / 2 : ℝ) : EReal) * 1 + _ = Ideal.div _ (_ + 0)
    rw [add_zero, mul_one, Ideal.div_coe (by norm_num), ← EReal.coe_mul, ← EReal.coe_add]
    norm_num
  | coe r =>
    have hp : 0 < Real.exp (-r) := Real.exp_pos _
    rw [← EReal.coe_mul, Ideal.tanh_coe, ← EReal.coe_mul, ← EReal.coe_add, sgm_tanh, ← EReal.coe_neg, Ideal.exp_coe, ← EReal.coe_add,
      Ideal.div_coe (by positivity), ← EReal.coe_mul]
    unfold sgm
    rw [one_mul, one_div]

end Retention
-- ==== Proof.MixGrid.lean ====
/- The backward pass of the mixing: what one grid step computes of the arrays, and the five arrays after the run, line by line
   of the reference. Nothing is asked of the arguments: the two forms of the sigmoid agree at every extended real. -/
module

public import proofs.«01_k».proof.Proof.Sigmoid
public import proofs.«01_k».proof.Proof.Gen.MixIdeal.Frame
public import proofs.«01_k».proof.Proof.Gen.MixReferenceIdeal.Read
public import Idealize.ShloMosaic.Lib.Claim
public import Idealize.ShloMosaic.Lib.ValueIdx
public import Idealize.ShloMosaic.Lib.Pointwise
public import Idealize.ShloMosaic.Lib.MatmulPlain
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.MixIdeal.Product

open Cert.MixIdeal Cert.MixIdeal.Gen Idealize.ShloMosaic Idealize.ShloMosaic.TcCoe Idealize.SL.Sem
open Cert.MixReferenceIdeal.Read

theorem zero2 : (![0, 0] : Fin 2 → ℕ) = fun _ => 0 := funext fun a => match a with
  | ⟨0, _⟩ => rfl
  | ⟨1, _⟩ => rfl

/-! ### One step -/

section Step

/-- A product with a transposed matrix. -/
theorem dot_apply (a : FVec Ideal S640x1024 .bf16) (b : FVec Ideal S1024x1024 .bf16) (i : Fin 640) (j : Fin 1024) :
    @Eq EReal (matmul dot_S640x1024_S1024x1024_S640x1024_1_1_0_0_n_n none a b (constant S640x1024 .f32 0x00000000#32) (ValueIdx.ix2 i j))
      (∑ k : Fin 1024, a (ValueIdx.ix2 i k) * b (ValueIdx.ix2 j k)) := by
  refine (Ideal.matmul_transposedRhs_apply (M := 640) (K := 1024) (N := 1024) none a b _ i j).trans ?_
  rw [show constant (F := Ideal) S640x1024 .f32 0x00000000#32 (ValueIdx.ix2 i j) = 0 from Ideal.ofBits_zero_f32, zero_add]

variable (h : FVec Ideal S640x1024 .f32) (w : FVec Ideal S1024x1024 .bf16) (a y : FVec Ideal S640x1024 .bf16) (i : Fin 640) (j : Fin 1024)

theorem pay5_apply : @Eq EReal (k0_pay5 (F := Ideal) h w (ValueIdx.ix2 i j)) (∑ k : Fin 1024, h (ValueIdx.ix2 i k) * w (ValueIdx.ix2 j k)) := by
  unfold k0_pay5
  exact dot_apply _ _ i j

/-- The sigmoid of the reference. -/
def sg (x : EReal) : EReal := Ideal.div (Ideal.ofBits .f32 0x3F800000#32) (Ideal.ofBits .f32 0x3F800000#32 + Ideal.exp (-x))

theorem pay6_apply : @Eq EReal (k0_pay6 (F := Ideal) a (ValueIdx.ix2 i j)) (sg (a (ValueIdx.ix2 i j))) := by
  unfold k0_pay6
  exact Retention.sigmoid_forms _

theorem pay7_apply : @Eq EReal (k0_pay7 (F := Ideal) a (ValueIdx.ix2 i j)) (sg (a (ValueIdx.ix2 i j))) := by
  unfold k0_pay7
  exact Retention.sigmoid_forms _

/-- The gradient of a branch: the gradient of the mix times the sigmoid of its gate. -/
def branch (i : Fin 640) (j : Fin 1024) : EReal := sg (a (ValueIdx.ix2 i j)) * ∑ k : Fin 1024, (h (ValueIdx.ix2 i k) * w (ValueIdx.ix2 j k) : EReal)

/-- The gradient of a gate. -/
def gateGrad (i : Fin 640) (j : Fin 1024) : EReal :=
  ((∑ k : Fin 1024, (h (ValueIdx.ix2 i k) * w (ValueIdx.ix2 j k) : EReal)) * y (ValueIdx.ix2 i j))
    * (sg (a (ValueIdx.ix2 i j)) * (Ideal.ofBits .f32 0x3F800000#32 - sg (a (ValueIdx.ix2 i j))))

theorem pay8_apply : @Eq EReal (k0_pay8 (F := Ideal) h w a (ValueIdx.ix2 i j)) (branch h w a i j) := by
  unfold k0_pay8
  refine (show @Eq EReal _ (k0_pay5 (F := Ideal) h w (ValueIdx.ix2 i j) * k0_pay6 (F := Ideal) a (ValueIdx.ix2 i j)) from rfl).trans ?_
  rw [pay5_apply, pay6_apply]
  exact mul_comm _ _

theorem pay9_apply : @Eq EReal (k0_pay9 (F := Ideal) h w a (ValueIdx.ix2 i j)) (branch h w a i j) := by
  unfold k0_pay9
  refine (show @Eq EReal _ (k0_pay5 (F := Ideal) h w (ValueIdx.ix2 i j) * k0_pay7 (F := Ideal) a (ValueIdx.ix2 i j)) from rfl).trans ?_
  rw [pay5_apply, pay7_apply]
  exact mul_comm _ _

theorem pay1_apply : @Eq EReal (k0_pay1 (F := Ideal) (k0_pay10 (F := Ideal) h w y) (k0_pay11 (F := Ideal) a) (ValueIdx.ix2 i j)) (gateGrad h w a y i j) := by
  unfold k0_pay1 k0_pay10 k0_pay11
  rw [shapeCast_self]
  refine (show @Eq EReal _ ((k0_pay5 (F := Ideal) h w (ValueIdx.ix2 i j) * y (ValueIdx.ix2 i j))
    * (k0_pay6 (F := Ideal) a (ValueIdx.ix2 i j) * (Ideal.ofBits .f32 0x3F800000#32 - k0_pay6 (F := Ideal) a (ValueIdx.ix2 i j)))) from rfl).trans ?_
  rw [pay5_apply, pay6_apply]
  rfl

theorem pay2_apply : @Eq EReal (k0_pay2 (F := Ideal) (k0_pay5 (F := Ideal) h w) (k0_pay7 (F := Ideal) a) y (ValueIdx.ix2 i j)) (gateGrad h w a y i j) := by
  unfold k0_pay2
  rw [shapeCast_self]
  refine (show @Eq EReal _ ((k0_pay5 (F := Ideal) h w (ValueIdx.ix2 i j) * y (ValueIdx.ix2 i j))
    * (k0_pay7 (F := Ideal) a (ValueIdx.ix2 i j) * (Ideal.ofBits .f32 0x3F800000#32 - k0_pay7 (F := Ideal) a (ValueIdx.ix2 i j)))) from rfl).trans ?_
  rw [pay5_apply, pay7_apply]
  rfl

theorem pay3_apply (d : FVec Ideal S640x1024 .bf16) :
    @Eq EReal (k0_pay3 (F := Ideal) d w (ValueIdx.ix2 i j)) (∑ k : Fin 1024, d (ValueIdx.ix2 i k) * w (ValueIdx.ix2 j k)) := by
  unfold k0_pay3
  exact dot_apply _ _ i j

theorem pay4_apply (d : FVec Ideal S640x1024 .bf16) :
    @Eq EReal (k0_pay4 (F := Ideal) d w (ValueIdx.ix2 i j)) (∑ k : Fin 1024, d (ValueIdx.ix2 i k) * w (ValueIdx.ix2 j k)) := by
  unfold k0_pay4
  exact dot_apply _ _ i j

end Step

/-! ### What a step leaves -/

section Left

variable (x0 : FVec Ideal S640x1024 .f32) (x1 x2 x3 x4 : FVec Ideal S640x1024 .bf16) (x5 x6 x7 : FVec Ideal S1024x1024 .bf16)
  (i : Fin 640) (j : Fin 1024)

theorem out8_apply : @Eq EReal (out0_8 (F := Ideal) x0 x1 x2 x3 x4 x5 x6 x7 (ValueIdx.ix2 i j)) (branch x0 x7 x3 i j) := by
  unfold out0_8
  rw [View.canon_unit_zero zero2, View.ld_unit_zero (S := S640x1024) zero2, View.ld_unit_zero (S := S640x1024) zero2,
    View.ld_unit_zero (S := S1024x1024) zero2]
  exact pay8_apply x0 x7 x3 i j

theorem out9_apply : @Eq EReal (out0_9 (F := Ideal) x0 x1 x2 x3 x4 x5 x6 x7 (ValueIdx.ix2 i j)) (branch x0 x7 x4 i j) := by
  unfold out0_9
  rw [View.canon_unit_zero zero2, View.ld_unit_zero (S := S640x1024) zero2, View.ld_unit_zero (S := S640x1024) zero2,
    View.ld_unit_zero (S := S1024x1024) zero2]
  exact pay9_apply x0 x7 x4 i j

theorem out11_apply : @Eq EReal (out0_11 (F := Ideal) x0 x1 x2 x3 x4 x5 x6 x7 (ValueIdx.ix2 i j))
    (∑ k : Fin 1024, branch x0 x7 x3 i k * x5 (ValueIdx.ix2 j k)) := by
  unfold out0_11
  rw [View.canon_unit_zero zero2, View.ld_unit_zero (S := S640x1024) zero2, View.ld_unit_zero (S := S640x1024) zero2,
    View.ld_unit_zero (S := S1024x1024) zero2, View.ld_unit_zero (S := S1024x1024) zero2, pay3_apply]
  exact Finset.sum_congr rfl fun k _ => congrArg (fun x : EReal => x * x5 (ValueIdx.ix2 j k)) (pay8_apply x0 x7 x3 i k)

theorem out12_apply : @Eq EReal (out0_12 (F := Ideal) x0 x1 x2 x3 x4 x5 x6 x7 (ValueIdx.ix2 i j))
    (∑ k : Fin 1024, branch x0 x7 x4 i k * x6 (ValueIdx.ix2 j k)) := by
  unfold out0_12
  rw [View.canon_unit_zero zero2, View.ld_unit_zero (S := S640x1024) zero2, View.ld_unit_zero (S := S640x1024) zero2,
    View.ld_unit_zero (S := S1024x1024) zero2, View.ld_unit_zero (S := S1024x1024) zero2, pay4_apply]
  exact Finset.sum_congr rfl fun k _ => congrArg (fun x : EReal => x * x6 (ValueIdx.ix2 j k)) (pay9_apply x0 x7 x4 i k)

/-- The columns of the two gates' gradients. -/
def colA (j : Fin 1024) : Fin 2048 := ⟨j.val, by omega⟩
def colB (j : Fin 1024) : Fin 2048 := ⟨1024 + j.val, by omega⟩

theorem emb_colA : r0_2.emb (ValueIdx.ix2 i j : S640x1024.Idx) = (ValueIdx.ix2 i (colA j) : S640x2048.Idx) := by
  funext a
  match a with
  | ⟨0, _⟩ => exact Fin.ext (by show 0 + 1 * i.val = i.val; omega)
  | ⟨1, _⟩ => exact Fin.ext (by show 0 + 1 * j.val = j.val; omega)

theorem emb_colB : r0_3.emb (ValueIdx.ix2 i j : S640x1024.Idx) = (ValueIdx.ix2 i (colB j) : S640x2048.Idx) := by
  funext a
  match a with
  | ⟨0, _⟩ => exact Fin.ext (by show 0 + 1 * i.val = i.val; omega)
  | ⟨1, _⟩ => exact Fin.ext (by show 1024 + 1 * j.val = 1024 + j.val; omega)

theorem not_mem_colA : (ValueIdx.ix2 i (colA j) : S640x2048.Idx) ∉ r0_3.set := by
  intro hm
  obtain ⟨x, hx⟩ := r0_3.exists_idx_of_mem hm
  have e : 1024 + 1 * (x 1).val = j.val := congrArg (fun y : S640x2048.Idx => (y 1).val) hx
  have := j.isLt
  omega

section Pair

variable (pB pA : FVec Ideal S640x1024 .bf16)

theorem pair_A : @Eq EReal (View.canon ([⟨r0_3, pB⟩, ⟨r0_2, pA⟩] : List (View.Piece (Elt Ideal) S640x2048 .bf16)) (ValueIdx.ix2 i (colA j)))
    (pA (ValueIdx.ix2 i j)) := by
  refine (View.canon_cons_of_not_mem (Val := Elt Ideal) (e := .bf16) ⟨r0_3, pB⟩ [⟨r0_2, pA⟩] (not_mem_colA i j)).trans ?_
  rw [← emb_colA]
  exact View.canon_cons_emb (Val := Elt Ideal) (e := .bf16) r0_2 pA [] (ValueIdx.ix2 i j)

theorem pair_B : @Eq EReal (View.canon ([⟨r0_3, pB⟩, ⟨r0_2, pA⟩] : List (View.Piece (Elt Ideal) S640x2048 .bf16)) (ValueIdx.ix2 i (colB j)))
    (pB (ValueIdx.ix2 i j)) :=
  (congrArg (View.canon _) (emb_colB i j).symm).trans (View.canon_cons_emb (Val := Elt Ideal) (e := .bf16) r0_3 pB _ _)

end Pair

theorem out10_A : @Eq EReal (out0_10 (F := Ideal) x0 x1 x2 x3 x4 x5 x6 x7 (ValueIdx.ix2 i (colA j))) (gateGrad x0 x7 x3 x1 i j) := by
  unfold out0_10
  refine (pair_A i j _ _).trans ?_
  rw [View.ld_unit_zero (S := S640x1024) zero2, View.ld_unit_zero (S := S640x1024) zero2, View.ld_unit_zero (S := S640x1024) zero2,
    View.ld_unit_zero (S := S1024x1024) zero2]
  exact pay1_apply x0 x7 x3 x1 i j

theorem out10_B : @Eq EReal (out0_10 (F := Ideal) x0 x1 x2 x3 x4 x5 x6 x7 (ValueIdx.ix2 i (colB j))) (gateGrad x0 x7 x4 x2 i j) := by
  unfold out0_10
  refine (pair_B i j _ _).trans ?_
  rw [View.ld_unit_zero (S := S640x1024) zero2, View.ld_unit_zero (S := S640x1024) zero2, View.ld_unit_zero (S := S640x1024) zero2,
    View.ld_unit_zero (S := S1024x1024) zero2]
  exact pay2_apply x0 x7 x4 x2 i j

end Left

/-! ### The places of the steps' blocks -/

theorem places : ∀ t : Fin cfg0.N, (win0_0.index t (0 : Fin 2) = t.val ∧ win0_0.index t (1 : Fin 2) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 6) ∧ (win0_4.index t (0 : Fin 2) = t.val ∧ win0_4.index t (1 : Fin 2) = 7) :=
  (by decide +kernel : ∀ t : Fin grid0.N, _)

theorem places_weights : ∀ t : Fin cfg0.N, (win0_5.index t (0 : Fin 2) = 0 ∧ win0_5.index t (1 : Fin 2) = 0) ∧
    (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)

theorem places_out : ∀ t : Fin cfg0.N, (win0_8.index t (0 : Fin 2) = t.val ∧ win0_8.index t (1 : Fin 2) = 0) ∧
    (win0_9.index t (0 : Fin 2) = t.val ∧ win0_9.index t (1 : Fin 2) = 0) ∧ (win0_10.index t (0 : Fin 2) = t.val ∧ win0_10.index t (1 : Fin 2) = 3) ∧
    (win0_11.index t (0 : Fin 2) = t.val ∧ win0_11.index t (1 : Fin 2) = 0) ∧ (win0_12.index t (0 : Fin 2) = t.val ∧ win0_12.index t (1 : Fin 2) = 0) :=
  (by decide +kernel : ∀ t : Fin grid0.N, _)

/-- Row `i` of step `t`. -/
def tok (t : Fin cfg0.N) (i : Fin 640) : Fin 8320 := ⟨640 * t.val + i.val, by have := t.isLt; have hN : cfg0.N = 13 := N_0; omega⟩

theorem tok_cases (t : Fin 8320) : ∃ (s : Fin cfg0.N) (i : Fin 640), t = tok s i := by
  have ht := t.isLt
  have hN : cfg0.N = 13 := N_0
  refine ⟨⟨t.val / 640, by omega⟩, ⟨t.val % 640, by omega⟩, Fin.ext ?_⟩
  show t.val = 640 * (t.val / 640) + t.val % 640
  omega

/-- The columns of the two gates among the projections. -/
def projA (j : Fin 1024) : Fin 8192 := ⟨6144 + j.val, by omega⟩
def projB (j : Fin 1024) : Fin 8192 := ⟨7168 + j.val, by omega⟩

section Arrays

variable (m : (ℓ : Loc nD τ sig) → Buf (Elt Ideal) ℓ) (c : Dev nD)

/-! ### The operands when the grid starts -/

theorem entry_yr : V m c main_v6 = (truncf .bf16 (val_main_v9 (F := Ideal) (m (c, main_arg1)) (m (c, main_arg4))) bitsLt_bf16_f32 : FVec Ideal S8320x1024 .bf16) := by
  unfold V
  simp only [V0, hostOps0, List.flatten_cons, List.flatten_nil, List.append_nil, List.cons_append, List.nil_append]
  after_results
  rfl

theorem entry_yl : V m c main_v7 = (truncf .bf16 (val_main_v10 (F := Ideal) (m (c, main_arg2)) (m (c, main_arg5))) bitsLt_bf16_f32 : FVec Ideal S8320x1024 .bf16) := by
  unfold V
  simp only [V0, hostOps0, List.flatten_cons, List.flatten_nil, List.append_nil, List.cons_append, List.nil_append]
  after_results
  rfl

section Loaded

variable (t : Fin cfg0.N) (i : Fin 640) (j : Fin 1024)

theorem x0_apply : @Eq EReal ((iblk m c 0 t : FVec Ideal S640x1024 .f32) (ValueIdx.ix2 i j)) ((m (c, main_arg0) : FVec Ideal S8320x1024 .f32) (ValueIdx.ix2 (tok t i) j)) := by
  obtain ⟨e0, e1⟩ := (places t).1
  refine (congrArg (V m c main_arg0) (funext fun a => Fin.ext ?_)).trans (congrFun (V_main_arg0 m c) (ValueIdx.ix2 (tok t i) j))
  match a with
  | ⟨0, _⟩ => show win0_0.index t (0 : Fin 2) * 640 + 1 * i.val = 640 * t.val + i.val; omega
  | ⟨1, _⟩ => show win0_0.index t (1 : Fin 2) * 1024 + 1 * j.val = j.val; omega

theorem x1_apply : @Eq EReal ((iblk m c 1 t : FVec Ideal S640x1024 .bf16) (ValueIdx.ix2 i j)) (val_main_v9 (F := Ideal) (m (c, main_arg1)) (m (c, main_arg4)) (ValueIdx.ix2 (tok t i) j)) := by
  obtain ⟨e0, e1⟩ := (places t).2.1
  refine (congrArg (V m c main_v6) (funext fun a => Fin.ext ?_)).trans (congrFun (entry_yr m c) (ValueIdx.ix2 (tok t i) j))
  match a with
  | ⟨0, _⟩ => show win0_1.index t (0 : Fin 2) * 640 + 1 * i.val = 640 * t.val + i.val; omega
  | ⟨1, _⟩ => show win0_1.index t (1 : Fin 2) * 1024 + 1 * j.val = j.val; omega

theorem x2_apply : @Eq EReal ((iblk m c 2 t : FVec Ideal S640x1024 .bf16) (ValueIdx.ix2 i j)) (val_main_v10 (F := Ideal) (m (c, main_arg2)) (m (c, main_arg5)) (ValueIdx.ix2 (tok t i) j)) := by
  obtain ⟨e0, e1⟩ := (places t).2.2.1
  refine (congrArg (V m c main_v7) (funext fun a => Fin.ext ?_)).trans (congrFun (entry_yl m c) (ValueIdx.ix2 (tok t i) j))
  match a with
  | ⟨0, _⟩ => show win0_2.index t (0 : Fin 2) * 640 + 1 * i.val = 640 * t.val + i.val; omega
  | ⟨1, _⟩ => show win0_2.index t (1 : Fin 2) * 1024 + 1 * j.val = j.val; omega

theorem x3_apply : @Eq EReal ((iblk m c 3 t : FVec Ideal S640x1024 .bf16) (ValueIdx.ix2 i j)) ((m (c, main_arg3) : FVec Ideal S8320x8192 .bf16) (ValueIdx.ix2 (tok t i) (projA j))) := by
  obtain ⟨e0, e1⟩ := (places t).2.2.2.1
  refine (congrArg (V m c main_arg3) (funext fun a => Fin.ext ?_)).trans (congrFun (V_main_arg3 m c) (ValueIdx.ix2 (tok t i) (projA j)))
  match a with
  | ⟨0, _⟩ => show win0_3.index t (0 : Fin 2) * 640 + 1 * i.val = 640 * t.val + i.val; omega
  | ⟨1, _⟩ => show win0_3.index t (1 : Fin 2) * 1024 + 1 * j.val = 6144 + j.val; omega

theorem x4_apply : @Eq EReal ((iblk m c 4 t : FVec Ideal S640x1024 .bf16) (ValueIdx.ix2 i j)) ((m (c, main_arg3) : FVec Ideal S8320x8192 .bf16) (ValueIdx.ix2 (tok t i) (projB j))) := by
  obtain ⟨e0, e1⟩ := (places t).2.2.2.2
  refine (congrArg (V m c main_arg3) (funext fun a => Fin.ext ?_)).trans (congrFun (V_main_arg3 m c) (ValueIdx.ix2 (tok t i) (projB j)))
  match a with
  | ⟨0, _⟩ => show win0_4.index t (0 : Fin 2) * 640 + 1 * i.val = 640 * t.val + i.val; omega
  | ⟨1, _⟩ => show win0_4.index t (1 : Fin 2) * 1024 + 1 * j.val = 7168 + j.val; omega

theorem x5_apply (k : Fin 1024) : @Eq EReal ((iblk m c 5 t : FVec Ideal S1024x1024 .bf16) (ValueIdx.ix2 j k)) ((m (c, main_arg4) : FVec Ideal S1024x1024 .bf16) (ValueIdx.ix2 j k)) := by
  obtain ⟨e0, e1⟩ := (places_weights t).1
  refine (congrArg (V m c main_arg4) (funext fun a => Fin.ext ?_)).trans (congrFun (V_main_arg4 m c) (ValueIdx.ix2 j k))
  match a with
  | ⟨0, _⟩ => show win0_5.index t (0 : Fin 2) * 1024 + 1 * j.val = j.val; omega
  | ⟨1, _⟩ => show win0_5.index t (1 : Fin 2) * 1024 + 1 * k.val = k.val; omega

theorem x6_apply (k : Fin 1024) : @Eq EReal ((iblk m c 6 t : FVec Ideal S1024x1024 .bf16) (ValueIdx.ix2 j k)) ((m (c, main_arg5) : FVec Ideal S1024x1024 .bf16) (ValueIdx.ix2 j k)) := by
  obtain ⟨e0, e1⟩ := (places_weights t).2.1
  refine (congrArg (V m c main_arg5) (funext fun a => Fin.ext ?_)).trans (congrFun (V_main_arg5 m c) (ValueIdx.ix2 j k))
  match a with
  | ⟨0, _⟩ => show win0_6.index t (0 : Fin 2) * 1024 + 1 * j.val = j.val; omega
  | ⟨1, _⟩ => show win0_6.index t (1 : Fin 2) * 1024 + 1 * k.val = k.val; omega

theorem x7_apply (k : Fin 1024) : @Eq EReal ((iblk m c 7 t : FVec Ideal S1024x1024 .bf16) (ValueIdx.ix2 j k)) ((m (c, main_arg6) : FVec Ideal S1024x1024 .bf16) (ValueIdx.ix2 j k)) := by
  obtain ⟨e0, e1⟩ := (places_weights t).2.2
  refine (congrArg (V m c main_arg6) (funext fun a => Fin.ext ?_)).trans (congrFun (V_main_arg6 m c) (ValueIdx.ix2 j k))
  match a with
  | ⟨0, _⟩ => show win0_7.index t (0 : Fin 2) * 1024 + 1 * j.val = j.val; omega
  | ⟨1, _⟩ => show win0_7.index t (1 : Fin 2) * 1024 + 1 * k.val = k.val; omega

end Loaded

/-! ### The reference's lines -/

section Lines

variable (x0 : FVec Ideal S8320x1024 .f32) (x1 x2 : FVec Ideal S8320x1024 .bf16) (x3 : FVec Ideal S8320x8192 .bf16)
  (x4 x5 x6 : FVec Ideal S1024x1024 .bf16) (t : Fin 8320) (j : Fin 1024)

theorem v33_at : @Eq EReal (val_main_v33 (F := Ideal) x0 x6 (ValueIdx.ix2 t j)) (∑ k : Fin 1024, x0 (ValueIdx.ix2 t k) * x6 (ValueIdx.ix2 j k)) := by
  rw [val_main_v33_apply]
  refine Finset.sum_congr rfl fun k _ => congrArg₂ (fun x y : EReal => x * y) (congrArg x0 (funext fun a => Fin.ext ?_)) (congrArg x6 (funext fun a => Fin.ext ?_))
  · match a with
    | ⟨0, _⟩ => rfl
    | ⟨1, _⟩ => rfl
  · match a with
    | ⟨0, _⟩ => rfl
    | ⟨1, _⟩ => rfl

theorem v16_at : @Eq EReal (val_main_v16 (F := Ideal) x3 (ValueIdx.ix2 t j)) (sg (x3 (ValueIdx.ix2 t (projA j)))) := by
  rw [val_main_v16_apply, val_main_v14_apply, val_main_v12_apply, val_main_v11_apply, val_main_v7_apply, val_main_v6_apply, val_main_v5_apply]
  refine congrArg sg (congrArg x3 (funext fun a => Fin.ext ?_))
  match a with
  | ⟨0, _⟩ => rfl
  | ⟨1, _⟩ => rfl

theorem v26_at : @Eq EReal (val_main_v26 (F := Ideal) x3 (ValueIdx.ix2 t j)) (sg (x3 (ValueIdx.ix2 t (projB j)))) := by
  rw [val_main_v26_apply, val_main_v24_apply, val_main_v22_apply, val_main_v21_apply, val_main_v8_apply, val_main_v6_apply, val_main_v5_apply]
  refine congrArg sg (congrArg x3 (funext fun a => Fin.ext ?_))
  match a with
  | ⟨0, _⟩ => rfl
  | ⟨1, _⟩ => show 6144 + (1024 + j.val) = 7168 + j.val; omega

theorem v37_at : @Eq EReal (val_main_v37 (F := Ideal) x0 x3 x6 (ValueIdx.ix2 t j))
    (sg (x3 (ValueIdx.ix2 t (projA j))) * ∑ k : Fin 1024, (x0 (ValueIdx.ix2 t k) * x6 (ValueIdx.ix2 j k) : EReal)) :=
  congrArg₂ (fun x y : EReal => x * y) (v16_at x3 t j) (v33_at x0 x6 t j)

theorem v34_at : @Eq EReal (val_main_v34 (F := Ideal) x0 x3 x6 (ValueIdx.ix2 t j))
    (sg (x3 (ValueIdx.ix2 t (projB j))) * ∑ k : Fin 1024, (x0 (ValueIdx.ix2 t k) * x6 (ValueIdx.ix2 j k) : EReal)) :=
  congrArg₂ (fun x y : EReal => x * y) (v26_at x3 t j) (v33_at x0 x6 t j)

theorem v39_at : @Eq EReal (val_main_v39 (F := Ideal) x0 x1 x3 x4 x6 (ValueIdx.ix2 t j))
    (((∑ k : Fin 1024, (x0 (ValueIdx.ix2 t k) * x6 (ValueIdx.ix2 j k) : EReal)) * val_main_v9 (F := Ideal) x1 x4 (ValueIdx.ix2 t j))
      * (sg (x3 (ValueIdx.ix2 t (projA j))) * (Ideal.ofBits .f32 0x3F800000#32 - sg (x3 (ValueIdx.ix2 t (projA j)))))) := by
  rw [← v33_at x0 x6 t j, ← v16_at x3 t j]
  rfl

theorem v36_at : @Eq EReal (val_main_v36 (F := Ideal) x0 x2 x3 x5 x6 (ValueIdx.ix2 t j))
    (((∑ k : Fin 1024, (x0 (ValueIdx.ix2 t k) * x6 (ValueIdx.ix2 j k) : EReal)) * val_main_v10 (F := Ideal) x2 x5 (ValueIdx.ix2 t j))
      * (sg (x3 (ValueIdx.ix2 t (projB j))) * (Ideal.ofBits .f32 0x3F800000#32 - sg (x3 (ValueIdx.ix2 t (projB j)))))) := by
  rw [← v33_at x0 x6 t j, ← v26_at x3 t j]
  rfl

theorem v41_at : @Eq EReal (val_main_v41 (F := Ideal) x0 x3 x4 x6 (ValueIdx.ix2 t j))
    (∑ k : Fin 1024, val_main_v37 (F := Ideal) x0 x3 x6 (ValueIdx.ix2 t k) * x4 (ValueIdx.ix2 j k)) := by
  rw [val_main_v41_apply]
  refine Finset.sum_congr rfl fun k _ => congrArg₂ (fun x y : EReal => x * y) (congrArg (val_main_v37 (F := Ideal) x0 x3 x6) (funext fun a => Fin.ext ?_)) (congrArg x4 (funext fun a => Fin.ext ?_))
  · match a with
    | ⟨0, _⟩ => rfl
    | ⟨1, _⟩ => rfl
  · match a with
    | ⟨0, _⟩ => rfl
    | ⟨1, _⟩ => rfl

theorem v42_at : @Eq EReal (val_main_v42 (F := Ideal) x0 x3 x5 x6 (ValueIdx.ix2 t j))
    (∑ k : Fin 1024, val_main_v34 (F := Ideal) x0 x3 x6 (ValueIdx.ix2 t k) * x5 (ValueIdx.ix2 j k)) := by
  rw [val_main_v42_apply]
  refine Finset.sum_congr rfl fun k _ => congrArg₂ (fun x y : EReal => x * y) (congrArg (val_main_v34 (F := Ideal) x0 x3 x6) (funext fun a => Fin.ext ?_)) (congrArg x5 (funext fun a => Fin.ext ?_))
  · match a with
    | ⟨0, _⟩ => rfl
    | ⟨1, _⟩ => rfl
  · match a with
    | ⟨0, _⟩ => rfl
    | ⟨1, _⟩ => rfl

theorem v45_A : @Eq EReal (val_main_v45 (F := Ideal) x0 x1 x2 x3 x4 x5 x6 (ValueIdx.ix2 t (colA j))) (val_main_v39 (F := Ideal) x0 x1 x3 x4 x6 (ValueIdx.ix2 t j)) := by
  rw [val_main_v45_apply]
  unfold val_main_v40
  exact (show _ = _ from concatenate_pair_apply_left (t := S8320x2048) (s₁ := S8320x1024) (s₂ := S8320x1024) 1 _ _ _ (ValueIdx.ix2 t (colA j)) rfl
    (ValueIdx.ix2 t j) (fun d => match d with
    | ⟨0, _⟩ => rfl
    | ⟨1, _⟩ => rfl))

theorem v45_B : @Eq EReal (val_main_v45 (F := Ideal) x0 x1 x2 x3 x4 x5 x6 (ValueIdx.ix2 t (colB j))) (val_main_v36 (F := Ideal) x0 x2 x3 x5 x6 (ValueIdx.ix2 t j)) := by
  rw [val_main_v45_apply]
  unfold val_main_v40
  exact (show _ = _ from concatenate_pair_apply_right (t := S8320x2048) (s₁ := S8320x1024) (s₂ := S8320x1024) 1 _ _ _ (ValueIdx.ix2 t (colB j)) rfl rfl
    (ValueIdx.ix2 t j) (fun d hd => match d with
    | ⟨0, _⟩ => rfl
    | ⟨1, _⟩ => absurd rfl hd) (Nat.add_comm j.val 1024))

end Lines

end Arrays

end Cert.MixIdeal.Product

end
-- ==== Proof.MixBackward.lean ====
/- The backward pass of the mixing: the kernel's five results are the reference's, for all arguments. -/
module

public import proofs.«01_k».proof.Defs
public import proofs.«01_k».proof.Proof.MixGrid
public import Idealize.ShloMosaic.Adequacy
public import Idealize.ShloMosaic.Init

@[expose] public section

set_option maxRecDepth 16384

noncomputable section

namespace Cert.MixIdeal.Product

open Cert.MixIdeal Cert.MixIdeal.Gen Idealize.ShloMosaic.TcCoe Idealize.SL.Sem
open Idealize.ShloMosaic hiding ix2
open Idealize.ShloMosaic.ValueIdx (ix2)
open Cert.MixReferenceIdeal.Read

/-! ### The arrays after the run, block by block -/

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne
    ((by decide +kernel : ∀ t t' : Fin grid0.N, win0_8.index t = win0_8.index t' → t = t') t t' h)

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne
    ((by decide +kernel : ∀ t t' : Fin grid0.N, win0_9.index t = win0_9.index t' → t = t') t t' h)

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne
    ((by decide +kernel : ∀ t t' : Fin grid0.N, win0_10.index t = win0_10.index t' → t = t') t t' h)

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne
    ((by decide +kernel : ∀ t t' : Fin grid0.N, win0_11.index t = win0_11.index t' → t = t') t t' h)

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne
    ((by decide +kernel : ∀ t t' : Fin grid0.N, win0_12.index t = win0_12.index t' → t = t') t t' h)

/-- A column of the gates' gradients among the projections. -/
def proj2 (k : Fin 2048) : Fin 8192 := ⟨6144 + k.val, by omega⟩

section Left

variable (m : (ℓ : Loc nD τ sig) → Buf (Elt Ideal) ℓ) (c : Dev nD) (t : Fin cfg0.N) (i : Fin 640)

theorem emb8 (k : Fin 1024) : ((cfg0.win 8).blk t).view.emb (ix2 i k) = ix2 (tok t i) k := by
  obtain ⟨e0, e1⟩ := (places_out t).1
  refine funext fun a => Fin.ext ?_
  match a with
  | ⟨0, _⟩ => show win0_8.index t (0 : Fin 2) * 640 + 1 * i.val = 640 * t.val + i.val; omega
  | ⟨1, _⟩ => show win0_8.index t (1 : Fin 2) * 1024 + 1 * k.val = k.val; omega

theorem left8 (k : Fin 1024) : @Eq EReal ((dats m 0 c).arrAt 8 cfg0.N (ix2 (tok t i) k))
    (out0_8 (F := Ideal) (iblk m c 0 t) (iblk m c 1 t) (iblk m c 2 t) (iblk m c 3 t) (iblk m c 4 t) (iblk m c 5 t) (iblk m c 6 t) (iblk m c 7 t) (ix2 i k)) := by
  rw [← emb8 t i k]
  have b := congrFun ((dats m 0 c).read_blk_arrAt_eq_flushed 8 disjoint8 cfg0.N t t.isLt (flush0_8 t)) (ix2 i k)
  rw [show (dats m 0 c).flushed 8 t = (cfg0.win 8).cut (grid0.coords t) ((dats m 0 c).after 8 t) from rfl, after0_8] at b
  exact b

theorem emb9 (k : Fin 1024) : ((cfg0.win 9).blk t).view.emb (ix2 i k) = ix2 (tok t i) k := by
  obtain ⟨e0, e1⟩ := (places_out t).2.1
  refine funext fun a => Fin.ext ?_
  match a with
  | ⟨0, _⟩ => show win0_9.index t (0 : Fin 2) * 640 + 1 * i.val = 640 * t.val + i.val; omega
  | ⟨1, _⟩ => show win0_9.index t (1 : Fin 2) * 1024 + 1 * k.val = k.val; omega

theorem left9 (k : Fin 1024) : @Eq EReal ((dats m 0 c).arrAt 9 cfg0.N (ix2 (tok t i) k))
    (out0_9 (F := Ideal) (iblk m c 0 t) (iblk m c 1 t) (iblk m c 2 t) (iblk m c 3 t) (iblk m c 4 t) (iblk m c 5 t) (iblk m c 6 t) (iblk m c 7 t) (ix2 i k)) := by
  rw [← emb9 t i k]
  have b := congrFun ((dats m 0 c).read_blk_arrAt_eq_flushed 9 disjoint9 cfg0.N t t.isLt (flush0_9 t)) (ix2 i k)
  rw [show (dats m 0 c).flushed 9 t = (cfg0.win 9).cut (grid0.coords t) ((dats m 0 c).after 9 t) from rfl, after0_9] at b
  exact b

theorem emb10 (k : Fin 2048) : ((cfg0.win 10).blk t).view.emb (ix2 i k) = ix2 (tok t i) (proj2 k) := by
  obtain ⟨e0, e1⟩ := (places_out t).2.2.1
  refine funext fun a => Fin.ext ?_
  match a with
  | ⟨0, _⟩ => show win0_10.index t (0 : Fin 2) * 640 + 1 * i.val = 640 * t.val + i.val; omega
  | ⟨1, _⟩ => show win0_10.index t (1 : Fin 2) * 2048 + 1 * k.val = 6144 + k.val; omega

theorem left10 (k : Fin 2048) : @Eq EReal ((dats m 0 c).arrAt 10 cfg0.N (ix2 (tok t i) (proj2 k)))
    (out0_10 (F := Ideal) (iblk m c 0 t) (iblk m c 1 t) (iblk m c 2 t) (iblk m c 3 t) (iblk m c 4 t) (iblk m c 5 t) (iblk m c 6 t) (iblk m c 7 t) (ix2 i k)) := by
  rw [← emb10 t i k]
  have b := congrFun ((dats m 0 c).read_blk_arrAt_eq_flushed 10 disjoint10 cfg0.N t t.isLt (flush0_10 t)) (ix2 i k)
  rw [show (dats m 0 c).flushed 10 t = (cfg0.win 10).cut (grid0.coords t) ((dats m 0 c).after 10 t) from rfl, after0_10] at b
  exact b

theorem emb11 (k : Fin 1024) : ((cfg0.win 11).blk t).view.emb (ix2 i k) = ix2 (tok t i) k := by
  obtain ⟨e0, e1⟩ := (places_out t).2.2.2.1
  refine funext fun a => Fin.ext ?_
  match a with
  | ⟨0, _⟩ => show win0_11.index t (0 : Fin 2) * 640 + 1 * i.val = 640 * t.val + i.val; omega
  | ⟨1, _⟩ => show win0_11.index t (1 : Fin 2) * 1024 + 1 * k.val = k.val; omega

theorem left11 (k : Fin 1024) : @Eq EReal ((dats m 0 c).arrAt 11 cfg0.N (ix2 (tok t i) k))
    (out0_11 (F := Ideal) (iblk m c 0 t) (iblk m c 1 t) (iblk m c 2 t) (iblk m c 3 t) (iblk m c 4 t) (iblk m c 5 t) (iblk m c 6 t) (iblk m c 7 t) (ix2 i k)) := by
  rw [← emb11 t i k]
  have b := congrFun ((dats m 0 c).read_blk_arrAt_eq_flushed 11 disjoint11 cfg0.N t t.isLt (flush0_11 t)) (ix2 i k)
  rw [show (dats m 0 c).flushed 11 t = (cfg0.win 11).cut (grid0.coords t) ((dats m 0 c).after 11 t) from rfl, after0_11] at b
  exact b

theorem emb12 (k : Fin 1024) : ((cfg0.win 12).blk t).view.emb (ix2 i k) = ix2 (tok t i) k := by
  obtain ⟨e0, e1⟩ := (places_out t).2.2.2.2
  refine funext fun a => Fin.ext ?_
  match a with
  | ⟨0, _⟩ => show win0_12.index t (0 : Fin 2) * 640 + 1 * i.val = 640 * t.val + i.val; omega
  | ⟨1, _⟩ => show win0_12.index t (1 : Fin 2) * 1024 + 1 * k.val = k.val; omega

theorem left12 (k : Fin 1024) : @Eq EReal ((dats m 0 c).arrAt 12 cfg0.N (ix2 (tok t i) k))
    (out0_12 (F := Ideal) (iblk m c 0 t) (iblk m c 1 t) (iblk m c 2 t) (iblk m c 3 t) (iblk m c 4 t) (iblk m c 5 t) (iblk m c 6 t) (iblk m c 7 t) (ix2 i k)) := by
  rw [← emb12 t i k]
  have b := congrFun ((dats m 0 c).read_blk_arrAt_eq_flushed 12 disjoint12 cfg0.N t t.isLt (flush0_12 t)) (ix2 i k)
  rw [show (dats m 0 c).flushed 12 t = (cfg0.win 12).cut (grid0.coords t) ((dats m 0 c).after 12 t) from rfl, after0_12] at b
  exact b

variable (j : Fin 1024)

/-- The gradients of the two branches and of the two gates are those lines of the reference. -/
theorem branchR_eq : @Eq EReal (branch (iblk m c 0 t) (iblk m c 7 t) (iblk m c 3 t) i j)
    (val_main_v37 (F := Ideal) (m (c, main_arg0)) (m (c, main_arg3)) (m (c, main_arg6)) (ix2 (tok t i) j)) := by
  rw [v37_at]
  exact congrArg₂ (fun x y : EReal => x * y) (congrArg sg (x3_apply m c t i j))
    (Finset.sum_congr rfl fun k _ => congrArg₂ (fun x y : EReal => x * y) (x0_apply m c t i k) (x7_apply m c t j k))

theorem branchL_eq : @Eq EReal (branch (iblk m c 0 t) (iblk m c 7 t) (iblk m c 4 t) i j)
    (val_main_v34 (F := Ideal) (m (c, main_arg0)) (m (c, main_arg3)) (m (c, main_arg6)) (ix2 (tok t i) j)) := by
  rw [v34_at]
  exact congrArg₂ (fun x y : EReal => x * y) (congrArg sg (x4_apply m c t i j))
    (Finset.sum_congr rfl fun k _ => congrArg₂ (fun x y : EReal => x * y) (x0_apply m c t i k) (x7_apply m c t j k))

theorem gateR_eq : @Eq EReal (gateGrad (iblk m c 0 t) (iblk m c 7 t) (iblk m c 3 t) (iblk m c 1 t) i j)
    (val_main_v39 (F := Ideal) (m (c, main_arg0)) (m (c, main_arg1)) (m (c, main_arg3)) (m (c, main_arg4)) (m (c, main_arg6)) (ix2 (tok t i) j)) := by
  rw [v39_at]
  exact congrArg₂ (fun x y : EReal => x * y) (congrArg₂ (fun x y : EReal => x * y)
      (Finset.sum_congr rfl fun k _ => congrArg₂ (fun x y : EReal => x * y) (x0_apply m c t i k) (x7_apply m c t j k)) (x1_apply m c t i j))
    (congrArg (fun x : EReal => sg x * (Ideal.ofBits .f32 0x3F800000#32 - sg x)) (x3_apply m c t i j))

theorem gateL_eq : @Eq EReal (gateGrad (iblk m c 0 t) (iblk m c 7 t) (iblk m c 4 t) (iblk m c 2 t) i j)
    (val_main_v36 (F := Ideal) (m (c, main_arg0)) (m (c, main_arg2)) (m (c, main_arg3)) (m (c, main_arg5)) (m (c, main_arg6)) (ix2 (tok t i) j)) := by
  rw [v36_at]
  exact congrArg₂ (fun x y : EReal => x * y) (congrArg₂ (fun x y : EReal => x * y)
      (Finset.sum_congr rfl fun k _ => congrArg₂ (fun x y : EReal => x * y) (x0_apply m c t i k) (x7_apply m c t j k)) (x2_apply m c t i j))
    (congrArg (fun x : EReal => sg x * (Ideal.ofBits .f32 0x3F800000#32 - sg x)) (x4_apply m c t i j))

end Left

section Results

variable (m : (ℓ : Loc nD τ sig) → Buf (Elt Ideal) ℓ) (c : Dev nD)

theorem idx_cases (x : S8320x1024.Idx) : ∃ (t : Fin cfg0.N) (i : Fin 640) (j : Fin 1024), x = ix2 (tok t i) j := by
  obtain ⟨t, i, e⟩ := tok_cases (x 0)
  exact ⟨t, i, x 1, funext fun a => match a with
    | ⟨0, _⟩ => e
    | ⟨1, _⟩ => rfl⟩

theorem result8 : (dats m 0 c).arrAt 8 cfg0.N = val_main_v43 (F := Ideal) (m (c, main_arg0)) (m (c, main_arg3)) (m (c, main_arg6)) := by
  funext x
  obtain ⟨t, i, j, rfl⟩ := idx_cases x
  exact (left8 m c t i j).trans ((out8_apply _ _ _ _ _ _ _ _ i j).trans (branchR_eq m c t i j))

theorem result9 : (dats m 0 c).arrAt 9 cfg0.N = val_main_v44 (F := Ideal) (m (c, main_arg0)) (m (c, main_arg3)) (m (c, main_arg6)) := by
  funext x
  obtain ⟨t, i, j, rfl⟩ := idx_cases x
  exact (left9 m c t i j).trans ((out9_apply _ _ _ _ _ _ _ _ i j).trans (branchL_eq m c t i j))

theorem result11 : (dats m 0 c).arrAt 11 cfg0.N = val_main_v46 (F := Ideal) (m (c, main_arg0)) (m (c, main_arg3)) (m (c, main_arg4)) (m (c, main_arg6)) := by
  funext x
  obtain ⟨t, i, j, rfl⟩ := idx_cases x
  refine (left11 m c t i j).trans ((out11_apply _ _ _ _ _ _ _ _ i j).trans (Eq.trans ?_ (v41_at _ _ _ _ _ j).symm))
  exact Finset.sum_congr rfl fun k _ => congrArg₂ (fun x y : EReal => x * y) (branchR_eq m c t i k) (x5_apply m c t j k)

theorem result12 : (dats m 0 c).arrAt 12 cfg0.N = val_main_v47 (F := Ideal) (m (c, main_arg0)) (m (c, main_arg3)) (m (c, main_arg5)) (m (c, main_arg6)) := by
  funext x
  obtain ⟨t, i, j, rfl⟩ := idx_cases x
  refine (left12 m c t i j).trans ((out12_apply _ _ _ _ _ _ _ _ i j).trans (Eq.trans ?_ (v42_at _ _ _ _ _ j).symm))
  exact Finset.sum_congr rfl fun k _ => congrArg₂ (fun x y : EReal => x * y) (branchL_eq m c t i k) (x6_apply m c t j k)

/-- The last 2048 columns of the projections' gradient. -/
def gates : FVec Ideal S8320x2048 .bf16 :=
  extractStridedSlice S8320x2048 ![0, 6144] ((dats m 0 c).arrAt 10 cfg0.N : FVec Ideal S8320x8192 .bf16) slices_S8320x8192_S8320x2048_0_6144

theorem gates_apply (t : Fin 8320) (k : Fin 2048) : @Eq EReal (gates m c (ix2 t k)) ((dats m 0 c).arrAt 10 cfg0.N (ix2 t (proj2 k))) :=
  extractStridedSlice_apply ![0, 6144] _ slices_S8320x8192_S8320x2048_0_6144 (ix2 t k) (ix2 t (proj2 k)) fun a => match a with
    | ⟨0, _⟩ => (Nat.zero_add t.val).symm
    | ⟨1, _⟩ => rfl

theorem gates_eq : gates m c = val_main_v45 (F := Ideal) (m (c, main_arg0)) (m (c, main_arg1)) (m (c, main_arg2)) (m (c, main_arg3)) (m (c, main_arg4)) (m (c, main_arg5)) (m (c, main_arg6)) := by
  funext x
  obtain ⟨t, i, k, rfl⟩ : ∃ (t : Fin cfg0.N) (i : Fin 640) (k : Fin 2048), x = ix2 (tok t i) k := by
    obtain ⟨t, i, e⟩ := tok_cases (x 0)
    exact ⟨t, i, x 1, funext fun a => match a with
      | ⟨0, _⟩ => e
      | ⟨1, _⟩ => rfl⟩
  refine (gates_apply m c (tok t i) k).trans ((left10 m c t i k).trans ?_)
  rcases Nat.lt_or_ge k.val 1024 with hk | hk
  · obtain ⟨j, rfl⟩ : ∃ j : Fin 1024, k = colA j := ⟨⟨k.val, hk⟩, rfl⟩
    exact (out10_A _ _ _ _ _ _ _ _ i j).trans ((gateR_eq m c t i j).trans (v45_A _ _ _ _ _ _ _ _ j).symm)
  · obtain ⟨j, rfl⟩ : ∃ j : Fin 1024, k = colB j := ⟨⟨k.val - 1024, by omega⟩, Fin.ext (by show k.val = 1024 + (k.val - 1024); omega)⟩
    exact (out10_B _ _ _ _ _ _ _ _ i j).trans ((gateL_eq m c t i j).trans (v45_B _ _ _ _ _ _ _ _ j).symm)

/-- The slice that follows the grid reads the array that the grid left. -/
theorem tail_eq : Pipeline.afterTail₀ cfgs (dats m) 0 (V0 m) [hostOps1] c main_v9 = gates m c := by
  unfold Pipeline.afterTail₀
  simp only [hostOps1, List.flatten_cons, List.flatten_nil, List.append_nil, List.cons_append, List.nil_append]
  after_results
  exact congrArg (fun x : FVec Ideal S8320x8192 .bf16 => extractStridedSlice S8320x2048 ![0, 6144] x slices_S8320x8192_S8320x2048_0_6144)
    (Pipeline.Dat.withArrays_arrAt (dats m 0 c) sharedIn0 (V0 m c) (A_eq m c) 10)

end Results

/-! ### The runs -/

theorem run_kernel (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
        r.2.mem ((c.tc : Thread nD τ).loc main_v8_0) = (dats m 0 c).arrAt 8 cfg0.N
        ∧ r.2.mem ((c.tc : Thread nD τ).loc main_v8_1) = (dats m 0 c).arrAt 9 cfg0.N
        ∧ r.2.mem ((c.tc : Thread nD τ).loc main_v9) = gates m c
        ∧ r.2.mem ((c.tc : Thread nD τ).loc main_v8_3) = (dats m 0 c).arrAt 11 cfg0.N
        ∧ r.2.mem ((c.tc : Thread nD τ).loc main_v8_4) = (dats m 0 c).arrAt 12 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c => ⟨(h.2 c).1 8, (h.2 c).1 9,
      ((h.2 c).2 main_v9 (Pipeline.mem_restRefs_of main_v9 (by decide) (by decide))).trans (tail_eq m c), (h.2 c).1 11, (h.2 c).1 12, h.1 c⟩)
    (θ_run_and (unchanged m g) (run_main m g))

/-- The reference runs, and ends with the arrays that its lines compute. -/
theorem run_reference (m : (ℓ : Loc MixReferenceIdeal.nD MixReferenceIdeal.τ MixReferenceIdeal.sig) → Buf (Elt Ideal) ℓ) (g : Dev MixReferenceIdeal.nD → PrngReg) :
    θ_run (MixReferenceIdeal.defs (F := Ideal)) (onTc (τ := MixReferenceIdeal.τ) (MixReferenceIdeal.main (F := Ideal)))
      ⟨m, fun _ => 0, g⟩ fun r => ∀ c : Dev MixReferenceIdeal.nD,
        r.2.mem ((c.tc : Thread MixReferenceIdeal.nD MixReferenceIdeal.τ).loc MixReferenceIdeal.main_v43)
          = val_main_v43 (F := Ideal) (m (c, MixReferenceIdeal.main_arg0)) (m (c, MixReferenceIdeal.main_arg3)) (m (c, MixReferenceIdeal.main_arg6))
        ∧ r.2.mem ((c.tc : Thread MixReferenceIdeal.nD MixReferenceIdeal.τ).loc MixReferenceIdeal.main_v44)
          = val_main_v44 (F := Ideal) (m (c, MixReferenceIdeal.main_arg0)) (m (c, MixReferenceIdeal.main_arg3)) (m (c, MixReferenceIdeal.main_arg6))
        ∧ r.2.mem ((c.tc : Thread MixReferenceIdeal.nD MixReferenceIdeal.τ).loc MixReferenceIdeal.main_v45)
          = val_main_v45 (F := Ideal) (m (c, MixReferenceIdeal.main_arg0)) (m (c, MixReferenceIdeal.main_arg1)) (m (c, MixReferenceIdeal.main_arg2)) (m (c, MixReferenceIdeal.main_arg3)) (m (c, MixReferenceIdeal.main_arg4)) (m (c, MixReferenceIdeal.main_arg5)) (m (c, MixReferenceIdeal.main_arg6))
        ∧ r.2.mem ((c.tc : Thread MixReferenceIdeal.nD MixReferenceIdeal.τ).loc MixReferenceIdeal.main_v46)
          = val_main_v46 (F := Ideal) (m (c, MixReferenceIdeal.main_arg0)) (m (c, MixReferenceIdeal.main_arg3)) (m (c, MixReferenceIdeal.main_arg4)) (m (c, MixReferenceIdeal.main_arg6))
        ∧ r.2.mem ((c.tc : Thread MixReferenceIdeal.nD MixReferenceIdeal.τ).loc MixReferenceIdeal.main_v47)
          = val_main_v47 (F := Ideal) (m (c, MixReferenceIdeal.main_arg0)) (m (c, MixReferenceIdeal.main_arg3)) (m (c, MixReferenceIdeal.main_arg5)) (m (c, MixReferenceIdeal.main_arg6))
        ∧ r.2.mem ((c.tc : Thread MixReferenceIdeal.nD MixReferenceIdeal.τ).loc MixReferenceIdeal.main_arg0) = m ((c.tc : Thread MixReferenceIdeal.nD MixReferenceIdeal.τ).loc MixReferenceIdeal.main_arg0)
        ∧ r.2.mem ((c.tc : Thread MixReferenceIdeal.nD MixReferenceIdeal.τ).loc MixReferenceIdeal.main_arg1) = m ((c.tc : Thread MixReferenceIdeal.nD MixReferenceIdeal.τ).loc MixReferenceIdeal.main_arg1)
        ∧ r.2.mem ((c.tc : Thread MixReferenceIdeal.nD MixReferenceIdeal.τ).loc MixReferenceIdeal.main_arg2) = m ((c.tc : Thread MixReferenceIdeal.nD MixReferenceIdeal.τ).loc MixReferenceIdeal.main_arg2)
        ∧ r.2.mem ((c.tc : Thread MixReferenceIdeal.nD MixReferenceIdeal.τ).loc MixReferenceIdeal.main_arg3) = m ((c.tc : Thread MixReferenceIdeal.nD MixReferenceIdeal.τ).loc MixReferenceIdeal.main_arg3)
        ∧ r.2.mem ((c.tc : Thread MixReferenceIdeal.nD MixReferenceIdeal.τ).loc MixReferenceIdeal.main_arg4) = m ((c.tc : Thread MixReferenceIdeal.nD MixReferenceIdeal.τ).loc MixReferenceIdeal.main_arg4)
        ∧ r.2.mem ((c.tc : Thread MixReferenceIdeal.nD MixReferenceIdeal.τ).loc MixReferenceIdeal.main_arg5) = m ((c.tc : Thread MixReferenceIdeal.nD MixReferenceIdeal.τ).loc MixReferenceIdeal.main_arg5)
        ∧ r.2.mem ((c.tc : Thread MixReferenceIdeal.nD MixReferenceIdeal.τ).loc MixReferenceIdeal.main_arg6) = m ((c.tc : Thread MixReferenceIdeal.nD MixReferenceIdeal.τ).loc MixReferenceIdeal.main_arg6) :=
  (θ_run MixReferenceIdeal.defs _ _).mono
    (fun _ h c => ⟨(h c).1.trans (val_main_v43_eq _ _ _), (h c).2.1.trans (val_main_v44_eq _ _ _), (h c).2.2.1.trans (val_main_v45_eq _ _ _ _ _ _ _),
      (h c).2.2.2.1.trans (val_main_v46_eq _ _ _ _), (h c).2.2.2.2.1.trans (val_main_v47_eq _ _ _ _), (h c).2.2.2.2.2⟩)
    (MixReferenceIdeal.Value.run (F := Ideal) m g)

/-- The reference leaves its arguments and counters alone. -/
theorem quiescent_reference : quiescent_MixReferenceIdeal (hMixReferenceIdeal := MixReferenceIdeal.Gen.facts) := fun m g _ =>
  (θ_run MixReferenceIdeal.defs _ _).mono (fun r h => ⟨fun c => (h c).2.2.2.2.2, sem_eq_zero_of_no_sems (by decide) r.2⟩) (run_reference m g)

/-- The kernel's results are the reference's. -/
theorem algebraic : algebraic_MixIdeal_MixReferenceIdeal (hMixIdeal := Gen.facts)
    (hMixReferenceIdeal := MixReferenceIdeal.Gen.facts) := by
  intro m g m' g' _ hagree
  refine ⟨fun c => (dats m 0 c).arrAt 8 cfg0.N, fun c => (dats m 0 c).arrAt 9 cfg0.N, fun c => gates m c,
    fun c => (dats m 0 c).arrAt 11 cfg0.N, fun c => (dats m 0 c).arrAt 12 cfg0.N, run_kernel m g, ?_⟩
  refine (θ_run MixReferenceIdeal.defs _ _).mono (fun r h c => ?_) (run_reference m' g')
  obtain ⟨a0, a1, a2, a3, a4, a5, a6⟩ := hagree c
  refine ⟨(h c).1.trans ?_, (h c).2.1.trans ?_, (h c).2.2.1.trans ?_, (h c).2.2.2.1.trans ?_, (h c).2.2.2.2.1.trans ?_, (h c).2.2.2.2.2⟩
  · exact (congr (congr (congrArg (val_main_v43 (F := Ideal)) a0) a3) a6).trans (result8 m c).symm
  · exact (congr (congr (congrArg (val_main_v44 (F := Ideal)) a0) a3) a6).trans (result9 m c).symm
  · exact (congr (congr (congr (congr (congr (congr (congrArg (val_main_v45 (F := Ideal)) a0) a1) a2) a3) a4) a5) a6).trans (gates_eq m c).symm
  · exact (congr (congr (congr (congrArg (val_main_v46 (F := Ideal)) a0) a3) a4) a6).trans (result11 m c).symm
  · exact (congr (congr (congr (congrArg (val_main_v47 (F := Ideal)) a0) a3) a5) a6).trans (result12 m c).symm

end Cert.MixIdeal.Product

end
-- ==== Proof.FwdStep.lean ====
/- The forward pass of the feed-forward block and the loss: what one grid step stores, and what its stores leave.
   `Loads` holds the blocks a step loads. `hidden` gives the gate, up and activation columns of a group, `out` the block's
   output, `diff` its normed output less the target. Two rows of sums are added to an accumulator that the first step clears. -/
module

public import proofs.«01_k».proof.Proof.FfnReal
public import proofs.«01_k».proof.Proof.Gen.FfnFwdIdeal.Value
public import Idealize.ShloMosaic.Lib.ValueIdx

@[expose] public section

set_option maxRecDepth 16384

noncomputable section

namespace Cert.FfnFwdIdeal.Product

open Cert.FfnFwdIdeal Cert.FfnFwdIdeal.Gen Idealize.ShloMosaic Idealize.ShloMosaic.TcCoe Idealize.SL.Sem

variable {F : FTy → Type}

theorem zero2 : (![0, 0] : Fin 2 → ℕ) = fun _ => 0 := funext fun a => match a with
  | ⟨0, _⟩ => rfl
  | ⟨1, _⟩ => rfl

theorem inbCol (d : Fin 4) : ∀ a, (![0, 768 * d.val] : Fin 2 → ℕ) a + (![320, 768] : Fin 2 → ℕ) a ≤ S320x3072.size a := by
  intro a; match a with
  | ⟨0, _⟩ => show 0 + 320 ≤ 320; omega
  | ⟨1, _⟩ => show 768 * d.val + 768 ≤ 3072; omega

theorem inbWi (e : Fin 8) : ∀ a, (![e.val, 0, 0] : Fin 3 → ℕ) a + (![1, 1024, 768] : Fin 3 → ℕ) a ≤ S8x1024x768.size a := by
  intro a; match a with
  | ⟨0, _⟩ => show e.val + 1 ≤ 8; omega
  | ⟨1, _⟩ => show 0 + 1024 ≤ 1024; omega
  | ⟨2, _⟩ => show 0 + 768 ≤ 768; omega

theorem inbWo (d : Fin 4) : ∀ a, (![d.val, 0, 0] : Fin 3 → ℕ) a + (![1, 768, 1024] : Fin 3 → ℕ) a ≤ S4x768x1024.size a := by
  intro a; match a with
  | ⟨0, _⟩ => show d.val + 1 ≤ 4; omega
  | ⟨1, _⟩ => show 0 + 768 ≤ 768; omega
  | ⟨2, _⟩ => show 0 + 1024 ≤ 1024; omega

theorem inbAcc (p : Fin 2) : ∀ a, (![p.val, 0] : Fin 2 → ℕ) a + (![1, 1024] : Fin 2 → ℕ) a ≤ S8x1024.size a := by
  intro a; match a with
  | ⟨0, _⟩ => show p.val + 1 ≤ 8; omega
  | ⟨1, _⟩ => show 0 + 1024 ≤ 1024; omega

/-- The hidden columns of group `d`. -/
def colRect (d : Fin 4) : Rect S320x3072 := Rect.unit (s := S320x3072) ![0, 768 * d.val] ![320, 768] (inbCol d)
/-- Matrix `e` of the first weights. -/
def wiRect (e : Fin 8) : Rect S8x1024x768 := Rect.unit (s := S8x1024x768) ![e.val, 0, 0] ![1, 1024, 768] (inbWi e)
/-- Matrix `d` of the second weights. -/
def woRect (d : Fin 4) : Rect S4x768x1024 := Rect.unit (s := S4x768x1024) ![d.val, 0, 0] ![1, 768, 1024] (inbWo d)
/-- Row `p` of the accumulator. -/
def accRect (p : Fin 2) : Rect S8x1024 := Rect.unit (s := S8x1024) ![p.val, 0] ![1, 1024] (inbAcc p)

/-- Hidden column `r` of group `d`. -/
def col (d : Fin 4) (r : Fin 768) : Fin 3072 := ⟨768 * d.val + r.val, by omega⟩

/-- The blocks a grid step loads, and its place in the grid. -/
structure Loads (F : FTy → Type) where
  at' : BitVec 32
  x : FVec F S320x1024 .f32
  w : FVec F S1x1024 .f32
  wi : Fin 8 → FVec F S1x1024x768 .bf16
  wo : Fin 4 → FVec F S1x768x1024 .bf16
  fw : FVec F S1x1024 .f32
  tg : Fin 5 → FVec F S64x1024 .f32

section Ops

variable [FloatOps F] (L : Loads F)

/-- The normed input. -/
def normed : FVec F S320x1024 .bf16 := k0_pay4 L.x L.w
/-- The gate columns (`p = 0`), the up columns (`p = 1`) and the activations (`p = 2`) of group `d`. -/
def hidden (p : Fin 3) (d : Fin 4) : FVec F S320x768 .bf16 := match p with
  | 0 => k0_pay14 (normed L) (L.wi (Ffn.gate d))
  | 1 => k0_pay15 (normed L) (L.wi (Ffn.up d))
  | 2 => k0_pay13 (normed L) (L.wi (Ffn.gate d)) (L.wi (Ffn.up d))
/-- What a group adds to the block's output. -/
def part (d : Fin 4) : FVec F S320x1024 .f32 := k0_pay10 (hidden L 2 d) (L.wo d)
/-- The block's output. -/
def out : FVec F S320x1024 .f32 := addf L.x (addf (addf (addf (part L 0) (part L 1)) (part L 2)) (part L 3))

/-- The sum of the first three groups, and the factor that norms the block's output. -/
def three : FVec F S320x1024 .f32 := addf (addf (part L 0) (part L 1)) (part L 2)
def rs : FVec F S320x1 .f32 := k0_pay28 L.x (normed L) (three L) (L.wi (Ffn.gate 3)) (L.wi (Ffn.up 3)) (L.wo 3)
/-- The normed output without its weights. -/
def nout : FVec F S320x1024 .f32 := k0_pay29 (out L) (rs L)
/-- The weighted and normed output less the target, zero on the rows that have no target. -/
def diff : FVec F S320x1024 .f32 := k0_pay30 L.at' (out L) (rs L) L.fw (L.tg 0) (L.tg 1) (L.tg 2) (L.tg 3) (L.tg 4)
/-- The gradient of the loss with respect to the weighted and normed output. -/
def dy : FVec F S320x1024 .f32 := k0_pay31 L.at' (out L) (rs L) L.fw (L.tg 0) (L.tg 1) (L.tg 2) (L.tg 3) (L.tg 4)
/-- The gradient of the loss with respect to the block's output. -/
def dout : FVec F S320x1024 .f32 := k0_pay2 (rs L) (nout L) L.fw (dy L)
/-- Row 0 of the accumulator, which held `a`, with the squared differences added; row 1 with the weights' gradient added. -/
def row (p : Fin 2) (a : FVec F S1x1024 .f32) : FVec F S1x1024 .f32 := match p with
  | 0 => k0_pay32 L.at' (out L) (rs L) L.fw (L.tg 0) (L.tg 1) (L.tg 2) (L.tg 3) (L.tg 4) a
  | 1 => k0_pay1 (k0_pay33 a) (k0_pay34 L.at' (out L) (rs L) L.fw (L.tg 0) (L.tg 1) (L.tg 2) (L.tg 3) (L.tg 4))

def piece (p : Fin 3) (d : Fin 4) : View.Piece (Elt F) S320x3072 .bf16 := ⟨colRect d, hidden L p d⟩
/-- The stores into a block of hidden columns, the latest first. -/
def pieces (p : Fin 3) : List (View.Piece (Elt F) S320x3072 .bf16) := [piece L p 3, piece L p 2, piece L p 1, piece L p 0]

/-- A later step's stores into the accumulator, whose rows held `a` and `b`. -/
def later (a b : FVec F S1x1024 .f32) : List (View.Piece (Elt F) S8x1024 .f32) := [⟨accRect 1, row L 1 b⟩, ⟨accRect 0, row L 0 a⟩]
/-- The store that clears the accumulator. -/
def cleared : List (View.Piece (Elt F) S8x1024 .f32) := [⟨Rect.unit (s := S8x1024) ![0, 0] S8x1024.size inb_S8x1024_S8x1024_0_0, k0_pay3⟩]
/-- The first step's stores into the accumulator: up to row 0, and all of them. -/
def begun {κ : Kind} {sp : Space} (v : View sig κ sp S8x1024 .f32) : List (View.Piece (Elt F) S8x1024 .f32) :=
  ⟨accRect 0, row L 0 (v.readCov (cleared (F := F)) (accRect 0).toLoadRect)⟩ :: cleared
def first {κ : Kind} {sp : Space} (v : View sig κ sp S8x1024 .f32) : List (View.Piece (Elt F) S8x1024 .f32) :=
  ⟨accRect 1, row L 1 (v.readCov (begun L v) (accRect 1).toLoadRect)⟩ :: begun L v

/-! ### What the stores leave -/

theorem emb_col (d : Fin 4) (s : Fin 320) (r : Fin 768) :
    (colRect d).emb (ValueIdx.ix2 s r : S320x768.Idx) = (ValueIdx.ix2 s (col d r) : S320x3072.Idx) := by
  funext a
  match a with
  | ⟨0, _⟩ => exact Fin.ext (by show 0 + 1 * s.val = s.val; omega)
  | ⟨1, _⟩ => exact Fin.ext (by show 768 * d.val + 1 * r.val = 768 * d.val + r.val; omega)

/-- The block of hidden columns that the stores write. -/
def block (p : Fin 3) (y : S320x3072.Idx) : F .bf16 :=
  hidden L p ⟨(y 1).val / 768, by have h : (y 1).val < 3072 := (y 1).isLt; omega⟩
    (ValueIdx.ix2 (y 0) (⟨(y 1).val % 768, Nat.mod_lt _ (by decide)⟩ : Fin 768))

theorem block_at (p : Fin 3) (d : Fin 4) (s : Fin 320) (r : Fin 768) :
    block L p (ValueIdx.ix2 s (col d r)) = hidden L p d (ValueIdx.ix2 s r) := by
  have e1 : (768 * d.val + r.val) / 768 = d.val := by omega
  have e2 : (768 * d.val + r.val) % 768 = r.val := by omega
  show hidden L p ⟨(768 * d.val + r.val) / 768, _⟩ (ValueIdx.ix2 s (⟨(768 * d.val + r.val) % 768, _⟩ : Fin 768)) = _
  rw [show (⟨(768 * d.val + r.val) / 768, by omega⟩ : Fin 4) = d from Fin.ext e1,
    show (⟨(768 * d.val + r.val) % 768, by omega⟩ : Fin 768) = r from Fin.ext e2]

theorem piece_block (p : Fin 3) (d : Fin 4) (x : S320x768.Idx) : hidden L p d x = block L p ((colRect d).emb x) := by
  obtain ⟨s, r, rfl⟩ : ∃ (s : Fin 320) (r : Fin 768), x = ValueIdx.ix2 s r := ⟨x 0, x 1, funext fun a => match a with
    | ⟨0, _⟩ => rfl
    | ⟨1, _⟩ => rfl⟩
  rw [emb_col, block_at]

theorem pieces_block (p : Fin 3) : ∀ q ∈ pieces L p, ∀ x, q.2 x = block L p (q.1.emb x) := by
  intro q hq
  simp only [pieces, List.mem_cons, List.not_mem_nil, or_false] at hq
  rcases hq with rfl | rfl | rfl | rfl
  · exact piece_block L p 3
  · exact piece_block L p 2
  · exact piece_block L p 1
  · exact piece_block L p 0

theorem pieces_mem (p : Fin 3) (d : Fin 4) : piece L p d ∈ pieces L p := by
  fin_cases d <;> simp [pieces]

/-- What the stores leave of the hidden columns. -/
theorem canon_pieces (p : Fin 3) (d : Fin 4) (s : Fin 320) (r : Fin 768) :
    View.canon (pieces L p) (ValueIdx.ix2 s (col d r)) = hidden L p d (ValueIdx.ix2 s r) := by
  rw [← block_at]
  refine View.canon_apply_of_pieces (block L p) _ (pieces_block L p) _ ⟨_, pieces_mem L p d, ?_⟩
  rw [← emb_col]
  exact (colRect d).idx_mem _

/-- Row `p` of the accumulator, as one of its eight rows. -/
def at8 (p : Fin 2) : Fin 8 := ⟨p.val, by omega⟩

theorem emb_acc (p : Fin 2) (j : Fin 1024) :
    (accRect p).emb (ValueIdx.ix2 (0 : Fin 1) j : S1x1024.Idx) = (ValueIdx.ix2 (at8 p) j : S8x1024.Idx) := by
  funext a
  match a with
  | ⟨0, _⟩ => exact Fin.ext (by show p.val + 1 * 0 = p.val; omega)
  | ⟨1, _⟩ => exact Fin.ext (by show 0 + 1 * j.val = j.val; omega)

theorem not_mem_acc (p : Fin 2) (e : Fin 8) (he : e.val ≠ p.val) (j : Fin 1024) : (ValueIdx.ix2 e j : S8x1024.Idx) ∉ (accRect p).set := by
  intro hm
  obtain ⟨x, hx⟩ := (accRect p).exists_idx_of_mem hm
  have h1 : (x 0).val < 1 := (x 0).isLt
  have e0 : p.val + 1 * (x 0).val = e.val := congrArg (fun y : S8x1024.Idx => (y 0).val) hx
  omega

/-- A store into row `p` leaves the other rows. -/
theorem skip_acc (p : Fin 2) (x : FVec F S1x1024 .f32) (l : List (View.Piece (Elt F) S8x1024 .f32)) (e : Fin 8) (he : e.val ≠ p.val) (j : Fin 1024) :
    View.canon ((⟨accRect p, x⟩ : View.Piece (Elt F) S8x1024 .f32) :: l) (ValueIdx.ix2 e j) = View.canon l (ValueIdx.ix2 e j) :=
  View.canon_cons_of_not_mem (Val := Elt F) (e := .f32) ⟨accRect p, x⟩ l (not_mem_acc p e he j)

theorem hit_acc (p : Fin 2) (x : FVec F S1x1024 .f32) (l : List (View.Piece (Elt F) S8x1024 .f32)) (j : Fin 1024) :
    View.canon ((⟨accRect p, x⟩ : View.Piece (Elt F) S8x1024 .f32) :: l) (ValueIdx.ix2 (at8 p) j) = x (ValueIdx.ix2 (0 : Fin 1) j) := by
  rw [← emb_acc]
  exact View.canon_cons_emb (accRect p) _ _ _

/-- Zeros, as a row of the cleared accumulator. -/
def zeroRow (F : FTy → Type) [FloatOps F] : FVec F S1x1024 .f32 := fun _ => Scalar.ofBits .f32 0x00000000#32

theorem canon_cleared (y : S8x1024.Idx) : View.canon (cleared (F := F)) y = Scalar.ofBits .f32 0x00000000#32 := by
  unfold cleared
  rw [View.canon_unit_zero zero2]
  rfl

theorem cleared_row {κ : Kind} {sp : Space} (v : View sig κ sp S8x1024 .f32) :
    v.readCov (cleared (F := F)) (accRect 0).toLoadRect = zeroRow F := by
  rw [View.readCov_eq_canon']
  funext x
  exact canon_cleared _

theorem begun_row {κ : Kind} {sp : Space} (v : View sig κ sp S8x1024 .f32) :
    v.readCov (begun L v) (accRect 1).toLoadRect = zeroRow F := by
  rw [View.readCov_eq_canon']
  funext x
  obtain ⟨j, rfl⟩ : ∃ j : Fin 1024, x = (ValueIdx.ix2 (0 : Fin 1) j : S1x1024.Idx) := ⟨x 1, funext fun a => match a with
    | ⟨0, _⟩ => Subsingleton.elim (α := Fin 1) _ _
    | ⟨1, _⟩ => rfl⟩
  refine (congrArg (View.canon (begun L v)) (emb_acc 1 j)).trans ?_
  unfold begun
  exact (skip_acc 0 _ _ (at8 1) (by decide) j).trans (canon_cleared _)

/-- The two rows of the accumulator after the first step. -/
theorem first_row {κ : Kind} {sp : Space} (v : View sig κ sp S8x1024 .f32) (p : Fin 2) (j : Fin 1024) :
    View.canon (first L v) (ValueIdx.ix2 (at8 p) j) = row L p (zeroRow F) (ValueIdx.ix2 (0 : Fin 1) j) := by
  unfold first
  obtain rfl | rfl : p = 0 ∨ p = 1 := by revert p; decide
  · refine (skip_acc 1 _ _ (at8 0) (by decide) j).trans ?_
    unfold begun
    rw [hit_acc, cleared_row]
  · rw [hit_acc, begun_row]

/-- The other rows of the accumulator after the first step. -/
theorem first_rest {κ : Kind} {sp : Space} (v : View sig κ sp S8x1024 .f32) (e : Fin 8) (he : 2 ≤ e.val) (j : Fin 1024) :
    View.canon (first L v) (ValueIdx.ix2 e j) = Scalar.ofBits .f32 0x00000000#32 := by
  unfold first
  refine (skip_acc 1 _ _ e (by show e.val ≠ 1; omega) j).trans ?_
  unfold begun
  exact (skip_acc 0 _ _ e (by show e.val ≠ 0; omega) j).trans (canon_cleared _)

theorem skip_read {κ : Kind} {sp : Space} (v : View sig κ sp S8x1024 .f32) (f : v.ty.Contents (Elt F)) (p : Fin 2) (x : FVec F S1x1024 .f32)
    (l : List (View.Piece (Elt F) S8x1024 .f32)) (e : Fin 8) (he : e.val ≠ p.val) (j : Fin 1024) :
    v.read (Elt F) (v.writes (Elt F) f ((⟨accRect p, x⟩ : View.Piece (Elt F) S8x1024 .f32) :: l)) (ValueIdx.ix2 e j)
      = v.read (Elt F) (v.writes (Elt F) f l) (ValueIdx.ix2 e j) :=
  View.read_writes_cons_miss (Val := Elt F) _ _ (⟨accRect p, x⟩ : View.Piece (Elt F) S8x1024 .f32) _ _ (not_mem_acc p e he j)

/-- What a later step's stores leave of the accumulator. -/
theorem later_row {κ : Kind} {sp : Space} (v : View sig κ sp S8x1024 .f32) (f : v.ty.Contents (Elt F)) (a b : FVec F S1x1024 .f32) (p : Fin 2) (j : Fin 1024) :
    v.read (Elt F) (v.writes (Elt F) f (later L a b)) (ValueIdx.ix2 (at8 p) j) = row L p (if p = 0 then a else b) (ValueIdx.ix2 (0 : Fin 1) j) := by
  unfold later
  obtain rfl | rfl : p = 0 ∨ p = 1 := by revert p; decide
  · refine (skip_read v f 1 _ _ (at8 0) (by decide) j).trans ?_
    rw [← emb_acc, if_pos rfl]
    exact View.read_writes_cons_emb _ _ (accRect 0) _ _ _
  · rw [← emb_acc, if_neg (by decide)]
    exact View.read_writes_cons_emb _ _ (accRect 1) _ _ _

theorem later_rest {κ : Kind} {sp : Space} (v : View sig κ sp S8x1024 .f32) (f : v.ty.Contents (Elt F)) (a b : FVec F S1x1024 .f32) (e : Fin 8)
    (he : 2 ≤ e.val) (j : Fin 1024) :
    v.read (Elt F) (v.writes (Elt F) f (later L a b)) (ValueIdx.ix2 e j) = v.read (Elt F) f (ValueIdx.ix2 e j) := by
  unfold later
  refine (skip_read v f 1 _ _ e (by show e.val ≠ 1; omega) j).trans ?_
  exact skip_read v f 0 _ _ e (by show e.val ≠ 0; omega) j

end Ops

/-- The windows' memory of a step. -/
structure Mems where
  a1 : Memref sig .tc .vmem S320x1024 .f32
  h1 : a1.IsWhole
  a2 : Memref sig .tc .vmem S1x1024 .f32
  h2 : a2.IsWhole
  a3 : Memref sig .tc .vmem S8x1024x768 .bf16
  h3 : a3.IsWhole
  a4 : Memref sig .tc .vmem S4x768x1024 .bf16
  h4 : a4.IsWhole
  a5 : Memref sig .tc .vmem S1x1024 .f32
  h5 : a5.IsWhole
  a6 : Memref sig .tc .vmem S64x1024 .f32
  h6 : a6.IsWhole
  a7 : Memref sig .tc .vmem S64x1024 .f32
  h7 : a7.IsWhole
  a8 : Memref sig .tc .vmem S64x1024 .f32
  h8 : a8.IsWhole
  a9 : Memref sig .tc .vmem S64x1024 .f32
  h9 : a9.IsWhole
  a10 : Memref sig .tc .vmem S64x1024 .f32
  h10 : a10.IsWhole
  a11 : Memref sig .tc .vmem S320x1024 .bf16
  h11 : a11.IsWhole
  a12 : Memref sig .tc .vmem S320x3072 .bf16
  h12 : a12.IsWhole
  a13 : Memref sig .tc .vmem S320x3072 .bf16
  h13 : a13.IsWhole
  a14 : Memref sig .tc .vmem S320x3072 .bf16
  h14 : a14.IsWhole
  a15 : Memref sig .tc .vmem S320x1024 .f32
  h15 : a15.IsWhole
  a16 : Memref sig .tc .vmem S8x1024 .f32
  h16 : a16.IsWhole

/-- The input blocks of a step. -/
structure Blocks (F : FTy → Type) where
  x0 : Vec F S320x1024 .f32
  x1 : Vec F S1x1024 .f32
  x2 : Vec F S8x1024x768 .bf16
  x3 : Vec F S4x768x1024 .bf16
  x4 : Vec F S1x1024 .f32
  x5 : Vec F S64x1024 .f32
  x6 : Vec F S64x1024 .f32
  x7 : Vec F S64x1024 .f32
  x8 : Vec F S64x1024 .f32
  x9 : Vec F S64x1024 .f32

section Case

variable (c : Dev nD) (i : grid0.Coords) (M : Mems) (B : Blocks F) (xo : Vec F S8x1024 .f32)

/-- The blocks a step loads, as parts of its windows' blocks. -/
def blockLoads : Loads F where
  at' := BitVec.ofNat 32 (i 0).val
  x := B.x0
  w := B.x1
  wi e := fun x => B.x2 ((wiRect e).idx x)
  wo d := fun x => B.x3 ((woRect d).idx x)
  fw := B.x4
  tg k := match k with
    | 0 => B.x5
    | 1 => B.x6
    | 2 => B.x7
    | 3 => B.x8
    | 4 => B.x9

/-- The blocks a step loads from its windows. -/
def loads : Loads F where
  at' := BitVec.ofNat 32 (i 0).val
  x := View.readAt (Elt F) M.a1.view (Rect.unit (s := S320x1024) ![0, 0] S320x1024.size inb_S320x1024_S320x1024_0_0).toLoadRect (M.h1.unread B.x0)
  w := View.readAt (Elt F) M.a2.view (Rect.unit (s := S1x1024) ![0, 0] S1x1024.size inb_S1x1024_S1x1024_0_0).toLoadRect (M.h2.unread B.x1)
  wi e := View.readAt (Elt F) M.a3.view (wiRect e).toLoadRect (M.h3.unread B.x2)
  wo d := View.readAt (Elt F) M.a4.view (woRect d).toLoadRect (M.h4.unread B.x3)
  fw := View.readAt (Elt F) M.a5.view (Rect.unit (s := S1x1024) ![0, 0] S1x1024.size inb_S1x1024_S1x1024_0_0).toLoadRect (M.h5.unread B.x4)
  tg k := match k with
    | 0 => View.readAt (Elt F) M.a6.view (Rect.unit (s := S64x1024) ![0, 0] S64x1024.size inb_S64x1024_S64x1024_0_0).toLoadRect (M.h6.unread B.x5)
    | 1 => View.readAt (Elt F) M.a7.view (Rect.unit (s := S64x1024) ![0, 0] S64x1024.size inb_S64x1024_S64x1024_0_0).toLoadRect (M.h7.unread B.x6)
    | 2 => View.readAt (Elt F) M.a8.view (Rect.unit (s := S64x1024) ![0, 0] S64x1024.size inb_S64x1024_S64x1024_0_0).toLoadRect (M.h8.unread B.x7)
    | 3 => View.readAt (Elt F) M.a9.view (Rect.unit (s := S64x1024) ![0, 0] S64x1024.size inb_S64x1024_S64x1024_0_0).toLoadRect (M.h9.unread B.x8)
    | 4 => View.readAt (Elt F) M.a10.view (Rect.unit (s := S64x1024) ![0, 0] S64x1024.size inb_S64x1024_S64x1024_0_0).toLoadRect (M.h10.unread B.x9)

theorem loads_eq : loads i M B = blockLoads i B := by
  unfold loads
  simp only [View.readAt_eq_ld, Memref.IsWhole.read_unread, View.ld_unit_zero (S := S320x1024) zero2, View.ld_unit_zero (S := S1x1024) zero2,
    View.ld_unit_zero (S := S64x1024) zero2]
  rfl

variable [FloatOps F]

set_option maxHeartbeats 4000000 in
/-- A first step's stores into the block of normed inputs. -/
theorem normed_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).1 = [⟨Rect.unit (s := S320x1024) ![0, 0] S320x1024.size inb_S320x1024_S320x1024_0_0, normed (loads i M B)⟩] := by
  dsimp only [pieces, piece, hidden, normed, part, out, three, rs, nout, diff, dy, dout, row, later, cleared, begun, first, loads]
  exact rfl

set_option maxHeartbeats 4000000 in
/-- A first step's stores into the block of gate columns. -/
theorem gate_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).2.1 = pieces (loads i M B) 0 := by
  dsimp only [pieces, piece, hidden, normed, part, out, three, rs, nout, diff, dy, dout, row, later, cleared, begun, first, loads]
  exact rfl

set_option maxHeartbeats 4000000 in
/-- A first step's stores into the block of up columns. -/
theorem up_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).2.2.1 = pieces (loads i M B) 1 := by
  dsimp only [pieces, piece, hidden, normed, part, out, three, rs, nout, diff, dy, dout, row, later, cleared, begun, first, loads]
  exact rfl

set_option maxHeartbeats 4000000 in
/-- A first step's stores into the block of activations. -/
theorem act_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).2.2.2.1 = pieces (loads i M B) 2 := by
  dsimp only [pieces, piece, hidden, normed, part, out, three, rs, nout, diff, dy, dout, row, later, cleared, begun, first, loads]
  exact rfl

set_option maxHeartbeats 4000000 in
/-- A first step's stores into the block of output gradients. -/
theorem dout_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).2.2.2.2.1 = [⟨Rect.unit (s := S320x1024) ![0, 0] S320x1024.size inb_S320x1024_S320x1024_0_0, dout (loads i M B)⟩] := by
  dsimp only [pieces, piece, hidden, normed, part, out, three, rs, nout, diff, dy, dout, row, later, cleared, begun, first, loads]
  exact rfl

set_option maxHeartbeats 4000000 in
/-- A first step's stores into the accumulator. -/
theorem sums_A (hc0 : cond0_0 i) :
    (kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9).2.2.2.2.2.1 = first (loads i M B) M.a16.view := by
  dsimp only [pieces, piece, hidden, normed, part, out, three, rs, nout, diff, dy, dout, row, later, cleared, begun, first, loads]
  exact rfl

theorem out10_A (hc0 : cond0_0 i) : out0_A_10 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 = normed (blockLoads i B) := by
  unfold out0_A_10
  rw [View.read_writes_junk_eq_canon, normed_A, loads_eq, View.canon_unit_zero zero2]

theorem out11_A (hc0 : cond0_0 i) (d : Fin 4) (s : Fin 320) (r : Fin 768) :
    out0_A_11 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 (ValueIdx.ix2 s (col d r)) = hidden (blockLoads i B) 0 d (ValueIdx.ix2 s r) := by
  unfold out0_A_11
  rw [View.read_writes_junk_eq_canon, gate_A, loads_eq]
  exact canon_pieces _ 0 d s r

theorem out12_A (hc0 : cond0_0 i) (d : Fin 4) (s : Fin 320) (r : Fin 768) :
    out0_A_12 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 (ValueIdx.ix2 s (col d r)) = hidden (blockLoads i B) 1 d (ValueIdx.ix2 s r) := by
  unfold out0_A_12
  rw [View.read_writes_junk_eq_canon, up_A, loads_eq]
  exact canon_pieces _ 1 d s r

theorem out13_A (hc0 : cond0_0 i) (d : Fin 4) (s : Fin 320) (r : Fin 768) :
    out0_A_13 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 (ValueIdx.ix2 s (col d r)) = hidden (blockLoads i B) 2 d (ValueIdx.ix2 s r) := by
  unfold out0_A_13
  rw [View.read_writes_junk_eq_canon, act_A, loads_eq]
  exact canon_pieces _ 2 d s r

theorem out14_A (hc0 : cond0_0 i) : out0_A_14 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 = dout (blockLoads i B) := by
  unfold out0_A_14
  rw [View.read_writes_junk_eq_canon, dout_A, loads_eq, View.canon_unit_zero zero2]

set_option maxHeartbeats 4000000 in
/-- A later step's stores into the block of normed inputs. -/
theorem normed_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).1 = [⟨Rect.unit (s := S320x1024) ![0, 0] S320x1024.size inb_S320x1024_S320x1024_0_0, normed (loads i M B)⟩] := by
  dsimp only [pieces, piece, hidden, normed, part, out, three, rs, nout, diff, dy, dout, row, later, cleared, begun, first, loads]
  exact rfl

set_option maxHeartbeats 4000000 in
/-- A later step's stores into the block of gate columns. -/
theorem gate_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).2.1 = pieces (loads i M B) 0 := by
  dsimp only [pieces, piece, hidden, normed, part, out, three, rs, nout, diff, dy, dout, row, later, cleared, begun, first, loads]
  exact rfl

set_option maxHeartbeats 4000000 in
/-- A later step's stores into the block of up columns. -/
theorem up_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).2.2.1 = pieces (loads i M B) 1 := by
  dsimp only [pieces, piece, hidden, normed, part, out, three, rs, nout, diff, dy, dout, row, later, cleared, begun, first, loads]
  exact rfl

set_option maxHeartbeats 4000000 in
/-- A later step's stores into the block of activations. -/
theorem act_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).2.2.2.1 = pieces (loads i M B) 2 := by
  dsimp only [pieces, piece, hidden, normed, part, out, three, rs, nout, diff, dy, dout, row, later, cleared, begun, first, loads]
  exact rfl

set_option maxHeartbeats 4000000 in
/-- A later step's stores into the block of output gradients. -/
theorem dout_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).2.2.2.2.1 = [⟨Rect.unit (s := S320x1024) ![0, 0] S320x1024.size inb_S320x1024_S320x1024_0_0, dout (loads i M B)⟩] := by
  dsimp only [pieces, piece, hidden, normed, part, out, three, rs, nout, diff, dy, dout, row, later, cleared, begun, first, loads]
  exact rfl

set_option maxHeartbeats 4000000 in
/-- A later step's stores into the accumulator. -/
theorem sums_B (hc0 : ¬cond0_0 i) :
    (kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo).2.2.2.2.2.1 = later (loads i M B) (View.readAt (Elt F) M.a16.view (accRect 0).toLoadRect (M.h16.unread xo)) (View.readAt (Elt F) M.a16.view (accRect 1).toLoadRect (M.h16.unread xo)) := by
  dsimp only [pieces, piece, hidden, normed, part, out, three, rs, nout, diff, dy, dout, row, later, cleared, begun, first, loads]
  exact rfl

theorem out10_B (hc0 : ¬cond0_0 i) : out0_B_10 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo = normed (blockLoads i B) := by
  unfold out0_B_10
  rw [View.read_writes_junk_eq_canon, normed_B, loads_eq, View.canon_unit_zero zero2]

theorem out11_B (hc0 : ¬cond0_0 i) (d : Fin 4) (s : Fin 320) (r : Fin 768) :
    out0_B_11 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo (ValueIdx.ix2 s (col d r)) = hidden (blockLoads i B) 0 d (ValueIdx.ix2 s r) := by
  unfold out0_B_11
  rw [View.read_writes_junk_eq_canon, gate_B, loads_eq]
  exact canon_pieces _ 0 d s r

theorem out12_B (hc0 : ¬cond0_0 i) (d : Fin 4) (s : Fin 320) (r : Fin 768) :
    out0_B_12 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo (ValueIdx.ix2 s (col d r)) = hidden (blockLoads i B) 1 d (ValueIdx.ix2 s r) := by
  unfold out0_B_12
  rw [View.read_writes_junk_eq_canon, up_B, loads_eq]
  exact canon_pieces _ 1 d s r

theorem out13_B (hc0 : ¬cond0_0 i) (d : Fin 4) (s : Fin 320) (r : Fin 768) :
    out0_B_13 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo (ValueIdx.ix2 s (col d r)) = hidden (blockLoads i B) 2 d (ValueIdx.ix2 s r) := by
  unfold out0_B_13
  rw [View.read_writes_junk_eq_canon, act_B, loads_eq]
  exact canon_pieces _ 2 d s r

theorem out14_B (hc0 : ¬cond0_0 i) : out0_B_14 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo = dout (blockLoads i B) := by
  unfold out0_B_14
  rw [View.read_writes_junk_eq_canon, dout_B, loads_eq, View.canon_unit_zero zero2]

theorem row_A (hc0 : cond0_0 i) (p : Fin 2) (j : Fin 1024) :
    out0_A_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 (ValueIdx.ix2 (at8 p) j) = row (blockLoads i B) p (zeroRow F) (ValueIdx.ix2 (0 : Fin 1) j) := by
  unfold out0_A_15
  rw [View.read_writes_junk_eq_canon, sums_A, loads_eq]
  exact first_row _ _ p j

theorem rest_A (hc0 : cond0_0 i) (e : Fin 8) (he : 2 ≤ e.val) (j : Fin 1024) :
    out0_A_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 (ValueIdx.ix2 e j) = Scalar.ofBits .f32 0x00000000#32 := by
  unfold out0_A_15
  rw [View.read_writes_junk_eq_canon, sums_A, loads_eq]
  exact first_rest _ _ e he j

theorem row_B (hc0 : ¬cond0_0 i) (p : Fin 2) (j : Fin 1024) :
    out0_B_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo (ValueIdx.ix2 (at8 p) j) = row (blockLoads i B) p (fun x => xo ((accRect p).idx x)) (ValueIdx.ix2 (0 : Fin 1) j) := by
  unfold out0_B_15
  rw [sums_B, loads_eq]
  simp only [View.readAt_eq_ld, Memref.IsWhole.read_unread]
  refine (later_row _ _ _ _ _ p j).trans ?_
  obtain rfl | rfl : p = 0 ∨ p = 1 := by revert p; decide
  · rfl
  · rfl

theorem rest_B (hc0 : ¬cond0_0 i) (e : Fin 8) (he : 2 ≤ e.val) (j : Fin 1024) :
    out0_B_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 B.x0 B.x1 B.x2 B.x3 B.x4 B.x5 B.x6 B.x7 B.x8 B.x9 xo (ValueIdx.ix2 e j) = xo (ValueIdx.ix2 e j) := by
  unfold out0_B_15
  rw [sums_B]
  refine (later_rest _ _ _ _ _ e he j).trans ?_
  exact congrFun (Memref.IsWhole.read_unread M.h16 xo) _

end Case

end Cert.FfnFwdIdeal.Product
-- ==== Proof.FwdTerms.lean ====
/- The forward pass of the feed-forward block and the loss in extended reals. Nothing is asked of the arguments: the gradient
   through a norm is what the chain rule gives even where a row holds an infinity, since its factor is zero there. -/
module

public import proofs.«01_k».proof.Proof.FfnReal
public import proofs.«01_k».proof.Proof.Sigmoid

@[expose] public section

set_option maxRecDepth 16384

noncomputable section

namespace Fwd

open Idealize.ShloMosaic Retention

/-- Hidden column `r` of group `d`. -/
def col (d : Fin 4) (r : Fin 768) : Fin 3072 := ⟨768 * d.val + r.val, by omega⟩

/-- A sum over the hidden columns is the sum over the groups. -/
theorem sum_col (f : Fin 3072 → EReal) : ∑ c, f c = (∑ r, f (col 0 r)) + (∑ r, f (col 1 r)) + (∑ r, f (col 2 r)) + ∑ r, f (col 3 r) := by
  rw [← Fin.sum_univ_four (fun d => ∑ r, f (col d r)), ← Fintype.sum_prod_type']
  refine ((finProdFinEquiv (m := 4) (n := 768)).sum_comp f).symm.trans (Finset.sum_congr rfl fun p _ => congrArg f (Fin.ext ?_))
  show p.2.val + 768 * p.1.val = 768 * p.1.val + p.2.val
  omega

/-! ### Sums and multiples -/

/-- A number that is not negative goes into a sum. -/
theorem mul_sum {n : ℕ} {r : ℝ} (hr : 0 ≤ r) (f : Fin n → EReal) : (r : EReal) * ∑ k, f k = ∑ k, (r : EReal) * f k := by
  induction n with
  | zero => rw [Fin.sum_univ_zero, Fin.sum_univ_zero, mul_zero]
  | succ n ih =>
    rw [Fin.sum_univ_succ, Fin.sum_univ_succ, EReal.left_distrib_of_nonneg_of_ne_top (EReal.coe_nonneg.mpr hr) (EReal.coe_ne_top r), ih]

/-- Twice a multiple. -/
theorem twice (a : ℝ) (s : EReal) : (a : EReal) * s + (a : EReal) * s = ((a + a : ℝ) : EReal) * s := by
  rcases lt_trichotomy a 0 with h | h | h
  · have h2 : a + a < 0 := by linarith
    induction s with
    | bot => rw [EReal.coe_mul_bot_of_neg h, EReal.coe_mul_bot_of_neg h2]; rfl
    | top => rw [EReal.coe_mul_top_of_neg h, EReal.coe_mul_top_of_neg h2]; rfl
    | coe r => rw [← EReal.coe_mul, ← EReal.coe_mul, ← EReal.coe_add, add_mul]
  · rw [h, add_zero, EReal.coe_zero, zero_mul, add_zero]
  · have h2 : 0 < a + a := by linarith
    induction s with
    | bot => rw [EReal.coe_mul_bot_of_pos h, EReal.coe_mul_bot_of_pos h2]; rfl
    | top => rw [EReal.coe_mul_top_of_pos h, EReal.coe_mul_top_of_pos h2]; rfl
    | coe r => rw [← EReal.coe_mul, ← EReal.coe_mul, ← EReal.coe_add, add_mul]

/-- A square is not negative. -/
theorem square_nonneg (x : EReal) : 0 ≤ x * x := by
  rcases le_total 0 x with h | h
  · exact EReal.mul_nonneg_iff.mpr (.inl ⟨h, h⟩)
  · exact EReal.mul_nonneg_iff.mpr (.inr ⟨h, h⟩)

/-! ### A row -/

section Row

variable (x d : Fin 1024 → EReal)

/-- The number under the root. -/
def under : EReal := (∑ j, x j * x j) * ((1 / 1024 : ℝ) : EReal) + ((eps : ℝ) : EReal)

/-- The factor that normalises a row. -/
def nf : EReal := Ideal.rsqrt (under x)

/-- The gradient through the norm. -/
def through (j : Fin 1024) : EReal := nf x * (d j - x j * nf x * ((∑ k, d k * (x k * nf x)) * ((1 / 1024 : ℝ) : EReal)))

/-- What the chain rule multiplies the row by. -/
def chain : EReal :=
  (∑ k, x k * d k) * (((-(1 / 2) : ℝ) : EReal) * Ideal.div (nf x) (under x)) * ((1 / 1024 : ℝ) : EReal)

/-- A row that holds an infinity has an infinity under its root. -/
theorem under_top {j : Fin 1024} (h : x j * x j = ⊤) : under x = ⊤ := by
  unfold under
  have hs : ∑ j, x j * x j = ⊤ := by
    rw [← Finset.add_sum_erase Finset.univ (fun j => x j * x j) (Finset.mem_univ j)]
    show x j * x j + _ = _
    rw [h]
    have hn : 0 ≤ ∑ k ∈ Finset.univ.erase j, x k * x k := Finset.sum_nonneg fun k _ => square_nonneg (x k)
    exact EReal.top_add_of_ne_bot (ne_of_gt (lt_of_lt_of_le EReal.bot_lt_zero hn))
  rw [hs, EReal.top_mul_coe_of_pos (by norm_num), EReal.top_add_coe]

/-- A row of real numbers. -/
theorem under_real (X : Fin 1024 → ℝ) : under (fun j => ((X j : ℝ) : EReal)) = ((Ffn.under X : ℝ) : EReal) := by
  unfold under Ffn.under
  rw [EReal.coe_add, EReal.coe_mul, coe_sum]
  simp only [EReal.coe_mul]

theorem nf_real (X : Fin 1024 → ℝ) : nf (fun j => ((X j : ℝ) : EReal)) = ((Ffn.nf X : ℝ) : EReal) := by
  have h := Ffn.under_pos X
  unfold nf
  rw [under_real, Ideal.rsqrt_coe, if_neg (not_lt.mpr h.le), if_neg h.ne']
  rfl

theorem through_chain_real (X : Fin 1024 → ℝ) (j : Fin 1024) :
    d j * nf (fun j => ((X j : ℝ) : EReal)) + ((X j : ℝ) : EReal) * chain (fun j => ((X j : ℝ) : EReal)) d
      + chain (fun j => ((X j : ℝ) : EReal)) d * ((X j : ℝ) : EReal) = through (fun j => ((X j : ℝ) : EReal)) d j := by
  have hu := Ffn.under_pos X
  have hs : Ffn.nf X * Ffn.nf X = 1 / Ffn.under X := by
    unfold Ffn.nf
    rw [← mul_inv, Real.mul_self_sqrt hu.le, one_div]
  have hn : 0 ≤ Ffn.nf X := by unfold Ffn.nf; positivity
  unfold chain through
  rw [nf_real, under_real, Ideal.div_coe hu.ne', ← hs]
  generalize hx : Ffn.nf X = n at *
  have hm : ∑ k, d k * (((X k : ℝ) : EReal) * ((n : ℝ) : EReal)) = (n : EReal) * ∑ k, ((X k : ℝ) : EReal) * d k := by
    rw [mul_sum hn]
    exact Finset.sum_congr rfl fun k _ => by rw [mul_comm (d k), mul_comm ((X k : ℝ) : EReal) (n : EReal), mul_assoc]
  rw [hm]
  generalize ∑ k, ((X k : ℝ) : EReal) * d k = s
  rw [sub_eq_add_neg, EReal.left_distrib_of_nonneg_of_ne_top (EReal.coe_nonneg.mpr hn) (EReal.coe_ne_top n), add_assoc, mul_comm (d j)]
  have e1 : ((X j : ℝ) : EReal) * (s * (((-(1 / 2) : ℝ) : EReal) * ((n : EReal) * ((n * n : ℝ) : EReal))) * ((1 / 1024 : ℝ) : EReal))
      = ((X j * (-(1 / 2) * (n * (n * n))) * (1 / 1024) : ℝ) : EReal) * s := by
    simp only [EReal.coe_mul]
    ac_rfl
  have e2 : (n : EReal) * -(((X j : ℝ) : EReal) * (n : EReal) * ((n : EReal) * s * ((1 / 1024 : ℝ) : EReal)))
      = ((-(n * (X j * n * n * (1 / 1024))) : ℝ) : EReal) * s := by
    rw [EReal.coe_neg, EReal.neg_mul, mul_comm (n : EReal) (-_), EReal.neg_mul]
    simp only [EReal.coe_mul]
    congr 1
    ac_rfl
  rw [mul_comm (_ * ((1 / 1024 : ℝ) : EReal)) ((X j : ℝ) : EReal), e1, e2, twice]
  congr 3
  ring

/-- The gradient through the norm by the chain rule: through the factor, and twice through the square. -/
theorem through_chain (j : Fin 1024) : d j * nf x + x j * chain x d + chain x d * x j = through x d j := by
  by_cases h : ∃ k, x k * x k = ⊤
  · obtain ⟨k, hk⟩ := h
    have hn : nf x = 0 := by unfold nf; rw [under_top x hk]; rfl
    have hc : chain x d = 0 := by
      unfold chain Ideal.div
      rw [under_top x hk, hn, if_neg EReal.top_ne_zero, zero_mul, mul_zero, mul_zero, zero_mul]
    unfold through
    rw [hc, hn, mul_zero, mul_zero, zero_mul, zero_mul, add_zero, add_zero]
  · have hr : ∀ k, ∃ r : ℝ, x k = ((r : ℝ) : EReal) := fun k => by
      have hk : ¬x k * x k = ⊤ := fun e => h ⟨k, e⟩
      generalize x k = y at hk
      induction y with
      | bot => exact absurd EReal.bot_mul_bot hk
      | top => exact absurd EReal.top_mul_top hk
      | coe r => exact ⟨r, rfl⟩
    choose X hX using hr
    obtain rfl : x = fun k => ((X k : ℝ) : EReal) := funext hX
    exact through_chain_real d X j

end Row

/-- The sigmoid. -/
def sg (x : EReal) : EReal := Ideal.div (Ideal.ofBits .f32 0x3F800000#32) (Ideal.ofBits .f32 0x3F800000#32 + Ideal.exp (-x))

/-- The arguments: the block's input, its norm's weights, the two weight matrices by group, the weights of the last norm, and
    the targets of all tokens but the first 128. -/
structure Data where
  X : Fin 8320 → Fin 1024 → EReal
  w : Fin 1024 → EReal
  Wi : Fin 8 → Fin 1024 → Fin 768 → EReal
  Wo : Fin 4 → Fin 768 → Fin 1024 → EReal
  v : Fin 1024 → EReal
  T : Fin 8192 → Fin 1024 → EReal

/-- The target's row of a token. -/
def aim (t : Fin 8320) (h : 128 ≤ t.val) : Fin 8192 := ⟨t.val - 128, by omega⟩
/-- The token of a target's row. -/
def ahead (k : Fin 8192) : Fin 8320 := ⟨128 + k.val, by omega⟩

theorem aim_ahead (k : Fin 8192) (h : 128 ≤ (ahead k).val) : aim (ahead k) h = k := Fin.ext (Nat.add_sub_cancel_left 128 k.val)

theorem ahead_aim (t : Fin 8320) (h : 128 ≤ t.val) : ahead (aim t h) = t := Fin.ext (Nat.add_sub_cancel' h)

namespace Data

variable (D : Data)

/-- The normed and weighted input. -/
def u (t : Fin 8320) (j : Fin 1024) : EReal := D.X t j * nf (D.X t) * D.w j
/-- The hidden columns of matrix `e`. -/
def hid (e : Fin 8) (t : Fin 8320) (r : Fin 768) : EReal := ∑ j, D.u t j * D.Wi e j r
/-- The gate columns, the up columns and the activations of a group. -/
def gate (d : Fin 4) (t : Fin 8320) (r : Fin 768) : EReal := D.hid (Ffn.gate d) t r
def up (d : Fin 4) (t : Fin 8320) (r : Fin 768) : EReal := D.hid (Ffn.up d) t r
def act (d : Fin 4) (t : Fin 8320) (r : Fin 768) : EReal := D.gate d t r * sg (D.gate d t r) * D.up d t r
/-- What a group adds to the block's output. -/
def part (d : Fin 4) (t : Fin 8320) (j : Fin 1024) : EReal := ∑ r, D.act d t r * D.Wo d r j
/-- The block's output, and the same normed. -/
def out (t : Fin 8320) (j : Fin 1024) : EReal := D.X t j + (D.part 0 t j + D.part 1 t j + D.part 2 t j + D.part 3 t j)
def nout (t : Fin 8320) (j : Fin 1024) : EReal := D.out t j * nf (D.out t)
/-- The weighted and normed output less the target, zero on the tokens that have no target. -/
def diff (t : Fin 8320) (j : Fin 1024) : EReal := if h : 128 ≤ t.val then D.nout t j * D.v j - D.T (aim t h) j else 0
/-- The gradient of the loss with respect to the weighted and normed output. -/
def dy (t : Fin 8320) (j : Fin 1024) : EReal := D.diff t j * ((1 / 1024 : ℝ) : EReal)
/-- The gradient of the loss with respect to the block's output. -/
def dout (t : Fin 8320) (j : Fin 1024) : EReal := through (D.out t) (fun j => D.dy t j * D.v j) j
/-- What a token adds to the two rows of sums: its squared differences, and its gradient of the last norm's weights. -/
def adds (p : Fin 2) (t : Fin 8320) (j : Fin 1024) : EReal := match p with
  | 0 => D.diff t j * D.diff t j
  | 1 => D.dy t j * D.nout t j
/-- The rows of sums. -/
def sums (p : Fin 2) (j : Fin 1024) : EReal := ∑ t, D.adds p t j

theorem diff_ahead (k : Fin 8192) (j : Fin 1024) : D.diff (ahead k) j = D.nout (ahead k) j * D.v j - D.T k j := by
  have h : 128 ≤ (ahead k).val := Nat.le_add_right 128 k.val
  unfold diff
  rw [dif_pos h, aim_ahead]

/-- The squared differences summed over the targets alone. -/
theorem sums_ahead (j : Fin 1024) : ∑ k : Fin 8192, D.diff (ahead k) j * D.diff (ahead k) j = D.sums 0 j := by
  show _ = ∑ t : Fin (128 + 8192), D.diff t j * D.diff t j
  rw [Fin.sum_univ_add (fun t : Fin (128 + 8192) => D.diff t j * D.diff t j)]
  have z : ∑ i : Fin 128, D.diff (Fin.castAdd 8192 i) j * D.diff (Fin.castAdd 8192 i) j = 0 := Finset.sum_eq_zero fun i _ => by
    have hi : ¬128 ≤ (Fin.castAdd 8192 i : Fin (128 + 8192)).val := Nat.not_le.mpr i.isLt
    unfold diff
    rw [dif_neg hi, zero_mul]
  rw [z, zero_add]
  rfl

end Data

end Fwd
-- ==== Proof.FwdMeaning.lean ====
/- The operations of a grid step of the feed-forward block's forward pass and the loss, over blocks that hold the rows of a step. -/
module

public import proofs.«01_k».proof.Proof.FwdStep
public import proofs.«01_k».proof.Proof.FwdTerms
public import Idealize.ShloMosaic.Lib.MatmulPlain
public import Idealize.ShloMosaic.Lib.Pointwise
public import Idealize.ShloMosaic.Lib.Pipeline.Value
public import Idealize.ShloMosaic.Lib.WordCmp

@[expose] public section

set_option maxRecDepth 16384

noncomputable section

namespace Cert.FfnFwdIdeal.Product

open Cert.FfnFwdIdeal Cert.FfnFwdIdeal.Gen Idealize.ShloMosaic Idealize.ShloMosaic.TcCoe
open Retention (bits_half bits_pos bits_eps)
open Fwd (Data sg)

theorem bits_mean : Ideal.ofBits .f32 0x3A800000#32 = ((1 / 1024 : ℝ) : EReal) :=
  bits_pos _ 117 0 _ (by decide) (by decide) (by decide) (by decide) (by decide) (by norm_num)

/-- A block is the matrix `f`. -/
def Is {n k : ℕ} {φ : FTy} (x : FVec Ideal ⟨2, ![n, k]⟩ φ) (f : Fin n → Fin k → EReal) : Prop := ∀ i j, @Eq EReal (x (ValueIdx.ix2 i j)) (f i j)

section Ops

variable {n k : ℕ} {φ : FTy} {a b : FVec Ideal ⟨2, ![n, k]⟩ φ} {f g : Fin n → Fin k → EReal}

theorem Is.mul (ha : Is a f) (hb : Is b g) : Is (mulf a b) (fun i j => f i j * g i j) := fun i j => congrArg₂ (fun x y : EReal => x * y) (ha i j) (hb i j)
theorem Is.add (ha : Is a f) (hb : Is b g) : Is (addf a b) (fun i j => f i j + g i j) := fun i j => congrArg₂ (fun x y : EReal => x + y) (ha i j) (hb i j)
theorem Is.sub (ha : Is a f) (hb : Is b g) : Is (subf a b) (fun i j => f i j - g i j) := fun i j => congrArg₂ (fun x y : EReal => x - y) (ha i j) (hb i j)
theorem Is.congr (ha : Is a f) (h : ∀ i j, f i j = g i j) : Is a g := fun i j => (ha i j).trans (h i j)
theorem Is.trunc {ψ : FTy} (ha : Is a f) (h : ψ.bits < φ.bits) : Is (truncf ψ a h) f := ha
theorem Is.tanh (ha : Is a f) : Is (tanh a) (fun i j => Ideal.tanh (f i j)) := fun i j => congrArg Ideal.tanh (ha i j)
theorem is_bits {n k : ℕ} (w : BitVec 32) : Is (broadcast ⟨2, ![n, k]⟩ (Scalar.ofBits (F := Ideal) .f32 w)) (fun _ _ => Ideal.ofBits .f32 w) := fun _ _ => rfl

/-- A matrix kept under a unit axis. -/
theorem Is.drop {x : FVec Ideal ⟨3, ![1, n, k]⟩ φ} (hx : ∀ i j, @Eq EReal (x (ValueIdx.ix3 (0 : Fin 1) i j)) (f i j))
    (h : Shape.ShapeCasts (⟨3, ![1, n, k]⟩ : Shape) ⟨2, ![n, k]⟩) : Is (shapeCast ⟨2, ![n, k]⟩ x h) f := fun i j => by
  refine Eq.trans ?_ (hx i j)
  exact shapeCast_apply _ _ (ValueIdx.ix2 i j) (ValueIdx.ix3 0 i j) (by
    rw [Shape.rowMajor_val_three, Shape.rowMajor_val_two]
    show (0 * n + i.val) * k + j.val = i.val * k + j.val
    rw [zero_mul, zero_add])

end Ops

theorem mm {n k p : ℕ} {a : FVec Ideal ⟨2, ![n, k]⟩ .bf16} {b : FVec Ideal ⟨2, ![k, p]⟩ .bf16} {f : Fin n → Fin k → EReal} {g : Fin k → Fin p → EReal}
    (ha : Is a f) (hb : Is b g) :
    Is (matmul (DotDims.plain n k p) none a b (constant ⟨2, ![n, p]⟩ .f32 0x00000000#32)) (fun i j => ∑ r, f i r * g r j) := fun i j => by
  refine (Ideal.matmul_plain_apply (M := n) (K := k) (N := p) none a b _ i j).trans ?_
  rw [show constant (F := Ideal) ⟨2, ![n, p]⟩ .f32 0x00000000#32 (ValueIdx.ix2 i j) = 0 from Ideal.ofBits_zero_f32, zero_add]
  exact Finset.sum_congr rfl fun k _ => congrArg₂ (fun x y : EReal => x * y) (ha i k) (hb k j)

/-! ### The norm -/

section Norm

variable {a x : FVec Ideal S320x1024 .f32} {w : FVec Ideal S1x1024 .f32} {A X : Fin 320 → Fin 1024 → EReal}

/-- The sum of each row, kept as a column. -/
theorem rowSum_is (ha : Is a A) :
    Is (shapeCast S320x1 (multiReduction .add [1] S320 a 0x00000000#32 reduces_S320x1024_S320 (.inl rfl) rfl) shapeCasts_S320_S320x1)
      (fun i _ => ∑ j, A i j) := fun i j => by
  rw [shapeCast_apply _ _ (ValueIdx.ix2 i j) (ValueIdx.ix1 i) (by
    rw [Shape.rowMajor_val_one, Shape.rowMajor_val_two]
    have hj := j.isLt
    show i.val = i.val * 1 + j.val
    omega)]
  rw [show multiReduction .add [1] S320 a 0x00000000#32 reduces_S320x1024_S320 (.inl rfl) rfl (ValueIdx.ix1 i)
      = ∑ k : Fin 1024, a (reduces_S320x1024_S320.lift (ValueIdx.ix1 i) k)
    from Ideal.multiReduction_add_single (s := S320x1024) (t := S320) (a := 1) a 0x00000000#32 reduces_S320x1024_S320 (.inl rfl) rfl (ValueIdx.ix1 i)]
  refine Finset.sum_congr rfl fun k _ => ?_
  rw [← ha]
  refine congrArg a (funext fun d => ?_)
  match d with
  | ⟨0, _⟩ => rfl
  | ⟨1, _⟩ => rfl

/-- The sum of each column, kept as a row. -/
theorem colSum_is (ha : Is a A) :
    Is (shapeCast S1x1024 (multiReduction .add [0] S1024 a 0x00000000#32 reduces_S320x1024_S1024 (.inl rfl) rfl) shapeCasts_S1024_S1x1024)
      (fun _ j => ∑ i, A i j) := fun i j => by
  rw [shapeCast_apply _ _ (ValueIdx.ix2 i j) (ValueIdx.ix1 j) (by
    rw [Shape.rowMajor_val_one, Shape.rowMajor_val_two]
    have hi := i.isLt
    show j.val = i.val * 1024 + j.val
    omega)]
  rw [show multiReduction .add [0] S1024 a 0x00000000#32 reduces_S320x1024_S1024 (.inl rfl) rfl (ValueIdx.ix1 j)
      = ∑ k : Fin 320, a (reduces_S320x1024_S1024.lift (ValueIdx.ix1 j) k)
    from Ideal.multiReduction_add_single (s := S320x1024) (t := S1024) (a := 0) a 0x00000000#32 reduces_S320x1024_S1024 (.inl rfl) rfl (ValueIdx.ix1 j)]
  refine Finset.sum_congr rfl fun k _ => ?_
  rw [← ha]
  refine congrArg a (funext fun d => ?_)
  match d with
  | ⟨0, _⟩ => rfl
  | ⟨1, _⟩ => rfl

/-- A column over 1024. -/
theorem mean_is {c : FVec Ideal S320x1 .f32} {f : Fin 320 → Fin 1 → EReal} (hc : Is c f) :
    Is (divf c (broadcast S320x1 (Scalar.ofBits (F := Ideal) .f32 0x44800000#32))) (fun i j => f i j * ((1 / 1024 : ℝ) : EReal)) := fun i j => by
  show Ideal.div (c (ValueIdx.ix2 i j)) (Ideal.ofBits .f32 0x44800000#32) = _
  rw [Ffn.bits_1024, Ideal.div_coe (by norm_num), hc]

theorem spread_is {c : FVec Ideal S320x1 .f32} {f : Fin 320 → Fin 1 → EReal} (hc : Is c f) :
    Is (broadcastTo S320x1024 c broadcasts_S320x1_S320x1024) (fun i _ => f i 0) := fun i j => by
  refine Eq.trans ?_ (hc i 0)
  refine broadcastTo_apply c broadcasts_S320x1_S320x1024 (ValueIdx.ix2 i j) (ValueIdx.ix2 i 0) fun d => ?_
  match d with
  | ⟨0, _⟩ => rfl
  | ⟨1, _⟩ => rfl

theorem rows_is {f : Fin 1 → Fin 1024 → EReal} (hw : Is w f) : Is (broadcastTo S320x1024 w broadcasts_S1x1024_S320x1024) (fun _ j => f 0 j) := fun i j => by
  refine Eq.trans ?_ (hw 0 j)
  refine broadcastTo_apply w broadcasts_S1x1024_S320x1024 (ValueIdx.ix2 i j) (ValueIdx.ix2 0 j) fun d => ?_
  match d with
  | ⟨0, _⟩ => rfl
  | ⟨1, _⟩ => rfl

/-- The factor of each row. -/
theorem factor_is (hx : Is x X) :
    Is (rsqrt (addf (divf (shapeCast S320x1 (multiReduction .add [1] S320 (mulf x x) 0x00000000#32 reduces_S320x1024_S320 (.inl rfl) rfl) shapeCasts_S320_S320x1)
      (broadcast S320x1 (Scalar.ofBits (F := Ideal) .f32 0x44800000#32))) (broadcast S320x1 (Scalar.ofBits (F := Ideal) .f32 0x358637BD#32))))
      (fun i _ => Fwd.nf (X i)) := fun i j => by
  refine (congrArg Ideal.rsqrt (((mean_is (rowSum_is (hx.mul hx))).add (is_bits 0x358637BD#32)) i j)).trans ?_
  rw [bits_eps]
  rfl

end Norm

/-! ### The hidden columns -/

section Hidden

variable {u : FVec Ideal S320x1024 .bf16} {U : Fin 320 → Fin 1024 → EReal} {wg wu : FVec Ideal S1x1024x768 .bf16} {G V : Fin 1024 → Fin 768 → EReal}

theorem gate_is (hu : Is u U) (hw : ∀ i j, @Eq EReal (wg (ValueIdx.ix3 (0 : Fin 1) i j)) (G i j)) :
    Is (k0_pay11 u wg) (fun i r => ∑ j, U i j * G j r) := by
  unfold k0_pay11
  exact mm hu (Is.drop hw _)

theorem up_is (hu : Is u U) (hw : ∀ i j, @Eq EReal (wu (ValueIdx.ix3 (0 : Fin 1) i j)) (V i j)) :
    Is (k0_pay12 u wu) (fun i r => ∑ j, U i j * V j r) := by
  unfold k0_pay12
  exact mm hu (Is.drop hw _)

theorem act_is (hu : Is u U) (hg : ∀ i j, @Eq EReal (wg (ValueIdx.ix3 (0 : Fin 1) i j)) (G i j))
    (hv : ∀ i j, @Eq EReal (wu (ValueIdx.ix3 (0 : Fin 1) i j)) (V i j)) :
    Is (k0_pay13 u wg wu) (fun i r => (∑ j, U i j * G j r) * sg (∑ j, U i j * G j r) * ∑ j, U i j * V j r) := by
  unfold k0_pay13
  have hs : Is (addf (mulf (broadcast S320x768 (Scalar.ofBits (F := Ideal) .f32 0x3F000000#32))
      (tanh (mulf (broadcast S320x768 (Scalar.ofBits (F := Ideal) .f32 0x3F000000#32)) (k0_pay11 u wg))))
      (broadcast S320x768 (Scalar.ofBits (F := Ideal) .f32 0x3F000000#32))) (fun i r => sg (∑ j, U i j * G j r)) :=
    (((is_bits 0x3F000000#32).mul ((is_bits 0x3F000000#32).mul (gate_is hu hg)).tanh).add (is_bits 0x3F000000#32)).congr fun i j => Retention.sigmoid_forms _
  exact (((gate_is hu hg).mul hs).mul (up_is hu hv)).trunc _

end Hidden

theorem part_is {a : FVec Ideal S320x768 .bf16} {w : FVec Ideal S1x768x1024 .bf16} {A : Fin 320 → Fin 768 → EReal} {W : Fin 768 → Fin 1024 → EReal}
    (ha : Is a A) (hw : ∀ i j, @Eq EReal (w (ValueIdx.ix3 (0 : Fin 1) i j)) (W i j)) :
    Is (k0_pay10 a w) (fun i j => ∑ r, A i r * W r j) := by
  unfold k0_pay10
  exact mm ha (Is.drop hw _)

/-! ### The targets -/

/-- Row `q` of block `k` among the step's rows. -/
def stack (k : Fin 5) (q : Fin 64) : Fin 320 := ⟨64 * k.val + q.val, by omega⟩

theorem stack_cases (s : Fin 320) : ∃ (k : Fin 5) (q : Fin 64), s = stack k q :=
  ⟨⟨s.val / 64, by omega⟩, ⟨s.val % 64, by omega⟩, Fin.ext (Nat.div_add_mod s.val 64).symm⟩

theorem five_at (x : Fin 5 → FVec Ideal S64x1024 .f32) (k : Fin 5) (q : Fin 64) (j : Fin 1024) :
    concatenate S320x1024 0 [⟨S64x1024, x 0⟩, ⟨S64x1024, x 1⟩, ⟨S64x1024, x 2⟩, ⟨S64x1024, x 3⟩, ⟨S64x1024, x 4⟩]
      concatenates_S64x1024_S64x1024_S64x1024_S64x1024_S64x1024_S320x1024_d0 (ValueIdx.ix2 (stack k q) j) = x k (ValueIdx.ix2 q j) := by
  refine concatenate_apply_piece (t := S320x1024) 0 _ _ (ValueIdx.ix2 (stack k q) j) k.val (by show k.val < 5; exact k.isLt) S64x1024 (x k)
    (by fin_cases k <;> rfl) rfl (64 * k.val) (by fin_cases k <;> rfl) (ValueIdx.ix2 q j) (fun c hc => match c with
        | ⟨0, _⟩ => absurd rfl hc
        | ⟨1, _⟩ => rfl) rfl

/-- Whether a row has a target, as the step compares. -/
theorem aims {t s : ℕ} (h : 320 * t + s < 8320) :
    IntOp.cmpi .sge (IntOp.addi (Scalar.muli (BitVec.ofNat 32 t) 320#32) (BitVec.ofNat 32 s)) 128#32 = if 128 ≤ 320 * t + s then 1 else 0 := by
  have e : IntOp.addi (Scalar.muli (BitVec.ofNat 32 t) 320#32) (BitVec.ofNat 32 s) = BitVec.ofNat 32 (320 * t + s) := by
    show BitVec.ofNat 32 t * 320#32 + BitVec.ofNat 32 s = _
    rw [BitVec.ofNat_add, BitVec.ofNat_mul, BitVec.mul_comm]
  rw [e]
  show BitVec.ofBool ((128#32).sle (BitVec.ofNat 32 (320 * t + s))) = _
  have i : (BitVec.ofNat 32 (320 * t + s)).toInt = ((320 * t + s : ℕ) : ℤ) := WordCmp.toInt_ofNat_of_lt (by show _ < 2147483648; omega)
  have l : (128#32).sle (BitVec.ofNat 32 (320 * t + s)) = decide (128 ≤ 320 * t + s) := by
    show decide ((128#32).toInt ≤ (BitVec.ofNat 32 (320 * t + s)).toInt) = _
    rw [i]
    exact decide_eq_decide.mpr (by
      show (128 : ℤ) ≤ _ ↔ _
      omega)
  rw [l]
  by_cases hc : 128 ≤ 320 * t + s
  · rw [if_pos hc, decide_eq_true hc]; rfl
  · rw [if_neg hc, decide_eq_false hc]; rfl

/-! ### A step -/

/-- Row `s` of step `t` is this token. -/
def token (t : Fin 26) (s : Fin 320) : Fin 8320 := ⟨320 * t.val + s.val, by omega⟩

/-- The blocks `L` hold the rows of step `t` of the arguments `D`, and the targets of those rows that have one. -/
structure Reads (L : Loads Ideal) (D : Data) (t : Fin 26) : Prop where
  at' : L.at' = BitVec.ofNat 32 t.val
  x : Is L.x (fun s => D.X (token t s))
  w : Is L.w (fun _ => D.w)
  wi : ∀ e j r, @Eq EReal (L.wi e (ValueIdx.ix3 (0 : Fin 1) j r)) (D.Wi e j r)
  wo : ∀ d r j, @Eq EReal (L.wo d (ValueIdx.ix3 (0 : Fin 1) r j)) (D.Wo d r j)
  fw : Is L.fw (fun _ => D.v)
  tg : ∀ k q j (h : 128 ≤ (token t (stack k q)).val), @Eq EReal (L.tg k (ValueIdx.ix2 q j)) (D.T (Fwd.aim (token t (stack k q)) h) j)

section Read

variable {L : Loads Ideal} {D : Data} {t : Fin 26} (R : Reads L D t)

include R

theorem normed_is : Is (normed L) (fun s => D.u (token t s)) := by
  unfold normed k0_pay4
  exact ((R.x.mul (spread_is (factor_is R.x))).mul (rows_is R.w)).trunc _

theorem hidden0_is (d : Fin 4) : Is (hidden L 0 d) (fun s => D.gate d (token t s)) := by
  show Is (k0_pay14 _ _) _
  unfold k0_pay14
  exact (gate_is (normed_is R) (R.wi _)).trunc _
theorem hidden1_is (d : Fin 4) : Is (hidden L 1 d) (fun s => D.up d (token t s)) := by
  show Is (k0_pay15 _ _) _
  unfold k0_pay15
  exact (up_is (normed_is R) (R.wi _)).trunc _
theorem hidden2_is (d : Fin 4) : Is (hidden L 2 d) (fun s => D.act d (token t s)) := act_is (normed_is R) (R.wi _) (R.wi _)

theorem out_is : Is (out L) (fun s => D.out (token t s)) :=
  have p d : Is (part L d) (fun s => D.part d (token t s)) := part_is (hidden2_is R d) (R.wo _)
  R.x.add ((((p 0).add (p 1)).add (p 2)).add (p 3))

theorem rs_is : Is (rs L) (fun s _ => Fwd.nf (D.out (token t s))) := factor_is (out_is R)

theorem nout_is : Is (nout L) (fun s => D.nout (token t s)) := by
  unfold nout k0_pay29
  exact (out_is R).mul (spread_is (rs_is R))

theorem diff_is : Is (diff L) (fun s => D.diff (token t s)) := fun s j => by
  obtain ⟨k, q, rfl⟩ := stack_cases s
  have hs := (token t (stack k q)).isLt
  have c : broadcastTo S320x1024 (shapeCast S320x1 (cmpi .sge (addi (broadcast S320x1 (Scalar.muli L.at' 320#32))
      (iota .tc S320x1 32 [0] iota_S320x1_d0_w32)) (broadcast S320x1 128#32)) shapeCasts_S320x1_S320x1)
      broadcasts_S320x1_S320x1024 (ValueIdx.ix2 (stack k q) j) = if 128 ≤ (token t (stack k q)).val then 1 else 0 := by
    rw [shapeCast_self]
    refine (broadcastTo_apply _ broadcasts_S320x1_S320x1024 (ValueIdx.ix2 (stack k q) j) (ValueIdx.ix2 (stack k q) (0 : Fin 1)) fun d => ?_).trans ?_
    · match d with
      | ⟨0, _⟩ => rfl
      | ⟨1, _⟩ => rfl
    · rw [R.at']
      show IntOp.cmpi .sge (IntOp.addi _ (iota .tc S320x1 32 [0] iota_S320x1_d0_w32 (ValueIdx.ix2 (stack k q) (0 : Fin 1)))) _ = _
      rw [iota_single_apply]
      exact aims hs
  have v := ((nout_is R).mul (rows_is R.fw)) (stack k q) j
  show Scalar.select _ (_ - _ : EReal) (Ideal.ofBits .f32 0x00000000#32) = _
  rw [c, five_at L.tg]
  show _ = D.diff (token t (stack k q)) j
  unfold Data.diff
  by_cases h : 128 ≤ (token t (stack k q)).val
  · rw [dif_pos h, if_pos h]
    exact congrArg₂ (fun x y : EReal => x - y) v (R.tg k q j h)
  · rw [dif_neg h, if_neg h]
    exact Ideal.ofBits_zero_f32

theorem dy_is : Is (dy L) (fun s => D.dy (token t s)) := by
  unfold dy k0_pay31
  exact ((diff_is R).mul (is_bits 0x3A800000#32)).congr fun i j => by rw [bits_mean]; rfl

theorem dout_is : Is (dout L) (fun s => D.dout (token t s)) := by
  unfold dout k0_pay2
  have g : Is (mulf (dy L) (broadcastTo S320x1024 L.fw broadcasts_S1x1024_S320x1024)) (fun s j => D.dy (token t s) j * D.v j) :=
    (dy_is R).mul (rows_is R.fw)
  exact (spread_is (rs_is R)).mul (g.sub ((nout_is R).mul (spread_is (mean_is (rowSum_is (g.mul (nout_is R)))))))

/-- What a step adds to the two rows of sums. -/
theorem row_is (p : Fin 2) (a : FVec Ideal S1x1024 .f32) (j : Fin 1024) :
    @Eq EReal (row L p a (ValueIdx.ix2 0 j)) (a (ValueIdx.ix2 0 j) + ∑ s, D.adds p (token t s) j) := by
  match p with
  | 0 =>
    show @Eq EReal (k0_pay32 (F := Ideal) L.at' (out L) (rs L) L.fw (L.tg 0) (L.tg 1) (L.tg 2) (L.tg 3) (L.tg 4) a (ValueIdx.ix2 0 j)) _
    unfold k0_pay32
    rw [shapeCast_self]
    exact congrArg (fun y : EReal => a (ValueIdx.ix2 0 j) + y) (colSum_is ((diff_is R).mul (diff_is R)) 0 j)
  | 1 =>
    show @Eq EReal (k0_pay1 (F := Ideal) (k0_pay33 a) (k0_pay34 L.at' (out L) (rs L) L.fw (L.tg 0) (L.tg 1) (L.tg 2) (L.tg 3) (L.tg 4)) (ValueIdx.ix2 0 j)) _
    unfold k0_pay1 k0_pay33 k0_pay34
    rw [shapeCast_self]
    exact congrArg (fun y : EReal => a (ValueIdx.ix2 0 j) + y) (colSum_is ((dy_is R).mul (nout_is R)) 0 j)

end Read

end Cert.FfnFwdIdeal.Product
-- ==== Proof.FwdReference.lean ====
/- The reference's lines of the feed-forward block's forward pass and the loss: each is the expression of `FwdTerms`. -/
module

public import proofs.«01_k».proof.Proof.FwdTerms
public import proofs.«01_k».proof.Proof.FfnReference
public import proofs.«01_k».proof.Proof.Gen.FfnFwdReferenceIdeal.Read
public import Idealize.ShloMosaic.Lib.ValueIdx
public import Idealize.ShloMosaic.Lib.Pointwise
public import Idealize.ShloMosaic.Lib.KernelVsHost

@[expose] public section

set_option maxRecDepth 16384

noncomputable section

namespace Cert.FfnFwdReferenceIdeal.Terms

open Cert.FfnFwdReferenceIdeal Cert.FfnFwdReferenceIdeal.Gen Cert.FfnFwdReferenceIdeal.Read Idealize.ShloMosaic Idealize.ShloMosaic.TcCoe
open Retention (bits_half bits_one bits_two bits_zero bits_eps bits_neg_half)
open Cert.FfnReferenceIdeal.Real (grp pl mat wpl)
open Ffn (bits_1024)
open Fwd (Data ahead aim sg)

theorem start : Ideal.ofBits .f32 0x00000000#32 = 0 := Ideal.ofBits_zero_f32

section Lines

variable {D : Data} {x0 : FVec Ideal S8320x1024 .f32} {x1 x4 : FVec Ideal S1x1024 .f32} {x2 : FVec Ideal S8x1024x768 .bf16}
  {x3 : FVec Ideal S4x768x1024 .bf16} {x5 : FVec Ideal S8192x1024 .f32}
  (h0 : ∀ i, @Eq EReal (x0 i) (D.X (i 0) (i 1))) (h1 : ∀ i, @Eq EReal (x1 i) (D.w (i 1)))
  (h2 : ∀ i, @Eq EReal (x2 i) (D.Wi (i 0) (i 1) (i 2))) (h3 : ∀ i, @Eq EReal (x3 i) (D.Wo (i 0) (i 1) (i 2)))
  (h4 : ∀ i, @Eq EReal (x4 i) (D.v (i 1))) (h5 : ∀ i, @Eq EReal (x5 i) (D.T (i 0) (i 1)))

/-! ### The weights -/

include h2 in
theorem v2_is (i : S1024x6144.Idx) : @Eq EReal (val_main_v2 (F := Ideal) x2 i) (D.Wi (mat (i 1)) (i 0) (wpl (i 1))) := by
  rw [val_main_v2_apply, val_main_v1_apply]
  have e0 : (i 0).val < 1024 := (i 0).isLt
  have e1 : (i 1).val < 6144 := (i 1).isLt
  refine (h2 _).trans (congr (congr (congrArg D.Wi (Fin.ext ?_)) (Fin.ext ?_)) (Fin.ext ?_))
  · show ((i 0).val * 6144 + (i 1).val) / 768 % 8 = (i 1).val / 768
    omega
  · show ((i 0).val * 6144 + (i 1).val) / 6144 = (i 0).val
    omega
  · show ((i 0).val * 6144 + (i 1).val) % 768 = (i 1).val % 768
    omega

include h3 in
theorem v4_is (i : S3072x1024.Idx) : @Eq EReal (val_main_v4 (F := Ideal) x3 i) (D.Wo (grp (i 0)) (pl (i 0)) (i 1)) := by
  rw [val_main_v4_apply]
  have e0 : (i 0).val < 3072 := (i 0).isLt
  have e1 : (i 1).val < 1024 := (i 1).isLt
  refine (h3 _).trans (congr (congr (congrArg D.Wo (Fin.ext ?_)) (Fin.ext ?_)) (Fin.ext ?_))
  · show ((i 0).val * 1024 + (i 1).val) / 786432 = (i 0).val / 768
    omega
  · show ((i 0).val * 1024 + (i 1).val) / 1024 % 768 = (i 0).val % 768
    omega
  · show ((i 0).val * 1024 + (i 1).val) % 1024 = (i 1).val
    omega

/-! ### A norm -/

section Norm

variable {X : Fin 8320 → Fin 1024 → EReal} (hX : ∀ i, @Eq EReal (x0 i) (X (i 0) (i 1)))

include hX

theorem v11_is (i : S8320x1.Idx) : @Eq EReal (val_main_v11 (F := Ideal) x0 i) (Fwd.under (X (i 0))) := by
  rw [val_main_v11_apply, val_main_v9_apply, val_main_v10_apply, val_main_v7_apply, val_main_v8_apply, val_main_v6_apply]
  have e k : @Eq EReal (val_main_v5 (F := Ideal) x0 (idx_main_v6 (idx_main_v7 i) k)) (X (i 0) k * X (i 0) k) :=
    congrArg₂ (fun x y : EReal => x * y) (hX _) (hX _)
  refine (congrArg (fun y : EReal => Ideal.div y (Ideal.ofBits .f32 0x44800000#32) + Ideal.ofBits .f32 0x358637BD#32)
    ((congrArg₂ (fun x y : EReal => x + y) start (Finset.sum_congr rfl fun k _ => e k)).trans (zero_add _))).trans ?_
  rw [bits_1024, bits_eps, Ideal.div_coe (by norm_num)]
  rfl

theorem v12_is (i : S8320x1.Idx) : @Eq EReal (val_main_v12 (F := Ideal) x0 i) (Fwd.nf (X (i 0))) := by
  rw [val_main_v12_apply]
  exact congrArg Ideal.rsqrt (v11_is hX i)

theorem v14_is (i : S8320x1024.Idx) : @Eq EReal (val_main_v14 (F := Ideal) x0 i) (X (i 0) (i 1) * Fwd.nf (X (i 0))) := by
  rw [val_main_v14_apply, val_main_v13_apply]
  exact congrArg₂ (fun x y : EReal => x * y) (hX i) (v12_is hX _)

end Norm

/-! ### The hidden columns -/

include h0 h1 in
/-- The normed and weighted input, as numbers and as stored. -/
theorem v16_is (i : S8320x1024.Idx) : @Eq EReal (val_main_v16 (F := Ideal) x0 x1 i) (D.u (i 0) (i 1)) := by
  rw [val_main_v16_apply, val_main_v15_apply]
  exact congrArg₂ (fun x y : EReal => x * y) (v14_is h0 i) (h1 _)
include h0 h1 in
theorem v94_is (i : S8320x1024.Idx) : @Eq EReal (val_main_v94 (F := Ideal) x0 x1 i) (D.u (i 0) (i 1)) := v16_is h0 h1 i

section Hidden

include h0 h1 h2

theorem v17_is (i : S8320x6144.Idx) : @Eq EReal (val_main_v17 (F := Ideal) x0 x1 x2 i) (D.hid (mat (i 1)) (i 0) (wpl (i 1))) := by
  rw [val_main_v17_apply]
  exact Finset.sum_congr rfl fun k _ => congrArg₂ (fun x y : EReal => x * y) (v16_is h0 h1 (lidx_main_v17 i k)) (v2_is h2 (ridx_main_v17 i k))

/-- The gate columns, as numbers and as stored. -/
theorem v18_is (i : S8320x3072.Idx) : @Eq EReal (val_main_v18 (F := Ideal) x0 x1 x2 i) (D.gate (grp (i 1)) (i 0) (pl (i 1))) := by
  rw [val_main_v18_apply]
  exact v17_is h0 h1 h2 _
theorem v95_is (i : S8320x3072.Idx) : @Eq EReal (val_main_v95 (F := Ideal) x0 x1 x2 i) (D.gate (grp (i 1)) (i 0) (pl (i 1))) := v18_is h0 h1 h2 i

/-- The up columns, as numbers and as stored. -/
theorem v19_is (i : S8320x3072.Idx) : @Eq EReal (val_main_v19 (F := Ideal) x0 x1 x2 i) (D.up (grp (i 1)) (i 0) (pl (i 1))) := by
  rw [val_main_v19_apply]
  have e1 : (i 1).val < 3072 := (i 1).isLt
  refine (v17_is h0 h1 h2 _).trans (congr (congr (congrArg D.hid (Fin.ext ?_)) rfl) (Fin.ext ?_))
  · show (3072 + (i 1).val) / 768 = (i 1).val / 768 + 4
    omega
  · show (3072 + (i 1).val) % 768 = (i 1).val % 768
    omega
theorem v96_is (i : S8320x3072.Idx) : @Eq EReal (val_main_v96 (F := Ideal) x0 x1 x2 i) (D.up (grp (i 1)) (i 0) (pl (i 1))) := v19_is h0 h1 h2 i

/-- The activations, as numbers and as stored. -/
theorem v21_is (i : S8320x3072.Idx) : @Eq EReal (val_main_v21 (F := Ideal) x0 x1 x2 i) (D.act (grp (i 1)) (i 0) (pl (i 1))) := by
  rw [val_main_v21_apply]
  refine congrArg₂ (fun x y : EReal => x * y) ?_ (v19_is h0 h1 h2 i)
  rw [val_main_v20_apply, val_main_call0_v5_apply, val_main_call0_v4_apply, val_main_call0_v3_apply, val_main_call0_v2_apply, val_main_call0_v1_apply,
    val_main_call0_v0_apply]
  exact congrArg (fun g : EReal => g * sg g) (v18_is h0 h1 h2 i)
theorem v97_is (i : S8320x3072.Idx) : @Eq EReal (val_main_v97 (F := Ideal) x0 x1 x2 i) (D.act (grp (i 1)) (i 0) (pl (i 1))) := v21_is h0 h1 h2 i

end Hidden

/-! ### The block's output -/

section Out

include h0 h1 h2 h3

theorem v23_is (i : S8320x1024.Idx) : @Eq EReal (val_main_v23 (F := Ideal) x0 x1 x2 x3 i) (D.out (i 0) (i 1)) := by
  have s : @Eq EReal (val_main_v22 (F := Ideal) x0 x1 x2 x3 i) (D.part 0 (i 0) (i 1) + D.part 1 (i 0) (i 1) + D.part 2 (i 0) (i 1) + D.part 3 (i 0) (i 1)) := by
    have e : @Eq EReal (∑ k : Fin 3072, val_main_v21 (F := Ideal) x0 x1 x2 (lidx_main_v22 i k) * val_main_v4 (F := Ideal) x3 (ridx_main_v22 i k))
        (∑ c : Fin 3072, D.act (grp c) (i 0) (pl c) * D.Wo (grp c) (pl c) (i 1)) :=
      Finset.sum_congr rfl fun k _ => congrArg₂ (fun x y : EReal => x * y) (v21_is h0 h1 h2 (lidx_main_v22 i k)) (v4_is h3 (ridx_main_v22 i k))
    rw [val_main_v22_apply]
    refine e.trans ?_
    have g (d : Fin 4) (r : Fin 768) : grp (Fwd.col d r) = d := Fin.ext (by show (768 * d.val + r.val) / 768 = d.val; omega)
    have p (d : Fin 4) (r : Fin 768) : pl (Fwd.col d r) = r := Fin.ext (by show (768 * d.val + r.val) % 768 = r.val; omega)
    rw [Fwd.sum_col]
    simp only [g, p]
    rfl
  rw [val_main_v23_apply]
  exact congrArg₂ (fun x y : EReal => x + y) (h0 i) s

theorem v30_is (i : S8320x1.Idx) : @Eq EReal (val_main_v30 (F := Ideal) x0 x1 x2 x3 i) (Fwd.under (D.out (i 0))) := v11_is (v23_is h0 h1 h2 h3) i

theorem v31_is (i : S8320x1.Idx) : @Eq EReal (val_main_v31 (F := Ideal) x0 x1 x2 x3 i) (Fwd.nf (D.out (i 0))) := v12_is (v23_is h0 h1 h2 h3) i

theorem v34_is (i : S8320x1.Idx) : @Eq EReal (val_main_v34 (F := Ideal) x0 x1 x2 x3 i)
    (((-(1 / 2) : ℝ) : EReal) * Ideal.div (Fwd.nf (D.out (i 0))) (Fwd.under (D.out (i 0)))) := by
  rw [val_main_v34_apply, val_main_v32_apply, val_main_v33_apply]
  refine (congrArg₂ (fun x y : EReal => Ideal.ofBits .f32 0xBF000000#32 * Ideal.div x y) (v31_is h0 h1 h2 h3 i) (v30_is h0 h1 h2 h3 i)).trans ?_
  rw [bits_neg_half]

theorem v36_is (i : S8320x1024.Idx) : @Eq EReal (val_main_v36 (F := Ideal) x0 x1 x2 x3 i) (D.nout (i 0) (i 1)) := v14_is (v23_is h0 h1 h2 h3) i

end Out

/-! ### The differences -/

include h0 h1 h2 h3 h4 h5

theorem v40_is (i : S8192x1024.Idx) : @Eq EReal (val_main_v40 (F := Ideal) x0 x1 x2 x3 x4 x5 i) (D.diff (ahead (i 0)) (i 1)) := by
  rw [val_main_v40_apply, val_main_v39_apply, val_main_v38_apply, val_main_v37_apply]
  refine Eq.trans ?_ (D.diff_ahead (i 0) (i 1)).symm
  exact congrArg₂ (fun x y : EReal => x - y) (congrArg₂ (fun x y : EReal => x * y) (v36_is h0 h1 h2 h3 _) (h4 _)) (h5 i)

/-- The differences from the output normed once more. -/
theorem v88_is (i : S8192x1024.Idx) : @Eq EReal (val_main_v88 (F := Ideal) x0 x1 x2 x3 x4 x5 i) (D.diff (ahead (i 0)) (i 1)) :=
  v40_is h0 h1 h2 h3 h4 h5 i

theorem v54_is (i : S8192x1024.Idx) : @Eq EReal (val_main_v54 (F := Ideal) x0 x1 x2 x3 x4 x5 i) (D.dy (ahead (i 0)) (i 1)) := by
  rw [val_main_v54_apply, val_main_v53_apply, val_main_v52_apply, val_main_v51_apply, val_main_v50_apply, val_main_v49_apply, val_main_v43_apply,
    val_main_v42_apply]
  refine (congrArg (fun y : EReal => Ideal.div (Ideal.ofBits .f32 0x3F000000#32 * Ideal.ofBits .f32 0x3F800000#32) (Ideal.ofBits .f32 0x44800000#32)
    * (Ideal.ofBits .f32 0x40000000#32 * y)) (v40_is h0 h1 h2 h3 h4 h5 i)).trans ?_
  rw [bits_half, bits_one, bits_two, bits_1024, ← EReal.coe_mul, Ideal.div_coe (by norm_num), ← EReal.coe_mul, ← mul_assoc, ← EReal.coe_mul]
  exact (congrArg (fun r : ℝ => ((r : ℝ) : EReal) * D.diff (ahead (i 0)) (i 1)) (by norm_num : 1 / 2 * 1 * (1 / 1024) * 2 = (1 / 1024 : ℝ))).trans
    (mul_comm _ _)

/-- The gradient of the weighted and normed output. -/
theorem v55_is (i : S8320x1024.Idx) : @Eq EReal (val_main_v55 (F := Ideal) x0 x1 x2 x3 x4 x5 i) (D.dy (i 0) (i 1)) := by
  obtain ⟨t, j, rfl⟩ : ∃ (t : Fin 8320) (j : Fin 1024), i = ValueIdx.ix2 t j := ⟨i 0, i 1, funext fun d => match d with
    | ⟨0, _⟩ => rfl
    | ⟨1, _⟩ => rfl⟩
  unfold val_main_v55
  by_cases h : 128 ≤ t.val
  · rw [pad_apply_of_inside _ _ _ _ _ _ _ (ValueIdx.ix2 t j) (ValueIdx.ix2 (aim t h) j) (fun d => match d with
      | ⟨0, _⟩ => by show t.val = 128 + (t.val - 128) * (0 + 1); omega
      | ⟨1, _⟩ => by show j.val = 0 + j.val * (0 + 1); omega)]
    refine (v54_is h0 h1 h2 h3 h4 h5 _).trans ?_
    show D.dy (ahead (aim t h)) j = _
    rw [Fwd.ahead_aim]
  · rw [pad_apply_of_not_inside _ _ _ _ _ _ _ (ValueIdx.ix2 t j) 0 (by
      intro hi
      have : 128 ≤ t.val := hi.1
      omega)]
    refine start.trans ?_
    show 0 = D.dy t j
    unfold Data.dy Data.diff
    rw [dif_neg h, zero_mul]

/-- The gradient of the last norm's weights. -/
theorem v58_is (i : S1x1024.Idx) : @Eq EReal (val_main_v58 (F := Ideal) x0 x1 x2 x3 x4 x5 i) (D.sums 1 (i 1)) := by
  have e0 : (i 0).val < 1 := (i 0).isLt
  have e1 : (i 1).val < 1024 := (i 1).isLt
  have e : (⟨(i 0).val * 1024 + (i 1).val, by omega⟩ : Fin 1024) = i 1 := Fin.ext (by show (i 0).val * 1024 + (i 1).val = (i 1).val; omega)
  rw [val_main_v58_apply, val_main_v57_apply]
  refine (congrArg₂ (fun x y : EReal => x + y) start (Finset.sum_congr rfl fun k _ => ?_)).trans (zero_add _)
  rw [val_main_v56_apply]
  refine (congrArg₂ (fun x y : EReal => x * y) (v36_is h0 h1 h2 h3 _) (v55_is h0 h1 h2 h3 h4 h5 _)).trans ((mul_comm _ _).trans ?_)
  exact congrArg (D.adds 1 k) e

/-- The squared differences summed. -/
theorem v91_is (i : S1x1024.Idx) : @Eq EReal (val_main_v91 (F := Ideal) x0 x1 x2 x3 x4 x5 i) (D.sums 0 (i 1)) := by
  rw [val_main_v91_apply, val_main_v90_apply]
  refine (congrArg₂ (fun x y : EReal => x + y) start (Finset.sum_congr rfl fun k _ => ?_)).trans ((zero_add _).trans (D.sums_ahead (i 1)))
  rw [val_main_v89_apply]
  exact congrArg₂ (fun x y : EReal => x * y) (v88_is h0 h1 h2 h3 h4 h5 _) (v88_is h0 h1 h2 h3 h4 h5 _)

/-! ### Backwards through the last norm -/

theorem v60_is (i : S8320x1024.Idx) : @Eq EReal (val_main_v60 (F := Ideal) x0 x1 x2 x3 x4 x5 i) (D.dy (i 0) (i 1) * D.v (i 1)) := by
  rw [val_main_v60_apply, val_main_v59_apply]
  exact congrArg₂ (fun x y : EReal => x * y) (v55_is h0 h1 h2 h3 h4 h5 i) (h4 _)

theorem v61_is (i : S8320x1024.Idx) :
    @Eq EReal (val_main_v61 (F := Ideal) x0 x1 x2 x3 x4 x5 i) (D.out (i 0) (i 1) * (D.dy (i 0) (i 1) * D.v (i 1))) := by
  rw [val_main_v61_apply]
  exact congrArg₂ (fun x y : EReal => x * y) (v23_is h0 h1 h2 h3 i) (v60_is h0 h1 h2 h3 h4 h5 i)

theorem v70_is (i : S8320x1024.Idx) : @Eq EReal (val_main_v70 (F := Ideal) x0 x1 x2 x3 x4 x5 i)
    (Fwd.chain (D.out (i 0)) (fun j => D.dy (i 0) j * D.v j)) := by
  rw [val_main_v70_apply, val_main_v69_apply]
  refine (congrArg₂ (fun x y : EReal => x + y) start (Finset.sum_congr rfl fun k _ => ?_)).trans
    ((zero_add _).trans (Fin.sum_univ_one (fun _ => Fwd.chain (D.out (i 0)) (fun j => D.dy (i 0) j * D.v j))))
  have ek : k.val < 1 := k.isLt
  have e0 : (i 0).val < 8320 := (i 0).isLt
  have e : (⟨(i 0).val * 1 + k.val, by omega⟩ : Fin 8320) = i 0 := Fin.ext (by show (i 0).val * 1 + k.val = (i 0).val; omega)
  rw [val_main_v68_apply, val_main_v66_apply, val_main_v67_apply, val_main_v63_apply, val_main_v62_apply]
  refine (congrArg₂ (fun x y : EReal => Ideal.div (x * y) (Ideal.ofBits .f32 0x44800000#32))
    ((congrArg₂ (fun x y : EReal => x + y) start (Finset.sum_congr rfl fun j _ => v61_is h0 h1 h2 h3 h4 h5 _)).trans (zero_add _))
    (v34_is h0 h1 h2 h3 _)).trans ?_
  rw [bits_1024, Ideal.div_coe (by norm_num)]
  exact congrArg (fun t : Fin 8320 => (∑ j, D.out t j * (D.dy t j * D.v j)) * (((-(1 / 2) : ℝ) : EReal)
    * Ideal.div (Fwd.nf (D.out (i 0))) (Fwd.under (D.out (i 0)))) * ((1 / 1024 : ℝ) : EReal)) e

/-- The gradient of the block's output. -/
theorem v74_is (i : S8320x1024.Idx) : @Eq EReal (val_main_v74 (F := Ideal) x0 x1 x2 x3 x4 x5 i) (D.dout (i 0) (i 1)) := by
  rw [val_main_v74_apply, val_main_v72_apply, val_main_v73_apply, val_main_v65_apply, val_main_v71_apply, val_main_v64_apply]
  have c := v70_is h0 h1 h2 h3 h4 h5 i
  have x := v23_is h0 h1 h2 h3 i
  refine (congrArg₂ (fun x y : EReal => x + y) (congrArg₂ (fun x y : EReal => x + y)
    (congrArg₂ (fun x y : EReal => x * y) (v60_is h0 h1 h2 h3 h4 h5 i) (v31_is h0 h1 h2 h3 _)) (congrArg₂ (fun x y : EReal => x * y) x c))
    (congrArg₂ (fun x y : EReal => x * y) c x)).trans ?_
  exact Fwd.through_chain (D.out (i 0)) (fun j => D.dy (i 0) j * D.v j) (i 1)

/-! ### The rows of sums -/

theorem v93_first (j : Fin 1024) : @Eq EReal (val_main_v93 (F := Ideal) x0 x1 x2 x3 x4 x5 (ValueIdx.ix2 (0 : Fin 8) j)) (D.sums 0 j) := by
  unfold val_main_v93
  refine (show _ = _ from concatenate_pair_apply_left (t := S8x1024) (s₁ := S1x1024) (s₂ := S7x1024) 0 _ _ _ (ValueIdx.ix2 (0 : Fin 8) j) rfl
    (ValueIdx.ix2 (0 : Fin 1) j) (fun d => match d with
    | ⟨0, _⟩ => rfl
    | ⟨1, _⟩ => rfl)).trans ?_
  exact v91_is h0 h1 h2 h3 h4 h5 _

omit h0 h1 h2 h3 h4 h5 in
/-- The rows after the first. -/
theorem v93_later (e : Fin 7) (j : Fin 1024) : val_main_v93 (F := Ideal) x0 x1 x2 x3 x4 x5 (ValueIdx.ix2 (⟨e.val + 1, by omega⟩ : Fin 8) j)
    = val_main_v92 (F := Ideal) x0 x1 x2 x3 x4 x5 (ValueIdx.ix2 e j) := by
  unfold val_main_v93
  exact concatenate_pair_apply_right (t := S8x1024) (s₁ := S1x1024) (s₂ := S7x1024) 0 _ _ _ (ValueIdx.ix2 (⟨e.val + 1, by omega⟩ : Fin 8) j) rfl rfl
    (ValueIdx.ix2 e j) (fun d hd => match d with
    | ⟨0, _⟩ => absurd rfl hd
    | ⟨1, _⟩ => rfl) rfl

theorem v93_second (j : Fin 1024) : @Eq EReal (val_main_v93 (F := Ideal) x0 x1 x2 x3 x4 x5 (ValueIdx.ix2 (1 : Fin 8) j)) (D.sums 1 j) := by
  refine (v93_later (0 : Fin 7) j).trans ?_
  unfold val_main_v92
  rw [pad_apply_of_inside _ _ _ _ _ _ _ (ValueIdx.ix2 (0 : Fin 7) j) (ValueIdx.ix2 (0 : Fin 1) j) (fun d => match d with
    | ⟨0, _⟩ => rfl
    | ⟨1, _⟩ => by show j.val = 0 + j.val * (0 + 1); omega)]
  exact v58_is h0 h1 h2 h3 h4 h5 _

omit h0 h1 h2 h3 h4 h5 in
/-- The other rows are zero. -/
theorem v93_rest (e : Fin 8) (he : 2 ≤ e.val) (j : Fin 1024) :
    @Eq EReal (val_main_v93 (F := Ideal) x0 x1 x2 x3 x4 x5 (ValueIdx.ix2 e j)) 0 := by
  obtain ⟨k, hk⟩ : ∃ k : Fin 7, e.val = k.val + 1 := ⟨⟨e.val - 1, by omega⟩, by show e.val = e.val - 1 + 1; omega⟩
  rw [show e = ⟨k.val + 1, by omega⟩ from Fin.ext hk]
  refine (v93_later k j).trans ?_
  unfold val_main_v92
  rw [pad_apply_of_not_inside _ _ _ _ _ _ _ (ValueIdx.ix2 k j) 0 (by
    intro hi
    have : (k.val - 0) / (0 + 1) < 1 := hi.2.2
    omega)]
  show (((0#32 : BitVec 32).toInt : ℝ) : EReal) = 0
  simp

end Lines

end Cert.FfnFwdReferenceIdeal.Terms
-- ==== Proof.FwdGrid.lean ====
/- The grid of the feed-forward block's forward pass and the loss: what the steps load of the arrays, and the six arrays after the run. -/
module

public import proofs.«01_k».proof.Proof.FwdMeaning
public import proofs.«01_k».proof.Proof.FwdReference
public import proofs.«01_k».proof.Proof.BlockSum
public import Idealize.ShloMosaic.Lib.Claim
public import Idealize.ShloMosaic.Lib.Pipeline.ValueKit.Geometry

@[expose] public section

set_option maxRecDepth 16384

noncomputable section

namespace Cert.FfnFwdIdeal.Product

open Cert.FfnFwdIdeal Cert.FfnFwdIdeal.Gen Idealize.ShloMosaic Idealize.ShloMosaic.TcCoe Idealize.SL.Sem
open Cert.FfnFwdReferenceIdeal.Read
open Cert.FfnReferenceIdeal.Real (grp pl)
open Fwd (Data)

/-! ### The places of the steps' blocks -/

theorem places : ∀ t : Fin cfg0.N, (grid0.coords t (0 : Fin 1)).val = t.val ∧ (win0_0.index t (0 : Fin 2) = t.val ∧ win0_0.index t (1 : Fin 2) = 0) ∧
    (win0_1.index t (0 : Fin 2) = 0 ∧ win0_1.index t (1 : Fin 2) = 0) ∧ (win0_4.index t (0 : Fin 2) = 0 ∧ win0_4.index t (1 : Fin 2) = 0) :=
  (by decide +kernel : ∀ t : Fin grid0.N, _)

theorem places_weights : ∀ t : Fin cfg0.N,
    (win0_2.index t (0 : Fin 3) = 0 ∧ win0_2.index t (1 : Fin 3) = 0 ∧ win0_2.index t (2 : Fin 3) = 0) ∧
    (win0_3.index t (0 : Fin 3) = 0 ∧ win0_3.index t (1 : Fin 3) = 0 ∧ win0_3.index t (2 : Fin 3) = 0) :=
  (by decide +kernel : ∀ t : Fin grid0.N, _)

/-- The targets lie two blocks of rows before the step's rows. -/
theorem places_targets : ∀ t : Fin cfg0.N, (win0_5.index t (0 : Fin 2) = 5 * t.val + 0 - 2 ∧ win0_5.index t (1 : Fin 2) = 0) ∧
    (win0_6.index t (0 : Fin 2) = 5 * t.val + 1 - 2 ∧ win0_6.index t (1 : Fin 2) = 0) ∧
    (win0_7.index t (0 : Fin 2) = 5 * t.val + 2 - 2 ∧ win0_7.index t (1 : Fin 2) = 0) ∧
    (win0_8.index t (0 : Fin 2) = 5 * t.val + 3 - 2 ∧ win0_8.index t (1 : Fin 2) = 0) ∧
    (win0_9.index t (0 : Fin 2) = 5 * t.val + 4 - 2 ∧ win0_9.index t (1 : Fin 2) = 0) :=
  (by decide +kernel : ∀ t : Fin grid0.N, _)

theorem places_out : ∀ t : Fin cfg0.N, (win0_10.index t (0 : Fin 2) = t.val ∧ win0_10.index t (1 : Fin 2) = 0) ∧
    (win0_11.index t (0 : Fin 2) = t.val ∧ win0_11.index t (1 : Fin 2) = 0) ∧ (win0_12.index t (0 : Fin 2) = t.val ∧ win0_12.index t (1 : Fin 2) = 0) ∧
    (win0_13.index t (0 : Fin 2) = t.val ∧ win0_13.index t (1 : Fin 2) = 0) ∧ (win0_14.index t (0 : Fin 2) = t.val ∧ win0_14.index t (1 : Fin 2) = 0) ∧
    (win0_15.index t (0 : Fin 2) = 0 ∧ win0_15.index t (1 : Fin 2) = 0) :=
  (by decide +kernel : ∀ t : Fin grid0.N, _)

/-- A step as a number below 26. -/
def step (t : Fin cfg0.N) : Fin 26 := ⟨t.val, by have := t.isLt; have hN : cfg0.N = 26 := N_0; omega⟩

theorem token_cases (t : Fin 8320) : ∃ (s : Fin cfg0.N) (i : Fin 320), t = token (step s) i := by
  have ht := t.isLt
  have hN : cfg0.N = 26 := N_0
  refine ⟨⟨t.val / 320, by omega⟩, ⟨t.val % 320, by omega⟩, Fin.ext ?_⟩
  show t.val = 320 * (t.val / 320) + t.val % 320
  omega

theorem col_cases (c : Fin 3072) : ∃ (d : Fin 4) (r : Fin 768), c = col d r := by
  refine ⟨⟨c.val / 768, by omega⟩, ⟨c.val % 768, by omega⟩, Fin.ext ?_⟩
  show c.val = 768 * (c.val / 768) + c.val % 768
  omega

theorem grp_col (d : Fin 4) (r : Fin 768) : grp (col d r) = d := Fin.ext (by show (768 * d.val + r.val) / 768 = d.val; omega)
theorem pl_col (d : Fin 4) (r : Fin 768) : pl (col d r) = r := Fin.ext (by show (768 * d.val + r.val) % 768 = r.val; omega)

section Arrays

variable {F : FTy → Type} [FloatOps F] (m : (ℓ : Loc nD τ sig) → Buf (Elt F) ℓ) (c : Dev nD)

/-- The windows' memory of step `t`. -/
def mems (t : Fin cfg0.N) : Mems :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t⟩

/-- The blocks of step `t`'s windows, and what it loads of them. -/
def stepBlocks (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t⟩
def stepLoads (t : Fin cfg0.N) : Loads F := blockLoads (grid0.coords t) (stepBlocks m c t)

section Loaded

variable (t : Fin cfg0.N) (i : Fin 320)

theorem x_apply (j : Fin 1024) : (stepLoads m c t).x (ValueIdx.ix2 i j) = V m c main_arg0 (ValueIdx.ix2 (token (step t) i) j) := by
  obtain ⟨e0, e1⟩ := (places t).2.1
  refine congrArg (V m c main_arg0) (funext fun a => Fin.ext ?_)
  match a with
  | ⟨0, _⟩ => show win0_0.index t (0 : Fin 2) * 320 + 1 * i.val = 320 * t.val + i.val; omega
  | ⟨1, _⟩ => show win0_0.index t (1 : Fin 2) * 1024 + 1 * j.val = j.val; omega

theorem w_apply (e : Fin 1) (j : Fin 1024) : (stepLoads m c t).w (ValueIdx.ix2 e j) = V m c main_arg1 (ValueIdx.ix2 e j) := by
  obtain ⟨e0, e1⟩ := (places t).2.2.1
  refine congrArg (V m c main_arg1) (funext fun a => Fin.ext ?_)
  match a with
  | ⟨0, _⟩ => show win0_1.index t (0 : Fin 2) * 1 + 1 * e.val = e.val; omega
  | ⟨1, _⟩ => show win0_1.index t (1 : Fin 2) * 1024 + 1 * j.val = j.val; omega

theorem fw_apply (e : Fin 1) (j : Fin 1024) : (stepLoads m c t).fw (ValueIdx.ix2 e j) = V m c main_arg4 (ValueIdx.ix2 e j) := by
  obtain ⟨e0, e1⟩ := (places t).2.2.2
  refine congrArg (V m c main_arg4) (funext fun a => Fin.ext ?_)
  match a with
  | ⟨0, _⟩ => show win0_4.index t (0 : Fin 2) * 1 + 1 * e.val = e.val; omega
  | ⟨1, _⟩ => show win0_4.index t (1 : Fin 2) * 1024 + 1 * j.val = j.val; omega

theorem wi_apply (e : Fin 8) (j : Fin 1024) (r : Fin 768) :
    (stepLoads m c t).wi e (ValueIdx.ix3 (0 : Fin 1) j r) = V m c main_arg2 (ValueIdx.ix3 e j r) := by
  obtain ⟨e0, e1, e2⟩ := (places_weights t).1
  refine congrArg (V m c main_arg2) (funext fun a => Fin.ext ?_)
  match a with
  | ⟨0, _⟩ => show win0_2.index t (0 : Fin 3) * 8 + 1 * (e.val + 1 * 0) = e.val; omega
  | ⟨1, _⟩ => show win0_2.index t (1 : Fin 3) * 1024 + 1 * (0 + 1 * j.val) = j.val; omega
  | ⟨2, _⟩ => show win0_2.index t (2 : Fin 3) * 768 + 1 * (0 + 1 * r.val) = r.val; omega

theorem wo_apply (d : Fin 4) (r : Fin 768) (j : Fin 1024) :
    (stepLoads m c t).wo d (ValueIdx.ix3 (0 : Fin 1) r j) = V m c main_arg3 (ValueIdx.ix3 d r j) := by
  obtain ⟨e0, e1, e2⟩ := (places_weights t).2
  refine congrArg (V m c main_arg3) (funext fun a => Fin.ext ?_)
  match a with
  | ⟨0, _⟩ => show win0_3.index t (0 : Fin 3) * 4 + 1 * (d.val + 1 * 0) = d.val; omega
  | ⟨1, _⟩ => show win0_3.index t (1 : Fin 3) * 768 + 1 * (0 + 1 * r.val) = r.val; omega
  | ⟨2, _⟩ => show win0_3.index t (2 : Fin 3) * 1024 + 1 * (0 + 1 * j.val) = j.val; omega

theorem tg_apply (k : Fin 5) (q : Fin 64) (j : Fin 1024) (h : 128 ≤ (token (step t) (stack k q)).val) :
    (stepLoads m c t).tg k (ValueIdx.ix2 q j) = V m c main_arg5 (ValueIdx.ix2 (Fwd.aim (token (step t) (stack k q)) h) j) := by
  obtain ⟨⟨a0, a1⟩, ⟨b0, b1⟩, ⟨c0, c1⟩, ⟨d0, d1⟩, e0, e1⟩ := places_targets t
  have hn : 128 ≤ 320 * t.val + (64 * k.val + q.val) := h
  match k with
  | ⟨0, _⟩ =>
    refine congrArg (V m c main_arg5) (funext fun a => Fin.ext ?_)
    match a with
    | ⟨0, _⟩ => show win0_5.index t (0 : Fin 2) * 64 + 1 * q.val = 320 * t.val + (64 * 0 + q.val) - 128; dsimp only at hn; omega
    | ⟨1, _⟩ => show win0_5.index t (1 : Fin 2) * 1024 + 1 * j.val = j.val; omega
  | ⟨1, _⟩ =>
    refine congrArg (V m c main_arg5) (funext fun a => Fin.ext ?_)
    match a with
    | ⟨0, _⟩ => show win0_6.index t (0 : Fin 2) * 64 + 1 * q.val = 320 * t.val + (64 * 1 + q.val) - 128; dsimp only at hn; omega
    | ⟨1, _⟩ => show win0_6.index t (1 : Fin 2) * 1024 + 1 * j.val = j.val; omega
  | ⟨2, _⟩ =>
    refine congrArg (V m c main_arg5) (funext fun a => Fin.ext ?_)
    match a with
    | ⟨0, _⟩ => show win0_7.index t (0 : Fin 2) * 64 + 1 * q.val = 320 * t.val + (64 * 2 + q.val) - 128; dsimp only at hn; omega
    | ⟨1, _⟩ => show win0_7.index t (1 : Fin 2) * 1024 + 1 * j.val = j.val; omega
  | ⟨3, _⟩ =>
    refine congrArg (V m c main_arg5) (funext fun a => Fin.ext ?_)
    match a with
    | ⟨0, _⟩ => show win0_8.index t (0 : Fin 2) * 64 + 1 * q.val = 320 * t.val + (64 * 3 + q.val) - 128; dsimp only at hn; omega
    | ⟨1, _⟩ => show win0_8.index t (1 : Fin 2) * 1024 + 1 * j.val = j.val; omega
  | ⟨4, _⟩ =>
    refine congrArg (V m c main_arg5) (funext fun a => Fin.ext ?_)
    match a with
    | ⟨0, _⟩ => show win0_9.index t (0 : Fin 2) * 64 + 1 * q.val = 320 * t.val + (64 * 4 + q.val) - 128; dsimp only at hn; omega
    | ⟨1, _⟩ => show win0_9.index t (1 : Fin 2) * 1024 + 1 * j.val = j.val; omega

end Loaded

/-! ### What a step leaves -/

section Left

variable (t : Fin cfg0.N)

theorem normed_left : (outsAt0 m c t.val t.isLt).1 = normed (stepLoads m c t) := by
  by_cases h0 : t.val % 26 = 0
  · rw [outsAt0_A m c t h0]
    dsimp only
    exact out10_A c (grid0.coords t) (mems t) (stepBlocks m c t) ((hcond0_0 t).mpr h0)
  · rw [outsAt0_B m c t h0]
    dsimp only
    exact out10_B c (grid0.coords t) (mems t) (stepBlocks m c t) (outsAt0 m c (t.val - 1) (Nat.lt_of_le_of_lt (Nat.sub_le _ _) t.isLt)).2.2.2.2.2 (fun h => h0 ((hcond0_0 t).mp h))

theorem gate_left (d : Fin 4) (s : Fin 320) (r : Fin 768) : (outsAt0 m c t.val t.isLt).2.1 (ValueIdx.ix2 s (col d r)) = hidden (stepLoads m c t) 0 d (ValueIdx.ix2 s r) := by
  by_cases h0 : t.val % 26 = 0
  · rw [outsAt0_A m c t h0]
    dsimp only
    exact out11_A c (grid0.coords t) (mems t) (stepBlocks m c t) ((hcond0_0 t).mpr h0) d s r
  · rw [outsAt0_B m c t h0]
    dsimp only
    exact out11_B c (grid0.coords t) (mems t) (stepBlocks m c t) (outsAt0 m c (t.val - 1) (Nat.lt_of_le_of_lt (Nat.sub_le _ _) t.isLt)).2.2.2.2.2 (fun h => h0 ((hcond0_0 t).mp h)) d s r

theorem up_left (d : Fin 4) (s : Fin 320) (r : Fin 768) : (outsAt0 m c t.val t.isLt).2.2.1 (ValueIdx.ix2 s (col d r)) = hidden (stepLoads m c t) 1 d (ValueIdx.ix2 s r) := by
  by_cases h0 : t.val % 26 = 0
  · rw [outsAt0_A m c t h0]
    dsimp only
    exact out12_A c (grid0.coords t) (mems t) (stepBlocks m c t) ((hcond0_0 t).mpr h0) d s r
  · rw [outsAt0_B m c t h0]
    dsimp only
    exact out12_B c (grid0.coords t) (mems t) (stepBlocks m c t) (outsAt0 m c (t.val - 1) (Nat.lt_of_le_of_lt (Nat.sub_le _ _) t.isLt)).2.2.2.2.2 (fun h => h0 ((hcond0_0 t).mp h)) d s r

theorem act_left (d : Fin 4) (s : Fin 320) (r : Fin 768) : (outsAt0 m c t.val t.isLt).2.2.2.1 (ValueIdx.ix2 s (col d r)) = hidden (stepLoads m c t) 2 d (ValueIdx.ix2 s r) := by
  by_cases h0 : t.val % 26 = 0
  · rw [outsAt0_A m c t h0]
    dsimp only
    exact out13_A c (grid0.coords t) (mems t) (stepBlocks m c t) ((hcond0_0 t).mpr h0) d s r
  · rw [outsAt0_B m c t h0]
    dsimp only
    exact out13_B c (grid0.coords t) (mems t) (stepBlocks m c t) (outsAt0 m c (t.val - 1) (Nat.lt_of_le_of_lt (Nat.sub_le _ _) t.isLt)).2.2.2.2.2 (fun h => h0 ((hcond0_0 t).mp h)) d s r

theorem dout_left : (outsAt0 m c t.val t.isLt).2.2.2.2.1 = dout (stepLoads m c t) := by
  by_cases h0 : t.val % 26 = 0
  · rw [outsAt0_A m c t h0]
    dsimp only
    exact out14_A c (grid0.coords t) (mems t) (stepBlocks m c t) ((hcond0_0 t).mpr h0)
  · rw [outsAt0_B m c t h0]
    dsimp only
    exact out14_B c (grid0.coords t) (mems t) (stepBlocks m c t) (outsAt0 m c (t.val - 1) (Nat.lt_of_le_of_lt (Nat.sub_le _ _) t.isLt)).2.2.2.2.2 (fun h => h0 ((hcond0_0 t).mp h))

theorem row_first (h0 : t.val % 26 = 0) (p : Fin 2) (j : Fin 1024) : (outsAt0 m c t.val t.isLt).2.2.2.2.2 (ValueIdx.ix2 (at8 p) j)
    = row (stepLoads m c t) p (zeroRow F) (ValueIdx.ix2 (0 : Fin 1) j) := by
  rw [outsAt0_A m c t h0]
  dsimp only
  exact row_A c (grid0.coords t) (mems t) (stepBlocks m c t) ((hcond0_0 t).mpr h0) p j

theorem row_later (h0 : ¬t.val % 26 = 0) (p : Fin 2) (j : Fin 1024) : (outsAt0 m c t.val t.isLt).2.2.2.2.2 (ValueIdx.ix2 (at8 p) j)
    = row (stepLoads m c t) p (fun x => (outsAt0 m c (t.val - 1) (Nat.lt_of_le_of_lt (Nat.sub_le _ _) t.isLt)).2.2.2.2.2 ((accRect p).idx x))
        (ValueIdx.ix2 (0 : Fin 1) j) := by
  rw [outsAt0_B m c t h0]
  dsimp only
  exact row_B c (grid0.coords t) (mems t) (stepBlocks m c t) (outsAt0 m c (t.val - 1) (Nat.lt_of_le_of_lt (Nat.sub_le _ _) t.isLt)).2.2.2.2.2 (fun h => h0 ((hcond0_0 t).mp h)) p j

theorem rest_first (h0 : t.val % 26 = 0) (e : Fin 8) (he : 2 ≤ e.val) (j : Fin 1024) :
    (outsAt0 m c t.val t.isLt).2.2.2.2.2 (ValueIdx.ix2 e j) = Scalar.ofBits .f32 0x00000000#32 := by
  rw [outsAt0_A m c t h0]
  dsimp only
  exact rest_A c (grid0.coords t) (mems t) (stepBlocks m c t) ((hcond0_0 t).mpr h0) e he j

theorem rest_later (h0 : ¬t.val % 26 = 0) (e : Fin 8) (he : 2 ≤ e.val) (j : Fin 1024) : (outsAt0 m c t.val t.isLt).2.2.2.2.2 (ValueIdx.ix2 e j)
    = (outsAt0 m c (t.val - 1) (Nat.lt_of_le_of_lt (Nat.sub_le _ _) t.isLt)).2.2.2.2.2 (ValueIdx.ix2 e j) := by
  rw [outsAt0_B m c t h0]
  dsimp only
  exact rest_B c (grid0.coords t) (mems t) (stepBlocks m c t) (outsAt0 m c (t.val - 1) (Nat.lt_of_le_of_lt (Nat.sub_le _ _) t.isLt)).2.2.2.2.2 (fun h => h0 ((hcond0_0 t).mp h)) e he j

/-- The rows of the accumulator after the first two stay as they were cleared. -/
theorem rest_left (e : Fin 8) (he : 2 ≤ e.val) (j : Fin 1024) :
    ∀ (n : ℕ) (hn : n < cfg0.N), (outsAt0 m c n hn).2.2.2.2.2 (ValueIdx.ix2 e j) = Scalar.ofBits .f32 0x00000000#32
  | 0, hn => rest_first m c ⟨0, hn⟩ (Nat.zero_mod _) e he j
  | n + 1, hn => by
    have hN : cfg0.N = 26 := N_0
    exact (rest_later m c ⟨n + 1, hn⟩ (by show ¬(n + 1) % 26 = 0; omega) e he j).trans (rest_left e he j n (by omega))

end Left

/-! ### The arrays after the run -/

section Final

variable (t : Fin cfg0.N)

theorem emb_normed (s : Fin 320) (j : Fin 1024) : ((cfg0.win 10).blk t).view.emb (ValueIdx.ix2 s j) = ValueIdx.ix2 (token (step t) s) j := by
  obtain ⟨e0, e1⟩ := (places_out t).1
  refine funext fun a => Fin.ext ?_
  match a with
  | ⟨0, _⟩ => show win0_10.index t (0 : Fin 2) * 320 + 1 * s.val = 320 * t.val + s.val; omega
  | ⟨1, _⟩ => show win0_10.index t (1 : Fin 2) * 1024 + 1 * j.val = j.val; omega

theorem final_normed (s : Fin 320) (j : Fin 1024) : (dats m 0 c).arrAt 10 cfg0.N (ValueIdx.ix2 (token (step t) s) j) = normed (stepLoads m c t) (ValueIdx.ix2 s j) := by
  rw [← emb_normed t s j]
  have b := congrFun (Value.blocks10 m c t (flush0_10 t)) (ValueIdx.ix2 s j)
  rw [Value.flushed10] at b
  exact b.trans (congrFun (normed_left m c t) _)

theorem emb_gate (s : Fin 320) (j : Fin 3072) : ((cfg0.win 11).blk t).view.emb (ValueIdx.ix2 s j) = ValueIdx.ix2 (token (step t) s) j := by
  obtain ⟨e0, e1⟩ := (places_out t).2.1
  refine funext fun a => Fin.ext ?_
  match a with
  | ⟨0, _⟩ => show win0_11.index t (0 : Fin 2) * 320 + 1 * s.val = 320 * t.val + s.val; omega
  | ⟨1, _⟩ => show win0_11.index t (1 : Fin 2) * 3072 + 1 * j.val = j.val; omega

theorem final_gate (s : Fin 320) (d : Fin 4) (r : Fin 768) : (dats m 0 c).arrAt 11 cfg0.N (ValueIdx.ix2 (token (step t) s) (col d r)) = hidden (stepLoads m c t) 0 d (ValueIdx.ix2 s r) := by
  rw [← emb_gate t s (col d r)]
  have b := congrFun (Value.blocks11 m c t (flush0_11 t)) (ValueIdx.ix2 s (col d r))
  rw [Value.flushed11] at b
  exact b.trans (gate_left m c t d s r)

theorem emb_up (s : Fin 320) (j : Fin 3072) : ((cfg0.win 12).blk t).view.emb (ValueIdx.ix2 s j) = ValueIdx.ix2 (token (step t) s) j := by
  obtain ⟨e0, e1⟩ := (places_out t).2.2.1
  refine funext fun a => Fin.ext ?_
  match a with
  | ⟨0, _⟩ => show win0_12.index t (0 : Fin 2) * 320 + 1 * s.val = 320 * t.val + s.val; omega
  | ⟨1, _⟩ => show win0_12.index t (1 : Fin 2) * 3072 + 1 * j.val = j.val; omega

theorem final_up (s : Fin 320) (d : Fin 4) (r : Fin 768) : (dats m 0 c).arrAt 12 cfg0.N (ValueIdx.ix2 (token (step t) s) (col d r)) = hidden (stepLoads m c t) 1 d (ValueIdx.ix2 s r) := by
  rw [← emb_up t s (col d r)]
  have b := congrFun (Value.blocks12 m c t (flush0_12 t)) (ValueIdx.ix2 s (col d r))
  rw [Value.flushed12] at b
  exact b.trans (up_left m c t d s r)

theorem emb_act (s : Fin 320) (j : Fin 3072) : ((cfg0.win 13).blk t).view.emb (ValueIdx.ix2 s j) = ValueIdx.ix2 (token (step t) s) j := by
  obtain ⟨e0, e1⟩ := (places_out t).2.2.2.1
  refine funext fun a => Fin.ext ?_
  match a with
  | ⟨0, _⟩ => show win0_13.index t (0 : Fin 2) * 320 + 1 * s.val = 320 * t.val + s.val; omega
  | ⟨1, _⟩ => show win0_13.index t (1 : Fin 2) * 3072 + 1 * j.val = j.val; omega

theorem final_act (s : Fin 320) (d : Fin 4) (r : Fin 768) : (dats m 0 c).arrAt 13 cfg0.N (ValueIdx.ix2 (token (step t) s) (col d r)) = hidden (stepLoads m c t) 2 d (ValueIdx.ix2 s r) := by
  rw [← emb_act t s (col d r)]
  have b := congrFun (Value.blocks13 m c t (flush0_13 t)) (ValueIdx.ix2 s (col d r))
  rw [Value.flushed13] at b
  exact b.trans (act_left m c t d s r)

theorem emb_dout (s : Fin 320) (j : Fin 1024) : ((cfg0.win 14).blk t).view.emb (ValueIdx.ix2 s j) = ValueIdx.ix2 (token (step t) s) j := by
  obtain ⟨e0, e1⟩ := (places_out t).2.2.2.2.1
  refine funext fun a => Fin.ext ?_
  match a with
  | ⟨0, _⟩ => show win0_14.index t (0 : Fin 2) * 320 + 1 * s.val = 320 * t.val + s.val; omega
  | ⟨1, _⟩ => show win0_14.index t (1 : Fin 2) * 1024 + 1 * j.val = j.val; omega

theorem final_dout (s : Fin 320) (j : Fin 1024) : (dats m 0 c).arrAt 14 cfg0.N (ValueIdx.ix2 (token (step t) s) j) = dout (stepLoads m c t) (ValueIdx.ix2 s j) := by
  rw [← emb_dout t s j]
  have b := congrFun (Value.blocks14 m c t (flush0_14 t)) (ValueIdx.ix2 s j)
  rw [Value.flushed14] at b
  exact b.trans (congrFun (dout_left m c t) _)

theorem emb_rows (e : Fin 8) (j : Fin 1024) : ((cfg0.win 15).blk t).view.emb (ValueIdx.ix2 e j) = ValueIdx.ix2 e j := by
  obtain ⟨e0, e1⟩ := (places_out t).2.2.2.2.2
  refine funext fun a => Fin.ext ?_
  match a with
  | ⟨0, _⟩ => show win0_15.index t (0 : Fin 2) * 8 + 1 * e.val = e.val; omega
  | ⟨1, _⟩ => show win0_15.index t (1 : Fin 2) * 1024 + 1 * j.val = j.val; omega

/-- The accumulator is written back after the last step. -/
theorem final_rows (ht : t.val = 25) (e : Fin 8) (j : Fin 1024) :
    (dats m 0 c).arrAt 15 cfg0.N (ValueIdx.ix2 e j) = (outsAt0 m c t.val t.isLt).2.2.2.2.2 (ValueIdx.ix2 e j) := by
  have hN : cfg0.N = 26 := N_0
  have b := congrFun ((dats m 0 c).read_blk_arrAt_eq_flushed 15 (fun t t' hf hf' hne => absurd (Fin.ext (by
    have h1 := (flush0_15 t).mp hf
    have h2 := (flush0_15 t').mp hf'
    have h3 := t.isLt
    have h4 := t'.isLt
    omega)) hne) cfg0.N t t.isLt ((flush0_15 t).mpr (by omega))) (ValueIdx.ix2 e j)
  rw [Value.flushed15] at b
  exact (congrArg ((dats m 0 c).arrAt 15 cfg0.N) (emb_rows t e j).symm).trans b

end Final

end Arrays

/-! ### Against the reference -/

section Against

variable (m : (ℓ : Loc nD τ sig) → Buf (Elt Ideal) ℓ) (c : Dev nD) {D : Data}
  (h0 : ∀ i, @Eq EReal ((m (c, main_arg0) : FVec Ideal S8320x1024 .f32) i) (D.X (i 0) (i 1)))
  (h1 : ∀ i, @Eq EReal ((m (c, main_arg1) : FVec Ideal S1x1024 .f32) i) (D.w (i 1)))
  (h2 : ∀ i, @Eq EReal ((m (c, main_arg2) : FVec Ideal S8x1024x768 .bf16) i) (D.Wi (i 0) (i 1) (i 2)))
  (h3 : ∀ i, @Eq EReal ((m (c, main_arg3) : FVec Ideal S4x768x1024 .bf16) i) (D.Wo (i 0) (i 1) (i 2)))
  (h4 : ∀ i, @Eq EReal ((m (c, main_arg4) : FVec Ideal S1x1024 .f32) i) (D.v (i 1)))
  (h5 : ∀ i, @Eq EReal ((m (c, main_arg5) : FVec Ideal S8192x1024 .f32) i) (D.T (i 0) (i 1)))

include h0 h1 h2 h3 h4 h5

theorem step_reads (t : Fin cfg0.N) : Reads (stepLoads m c t) D (step t) where
  at' := congrArg (BitVec.ofNat 32) (places t).1
  x i j := (x_apply m c t i j).trans (by rw [V_main_arg0]; exact h0 _)
  w e j := (w_apply m c t e j).trans (by rw [V_main_arg1]; exact h1 _)
  wi e j r := (wi_apply m c t e j r).trans (by rw [V_main_arg2]; exact h2 _)
  wo d r j := (wo_apply m c t d r j).trans (by rw [V_main_arg3]; exact h3 _)
  fw e j := (fw_apply m c t e j).trans (by rw [V_main_arg4]; exact h4 _)
  tg k q j h := (tg_apply m c t k q j h).trans (by rw [V_main_arg5]; exact h5 _)

omit h0 h1 h2 h3 h4 h5 in
/-- What row `k` adds to row `p` of the sums. -/
def term (D : Data) (p : Fin 2) (j : Fin 1024) (k : ℕ) : EReal := if h : k < 8320 then D.adds p ⟨k, h⟩ j else 0

omit h0 h1 h2 h3 h4 h5 in
theorem term_token (t : Fin cfg0.N) (p : Fin 2) (s : Fin 320) (j : Fin 1024) : term D p j (320 * t.val + s.val) = D.adds p (token (step t) s) j :=
  dif_pos (token (step t) s).isLt

/-- The accumulator's first two rows hold the sums over the rows of the steps so far. -/
theorem sums_so_far (p : Fin 2) (j : Fin 1024) : ∀ (n : ℕ) (hn : n < cfg0.N), @Eq EReal ((outsAt0 m c n hn).2.2.2.2.2 (ValueIdx.ix2 (at8 p) j))
    (∑ k ∈ Finset.range (n + 1), ∑ s : Fin 320, term D p j (320 * k + s.val))
  | 0, hn => by
    have R := step_reads m c h0 h1 h2 h3 h4 h5 ⟨0, hn⟩
    refine (row_first m c ⟨0, hn⟩ (Nat.zero_mod _) p j).trans ((row_is R p _ j).trans ?_)
    show Ideal.ofBits .f32 0x00000000#32 + _ = _
    rw [Ideal.ofBits_zero_f32, zero_add, Finset.sum_range_one]
    exact Finset.sum_congr rfl fun s _ => (term_token ⟨0, hn⟩ p s j).symm
  | n + 1, hn => by
    have hN : cfg0.N = 26 := N_0
    have R := step_reads m c h0 h1 h2 h3 h4 h5 ⟨n + 1, hn⟩
    refine (row_later m c ⟨n + 1, hn⟩ (by show ¬(n + 1) % 26 = 0; omega) p j).trans ((row_is R p _ j).trans ?_)
    rw [Finset.sum_range_succ, ← sums_so_far p j n (by omega)]
    refine congrArg₂ (fun x y : EReal => x + y) ?_ (Finset.sum_congr rfl fun s _ => (term_token ⟨n + 1, hn⟩ p s j).symm)
    exact congrArg (outsAt0 m c n (by omega)).2.2.2.2.2 (emb_acc p j)

/-- The normed input. -/
theorem normed_eq : ((dats m 0 c).arrAt 10 cfg0.N : FVec Ideal S8320x1024 .bf16) = val_main_v94 (F := Ideal) (m (c, main_arg0)) (m (c, main_arg1)) := by
  funext i
  obtain ⟨t, j, rfl⟩ : ∃ (t : Fin 8320) (j : Fin 1024), i = ValueIdx.ix2 t j := ⟨i 0, i 1, funext fun a => match a with
    | ⟨0, _⟩ => rfl
    | ⟨1, _⟩ => rfl⟩
  obtain ⟨t, s, rfl⟩ := token_cases t
  exact (final_normed m c t s j).trans ((normed_is (step_reads m c h0 h1 h2 h3 h4 h5 t) s j).trans
    (Cert.FfnFwdReferenceIdeal.Terms.v94_is h0 h1 (ValueIdx.ix2 (token (step t) s) j)).symm)

/-- The gate columns. -/
theorem gate_eq : ((dats m 0 c).arrAt 11 cfg0.N : FVec Ideal S8320x3072 .bf16)
    = val_main_v95 (F := Ideal) (m (c, main_arg0)) (m (c, main_arg1)) (m (c, main_arg2)) := by
  funext i
  obtain ⟨t, b, rfl⟩ : ∃ (t : Fin 8320) (b : Fin 3072), i = ValueIdx.ix2 t b := ⟨i 0, i 1, funext fun a => match a with
    | ⟨0, _⟩ => rfl
    | ⟨1, _⟩ => rfl⟩
  obtain ⟨t, s, rfl⟩ := token_cases t
  obtain ⟨d, r, rfl⟩ := col_cases b
  refine (final_gate m c t s d r).trans ((hidden0_is (step_reads m c h0 h1 h2 h3 h4 h5 t) d s r).trans
    (Eq.trans ?_ (Cert.FfnFwdReferenceIdeal.Terms.v95_is h0 h1 h2 (ValueIdx.ix2 (token (step t) s) (col d r))).symm))
  show _ = D.gate (grp (col d r)) (token (step t) s) (pl (col d r))
  rw [grp_col, pl_col]

/-- The up columns. -/
theorem up_eq : ((dats m 0 c).arrAt 12 cfg0.N : FVec Ideal S8320x3072 .bf16)
    = val_main_v96 (F := Ideal) (m (c, main_arg0)) (m (c, main_arg1)) (m (c, main_arg2)) := by
  funext i
  obtain ⟨t, b, rfl⟩ : ∃ (t : Fin 8320) (b : Fin 3072), i = ValueIdx.ix2 t b := ⟨i 0, i 1, funext fun a => match a with
    | ⟨0, _⟩ => rfl
    | ⟨1, _⟩ => rfl⟩
  obtain ⟨t, s, rfl⟩ := token_cases t
  obtain ⟨d, r, rfl⟩ := col_cases b
  refine (final_up m c t s d r).trans ((hidden1_is (step_reads m c h0 h1 h2 h3 h4 h5 t) d s r).trans
    (Eq.trans ?_ (Cert.FfnFwdReferenceIdeal.Terms.v96_is h0 h1 h2 (ValueIdx.ix2 (token (step t) s) (col d r))).symm))
  show _ = D.up (grp (col d r)) (token (step t) s) (pl (col d r))
  rw [grp_col, pl_col]

/-- The activations. -/
theorem act_eq : ((dats m 0 c).arrAt 13 cfg0.N : FVec Ideal S8320x3072 .bf16)
    = val_main_v97 (F := Ideal) (m (c, main_arg0)) (m (c, main_arg1)) (m (c, main_arg2)) := by
  funext i
  obtain ⟨t, b, rfl⟩ : ∃ (t : Fin 8320) (b : Fin 3072), i = ValueIdx.ix2 t b := ⟨i 0, i 1, funext fun a => match a with
    | ⟨0, _⟩ => rfl
    | ⟨1, _⟩ => rfl⟩
  obtain ⟨t, s, rfl⟩ := token_cases t
  obtain ⟨d, r, rfl⟩ := col_cases b
  refine (final_act m c t s d r).trans ((hidden2_is (step_reads m c h0 h1 h2 h3 h4 h5 t) d s r).trans
    (Eq.trans ?_ (Cert.FfnFwdReferenceIdeal.Terms.v97_is h0 h1 h2 (ValueIdx.ix2 (token (step t) s) (col d r))).symm))
  show _ = D.act (grp (col d r)) (token (step t) s) (pl (col d r))
  rw [grp_col, pl_col]

/-- The gradient of the loss with respect to the block's output. -/
theorem dout_eq : ((dats m 0 c).arrAt 14 cfg0.N : FVec Ideal S8320x1024 .f32) = val_main_v74 (F := Ideal) (m (c, main_arg0)) (m (c, main_arg1)) (m (c, main_arg2)) (m (c, main_arg3)) (m (c, main_arg4)) (m (c, main_arg5)) := by
  funext i
  obtain ⟨t, j, rfl⟩ : ∃ (t : Fin 8320) (j : Fin 1024), i = ValueIdx.ix2 t j := ⟨i 0, i 1, funext fun a => match a with
    | ⟨0, _⟩ => rfl
    | ⟨1, _⟩ => rfl⟩
  obtain ⟨t, s, rfl⟩ := token_cases t
  exact (final_dout m c t s j).trans ((dout_is (step_reads m c h0 h1 h2 h3 h4 h5 t) s j).trans
    (Cert.FfnFwdReferenceIdeal.Terms.v74_is h0 h1 h2 h3 h4 h5 (ValueIdx.ix2 (token (step t) s) j)).symm)

/-- Row `p` of the sums after the last step. -/
theorem sums_done (p : Fin 2) (j : Fin 1024) : @Eq EReal ((dats m 0 c).arrAt 15 cfg0.N (ValueIdx.ix2 (at8 p) j)) (D.sums p j) := by
  obtain ⟨t, ht⟩ : ∃ t : Fin cfg0.N, t.val = 25 := ⟨⟨25, by rw [show cfg0.N = 26 from N_0]; decide⟩, rfl⟩
  refine (final_rows m c t ht (at8 p) j).trans ((sums_so_far m c h0 h1 h2 h3 h4 h5 p j t.val t.isLt).trans ?_)
  rw [ht, BlockSum.sum_blocks 320 (term D p j) 26, ← Fin.sum_univ_eq_sum_range (term D p j) 8320]
  exact Finset.sum_congr rfl fun t _ => dif_pos t.isLt

/-- The sums of the squared differences and the gradient of the last norm's weights. -/
theorem rows_eq : ((dats m 0 c).arrAt 15 cfg0.N : FVec Ideal S8x1024 .f32) = val_main_v93 (F := Ideal) (m (c, main_arg0)) (m (c, main_arg1)) (m (c, main_arg2)) (m (c, main_arg3)) (m (c, main_arg4)) (m (c, main_arg5)) := by
  funext i
  obtain ⟨e, j, rfl⟩ : ∃ (e : Fin 8) (j : Fin 1024), i = ValueIdx.ix2 e j := ⟨i 0, i 1, funext fun a => match a with
    | ⟨0, _⟩ => rfl
    | ⟨1, _⟩ => rfl⟩
  by_cases he : 2 ≤ e.val
  · obtain ⟨t, ht⟩ : ∃ t : Fin cfg0.N, t.val = 25 := ⟨⟨25, by rw [show cfg0.N = 26 from N_0]; decide⟩, rfl⟩
    exact (final_rows m c t ht e j).trans ((rest_left m c e he j t.val t.isLt).trans
      (Ideal.ofBits_zero_f32.trans (Cert.FfnFwdReferenceIdeal.Terms.v93_rest e he j).symm))
  · obtain rfl | rfl : e = at8 0 ∨ e = at8 1 := by
      have h : e.val = 0 ∨ e.val = 1 := by omega
      exact h.imp (fun h => Fin.ext h) (fun h => Fin.ext h)
    · exact (sums_done m c h0 h1 h2 h3 h4 h5 0 j).trans (Cert.FfnFwdReferenceIdeal.Terms.v93_first h0 h1 h2 h3 h4 h5 j).symm
    · exact (sums_done m c h0 h1 h2 h3 h4 h5 1 j).trans (Cert.FfnFwdReferenceIdeal.Terms.v93_second h0 h1 h2 h3 h4 h5 j).symm

end Against

end Cert.FfnFwdIdeal.Product
-- ==== Proof.FfnForward.lean ====
/- The feed-forward block's forward pass and the loss: the kernel's six results are the reference's, whatever the arguments. -/
module

public import proofs.«01_k».proof.Defs
public import proofs.«01_k».proof.Proof.FwdGrid
public import proofs.«01_k».proof.Proof.Final
public import Idealize.ShloMosaic.Adequacy
public import Idealize.ShloMosaic.Init

@[expose] public section

set_option maxRecDepth 16384

noncomputable section

namespace Cert.FfnFwdIdeal.Product

open Idealize.ShloMosaic Idealize.ShloMosaic.TcCoe Idealize.SL.Sem
open Cert.FfnFwdReferenceIdeal.Read

/-- The problem that the arguments state. -/
def problem (a0 : FVec Ideal S8320x1024 .f32) (a1 : FVec Ideal S1x1024 .f32)
    (a2 : FVec Ideal S8x1024x768 .bf16) (a3 : FVec Ideal S4x768x1024 .bf16)
    (a4 : FVec Ideal S1x1024 .f32) (a5 : FVec Ideal S8192x1024 .f32) : Fwd.Data where
  X t j := a0 (ValueIdx.ix2 t j)
  w j := a1 (ValueIdx.ix2 (0 : Fin 1) j)
  Wi e j r := a2 (ValueIdx.ix3 e j r)
  Wo d r j := a3 (ValueIdx.ix3 d r j)
  v j := a4 (ValueIdx.ix2 (0 : Fin 1) j)
  T k j := a5 (ValueIdx.ix2 k j)

/-- The reference runs, and ends with the arrays that its lines compute. -/
theorem run_reference (m : (ℓ : Loc FfnFwdReferenceIdeal.nD FfnFwdReferenceIdeal.τ FfnFwdReferenceIdeal.sig) → Buf (Elt Ideal) ℓ)
    (g : Dev FfnFwdReferenceIdeal.nD → PrngReg) :
    θ_run (FfnFwdReferenceIdeal.defs (F := Ideal)) (onTc (τ := FfnFwdReferenceIdeal.τ) (FfnFwdReferenceIdeal.main (F := Ideal)))
      ⟨m, fun _ => 0, g⟩ fun r => ∀ c : Dev FfnFwdReferenceIdeal.nD,
        r.2.mem ((c.tc : Thread FfnFwdReferenceIdeal.nD FfnFwdReferenceIdeal.τ).loc FfnFwdReferenceIdeal.main_v94)
          = val_main_v94 (F := Ideal) (m (c, FfnFwdReferenceIdeal.main_arg0)) (m (c, FfnFwdReferenceIdeal.main_arg1))
        ∧ r.2.mem ((c.tc : Thread FfnFwdReferenceIdeal.nD FfnFwdReferenceIdeal.τ).loc FfnFwdReferenceIdeal.main_v95)
          = val_main_v95 (F := Ideal) (m (c, FfnFwdReferenceIdeal.main_arg0)) (m (c, FfnFwdReferenceIdeal.main_arg1)) (m (c, FfnFwdReferenceIdeal.main_arg2))
        ∧ r.2.mem ((c.tc : Thread FfnFwdReferenceIdeal.nD FfnFwdReferenceIdeal.τ).loc FfnFwdReferenceIdeal.main_v96)
          = val_main_v96 (F := Ideal) (m (c, FfnFwdReferenceIdeal.main_arg0)) (m (c, FfnFwdReferenceIdeal.main_arg1)) (m (c, FfnFwdReferenceIdeal.main_arg2))
        ∧ r.2.mem ((c.tc : Thread FfnFwdReferenceIdeal.nD FfnFwdReferenceIdeal.τ).loc FfnFwdReferenceIdeal.main_v97)
          = val_main_v97 (F := Ideal) (m (c, FfnFwdReferenceIdeal.main_arg0)) (m (c, FfnFwdReferenceIdeal.main_arg1)) (m (c, FfnFwdReferenceIdeal.main_arg2))
        ∧ r.2.mem ((c.tc : Thread FfnFwdReferenceIdeal.nD FfnFwdReferenceIdeal.τ).loc FfnFwdReferenceIdeal.main_v74)
          = val_main_v74 (F := Ideal) (m (c, FfnFwdReferenceIdeal.main_arg0)) (m (c, FfnFwdReferenceIdeal.main_arg1)) (m (c, FfnFwdReferenceIdeal.main_arg2)) (m (c, FfnFwdReferenceIdeal.main_arg3)) (m (c, FfnFwdReferenceIdeal.main_arg4)) (m (c, FfnFwdReferenceIdeal.main_arg5))
        ∧ r.2.mem ((c.tc : Thread FfnFwdReferenceIdeal.nD FfnFwdReferenceIdeal.τ).loc FfnFwdReferenceIdeal.main_v93)
          = val_main_v93 (F := Ideal) (m (c, FfnFwdReferenceIdeal.main_arg0)) (m (c, FfnFwdReferenceIdeal.main_arg1)) (m (c, FfnFwdReferenceIdeal.main_arg2)) (m (c, FfnFwdReferenceIdeal.main_arg3)) (m (c, FfnFwdReferenceIdeal.main_arg4)) (m (c, FfnFwdReferenceIdeal.main_arg5))
        ∧ r.2.mem ((c.tc : Thread FfnFwdReferenceIdeal.nD FfnFwdReferenceIdeal.τ).loc FfnFwdReferenceIdeal.main_arg0)
          = m ((c.tc : Thread FfnFwdReferenceIdeal.nD FfnFwdReferenceIdeal.τ).loc FfnFwdReferenceIdeal.main_arg0)
        ∧ r.2.mem ((c.tc : Thread FfnFwdReferenceIdeal.nD FfnFwdReferenceIdeal.τ).loc FfnFwdReferenceIdeal.main_arg1)
          = m ((c.tc : Thread FfnFwdReferenceIdeal.nD FfnFwdReferenceIdeal.τ).loc FfnFwdReferenceIdeal.main_arg1)
        ∧ r.2.mem ((c.tc : Thread FfnFwdReferenceIdeal.nD FfnFwdReferenceIdeal.τ).loc FfnFwdReferenceIdeal.main_arg2)
          = m ((c.tc : Thread FfnFwdReferenceIdeal.nD FfnFwdReferenceIdeal.τ).loc FfnFwdReferenceIdeal.main_arg2)
        ∧ r.2.mem ((c.tc : Thread FfnFwdReferenceIdeal.nD FfnFwdReferenceIdeal.τ).loc FfnFwdReferenceIdeal.main_arg3)
          = m ((c.tc : Thread FfnFwdReferenceIdeal.nD FfnFwdReferenceIdeal.τ).loc FfnFwdReferenceIdeal.main_arg3)
        ∧ r.2.mem ((c.tc : Thread FfnFwdReferenceIdeal.nD FfnFwdReferenceIdeal.τ).loc FfnFwdReferenceIdeal.main_arg4)
          = m ((c.tc : Thread FfnFwdReferenceIdeal.nD FfnFwdReferenceIdeal.τ).loc FfnFwdReferenceIdeal.main_arg4)
        ∧ r.2.mem ((c.tc : Thread FfnFwdReferenceIdeal.nD FfnFwdReferenceIdeal.τ).loc FfnFwdReferenceIdeal.main_arg5)
          = m ((c.tc : Thread FfnFwdReferenceIdeal.nD FfnFwdReferenceIdeal.τ).loc FfnFwdReferenceIdeal.main_arg5) :=
  (θ_run FfnFwdReferenceIdeal.defs _ _).mono
    (fun _ h c => ⟨(h c).1.trans (val_main_v94_eq _ _), (h c).2.1.trans (val_main_v95_eq _ _ _), (h c).2.2.1.trans (val_main_v96_eq _ _ _),
      (h c).2.2.2.1.trans (val_main_v97_eq _ _ _), (h c).2.2.2.2.1.trans (val_main_v74_eq _ _), (h c).2.2.2.2.2.1.trans (val_main_v93_eq _ _),
      (h c).2.2.2.2.2.2⟩)
    (FfnFwdReferenceIdeal.Value.run (F := Ideal) m g)

/-- The reference leaves its arguments and counters alone. -/
theorem quiescent_reference : quiescent_FfnFwdReferenceIdeal (hFfnFwdReferenceIdeal := FfnFwdReferenceIdeal.Gen.facts) := fun m g _ =>
  (θ_run FfnFwdReferenceIdeal.defs _ _).mono (fun r h => ⟨fun c => (h c).2.2.2.2.2.2, sem_eq_zero_of_no_sems (by decide) r.2⟩) (run_reference m g)

section Algebraic

variable (m : (ℓ : Loc nD τ sig) → Buf (Elt Ideal) ℓ) (c : Dev nD)

/-- The problem that a device's arguments state. -/
def stated : Fwd.Data := problem (m (c, main_arg0)) (m (c, main_arg1)) (m (c, main_arg2)) (m (c, main_arg3)) (m (c, main_arg4)) (m (c, main_arg5))

end Algebraic

/-- The kernel's results are the reference's. -/
theorem algebraic : algebraic_FfnFwdIdeal_FfnFwdReferenceIdeal (hFfnFwdIdeal := Gen.facts)
    (hFfnFwdReferenceIdeal := FfnFwdReferenceIdeal.Gen.facts) := by
  intro m g m' g' _ hagree
  refine ⟨fun c => (Gen.dats m 0 c).arrAt 10 cfg0.N,
    fun c => (Gen.dats m 0 c).arrAt 11 cfg0.N,
    fun c => (Gen.dats m 0 c).arrAt 12 cfg0.N,
    fun c => (Gen.dats m 0 c).arrAt 13 cfg0.N,
    fun c => (Gen.dats m 0 c).arrAt 14 cfg0.N,
    fun c => (Gen.dats m 0 c).arrAt 15 cfg0.N, Value.run_blocks m g, ?_⟩
  refine (θ_run FfnFwdReferenceIdeal.defs _ _).mono (fun r h c => ?_) (run_reference m' g')
  obtain ⟨a0, a1, a2, a3, a4, a5⟩ := hagree c
  have h0 : ∀ i, @Eq EReal ((m (c, main_arg0) : FVec Ideal S8320x1024 .f32) i) ((stated m c).X (i 0) (i 1)) := fun i => by
    obtain ⟨t, j, rfl⟩ : ∃ (t : Fin 8320) (j : Fin 1024), i = ValueIdx.ix2 t j := ⟨i 0, i 1, funext fun a => match a with
      | ⟨0, _⟩ => rfl
      | ⟨1, _⟩ => rfl⟩
    rfl
  have h1 : ∀ i, @Eq EReal ((m (c, main_arg1) : FVec Ideal S1x1024 .f32) i) ((stated m c).w (i 1)) := fun i => by
    obtain ⟨j, rfl⟩ : ∃ j : Fin 1024, i = ValueIdx.ix2 (0 : Fin 1) j := ⟨i 1, funext fun a => match a with
      | ⟨0, _⟩ => Subsingleton.elim (α := Fin 1) _ _
      | ⟨1, _⟩ => rfl⟩
    rfl
  have h2 : ∀ i, @Eq EReal ((m (c, main_arg2) : FVec Ideal S8x1024x768 .bf16) i) ((stated m c).Wi (i 0) (i 1) (i 2)) := fun i => by
    obtain ⟨e, j, r, rfl⟩ : ∃ (e : Fin 8) (j : Fin 1024) (r : Fin 768), i = ValueIdx.ix3 e j r := ⟨i 0, i 1, i 2, funext fun a => match a with
      | ⟨0, _⟩ => rfl
      | ⟨1, _⟩ => rfl
      | ⟨2, _⟩ => rfl⟩
    rfl
  have h3 : ∀ i, @Eq EReal ((m (c, main_arg3) : FVec Ideal S4x768x1024 .bf16) i) ((stated m c).Wo (i 0) (i 1) (i 2)) := fun i => by
    obtain ⟨e, j, r, rfl⟩ : ∃ (e : Fin 4) (j : Fin 768) (r : Fin 1024), i = ValueIdx.ix3 e j r := ⟨i 0, i 1, i 2, funext fun a => match a with
      | ⟨0, _⟩ => rfl
      | ⟨1, _⟩ => rfl
      | ⟨2, _⟩ => rfl⟩
    rfl
  have h4 : ∀ i, @Eq EReal ((m (c, main_arg4) : FVec Ideal S1x1024 .f32) i) ((stated m c).v (i 1)) := fun i => by
    obtain ⟨j, rfl⟩ : ∃ j : Fin 1024, i = ValueIdx.ix2 (0 : Fin 1) j := ⟨i 1, funext fun a => match a with
      | ⟨0, _⟩ => Subsingleton.elim (α := Fin 1) _ _
      | ⟨1, _⟩ => rfl⟩
    rfl
  have h5 : ∀ i, @Eq EReal ((m (c, main_arg5) : FVec Ideal S8192x1024 .f32) i) ((stated m c).T (i 0) (i 1)) := fun i => by
    obtain ⟨t, j, rfl⟩ : ∃ (t : Fin 8192) (j : Fin 1024), i = ValueIdx.ix2 t j := ⟨i 0, i 1, funext fun a => match a with
      | ⟨0, _⟩ => rfl
      | ⟨1, _⟩ => rfl⟩
    rfl
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2⟩
  · exact (congr (congrArg (val_main_v94 (F := Ideal)) a0) a1).trans (normed_eq m c h0 h1 h2 h3 h4 h5).symm
  · exact (congr (congr (congrArg (val_main_v95 (F := Ideal)) a0) a1) a2).trans (gate_eq m c h0 h1 h2 h3 h4 h5).symm
  · exact (congr (congr (congrArg (val_main_v96 (F := Ideal)) a0) a1) a2).trans (up_eq m c h0 h1 h2 h3 h4 h5).symm
  · exact (congr (congr (congrArg (val_main_v97 (F := Ideal)) a0) a1) a2).trans (act_eq m c h0 h1 h2 h3 h4 h5).symm
  · exact (congr (congr (congr (congr (congr (congrArg (val_main_v74 (F := Ideal)) a0) a1) a2) a3) a4) a5).trans (dout_eq m c h0 h1 h2 h3 h4 h5).symm
  · exact (congr (congr (congr (congr (congr (congrArg (val_main_v93 (F := Ideal)) a0) a1) a2) a3) a4) a5).trans (rows_eq m c h0 h1 h2 h3 h4 h5).symm

end Cert.FfnFwdIdeal.Product

end
-- ==== Proof.Update.lean ====
/- One step of AdamW at one entry, over the extended reals, with the constants of the two programs; and the sum of the devices'
   parts of a gradient, one part added after the other. -/
module

public import Idealize.ShloMosaic.PureOps.Ideal.Laws
public import Idealize.ShloMosaic.Lib.ValueIdx
public import Idealize.ShloMosaic.Lib.Pointwise

@[expose] public section

noncomputable section

namespace Update

open Idealize.ShloMosaic

/-- The new first moment, of the gradient and the old one. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight: both moments corrected for the step's number, and the decay of the weight. -/
def change (g w m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

/-- Eight parts, added one after the other. -/
theorem sum_eight (f : Fin 8 → EReal) : f 0 + f 1 + f 2 + f 3 + f 4 + f 5 + f 6 + f 7 = ∑ k : Fin 8, f k := by
  rw [Fin.sum_univ_eight]

/-- Six parts, and then two more. -/
theorem sum_six_two (f : Fin 6 → EReal) (h : Fin 2 → EReal) :
    f 0 + f 1 + f 2 + f 3 + f 4 + f 5 + h 0 + h 1 = (∑ k : Fin 6, f k) + ∑ k : Fin 2, h k := by
  rw [Fin.sum_univ_six, Fin.sum_univ_two, ← add_assoc]

/-- One part's block: the leading axis of length one dropped. -/
theorem part_apply {n T C : ℕ} {e : EltTy} (x : (⟨3, ![n, T, C]⟩ : Shape).Idx → Elt Ideal e) (k : Fin n) (o : Fin 3 → ℕ) (ho : o = ![k.val, 0, 0])
    (hb : ∀ a, o a + (⟨3, ![1, T, C]⟩ : Shape).size a ≤ (⟨3, ![n, T, C]⟩ : Shape).size a)
    (h : Shape.ShapeCasts (⟨3, ![1, T, C]⟩ : Shape) ⟨2, ![T, C]⟩) (i : Fin T) (j : Fin C) :
    (shapeCast (⟨2, ![T, C]⟩ : Shape) ((View.ld (Val := Elt Ideal) (e' := e) x (Rect.unit (s := (⟨3, ![n, T, C]⟩ : Shape)) o (⟨3, ![1, T, C]⟩ : Shape).size hb) : (⟨3, ![1, T, C]⟩ : Shape).Idx → Elt Ideal e)) h (ValueIdx.ix2 i j))
      = x (ValueIdx.ix3 k i j) := by
  subst ho
  refine (shapeCast_apply _ _ (ValueIdx.ix2 i j) (ValueIdx.ix3 (0 : Fin 1) i j) ?_).trans ?_
  · rw [Shape.rowMajor_val_three, Shape.rowMajor_val_two]
    show (0 * T + i.val) * C + j.val = i.val * C + j.val
    rw [Nat.zero_mul, Nat.zero_add]
  · refine congrArg x (funext fun a => Fin.ext ?_)
    match a with
    | ⟨0, _⟩ => show k.val + 1 * 0 = k.val; omega
    | ⟨1, _⟩ => show 0 + 1 * i.val = i.val; omega
    | ⟨2, _⟩ => show 0 + 1 * j.val = j.val; omega

end Update

end
-- ==== Proof.SquareUpdate.lean ====
/- The update of a square matrix's shard: the sum of the eight devices' gradients and one step of AdamW, block by block of rows. -/
module

public import proofs.«01_k».proof.Defs
public import proofs.«01_k».proof.Proof.Update
public import proofs.«01_k».proof.Proof.Gen.AdamIdeal.Frame
public import proofs.«01_k».proof.Proof.Gen.AdamReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamIdeal.Product

open Cert.AdamIdeal Cert.AdamIdeal.Gen Idealize.ShloMosaic.TcCoe Idealize.SL.Sem
open Idealize.ShloMosaic hiding ix2 ix3
open Idealize.ShloMosaic.ValueIdx (ix2 ix3)
open Cert.AdamReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S8x64x1024 .bf16) (x1 x2 x3 : FVec Ideal S64x1024 .f32) (i : Fin 64) (j : Fin 1024)

/-- The gradient: the sum of the parts. -/
def grad : EReal := ∑ k : Fin 8, (x0 (ix3 k i j) : EReal)

theorem pay5_apply : @Eq EReal (k0_pay5 (F := Ideal) x0 x1 x2 x3 (ix2 i j)) (grad x0 i j) := by
  unfold k0_pay5 k0_pay4 grad
  rw [← Update.sum_eight]
  have h (k : Fin 8) := Update.part_apply (n := 8) (T := 64) (C := 1024) (e := .bf16) x0 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (h 6 _ rfl _ _ i j)) (h 7 _ rfl _ _ i j)

theorem out4_apply : @Eq EReal (out0_4 (F := Ideal) x0 x1 x2 x3 (ix2 i j)) (grad x0 i j) := by
  unfold out0_4
  rw [View.canon_unit_zero zero2]
  exact pay5_apply x0 x1 x2 x3 i j

theorem out6_apply : @Eq EReal (out0_6 (F := Ideal) x0 x1 x2 x3 (ix2 i j)) (Update.first (grad x0 i j) (x2 (ix2 i j))) := by
  unfold out0_6
  rw [View.canon_unit_zero zero2, View.ld_unit_zero (S := S64x1024) zero2, ← pay5_apply x0 x1 x2 x3 i j]
  rfl

theorem out7_apply : @Eq EReal (out0_7 (F := Ideal) x0 x1 x2 x3 (ix2 i j)) (Update.second (grad x0 i j) (x3 (ix2 i j))) := by
  unfold out0_7
  rw [View.canon_unit_zero zero2, View.ld_unit_zero (S := S64x1024) zero2, ← pay5_apply x0 x1 x2 x3 i j]
  rfl

theorem out5_apply : @Eq EReal (out0_5 (F := Ideal) x0 x1 x2 x3 (ix2 i j))
    (Update.change (grad x0 i j) (x1 (ix2 i j)) (x2 (ix2 i j)) (x3 (ix2 i j))) := by
  unfold out0_5
  rw [View.canon_unit_zero zero2, View.ld_unit_zero (S := S64x1024) zero2, View.ld_unit_zero (S := S64x1024) zero2,
    View.ld_unit_zero (S := S64x1024) zero2, ← pay5_apply x0 x1 x2 x3 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = t.val ∧ win0_4.index t (1 : Fin 2) = 0) ∧
    (win0_5.index t (0 : Fin 2) = t.val ∧ win0_5.index t (1 : Fin 2) = 0) ∧ (win0_6.index t (0 : Fin 2) = t.val ∧ win0_6.index t (1 : Fin 2) = 0) ∧
    (win0_7.index t (0 : Fin 2) = t.val ∧ win0_7.index t (1 : Fin 2) = 0) :=
  (by decide +kernel : ∀ t : Fin grid0.N, _)

/-- Row `i` of step `t`. -/
def row (t : Fin cfg0.N) (i : Fin 64) : Fin 128 := ⟨64 * t.val + i.val, by have := t.isLt; have hN : cfg0.N = 2 := N_0; omega⟩

theorem row_cases (x : S128x1024.Idx) : ∃ (t : Fin cfg0.N) (i : Fin 64) (j : Fin 1024), x = ix2 (row t i) j := by
  have hx : (x 0).val < 128 := (x 0).isLt
  have hN : cfg0.N = 2 := N_0
  refine ⟨⟨(x 0).val / 64, by omega⟩, ⟨(x 0).val % 64, by omega⟩, x 1, funext fun a => Fin.ext ?_⟩
  match a with
  | ⟨0, _⟩ => show (x 0).val = 64 * ((x 0).val / 64) + (x 0).val % 64; omega
  | ⟨1, _⟩ => rfl

section Arrays

variable (m : (ℓ : Loc nD τ sig) → Buf (Elt Ideal) ℓ) (c : Dev nD)

/-- The arguments. -/
abbrev parts : FVec Ideal S8x128x1024 .bf16 := m (c, main_arg0)
abbrev weight : FVec Ideal S128x1024 .f32 := m (c, main_arg1)
abbrev moment1 : FVec Ideal S128x1024 .f32 := m (c, main_arg2)
abbrev moment2 : FVec Ideal S128x1024 .f32 := m (c, main_arg3)

variable (t : Fin cfg0.N) (i : Fin 64) (j : Fin 1024)

/-! ### What a step loads -/

theorem x0_apply (k : Fin 8) : @Eq EReal ((iblk m c 0 t : FVec Ideal S8x64x1024 .bf16) (ix3 k i j)) (parts m c (ix3 k (row t i) j)) := by
  obtain ⟨e0, e1, e2⟩ := (places t).1
  refine (congrArg (V m c main_arg0) (funext fun a => Fin.ext ?_)).trans (congrFun (V_main_arg0 m c) (ix3 k (row t i) j))
  match a with
  | ⟨0, _⟩ => show win0_0.index t (0 : Fin 3) * 8 + 1 * k.val = k.val; omega
  | ⟨1, _⟩ => show win0_0.index t (1 : Fin 3) * 64 + 1 * i.val = 64 * t.val + i.val; omega
  | ⟨2, _⟩ => show win0_0.index t (2 : Fin 3) * 1024 + 1 * j.val = j.val; omega

theorem x1_apply : @Eq EReal ((iblk m c 1 t : FVec Ideal S64x1024 .f32) (ix2 i j)) (weight m c (ix2 (row t i) j)) := by
  obtain ⟨e0, e1⟩ := (places t).2.1
  refine (congrArg (V m c main_arg1) (funext fun a => Fin.ext ?_)).trans (congrFun (V_main_arg1 m c) (ix2 (row t i) j))
  match a with
  | ⟨0, _⟩ => show win0_1.index t (0 : Fin 2) * 64 + 1 * i.val = 64 * t.val + i.val; omega
  | ⟨1, _⟩ => show win0_1.index t (1 : Fin 2) * 1024 + 1 * j.val = j.val; omega

theorem x2_apply : @Eq EReal ((iblk m c 2 t : FVec Ideal S64x1024 .f32) (ix2 i j)) (moment1 m c (ix2 (row t i) j)) := by
  obtain ⟨e0, e1⟩ := (places t).2.2.1
  refine (congrArg (V m c main_arg2) (funext fun a => Fin.ext ?_)).trans (congrFun (V_main_arg2 m c) (ix2 (row t i) j))
  match a with
  | ⟨0, _⟩ => show win0_2.index t (0 : Fin 2) * 64 + 1 * i.val = 64 * t.val + i.val; omega
  | ⟨1, _⟩ => show win0_2.index t (1 : Fin 2) * 1024 + 1 * j.val = j.val; omega

theorem x3_apply : @Eq EReal ((iblk m c 3 t : FVec Ideal S64x1024 .f32) (ix2 i j)) (moment2 m c (ix2 (row t i) j)) := by
  obtain ⟨e0, e1⟩ := (places t).2.2.2.1
  refine (congrArg (V m c main_arg3) (funext fun a => Fin.ext ?_)).trans (congrFun (V_main_arg3 m c) (ix2 (row t i) j))
  match a with
  | ⟨0, _⟩ => show win0_3.index t (0 : Fin 2) * 64 + 1 * i.val = 64 * t.val + i.val; omega
  | ⟨1, _⟩ => show win0_3.index t (1 : Fin 2) * 1024 + 1 * j.val = j.val; omega

/-- The gradient at a row of the whole array. -/
def total (r : Fin 128) : EReal := ∑ k : Fin 8, (parts m c (ix3 k r j) : EReal)

theorem grad_eq : @Eq EReal (grad (iblk m c 0 t) i j) (total m c j (row t i)) := Finset.sum_congr rfl fun k _ => x0_apply m c t i j k

/-! ### What a step leaves -/

/-- Two steps write different blocks. -/
theorem apart (w : Fin 8) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb4 : ((cfg0.win 4).blk t).view.emb (ix2 i j) = ix2 (row t i) j := by
  obtain ⟨e0, e1⟩ := (places t).2.2.2.2.1
  refine funext fun a => Fin.ext ?_
  match a with
  | ⟨0, _⟩ => show win0_4.index t (0 : Fin 2) * 64 + 1 * i.val = 64 * t.val + i.val; omega
  | ⟨1, _⟩ => show win0_4.index t (1 : Fin 2) * 1024 + 1 * j.val = j.val; omega

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 64 + 1 * i.val = 64 * t.val + i.val; omega
  | ⟨1, _⟩ => show win0_5.index t (1 : Fin 2) * 1024 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 64 + 1 * i.val = 64 * t.val + i.val; omega
  | ⟨1, _⟩ => show win0_6.index t (1 : Fin 2) * 1024 + 1 * j.val = j.val; omega

theorem emb7 : ((cfg0.win 7).blk t).view.emb (ix2 i j) = ix2 (row t i) j := by
  obtain ⟨e0, e1⟩ := (places t).2.2.2.2.2.2.2
  refine funext fun a => Fin.ext ?_
  match a with
  | ⟨0, _⟩ => show win0_7.index t (0 : Fin 2) * 64 + 1 * i.val = 64 * t.val + i.val; omega
  | ⟨1, _⟩ => show win0_7.index t (1 : Fin 2) * 1024 + 1 * j.val = j.val; omega

theorem left4 : @Eq EReal ((dats m 0 c).arrAt 4 cfg0.N (ix2 (row t i) j)) (total m c j (row t i)) := by
  rw [← emb4 t i j]
  have b := congrFun ((dats m 0 c).read_blk_arrAt_eq_flushed 4 (apart 4 (by decide +kernel) rfl) cfg0.N t t.isLt (flush0_4 t)) (ix2 i j)
  rw [show (dats m 0 c).flushed 4 t = (cfg0.win 4).cut (grid0.coords t) ((dats m 0 c).after 4 t) from rfl, after0_4] at b
  exact Eq.trans b ((out4_apply _ _ _ _ i j).trans (grad_eq m c t i j))

theorem left5 : @Eq EReal ((dats m 0 c).arrAt 5 cfg0.N (ix2 (row t i) j))
    (Update.change (total m c j (row t i)) (weight m c (ix2 (row t i) j)) (moment1 m c (ix2 (row t i) j)) (moment2 m c (ix2 (row t i) j))) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  refine Eq.trans b ((out5_apply _ _ _ _ i j).trans ?_)
  rw [grad_eq, x1_apply, x2_apply, x3_apply, emb5]

theorem left6 : @Eq EReal ((dats m 0 c).arrAt 6 cfg0.N (ix2 (row t i) j))
    (Update.first (total m c j (row t i)) (moment1 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ i j).trans ?_)
  rw [grad_eq, x2_apply, emb6]

theorem left7 : @Eq EReal ((dats m 0 c).arrAt 7 cfg0.N (ix2 (row t i) j))
    (Update.second (total m c j (row t i)) (moment2 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ i j).trans ?_)
  rw [grad_eq, x3_apply, emb7]

end Arrays

/-! ### The reference's lines -/

section Lines

variable (p : FVec Ideal S8x128x1024 .bf16) (w a b : FVec Ideal S128x1024 .f32) (x : S128x1024.Idx)

theorem v8_at : @Eq EReal (val_main_v8 (F := Ideal) p a x) (Update.first (val_main_v3 (F := Ideal) p x) (a x)) := by
  rw [val_main_v8_apply, val_main_v5_apply, val_main_v7_apply, val_main_v4_apply, val_main_v6_apply]
  rfl

theorem v14_at : @Eq EReal (val_main_v14 (F := Ideal) p b x) (Update.second (val_main_v3 (F := Ideal) p x) (b x)) := by
  rw [val_main_v14_apply, val_main_v10_apply, val_main_v13_apply, val_main_v9_apply, val_main_v12_apply, val_main_v11_apply]
  rfl

theorem v27_at : @Eq EReal (val_main_v27 (F := Ideal) p w a b x) (Update.change (val_main_v3 (F := Ideal) p x) (w x) (a x) (b x)) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, v8_at, v14_at]
  rfl

theorem v3_at (r : Fin 128) (j : Fin 1024) : @Eq EReal (val_main_v3 (F := Ideal) p (ix2 r j)) (∑ k : Fin 8, (p (ix3 k r j) : EReal)) := by
  rw [val_main_v3_apply, val_main_v2_apply, val_main_v1_apply]
  have z : (val_main_cst (F := Ideal)) (Shape.Idx.first AdamReferenceIdeal.Gen.h_S_) = (0 : EReal) := Ideal.ofBits_zero_f32
  refine (congrArg₂ (fun x y : EReal => x + y) (Ideal.ofBits_zero_f32) (congrArg (fun y : EReal => y + _) z)).trans ?_
  rw [zero_add, zero_add]
  refine Finset.sum_congr rfl fun k _ => congrArg p (funext fun a => ?_)
  match a with
  | ⟨0, _⟩ => rfl
  | ⟨1, _⟩ => rfl
  | ⟨2, _⟩ => rfl

end Lines

/-! ### The results -/

section Results

variable (m : (ℓ : Loc nD τ sig) → Buf (Elt Ideal) ℓ) (c : Dev nD)

theorem result4 : (dats m 0 c).arrAt 4 cfg0.N = val_main_v3 (F := Ideal) (m (c, main_arg0)) := by
  funext x
  obtain ⟨t, i, j, rfl⟩ := row_cases x
  exact (left4 m c t i j).trans (v3_at (parts m c) (row t i) j).symm

theorem result5 : (dats m 0 c).arrAt 5 cfg0.N = val_main_v27 (F := Ideal) (m (c, main_arg0)) (m (c, main_arg1)) (m (c, main_arg2)) (m (c, main_arg3)) := by
  funext x
  obtain ⟨t, i, j, rfl⟩ := row_cases x
  refine (left5 m c t i j).trans (Eq.trans ?_ (v27_at (parts m c) (weight m c) (moment1 m c) (moment2 m c) _).symm)
  rw [v3_at]
  rfl

theorem result6 : (dats m 0 c).arrAt 6 cfg0.N = val_main_v8 (F := Ideal) (m (c, main_arg0)) (m (c, main_arg2)) := by
  funext x
  obtain ⟨t, i, j, rfl⟩ := row_cases x
  refine (left6 m c t i j).trans (Eq.trans ?_ (v8_at (parts m c) (moment1 m c) _).symm)
  rw [v3_at]
  rfl

theorem result7 : (dats m 0 c).arrAt 7 cfg0.N = val_main_v14 (F := Ideal) (m (c, main_arg0)) (m (c, main_arg3)) := by
  funext x
  obtain ⟨t, i, j, rfl⟩ := row_cases x
  refine (left7 m c t i j).trans (Eq.trans ?_ (v14_at (parts m c) (moment2 m c) _).symm)
  rw [v3_at]
  rfl

end Results

/-! ### The two runs -/

/-- The reference leaves its arguments and counters alone. -/
theorem quiescent_reference : quiescent_AdamReferenceIdeal (hAdamReferenceIdeal := AdamReferenceIdeal.Gen.facts) := fun m g _ =>
  (θ_run AdamReferenceIdeal.defs _ _).mono (fun r h => ⟨fun c => (h c).2.2.2.2, sem_eq_zero_of_no_sems (by decide) r.2⟩)
    (AdamReferenceIdeal.Value.run (F := Ideal) m g)

/-- The kernel's results are the reference's. -/
theorem algebraic : algebraic_AdamIdeal_AdamReferenceIdeal (hAdamIdeal := Gen.facts)
    (hAdamReferenceIdeal := AdamReferenceIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, (θ_run defs _ _).mono (fun _ h c => ⟨(h.2 c).1 4, (h.2 c).1 5, (h.2 c).1 6, (h.2 c).1 7, h.1 c⟩)
      (θ_run_and (unchanged m g) (run_main m g)), ?_⟩
  refine (θ_run AdamReferenceIdeal.defs _ _).mono (fun r h c => ?_) (AdamReferenceIdeal.Value.run (F := Ideal) m' g')
  obtain ⟨a0, a1, a2, a3⟩ := hagree c
  refine ⟨(h c).1.trans ((val_main_v3_eq _).trans ?_), (h c).2.1.trans ((val_main_v27_eq _ _ _ _).trans ?_), (h c).2.2.1.trans ((val_main_v8_eq _ _).trans ?_),
    (h c).2.2.2.1.trans ((val_main_v14_eq _ _).trans ?_), (h c).2.2.2.2⟩
  · exact (congrArg (val_main_v3 (F := Ideal)) a0).trans (result4 m c).symm
  · exact (congr (congr (congr (congrArg (val_main_v27 (F := Ideal)) a0) a1) a2) a3).trans (result5 m c).symm
  · exact (congr (congrArg (val_main_v8 (F := Ideal)) a0) a2).trans (result6 m c).symm
  · exact (congr (congrArg (val_main_v14 (F := Ideal)) a0) a3).trans (result7 m c).symm

end Cert.AdamIdeal.Product

end
-- ==== Proof.SmallUpdate.lean ====
/- The update of the nine small weights, which lie in the rows of one pack: as `SquareUpdate`, with 80 rows in five steps, one gradient
   (the devices' parts are summed before), and the weights' rows cut out of the results. -/
module

public import proofs.«01_k».proof.Defs
public import proofs.«01_k».proof.Proof.Update
public import proofs.«01_k».proof.Proof.Gen.AdamSmallIdeal.Frame
public import proofs.«01_k».proof.Proof.Gen.AdamSmallReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamSmallIdeal.Product

open Cert.AdamSmallIdeal Cert.AdamSmallIdeal.Gen Idealize.ShloMosaic.TcCoe Idealize.SL.Sem
open Idealize.ShloMosaic hiding ix2 ix3
open Idealize.ShloMosaic.ValueIdx (ix2 ix3)
open Cert.AdamSmallReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S1x16x128 .f32) (x1 x2 x3 : FVec Ideal S16x128 .f32) (i : Fin 16) (j : Fin 128)

theorem pay1_apply : @Eq EReal (k0_pay1 (F := Ideal) (View.ld x0 r0_0) (ix2 i j)) (x0 (ix3 0 i j)) :=
  Update.part_apply (n := 1) (T := 16) (C := 128) (e := .f32) x0 0 _ rfl _ _ i j

theorem out4_apply : @Eq EReal (out0_4 (F := Ideal) x0 x1 x2 x3 (ix2 i j)) (x0 (ix3 0 i j)) := by
  unfold out0_4
  rw [View.canon_unit_zero zero2]
  exact pay1_apply x0 i j

theorem out6_apply : @Eq EReal (out0_6 (F := Ideal) x0 x1 x2 x3 (ix2 i j)) (Update.first (x0 (ix3 0 i j)) (x2 (ix2 i j))) := by
  unfold out0_6
  rw [View.canon_unit_zero zero2, View.ld_unit_zero (S := S16x128) zero2, ← pay1_apply x0 i j]
  rfl

theorem out7_apply : @Eq EReal (out0_7 (F := Ideal) x0 x1 x2 x3 (ix2 i j)) (Update.second (x0 (ix3 0 i j)) (x3 (ix2 i j))) := by
  unfold out0_7
  rw [View.canon_unit_zero zero2, View.ld_unit_zero (S := S16x128) zero2, ← pay1_apply x0 i j]
  rfl

theorem out5_apply : @Eq EReal (out0_5 (F := Ideal) x0 x1 x2 x3 (ix2 i j))
    (Update.change (x0 (ix3 0 i j)) (x1 (ix2 i j)) (x2 (ix2 i j)) (x3 (ix2 i j))) := by
  unfold out0_5
  rw [View.canon_unit_zero zero2, View.ld_unit_zero (S := S16x128) zero2, View.ld_unit_zero (S := S16x128) zero2,
    View.ld_unit_zero (S := S16x128) zero2, ← pay1_apply x0 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = t.val ∧ win0_4.index t (1 : Fin 2) = 0) ∧
    (win0_5.index t (0 : Fin 2) = t.val ∧ win0_5.index t (1 : Fin 2) = 0) ∧ (win0_6.index t (0 : Fin 2) = t.val ∧ win0_6.index t (1 : Fin 2) = 0) ∧
    (win0_7.index t (0 : Fin 2) = t.val ∧ win0_7.index t (1 : Fin 2) = 0) :=
  (by decide +kernel : ∀ t : Fin grid0.N, _)

/-- Row `i` of step `t`. -/
def row (t : Fin cfg0.N) (i : Fin 16) : Fin 80 := ⟨16 * t.val + i.val, by have := t.isLt; have hN : cfg0.N = 5 := N_0; omega⟩

theorem row_cases (x : S80x128.Idx) : ∃ (t : Fin cfg0.N) (i : Fin 16) (j : Fin 128), x = ix2 (row t i) j := by
  have hx : (x 0).val < 80 := (x 0).isLt
  have hN : cfg0.N = 5 := N_0
  refine ⟨⟨(x 0).val / 16, by omega⟩, ⟨(x 0).val % 16, by omega⟩, x 1, funext fun a => Fin.ext ?_⟩
  match a with
  | ⟨0, _⟩ => show (x 0).val = 16 * ((x 0).val / 16) + (x 0).val % 16; omega
  | ⟨1, _⟩ => rfl

section Arrays

variable (m : (ℓ : Loc nD τ sig) → Buf (Elt Ideal) ℓ) (c : Dev nD)

/-- The arguments. -/
abbrev grad : FVec Ideal S80x128 .f32 := m (c, main_arg0)
abbrev weight : FVec Ideal S80x128 .f32 := m (c, main_arg1)
abbrev moment1 : FVec Ideal S80x128 .f32 := m (c, main_arg2)
abbrev moment2 : FVec Ideal S80x128 .f32 := m (c, main_arg3)

variable (t : Fin cfg0.N) (i : Fin 16) (j : Fin 128)

/-! ### What a step loads -/

/-- The gradient as the grid finds it, with a leading axis of length one. -/
theorem entry : V m c main_v0 = (val_main_v0 (F := Ideal) (m (c, main_arg0)) : FVec Ideal S1x80x128 .f32) := by
  unfold V V0
  simp only [hostOps0, List.flatten_cons, List.flatten_nil, List.append_nil, List.cons_append, List.nil_append]
  after_results
  rfl

theorem lead_apply (g : FVec Ideal S80x128 .f32) (r : Fin 80) (j : Fin 128) : @Eq EReal (val_main_v0 (F := Ideal) g (ix3 0 r j)) (g (ix2 r j)) := by
  rw [val_main_v0_apply]
  refine congrArg g (funext fun a => ?_)
  match a with
  | ⟨0, _⟩ => rfl
  | ⟨1, _⟩ => rfl

theorem x0_apply : @Eq EReal ((iblk m c 0 t : FVec Ideal S1x16x128 .f32) (ix3 0 i j)) (grad m c (ix2 (row t i) j)) := by
  obtain ⟨e0, e1, e2⟩ := (places t).1
  refine (congrArg (V m c main_v0) (funext fun a => Fin.ext ?_)).trans ((congrFun (entry m c) (ix3 0 (row t i) j)).trans (lead_apply (grad m c) (row t i) j))
  match a with
  | ⟨0, _⟩ => show win0_0.index t (0 : Fin 3) * 1 + 1 * 0 = 0; omega
  | ⟨1, _⟩ => show win0_0.index t (1 : Fin 3) * 16 + 1 * i.val = 16 * t.val + i.val; omega
  | ⟨2, _⟩ => show win0_0.index t (2 : Fin 3) * 128 + 1 * j.val = j.val; omega

theorem x1_apply : @Eq EReal ((iblk m c 1 t : FVec Ideal S16x128 .f32) (ix2 i j)) (weight m c (ix2 (row t i) j)) := by
  obtain ⟨e0, e1⟩ := (places t).2.1
  refine (congrArg (V m c main_arg1) (funext fun a => Fin.ext ?_)).trans (congrFun (V_main_arg1 m c) (ix2 (row t i) j))
  match a with
  | ⟨0, _⟩ => show win0_1.index t (0 : Fin 2) * 16 + 1 * i.val = 16 * t.val + i.val; omega
  | ⟨1, _⟩ => show win0_1.index t (1 : Fin 2) * 128 + 1 * j.val = j.val; omega

theorem x2_apply : @Eq EReal ((iblk m c 2 t : FVec Ideal S16x128 .f32) (ix2 i j)) (moment1 m c (ix2 (row t i) j)) := by
  obtain ⟨e0, e1⟩ := (places t).2.2.1
  refine (congrArg (V m c main_arg2) (funext fun a => Fin.ext ?_)).trans (congrFun (V_main_arg2 m c) (ix2 (row t i) j))
  match a with
  | ⟨0, _⟩ => show win0_2.index t (0 : Fin 2) * 16 + 1 * i.val = 16 * t.val + i.val; omega
  | ⟨1, _⟩ => show win0_2.index t (1 : Fin 2) * 128 + 1 * j.val = j.val; omega

theorem x3_apply : @Eq EReal ((iblk m c 3 t : FVec Ideal S16x128 .f32) (ix2 i j)) (moment2 m c (ix2 (row t i) j)) := by
  obtain ⟨e0, e1⟩ := (places t).2.2.2.1
  refine (congrArg (V m c main_arg3) (funext fun a => Fin.ext ?_)).trans (congrFun (V_main_arg3 m c) (ix2 (row t i) j))
  match a with
  | ⟨0, _⟩ => show win0_3.index t (0 : Fin 2) * 16 + 1 * i.val = 16 * t.val + i.val; omega
  | ⟨1, _⟩ => show win0_3.index t (1 : Fin 2) * 128 + 1 * j.val = j.val; omega

/-! ### What a step leaves -/

/-- Two steps write different blocks. -/
theorem apart (w : Fin 8) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb4 : ((cfg0.win 4).blk t).view.emb (ix2 i j) = ix2 (row t i) j := by
  obtain ⟨e0, e1⟩ := (places t).2.2.2.2.1
  refine funext fun a => Fin.ext ?_
  match a with
  | ⟨0, _⟩ => show win0_4.index t (0 : Fin 2) * 16 + 1 * i.val = 16 * t.val + i.val; omega
  | ⟨1, _⟩ => show win0_4.index t (1 : Fin 2) * 128 + 1 * j.val = j.val; omega

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 16 + 1 * i.val = 16 * t.val + i.val; omega
  | ⟨1, _⟩ => show win0_5.index t (1 : Fin 2) * 128 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 16 + 1 * i.val = 16 * t.val + i.val; omega
  | ⟨1, _⟩ => show win0_6.index t (1 : Fin 2) * 128 + 1 * j.val = j.val; omega

theorem emb7 : ((cfg0.win 7).blk t).view.emb (ix2 i j) = ix2 (row t i) j := by
  obtain ⟨e0, e1⟩ := (places t).2.2.2.2.2.2.2
  refine funext fun a => Fin.ext ?_
  match a with
  | ⟨0, _⟩ => show win0_7.index t (0 : Fin 2) * 16 + 1 * i.val = 16 * t.val + i.val; omega
  | ⟨1, _⟩ => show win0_7.index t (1 : Fin 2) * 128 + 1 * j.val = j.val; omega

theorem left4 : @Eq EReal ((dats m 0 c).arrAt 4 cfg0.N (ix2 (row t i) j)) (grad m c (ix2 (row t i) j)) := by
  rw [← emb4 t i j]
  have b := congrFun ((dats m 0 c).read_blk_arrAt_eq_flushed 4 (apart 4 (by decide +kernel) rfl) cfg0.N t t.isLt (flush0_4 t)) (ix2 i j)
  rw [show (dats m 0 c).flushed 4 t = (cfg0.win 4).cut (grid0.coords t) ((dats m 0 c).after 4 t) from rfl, after0_4] at b
  exact Eq.trans b ((out4_apply _ _ _ _ i j).trans (Eq.trans (x0_apply m c t i j) (congrArg (grad m c) (emb4 t i j).symm)))

theorem left5 : @Eq EReal ((dats m 0 c).arrAt 5 cfg0.N (ix2 (row t i) j))
    (Update.change (grad m c (ix2 (row t i) j)) (weight m c (ix2 (row t i) j)) (moment1 m c (ix2 (row t i) j)) (moment2 m c (ix2 (row t i) j))) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  refine Eq.trans b ((out5_apply _ _ _ _ i j).trans ?_)
  rw [x0_apply, x1_apply, x2_apply, x3_apply, emb5]

theorem left6 : @Eq EReal ((dats m 0 c).arrAt 6 cfg0.N (ix2 (row t i) j))
    (Update.first (grad m c (ix2 (row t i) j)) (moment1 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ i j).trans ?_)
  rw [x0_apply, x2_apply, emb6]

theorem left7 : @Eq EReal ((dats m 0 c).arrAt 7 cfg0.N (ix2 (row t i) j))
    (Update.second (grad m c (ix2 (row t i) j)) (moment2 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ i j).trans ?_)
  rw [x0_apply, x3_apply, emb7]

end Arrays

/-! ### The reference's lines -/

section Lines

variable (p : FVec Ideal S80x128 .f32) (w a b : FVec Ideal S80x128 .f32) (x : S80x128.Idx)

theorem v8_at : @Eq EReal (val_main_v8 (F := Ideal) p a x) (Update.first (val_main_v3 (F := Ideal) p x) (a x)) := by
  rw [val_main_v8_apply, val_main_v5_apply, val_main_v7_apply, val_main_v4_apply, val_main_v6_apply]
  rfl

theorem v14_at : @Eq EReal (val_main_v14 (F := Ideal) p b x) (Update.second (val_main_v3 (F := Ideal) p x) (b x)) := by
  rw [val_main_v14_apply, val_main_v10_apply, val_main_v13_apply, val_main_v9_apply, val_main_v12_apply, val_main_v11_apply]
  rfl

theorem v27_at : @Eq EReal (val_main_v27 (F := Ideal) p w a b x) (Update.change (val_main_v3 (F := Ideal) p x) (w x) (a x) (b x)) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, v8_at, v14_at]
  rfl

theorem v3_at (r : Fin 80) (j : Fin 128) : @Eq EReal (val_main_v3 (F := Ideal) p (ix2 r j)) (p (ix2 r j)) := by
  rw [val_main_v3_apply, val_main_v2_apply, val_main_v1_apply]
  have z : (val_main_cst (F := Ideal)) (Shape.Idx.first AdamSmallReferenceIdeal.Gen.h_S_) = (0 : EReal) := Ideal.ofBits_zero_f32
  refine (congrArg₂ (fun x y : EReal => x + y) (Ideal.ofBits_zero_f32) (congrArg (fun y : EReal => y + _) z)).trans ?_
  rw [zero_add, zero_add, Fin.sum_univ_one]
  refine (congrArg (val_main_v0 (F := Ideal) p) (funext fun a => ?_)).trans (lead_apply p r j)
  match a with
  | ⟨0, _⟩ => rfl
  | ⟨1, _⟩ => rfl
  | ⟨2, _⟩ => rfl

end Lines

/-! ### The results -/

section Results

variable (m : (ℓ : Loc nD τ sig) → Buf (Elt Ideal) ℓ) (c : Dev nD)

theorem result4 : (dats m 0 c).arrAt 4 cfg0.N = val_main_v3 (F := Ideal) (m (c, main_arg0)) := by
  funext x
  obtain ⟨t, i, j, rfl⟩ := row_cases x
  exact (left4 m c t i j).trans (v3_at (grad m c) (row t i) j).symm

theorem result5 : (dats m 0 c).arrAt 5 cfg0.N = val_main_v27 (F := Ideal) (m (c, main_arg0)) (m (c, main_arg1)) (m (c, main_arg2)) (m (c, main_arg3)) := by
  funext x
  obtain ⟨t, i, j, rfl⟩ := row_cases x
  refine (left5 m c t i j).trans (Eq.trans ?_ (v27_at (grad m c) (weight m c) (moment1 m c) (moment2 m c) _).symm)
  rw [v3_at]

theorem result6 : (dats m 0 c).arrAt 6 cfg0.N = val_main_v8 (F := Ideal) (m (c, main_arg0)) (m (c, main_arg2)) := by
  funext x
  obtain ⟨t, i, j, rfl⟩ := row_cases x
  refine (left6 m c t i j).trans (Eq.trans ?_ (v8_at (grad m c) (moment1 m c) _).symm)
  rw [v3_at]

theorem result7 : (dats m 0 c).arrAt 7 cfg0.N = val_main_v14 (F := Ideal) (m (c, main_arg0)) (m (c, main_arg3)) := by
  funext x
  obtain ⟨t, i, j, rfl⟩ := row_cases x
  refine (left7 m c t i j).trans (Eq.trans ?_ (v14_at (grad m c) (moment2 m c) _).symm)
  rw [v3_at]

end Results

/-! ### The nine weights in the rows of the pack -/

section Rows

variable (m : (ℓ : Loc nD τ sig) → Buf (Elt Ideal) ℓ) (c : Dev nD)

/-- The lines that follow the grid find the arrays that the grid left. -/
theorem left_array (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) (fun w => (dats m 0 c).arrAt w cfg0.N) w

/-- What a reference holds after those lines. -/
abbrev ends (b : Ref sig .tc) : Buf (Elt Ideal) ((c.tc : Thread nD τ).loc b) := Pipeline.afterTail₀ cfgs (dats m) 0 (V0 m) [hostOps1] c b

/-- The gradients of the nine weights. -/
theorem grads_end :
    ends m c main_v3 = val_main_v29 (F := Ideal) (m (c, main_arg0))
    ∧ ends m c main_v5 = val_main_v31 (F := Ideal) (m (c, main_arg0))
    ∧ ends m c main_v7 = val_main_v33 (F := Ideal) (m (c, main_arg0))
    ∧ ends m c main_v9 = val_main_v35 (F := Ideal) (m (c, main_arg0))
    ∧ ends m c main_v11 = val_main_v37 (F := Ideal) (m (c, main_arg0))
    ∧ ends m c main_v13 = val_main_v39 (F := Ideal) (m (c, main_arg0))
    ∧ ends m c main_v15 = val_main_v41 (F := Ideal) (m (c, main_arg0))
    ∧ ends m c main_v16 = val_main_v42 (F := Ideal) (m (c, main_arg0))
    ∧ ends m c main_v18 = val_main_v44 (F := Ideal) (m (c, main_arg0)) := by
  have e := (left_array m c 4).trans (result4 m c)
  refine ⟨?_, ?_, ?_, ?_, ?_, ?_, ?_, ?_, ?_⟩ <;>
    (unfold ends Pipeline.afterTail₀
     simp only [hostOps1, List.flatten_cons, List.flatten_nil, List.append_nil, List.cons_append, List.nil_append]
     after_results
     simp only [val_main_v28, val_main_v29, val_main_v30, val_main_v31, val_main_v32, val_main_v33, val_main_v34, val_main_v35, val_main_v36, val_main_v37, val_main_v38, val_main_v39, val_main_v40, val_main_v41, val_main_v42, val_main_v43, val_main_v44]
     rw [← e]
     try rfl)

/-- The changes of the nine weights. -/
theorem changes_end :
    ends m c main_v20 = val_main_v46 (F := Ideal) (m (c, main_arg0)) (m (c, main_arg1)) (m (c, main_arg2)) (m (c, main_arg3))
    ∧ ends m c main_v22 = val_main_v48 (F := Ideal) (m (c, main_arg0)) (m (c, main_arg1)) (m (c, main_arg2)) (m (c, main_arg3))
    ∧ ends m c main_v24 = val_main_v50 (F := Ideal) (m (c, main_arg0)) (m (c, main_arg1)) (m (c, main_arg2)) (m (c, main_arg3))
    ∧ ends m c main_v26 = val_main_v52 (F := Ideal) (m (c, main_arg0)) (m (c, main_arg1)) (m (c, main_arg2)) (m (c, main_arg3))
    ∧ ends m c main_v28 = val_main_v54 (F := Ideal) (m (c, main_arg0)) (m (c, main_arg1)) (m (c, main_arg2)) (m (c, main_arg3))
    ∧ ends m c main_v30 = val_main_v56 (F := Ideal) (m (c, main_arg0)) (m (c, main_arg1)) (m (c, main_arg2)) (m (c, main_arg3))
    ∧ ends m c main_v32 = val_main_v58 (F := Ideal) (m (c, main_arg0)) (m (c, main_arg1)) (m (c, main_arg2)) (m (c, main_arg3))
    ∧ ends m c main_v33 = val_main_v59 (F := Ideal) (m (c, main_arg0)) (m (c, main_arg1)) (m (c, main_arg2)) (m (c, main_arg3))
    ∧ ends m c main_v35 = val_main_v61 (F := Ideal) (m (c, main_arg0)) (m (c, main_arg1)) (m (c, main_arg2)) (m (c, main_arg3)) := by
  have e := (left_array m c 5).trans (result5 m c)
  refine ⟨?_, ?_, ?_, ?_, ?_, ?_, ?_, ?_, ?_⟩ <;>
    (unfold ends Pipeline.afterTail₀
     simp only [hostOps1, List.flatten_cons, List.flatten_nil, List.append_nil, List.cons_append, List.nil_append]
     after_results
     simp only [val_main_v45, val_main_v46, val_main_v47, val_main_v48, val_main_v49, val_main_v50, val_main_v51, val_main_v52, val_main_v53, val_main_v54, val_main_v55, val_main_v56, val_main_v57, val_main_v58, val_main_v59, val_main_v60, val_main_v61]
     rw [← e]
     try rfl)

/-- The first moments of the nine weights. -/
theorem firsts_end :
    ends m c main_v37 = val_main_v63 (F := Ideal) (m (c, main_arg0)) (m (c, main_arg2))
    ∧ ends m c main_v39 = val_main_v65 (F := Ideal) (m (c, main_arg0)) (m (c, main_arg2))
    ∧ ends m c main_v41 = val_main_v67 (F := Ideal) (m (c, main_arg0)) (m (c, main_arg2))
    ∧ ends m c main_v43 = val_main_v69 (F := Ideal) (m (c, main_arg0)) (m (c, main_arg2))
    ∧ ends m c main_v45 = val_main_v71 (F := Ideal) (m (c, main_arg0)) (m (c, main_arg2))
    ∧ ends m c main_v47 = val_main_v73 (F := Ideal) (m (c, main_arg0)) (m (c, main_arg2))
    ∧ ends m c main_v49 = val_main_v75 (F := Ideal) (m (c, main_arg0)) (m (c, main_arg2))
    ∧ ends m c main_v50 = val_main_v76 (F := Ideal) (m (c, main_arg0)) (m (c, main_arg2))
    ∧ ends m c main_v52 = val_main_v78 (F := Ideal) (m (c, main_arg0)) (m (c, main_arg2)) := by
  have e := (left_array m c 6).trans (result6 m c)
  refine ⟨?_, ?_, ?_, ?_, ?_, ?_, ?_, ?_, ?_⟩ <;>
    (unfold ends Pipeline.afterTail₀
     simp only [hostOps1, List.flatten_cons, List.flatten_nil, List.append_nil, List.cons_append, List.nil_append]
     after_results
     simp only [val_main_v62, val_main_v63, val_main_v64, val_main_v65, val_main_v66, val_main_v67, val_main_v68, val_main_v69, val_main_v70, val_main_v71, val_main_v72, val_main_v73, val_main_v74, val_main_v75, val_main_v76, val_main_v77, val_main_v78]
     rw [← e]
     try rfl)

/-- The second moments of the nine weights. -/
theorem seconds_end :
    ends m c main_v54 = val_main_v80 (F := Ideal) (m (c, main_arg0)) (m (c, main_arg3))
    ∧ ends m c main_v56 = val_main_v82 (F := Ideal) (m (c, main_arg0)) (m (c, main_arg3))
    ∧ ends m c main_v58 = val_main_v84 (F := Ideal) (m (c, main_arg0)) (m (c, main_arg3))
    ∧ ends m c main_v60 = val_main_v86 (F := Ideal) (m (c, main_arg0)) (m (c, main_arg3))
    ∧ ends m c main_v62 = val_main_v88 (F := Ideal) (m (c, main_arg0)) (m (c, main_arg3))
    ∧ ends m c main_v64 = val_main_v90 (F := Ideal) (m (c, main_arg0)) (m (c, main_arg3))
    ∧ ends m c main_v66 = val_main_v92 (F := Ideal) (m (c, main_arg0)) (m (c, main_arg3))
    ∧ ends m c main_v67 = val_main_v93 (F := Ideal) (m (c, main_arg0)) (m (c, main_arg3))
    ∧ ends m c main_v69 = val_main_v95 (F := Ideal) (m (c, main_arg0)) (m (c, main_arg3)) := by
  have e := (left_array m c 7).trans (result7 m c)
  refine ⟨?_, ?_, ?_, ?_, ?_, ?_, ?_, ?_, ?_⟩ <;>
    (unfold ends Pipeline.afterTail₀
     simp only [hostOps1, List.flatten_cons, List.flatten_nil, List.append_nil, List.cons_append, List.nil_append]
     after_results
     simp only [val_main_v79, val_main_v80, val_main_v81, val_main_v82, val_main_v83, val_main_v84, val_main_v85, val_main_v86, val_main_v87, val_main_v88, val_main_v89, val_main_v90, val_main_v91, val_main_v92, val_main_v93, val_main_v94, val_main_v95]
     rw [← e]
     try rfl)

end Rows

/-! ### The two runs -/

/-- The reference leaves its arguments and counters alone. -/
theorem quiescent_reference : quiescent_AdamSmallReferenceIdeal (hAdamSmallReferenceIdeal := AdamSmallReferenceIdeal.Gen.facts) := fun m g _ =>
  (θ_run AdamSmallReferenceIdeal.defs _ _).mono (fun r h => ⟨fun c => (h c).2.2.2.2.2.2.2.2.2.2.2.2.2.2.2.2.2.2.2.2.2.2.2.2.2.2.2.2.2.2.2.2.2.2.2.2, sem_eq_zero_of_no_sems (by decide) r.2⟩)
    (AdamSmallReferenceIdeal.Value.run (F := Ideal) m g)

set_option maxHeartbeats 4000000 in
/-- The kernel's results are the reference's. -/
theorem algebraic : algebraic_AdamSmallIdeal_AdamSmallReferenceIdeal (hAdamSmallIdeal := Gen.facts)
    (hAdamSmallReferenceIdeal := AdamSmallReferenceIdeal.Gen.facts) := by
  intro m g m' g' _ hagree
  refine ⟨fun c => val_main_v29 (F := Ideal) (m (c, main_arg0)),
    fun c => val_main_v31 (F := Ideal) (m (c, main_arg0)),
    fun c => val_main_v33 (F := Ideal) (m (c, main_arg0)),
    fun c => val_main_v35 (F := Ideal) (m (c, main_arg0)),
    fun c => val_main_v37 (F := Ideal) (m (c, main_arg0)),
    fun c => val_main_v39 (F := Ideal) (m (c, main_arg0)),
    fun c => val_main_v41 (F := Ideal) (m (c, main_arg0)),
    fun c => val_main_v42 (F := Ideal) (m (c, main_arg0)),
    fun c => val_main_v44 (F := Ideal) (m (c, main_arg0)),
    fun c => val_main_v46 (F := Ideal) (m (c, main_arg0)) (m (c, main_arg1)) (m (c, main_arg2)) (m (c, main_arg3)),
    fun c => val_main_v48 (F := Ideal) (m (c, main_arg0)) (m (c, main_arg1)) (m (c, main_arg2)) (m (c, main_arg3)),
    fun c => val_main_v50 (F := Ideal) (m (c, main_arg0)) (m (c, main_arg1)) (m (c, main_arg2)) (m (c, main_arg3)),
    fun c => val_main_v52 (F := Ideal) (m (c, main_arg0)) (m (c, main_arg1)) (m (c, main_arg2)) (m (c, main_arg3)),
    fun c => val_main_v54 (F := Ideal) (m (c, main_arg0)) (m (c, main_arg1)) (m (c, main_arg2)) (m (c, main_arg3)),
    fun c => val_main_v56 (F := Ideal) (m (c, main_arg0)) (m (c, main_arg1)) (m (c, main_arg2)) (m (c, main_arg3)),
    fun c => val_main_v58 (F := Ideal) (m (c, main_arg0)) (m (c, main_arg1)) (m (c, main_arg2)) (m (c, main_arg3)),
    fun c => val_main_v59 (F := Ideal) (m (c, main_arg0)) (m (c, main_arg1)) (m (c, main_arg2)) (m (c, main_arg3)),
    fun c => val_main_v61 (F := Ideal) (m (c, main_arg0)) (m (c, main_arg1)) (m (c, main_arg2)) (m (c, main_arg3)),
    fun c => val_main_v63 (F := Ideal) (m (c, main_arg0)) (m (c, main_arg2)),
    fun c => val_main_v65 (F := Ideal) (m (c, main_arg0)) (m (c, main_arg2)),
    fun c => val_main_v67 (F := Ideal) (m (c, main_arg0)) (m (c, main_arg2)),
    fun c => val_main_v69 (F := Ideal) (m (c, main_arg0)) (m (c, main_arg2)),
    fun c => val_main_v71 (F := Ideal) (m (c, main_arg0)) (m (c, main_arg2)),
    fun c => val_main_v73 (F := Ideal) (m (c, main_arg0)) (m (c, main_arg2)),
    fun c => val_main_v75 (F := Ideal) (m (c, main_arg0)) (m (c, main_arg2)),
    fun c => val_main_v76 (F := Ideal) (m (c, main_arg0)) (m (c, main_arg2)),
    fun c => val_main_v78 (F := Ideal) (m (c, main_arg0)) (m (c, main_arg2)),
    fun c => val_main_v80 (F := Ideal) (m (c, main_arg0)) (m (c, main_arg3)),
    fun c => val_main_v82 (F := Ideal) (m (c, main_arg0)) (m (c, main_arg3)),
    fun c => val_main_v84 (F := Ideal) (m (c, main_arg0)) (m (c, main_arg3)),
    fun c => val_main_v86 (F := Ideal) (m (c, main_arg0)) (m (c, main_arg3)),
    fun c => val_main_v88 (F := Ideal) (m (c, main_arg0)) (m (c, main_arg3)),
    fun c => val_main_v90 (F := Ideal) (m (c, main_arg0)) (m (c, main_arg3)),
    fun c => val_main_v92 (F := Ideal) (m (c, main_arg0)) (m (c, main_arg3)),
    fun c => val_main_v93 (F := Ideal) (m (c, main_arg0)) (m (c, main_arg3)),
    fun c => val_main_v95 (F := Ideal) (m (c, main_arg0)) (m (c, main_arg3)),
    (θ_run defs _ _).mono (fun r h c => ?_) (θ_run_and (unchanged m g) (run_main m g)),
    (θ_run AdamSmallReferenceIdeal.defs _ _).mono (fun r h c => ?_) (AdamSmallReferenceIdeal.Value.run (F := Ideal) m' g')⟩
  · have at_end {b : Ref sig .tc} {x} (e : ends m c b = x) (hs : b.isScoped = false := by decide) (ha : ∀ w, (spec0 w).arr.view.ref ≠ b := by decide) : r.2.mem ((c.tc : Thread nD τ).loc b) = x :=
      ((h.2 c).2 b (Pipeline.mem_restRefs_of b hs ha)).trans e
    obtain ⟨g0, g1, g2, g3, g4, g5, g6, g7, g8⟩ := grads_end m c
    obtain ⟨d0, d1, d2, d3, d4, d5, d6, d7, d8⟩ := changes_end m c
    obtain ⟨f0, f1, f2, f3, f4, f5, f6, f7, f8⟩ := firsts_end m c
    obtain ⟨s0, s1, s2, s3, s4, s5, s6, s7, s8⟩ := seconds_end m c
    exact ⟨at_end g0, at_end g1, at_end g2, at_end g3, at_end g4, at_end g5, at_end g6, at_end g7, at_end g8,
      at_end d0, at_end d1, at_end d2, at_end d3, at_end d4, at_end d5, at_end d6, at_end d7, at_end d8,
      at_end f0, at_end f1, at_end f2, at_end f3, at_end f4, at_end f5, at_end f6, at_end f7, at_end f8,
      at_end s0, at_end s1, at_end s2, at_end s3, at_end s4, at_end s5, at_end s6, at_end s7, at_end s8, h.1 c⟩
  · obtain ⟨a0, a1, a2, a3⟩ := hagree c
    obtain ⟨g0, g1, g2, g3, g4, g5, g6, g7, g8, d0, d1, d2, d3, d4, d5, d6, d7, d8, f0, f1, f2, f3, f4, f5, f6, f7, f8, s0, s1, s2, s3, s4, s5, s6, s7, s8,
      keep⟩ := h c
    have one {α : Type} {f : FVec Ideal S80x128 .f32 → α} {x : α} (e : x = f (m' (c, AdamSmallReferenceIdeal.main_arg0))) : x = f (m (c, main_arg0)) :=
      e.trans (congrArg f a0)
    have all {α : Type} {f : FVec Ideal S80x128 .f32 → FVec Ideal S80x128 .f32 → FVec Ideal S80x128 .f32 → FVec Ideal S80x128 .f32 → α} {x : α} (e : x = f (m' (c, AdamSmallReferenceIdeal.main_arg0)) (m' (c, AdamSmallReferenceIdeal.main_arg1)) (m' (c, AdamSmallReferenceIdeal.main_arg2)) (m' (c, AdamSmallReferenceIdeal.main_arg3))) : x = f (m (c, main_arg0)) (m (c, main_arg1)) (m (c, main_arg2)) (m (c, main_arg3)) :=
      e.trans (congr (congr (congr (congrArg f a0) a1) a2) a3)
    have first {α : Type} {f : FVec Ideal S80x128 .f32 → FVec Ideal S80x128 .f32 → α} {x : α} (e : x = f (m' (c, AdamSmallReferenceIdeal.main_arg0)) (m' (c, AdamSmallReferenceIdeal.main_arg2))) : x = f (m (c, main_arg0)) (m (c, main_arg2)) :=
      e.trans (congr (congrArg f a0) a2)
    have second {α : Type} {f : FVec Ideal S80x128 .f32 → FVec Ideal S80x128 .f32 → α} {x : α} (e : x = f (m' (c, AdamSmallReferenceIdeal.main_arg0)) (m' (c, AdamSmallReferenceIdeal.main_arg3))) : x = f (m (c, main_arg0)) (m (c, main_arg3)) :=
      e.trans (congr (congrArg f a0) a3)
    exact ⟨one (g0.trans (val_main_v29_eq _)),
      one (g1.trans (val_main_v31_eq _)),
      one (g2.trans (val_main_v33_eq _)),
      one (g3.trans (val_main_v35_eq _)),
      one (g4.trans (val_main_v37_eq _)),
      one (g5.trans (val_main_v39_eq _)),
      one (g6.trans (val_main_v41_eq _)),
      one (g7.trans (val_main_v42_eq _)),
      one (g8.trans (val_main_v44_eq _)),
      all (d0.trans (val_main_v46_eq _ _ _ _)),
      all (d1.trans (val_main_v48_eq _ _ _ _)),
      all (d2.trans (val_main_v50_eq _ _ _ _)),
      all (d3.trans (val_main_v52_eq _ _ _ _)),
      all (d4.trans (val_main_v54_eq _ _ _ _)),
      all (d5.trans (val_main_v56_eq _ _ _ _)),
      all (d6.trans (val_main_v58_eq _ _ _ _)),
      all (d7.trans (val_main_v59_eq _ _ _ _)),
      all (d8.trans (val_main_v61_eq _ _ _ _)),
      first (f0.trans (val_main_v63_eq _ _)),
      first (f1.trans (val_main_v65_eq _ _)),
      first (f2.trans (val_main_v67_eq _ _)),
      first (f3.trans (val_main_v69_eq _ _)),
      first (f4.trans (val_main_v71_eq _ _)),
      first (f5.trans (val_main_v73_eq _ _)),
      first (f6.trans (val_main_v75_eq _ _)),
      first (f7.trans (val_main_v76_eq _ _)),
      first (f8.trans (val_main_v78_eq _ _)),
      second (s0.trans (val_main_v80_eq _ _)),
      second (s1.trans (val_main_v82_eq _ _)),
      second (s2.trans (val_main_v84_eq _ _)),
      second (s3.trans (val_main_v86_eq _ _)),
      second (s4.trans (val_main_v88_eq _ _)),
      second (s5.trans (val_main_v90_eq _ _)),
      second (s6.trans (val_main_v92_eq _ _)),
      second (s7.trans (val_main_v93_eq _ _)),
      second (s8.trans (val_main_v95_eq _ _)), keep⟩

end Cert.AdamSmallIdeal.Product

end
-- ==== Proof.LruUpdate.lean ====
/- The update of the shard of the matrices of the recurrence's gates: as `SquareUpdate`, with 256 columns and the parts of the gradient in float32. -/
module

public import proofs.«01_k».proof.Defs
public import proofs.«01_k».proof.Proof.Update
public import proofs.«01_k».proof.Proof.Gen.AdamLruIdeal.Frame
public import proofs.«01_k».proof.Proof.Gen.AdamLruReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamLruIdeal.Product

open Cert.AdamLruIdeal Cert.AdamLruIdeal.Gen Idealize.ShloMosaic.TcCoe Idealize.SL.Sem
open Idealize.ShloMosaic hiding ix2 ix3
open Idealize.ShloMosaic.ValueIdx (ix2 ix3)
open Cert.AdamLruReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S8x64x256 .f32) (x1 x2 x3 : FVec Ideal S64x256 .f32) (i : Fin 64) (j : Fin 256)

/-- The gradient: the sum of the parts. -/
def grad : EReal := ∑ k : Fin 8, (x0 (ix3 k i j) : EReal)

theorem pay5_apply : @Eq EReal (k0_pay5 (F := Ideal) x0 x1 x2 x3 (ix2 i j)) (grad x0 i j) := by
  unfold k0_pay5 k0_pay3 grad
  rw [← Update.sum_eight]
  have h (k : Fin 8) := Update.part_apply (n := 8) (T := 64) (C := 256) (e := .f32) x0 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (h 6 _ rfl _ _ i j)) (h 7 _ rfl _ _ i j)

theorem out4_apply : @Eq EReal (out0_4 (F := Ideal) x0 x1 x2 x3 (ix2 i j)) (grad x0 i j) := by
  unfold out0_4
  rw [View.canon_unit_zero zero2]
  exact pay5_apply x0 x1 x2 x3 i j

theorem pay6_apply : @Eq EReal (k0_pay6 (F := Ideal) x0 x1 x2 x3 (ix2 i j)) (Update.first (grad x0 i j) (x2 (ix2 i j))) := by
  rw [← pay5_apply x0 x1 x2 x3 i j]
  unfold k0_pay6 k0_pay4
  rw [View.ld_unit_zero (S := S64x256) zero2]
  rfl

theorem out6_apply : @Eq EReal (out0_6 (F := Ideal) x0 x1 x2 x3 (ix2 i j)) (Update.first (grad x0 i j) (x2 (ix2 i j))) := by
  unfold out0_6
  rw [View.canon_unit_zero zero2]
  exact pay6_apply x0 x1 x2 x3 i j

theorem out7_apply : @Eq EReal (out0_7 (F := Ideal) x0 x1 x2 x3 (ix2 i j)) (Update.second (grad x0 i j) (x3 (ix2 i j))) := by
  unfold out0_7
  rw [View.canon_unit_zero zero2, View.ld_unit_zero (S := S64x256) zero2, ← pay5_apply x0 x1 x2 x3 i j]
  rfl

theorem out5_apply : @Eq EReal (out0_5 (F := Ideal) x0 x1 x2 x3 (ix2 i j))
    (Update.change (grad x0 i j) (x1 (ix2 i j)) (x2 (ix2 i j)) (x3 (ix2 i j))) := by
  unfold out0_5 Update.change
  rw [View.canon_unit_zero zero2, View.ld_unit_zero (S := S64x256) zero2, View.ld_unit_zero (S := S64x256) zero2,
    ← pay6_apply x0 x1 x2 x3 i j, ← pay5_apply x0 x1 x2 x3 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = t.val ∧ win0_4.index t (1 : Fin 2) = 0) ∧
    (win0_5.index t (0 : Fin 2) = t.val ∧ win0_5.index t (1 : Fin 2) = 0) ∧ (win0_6.index t (0 : Fin 2) = t.val ∧ win0_6.index t (1 : Fin 2) = 0) ∧
    (win0_7.index t (0 : Fin 2) = t.val ∧ win0_7.index t (1 : Fin 2) = 0) :=
  (by decide +kernel : ∀ t : Fin grid0.N, _)

/-- Row `i` of step `t`. -/
def row (t : Fin cfg0.N) (i : Fin 64) : Fin 128 := ⟨64 * t.val + i.val, by have := t.isLt; have hN : cfg0.N = 2 := N_0; omega⟩

theorem row_cases (x : S128x256.Idx) : ∃ (t : Fin cfg0.N) (i : Fin 64) (j : Fin 256), x = ix2 (row t i) j := by
  have hx : (x 0).val < 128 := (x 0).isLt
  have hN : cfg0.N = 2 := N_0
  refine ⟨⟨(x 0).val / 64, by omega⟩, ⟨(x 0).val % 64, by omega⟩, x 1, funext fun a => Fin.ext ?_⟩
  match a with
  | ⟨0, _⟩ => show (x 0).val = 64 * ((x 0).val / 64) + (x 0).val % 64; omega
  | ⟨1, _⟩ => rfl

section Arrays

variable (m : (ℓ : Loc nD τ sig) → Buf (Elt Ideal) ℓ) (c : Dev nD)

/-- The arguments. -/
abbrev parts : FVec Ideal S8x128x256 .f32 := m (c, main_arg0)
abbrev weight : FVec Ideal S128x256 .f32 := m (c, main_arg1)
abbrev moment1 : FVec Ideal S128x256 .f32 := m (c, main_arg2)
abbrev moment2 : FVec Ideal S128x256 .f32 := m (c, main_arg3)

variable (t : Fin cfg0.N) (i : Fin 64) (j : Fin 256)

/-! ### What a step loads -/

theorem x0_apply (k : Fin 8) : @Eq EReal ((iblk m c 0 t : FVec Ideal S8x64x256 .f32) (ix3 k i j)) (parts m c (ix3 k (row t i) j)) := by
  obtain ⟨e0, e1, e2⟩ := (places t).1
  refine (congrArg (V m c main_arg0) (funext fun a => Fin.ext ?_)).trans (congrFun (V_main_arg0 m c) (ix3 k (row t i) j))
  match a with
  | ⟨0, _⟩ => show win0_0.index t (0 : Fin 3) * 8 + 1 * k.val = k.val; omega
  | ⟨1, _⟩ => show win0_0.index t (1 : Fin 3) * 64 + 1 * i.val = 64 * t.val + i.val; omega
  | ⟨2, _⟩ => show win0_0.index t (2 : Fin 3) * 256 + 1 * j.val = j.val; omega

theorem x1_apply : @Eq EReal ((iblk m c 1 t : FVec Ideal S64x256 .f32) (ix2 i j)) (weight m c (ix2 (row t i) j)) := by
  obtain ⟨e0, e1⟩ := (places t).2.1
  refine (congrArg (V m c main_arg1) (funext fun a => Fin.ext ?_)).trans (congrFun (V_main_arg1 m c) (ix2 (row t i) j))
  match a with
  | ⟨0, _⟩ => show win0_1.index t (0 : Fin 2) * 64 + 1 * i.val = 64 * t.val + i.val; omega
  | ⟨1, _⟩ => show win0_1.index t (1 : Fin 2) * 256 + 1 * j.val = j.val; omega

theorem x2_apply : @Eq EReal ((iblk m c 2 t : FVec Ideal S64x256 .f32) (ix2 i j)) (moment1 m c (ix2 (row t i) j)) := by
  obtain ⟨e0, e1⟩ := (places t).2.2.1
  refine (congrArg (V m c main_arg2) (funext fun a => Fin.ext ?_)).trans (congrFun (V_main_arg2 m c) (ix2 (row t i) j))
  match a with
  | ⟨0, _⟩ => show win0_2.index t (0 : Fin 2) * 64 + 1 * i.val = 64 * t.val + i.val; omega
  | ⟨1, _⟩ => show win0_2.index t (1 : Fin 2) * 256 + 1 * j.val = j.val; omega

theorem x3_apply : @Eq EReal ((iblk m c 3 t : FVec Ideal S64x256 .f32) (ix2 i j)) (moment2 m c (ix2 (row t i) j)) := by
  obtain ⟨e0, e1⟩ := (places t).2.2.2.1
  refine (congrArg (V m c main_arg3) (funext fun a => Fin.ext ?_)).trans (congrFun (V_main_arg3 m c) (ix2 (row t i) j))
  match a with
  | ⟨0, _⟩ => show win0_3.index t (0 : Fin 2) * 64 + 1 * i.val = 64 * t.val + i.val; omega
  | ⟨1, _⟩ => show win0_3.index t (1 : Fin 2) * 256 + 1 * j.val = j.val; omega

/-- The gradient at a row of the whole array. -/
def total (r : Fin 128) : EReal := ∑ k : Fin 8, (parts m c (ix3 k r j) : EReal)

theorem grad_eq : @Eq EReal (grad (iblk m c 0 t) i j) (total m c j (row t i)) := Finset.sum_congr rfl fun k _ => x0_apply m c t i j k

/-! ### What a step leaves -/

/-- Two steps write different blocks. -/
theorem apart (w : Fin 8) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb4 : ((cfg0.win 4).blk t).view.emb (ix2 i j) = ix2 (row t i) j := by
  obtain ⟨e0, e1⟩ := (places t).2.2.2.2.1
  refine funext fun a => Fin.ext ?_
  match a with
  | ⟨0, _⟩ => show win0_4.index t (0 : Fin 2) * 64 + 1 * i.val = 64 * t.val + i.val; omega
  | ⟨1, _⟩ => show win0_4.index t (1 : Fin 2) * 256 + 1 * j.val = j.val; omega

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 64 + 1 * i.val = 64 * t.val + i.val; omega
  | ⟨1, _⟩ => show win0_5.index t (1 : Fin 2) * 256 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 64 + 1 * i.val = 64 * t.val + i.val; omega
  | ⟨1, _⟩ => show win0_6.index t (1 : Fin 2) * 256 + 1 * j.val = j.val; omega

theorem emb7 : ((cfg0.win 7).blk t).view.emb (ix2 i j) = ix2 (row t i) j := by
  obtain ⟨e0, e1⟩ := (places t).2.2.2.2.2.2.2
  refine funext fun a => Fin.ext ?_
  match a with
  | ⟨0, _⟩ => show win0_7.index t (0 : Fin 2) * 64 + 1 * i.val = 64 * t.val + i.val; omega
  | ⟨1, _⟩ => show win0_7.index t (1 : Fin 2) * 256 + 1 * j.val = j.val; omega

theorem left4 : @Eq EReal ((dats m 0 c).arrAt 4 cfg0.N (ix2 (row t i) j)) (total m c j (row t i)) := by
  rw [← emb4 t i j]
  have b := congrFun ((dats m 0 c).read_blk_arrAt_eq_flushed 4 (apart 4 (by decide +kernel) rfl) cfg0.N t t.isLt (flush0_4 t)) (ix2 i j)
  rw [show (dats m 0 c).flushed 4 t = (cfg0.win 4).cut (grid0.coords t) ((dats m 0 c).after 4 t) from rfl, after0_4] at b
  exact Eq.trans b ((out4_apply _ _ _ _ i j).trans (grad_eq m c t i j))

theorem left5 : @Eq EReal ((dats m 0 c).arrAt 5 cfg0.N (ix2 (row t i) j))
    (Update.change (total m c j (row t i)) (weight m c (ix2 (row t i) j)) (moment1 m c (ix2 (row t i) j)) (moment2 m c (ix2 (row t i) j))) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  refine Eq.trans b ((out5_apply _ _ _ _ i j).trans ?_)
  rw [grad_eq, x1_apply, x2_apply, x3_apply, emb5]

theorem left6 : @Eq EReal ((dats m 0 c).arrAt 6 cfg0.N (ix2 (row t i) j))
    (Update.first (total m c j (row t i)) (moment1 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ i j).trans ?_)
  rw [grad_eq, x2_apply, emb6]

theorem left7 : @Eq EReal ((dats m 0 c).arrAt 7 cfg0.N (ix2 (row t i) j))
    (Update.second (total m c j (row t i)) (moment2 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ i j).trans ?_)
  rw [grad_eq, x3_apply, emb7]

end Arrays

/-! ### The reference's lines -/

section Lines

variable (p : FVec Ideal S8x128x256 .f32) (w a b : FVec Ideal S128x256 .f32) (x : S128x256.Idx)

theorem v7_at : @Eq EReal (val_main_v7 (F := Ideal) p a x) (Update.first (val_main_v2 (F := Ideal) p x) (a x)) := by
  rw [val_main_v7_apply, val_main_v4_apply, val_main_v6_apply, val_main_v3_apply, val_main_v5_apply]
  rfl

theorem v13_at : @Eq EReal (val_main_v13 (F := Ideal) p b x) (Update.second (val_main_v2 (F := Ideal) p x) (b x)) := by
  rw [val_main_v13_apply, val_main_v9_apply, val_main_v12_apply, val_main_v8_apply, val_main_v11_apply, val_main_v10_apply]
  rfl

theorem v26_at : @Eq EReal (val_main_v26 (F := Ideal) p w a b x) (Update.change (val_main_v2 (F := Ideal) p x) (w x) (a x) (b x)) := by
  rw [val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply, v7_at, v13_at]
  rfl

theorem v2_at (r : Fin 128) (j : Fin 256) : @Eq EReal (val_main_v2 (F := Ideal) p (ix2 r j)) (∑ k : Fin 8, (p (ix3 k r j) : EReal)) := by
  rw [val_main_v2_apply, val_main_v1_apply, val_main_v0_apply]
  have z : (val_main_cst (F := Ideal)) (Shape.Idx.first AdamLruReferenceIdeal.Gen.h_S_) = (0 : EReal) := Ideal.ofBits_zero_f32
  refine (congrArg₂ (fun x y : EReal => x + y) (Ideal.ofBits_zero_f32) (congrArg (fun y : EReal => y + _) z)).trans ?_
  rw [zero_add, zero_add]
  refine Finset.sum_congr rfl fun k _ => congrArg p (funext fun a => ?_)
  match a with
  | ⟨0, _⟩ => rfl
  | ⟨1, _⟩ => rfl
  | ⟨2, _⟩ => rfl

end Lines

/-! ### The results -/

section Results

variable (m : (ℓ : Loc nD τ sig) → Buf (Elt Ideal) ℓ) (c : Dev nD)

theorem result4 : (dats m 0 c).arrAt 4 cfg0.N = val_main_v2 (F := Ideal) (m (c, main_arg0)) := by
  funext x
  obtain ⟨t, i, j, rfl⟩ := row_cases x
  exact (left4 m c t i j).trans (v2_at (parts m c) (row t i) j).symm

theorem result5 : (dats m 0 c).arrAt 5 cfg0.N = val_main_v26 (F := Ideal) (m (c, main_arg0)) (m (c, main_arg1)) (m (c, main_arg2)) (m (c, main_arg3)) := by
  funext x
  obtain ⟨t, i, j, rfl⟩ := row_cases x
  refine (left5 m c t i j).trans (Eq.trans ?_ (v26_at (parts m c) (weight m c) (moment1 m c) (moment2 m c) _).symm)
  rw [v2_at]
  rfl

theorem result6 : (dats m 0 c).arrAt 6 cfg0.N = val_main_v7 (F := Ideal) (m (c, main_arg0)) (m (c, main_arg2)) := by
  funext x
  obtain ⟨t, i, j, rfl⟩ := row_cases x
  refine (left6 m c t i j).trans (Eq.trans ?_ (v7_at (parts m c) (moment1 m c) _).symm)
  rw [v2_at]
  rfl

theorem result7 : (dats m 0 c).arrAt 7 cfg0.N = val_main_v13 (F := Ideal) (m (c, main_arg0)) (m (c, main_arg3)) := by
  funext x
  obtain ⟨t, i, j, rfl⟩ := row_cases x
  refine (left7 m c t i j).trans (Eq.trans ?_ (v13_at (parts m c) (moment2 m c) _).symm)
  rw [v2_at]
  rfl

end Results

/-! ### The two runs -/

/-- The reference leaves its arguments and counters alone. -/
theorem quiescent_reference : quiescent_AdamLruReferenceIdeal (hAdamLruReferenceIdeal := AdamLruReferenceIdeal.Gen.facts) := fun m g _ =>
  (θ_run AdamLruReferenceIdeal.defs _ _).mono (fun r h => ⟨fun c => (h c).2.2.2.2, sem_eq_zero_of_no_sems (by decide) r.2⟩)
    (AdamLruReferenceIdeal.Value.run (F := Ideal) m g)

/-- The kernel's results are the reference's. -/
theorem algebraic : algebraic_AdamLruIdeal_AdamLruReferenceIdeal (hAdamLruIdeal := Gen.facts)
    (hAdamLruReferenceIdeal := AdamLruReferenceIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, (θ_run defs _ _).mono (fun _ h c => ⟨(h.2 c).1 4, (h.2 c).1 5, (h.2 c).1 6, (h.2 c).1 7, h.1 c⟩)
      (θ_run_and (unchanged m g) (run_main m g)), ?_⟩
  refine (θ_run AdamLruReferenceIdeal.defs _ _).mono (fun r h c => ?_) (AdamLruReferenceIdeal.Value.run (F := Ideal) m' g')
  obtain ⟨a0, a1, a2, a3⟩ := hagree c
  refine ⟨(h c).1.trans ((val_main_v2_eq _).trans ?_), (h c).2.1.trans ((val_main_v26_eq _ _ _ _).trans ?_), (h c).2.2.1.trans ((val_main_v7_eq _ _).trans ?_),
    (h c).2.2.2.1.trans ((val_main_v13_eq _ _).trans ?_), (h c).2.2.2.2⟩
  · exact (congrArg (val_main_v2 (F := Ideal)) a0).trans (result4 m c).symm
  · exact (congr (congr (congr (congrArg (val_main_v26 (F := Ideal)) a0) a1) a2) a3).trans (result5 m c).symm
  · exact (congr (congrArg (val_main_v7 (F := Ideal)) a0) a2).trans (result6 m c).symm
  · exact (congr (congrArg (val_main_v13 (F := Ideal)) a0) a3).trans (result7 m c).symm

end Cert.AdamLruIdeal.Product

end
-- ==== Proof.FfnOutUpdate.lean ====
/- The update of the shard of the feed-forward block's second matrix: as `SquareUpdate`, with 352 rows in eleven steps. -/
module

public import proofs.«01_k».proof.Defs
public import proofs.«01_k».proof.Proof.Update
public import proofs.«01_k».proof.Proof.Gen.AdamFfnOutIdeal.Frame
public import proofs.«01_k».proof.Proof.Gen.AdamFfnOutReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamFfnOutIdeal.Product

open Cert.AdamFfnOutIdeal Cert.AdamFfnOutIdeal.Gen Idealize.ShloMosaic.TcCoe Idealize.SL.Sem
open Idealize.ShloMosaic hiding ix2 ix3
open Idealize.ShloMosaic.ValueIdx (ix2 ix3)
open Cert.AdamFfnOutReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S8x32x1024 .bf16) (x1 x2 x3 : FVec Ideal S32x1024 .f32) (i : Fin 32) (j : Fin 1024)

/-- The gradient: the sum of the parts. -/
def grad : EReal := ∑ k : Fin 8, (x0 (ix3 k i j) : EReal)

theorem pay5_apply : @Eq EReal (k0_pay5 (F := Ideal) x0 x1 x2 x3 (ix2 i j)) (grad x0 i j) := by
  unfold k0_pay5 k0_pay4 grad
  rw [← Update.sum_eight]
  have h (k : Fin 8) := Update.part_apply (n := 8) (T := 32) (C := 1024) (e := .bf16) x0 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (h 6 _ rfl _ _ i j)) (h 7 _ rfl _ _ i j)

theorem out4_apply : @Eq EReal (out0_4 (F := Ideal) x0 x1 x2 x3 (ix2 i j)) (grad x0 i j) := by
  unfold out0_4
  rw [View.canon_unit_zero zero2]
  exact pay5_apply x0 x1 x2 x3 i j

theorem out6_apply : @Eq EReal (out0_6 (F := Ideal) x0 x1 x2 x3 (ix2 i j)) (Update.first (grad x0 i j) (x2 (ix2 i j))) := by
  unfold out0_6
  rw [View.canon_unit_zero zero2, View.ld_unit_zero (S := S32x1024) zero2, ← pay5_apply x0 x1 x2 x3 i j]
  rfl

theorem out7_apply : @Eq EReal (out0_7 (F := Ideal) x0 x1 x2 x3 (ix2 i j)) (Update.second (grad x0 i j) (x3 (ix2 i j))) := by
  unfold out0_7
  rw [View.canon_unit_zero zero2, View.ld_unit_zero (S := S32x1024) zero2, ← pay5_apply x0 x1 x2 x3 i j]
  rfl

theorem out5_apply : @Eq EReal (out0_5 (F := Ideal) x0 x1 x2 x3 (ix2 i j))
    (Update.change (grad x0 i j) (x1 (ix2 i j)) (x2 (ix2 i j)) (x3 (ix2 i j))) := by
  unfold out0_5
  rw [View.canon_unit_zero zero2, View.ld_unit_zero (S := S32x1024) zero2, View.ld_unit_zero (S := S32x1024) zero2,
    View.ld_unit_zero (S := S32x1024) zero2, ← pay5_apply x0 x1 x2 x3 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = t.val ∧ win0_4.index t (1 : Fin 2) = 0) ∧
    (win0_5.index t (0 : Fin 2) = t.val ∧ win0_5.index t (1 : Fin 2) = 0) ∧ (win0_6.index t (0 : Fin 2) = t.val ∧ win0_6.index t (1 : Fin 2) = 0) ∧
    (win0_7.index t (0 : Fin 2) = t.val ∧ win0_7.index t (1 : Fin 2) = 0) :=
  (by decide +kernel : ∀ t : Fin grid0.N, _)

/-- Row `i` of step `t`. -/
def row (t : Fin cfg0.N) (i : Fin 32) : Fin 352 := ⟨32 * t.val + i.val, by have := t.isLt; have hN : cfg0.N = 11 := N_0; omega⟩

theorem row_cases (x : S352x1024.Idx) : ∃ (t : Fin cfg0.N) (i : Fin 32) (j : Fin 1024), x = ix2 (row t i) j := by
  have hx : (x 0).val < 352 := (x 0).isLt
  have hN : cfg0.N = 11 := N_0
  refine ⟨⟨(x 0).val / 32, by omega⟩, ⟨(x 0).val % 32, by omega⟩, x 1, funext fun a => Fin.ext ?_⟩
  match a with
  | ⟨0, _⟩ => show (x 0).val = 32 * ((x 0).val / 32) + (x 0).val % 32; omega
  | ⟨1, _⟩ => rfl

section Arrays

variable (m : (ℓ : Loc nD τ sig) → Buf (Elt Ideal) ℓ) (c : Dev nD)

/-- The arguments. -/
abbrev parts : FVec Ideal S8x352x1024 .bf16 := m (c, main_arg0)
abbrev weight : FVec Ideal S352x1024 .f32 := m (c, main_arg1)
abbrev moment1 : FVec Ideal S352x1024 .f32 := m (c, main_arg2)
abbrev moment2 : FVec Ideal S352x1024 .f32 := m (c, main_arg3)

variable (t : Fin cfg0.N) (i : Fin 32) (j : Fin 1024)

/-! ### What a step loads -/

theorem x0_apply (k : Fin 8) : @Eq EReal ((iblk m c 0 t : FVec Ideal S8x32x1024 .bf16) (ix3 k i j)) (parts m c (ix3 k (row t i) j)) := by
  obtain ⟨e0, e1, e2⟩ := (places t).1
  refine (congrArg (V m c main_arg0) (funext fun a => Fin.ext ?_)).trans (congrFun (V_main_arg0 m c) (ix3 k (row t i) j))
  match a with
  | ⟨0, _⟩ => show win0_0.index t (0 : Fin 3) * 8 + 1 * k.val = k.val; omega
  | ⟨1, _⟩ => show win0_0.index t (1 : Fin 3) * 32 + 1 * i.val = 32 * t.val + i.val; omega
  | ⟨2, _⟩ => show win0_0.index t (2 : Fin 3) * 1024 + 1 * j.val = j.val; omega

theorem x1_apply : @Eq EReal ((iblk m c 1 t : FVec Ideal S32x1024 .f32) (ix2 i j)) (weight m c (ix2 (row t i) j)) := by
  obtain ⟨e0, e1⟩ := (places t).2.1
  refine (congrArg (V m c main_arg1) (funext fun a => Fin.ext ?_)).trans (congrFun (V_main_arg1 m c) (ix2 (row t i) j))
  match a with
  | ⟨0, _⟩ => show win0_1.index t (0 : Fin 2) * 32 + 1 * i.val = 32 * t.val + i.val; omega
  | ⟨1, _⟩ => show win0_1.index t (1 : Fin 2) * 1024 + 1 * j.val = j.val; omega

theorem x2_apply : @Eq EReal ((iblk m c 2 t : FVec Ideal S32x1024 .f32) (ix2 i j)) (moment1 m c (ix2 (row t i) j)) := by
  obtain ⟨e0, e1⟩ := (places t).2.2.1
  refine (congrArg (V m c main_arg2) (funext fun a => Fin.ext ?_)).trans (congrFun (V_main_arg2 m c) (ix2 (row t i) j))
  match a with
  | ⟨0, _⟩ => show win0_2.index t (0 : Fin 2) * 32 + 1 * i.val = 32 * t.val + i.val; omega
  | ⟨1, _⟩ => show win0_2.index t (1 : Fin 2) * 1024 + 1 * j.val = j.val; omega

theorem x3_apply : @Eq EReal ((iblk m c 3 t : FVec Ideal S32x1024 .f32) (ix2 i j)) (moment2 m c (ix2 (row t i) j)) := by
  obtain ⟨e0, e1⟩ := (places t).2.2.2.1
  refine (congrArg (V m c main_arg3) (funext fun a => Fin.ext ?_)).trans (congrFun (V_main_arg3 m c) (ix2 (row t i) j))
  match a with
  | ⟨0, _⟩ => show win0_3.index t (0 : Fin 2) * 32 + 1 * i.val = 32 * t.val + i.val; omega
  | ⟨1, _⟩ => show win0_3.index t (1 : Fin 2) * 1024 + 1 * j.val = j.val; omega

/-- The gradient at a row of the whole array. -/
def total (r : Fin 352) : EReal := ∑ k : Fin 8, (parts m c (ix3 k r j) : EReal)

theorem grad_eq : @Eq EReal (grad (iblk m c 0 t) i j) (total m c j (row t i)) := Finset.sum_congr rfl fun k _ => x0_apply m c t i j k

/-! ### What a step leaves -/

/-- Two steps write different blocks. -/
theorem apart (w : Fin 8) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb4 : ((cfg0.win 4).blk t).view.emb (ix2 i j) = ix2 (row t i) j := by
  obtain ⟨e0, e1⟩ := (places t).2.2.2.2.1
  refine funext fun a => Fin.ext ?_
  match a with
  | ⟨0, _⟩ => show win0_4.index t (0 : Fin 2) * 32 + 1 * i.val = 32 * t.val + i.val; omega
  | ⟨1, _⟩ => show win0_4.index t (1 : Fin 2) * 1024 + 1 * j.val = j.val; omega

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 32 + 1 * i.val = 32 * t.val + i.val; omega
  | ⟨1, _⟩ => show win0_5.index t (1 : Fin 2) * 1024 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 32 + 1 * i.val = 32 * t.val + i.val; omega
  | ⟨1, _⟩ => show win0_6.index t (1 : Fin 2) * 1024 + 1 * j.val = j.val; omega

theorem emb7 : ((cfg0.win 7).blk t).view.emb (ix2 i j) = ix2 (row t i) j := by
  obtain ⟨e0, e1⟩ := (places t).2.2.2.2.2.2.2
  refine funext fun a => Fin.ext ?_
  match a with
  | ⟨0, _⟩ => show win0_7.index t (0 : Fin 2) * 32 + 1 * i.val = 32 * t.val + i.val; omega
  | ⟨1, _⟩ => show win0_7.index t (1 : Fin 2) * 1024 + 1 * j.val = j.val; omega

theorem left4 : @Eq EReal ((dats m 0 c).arrAt 4 cfg0.N (ix2 (row t i) j)) (total m c j (row t i)) := by
  rw [← emb4 t i j]
  have b := congrFun ((dats m 0 c).read_blk_arrAt_eq_flushed 4 (apart 4 (by decide +kernel) rfl) cfg0.N t t.isLt (flush0_4 t)) (ix2 i j)
  rw [show (dats m 0 c).flushed 4 t = (cfg0.win 4).cut (grid0.coords t) ((dats m 0 c).after 4 t) from rfl, after0_4] at b
  exact Eq.trans b ((out4_apply _ _ _ _ i j).trans (grad_eq m c t i j))

theorem left5 : @Eq EReal ((dats m 0 c).arrAt 5 cfg0.N (ix2 (row t i) j))
    (Update.change (total m c j (row t i)) (weight m c (ix2 (row t i) j)) (moment1 m c (ix2 (row t i) j)) (moment2 m c (ix2 (row t i) j))) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  refine Eq.trans b ((out5_apply _ _ _ _ i j).trans ?_)
  rw [grad_eq, x1_apply, x2_apply, x3_apply, emb5]

theorem left6 : @Eq EReal ((dats m 0 c).arrAt 6 cfg0.N (ix2 (row t i) j))
    (Update.first (total m c j (row t i)) (moment1 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ i j).trans ?_)
  rw [grad_eq, x2_apply, emb6]

theorem left7 : @Eq EReal ((dats m 0 c).arrAt 7 cfg0.N (ix2 (row t i) j))
    (Update.second (total m c j (row t i)) (moment2 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ i j).trans ?_)
  rw [grad_eq, x3_apply, emb7]

end Arrays

/-! ### The reference's lines -/

section Lines

variable (p : FVec Ideal S8x352x1024 .bf16) (w a b : FVec Ideal S352x1024 .f32) (x : S352x1024.Idx)

theorem v8_at : @Eq EReal (val_main_v8 (F := Ideal) p a x) (Update.first (val_main_v3 (F := Ideal) p x) (a x)) := by
  rw [val_main_v8_apply, val_main_v5_apply, val_main_v7_apply, val_main_v4_apply, val_main_v6_apply]
  rfl

theorem v14_at : @Eq EReal (val_main_v14 (F := Ideal) p b x) (Update.second (val_main_v3 (F := Ideal) p x) (b x)) := by
  rw [val_main_v14_apply, val_main_v10_apply, val_main_v13_apply, val_main_v9_apply, val_main_v12_apply, val_main_v11_apply]
  rfl

theorem v27_at : @Eq EReal (val_main_v27 (F := Ideal) p w a b x) (Update.change (val_main_v3 (F := Ideal) p x) (w x) (a x) (b x)) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, v8_at, v14_at]
  rfl

theorem v3_at (r : Fin 352) (j : Fin 1024) : @Eq EReal (val_main_v3 (F := Ideal) p (ix2 r j)) (∑ k : Fin 8, (p (ix3 k r j) : EReal)) := by
  rw [val_main_v3_apply, val_main_v2_apply, val_main_v1_apply]
  have z : (val_main_cst (F := Ideal)) (Shape.Idx.first AdamFfnOutReferenceIdeal.Gen.h_S_) = (0 : EReal) := Ideal.ofBits_zero_f32
  refine (congrArg₂ (fun x y : EReal => x + y) (Ideal.ofBits_zero_f32) (congrArg (fun y : EReal => y + _) z)).trans ?_
  rw [zero_add, zero_add]
  refine Finset.sum_congr rfl fun k _ => congrArg p (funext fun a => ?_)
  match a with
  | ⟨0, _⟩ => rfl
  | ⟨1, _⟩ => rfl
  | ⟨2, _⟩ => rfl

end Lines

/-! ### The results -/

section Results

variable (m : (ℓ : Loc nD τ sig) → Buf (Elt Ideal) ℓ) (c : Dev nD)

theorem result4 : (dats m 0 c).arrAt 4 cfg0.N = val_main_v3 (F := Ideal) (m (c, main_arg0)) := by
  funext x
  obtain ⟨t, i, j, rfl⟩ := row_cases x
  exact (left4 m c t i j).trans (v3_at (parts m c) (row t i) j).symm

theorem result5 : (dats m 0 c).arrAt 5 cfg0.N = val_main_v27 (F := Ideal) (m (c, main_arg0)) (m (c, main_arg1)) (m (c, main_arg2)) (m (c, main_arg3)) := by
  funext x
  obtain ⟨t, i, j, rfl⟩ := row_cases x
  refine (left5 m c t i j).trans (Eq.trans ?_ (v27_at (parts m c) (weight m c) (moment1 m c) (moment2 m c) _).symm)
  rw [v3_at]
  rfl

theorem result6 : (dats m 0 c).arrAt 6 cfg0.N = val_main_v8 (F := Ideal) (m (c, main_arg0)) (m (c, main_arg2)) := by
  funext x
  obtain ⟨t, i, j, rfl⟩ := row_cases x
  refine (left6 m c t i j).trans (Eq.trans ?_ (v8_at (parts m c) (moment1 m c) _).symm)
  rw [v3_at]
  rfl

theorem result7 : (dats m 0 c).arrAt 7 cfg0.N = val_main_v14 (F := Ideal) (m (c, main_arg0)) (m (c, main_arg3)) := by
  funext x
  obtain ⟨t, i, j, rfl⟩ := row_cases x
  refine (left7 m c t i j).trans (Eq.trans ?_ (v14_at (parts m c) (moment2 m c) _).symm)
  rw [v3_at]
  rfl

end Results

/-! ### The two runs -/

/-- The reference leaves its arguments and counters alone. -/
theorem quiescent_reference : quiescent_AdamFfnOutReferenceIdeal (hAdamFfnOutReferenceIdeal := AdamFfnOutReferenceIdeal.Gen.facts) := fun m g _ =>
  (θ_run AdamFfnOutReferenceIdeal.defs _ _).mono (fun r h => ⟨fun c => (h c).2.2.2.2, sem_eq_zero_of_no_sems (by decide) r.2⟩)
    (AdamFfnOutReferenceIdeal.Value.run (F := Ideal) m g)

/-- The kernel's results are the reference's. -/
theorem algebraic : algebraic_AdamFfnOutIdeal_AdamFfnOutReferenceIdeal (hAdamFfnOutIdeal := Gen.facts)
    (hAdamFfnOutReferenceIdeal := AdamFfnOutReferenceIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, (θ_run defs _ _).mono (fun _ h c => ⟨(h.2 c).1 4, (h.2 c).1 5, (h.2 c).1 6, (h.2 c).1 7, h.1 c⟩)
      (θ_run_and (unchanged m g) (run_main m g)), ?_⟩
  refine (θ_run AdamFfnOutReferenceIdeal.defs _ _).mono (fun r h c => ?_) (AdamFfnOutReferenceIdeal.Value.run (F := Ideal) m' g')
  obtain ⟨a0, a1, a2, a3⟩ := hagree c
  refine ⟨(h c).1.trans ((val_main_v3_eq _).trans ?_), (h c).2.1.trans ((val_main_v27_eq _ _ _ _).trans ?_), (h c).2.2.1.trans ((val_main_v8_eq _ _).trans ?_),
    (h c).2.2.2.1.trans ((val_main_v14_eq _ _).trans ?_), (h c).2.2.2.2⟩
  · exact (congrArg (val_main_v3 (F := Ideal)) a0).trans (result4 m c).symm
  · exact (congr (congr (congr (congrArg (val_main_v27 (F := Ideal)) a0) a1) a2) a3).trans (result5 m c).symm
  · exact (congr (congrArg (val_main_v8 (F := Ideal)) a0) a2).trans (result6 m c).symm
  · exact (congr (congrArg (val_main_v14 (F := Ideal)) a0) a3).trans (result7 m c).symm

end Cert.AdamFfnOutIdeal.Product

end
-- ==== Proof.FfnInUpdate.lean ====
/- The update of the shard of the feed-forward block's first matrix: as `SquareUpdate`, with 704 columns; the parts of the gradient have 64 columns of padding. -/
module

public import proofs.«01_k».proof.Defs
public import proofs.«01_k».proof.Proof.Update
public import proofs.«01_k».proof.Proof.Gen.AdamFfnInIdeal.Frame
public import proofs.«01_k».proof.Proof.Gen.AdamFfnInReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamFfnInIdeal.Product

open Cert.AdamFfnInIdeal Cert.AdamFfnInIdeal.Gen Idealize.ShloMosaic.TcCoe Idealize.SL.Sem
open Idealize.ShloMosaic hiding ix2 ix3
open Idealize.ShloMosaic.ValueIdx (ix2 ix3)
open Cert.AdamFfnInReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S8x256x704 .bf16) (x1 x2 x3 : FVec Ideal S256x704 .f32) (i : Fin 256) (j : Fin 704)

/-- The gradient: the sum of the parts. -/
def grad : EReal := ∑ k : Fin 8, (x0 (ix3 k i j) : EReal)

theorem pay5_apply : @Eq EReal (k0_pay5 (F := Ideal) x0 x1 x2 x3 (ix2 i j)) (grad x0 i j) := by
  unfold k0_pay5 k0_pay4 grad
  rw [← Update.sum_eight]
  have h (k : Fin 8) := Update.part_apply (n := 8) (T := 256) (C := 704) (e := .bf16) x0 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (h 6 _ rfl _ _ i j)) (h 7 _ rfl _ _ i j)

theorem out4_apply : @Eq EReal (out0_4 (F := Ideal) x0 x1 x2 x3 (ix2 i j)) (grad x0 i j) := by
  unfold out0_4
  rw [View.canon_unit_zero zero2]
  exact pay5_apply x0 x1 x2 x3 i j

theorem out6_apply : @Eq EReal (out0_6 (F := Ideal) x0 x1 x2 x3 (ix2 i j)) (Update.first (grad x0 i j) (x2 (ix2 i j))) := by
  unfold out0_6
  rw [View.canon_unit_zero zero2, View.ld_unit_zero (S := S256x704) zero2, ← pay5_apply x0 x1 x2 x3 i j]
  rfl

theorem out7_apply : @Eq EReal (out0_7 (F := Ideal) x0 x1 x2 x3 (ix2 i j)) (Update.second (grad x0 i j) (x3 (ix2 i j))) := by
  unfold out0_7
  rw [View.canon_unit_zero zero2, View.ld_unit_zero (S := S256x704) zero2, ← pay5_apply x0 x1 x2 x3 i j]
  rfl

theorem out5_apply : @Eq EReal (out0_5 (F := Ideal) x0 x1 x2 x3 (ix2 i j))
    (Update.change (grad x0 i j) (x1 (ix2 i j)) (x2 (ix2 i j)) (x3 (ix2 i j))) := by
  unfold out0_5
  rw [View.canon_unit_zero zero2, View.ld_unit_zero (S := S256x704) zero2, View.ld_unit_zero (S := S256x704) zero2,
    View.ld_unit_zero (S := S256x704) zero2, ← pay5_apply x0 x1 x2 x3 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 2) = t.val ∧ win0_1.index t (1 : Fin 2) = 0) ∧ (win0_2.index t (0 : Fin 2) = t.val ∧ win0_2.index t (1 : Fin 2) = 0) ∧
    (win0_3.index t (0 : Fin 2) = t.val ∧ win0_3.index t (1 : Fin 2) = 0) ∧ (win0_4.index t (0 : Fin 2) = t.val ∧ win0_4.index t (1 : Fin 2) = 0) ∧
    (win0_5.index t (0 : Fin 2) = t.val ∧ win0_5.index t (1 : Fin 2) = 0) ∧ (win0_6.index t (0 : Fin 2) = t.val ∧ win0_6.index t (1 : Fin 2) = 0) ∧
    (win0_7.index t (0 : Fin 2) = t.val ∧ win0_7.index t (1 : Fin 2) = 0) :=
  (by decide +kernel : ∀ t : Fin grid0.N, _)

/-- Row `i` of step `t`. -/
def row (t : Fin cfg0.N) (i : Fin 256) : Fin 1024 := ⟨256 * t.val + i.val, by have := t.isLt; have hN : cfg0.N = 4 := N_0; omega⟩

theorem row_cases (x : S1024x704.Idx) : ∃ (t : Fin cfg0.N) (i : Fin 256) (j : Fin 704), x = ix2 (row t i) j := by
  have hx : (x 0).val < 1024 := (x 0).isLt
  have hN : cfg0.N = 4 := N_0
  refine ⟨⟨(x 0).val / 256, by omega⟩, ⟨(x 0).val % 256, by omega⟩, x 1, funext fun a => Fin.ext ?_⟩
  match a with
  | ⟨0, _⟩ => show (x 0).val = 256 * ((x 0).val / 256) + (x 0).val % 256; omega
  | ⟨1, _⟩ => rfl

section Arrays

variable (m : (ℓ : Loc nD τ sig) → Buf (Elt Ideal) ℓ) (c : Dev nD)

/-- The arguments. -/
abbrev parts : FVec Ideal S8x1024x768 .bf16 := m (c, main_arg0)

abbrev weight : FVec Ideal S1024x704 .f32 := m (c, main_arg1)
abbrev moment1 : FVec Ideal S1024x704 .f32 := m (c, main_arg2)
abbrev moment2 : FVec Ideal S1024x704 .f32 := m (c, main_arg3)

variable (t : Fin cfg0.N) (i : Fin 256) (j : Fin 704)

/-! ### What a step loads -/

/-- A column of the matrix among the columns of a part. -/
def wide (j : Fin 704) : Fin 768 := ⟨j.val, by omega⟩

/-- The parts as the grid finds them: the padding is cut off. -/
theorem entry : V m c main_v0 = (val_main_v0 (F := Ideal) (m (c, main_arg0)) : FVec Ideal S8x1024x704 .bf16) := by
  unfold V
  simp only [hostOps0, List.flatten_cons, List.flatten_nil, List.append_nil, List.cons_append, List.nil_append]
  after_results
  rfl

theorem cut_apply (p : FVec Ideal S8x1024x768 .bf16) (k : Fin 8) (r : Fin 1024) (j : Fin 704) :
    @Eq EReal (val_main_v0 (F := Ideal) p (ix3 k r j)) (p (ix3 k r (wide j))) := by
  rw [val_main_v0_apply]
  refine congrArg p (funext fun a => ?_)
  match a with
  | ⟨0, _⟩ => rfl
  | ⟨1, _⟩ => rfl
  | ⟨2, _⟩ => rfl

theorem x0_apply (k : Fin 8) : @Eq EReal ((iblk m c 0 t : FVec Ideal S8x256x704 .bf16) (ix3 k i j)) (parts m c (ix3 k (row t i) (wide j))) := by
  obtain ⟨e0, e1, e2⟩ := (places t).1
  refine (congrArg (V m c main_v0) (funext fun a => Fin.ext ?_)).trans ((congrFun (entry m c) (ix3 k (row t i) j)).trans (cut_apply (parts m c) k (row t i) j))
  match a with
  | ⟨0, _⟩ => show win0_0.index t (0 : Fin 3) * 8 + 1 * k.val = k.val; omega
  | ⟨1, _⟩ => show win0_0.index t (1 : Fin 3) * 256 + 1 * i.val = 256 * t.val + i.val; omega
  | ⟨2, _⟩ => show win0_0.index t (2 : Fin 3) * 704 + 1 * j.val = j.val; omega

theorem x1_apply : @Eq EReal ((iblk m c 1 t : FVec Ideal S256x704 .f32) (ix2 i j)) (weight m c (ix2 (row t i) j)) := by
  obtain ⟨e0, e1⟩ := (places t).2.1
  refine (congrArg (V m c main_arg1) (funext fun a => Fin.ext ?_)).trans (congrFun (V_main_arg1 m c) (ix2 (row t i) j))
  match a with
  | ⟨0, _⟩ => show win0_1.index t (0 : Fin 2) * 256 + 1 * i.val = 256 * t.val + i.val; omega
  | ⟨1, _⟩ => show win0_1.index t (1 : Fin 2) * 704 + 1 * j.val = j.val; omega

theorem x2_apply : @Eq EReal ((iblk m c 2 t : FVec Ideal S256x704 .f32) (ix2 i j)) (moment1 m c (ix2 (row t i) j)) := by
  obtain ⟨e0, e1⟩ := (places t).2.2.1
  refine (congrArg (V m c main_arg2) (funext fun a => Fin.ext ?_)).trans (congrFun (V_main_arg2 m c) (ix2 (row t i) j))
  match a with
  | ⟨0, _⟩ => show win0_2.index t (0 : Fin 2) * 256 + 1 * i.val = 256 * t.val + i.val; omega
  | ⟨1, _⟩ => show win0_2.index t (1 : Fin 2) * 704 + 1 * j.val = j.val; omega

theorem x3_apply : @Eq EReal ((iblk m c 3 t : FVec Ideal S256x704 .f32) (ix2 i j)) (moment2 m c (ix2 (row t i) j)) := by
  obtain ⟨e0, e1⟩ := (places t).2.2.2.1
  refine (congrArg (V m c main_arg3) (funext fun a => Fin.ext ?_)).trans (congrFun (V_main_arg3 m c) (ix2 (row t i) j))
  match a with
  | ⟨0, _⟩ => show win0_3.index t (0 : Fin 2) * 256 + 1 * i.val = 256 * t.val + i.val; omega
  | ⟨1, _⟩ => show win0_3.index t (1 : Fin 2) * 704 + 1 * j.val = j.val; omega

/-- The gradient at a row of the whole array. -/
def total (r : Fin 1024) : EReal := ∑ k : Fin 8, (parts m c (ix3 k r (wide j)) : EReal)

theorem grad_eq : @Eq EReal (grad (iblk m c 0 t) i j) (total m c j (row t i)) := Finset.sum_congr rfl fun k _ => x0_apply m c t i j k

/-! ### What a step leaves -/

/-- Two steps write different blocks. -/
theorem apart (w : Fin 8) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb4 : ((cfg0.win 4).blk t).view.emb (ix2 i j) = ix2 (row t i) j := by
  obtain ⟨e0, e1⟩ := (places t).2.2.2.2.1
  refine funext fun a => Fin.ext ?_
  match a with
  | ⟨0, _⟩ => show win0_4.index t (0 : Fin 2) * 256 + 1 * i.val = 256 * t.val + i.val; omega
  | ⟨1, _⟩ => show win0_4.index t (1 : Fin 2) * 704 + 1 * j.val = j.val; omega

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 256 + 1 * i.val = 256 * t.val + i.val; omega
  | ⟨1, _⟩ => show win0_5.index t (1 : Fin 2) * 704 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 256 + 1 * i.val = 256 * t.val + i.val; omega
  | ⟨1, _⟩ => show win0_6.index t (1 : Fin 2) * 704 + 1 * j.val = j.val; omega

theorem emb7 : ((cfg0.win 7).blk t).view.emb (ix2 i j) = ix2 (row t i) j := by
  obtain ⟨e0, e1⟩ := (places t).2.2.2.2.2.2.2
  refine funext fun a => Fin.ext ?_
  match a with
  | ⟨0, _⟩ => show win0_7.index t (0 : Fin 2) * 256 + 1 * i.val = 256 * t.val + i.val; omega
  | ⟨1, _⟩ => show win0_7.index t (1 : Fin 2) * 704 + 1 * j.val = j.val; omega

theorem left4 : @Eq EReal ((dats m 0 c).arrAt 4 cfg0.N (ix2 (row t i) j)) (total m c j (row t i)) := by
  rw [← emb4 t i j]
  have b := congrFun ((dats m 0 c).read_blk_arrAt_eq_flushed 4 (apart 4 (by decide +kernel) rfl) cfg0.N t t.isLt (flush0_4 t)) (ix2 i j)
  rw [show (dats m 0 c).flushed 4 t = (cfg0.win 4).cut (grid0.coords t) ((dats m 0 c).after 4 t) from rfl, after0_4] at b
  exact Eq.trans b ((out4_apply _ _ _ _ i j).trans (grad_eq m c t i j))

theorem left5 : @Eq EReal ((dats m 0 c).arrAt 5 cfg0.N (ix2 (row t i) j))
    (Update.change (total m c j (row t i)) (weight m c (ix2 (row t i) j)) (moment1 m c (ix2 (row t i) j)) (moment2 m c (ix2 (row t i) j))) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  refine Eq.trans b ((out5_apply _ _ _ _ i j).trans ?_)
  rw [grad_eq, x1_apply, x2_apply, x3_apply, emb5]

theorem left6 : @Eq EReal ((dats m 0 c).arrAt 6 cfg0.N (ix2 (row t i) j))
    (Update.first (total m c j (row t i)) (moment1 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ i j).trans ?_)
  rw [grad_eq, x2_apply, emb6]

theorem left7 : @Eq EReal ((dats m 0 c).arrAt 7 cfg0.N (ix2 (row t i) j))
    (Update.second (total m c j (row t i)) (moment2 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ i j).trans ?_)
  rw [grad_eq, x3_apply, emb7]

end Arrays

/-! ### The reference's lines -/

section Lines

variable (p : FVec Ideal S8x1024x768 .bf16) (w a b : FVec Ideal S1024x704 .f32) (x : S1024x704.Idx)

theorem v9_at : @Eq EReal (val_main_v9 (F := Ideal) p a x) (Update.first (val_main_v4 (F := Ideal) p x) (a x)) := by
  rw [val_main_v9_apply, val_main_v6_apply, val_main_v8_apply, val_main_v5_apply, val_main_v7_apply]
  rfl

theorem v15_at : @Eq EReal (val_main_v15 (F := Ideal) p b x) (Update.second (val_main_v4 (F := Ideal) p x) (b x)) := by
  rw [val_main_v15_apply, val_main_v11_apply, val_main_v14_apply, val_main_v10_apply, val_main_v13_apply, val_main_v12_apply]
  rfl

theorem v28_at : @Eq EReal (val_main_v28 (F := Ideal) p w a b x) (Update.change (val_main_v4 (F := Ideal) p x) (w x) (a x) (b x)) := by
  rw [val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, v9_at, v15_at]
  rfl

theorem v4_at (r : Fin 1024) (j : Fin 704) : @Eq EReal (val_main_v4 (F := Ideal) p (ix2 r j)) (∑ k : Fin 8, (p (ix3 k r (wide j)) : EReal)) := by
  rw [val_main_v4_apply, val_main_v3_apply, val_main_v2_apply]
  have z : (val_main_cst (F := Ideal)) (Shape.Idx.first AdamFfnInReferenceIdeal.Gen.h_S_) = (0 : EReal) := Ideal.ofBits_zero_f32
  refine (congrArg₂ (fun x y : EReal => x + y) (Ideal.ofBits_zero_f32) (congrArg (fun y : EReal => y + _) z)).trans ?_
  rw [zero_add, zero_add]
  refine Finset.sum_congr rfl fun k _ => ?_
  rw [val_main_v1_apply]
  refine (congrArg (val_main_v0 (F := Ideal) p) (funext fun a => ?_)).trans (cut_apply p k r j)
  match a with
  | ⟨0, _⟩ => rfl
  | ⟨1, _⟩ => rfl
  | ⟨2, _⟩ => rfl

end Lines

/-! ### The results -/

section Results

variable (m : (ℓ : Loc nD τ sig) → Buf (Elt Ideal) ℓ) (c : Dev nD)

theorem result4 : (dats m 0 c).arrAt 4 cfg0.N = val_main_v4 (F := Ideal) (m (c, main_arg0)) := by
  funext x
  obtain ⟨t, i, j, rfl⟩ := row_cases x
  exact (left4 m c t i j).trans (v4_at (parts m c) (row t i) j).symm

theorem result5 : (dats m 0 c).arrAt 5 cfg0.N = val_main_v28 (F := Ideal) (m (c, main_arg0)) (m (c, main_arg1)) (m (c, main_arg2)) (m (c, main_arg3)) := by
  funext x
  obtain ⟨t, i, j, rfl⟩ := row_cases x
  refine (left5 m c t i j).trans (Eq.trans ?_ (v28_at (parts m c) (weight m c) (moment1 m c) (moment2 m c) _).symm)
  rw [v4_at]
  rfl

theorem result6 : (dats m 0 c).arrAt 6 cfg0.N = val_main_v9 (F := Ideal) (m (c, main_arg0)) (m (c, main_arg2)) := by
  funext x
  obtain ⟨t, i, j, rfl⟩ := row_cases x
  refine (left6 m c t i j).trans (Eq.trans ?_ (v9_at (parts m c) (moment1 m c) _).symm)
  rw [v4_at]
  rfl

theorem result7 : (dats m 0 c).arrAt 7 cfg0.N = val_main_v15 (F := Ideal) (m (c, main_arg0)) (m (c, main_arg3)) := by
  funext x
  obtain ⟨t, i, j, rfl⟩ := row_cases x
  refine (left7 m c t i j).trans (Eq.trans ?_ (v15_at (parts m c) (moment2 m c) _).symm)
  rw [v4_at]
  rfl

end Results

/-! ### The two runs -/

/-- The reference leaves its arguments and counters alone. -/
theorem quiescent_reference : quiescent_AdamFfnInReferenceIdeal (hAdamFfnInReferenceIdeal := AdamFfnInReferenceIdeal.Gen.facts) := fun m g _ =>
  (θ_run AdamFfnInReferenceIdeal.defs _ _).mono (fun r h => ⟨fun c => (h c).2.2.2.2, sem_eq_zero_of_no_sems (by decide) r.2⟩)
    (AdamFfnInReferenceIdeal.Value.run (F := Ideal) m g)

/-- The kernel's results are the reference's. -/
theorem algebraic : algebraic_AdamFfnInIdeal_AdamFfnInReferenceIdeal (hAdamFfnInIdeal := Gen.facts)
    (hAdamFfnInReferenceIdeal := AdamFfnInReferenceIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, (θ_run defs _ _).mono (fun _ h c => ⟨(h.2 c).1 4, (h.2 c).1 5, (h.2 c).1 6, (h.2 c).1 7, h.1 c⟩)
      (θ_run_and (unchanged m g) (run_main m g)), ?_⟩
  refine (θ_run AdamFfnInReferenceIdeal.defs _ _).mono (fun r h c => ?_) (AdamFfnInReferenceIdeal.Value.run (F := Ideal) m' g')
  obtain ⟨a0, a1, a2, a3⟩ := hagree c
  refine ⟨(h c).1.trans ((val_main_v4_eq _).trans ?_), (h c).2.1.trans ((val_main_v28_eq _ _ _ _).trans ?_), (h c).2.2.1.trans ((val_main_v9_eq _ _).trans ?_),
    (h c).2.2.2.1.trans ((val_main_v15_eq _ _).trans ?_), (h c).2.2.2.2⟩
  · exact (congrArg (val_main_v4 (F := Ideal)) a0).trans (result4 m c).symm
  · exact (congr (congr (congr (congrArg (val_main_v28 (F := Ideal)) a0) a1) a2) a3).trans (result5 m c).symm
  · exact (congr (congrArg (val_main_v9 (F := Ideal)) a0) a2).trans (result6 m c).symm
  · exact (congr (congrArg (val_main_v15 (F := Ideal)) a0) a3).trans (result7 m c).symm

end Cert.AdamFfnInIdeal.Product

end
-- ==== Proof.InUpdate.lean ====
/- The update of the input projection's shard: as `SquareUpdate`, with 1024 rows in four steps and the parts of the gradient in two arrays, six and two. -/
module

public import proofs.«01_k».proof.Defs
public import proofs.«01_k».proof.Proof.Update
public import proofs.«01_k».proof.Proof.Gen.AdamInIdeal.Frame
public import proofs.«01_k».proof.Proof.Gen.AdamInReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.AdamInIdeal.Product

open Cert.AdamInIdeal Cert.AdamInIdeal.Gen Idealize.ShloMosaic.TcCoe Idealize.SL.Sem
open Idealize.ShloMosaic hiding ix2 ix3
open Idealize.ShloMosaic.ValueIdx (ix2 ix3)
open Cert.AdamInReferenceIdeal.Read

theorem zero2 : (![0, 0] : Fin 2 → ℕ) = fun _ => 0 := funext fun a => match a with
  | ⟨0, _⟩ => rfl
  | ⟨1, _⟩ => rfl

/-! ### One step -/

section Step

variable (x0 : FVec Ideal S6x256x1024 .bf16) (x1 : FVec Ideal S2x256x1024 .bf16) (x2 x3 x4 : FVec Ideal S256x1024 .f32) (i : Fin 256) (j : Fin 1024)

/-- The gradient: the sum of the six parts of the one exchange and the two of the other. -/
def grad : EReal := (∑ k : Fin 6, (x0 (ix3 k i j) : EReal)) + ∑ k : Fin 2, (x1 (ix3 k i j) : EReal)

theorem pay5_apply : @Eq EReal (k0_pay5 (F := Ideal) x0 x1 x2 x3 x4 (ix2 i j)) (grad x0 x1 i j) := by
  unfold k0_pay5 k0_pay4 grad
  rw [← Update.sum_six_two]
  have h (k : Fin 6) := Update.part_apply (n := 6) (T := 256) (C := 1024) (e := .bf16) x0 k
  have f (k : Fin 2) := Update.part_apply (n := 2) (T := 256) (C := 1024) (e := .bf16) x1 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (f 0 _ rfl _ _ i j)) (f 1 _ rfl _ _ i j)

theorem out5_apply : @Eq EReal (out0_5 (F := Ideal) x0 x1 x2 x3 x4 (ix2 i j)) (grad x0 x1 i j) := by
  unfold out0_5
  rw [View.canon_unit_zero zero2]
  exact pay5_apply x0 x1 x2 x3 x4 i j

theorem out7_apply : @Eq EReal (out0_7 (F := Ideal) x0 x1 x2 x3 x4 (ix2 i j)) (Update.first (grad x0 x1 i j) (x3 (ix2 i j))) := by
  unfold out0_7
  rw [View.canon_unit_zero zero2, View.ld_unit_zero (S := S256x1024) zero2, ← pay5_apply x0 x1 x2 x3 x4 i j]
  rfl

theorem out8_apply : @Eq EReal (out0_8 (F := Ideal) x0 x1 x2 x3 x4 (ix2 i j)) (Update.second (grad x0 x1 i j) (x4 (ix2 i j))) := by
  unfold out0_8
  rw [View.canon_unit_zero zero2, View.ld_unit_zero (S := S256x1024) zero2, ← pay5_apply x0 x1 x2 x3 x4 i j]
  rfl

theorem out6_apply : @Eq EReal (out0_6 (F := Ideal) x0 x1 x2 x3 x4 (ix2 i j))
    (Update.change (grad x0 x1 i j) (x2 (ix2 i j)) (x3 (ix2 i j)) (x4 (ix2 i j))) := by
  unfold out0_6
  rw [View.canon_unit_zero zero2, View.ld_unit_zero (S := S256x1024) zero2, View.ld_unit_zero (S := S256x1024) zero2,
    View.ld_unit_zero (S := S256x1024) zero2, ← pay5_apply x0 x1 x2 x3 x4 i j]
  rfl

end Step

/-! ### The places of the steps' blocks -/

theorem places : ∀ t : Fin cfg0.N, (win0_0.index t (0 : Fin 3) = 0 ∧ win0_0.index t (1 : Fin 3) = t.val ∧ win0_0.index t (2 : Fin 3) = 0) ∧
    (win0_1.index t (0 : Fin 3) = 0 ∧ win0_1.index t (1 : Fin 3) = t.val ∧ win0_1.index t (2 : Fin 3) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) ∧
    (win0_8.index t (0 : Fin 2) = t.val ∧ win0_8.index t (1 : Fin 2) = 0) :=
  (by decide +kernel : ∀ t : Fin grid0.N, _)

/-- Row `i` of step `t`. -/
def row (t : Fin cfg0.N) (i : Fin 256) : Fin 1024 := ⟨256 * t.val + i.val, by have := t.isLt; have hN : cfg0.N = 4 := N_0; omega⟩

theorem row_cases (x : S1024x1024.Idx) : ∃ (t : Fin cfg0.N) (i : Fin 256) (j : Fin 1024), x = ix2 (row t i) j := by
  have hx : (x 0).val < 1024 := (x 0).isLt
  have hN : cfg0.N = 4 := N_0
  refine ⟨⟨(x 0).val / 256, by omega⟩, ⟨(x 0).val % 256, by omega⟩, x 1, funext fun a => Fin.ext ?_⟩
  match a with
  | ⟨0, _⟩ => show (x 0).val = 256 * ((x 0).val / 256) + (x 0).val % 256; omega
  | ⟨1, _⟩ => rfl

section Arrays

variable (m : (ℓ : Loc nD τ sig) → Buf (Elt Ideal) ℓ) (c : Dev nD)

/-- The arguments. -/
abbrev parts : FVec Ideal S6x1024x1024 .bf16 := m (c, main_arg0)
abbrev far : FVec Ideal S2x1024x1024 .bf16 := m (c, main_arg4)
abbrev weight : FVec Ideal S1024x1024 .f32 := m (c, main_arg1)
abbrev moment1 : FVec Ideal S1024x1024 .f32 := m (c, main_arg2)
abbrev moment2 : FVec Ideal S1024x1024 .f32 := m (c, main_arg3)

variable (t : Fin cfg0.N) (i : Fin 256) (j : Fin 1024)

/-! ### What a step loads -/

theorem x0_apply (k : Fin 6) : @Eq EReal ((iblk m c 0 t : FVec Ideal S6x256x1024 .bf16) (ix3 k i j)) (parts m c (ix3 k (row t i) j)) := by
  obtain ⟨e0, e1, e2⟩ := (places t).1
  refine (congrArg (V m c main_arg0) (funext fun a => Fin.ext ?_)).trans (congrFun (V_main_arg0 m c) (ix3 k (row t i) j))
  match a with
  | ⟨0, _⟩ => show win0_0.index t (0 : Fin 3) * 6 + 1 * k.val = k.val; omega
  | ⟨1, _⟩ => show win0_0.index t (1 : Fin 3) * 256 + 1 * i.val = 256 * t.val + i.val; omega
  | ⟨2, _⟩ => show win0_0.index t (2 : Fin 3) * 1024 + 1 * j.val = j.val; omega

theorem x1_apply (k : Fin 2) : @Eq EReal ((iblk m c 1 t : FVec Ideal S2x256x1024 .bf16) (ix3 k i j)) (far m c (ix3 k (row t i) j)) := by
  obtain ⟨e0, e1, e2⟩ := (places t).2.1
  refine (congrArg (V m c main_arg4) (funext fun a => Fin.ext ?_)).trans (congrFun (V_main_arg4 m c) (ix3 k (row t i) j))
  match a with
  | ⟨0, _⟩ => show win0_1.index t (0 : Fin 3) * 2 + 1 * k.val = k.val; omega
  | ⟨1, _⟩ => show win0_1.index t (1 : Fin 3) * 256 + 1 * i.val = 256 * t.val + i.val; omega
  | ⟨2, _⟩ => show win0_1.index t (2 : Fin 3) * 1024 + 1 * j.val = j.val; omega

theorem x2_apply : @Eq EReal ((iblk m c 2 t : FVec Ideal S256x1024 .f32) (ix2 i j)) (weight m c (ix2 (row t i) j)) := by
  obtain ⟨e0, e1⟩ := (places t).2.2.1
  refine (congrArg (V m c main_arg1) (funext fun a => Fin.ext ?_)).trans (congrFun (V_main_arg1 m c) (ix2 (row t i) j))
  match a with
  | ⟨0, _⟩ => show win0_2.index t (0 : Fin 2) * 256 + 1 * i.val = 256 * t.val + i.val; omega
  | ⟨1, _⟩ => show win0_2.index t (1 : Fin 2) * 1024 + 1 * j.val = j.val; omega

theorem x3_apply : @Eq EReal ((iblk m c 3 t : FVec Ideal S256x1024 .f32) (ix2 i j)) (moment1 m c (ix2 (row t i) j)) := by
  obtain ⟨e0, e1⟩ := (places t).2.2.2.1
  refine (congrArg (V m c main_arg2) (funext fun a => Fin.ext ?_)).trans (congrFun (V_main_arg2 m c) (ix2 (row t i) j))
  match a with
  | ⟨0, _⟩ => show win0_3.index t (0 : Fin 2) * 256 + 1 * i.val = 256 * t.val + i.val; omega
  | ⟨1, _⟩ => show win0_3.index t (1 : Fin 2) * 1024 + 1 * j.val = j.val; omega

theorem x4_apply : @Eq EReal ((iblk m c 4 t : FVec Ideal S256x1024 .f32) (ix2 i j)) (moment2 m c (ix2 (row t i) j)) := by
  obtain ⟨e0, e1⟩ := (places t).2.2.2.2.1
  refine (congrArg (V m c main_arg3) (funext fun a => Fin.ext ?_)).trans (congrFun (V_main_arg3 m c) (ix2 (row t i) j))
  match a with
  | ⟨0, _⟩ => show win0_4.index t (0 : Fin 2) * 256 + 1 * i.val = 256 * t.val + i.val; omega
  | ⟨1, _⟩ => show win0_4.index t (1 : Fin 2) * 1024 + 1 * j.val = j.val; omega

/-- The gradient at a row of the whole array. -/
def total (r : Fin 1024) : EReal := (∑ k : Fin 6, (parts m c (ix3 k r j) : EReal)) + ∑ k : Fin 2, (far m c (ix3 k r j) : EReal)

theorem grad_eq : @Eq EReal (grad (iblk m c 0 t) (iblk m c 1 t) i j) (total m c j (row t i)) :=
  congrArg₂ (fun x y : EReal => x + y) (Finset.sum_congr rfl fun k _ => x0_apply m c t i j k) (Finset.sum_congr rfl fun k _ => x1_apply m c t i j k)

/-! ### What a step leaves -/

/-- Two steps write different blocks. -/
theorem apart (w : Fin 9) (hw : ∀ t t' : Fin grid0.N, (cfg0.win w).index t = (cfg0.win w).index t' → t = t') (hk : (cfg0.win w).kind = .blocked)
    (t t' : Fin cfg0.N)
    (_ : (cfg0.win w).flush t = true) (_ : (cfg0.win w).flush t' = true) (hne : t ≠ t') :
    Disjoint ((cfg0.win w).blk t).view.set ((cfg0.win w).blk t').view.set :=
  (cfg0.win w).disjoint_blk (hk := hk) fun h => hne (hw t t' h)

theorem emb5 : ((cfg0.win 5).blk t).view.emb (ix2 i j) = ix2 (row t i) j := by
  obtain ⟨e0, e1⟩ := (places t).2.2.2.2.2.1
  refine funext fun a => Fin.ext ?_
  match a with
  | ⟨0, _⟩ => show win0_5.index t (0 : Fin 2) * 256 + 1 * i.val = 256 * t.val + i.val; omega
  | ⟨1, _⟩ => show win0_5.index t (1 : Fin 2) * 1024 + 1 * j.val = j.val; omega

theorem emb6 : ((cfg0.win 6).blk t).view.emb (ix2 i j) = ix2 (row t i) j := by
  obtain ⟨e0, e1⟩ := (places t).2.2.2.2.2.2.1
  refine funext fun a => Fin.ext ?_
  match a with
  | ⟨0, _⟩ => show win0_6.index t (0 : Fin 2) * 256 + 1 * i.val = 256 * t.val + i.val; omega
  | ⟨1, _⟩ => show win0_6.index t (1 : Fin 2) * 1024 + 1 * j.val = j.val; omega

theorem emb7 : ((cfg0.win 7).blk t).view.emb (ix2 i j) = ix2 (row t i) j := by
  obtain ⟨e0, e1⟩ := (places t).2.2.2.2.2.2.2.1
  refine funext fun a => Fin.ext ?_
  match a with
  | ⟨0, _⟩ => show win0_7.index t (0 : Fin 2) * 256 + 1 * i.val = 256 * t.val + i.val; omega
  | ⟨1, _⟩ => show win0_7.index t (1 : Fin 2) * 1024 + 1 * j.val = j.val; omega

theorem emb8 : ((cfg0.win 8).blk t).view.emb (ix2 i j) = ix2 (row t i) j := by
  obtain ⟨e0, e1⟩ := (places t).2.2.2.2.2.2.2.2
  refine funext fun a => Fin.ext ?_
  match a with
  | ⟨0, _⟩ => show win0_8.index t (0 : Fin 2) * 256 + 1 * i.val = 256 * t.val + i.val; omega
  | ⟨1, _⟩ => show win0_8.index t (1 : Fin 2) * 1024 + 1 * j.val = j.val; omega

theorem left5 : @Eq EReal ((dats m 0 c).arrAt 5 cfg0.N (ix2 (row t i) j)) (total m c j (row t i)) := by
  rw [← emb5 t i j]
  have b := congrFun ((dats m 0 c).read_blk_arrAt_eq_flushed 5 (apart 5 (by decide +kernel) rfl) cfg0.N t t.isLt (flush0_5 t)) (ix2 i j)
  rw [show (dats m 0 c).flushed 5 t = (cfg0.win 5).cut (grid0.coords t) ((dats m 0 c).after 5 t) from rfl, after0_5] at b
  exact Eq.trans b ((out5_apply _ _ _ _ _ i j).trans (grad_eq m c t i j))

theorem left6 : @Eq EReal ((dats m 0 c).arrAt 6 cfg0.N (ix2 (row t i) j))
    (Update.change (total m c j (row t i)) (weight m c (ix2 (row t i) j)) (moment1 m c (ix2 (row t i) j)) (moment2 m c (ix2 (row t i) j))) := by
  rw [← emb6 t i j]
  have b := congrFun ((dats m 0 c).read_blk_arrAt_eq_flushed 6 (apart 6 (by decide +kernel) rfl) cfg0.N t t.isLt (flush0_6 t)) (ix2 i j)
  rw [show (dats m 0 c).flushed 6 t = (cfg0.win 6).cut (grid0.coords t) ((dats m 0 c).after 6 t) from rfl, after0_6] at b
  refine Eq.trans b ((out6_apply _ _ _ _ _ i j).trans ?_)
  rw [grad_eq, x2_apply, x3_apply, x4_apply, emb6]

theorem left7 : @Eq EReal ((dats m 0 c).arrAt 7 cfg0.N (ix2 (row t i) j))
    (Update.first (total m c j (row t i)) (moment1 m c (ix2 (row t i) j))) := by
  rw [← emb7 t i j]
  have b := congrFun ((dats m 0 c).read_blk_arrAt_eq_flushed 7 (apart 7 (by decide +kernel) rfl) cfg0.N t t.isLt (flush0_7 t)) (ix2 i j)
  rw [show (dats m 0 c).flushed 7 t = (cfg0.win 7).cut (grid0.coords t) ((dats m 0 c).after 7 t) from rfl, after0_7] at b
  refine Eq.trans b ((out7_apply _ _ _ _ _ i j).trans ?_)
  rw [grad_eq, x3_apply, emb7]

theorem left8 : @Eq EReal ((dats m 0 c).arrAt 8 cfg0.N (ix2 (row t i) j))
    (Update.second (total m c j (row t i)) (moment2 m c (ix2 (row t i) j))) := by
  rw [← emb8 t i j]
  have b := congrFun ((dats m 0 c).read_blk_arrAt_eq_flushed 8 (apart 8 (by decide +kernel) rfl) cfg0.N t t.isLt (flush0_8 t)) (ix2 i j)
  rw [show (dats m 0 c).flushed 8 t = (cfg0.win 8).cut (grid0.coords t) ((dats m 0 c).after 8 t) from rfl, after0_8] at b
  refine Eq.trans b ((out8_apply _ _ _ _ _ i j).trans ?_)
  rw [grad_eq, x4_apply, emb8]

end Arrays

/-! ### The reference's lines -/

section Lines

variable (p : FVec Ideal S6x1024x1024 .bf16) (w a b : FVec Ideal S1024x1024 .f32) (f : FVec Ideal S2x1024x1024 .bf16) (x : S1024x1024.Idx)

theorem v11_at : @Eq EReal (val_main_v11 (F := Ideal) p a f x) (Update.first (val_main_v6 (F := Ideal) p f x) (a x)) := by
  rw [val_main_v11_apply, val_main_v8_apply, val_main_v10_apply, val_main_v7_apply, val_main_v9_apply]
  rfl

theorem v17_at : @Eq EReal (val_main_v17 (F := Ideal) p b f x) (Update.second (val_main_v6 (F := Ideal) p f x) (b x)) := by
  rw [val_main_v17_apply, val_main_v13_apply, val_main_v16_apply, val_main_v12_apply, val_main_v15_apply, val_main_v14_apply]
  rfl

theorem v30_at : @Eq EReal (val_main_v30 (F := Ideal) p w a b f x) (Update.change (val_main_v6 (F := Ideal) p f x) (w x) (a x) (b x)) := by
  rw [val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, v11_at, v17_at]
  rfl

theorem v6_at (r j : Fin 1024) : @Eq EReal (val_main_v6 (F := Ideal) p f (ix2 r j))
    ((∑ k : Fin 6, (p (ix3 k r j) : EReal)) + ∑ k : Fin 2, (f (ix3 k r j) : EReal)) := by
  rw [val_main_v6_apply, val_main_v3_apply, val_main_v2_apply, val_main_v1_apply, val_main_v5_apply]
  have z : (val_main_cst (F := Ideal)) (Shape.Idx.first AdamInReferenceIdeal.Gen.h_S_) = (0 : EReal) := Ideal.ofBits_zero_f32
  have z' : (val_main_cst_1 (F := Ideal)) (Shape.Idx.first AdamInReferenceIdeal.Gen.h_S_) = (0 : EReal) := Ideal.ofBits_zero_f32
  refine congrArg₂ (fun x y : EReal => x + y) ?_ ?_
  · refine (congrArg₂ (fun x y : EReal => x + y) (Ideal.ofBits_zero_f32) (congrArg (fun y : EReal => y + _) z)).trans ?_
    rw [zero_add, zero_add]
    refine Finset.sum_congr rfl fun k _ => congrArg p (funext fun a => ?_)
    match a with
    | ⟨0, _⟩ => rfl
    | ⟨1, _⟩ => rfl
    | ⟨2, _⟩ => rfl
  · refine (congrArg (fun y : EReal => y + _) z').trans ?_
    rw [zero_add]
    refine Finset.sum_congr rfl fun k _ => congrArg f (funext fun a => ?_)
    match a with
    | ⟨0, _⟩ => rfl
    | ⟨1, _⟩ => rfl
    | ⟨2, _⟩ => rfl

end Lines

/-! ### The results -/

section Results

variable (m : (ℓ : Loc nD τ sig) → Buf (Elt Ideal) ℓ) (c : Dev nD)

theorem result5 : (dats m 0 c).arrAt 5 cfg0.N = val_main_v6 (F := Ideal) (m (c, main_arg0)) (m (c, main_arg4)) := by
  funext x
  obtain ⟨t, i, j, rfl⟩ := row_cases x
  exact (left5 m c t i j).trans (v6_at (parts m c) (far m c) (row t i) j).symm

theorem result6 : (dats m 0 c).arrAt 6 cfg0.N = val_main_v30 (F := Ideal) (m (c, main_arg0)) (m (c, main_arg1)) (m (c, main_arg2)) (m (c, main_arg3)) (m (c, main_arg4)) := by
  funext x
  obtain ⟨t, i, j, rfl⟩ := row_cases x
  refine (left6 m c t i j).trans (Eq.trans ?_ (v30_at (parts m c) (weight m c) (moment1 m c) (moment2 m c) (far m c) _).symm)
  rw [v6_at]
  rfl

theorem result7 : (dats m 0 c).arrAt 7 cfg0.N = val_main_v11 (F := Ideal) (m (c, main_arg0)) (m (c, main_arg2)) (m (c, main_arg4)) := by
  funext x
  obtain ⟨t, i, j, rfl⟩ := row_cases x
  refine (left7 m c t i j).trans (Eq.trans ?_ (v11_at (parts m c) (moment1 m c) (far m c) _).symm)
  rw [v6_at]
  rfl

theorem result8 : (dats m 0 c).arrAt 8 cfg0.N = val_main_v17 (F := Ideal) (m (c, main_arg0)) (m (c, main_arg3)) (m (c, main_arg4)) := by
  funext x
  obtain ⟨t, i, j, rfl⟩ := row_cases x
  refine (left8 m c t i j).trans (Eq.trans ?_ (v17_at (parts m c) (moment2 m c) (far m c) _).symm)
  rw [v6_at]
  rfl

end Results

/-! ### The two runs -/

/-- The reference leaves its arguments and counters alone. -/
theorem quiescent_reference : quiescent_AdamInReferenceIdeal (hAdamInReferenceIdeal := AdamInReferenceIdeal.Gen.facts) := fun m g _ =>
  (θ_run AdamInReferenceIdeal.defs _ _).mono (fun r h => ⟨fun c => (h c).2.2.2.2, sem_eq_zero_of_no_sems (by decide) r.2⟩)
    (AdamInReferenceIdeal.Value.run (F := Ideal) m g)

/-- The kernel's results are the reference's. -/
theorem algebraic : algebraic_AdamInIdeal_AdamInReferenceIdeal (hAdamInIdeal := Gen.facts)
    (hAdamInReferenceIdeal := AdamInReferenceIdeal.Gen.facts) := by
  intro m g m' g' _ hagree
  refine ⟨fun c => (dats m 0 c).arrAt 5 cfg0.N, fun c => (dats m 0 c).arrAt 6 cfg0.N, fun c => (dats m 0 c).arrAt 7 cfg0.N,
    fun c => (dats m 0 c).arrAt 8 cfg0.N, (θ_run defs _ _).mono (fun _ h c => ⟨(h.2 c).1 5, (h.2 c).1 6, (h.2 c).1 7, (h.2 c).1 8, h.1 c⟩)
      (θ_run_and (unchanged m g) (run_main m g)), ?_⟩
  refine (θ_run AdamInReferenceIdeal.defs _ _).mono (fun r h c => ?_) (AdamInReferenceIdeal.Value.run (F := Ideal) m' g')
  obtain ⟨a0, a1, a2, a3, a4⟩ := hagree c
  refine ⟨(h c).1.trans ((val_main_v6_eq _ _).trans ?_), (h c).2.1.trans ((val_main_v30_eq _ _ _ _ _).trans ?_), (h c).2.2.1.trans ((val_main_v11_eq _ _ _).trans ?_),
    (h c).2.2.2.1.trans ((val_main_v17_eq _ _ _).trans ?_), (h c).2.2.2.2⟩
  · exact (congr (congrArg (val_main_v6 (F := Ideal)) a0) a4).trans (result5 m c).symm
  · exact (congr (congr (congr (congr (congrArg (val_main_v30 (F := Ideal)) a0) a1) a2) a3) a4).trans (result6 m c).symm
  · exact (congr (congr (congrArg (val_main_v11 (F := Ideal)) a0) a2) a4).trans (result7 m c).symm
  · exact (congr (congr (congrArg (val_main_v17 (F := Ideal)) a0) a3) a4).trans (result8 m c).symm

end Cert.AdamInIdeal.Product

end
-- ==== Proof.TotalLoss.lean ====
/- The sum of the devices' packs, and the loss: the kernel sums the packs first and then the columns of the squared errors' row;
   the reference sums each device's columns, takes half their mean, and sums over the devices. -/
module

public import proofs.«01_k».proof.Defs
public import proofs.«01_k».proof.Proof.Update
public import proofs.«01_k».proof.Proof.FwdTerms
public import proofs.«01_k».proof.Proof.Gen.LossIdeal.Frame
public import proofs.«01_k».proof.Proof.Gen.LossReferenceIdeal.Read
public import Idealize.ShloMosaic.Adequacy
public import Idealize.ShloMosaic.Init
public import Idealize.ShloMosaic.Lib.Pipeline.Value
public import Idealize.ShloMosaic.Lib.Pipeline.ValueKit.Geometry

@[expose] public section

set_option maxRecDepth 16384

noncomputable section

namespace Cert.LossIdeal.Product

open Cert.LossIdeal Cert.LossIdeal.Gen Idealize.ShloMosaic.TcCoe Idealize.SL.Sem
open Idealize.ShloMosaic hiding ix2 ix3
open Idealize.ShloMosaic.ValueIdx (ix2 ix3)
open Cert.LossReferenceIdeal.Read

theorem zero2 : (![0, 0] : Fin 2 → ℕ) = fun _ => 0 := funext fun a => match a with
  | ⟨0, _⟩ => rfl
  | ⟨1, _⟩ => rfl

/-! ### The sum of the packs -/

theorem out_apply (x0 : FVec Ideal S8x48x1024 .f32) (i : Fin 48) (j : Fin 1024) :
    @Eq EReal (out0_1 (F := Ideal) x0 (ix2 i j)) (∑ k : Fin 8, (x0 (ix3 k i j) : EReal)) := by
  unfold out0_1
  rw [View.canon_unit_zero zero2]
  unfold k0_pay1
  rw [← Update.sum_eight]
  have h (k : Fin 8) := Update.part_apply (n := 8) (T := 48) (C := 1024) (e := .f32) x0 k
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (h 0 _ rfl _ _ i j) (h 1 _ rfl _ _ i j)) (h 2 _ rfl _ _ i j)) (h 3 _ rfl _ _ i j)) (h 4 _ rfl _ _ i j)) (h 5 _ rfl _ _ i j)) (h 6 _ rfl _ _ i j)) (h 7 _ rfl _ _ i j)

/-- The indices of a row are its places. -/
def places1 (n : ℕ) : Fin n ≃ (⟨1, ![n]⟩ : Shape).Idx where
  toFun k := fun a => match a with
    | ⟨0, _⟩ => k
  invFun i := i 0
  left_inv _ := rfl
  right_inv i := funext fun a => match a with
    | ⟨0, _⟩ => rfl

section Reference

variable (p : FVec Ideal S8x48x1024 .f32)

theorem sum_at (r : Fin 48) (j : Fin 1024) : @Eq EReal (val_main_v8 (F := Ideal) p (ix2 r j)) (∑ k : Fin 8, (p (ix3 k r j) : EReal)) := by
  rw [val_main_v8_apply]
  have z : (val_main_cst_3 (F := Ideal)) (Shape.Idx.first LossReferenceIdeal.Gen.h_S_) = (0 : EReal) := Ideal.ofBits_zero_f32
  refine (congrArg (fun y : EReal => y + _) z).trans ?_
  rw [zero_add]
  refine Finset.sum_congr rfl fun k _ => congrArg p (funext fun a => ?_)
  match a with
  | ⟨0, _⟩ => rfl
  | ⟨1, _⟩ => rfl
  | ⟨2, _⟩ => rfl

/-- One device's loss: half the mean of its columns' sums. -/
theorem device_at (k : Fin 8) : @Eq EReal (val_main_v6 (F := Ideal) p (places1 8 k))
    (((1 / 2048 : ℝ) : EReal) * ∑ j : Fin 1024, (p (ix3 k 24 j) : EReal)) := by
  rw [val_main_v6_apply, val_main_v5_apply, val_main_v4_apply, val_main_v3_apply, val_main_v2_apply]
  have z : (val_main_cst (F := Ideal)) (Shape.Idx.first LossReferenceIdeal.Gen.h_S_) = (0 : EReal) := Ideal.ofBits_zero_f32
  have e : (∑ j : Fin 1024, (val_main_v1 (F := Ideal) p (idx_main_v2 (places1 8 k) j) : EReal)) = ∑ j : Fin 1024, (p (ix3 k 24 j) : EReal) :=
    Finset.sum_congr rfl fun j _ => by
      rw [val_main_v1_apply, val_main_v0_apply]
      refine congrArg p (funext fun a => Fin.ext ?_)
      have hk := k.isLt
      have hj := j.isLt
      match a with
      | ⟨0, _⟩ => show (k.val * 1024 + j.val) / 1024 = k.val; omega
      | ⟨1, _⟩ => rfl
      | ⟨2, _⟩ => show (k.val * 1024 + j.val) % 1024 = j.val; omega
  show Ideal.ofBits .f32 0x3F000000#32 * Ideal.div (_ + _) (Ideal.ofBits .f32 0x44800000#32) = _
  rw [z, zero_add, Retention.bits_half, Ffn.bits_1024, Ideal.div_coe (by norm_num)]
  refine (congrArg (fun y : EReal => ((1 / 2 : ℝ) : EReal) * (y * ((1 / 1024 : ℝ) : EReal))) e).trans ?_
  show ((1 / 2 : ℝ) : EReal) * ((∑ j : Fin 1024, (p (ix3 k 24 j) : EReal)) * ((1 / 1024 : ℝ) : EReal)) = _
  rw [mul_comm (∑ j : Fin 1024, (p (ix3 k 24 j) : EReal)), ← mul_assoc, ← EReal.coe_mul]
  norm_num

theorem loss_at (x : S_.Idx) : @Eq EReal (val_main_v7 (F := Ideal) p x)
    (((1 / 2048 : ℝ) : EReal) * ∑ j : Fin 1024, (val_main_v8 (F := Ideal) p (ix2 24 j) : EReal)) := by
  rw [val_main_v7_apply]
  have z : (val_main_cst_2 (F := Ideal)) (Shape.Idx.first LossReferenceIdeal.Gen.h_S_) = (0 : EReal) := Ideal.ofBits_zero_f32
  refine (congrArg (fun y : EReal => y + _) z).trans ?_
  rw [zero_add]
  refine ((places1 8).sum_comp (fun i : (⟨1, ![8]⟩ : Shape).Idx => (val_main_v6 (F := Ideal) p i : EReal))).symm.trans ?_
  refine (Finset.sum_congr rfl fun k _ => device_at p k).trans ?_
  rw [← Fwd.mul_sum (by norm_num), Finset.sum_comm]
  exact congrArg _ (Finset.sum_congr rfl fun j _ => (sum_at p 24 j).symm)

end Reference

/-! ### The results -/

section Results

variable (m : (ℓ : Loc nD τ sig) → Buf (Elt Ideal) ℓ) (c : Dev nD)

theorem one_step (t t' : Fin cfg0.N) : t = t' := by
  have hN : cfg0.N = 1 := N_0
  exact Fin.ext (by have := t.isLt; have := t'.isLt; omega)

def only : Fin cfg0.N := ⟨0, by have hN : cfg0.N = 1 := N_0; omega⟩

/-- The one block is the whole array. -/
theorem block_apply (i : Fin 48) (j : Fin 1024) (k : Fin 8) :
    @Eq EReal ((iblk m c 0 only : FVec Ideal S8x48x1024 .f32) (ix3 k i j)) ((m (c, main_arg0) : FVec Ideal S8x48x1024 .f32) (ix3 k i j)) := by
  refine congrArg (m (c, main_arg0)) (funext fun a => Fin.ext ?_)
  match a with
  | ⟨0, _⟩ => show 0 * 8 + 1 * k.val = k.val; omega
  | ⟨1, _⟩ => show 0 * 48 + 1 * i.val = i.val; omega
  | ⟨2, _⟩ => show 0 * 1024 + 1 * j.val = j.val; omega

theorem emb1 (i : Fin 48) (j : Fin 1024) : ((cfg0.win 1).blk only).view.emb (ix2 i j) = ix2 i j := by
  refine funext fun a => Fin.ext ?_
  match a with
  | ⟨0, _⟩ => show 0 * 48 + 1 * i.val = i.val; omega
  | ⟨1, _⟩ => show 0 * 1024 + 1 * j.val = j.val; omega

theorem sum_left : (dats m 0 c).arrAt 1 cfg0.N = val_main_v8 (F := Ideal) (m (c, main_arg0)) := by
  funext x
  obtain ⟨i, j, rfl⟩ : ∃ (i : Fin 48) (j : Fin 1024), x = ix2 i j := ⟨x 0, x 1, funext fun a => match a with
    | ⟨0, _⟩ => rfl
    | ⟨1, _⟩ => rfl⟩
  have b := congrFun ((dats m 0 c).read_blk_arrAt_eq_flushed 1 (fun t t' _ _ hne => absurd (one_step t t') hne) cfg0.N only only.isLt (flush0_1 only)) (ix2 i j)
  rw [show (dats m 0 c).flushed 1 only = (cfg0.win 1).cut (grid0.coords only) ((dats m 0 c).after 1 only) from rfl, after0_1] at b
  refine (congrArg ((dats m 0 c).arrAt 1 cfg0.N) (emb1 i j).symm).trans (Eq.trans b ((out_apply _ i j).trans ?_))
  exact (Finset.sum_congr rfl fun k _ => block_apply m c i j k).trans (sum_at (m (c, main_arg0)) i j).symm

/-- The kernel's lines from the sum of the packs to the loss. -/
def lossOf (s : FVec Ideal S48x1024 .f32) : FVec Ideal S_ .f32 :=
  mulf (constant S_ .f32 0x3A000000#32)
    (Host.reduceAdd (shapeCast S1024 (extractStridedSlice S1x1024 ![24, 0] s slices_S48x1024_S1x1024_24_0) shapeCasts_S1x1024_S1024)
      (constant S_ .f32 0x00000000#32) reducesTo_S1024_S_d0 h_S_)

theorem bits_2048 : Ideal.ofBits .f32 0x3A000000#32 = ((1 / 2048 : ℝ) : EReal) :=
  Retention.bits_pos _ 116 0 _ (by decide) (by decide) (by decide) (by decide) (by decide) (by norm_num)

theorem lossOf_at (s : FVec Ideal S48x1024 .f32) (x : S_.Idx) :
    @Eq EReal (lossOf s x) (((1 / 2048 : ℝ) : EReal) * ∑ j : Fin 1024, (s (ix2 24 j) : EReal)) := by
  unfold lossOf
  generalize hy : shapeCast S1024 (extractStridedSlice S1x1024 ![24, 0] s slices_S48x1024_S1x1024_24_0) shapeCasts_S1x1024_S1024 = y
  have e : Host.reduceAdd y (constant (F := Ideal) S_ .f32 0x00000000#32) reducesTo_S1024_S_d0 h_S_ x = (0 : EReal) + ∑ i : S1024.Idx, (y i : EReal) := by
    simp only [Host.reduceAdd, Ideal.hostReduceAdd_def]
    refine (Ideal.hostReduceAdd_total reducesTo_S1024_S_d0 (fun b => b.elim0) y _ x).trans (congrArg (fun z : EReal => z + _) Ideal.ofBits_zero_f32)
  refine (congrArg₂ (fun a b : EReal => a * b) bits_2048 e).trans ?_
  rw [zero_add]
  refine congrArg _ (((places1 1024).sum_comp (fun i : (⟨1, ![1024]⟩ : Shape).Idx => (y i : EReal))).symm.trans (Finset.sum_congr rfl fun j _ => ?_))
  subst hy
  refine (shapeCast_apply _ shapeCasts_S1x1024_S1024 _ (ix2 (0 : Fin 1) j) ?_).trans ?_
  · rw [Shape.rowMajor_val_two, Shape.rowMajor_val_one]
    show 0 * 1024 + j.val = j.val
    omega
  · exact extractStridedSlice_apply ![24, 0] s slices_S48x1024_S1x1024_24_0 (ix2 (0 : Fin 1) j) (ix2 24 j) (fun a => match a with
      | ⟨0, _⟩ => rfl
      | ⟨1, _⟩ => (Nat.zero_add _).symm)

/-- The lines that follow the sum find it. -/
theorem left_array :
    Pipeline.withArrays spec0 c (V0 m c) (fun w => (dats m 0 c).arrAt w cfg0.N) (Proc.devRef .tc (Pipeline.arrRef spec0 1)) = (dats m 0 c).arrAt 1 cfg0.N :=
  Pipeline.withArrays_arr spec0 (by decide) c (V0 m c) (fun w => (dats m 0 c).arrAt w cfg0.N) 1

theorem loss_end : Pipeline.afterTail₀ cfgs (dats m) 0 (V0 m) [hostOps1] c main_v4 = val_main_v7 (F := Ideal) (m (c, main_arg0)) := by
  have e := (left_array m c).trans (sum_left m c)
  have h : Pipeline.afterTail₀ cfgs (dats m) 0 (V0 m) [hostOps1] c main_v4 = lossOf (val_main_v8 (F := Ideal) (m (c, main_arg0))) := by
    unfold Pipeline.afterTail₀
    simp only [hostOps1, List.flatten_cons, List.flatten_nil, List.append_nil, List.cons_append, List.nil_append]
    after_results
    rw [← e]
    try rfl
  rw [h]
  exact funext fun x => (lossOf_at _ x).trans (loss_at (m (c, main_arg0)) x).symm

end Results

/-! ### The two runs -/

/-- The reference leaves its arguments and counters alone. -/
theorem quiescent_reference : quiescent_LossReferenceIdeal (hLossReferenceIdeal := LossReferenceIdeal.Gen.facts) := fun m g _ =>
  (θ_run LossReferenceIdeal.defs _ _).mono (fun r h => ⟨fun c => (h c).2.2, sem_eq_zero_of_no_sems (by decide) r.2⟩)
    (LossReferenceIdeal.Value.run (F := Ideal) m g)

/-- The kernel's results are the reference's. -/
theorem algebraic : algebraic_LossIdeal_LossReferenceIdeal (hLossIdeal := Gen.facts)
    (hLossReferenceIdeal := LossReferenceIdeal.Gen.facts) := by
  intro m g m' g' _ hagree
  refine ⟨fun c => val_main_v7 (F := Ideal) (m (c, main_arg0)), fun c => val_main_v8 (F := Ideal) (m (c, main_arg0)),
    (θ_run defs _ _).mono (fun r h c => ⟨((h.2 c).2 main_v4 (Pipeline.mem_restRefs_of main_v4 (by decide) (by decide))).trans (loss_end m c),
      ((h.2 c).1 1).trans (sum_left m c), h.1 c⟩) (θ_run_and (unchanged m g) (run_main m g)),
    (θ_run LossReferenceIdeal.defs _ _).mono (fun r h c => ⟨(h c).1.trans ((val_main_v7_eq _).trans (congrArg (val_main_v7 (F := Ideal)) (hagree c))),
      (h c).2.1.trans ((val_main_v8_eq _).trans (congrArg (val_main_v8 (F := Ideal)) (hagree c))), (h c).2.2⟩)
      (LossReferenceIdeal.Value.run (F := Ideal) m' g')⟩

end Cert.LossIdeal.Product

end
-- ==== Proof.lean ====
module

public import proofs.«01_k».proof.Defs
public import proofs.«01_k».proof.Proof.Gen.Kernel.Frame
public import proofs.«01_k».proof.Proof.Gen.KernelIdeal.Frame
public import proofs.«01_k».proof.Proof.Final
public import proofs.«01_k».proof.Proof.Gen.WOut.Frame
public import proofs.«01_k».proof.Proof.Gen.WBranch.Frame
public import proofs.«01_k».proof.Proof.Gen.WFfnOut.Frame
public import proofs.«01_k».proof.Proof.Gen.WFfnIn.Frame
public import proofs.«01_k».proof.Proof.Gen.Ffn.Frame
public import proofs.«01_k».proof.Proof.Gen.Mix.Frame
public import proofs.«01_k».proof.Proof.Gen.FfnFwd.Frame
public import proofs.«01_k».proof.Proof.Gen.Adam.Frame
public import proofs.«01_k».proof.Proof.Gen.AdamSmall.Frame
public import proofs.«01_k».proof.Proof.Gen.AdamLru.Frame
public import proofs.«01_k».proof.Proof.Gen.AdamFfnOut.Frame
public import proofs.«01_k».proof.Proof.Gen.AdamFfnIn.Frame
public import proofs.«01_k».proof.Proof.Gen.AdamIn.Frame
public import proofs.«01_k».proof.Proof.Gen.Loss.Frame
public import proofs.«01_k».proof.Proof.OutGrad
public import proofs.«01_k».proof.Proof.BranchGrad
public import proofs.«01_k».proof.Proof.FfnOutGrad
public import proofs.«01_k».proof.Proof.FfnInGrad
public import proofs.«01_k».proof.Proof.FfnBackward
public import proofs.«01_k».proof.Proof.MixBackward
public import proofs.«01_k».proof.Proof.FfnForward
public import proofs.«01_k».proof.Proof.SquareUpdate
public import proofs.«01_k».proof.Proof.SmallUpdate
public import proofs.«01_k».proof.Proof.LruUpdate
public import proofs.«01_k».proof.Proof.FfnOutUpdate
public import proofs.«01_k».proof.Proof.FfnInUpdate
public import proofs.«01_k».proof.Proof.InUpdate
public import proofs.«01_k».proof.Proof.TotalLoss
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, and ends with the array that its lines compute. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v198)
          = Cert.ReferenceIdeal.Read.val_main_v198 (F := Ideal) (m (c, Cert.ReferenceIdeal.main_arg0)) (m (c, Cert.ReferenceIdeal.main_arg1))
              (m (c, Cert.ReferenceIdeal.main_arg2))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2) :=
  (θ_run Cert.ReferenceIdeal.defs _ _).mono
    (fun _ h c => ⟨(h c).1.trans (Cert.ReferenceIdeal.Read.val_main_v198_eq (StableHlo.launchContents m c)), (h c).2⟩)
    (Cert.ReferenceIdeal.Value.run (F := Ideal) m g)

/-- The reference's run, with every counter at zero: it has host operations only. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) ∧ r.2.sem = fun _ => 0) := by
  exact (θ_run Cert.ReferenceIdeal.defs _ _).mono (fun r h => ⟨fun c => (h c).2, sem_eq_zero_of_no_sems (by decide) r.2⟩) (run_reference m g)

/-- The kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ⟨(h c).1.trans ?_, (h c).2⟩) (run_reference m' g')
  obtain ⟨h0, h1⟩ := Cert.Pre_finite.real_of_finite (hpre c)
  have e := Cert.KernelIdeal.Step.final_eq m c (A := fun t b => (m (c, Cert.KernelIdeal.main_arg0) (ValueIdx.ix2 t b)).toReal)
    (B := fun t b => (m (c, Cert.KernelIdeal.main_arg1) (ValueIdx.ix2 t b)).toReal) (fun i => by
      obtain ⟨t, b, rfl⟩ : ∃ (t : Fin 8320) (b : Fin 8192), i = ValueIdx.ix2 t b := ⟨i 0, i 1, funext fun a => match a with
        | ⟨0, _⟩ => rfl
        | ⟨1, _⟩ => rfl⟩
      exact h0 _) (fun i => by
      obtain ⟨t, b, rfl⟩ : ∃ (t : Fin 8320) (b : Fin 1024), i = ValueIdx.ix2 t b := ⟨i 0, i 1, funext fun a => match a with
        | ⟨0, _⟩ => rfl
        | ⟨1, _⟩ => rfl⟩
      exact h1 _)
  refine Eq.trans ?_ e.symm
  obtain ⟨a0, a1, a2⟩ := hagree c
  exact congr (congr (congrArg (Cert.ReferenceIdeal.Read.val_main_v198 (F := Ideal)) a0) a1) a2

theorem claim : Cert.Claim :=
  ⟨Cert.Kernel.Gen.facts, Cert.KernelIdeal.Gen.facts, Cert.ReferenceIdeal.Gen.facts, Cert.WOut.Gen.facts, Cert.WOutIdeal.Gen.facts,
    Cert.WOutReferenceIdeal.Gen.facts, Cert.WBranch.Gen.facts, Cert.WBranchIdeal.Gen.facts, Cert.WBranchReferenceIdeal.Gen.facts,
    Cert.WFfnOut.Gen.facts, Cert.WFfnOutIdeal.Gen.facts, Cert.WFfnOutReferenceIdeal.Gen.facts, Cert.WFfnIn.Gen.facts,
    Cert.WFfnInIdeal.Gen.facts, Cert.WFfnInReferenceIdeal.Gen.facts, Cert.Ffn.Gen.facts, Cert.FfnIdeal.Gen.facts,
    Cert.FfnReferenceIdeal.Gen.facts, Cert.Mix.Gen.facts, Cert.MixIdeal.Gen.facts, Cert.MixReferenceIdeal.Gen.facts, Cert.FfnFwd.Gen.facts,
    Cert.FfnFwdIdeal.Gen.facts, Cert.FfnFwdReferenceIdeal.Gen.facts, Cert.Adam.Gen.facts, Cert.AdamIdeal.Gen.facts,
    Cert.AdamReferenceIdeal.Gen.facts, Cert.AdamSmall.Gen.facts, Cert.AdamSmallIdeal.Gen.facts, Cert.AdamSmallReferenceIdeal.Gen.facts,
    Cert.AdamLru.Gen.facts, Cert.AdamLruIdeal.Gen.facts, Cert.AdamLruReferenceIdeal.Gen.facts, Cert.AdamFfnOut.Gen.facts,
    Cert.AdamFfnOutIdeal.Gen.facts, Cert.AdamFfnOutReferenceIdeal.Gen.facts, Cert.AdamFfnIn.Gen.facts, Cert.AdamFfnInIdeal.Gen.facts,
    Cert.AdamFfnInReferenceIdeal.Gen.facts, Cert.AdamIn.Gen.facts, Cert.AdamInIdeal.Gen.facts, Cert.AdamInReferenceIdeal.Gen.facts,
    Cert.Loss.Gen.facts, Cert.LossIdeal.Gen.facts, Cert.LossReferenceIdeal.Gen.facts, Cert.Pre_finite.facts, Cert.Pre_finite_ffn.facts,
    fun m g _ => Cert.Kernel.Gen.frame m g, fun m g _ => Cert.KernelIdeal.Gen.frame m g, fun m g _ => Cert.KernelIdeal.Gen.frame m g,
    fun m g _ => quiescent_reference m g, fun m g _ => quiescent_reference m g, fun m g _ => Cert.WOut.Gen.frame m g,
    fun m g _ => Cert.WOutIdeal.Gen.frame m g, Cert.WOutIdeal.Product.quiescent_reference, fun m g _ => Cert.WBranch.Gen.frame m g,
    fun m g _ => Cert.WBranchIdeal.Gen.frame m g, Cert.WBranchIdeal.Product.quiescent_reference, fun m g _ => Cert.WFfnOut.Gen.frame m g,
    fun m g _ => Cert.WFfnOutIdeal.Gen.frame m g, Cert.WFfnOutIdeal.Product.quiescent_reference, fun m g _ => Cert.WFfnIn.Gen.frame m g,
    fun m g _ => Cert.WFfnInIdeal.Gen.frame m g, Cert.WFfnInIdeal.Product.quiescent_reference, fun m g _ => Cert.Ffn.Gen.frame m g,
    fun m g _ => Cert.FfnIdeal.Gen.frame m g, fun m g _ => Cert.FfnIdeal.Gen.frame m g, Cert.FfnIdeal.Product.quiescent_reference,
    fun m g _ => Cert.FfnIdeal.Product.quiescent_reference m g trivial, fun m g _ => Cert.Mix.Gen.frame m g,
    fun m g _ => Cert.MixIdeal.Gen.frame m g, Cert.MixIdeal.Product.quiescent_reference, fun m g _ => Cert.FfnFwd.Gen.frame m g,
    fun m g _ => Cert.FfnFwdIdeal.Gen.frame m g, Cert.FfnFwdIdeal.Product.quiescent_reference, fun m g _ => Cert.Adam.Gen.frame m g,
    fun m g _ => Cert.AdamIdeal.Gen.frame m g, Cert.AdamIdeal.Product.quiescent_reference, fun m g _ => Cert.AdamSmall.Gen.frame m g,
    fun m g _ => Cert.AdamSmallIdeal.Gen.frame m g, Cert.AdamSmallIdeal.Product.quiescent_reference, fun m g _ => Cert.AdamLru.Gen.frame m g,
    fun m g _ => Cert.AdamLruIdeal.Gen.frame m g, Cert.AdamLruIdeal.Product.quiescent_reference, fun m g _ => Cert.AdamFfnOut.Gen.frame m g,
    fun m g _ => Cert.AdamFfnOutIdeal.Gen.frame m g, Cert.AdamFfnOutIdeal.Product.quiescent_reference,
    fun m g _ => Cert.AdamFfnIn.Gen.frame m g, fun m g _ => Cert.AdamFfnInIdeal.Gen.frame m g,
    Cert.AdamFfnInIdeal.Product.quiescent_reference, fun m g _ => Cert.AdamIn.Gen.frame m g, fun m g _ => Cert.AdamInIdeal.Gen.frame m g,
    Cert.AdamInIdeal.Product.quiescent_reference, fun m g _ => Cert.Loss.Gen.frame m g, fun m g _ => Cert.LossIdeal.Gen.frame m g,
    Cert.LossIdeal.Product.quiescent_reference, trivial, algebraic, trivial, Cert.WOutIdeal.Product.algebraic, trivial,
    Cert.WBranchIdeal.Product.algebraic, trivial, Cert.WFfnOutIdeal.Product.algebraic, trivial, Cert.WFfnInIdeal.Product.algebraic, trivial,
    Cert.FfnIdeal.Product.algebraic, trivial, Cert.MixIdeal.Product.algebraic, trivial, Cert.FfnFwdIdeal.Product.algebraic, trivial,
    Cert.AdamIdeal.Product.algebraic, trivial, Cert.AdamSmallIdeal.Product.algebraic, trivial, Cert.AdamLruIdeal.Product.algebraic, trivial,
    Cert.AdamFfnOutIdeal.Product.algebraic, trivial, Cert.AdamFfnInIdeal.Product.algebraic, trivial, Cert.AdamInIdeal.Product.algebraic,
    trivial, Cert.LossIdeal.Product.algebraic⟩

end Cert.Proof

end
